-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decays [hPre_decays : Cert.Pre_decays.Facts] (m : (ℓ : Loc Cert.KernelIdeal.nD Cert.KernelIdeal.τ Cert.KernelIdeal.sig) → Buf (Elt Ideal) ℓ) : Prop :=
  ∀ c : Dev Cert.KernelIdeal.nD,
    (Cert.Pre_decays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decays [hPre_decays : Cert.Pre_decays.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_decays [hPre_decays : Cert.Pre_decays.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_decays.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_decays [hPre_decays : Cert.Pre_decays.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_decays.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_decays [hKernelIdeal : Cert.KernelIdeal.Facts] [hPre_decays : Cert.Pre_decays.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decays m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_decays [hReferenceIdeal : Cert.ReferenceIdeal.Facts] [hPre_decays : Cert.Pre_decays.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decays m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Kernel2Ideal_pre_decays [hKernel2Ideal : Cert.Kernel2Ideal.Facts] [hPre_decays : Cert.Pre_decays.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_decays m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Reference2Ideal_pre_decays [hReference2Ideal : Cert.Reference2Ideal.Facts] [hPre_decays : Cert.Pre_decays.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_decays m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def preserves_Kernel_KernelIdeal : Prop :=
  True

def algebraic_KernelIdeal_ReferenceIdeal_pre_decays [hKernelIdeal : Cert.KernelIdeal.Facts] [hReferenceIdeal : Cert.ReferenceIdeal.Facts] [hPre_decays : Cert.Pre_decays.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decays m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_decays [hKernel2Ideal : Cert.Kernel2Ideal.Facts] [hReference2Ideal : Cert.Reference2Ideal.Facts] [hPre_decays : Cert.Pre_decays.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_decays m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v12_4)) (v1 : (c : Dev Cert.Kernel3Ideal.nD) → Buf (Elt Ideal) ((c.tc : Thread Cert.Kernel3Ideal.nD Cert.Kernel3Ideal.τ).loc Cert.Kernel3Ideal.main_v13_0)) (v2 : (c : Dev Cert.Kernel3Ideal.nD) → Buf (Elt Ideal) ((c.tc : Thread Cert.Kernel3Ideal.nD Cert.Kernel3Ideal.τ).loc Cert.Kernel3Ideal.main_v13_1)) (v3 : (c : Dev Cert.Kernel3Ideal.nD) → Buf (Elt Ideal) ((c.tc : Thread Cert.Kernel3Ideal.nD Cert.Kernel3Ideal.τ).loc Cert.Kernel3Ideal.main_v16)) (v4 : (c : Dev Cert.Kernel3Ideal.nD) → Buf (Elt Ideal) ((c.tc : Thread Cert.Kernel3Ideal.nD Cert.Kernel3Ideal.τ).loc Cert.Kernel3Ideal.main_v18)) (v5 : (c : Dev Cert.Kernel3Ideal.nD) → Buf (Elt Ideal) ((c.tc : Thread Cert.Kernel3Ideal.nD Cert.Kernel3Ideal.τ).loc Cert.Kernel3Ideal.main_v19)) (v6 : (c : Dev Cert.Kernel3Ideal.nD) → Buf (Elt Ideal) ((c.tc : Thread Cert.Kernel3Ideal.nD Cert.Kernel3Ideal.τ).loc Cert.Kernel3Ideal.main_v20)) (v7 : (c : Dev Cert.Kernel3Ideal.nD) → Buf (Elt Ideal) ((c.tc : Thread Cert.Kernel3Ideal.nD Cert.Kernel3Ideal.τ).loc Cert.Kernel3Ideal.main_v21)) (v8 : (c : Dev Cert.Kernel3Ideal.nD) → Buf (Elt Ideal) ((c.tc : Thread Cert.Kernel3Ideal.nD Cert.Kernel3Ideal.τ).loc Cert.Kernel3Ideal.main_v14)) (v9 : (c : Dev Cert.Kernel3Ideal.nD) → Buf (Elt Ideal) ((c.tc : Thread Cert.Kernel3Ideal.nD Cert.Kernel3Ideal.τ).loc Cert.Kernel3Ideal.main_v15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12_4) = v0 c
          ∧ r.2.mem ((c.tc : Thread Cert.Kernel3Ideal.nD Cert.Kernel3Ideal.τ).loc Cert.Kernel3Ideal.main_v13_0) = v1 c
          ∧ r.2.mem ((c.tc : Thread Cert.Kernel3Ideal.nD Cert.Kernel3Ideal.τ).loc Cert.Kernel3Ideal.main_v13_1) = v2 c
          ∧ r.2.mem ((c.tc : Thread Cert.Kernel3Ideal.nD Cert.Kernel3Ideal.τ).loc Cert.Kernel3Ideal.main_v16) = v3 c
          ∧ r.2.mem ((c.tc : Thread Cert.Kernel3Ideal.nD Cert.Kernel3Ideal.τ).loc Cert.Kernel3Ideal.main_v18) = v4 c
          ∧ r.2.mem ((c.tc : Thread Cert.Kernel3Ideal.nD Cert.Kernel3Ideal.τ).loc Cert.Kernel3Ideal.main_v19) = v5 c
          ∧ r.2.mem ((c.tc : Thread Cert.Kernel3Ideal.nD Cert.Kernel3Ideal.τ).loc Cert.Kernel3Ideal.main_v20) = v6 c
          ∧ r.2.mem ((c.tc : Thread Cert.Kernel3Ideal.nD Cert.Kernel3Ideal.τ).loc Cert.Kernel3Ideal.main_v21) = v7 c
          ∧ r.2.mem ((c.tc : Thread Cert.Kernel3Ideal.nD Cert.Kernel3Ideal.τ).loc Cert.Kernel3Ideal.main_v14) = v8 c
          ∧ r.2.mem ((c.tc : Thread Cert.Kernel3Ideal.nD Cert.Kernel3Ideal.τ).loc Cert.Kernel3Ideal.main_v15) = v9 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_v89) = v1 c
          ∧ r.2.mem ((c.tc : Thread Cert.Reference3Ideal.nD Cert.Reference3Ideal.τ).loc Cert.Reference3Ideal.main_v97) = v2 c
          ∧ r.2.mem ((c.tc : Thread Cert.Reference3Ideal.nD Cert.Reference3Ideal.τ).loc Cert.Reference3Ideal.main_v96) = v3 c
          ∧ r.2.mem ((c.tc : Thread Cert.Reference3Ideal.nD Cert.Reference3Ideal.τ).loc Cert.Reference3Ideal.main_v72) = v4 c
          ∧ r.2.mem ((c.tc : Thread Cert.Reference3Ideal.nD Cert.Reference3Ideal.τ).loc Cert.Reference3Ideal.main_v67) = v5 c
          ∧ r.2.mem ((c.tc : Thread Cert.Reference3Ideal.nD Cert.Reference3Ideal.τ).loc Cert.Reference3Ideal.main_v64) = v6 c
          ∧ r.2.mem ((c.tc : Thread Cert.Reference3Ideal.nD Cert.Reference3Ideal.τ).loc Cert.Reference3Ideal.main_v52) = v7 c
          ∧ r.2.mem ((c.tc : Thread Cert.Reference3Ideal.nD Cert.Reference3Ideal.τ).loc Cert.Reference3Ideal.main_v103) = v8 c
          ∧ r.2.mem ((c.tc : Thread Cert.Reference3Ideal.nD Cert.Reference3Ideal.τ).loc Cert.Reference3Ideal.main_v109) = v9 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v11_4)) (v1 : (c : Dev Cert.Kernel4Ideal.nD) → Buf (Elt Ideal) ((c.tc : Thread Cert.Kernel4Ideal.nD Cert.Kernel4Ideal.τ).loc Cert.Kernel4Ideal.main_v12_0)) (v2 : (c : Dev Cert.Kernel4Ideal.nD) → Buf (Elt Ideal) ((c.tc : Thread Cert.Kernel4Ideal.nD Cert.Kernel4Ideal.τ).loc Cert.Kernel4Ideal.main_v12_1)) (v3 : (c : Dev Cert.Kernel4Ideal.nD) → Buf (Elt Ideal) ((c.tc : Thread Cert.Kernel4Ideal.nD Cert.Kernel4Ideal.τ).loc Cert.Kernel4Ideal.main_v15)) (v4 : (c : Dev Cert.Kernel4Ideal.nD) → Buf (Elt Ideal) ((c.tc : Thread Cert.Kernel4Ideal.nD Cert.Kernel4Ideal.τ).loc Cert.Kernel4Ideal.main_v17)) (v5 : (c : Dev Cert.Kernel4Ideal.nD) → Buf (Elt Ideal) ((c.tc : Thread Cert.Kernel4Ideal.nD Cert.Kernel4Ideal.τ).loc Cert.Kernel4Ideal.main_v18)) (v6 : (c : Dev Cert.Kernel4Ideal.nD) → Buf (Elt Ideal) ((c.tc : Thread Cert.Kernel4Ideal.nD Cert.Kernel4Ideal.τ).loc Cert.Kernel4Ideal.main_v19)) (v7 : (c : Dev Cert.Kernel4Ideal.nD) → Buf (Elt Ideal) ((c.tc : Thread Cert.Kernel4Ideal.nD Cert.Kernel4Ideal.τ).loc Cert.Kernel4Ideal.main_v20)) (v8 : (c : Dev Cert.Kernel4Ideal.nD) → Buf (Elt Ideal) ((c.tc : Thread Cert.Kernel4Ideal.nD Cert.Kernel4Ideal.τ).loc Cert.Kernel4Ideal.main_v22)) (v9 : (c : Dev Cert.Kernel4Ideal.nD) → Buf (Elt Ideal) ((c.tc : Thread Cert.Kernel4Ideal.nD Cert.Kernel4Ideal.τ).loc Cert.Kernel4Ideal.main_v24)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11_4) = v0 c
          ∧ r.2.mem ((c.tc : Thread Cert.Kernel4Ideal.nD Cert.Kernel4Ideal.τ).loc Cert.Kernel4Ideal.main_v12_0) = v1 c
          ∧ r.2.mem ((c.tc : Thread Cert.Kernel4Ideal.nD Cert.Kernel4Ideal.τ).loc Cert.Kernel4Ideal.main_v12_1) = v2 c
          ∧ r.2.mem ((c.tc : Thread Cert.Kernel4Ideal.nD Cert.Kernel4Ideal.τ).loc Cert.Kernel4Ideal.main_v15) = v3 c
          ∧ r.2.mem ((c.tc : Thread Cert.Kernel4Ideal.nD Cert.Kernel4Ideal.τ).loc Cert.Kernel4Ideal.main_v17) = v4 c
          ∧ r.2.mem ((c.tc : Thread Cert.Kernel4Ideal.nD Cert.Kernel4Ideal.τ).loc Cert.Kernel4Ideal.main_v18) = v5 c
          ∧ r.2.mem ((c.tc : Thread Cert.Kernel4Ideal.nD Cert.Kernel4Ideal.τ).loc Cert.Kernel4Ideal.main_v19) = v6 c
          ∧ r.2.mem ((c.tc : Thread Cert.Kernel4Ideal.nD Cert.Kernel4Ideal.τ).loc Cert.Kernel4Ideal.main_v20) = v7 c
          ∧ r.2.mem ((c.tc : Thread Cert.Kernel4Ideal.nD Cert.Kernel4Ideal.τ).loc Cert.Kernel4Ideal.main_v22) = v8 c
          ∧ r.2.mem ((c.tc : Thread Cert.Kernel4Ideal.nD Cert.Kernel4Ideal.τ).loc Cert.Kernel4Ideal.main_v24) = v9 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v46) = v0 c
          ∧ r.2.mem ((c.tc : Thread Cert.Reference4Ideal.nD Cert.Reference4Ideal.τ).loc Cert.Reference4Ideal.main_v90) = v1 c
          ∧ r.2.mem ((c.tc : Thread Cert.Reference4Ideal.nD Cert.Reference4Ideal.τ).loc Cert.Reference4Ideal.main_v98) = v2 c
          ∧ r.2.mem ((c.tc : Thread Cert.Reference4Ideal.nD Cert.Reference4Ideal.τ).loc Cert.Reference4Ideal.main_v97) = v3 c
          ∧ r.2.mem ((c.tc : Thread Cert.Reference4Ideal.nD Cert.Reference4Ideal.τ).loc Cert.Reference4Ideal.main_v73) = v4 c
          ∧ r.2.mem ((c.tc : Thread Cert.Reference4Ideal.nD Cert.Reference4Ideal.τ).loc Cert.Reference4Ideal.main_v68) = v5 c
          ∧ r.2.mem ((c.tc : Thread Cert.Reference4Ideal.nD Cert.Reference4Ideal.τ).loc Cert.Reference4Ideal.main_v65) = v6 c
          ∧ r.2.mem ((c.tc : Thread Cert.Reference4Ideal.nD Cert.Reference4Ideal.τ).loc Cert.Reference4Ideal.main_v53) = v7 c
          ∧ r.2.mem ((c.tc : Thread Cert.Reference4Ideal.nD Cert.Reference4Ideal.τ).loc Cert.Reference4Ideal.main_v99) = v8 c
          ∧ r.2.mem ((c.tc : Thread Cert.Reference4Ideal.nD Cert.Reference4Ideal.τ).loc Cert.Reference4Ideal.main_v100) = v9 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v108) = v0 c
          ∧ r.2.mem ((c.tc : Thread Cert.Reference5Ideal.nD Cert.Reference5Ideal.τ).loc Cert.Reference5Ideal.main_v87) = v1 c
          ∧ r.2.mem ((c.tc : Thread Cert.Reference5Ideal.nD Cert.Reference5Ideal.τ).loc Cert.Reference5Ideal.main_v79) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_2)) (v2 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_2) = v1 c
          ∧ r.2.mem ((c.tc : Thread Cert.Kernel6Ideal.nD Cert.Kernel6Ideal.τ).loc Cert.Kernel6Ideal.main_v1) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_v28) = v1 c
          ∧ r.2.mem ((c.tc : Thread Cert.Reference6Ideal.nD Cert.Reference6Ideal.τ).loc Cert.Reference6Ideal.main_v32) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v1_1)) (v2 : (c : Dev Cert.Kernel7Ideal.nD) → Buf (Elt Ideal) ((c.tc : Thread Cert.Kernel7Ideal.nD Cert.Kernel7Ideal.τ).loc Cert.Kernel7Ideal.main_v1_2)) (v3 : (c : Dev Cert.Kernel7Ideal.nD) → Buf (Elt Ideal) ((c.tc : Thread Cert.Kernel7Ideal.nD Cert.Kernel7Ideal.τ).loc Cert.Kernel7Ideal.main_v1_3)) (v4 : (c : Dev Cert.Kernel7Ideal.nD) → Buf (Elt Ideal) ((c.tc : Thread Cert.Kernel7Ideal.nD Cert.Kernel7Ideal.τ).loc Cert.Kernel7Ideal.main_v1_4)) (v5 : (c : Dev Cert.Kernel7Ideal.nD) → Buf (Elt Ideal) ((c.tc : Thread Cert.Kernel7Ideal.nD Cert.Kernel7Ideal.τ).loc Cert.Kernel7Ideal.main_v1_5)) (v6 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_v1_2) = v2 c
          ∧ r.2.mem ((c.tc : Thread Cert.Kernel7Ideal.nD Cert.Kernel7Ideal.τ).loc Cert.Kernel7Ideal.main_v1_3) = v3 c
          ∧ r.2.mem ((c.tc : Thread Cert.Kernel7Ideal.nD Cert.Kernel7Ideal.τ).loc Cert.Kernel7Ideal.main_v1_4) = v4 c
          ∧ r.2.mem ((c.tc : Thread Cert.Kernel7Ideal.nD Cert.Kernel7Ideal.τ).loc Cert.Kernel7Ideal.main_v1_5) = v5 c
          ∧ r.2.mem ((c.tc : Thread Cert.Kernel7Ideal.nD Cert.Kernel7Ideal.τ).loc Cert.Kernel7Ideal.main_v2) = v6 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5_0) = v0 c
          ∧ r.2.mem ((c.tc : Thread Cert.Reference7Ideal.nD Cert.Reference7Ideal.τ).loc Cert.Reference7Ideal.main_v59) = v1 c
          ∧ r.2.mem ((c.tc : Thread Cert.Reference7Ideal.nD Cert.Reference7Ideal.τ).loc Cert.Reference7Ideal.main_v8) = v2 c
          ∧ r.2.mem ((c.tc : Thread Cert.Reference7Ideal.nD Cert.Reference7Ideal.τ).loc Cert.Reference7Ideal.main_v42) = v3 c
          ∧ r.2.mem ((c.tc : Thread Cert.Reference7Ideal.nD Cert.Reference7Ideal.τ).loc Cert.Reference7Ideal.main_v37) = v4 c
          ∧ r.2.mem ((c.tc : Thread Cert.Reference7Ideal.nD Cert.Reference7Ideal.τ).loc Cert.Reference7Ideal.main_v34) = v5 c
          ∧ r.2.mem ((c.tc : Thread Cert.Reference7Ideal.nD Cert.Reference7Ideal.τ).loc Cert.Reference7Ideal.main_v60) = v6 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_1)) (v1 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_1) = v0 c
          ∧ r.2.mem ((c.tc : Thread Cert.Kernel8Ideal.nD Cert.Kernel8Ideal.τ).loc Cert.Kernel8Ideal.main_v1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v19) = v0 c
          ∧ r.2.mem ((c.tc : Thread Cert.Reference8Ideal.nD Cert.Reference8Ideal.τ).loc Cert.Reference8Ideal.main_v23) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_1)) (v1 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_1) = v0 c
          ∧ r.2.mem ((c.tc : Thread Cert.Kernel9Ideal.nD Cert.Kernel9Ideal.τ).loc Cert.Kernel9Ideal.main_v1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v22) = v0 c
          ∧ r.2.mem ((c.tc : Thread Cert.Reference9Ideal.nD Cert.Reference9Ideal.τ).loc Cert.Reference9Ideal.main_v26) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)) (v1 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_v1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v15) = v0 c
          ∧ r.2.mem ((c.tc : Thread Cert.Reference10Ideal.nD Cert.Reference10Ideal.τ).loc Cert.Reference10Ideal.main_v17) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v57) = v0 c
          ∧ r.2.mem ((c.tc : Thread Cert.Reference11Ideal.nD Cert.Reference11Ideal.τ).loc Cert.Reference11Ideal.main_v35) = v1 c
          ∧ r.2.mem ((c.tc : Thread Cert.Reference11Ideal.nD Cert.Reference11Ideal.τ).loc Cert.Reference11Ideal.main_v32) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_decays : Cert.Pre_decays.Facts),
    quiescent_Kernel (hKernel := hKernel)
    ∧ quiescent_KernelIdeal (hKernelIdeal := hKernelIdeal)
    ∧ quiescent_KernelIdeal_pre_decays (hKernelIdeal := hKernelIdeal) (hPre_decays := hPre_decays)
    ∧ quiescent_ReferenceIdeal (hReferenceIdeal := hReferenceIdeal)
    ∧ quiescent_ReferenceIdeal_pre_decays (hReferenceIdeal := hReferenceIdeal) (hPre_decays := hPre_decays)
    ∧ quiescent_Kernel2 (hKernel2 := hKernel2)
    ∧ quiescent_Kernel2Ideal (hKernel2Ideal := hKernel2Ideal)
    ∧ quiescent_Kernel2Ideal_pre_decays (hKernel2Ideal := hKernel2Ideal) (hPre_decays := hPre_decays)
    ∧ quiescent_Reference2Ideal (hReference2Ideal := hReference2Ideal)
    ∧ quiescent_Reference2Ideal_pre_decays (hReference2Ideal := hReference2Ideal) (hPre_decays := hPre_decays)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_decays (hKernelIdeal := hKernelIdeal) (hReferenceIdeal := hReferenceIdeal) (hPre_decays := hPre_decays)
    ∧ preserves_Kernel2_Kernel2Ideal
    ∧ algebraic_Kernel2Ideal_Reference2Ideal_pre_decays (hKernel2Ideal := hKernel2Ideal) (hReference2Ideal := hReference2Ideal) (hPre_decays := hPre_decays)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_decays.lean ====
abbrev S2304x1280 : Shape := ⟨2, ![2304, 1280]⟩
abbrev S_ : Shape := ⟨0, ![]⟩

class Facts : Prop where
  bcast_S_S2304x1280 : S_.BroadcastsInDim S2304x1280 (![] : Fin 0 → Fin S2304x1280.rank)

variable [Facts]

def fn {F : FTy → Type} [FloatOps F] (main_arg0 : FVec F S2304x1280 .f32) (main_arg1 : FVec F S2304x1280 .f32) : IVec S2304x1280 1 :=
  let main_cst : FVec F S_ .f32 := constant S_ .f32 0x00000000#32
  let main_v0 : FVec F S2304x1280 .f32 := broadcastInDim S2304x1280 ![] bcast_S_S2304x1280 main_cst
  let main_v1 : IVec S2304x1280 1 := cmpf .oge main_arg0 main_v0
  let main_cst_0 : FVec F S_ .f32 := constant S_ .f32 0x7F800000#32
  let main_v2 : FVec F S2304x1280 .f32 := broadcastInDim S2304x1280 ![] bcast_S_S2304x1280 main_cst_0
  let main_v3 : IVec S2304x1280 1 := cmpf .olt main_arg0 main_v2
  let main_v4 : IVec S2304x1280 1 := andi main_v1 main_v3
  main_v4
-- ==== Kernel.lean ====
abbrev S2304x1280 : Shape := ⟨2, ![2304, 1280]⟩
abbrev S256x1280 : Shape := ⟨2, ![256, 1280]⟩
abbrev S8x1280 : Shape := ⟨2, ![8, 1280]⟩
abbrev S1x1280 : Shape := ⟨2, ![1, 1280]⟩

abbrev nBuf : Space → Nat
  | .hbm => 3
  | .vmem => 7
  | .smem => 0
  | _ => 0

abbrev bufTy : (tb : Table) → Fin (tcTables nBuf tb) → BufTy
  | .hbm, ⟨0, _⟩ => ⟨S2304x1280, .f32⟩
  | .hbm, ⟨1, _⟩ => ⟨S2304x1280, .f32⟩
  | .hbm, ⟨2, _⟩ => ⟨S2304x1280, .f32⟩
  | .local _ .vmem, ⟨0, _⟩ => ⟨S256x1280, .f32⟩
  | .local _ .vmem, ⟨1, _⟩ => ⟨S256x1280, .f32⟩
  | .local _ .vmem, ⟨2, _⟩ => ⟨S256x1280, .f32⟩
  | .local _ .vmem, ⟨3, _⟩ => ⟨S256x1280, .f32⟩
  | .local _ .vmem, ⟨4, _⟩ => ⟨S256x1280, .f32⟩
  | .local _ .vmem, ⟨5, _⟩ => ⟨S256x1280, .f32⟩
  | .local _ .vmem, ⟨6, _⟩ => ⟨S8x1280, .f32⟩
  | _, _ => ⟨S2304x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![9], ![false]⟩

@[reducible] def k0_t1_loop : Scf.Loop 32 :=
  let c0_i32_2 : BitVec 32 := 0#32
  let c32_i32 : BitVec 32 := 32#32
  let v5 : BitVec 32 := Scalar.addi c0_i32_2 c32_i32
  let c1_i32 : BitVec 32 := 1#32
  ⟨c0_i32_2, v5, c1_i32⟩
def k0_mult1 (k0_t1 : Fin k0_t1_loop.trips) : BitVec 32 :=
  let c31_i32 : BitVec 32 := 31#32
  let c0_i32_2 : BitVec 32 := 0#32
  let c1_i32 : BitVec 32 := 1#32
  let arg5 : BitVec 32 := Scf.iv c0_i32_2 c1_i32 k0_t1
  let v10 : BitVec 32 := Scalar.subi c31_i32 arg5
  let c8_i32 : BitVec 32 := 8#32
  let v11 : BitVec 32 := Scalar.muli v10 c8_i32
  v11
def k0_off1 (k0_t1 : Fin k0_t1_loop.trips) : Fin 2 → Nat :=
  let c31_i32 : BitVec 32 := 31#32
  let c0_i32_2 : BitVec 32 := 0#32
  let c1_i32 : BitVec 32 := 1#32
  let arg5 : BitVec 32 := Scf.iv c0_i32_2 c1_i32 k0_t1
  let v10 : BitVec 32 := Scalar.subi c31_i32 arg5
  let c8_i32 : BitVec 32 := 8#32
  let v11 : BitVec 32 := Scalar.muli v10 c8_i32
  let v12 : BitVec 32 := v11
  let v13 : Index := Scalar.indexCast v12
  let c0_6 : Index := 0#32
  ![v13.toNat, 0]
def cc0_transform_0 (i : grid0.Coords) : Fin 2 → Nat :=
  let arg0 : BitVec 32 := BitVec.ofNat 32 (i 0).val
  let c8_i32 : BitVec 32 := 8#32
  let v0 : BitVec 32 := Scalar.subi c8_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.subi c8_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c8_i32 : BitVec 32 := 8#32
  let v0 : BitVec 32 := Scalar.subi c8_i32 arg0
  let c0_i32 : BitVec 32 := 0#32
  let c0_i32_0 : BitVec 32 := 0#32
  ![v0.toNat, c0_i32.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S2304x1280 : Shape := ⟨2, ![2304, 1280]⟩
abbrev S_ : Shape := ⟨0, ![]⟩
abbrev S1280 : Shape := ⟨1, ![1280]⟩
abbrev S1x1280 : Shape := ⟨2, ![1, 1280]⟩

abbrev nBuf : Space → Nat
  | .hbm => 33
  | .vmem => 0
  | .smem => 0
  | _ => 0

abbrev bufTy : (tb : Table) → Fin (tcTables nBuf tb) → BufTy
  | .hbm, ⟨0, _⟩ => ⟨S2304x1280, .f32⟩
  | .hbm, ⟨1, _⟩ => ⟨S2304x1280, .f32⟩
  | .hbm, ⟨2, _⟩ => ⟨S_, .f32⟩
  | .hbm, ⟨3, _⟩ => ⟨S1280, .f32⟩
  | .hbm, ⟨4, _⟩ => ⟨S_, .f32⟩
  | .hbm, ⟨5, _⟩ => ⟨S1280, .f32⟩
  | .hbm, ⟨6, _⟩ => ⟨S_, .f32⟩
  | .hbm, ⟨7, _⟩ => ⟨S2304x1280, .f32⟩
  | .hbm, ⟨8, _⟩ => ⟨S_, .i32⟩
  | .hbm, ⟨9, _⟩ => ⟨S2304x1280, .f32⟩
  | .hbm, ⟨10, _⟩ => ⟨S2304x1280, .f32⟩
  | .hbm, ⟨11, _⟩ => ⟨S_, .i32⟩
  | .hbm, ⟨12, _⟩ => ⟨S1280, .f32⟩
  | .hbm, ⟨13, _⟩ => ⟨S2304x1280, .f32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S1x1280, .f32⟩
  | .hbm, ⟨22, _⟩ => ⟨S1280, .f32⟩
  | .hbm, ⟨23, _⟩ => ⟨S_, .i32⟩
  | .hbm, ⟨24, _⟩ => ⟨S1x1280, .f32⟩
  | .hbm, ⟨25, _⟩ => ⟨S1280, .f32⟩
  | .hbm, ⟨26, _⟩ => ⟨S1280, .f32⟩
  | .hbm, ⟨27, _⟩ => ⟨S1280, .f32⟩
  | .hbm, ⟨28, _⟩ => ⟨S1x1280, .f32⟩
  | .hbm, ⟨29, _⟩ => ⟨S_, .i32⟩
  | .hbm, ⟨30, _⟩ => ⟨S2304x1280, .f32⟩
  | .hbm, ⟨31, _⟩ => ⟨S_, .i32⟩
  | .hbm, ⟨32, _⟩ => ⟨S_, .i32⟩
  | _, _ => ⟨S2304x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_c : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_while0c_c_6 : Ref sig .tc := ⟨.hbm, 14, rfl⟩
abbrev main_while0c_v4 : Ref sig .tc := ⟨.hbm, 15, rfl⟩
abbrev main_while0b_c_6 : Ref sig .tc := ⟨.hbm, 16, rfl⟩
abbrev main_while0b_v4 : Ref sig .tc := ⟨.hbm, 17, rfl⟩
abbrev main_while0b_c_7 : Ref sig .tc := ⟨.hbm, 18, rfl⟩
abbrev main_while0b_v5 : Ref sig .tc := ⟨.hbm, 19, rfl⟩
abbrev main_while0b_call0_c : Ref sig .tc := ⟨.hbm, 20, rfl⟩
abbrev main_while0b_call0_v0 : Ref sig .tc := ⟨.hbm, 21, rfl⟩
abbrev main_while0b_v6 : Ref sig .tc := ⟨.hbm, 22, rfl⟩
abbrev main_while0b_call1_c : Ref sig .tc := ⟨.hbm, 23, rfl⟩
abbrev main_while0b_call1_v0 : Ref sig .tc := ⟨.hbm, 24, rfl⟩
abbrev main_while0b_v7 : Ref sig .tc := ⟨.hbm, 25, rfl⟩
abbrev main_while0b_v8 : Ref sig .tc := ⟨.hbm, 26, rfl⟩
abbrev main_while0b_v9 : Ref sig .tc := ⟨.hbm, 27, rfl⟩
abbrev main_while0b_call2_v0 : Ref sig .tc := ⟨.hbm, 28, rfl⟩
abbrev main_while0b_call2_c : Ref sig .tc := ⟨.hbm, 29, rfl⟩
abbrev main_while0b_v10 : Ref sig .tc := ⟨.hbm, 30, rfl⟩
abbrev main_while0b_c_8 : Ref sig .tc := ⟨.hbm, 31, rfl⟩
abbrev main_while0b_v11 : Ref sig .tc := ⟨.hbm, 32, rfl⟩

abbrev nD : Nat := 1
abbrev τ : Topo := Topo.v7x

variable {F : FTy → Type} [FloatOps F]

abbrev main_while0_count : Scf.Loop 32 := ⟨0#32, 2304#32, 1#32⟩
-- ==== Kernel2.lean ====
abbrev S2304x1280 : Shape := ⟨2, ![2304, 1280]⟩
abbrev S256x1280 : Shape := ⟨2, ![256, 1280]⟩
abbrev S8x1280 : Shape := ⟨2, ![8, 1280]⟩
abbrev S1x1280 : Shape := ⟨2, ![1, 1280]⟩

abbrev nBuf : Space → Nat
  | .hbm => 3
  | .vmem => 7
  | .smem => 0
  | _ => 0

abbrev bufTy : (tb : Table) → Fin (tcTables nBuf tb) → BufTy
  | .hbm, ⟨0, _⟩ => ⟨S2304x1280, .f32⟩
  | .hbm, ⟨1, _⟩ => ⟨S2304x1280, .f32⟩
  | .hbm, ⟨2, _⟩ => ⟨S2304x1280, .f32⟩
  | .local _ .vmem, ⟨0, _⟩ => ⟨S256x1280, .f32⟩
  | .local _ .vmem, ⟨1, _⟩ => ⟨S256x1280, .f32⟩
  | .local _ .vmem, ⟨2, _⟩ => ⟨S256x1280, .f32⟩
  | .local _ .vmem, ⟨3, _⟩ => ⟨S256x1280, .f32⟩
  | .local _ .vmem, ⟨4, _⟩ => ⟨S256x1280, .f32⟩
  | .local _ .vmem, ⟨5, _⟩ => ⟨S256x1280, .f32⟩
  | .local _ .vmem, ⟨6, _⟩ => ⟨S8x1280, .f32⟩
  | _, _ => ⟨S2304x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![9], ![false]⟩

@[reducible] def k0_t1_loop : Scf.Loop 32 :=
  let c0_i32_2 : BitVec 32 := 0#32
  let c32_i32 : BitVec 32 := 32#32
  let v5 : BitVec 32 := Scalar.addi c0_i32_2 c32_i32
  let c1_i32 : BitVec 32 := 1#32
  ⟨c0_i32_2, v5, c1_i32⟩
def k0_mult1 (k0_t1 : Fin k0_t1_loop.trips) : BitVec 32 :=
  let c0_i32_2 : BitVec 32 := 0#32
  let c1_i32 : BitVec 32 := 1#32
  let arg5 : BitVec 32 := Scf.iv c0_i32_2 c1_i32 k0_t1
  let c8_i32 : BitVec 32 := 8#32
  let v10 : BitVec 32 := Scalar.muli arg5 c8_i32
  v10
def k0_off1 (k0_t1 : Fin k0_t1_loop.trips) : Fin 2 → Nat :=
  let c0_i32_2 : BitVec 32 := 0#32
  let c1_i32 : BitVec 32 := 1#32
  let arg5 : BitVec 32 := Scf.iv c0_i32_2 c1_i32 k0_t1
  let c8_i32 : BitVec 32 := 8#32
  let v10 : BitVec 32 := Scalar.muli arg5 c8_i32
  let v11 : BitVec 32 := v10
  let v12 : Index := Scalar.indexCast v11
  let c0_6 : Index := 0#32
  ![v12.toNat, 0]
def cc0_transform_0 (i : grid0.Coords) : Fin 2 → Nat :=
  let arg0 : BitVec 32 := BitVec.ofNat 32 (i 0).val
  let c8_i32 : BitVec 32 := 8#32
  let v0 : BitVec 1 := Scalar.cmpi .eq arg0 c8_i32
  let c1_i32 : BitVec 32 := 1#32
  let v1 : BitVec 32 := Scalar.addi arg0 c1_i32
  let c0_i32 : BitVec 32 := 0#32
  let v2 : BitVec 32 := Scalar.select v0 c0_i32 v1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c8_i32 : BitVec 32 := 8#32
  let v0 : BitVec 1 := Scalar.cmpi .eq arg0 c8_i32
  let c1_i32 : BitVec 32 := 1#32
  let v1 : BitVec 32 := Scalar.addi arg0 c1_i32
  let c0_i32 : BitVec 32 := 0#32
  let v2 : BitVec 32 := Scalar.select v0 c0_i32 v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c8_i32 : BitVec 32 := 8#32
  let v0 : BitVec 1 := Scalar.cmpi .eq arg0 c8_i32
  let c1_i32 : BitVec 32 := 1#32
  let v1 : BitVec 32 := Scalar.addi arg0 c1_i32
  let c0_i32 : BitVec 32 := 0#32
  let v2 : BitVec 32 := Scalar.select v0 c0_i32 v1
  let c0_i32_0 : BitVec 32 := 0#32
  let c0_i32_1 : BitVec 32 := 0#32
  ![v2.toNat, c0_i32_0.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S2304x1280 : Shape := ⟨2, ![2304, 1280]⟩
abbrev S256x1280 : Shape := ⟨2, ![256, 1280]⟩
abbrev S2048x1280 : Shape := ⟨2, ![2048, 1280]⟩
abbrev S_ : Shape := ⟨0, ![]⟩
abbrev S1280 : Shape := ⟨1, ![1280]⟩
abbrev S1x1280 : Shape := ⟨2, ![1, 1280]⟩

abbrev nBuf : Space → Nat
  | .hbm => 56
  | .vmem => 0
  | .smem => 0
  | _ => 0

abbrev bufTy : (tb : Table) → Fin (tcTables nBuf tb) → BufTy
  | .hbm, ⟨0, _⟩ => ⟨S2304x1280, .f32⟩
  | .hbm, ⟨1, _⟩ => ⟨S2304x1280, .f32⟩
  | .hbm, ⟨2, _⟩ => ⟨S256x1280, .f32⟩
  | .hbm, ⟨3, _⟩ => ⟨S256x1280, .f32⟩
  | .hbm, ⟨4, _⟩ => ⟨S2048x1280, .f32⟩
  | .hbm, ⟨5, _⟩ => ⟨S2048x1280, .f32⟩
  | .hbm, ⟨6, _⟩ => ⟨S2304x1280, .f32⟩
  | .hbm, ⟨7, _⟩ => ⟨S_, .f32⟩
  | .hbm, ⟨8, _⟩ => ⟨S1280, .f32⟩
  | .hbm, ⟨9, _⟩ => ⟨S256x1280, .f32⟩
  | .hbm, ⟨10, _⟩ => ⟨S2048x1280, .f32⟩
  | .hbm, ⟨11, _⟩ => ⟨S2048x1280, .f32⟩
  | .hbm, ⟨12, _⟩ => ⟨S_, .f32⟩
  | .hbm, ⟨13, _⟩ => ⟨S2304x1280, .f32⟩
  | .hbm, ⟨14, _⟩ => ⟨S256x1280, .f32⟩
  | .hbm, ⟨15, _⟩ => ⟨S_, .f32⟩
  | .hbm, ⟨16, _⟩ => ⟨S2304x1280, .f32⟩
  | .hbm, ⟨17, _⟩ => ⟨S2304x1280, .f32⟩
  | .hbm, ⟨18, _⟩ => ⟨S_, .f32⟩
  | .hbm, ⟨19, _⟩ => ⟨S1280, .f32⟩
  | .hbm, ⟨20, _⟩ => ⟨S_, .f32⟩
  | .hbm, ⟨21, _⟩ => ⟨S2304x1280, .f32⟩
  | .hbm, ⟨22, _⟩ => ⟨S_, .i32⟩
  | .hbm, ⟨23, _⟩ => ⟨S2304x1280, .f32⟩
  | .hbm, ⟨24, _⟩ => ⟨S2304x1280, .f32⟩
  | .hbm, ⟨25, _⟩ => ⟨S_, .i32⟩
  | .hbm, ⟨26, _⟩ => ⟨S1280, .f32⟩
  | .hbm, ⟨27, _⟩ => ⟨S2304x1280, .f32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S1x1280, .f32⟩
  | .hbm, ⟨36, _⟩ => ⟨S1280, .f32⟩
  | .hbm, ⟨37, _⟩ => ⟨S_, .i32⟩
  | .hbm, ⟨38, _⟩ => ⟨S1x1280, .f32⟩
  | .hbm, ⟨39, _⟩ => ⟨S1280, .f32⟩
  | .hbm, ⟨40, _⟩ => ⟨S1280, .f32⟩
  | .hbm, ⟨41, _⟩ => ⟨S1280, .f32⟩
  | .hbm, ⟨42, _⟩ => ⟨S1x1280, .f32⟩
  | .hbm, ⟨43, _⟩ => ⟨S_, .i32⟩
  | .hbm, ⟨44, _⟩ => ⟨S2304x1280, .f32⟩
  | .hbm, ⟨45, _⟩ => ⟨S_, .i32⟩
  | .hbm, ⟨46, _⟩ => ⟨S_, .i32⟩
  | .hbm, ⟨47, _⟩ => ⟨S256x1280, .f32⟩
  | .hbm, ⟨48, _⟩ => ⟨S2048x1280, .f32⟩
  | .hbm, ⟨49, _⟩ => ⟨S2048x1280, .f32⟩
  | .hbm, ⟨50, _⟩ => ⟨S_, .f32⟩
  | .hbm, ⟨51, _⟩ => ⟨S2304x1280, .f32⟩
  | .hbm, ⟨52, _⟩ => ⟨S256x1280, .f32⟩
  | .hbm, ⟨53, _⟩ => ⟨S_, .f32⟩
  | .hbm, ⟨54, _⟩ => ⟨S2304x1280, .f32⟩
  | .hbm, ⟨55, _⟩ => ⟨S2304x1280, .f32⟩
  | _, _ => ⟨S2304x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_c : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev main_v15_3 : Ref sig .tc := ⟨.hbm, 26, rfl⟩
abbrev main_v15_4 : Ref sig .tc := ⟨.hbm, 27, rfl⟩
abbrev main_while0c_c_10 : Ref sig .tc := ⟨.hbm, 28, rfl⟩
abbrev main_while0c_v23 : Ref sig .tc := ⟨.hbm, 29, rfl⟩
abbrev main_while0b_c_10 : Ref sig .tc := ⟨.hbm, 30, rfl⟩
abbrev main_while0b_v23 : Ref sig .tc := ⟨.hbm, 31, rfl⟩
abbrev main_while0b_c_11 : Ref sig .tc := ⟨.hbm, 32, rfl⟩
abbrev main_while0b_v24 : Ref sig .tc := ⟨.hbm, 33, rfl⟩
abbrev main_while0b_call0_c : Ref sig .tc := ⟨.hbm, 34, rfl⟩
abbrev main_while0b_call0_v0 : Ref sig .tc := ⟨.hbm, 35, rfl⟩
abbrev main_while0b_v25 : Ref sig .tc := ⟨.hbm, 36, rfl⟩
abbrev main_while0b_call1_c : Ref sig .tc := ⟨.hbm, 37, rfl⟩
abbrev main_while0b_call1_v0 : Ref sig .tc := ⟨.hbm, 38, rfl⟩
abbrev main_while0b_v26 : Ref sig .tc := ⟨.hbm, 39, rfl⟩
abbrev main_while0b_v27 : Ref sig .tc := ⟨.hbm, 40, rfl⟩
abbrev main_while0b_v28 : Ref sig .tc := ⟨.hbm, 41, rfl⟩
abbrev main_while0b_call2_v0 : Ref sig .tc := ⟨.hbm, 42, rfl⟩
abbrev main_while0b_call2_c : Ref sig .tc := ⟨.hbm, 43, rfl⟩
abbrev main_while0b_v29 : Ref sig .tc := ⟨.hbm, 44, rfl⟩
abbrev main_while0b_c_12 : Ref sig .tc := ⟨.hbm, 45, rfl⟩
abbrev main_while0b_v30 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_4 : Ref sig .tc := ⟨.hbm, 50, rfl⟩
abbrev main_v19 : Ref sig .tc := ⟨.hbm, 51, rfl⟩
abbrev main_v20 : Ref sig .tc := ⟨.hbm, 52, rfl⟩
abbrev main_cst_5 : Ref sig .tc := ⟨.hbm, 53, rfl⟩
abbrev main_v21 : Ref sig .tc := ⟨.hbm, 54, rfl⟩
abbrev main_v22 : Ref sig .tc := ⟨.hbm, 55, rfl⟩

abbrev nD : Nat := 1
abbrev τ : Topo := Topo.v7x

variable {F : FTy → Type} [FloatOps F]

abbrev main_while0_count : Scf.Loop 32 := ⟨0#32, 2304#32, 1#32⟩
-- ==== Kernel3.lean ====
abbrev S2304x1024 : Shape := ⟨2, ![2304, 1024]⟩
abbrev S2048x1024 : Shape := ⟨2, ![2048, 1024]⟩
abbrev S1x1024 : Shape := ⟨2, ![1, 1024]⟩
abbrev S8x2x1024x512 : Shape := ⟨4, ![8, 2, 1024, 512]⟩
abbrev S8x2x512x1024 : Shape := ⟨4, ![8, 2, 512, 1024]⟩
abbrev S_ : Shape := ⟨0, ![]⟩
abbrev S8x1024 : Shape := ⟨2, ![8, 1024]⟩
abbrev S72x1024 : Shape := ⟨2, ![72, 1024]⟩
abbrev S2048x4096 : Shape := ⟨2, ![2048, 4096]⟩
abbrev S256x1024 : Shape := ⟨2, ![256, 1024]⟩
abbrev S8x1x1024x512 : Shape := ⟨4, ![8, 1, 1024, 512]⟩
abbrev S8x1x512x1024 : Shape := ⟨4, ![8, 1, 512, 1024]⟩
abbrev S256x4096 : Shape := ⟨2, ![256, 4096]⟩
abbrev S256 : Shape := ⟨1, ![256]⟩
abbrev S256x1 : Shape := ⟨2, ![256, 1]⟩
abbrev S1x1x1024x512 : Shape := ⟨4, ![1, 1, 1024, 512]⟩
abbrev S1024x512 : Shape := ⟨2, ![1024, 512]⟩
abbrev S256x512 : Shape := ⟨2, ![256, 512]⟩
abbrev S1x1x512x1024 : Shape := ⟨4, ![1, 1, 512, 1024]⟩
abbrev S512x1024 : Shape := ⟨2, ![512, 1024]⟩
abbrev S1024 : Shape := ⟨1, ![1024]⟩
abbrev S2048x512 : Shape := ⟨2, ![2048, 512]⟩

abbrev nBuf : Space → Nat
  | .hbm => 45
  | .vmem => 51
  | .smem => 0
  | _ => 0

abbrev bufTy : (tb : Table) → Fin (tcTables nBuf tb) → BufTy
  | .hbm, ⟨0, _⟩ => ⟨S2304x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8x2x1024x512, .bf16⟩
  | .hbm, ⟨8, _⟩ => ⟨S8x2x512x1024, .bf16⟩
  | .hbm, ⟨9, _⟩ => ⟨S2048x1024, .f32⟩
  | .hbm, ⟨10, _⟩ => ⟨S8x2x1024x512, .bf16⟩
  | .hbm, ⟨11, _⟩ => ⟨S8x2x512x1024, .bf16⟩
  | .hbm, ⟨12, _⟩ => ⟨S_, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S8x1024, .f32⟩
  | .hbm, ⟨20, _⟩ => ⟨S8x1024, .f32⟩
  | .hbm, ⟨21, _⟩ => ⟨S8x1024, .f32⟩
  | .hbm, ⟨22, _⟩ => ⟨S8x1024, .f32⟩
  | .hbm, ⟨23, _⟩ => ⟨S8x1024, .f32⟩
  | .hbm, ⟨24, _⟩ => ⟨S8x1024, .f32⟩
  | .hbm, ⟨25, _⟩ => ⟨S72x1024, .f32⟩
  | .hbm, ⟨26, _⟩ => ⟨S2048x1024, .f32⟩
  | .hbm, ⟨27, _⟩ => ⟨S2048x1024, .bf16⟩
  | .hbm, ⟨28, _⟩ => ⟨S2048x4096, .bf16⟩
  | .hbm, ⟨29, _⟩ => ⟨S2048x1024, .bf16⟩
  | .hbm, ⟨30, _⟩ => ⟨S2048x1024, .f32⟩
  | .hbm, ⟨31, _⟩ => ⟨S2048x1024, .bf16⟩
  | .hbm, ⟨32, _⟩ => ⟨S2048x1024, .f32⟩
  | .hbm, ⟨33, _⟩ => ⟨S2048x1024, .bf16⟩
  | .hbm, ⟨34, _⟩ => ⟨S2048x1024, .bf16⟩
  | .hbm, ⟨35, _⟩ => ⟨S2048x4096, .bf16⟩
  | .hbm, ⟨36, _⟩ => ⟨S8x1024, .f32⟩
  | .hbm, ⟨37, _⟩ => ⟨S8x2x1024x512, .bf16⟩
  | .hbm, ⟨38, _⟩ => ⟨S8x2x512x1024, .bf16⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S72x1024, .f32⟩
  | .local _ .vmem, ⟨5, _⟩ => ⟨S8x1x1024x512, .bf16⟩
  | .local _ .vmem, ⟨6, _⟩ => ⟨S8x1x512x1024, .bf16⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S256x4096, .bf16⟩
  | .local _ .vmem, ⟨12, _⟩ => ⟨S256x4096, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x4096, .bf16⟩
  | .local _ .vmem, ⟨24, _⟩ => ⟨S256x4096, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .f32⟩
  | .local _ .vmem, ⟨28, _⟩ => ⟨S256x1024, .f32⟩
  | .local _ .vmem, ⟨29, _⟩ => ⟨S72x1024, .f32⟩
  | .local _ .vmem, ⟨30, _⟩ => ⟨S8x1x1024x512, .bf16⟩
  | .local _ .vmem, ⟨31, _⟩ => ⟨S8x1x512x1024, .bf16⟩
  | .local _ .vmem, ⟨32, _⟩ => ⟨S256x1024, .f32⟩
  | .local _ .vmem, ⟨33, _⟩ => ⟨S256x1024, .f32⟩
  | .local _ .vmem, ⟨34, _⟩ => ⟨S256x1024, .bf16⟩
  | .local _ .vmem, ⟨35, _⟩ => ⟨S256x1024, .bf16⟩
  | .local _ .vmem, ⟨36, _⟩ => ⟨S256x1024, .bf16⟩
  | .local _ .vmem, ⟨37, _⟩ => ⟨S256x1024, .bf16⟩
  | .local _ .vmem, ⟨38, _⟩ => ⟨S256x4096, .bf16⟩
  | .local _ .vmem, ⟨39, _⟩ => ⟨S256x4096, .bf16⟩
  | .local _ .vmem, ⟨40, _⟩ => ⟨S8x1024, .f32⟩
  | .local _ .vmem, ⟨41, _⟩ => ⟨S2048x1024, .bf16⟩
  | .local _ .vmem, ⟨42, _⟩ => ⟨S2048x512, .bf16⟩
  | .local _ .vmem, ⟨43, _⟩ => ⟨S2048x512, .bf16⟩
  | .local _ .vmem, ⟨44, _⟩ => ⟨S1x1x1024x512, .bf16⟩
  | .local _ .vmem, ⟨45, _⟩ => ⟨S1x1x1024x512, .bf16⟩
  | .local _ .vmem, ⟨46, _⟩ => ⟨S2048x512, .bf16⟩
  | .local _ .vmem, ⟨47, _⟩ => ⟨S2048x512, .bf16⟩
  | .local _ .vmem, ⟨48, _⟩ => ⟨S2048x1024, .bf16⟩
  | .local _ .vmem, ⟨49, _⟩ => ⟨S1x1x512x1024, .bf16⟩
  | .local _ .vmem, ⟨50, _⟩ => ⟨S1x1x512x1024, .bf16⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev main_v12_2 : Ref sig .tc := ⟨.hbm, 28, rfl⟩
abbrev main_v12_3 : Ref sig .tc := ⟨.hbm, 29, rfl⟩
abbrev main_v12_4 : Ref sig .tc := ⟨.hbm, 30, rfl⟩
abbrev main_v12_5 : Ref sig .tc := ⟨.hbm, 31, rfl⟩
abbrev main_v13_0 : Ref sig .tc := ⟨.hbm, 32, rfl⟩
abbrev main_v13_1 : Ref sig .tc := ⟨.hbm, 33, rfl⟩
abbrev main_v13_2 : Ref sig .tc := ⟨.hbm, 34, rfl⟩
abbrev main_v13_3 : Ref sig .tc := ⟨.hbm, 35, rfl⟩
abbrev main_v13_4 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg7_0 : Ref sig .tc := ⟨.vmem, 31, rfl⟩
abbrev cc1_stg8_0 : Ref sig .tc := ⟨.vmem, 32, rfl⟩
abbrev cc1_stg8_1 : Ref sig .tc := ⟨.vmem, 33, rfl⟩
abbrev cc1_stg9_0 : Ref sig .tc := ⟨.vmem, 34, rfl⟩
abbrev cc1_stg9_1 : Ref sig .tc := ⟨.vmem, 35, rfl⟩
abbrev cc1_stg10_0 : Ref sig .tc := ⟨.vmem, 36, rfl⟩
abbrev cc1_stg10_1 : Ref sig .tc := ⟨.vmem, 37, rfl⟩
abbrev cc1_stg11_0 : Ref sig .tc := ⟨.vmem, 38, rfl⟩
abbrev cc1_stg11_1 : Ref sig .tc := ⟨.vmem, 39, rfl⟩
abbrev cc1_stg12_0 : Ref sig .tc := ⟨.vmem, 40, rfl⟩
abbrev cc2_stg0_0 : Ref sig .tc := ⟨.vmem, 41, rfl⟩
abbrev cc2_stg1_0 : Ref sig .tc := ⟨.vmem, 42, rfl⟩
abbrev cc2_stg1_1 : Ref sig .tc := ⟨.vmem, 43, rfl⟩
abbrev cc2_stg2_0 : Ref sig .tc := ⟨.vmem, 44, rfl⟩
abbrev cc2_stg2_1 : Ref sig .tc := ⟨.vmem, 45, rfl⟩
abbrev cc3_stg0_0 : Ref sig .tc := ⟨.vmem, 46, rfl⟩
abbrev cc3_stg0_1 : Ref sig .tc := ⟨.vmem, 47, rfl⟩
abbrev cc3_stg1_0 : Ref sig .tc := ⟨.vmem, 48, rfl⟩
abbrev cc3_stg2_0 : Ref sig .tc := ⟨.vmem, 49, rfl⟩
abbrev cc3_stg2_1 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem3_1 : DmaSem sig := 26
abbrev cc1_sem4_0 : DmaSem sig := 27
abbrev cc1_sem4_1 : DmaSem sig := 28
abbrev cc1_sem5_0 : DmaSem sig := 29
abbrev cc1_sem6_0 : DmaSem sig := 30
abbrev cc1_sem7_0 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc2_sem0_0 : DmaSem sig := 41
abbrev cc2_sem1_0 : DmaSem sig := 42
abbrev cc2_sem1_1 : DmaSem sig := 43
abbrev cc2_sem2_0 : DmaSem sig := 44
abbrev cc2_sem2_1 : DmaSem sig := 45
abbrev cc3_sem0_0 : DmaSem sig := 46
abbrev cc3_sem0_1 : DmaSem sig := 47
abbrev cc3_sem1_0 : DmaSem sig := 48
abbrev cc3_sem2_0 : DmaSem sig := 49
abbrev cc3_sem2_1 : DmaSem sig := 50

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S72x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_7 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S72x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x1x1024x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S8x1x512x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x4096 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S8x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 1 → Memref sig .tc .vmem S2048x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage3_0 : Fin 2 → Memref sig .tc .vmem S2048x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1x1x512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]
-- ==== Reference3Ideal.lean ====
abbrev S2304x1024 : Shape := ⟨2, ![2304, 1024]⟩
abbrev S2048x1024 : Shape := ⟨2, ![2048, 1024]⟩
abbrev S1x1024 : Shape := ⟨2, ![1, 1024]⟩
abbrev S8x2x1024x512 : Shape := ⟨4, ![8, 2, 1024, 512]⟩
abbrev S8x2x512x1024 : Shape := ⟨4, ![8, 2, 512, 1024]⟩
abbrev S8x1x1024x512 : Shape := ⟨4, ![8, 1, 1024, 512]⟩
abbrev S8x1024x512 : Shape := ⟨3, ![8, 1024, 512]⟩
abbrev S8x1x512x1024 : Shape := ⟨4, ![8, 1, 512, 1024]⟩
abbrev S8x512x1024 : Shape := ⟨3, ![8, 512, 1024]⟩
abbrev S1024x8x512 : Shape := ⟨3, ![1024, 8, 512]⟩
abbrev S1024x4096 : Shape := ⟨2, ![1024, 4096]⟩
abbrev S_ : Shape := ⟨0, ![]⟩
abbrev S2048 : Shape := ⟨1, ![2048]⟩
abbrev S2048x1 : Shape := ⟨2, ![2048, 1]⟩
abbrev S4096x1024 : Shape := ⟨2, ![4096, 1024]⟩
abbrev S2048x4096 : Shape := ⟨2, ![2048, 4096]⟩
abbrev S1024 : Shape := ⟨1, ![1024]⟩

abbrev nBuf : Space → Nat
  | .hbm => 141
  | .vmem => 0
  | .smem => 0
  | _ => 0

abbrev hbmTy0_0 (i : Nat) : BufTy := match i % 128 with
  | 0 => ⟨S2304x1024, .f32⟩
  | 1 => ⟨S2048x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S8x2x1024x512, .bf16⟩
  | 8 => ⟨S8x2x512x1024, .bf16⟩
  | 9 => ⟨S2048x1024, .f32⟩
  | 10 => ⟨S8x2x1024x512, .bf16⟩
  | 11 => ⟨S8x2x512x1024, .bf16⟩
  | 12 => ⟨S8x1x1024x512, .bf16⟩
  | 13 => ⟨S8x1024x512, .bf16⟩
  | 14 => ⟨S8x1024x512, .f32⟩
  | 15 => ⟨S8x1x512x1024, .bf16⟩
  | 16 => ⟨S8x512x1024, .bf16⟩
  | 17 => ⟨S8x512x1024, .f32⟩
  | 18 => ⟨S2048x1024, .f32⟩
  | 19 => ⟨S2048x1024, .f32⟩
  | 20 => ⟨S2048x1024, .f32⟩
  | 21 => ⟨S2048x1024, .f32⟩
  | 22 => ⟨S1024x8x512, .f32⟩
  | 23 => ⟨S1024x4096, .f32⟩
  | 24 => ⟨S2048x1024, .f32⟩
  | 25 => ⟨S_, .f32⟩
  | 26 => ⟨S2048, .f32⟩
  | 27 => ⟨S2048x1, .f32⟩
  | 28 => ⟨S_, .f32⟩
  | 29 => ⟨S2048x1, .f32⟩
  | 30 => ⟨S2048x1, .f32⟩
  | 31 => ⟨S_, .f32⟩
  | 32 => ⟨S2048x1, .f32⟩
  | 33 => ⟨S2048x1, .f32⟩
  | 34 => ⟨S2048x1, .f32⟩
  | 35 => ⟨S2048x1, .f32⟩
  | 36 => ⟨S_, .f32⟩
  | 37 => ⟨S2048x1, .f32⟩
  | 38 => ⟨S2048x1, .f32⟩
  | 39 => ⟨S2048x1024, .f32⟩
  | 40 => ⟨S2048x1024, .f32⟩
  | 41 => ⟨S2048x1024, .f32⟩
  | 42 => ⟨S2048x1024, .f32⟩
  | 43 => ⟨S_, .f32⟩
  | 44 => ⟨S1x1024, .f32⟩
  | 45 => ⟨S1x1024, .f32⟩
  | 46 => ⟨S2048x1024, .f32⟩
  | 47 => ⟨S2048x1024, .f32⟩
  | 48 => ⟨S2048x1024, .f32⟩
  | 49 => ⟨S2048x1024, .f32⟩
  | 50 => ⟨S4096x1024, .f32⟩
  | 51 => ⟨S2048x4096, .f32⟩
  | 52 => ⟨S_, .f32⟩
  | 53 => ⟨S2048x4096, .f32⟩
  | 54 => ⟨S2048x4096, .f32⟩
  | 55 => ⟨S_, .f32⟩
  | 56 => ⟨S2048x4096, .f32⟩
  | 57 => ⟨S2048x4096, .i1⟩
  | 58 => ⟨S_, .f32⟩
  | 59 => ⟨S2048x4096, .f32⟩
  | 60 => ⟨S2048x4096, .f32⟩
  | 61 => ⟨S_, .f32⟩
  | 62 => ⟨S2048x4096, .f32⟩
  | 63 => ⟨S2048x4096, .f32⟩
  | 64 => ⟨S2048x1024, .f32⟩
  | 65 => ⟨S2048x1024, .f32⟩
  | 66 => ⟨S2048x1024, .f32⟩
  | 67 => ⟨S2048x1024, .f32⟩
  | 68 => ⟨S2048x1024, .f32⟩
  | 69 => ⟨S2048x1024, .f32⟩
  | 70 => ⟨S2048x1024, .f32⟩
  | 71 => ⟨S2048x1024, .f32⟩
  | 72 => ⟨S2048x1024, .f32⟩
  | 73 => ⟨S_, .f32⟩
  | 74 => ⟨S1024, .f32⟩
  | 75 => ⟨S1x1024, .f32⟩
  | 76 => ⟨S1024x4096, .f32⟩
  | 77 => ⟨S4096x1024, .f32⟩
  | 78 => ⟨S2048x4096, .f32⟩
  | 79 => ⟨S2048x4096, .f32⟩
  | 80 => ⟨S_, .f32⟩
  | 81 => ⟨S2048x4096, .f32⟩
  | 82 => ⟨S2048x4096, .f32⟩
  | 83 => ⟨S4096x1024, .f32⟩
  | 84 => ⟨S1024x4096, .f32⟩
  | 85 => ⟨S2048x1024, .f32⟩
  | 86 => ⟨S8x512x1024, .f32⟩
  | 87 => ⟨S_, .f32⟩
  | 88 => ⟨S1024, .f32⟩
  | 89 => ⟨S1x1024, .f32⟩
  | 90 => ⟨S2048x1024, .f32⟩
  | 91 => ⟨S_, .f32⟩
  | 92 => ⟨S1024, .f32⟩
  | 93 => ⟨S1x1024, .f32⟩
  | 94 => ⟨S2048x1024, .f32⟩
  | 95 => ⟨S2048x1024, .f32⟩
  | 96 => ⟨S2048x1024, .f32⟩
  | 97 => ⟨S_, .f32⟩
  | 98 => ⟨S1024, .f32⟩
  | 99 => ⟨S1x1024, .f32⟩
  | 100 => ⟨S2048x1024, .f32⟩
  | 101 => ⟨S2048x1024, .f32⟩
  | 102 => ⟨S2048x1024, .f32⟩
  | 103 => ⟨S_, .f32⟩
  | 104 => ⟨S2048, .f32⟩
  | 105 => ⟨S2048x1, .f32⟩
  | 106 => ⟨S2048x1024, .f32⟩
  | 107 => ⟨S2048x1024, .f32⟩
  | 108 => ⟨S2048x1024, .f32⟩
  | 109 => ⟨S2048x1, .f32⟩
  | 110 => ⟨S_, .f32⟩
  | 111 => ⟨S2048x1, .f32⟩
  | 112 => ⟨S2048x1, .f32⟩
  | 113 => ⟨S_, .f32⟩
  | 114 => ⟨S2048, .f32⟩
  | 115 => ⟨S2048x1024, .f32⟩
  | 116 => ⟨S2048x1024, .f32⟩
  | 117 => ⟨S2048x1024, .f32⟩
  | 118 => ⟨S2048x1024, .f32⟩
  | 119 => ⟨S2048x1024, .f32⟩
  | 120 => ⟨S1024x8x512, .f32⟩
  | 121 => ⟨S8x1024x512, .f32⟩
  | 122 => ⟨S2048x1024, .f32⟩
  | 123 => ⟨S2048x1024, .f32⟩
  | 124 => ⟨S2048x1024, .f32⟩
  | 125 => ⟨S_, .f32⟩
  | 126 => ⟨S1024, .f32⟩
  | 127 => ⟨S1x1024, .f32⟩
  | _ => ⟨S2304x1024, .f32⟩

abbrev hbmTy0_1 (i : Nat) : BufTy := match i % 128 with
  | 0 => ⟨S2048x1024, .bf16⟩
  | 1 => ⟨S8x1024x512, .bf16⟩
  | 2 => ⟨S8x1x1024x512, .bf16⟩
  | 3 => ⟨S8x1024x512, .bf16⟩
  | 4 => ⟨S8x1x1024x512, .bf16⟩
  | 5 => ⟨S8x1x1024x512, .bf16⟩
  | 6 => ⟨S8x2x1024x512, .bf16⟩
  | 7 => ⟨S8x512x1024, .bf16⟩
  | 8 => ⟨S8x1x512x1024, .bf16⟩
  | 9 => ⟨S8x512x1024, .bf16⟩
  | 10 => ⟨S8x1x512x1024, .bf16⟩
  | 11 => ⟨S8x1x512x1024, .bf16⟩
  | 12 => ⟨S8x2x512x1024, .bf16⟩
  | _ => ⟨S2304x1024, .f32⟩

abbrev hbmTy (i : Nat) : BufTy := match i / 128 with
  | 0 => hbmTy0_0 i
  | 1 => hbmTy0_1 i
  | _ => ⟨S2304x1024, .f32⟩

abbrev bufTy : (tb : Table) → Fin (tcTables nBuf tb) → BufTy
  | .hbm, ⟨i, _⟩ => hbmTy i
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call0_cst : Ref sig .tc := ⟨.hbm, 52, rfl⟩
abbrev main_call0_v0 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_7 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_8 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_9 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_10 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_11 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_12 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_13 : Ref sig .tc := ⟨.hbm, 110, rfl⟩
abbrev main_v82 : Ref sig .tc := ⟨.hbm, 111, rfl⟩
abbrev main_v83 : Ref sig .tc := ⟨.hbm, 112, rfl⟩
abbrev main_cst_14 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_15 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩

abbrev nD : Nat := 1
abbrev τ : Topo := Topo.v7x

variable {F : FTy → Type} [FloatOps F]
-- ==== Kernel4.lean ====
abbrev S2048x1024 : Shape := ⟨2, ![2048, 1024]⟩
abbrev S1x1024 : Shape := ⟨2, ![1, 1024]⟩
abbrev S8x2x1024x512 : Shape := ⟨4, ![8, 2, 1024, 512]⟩
abbrev S8x2x512x1024 : Shape := ⟨4, ![8, 2, 512, 1024]⟩
abbrev S_ : Shape := ⟨0, ![]⟩
abbrev S8x1024 : Shape := ⟨2, ![8, 1024]⟩
abbrev S72x1024 : Shape := ⟨2, ![72, 1024]⟩
abbrev S2048x4096 : Shape := ⟨2, ![2048, 4096]⟩
abbrev S256x1024 : Shape := ⟨2, ![256, 1024]⟩
abbrev S8x1x1024x512 : Shape := ⟨4, ![8, 1, 1024, 512]⟩
abbrev S8x1x512x1024 : Shape := ⟨4, ![8, 1, 512, 1024]⟩
abbrev S256x4096 : Shape := ⟨2, ![256, 4096]⟩
abbrev S256 : Shape := ⟨1, ![256]⟩
abbrev S256x1 : Shape := ⟨2, ![256, 1]⟩
abbrev S1x1x1024x512 : Shape := ⟨4, ![1, 1, 1024, 512]⟩
abbrev S1024x512 : Shape := ⟨2, ![1024, 512]⟩
abbrev S256x512 : Shape := ⟨2, ![256, 512]⟩
abbrev S1x1x512x1024 : Shape := ⟨4, ![1, 1, 512, 1024]⟩
abbrev S512x1024 : Shape := ⟨2, ![512, 1024]⟩
abbrev S1024 : Shape := ⟨1, ![1024]⟩
abbrev S2048x512 : Shape := ⟨2, ![2048, 512]⟩
abbrev S8x1024x512 : Shape := ⟨3, ![8, 1024, 512]⟩
abbrev S8x512x1024 : Shape := ⟨3, ![8, 512, 1024]⟩

abbrev nBuf : Space → Nat
  | .hbm => 46
  | .vmem => 51
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S8x2x1024x512, .bf16⟩
  | .hbm, ⟨9, _⟩ => ⟨S8x2x512x1024, .bf16⟩
  | .hbm, ⟨10, _⟩ => ⟨S2048x1024, .f32⟩
  | .hbm, ⟨11, _⟩ => ⟨S_, .f32⟩
  | .hbm, ⟨12, _⟩ => ⟨S1x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S8x1024, .f32⟩
  | .hbm, ⟨20, _⟩ => ⟨S8x1024, .f32⟩
  | .hbm, ⟨21, _⟩ => ⟨S8x1024, .f32⟩
  | .hbm, ⟨22, _⟩ => ⟨S72x1024, .f32⟩
  | .hbm, ⟨23, _⟩ => ⟨S2048x1024, .f32⟩
  | .hbm, ⟨24, _⟩ => ⟨S2048x1024, .bf16⟩
  | .hbm, ⟨25, _⟩ => ⟨S2048x4096, .bf16⟩
  | .hbm, ⟨26, _⟩ => ⟨S2048x1024, .bf16⟩
  | .hbm, ⟨27, _⟩ => ⟨S2048x1024, .f32⟩
  | .hbm, ⟨28, _⟩ => ⟨S2048x1024, .bf16⟩
  | .hbm, ⟨29, _⟩ => ⟨S2048x1024, .f32⟩
  | .hbm, ⟨30, _⟩ => ⟨S2048x1024, .bf16⟩
  | .hbm, ⟨31, _⟩ => ⟨S2048x1024, .bf16⟩
  | .hbm, ⟨32, _⟩ => ⟨S2048x4096, .bf16⟩
  | .hbm, ⟨33, _⟩ => ⟨S8x1024, .f32⟩
  | .hbm, ⟨34, _⟩ => ⟨S8x2x1024x512, .bf16⟩
  | .hbm, ⟨35, _⟩ => ⟨S8x2x512x1024, .bf16⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S8x1x1024x512, .bf16⟩
  | .hbm, ⟨43, _⟩ => ⟨S8x1024x512, .bf16⟩
  | .hbm, ⟨44, _⟩ => ⟨S8x1x512x1024, .bf16⟩
  | .hbm, ⟨45, _⟩ => ⟨S8x512x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S72x1024, .f32⟩
  | .local _ .vmem, ⟨5, _⟩ => ⟨S8x1x1024x512, .bf16⟩
  | .local _ .vmem, ⟨6, _⟩ => ⟨S8x1x512x1024, .bf16⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S256x4096, .bf16⟩
  | .local _ .vmem, ⟨12, _⟩ => ⟨S256x4096, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x4096, .bf16⟩
  | .local _ .vmem, ⟨24, _⟩ => ⟨S256x4096, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .f32⟩
  | .local _ .vmem, ⟨28, _⟩ => ⟨S256x1024, .f32⟩
  | .local _ .vmem, ⟨29, _⟩ => ⟨S72x1024, .f32⟩
  | .local _ .vmem, ⟨30, _⟩ => ⟨S8x1x1024x512, .bf16⟩
  | .local _ .vmem, ⟨31, _⟩ => ⟨S8x1x512x1024, .bf16⟩
  | .local _ .vmem, ⟨32, _⟩ => ⟨S256x1024, .f32⟩
  | .local _ .vmem, ⟨33, _⟩ => ⟨S256x1024, .f32⟩
  | .local _ .vmem, ⟨34, _⟩ => ⟨S256x1024, .bf16⟩
  | .local _ .vmem, ⟨35, _⟩ => ⟨S256x1024, .bf16⟩
  | .local _ .vmem, ⟨36, _⟩ => ⟨S256x1024, .bf16⟩
  | .local _ .vmem, ⟨37, _⟩ => ⟨S256x1024, .bf16⟩
  | .local _ .vmem, ⟨38, _⟩ => ⟨S256x4096, .bf16⟩
  | .local _ .vmem, ⟨39, _⟩ => ⟨S256x4096, .bf16⟩
  | .local _ .vmem, ⟨40, _⟩ => ⟨S8x1024, .f32⟩
  | .local _ .vmem, ⟨41, _⟩ => ⟨S2048x1024, .bf16⟩
  | .local _ .vmem, ⟨42, _⟩ => ⟨S2048x512, .bf16⟩
  | .local _ .vmem, ⟨43, _⟩ => ⟨S2048x512, .bf16⟩
  | .local _ .vmem, ⟨44, _⟩ => ⟨S1x1x1024x512, .bf16⟩
  | .local _ .vmem, ⟨45, _⟩ => ⟨S1x1x1024x512, .bf16⟩
  | .local _ .vmem, ⟨46, _⟩ => ⟨S2048x512, .bf16⟩
  | .local _ .vmem, ⟨47, _⟩ => ⟨S2048x512, .bf16⟩
  | .local _ .vmem, ⟨48, _⟩ => ⟨S2048x1024, .bf16⟩
  | .local _ .vmem, ⟨49, _⟩ => ⟨S1x1x512x1024, .bf16⟩
  | .local _ .vmem, ⟨50, _⟩ => ⟨S1x1x512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev main_v11_4 : Ref sig .tc := ⟨.hbm, 27, rfl⟩
abbrev main_v11_5 : Ref sig .tc := ⟨.hbm, 28, rfl⟩
abbrev main_v12_0 : Ref sig .tc := ⟨.hbm, 29, rfl⟩
abbrev main_v12_1 : Ref sig .tc := ⟨.hbm, 30, rfl⟩
abbrev main_v12_2 : Ref sig .tc := ⟨.hbm, 31, rfl⟩
abbrev main_v12_3 : Ref sig .tc := ⟨.hbm, 32, rfl⟩
abbrev main_v12_4 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg7_0 : Ref sig .tc := ⟨.vmem, 31, rfl⟩
abbrev cc1_stg8_0 : Ref sig .tc := ⟨.vmem, 32, rfl⟩
abbrev cc1_stg8_1 : Ref sig .tc := ⟨.vmem, 33, rfl⟩
abbrev cc1_stg9_0 : Ref sig .tc := ⟨.vmem, 34, rfl⟩
abbrev cc1_stg9_1 : Ref sig .tc := ⟨.vmem, 35, rfl⟩
abbrev cc1_stg10_0 : Ref sig .tc := ⟨.vmem, 36, rfl⟩
abbrev cc1_stg10_1 : Ref sig .tc := ⟨.vmem, 37, rfl⟩
abbrev cc1_stg11_0 : Ref sig .tc := ⟨.vmem, 38, rfl⟩
abbrev cc1_stg11_1 : Ref sig .tc := ⟨.vmem, 39, rfl⟩
abbrev cc1_stg12_0 : Ref sig .tc := ⟨.vmem, 40, rfl⟩
abbrev cc2_stg0_0 : Ref sig .tc := ⟨.vmem, 41, rfl⟩
abbrev cc2_stg1_0 : Ref sig .tc := ⟨.vmem, 42, rfl⟩
abbrev cc2_stg1_1 : Ref sig .tc := ⟨.vmem, 43, rfl⟩
abbrev cc2_stg2_0 : Ref sig .tc := ⟨.vmem, 44, rfl⟩
abbrev cc2_stg2_1 : Ref sig .tc := ⟨.vmem, 45, rfl⟩
abbrev cc3_stg0_0 : Ref sig .tc := ⟨.vmem, 46, rfl⟩
abbrev cc3_stg0_1 : Ref sig .tc := ⟨.vmem, 47, rfl⟩
abbrev cc3_stg1_0 : Ref sig .tc := ⟨.vmem, 48, rfl⟩
abbrev cc3_stg2_0 : Ref sig .tc := ⟨.vmem, 49, rfl⟩
abbrev cc3_stg2_1 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem3_1 : DmaSem sig := 26
abbrev cc1_sem4_0 : DmaSem sig := 27
abbrev cc1_sem4_1 : DmaSem sig := 28
abbrev cc1_sem5_0 : DmaSem sig := 29
abbrev cc1_sem6_0 : DmaSem sig := 30
abbrev cc1_sem7_0 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc2_sem0_0 : DmaSem sig := 41
abbrev cc2_sem1_0 : DmaSem sig := 42
abbrev cc2_sem1_1 : DmaSem sig := 43
abbrev cc2_sem2_0 : DmaSem sig := 44
abbrev cc2_sem2_1 : DmaSem sig := 45
abbrev cc3_sem0_0 : DmaSem sig := 46
abbrev cc3_sem0_1 : DmaSem sig := 47
abbrev cc3_sem1_0 : DmaSem sig := 48
abbrev cc3_sem2_0 : DmaSem sig := 49
abbrev cc3_sem2_1 : DmaSem sig := 50

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S72x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc1_transform_7 (i : grid1.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S72x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x1x1024x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S8x1x512x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x4096 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S8x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

abbrev stage2_0 : Fin 1 → Memref sig .tc .vmem S2048x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

abbrev stage3_0 : Fin 2 → Memref sig .tc .vmem S2048x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1x1x512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]
-- ==== Reference4Ideal.lean ====
abbrev S2048x1024 : Shape := ⟨2, ![2048, 1024]⟩
abbrev S1x1024 : Shape := ⟨2, ![1, 1024]⟩
abbrev S8x2x1024x512 : Shape := ⟨4, ![8, 2, 1024, 512]⟩
abbrev S8x2x512x1024 : Shape := ⟨4, ![8, 2, 512, 1024]⟩
abbrev S8x1x1024x512 : Shape := ⟨4, ![8, 1, 1024, 512]⟩
abbrev S8x1024x512 : Shape := ⟨3, ![8, 1024, 512]⟩
abbrev S8x1x512x1024 : Shape := ⟨4, ![8, 1, 512, 1024]⟩
abbrev S8x512x1024 : Shape := ⟨3, ![8, 512, 1024]⟩
abbrev S1024x8x512 : Shape := ⟨3, ![1024, 8, 512]⟩
abbrev S1024x4096 : Shape := ⟨2, ![1024, 4096]⟩
abbrev S_ : Shape := ⟨0, ![]⟩
abbrev S2048 : Shape := ⟨1, ![2048]⟩
abbrev S2048x1 : Shape := ⟨2, ![2048, 1]⟩
abbrev S4096x1024 : Shape := ⟨2, ![4096, 1024]⟩
abbrev S2048x4096 : Shape := ⟨2, ![2048, 4096]⟩
abbrev S1024 : Shape := ⟨1, ![1024]⟩

abbrev nBuf : Space → Nat
  | .hbm => 131
  | .vmem => 0
  | .smem => 0
  | _ => 0

abbrev hbmTy0_0 (i : Nat) : BufTy := match i % 128 with
  | 0 => ⟨S2048x1024, .f32⟩
  | 1 => ⟨S2048x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1x1024, .f32⟩
  | 8 => ⟨S8x2x1024x512, .bf16⟩
  | 9 => ⟨S8x2x512x1024, .bf16⟩
  | 10 => ⟨S2048x1024, .f32⟩
  | 11 => ⟨S8x1x1024x512, .bf16⟩
  | 12 => ⟨S8x1024x512, .bf16⟩
  | 13 => ⟨S8x1024x512, .f32⟩
  | 14 => ⟨S8x1x512x1024, .bf16⟩
  | 15 => ⟨S8x512x1024, .bf16⟩
  | 16 => ⟨S8x512x1024, .f32⟩
  | 17 => ⟨S2048x1024, .f32⟩
  | 18 => ⟨S2048x1024, .f32⟩
  | 19 => ⟨S2048x1024, .f32⟩
  | 20 => ⟨S2048x1024, .f32⟩
  | 21 => ⟨S2048x1024, .f32⟩
  | 22 => ⟨S1024x8x512, .f32⟩
  | 23 => ⟨S1024x4096, .f32⟩
  | 24 => ⟨S2048x1024, .f32⟩
  | 25 => ⟨S_, .f32⟩
  | 26 => ⟨S2048, .f32⟩
  | 27 => ⟨S2048x1, .f32⟩
  | 28 => ⟨S_, .f32⟩
  | 29 => ⟨S2048x1, .f32⟩
  | 30 => ⟨S2048x1, .f32⟩
  | 31 => ⟨S_, .f32⟩
  | 32 => ⟨S2048x1, .f32⟩
  | 33 => ⟨S2048x1, .f32⟩
  | 34 => ⟨S2048x1, .f32⟩
  | 35 => ⟨S2048x1, .f32⟩
  | 36 => ⟨S_, .f32⟩
  | 37 => ⟨S2048x1, .f32⟩
  | 38 => ⟨S2048x1, .f32⟩
  | 39 => ⟨S2048x1024, .f32⟩
  | 40 => ⟨S2048x1024, .f32⟩
  | 41 => ⟨S2048x1024, .f32⟩
  | 42 => ⟨S2048x1024, .f32⟩
  | 43 => ⟨S_, .f32⟩
  | 44 => ⟨S1x1024, .f32⟩
  | 45 => ⟨S1x1024, .f32⟩
  | 46 => ⟨S2048x1024, .f32⟩
  | 47 => ⟨S2048x1024, .f32⟩
  | 48 => ⟨S2048x1024, .f32⟩
  | 49 => ⟨S2048x1024, .f32⟩
  | 50 => ⟨S4096x1024, .f32⟩
  | 51 => ⟨S2048x4096, .f32⟩
  | 52 => ⟨S_, .f32⟩
  | 53 => ⟨S2048x4096, .f32⟩
  | 54 => ⟨S2048x4096, .f32⟩
  | 55 => ⟨S_, .f32⟩
  | 56 => ⟨S2048x4096, .f32⟩
  | 57 => ⟨S2048x4096, .i1⟩
  | 58 => ⟨S_, .f32⟩
  | 59 => ⟨S2048x4096, .f32⟩
  | 60 => ⟨S2048x4096, .f32⟩
  | 61 => ⟨S_, .f32⟩
  | 62 => ⟨S2048x4096, .f32⟩
  | 63 => ⟨S2048x4096, .f32⟩
  | 64 => ⟨S2048x1024, .f32⟩
  | 65 => ⟨S2048x1024, .f32⟩
  | 66 => ⟨S2048x1024, .f32⟩
  | 67 => ⟨S2048x1024, .f32⟩
  | 68 => ⟨S2048x1024, .f32⟩
  | 69 => ⟨S2048x1024, .f32⟩
  | 70 => ⟨S2048x1024, .f32⟩
  | 71 => ⟨S2048x1024, .f32⟩
  | 72 => ⟨S2048x1024, .f32⟩
  | 73 => ⟨S_, .f32⟩
  | 74 => ⟨S1024, .f32⟩
  | 75 => ⟨S1x1024, .f32⟩
  | 76 => ⟨S1024x4096, .f32⟩
  | 77 => ⟨S4096x1024, .f32⟩
  | 78 => ⟨S2048x4096, .f32⟩
  | 79 => ⟨S2048x4096, .f32⟩
  | 80 => ⟨S_, .f32⟩
  | 81 => ⟨S2048x4096, .f32⟩
  | 82 => ⟨S2048x4096, .f32⟩
  | 83 => ⟨S4096x1024, .f32⟩
  | 84 => ⟨S1024x4096, .f32⟩
  | 85 => ⟨S2048x1024, .f32⟩
  | 86 => ⟨S8x512x1024, .f32⟩
  | 87 => ⟨S_, .f32⟩
  | 88 => ⟨S1024, .f32⟩
  | 89 => ⟨S1x1024, .f32⟩
  | 90 => ⟨S2048x1024, .f32⟩
  | 91 => ⟨S_, .f32⟩
  | 92 => ⟨S1024, .f32⟩
  | 93 => ⟨S1x1024, .f32⟩
  | 94 => ⟨S2048x1024, .f32⟩
  | 95 => ⟨S2048x1024, .f32⟩
  | 96 => ⟨S2048x1024, .f32⟩
  | 97 => ⟨S_, .f32⟩
  | 98 => ⟨S1024, .f32⟩
  | 99 => ⟨S1x1024, .f32⟩
  | 100 => ⟨S2048x1024, .f32⟩
  | 101 => ⟨S2048x1024, .f32⟩
  | 102 => ⟨S2048x1024, .f32⟩
  | 103 => ⟨S_, .f32⟩
  | 104 => ⟨S2048, .f32⟩
  | 105 => ⟨S2048x1, .f32⟩
  | 106 => ⟨S2048x1024, .f32⟩
  | 107 => ⟨S2048x1024, .f32⟩
  | 108 => ⟨S2048x1024, .f32⟩
  | 109 => ⟨S2048x1, .f32⟩
  | 110 => ⟨S_, .f32⟩
  | 111 => ⟨S2048x1, .f32⟩
  | 112 => ⟨S2048x1, .f32⟩
  | 113 => ⟨S_, .f32⟩
  | 114 => ⟨S2048, .f32⟩
  | 115 => ⟨S2048x1024, .f32⟩
  | 116 => ⟨S2048x1024, .f32⟩
  | 117 => ⟨S2048x1024, .f32⟩
  | 118 => ⟨S2048x1024, .f32⟩
  | 119 => ⟨S2048x1024, .f32⟩
  | 120 => ⟨S1024x8x512, .f32⟩
  | 121 => ⟨S8x1024x512, .f32⟩
  | 122 => ⟨S2048x1024, .f32⟩
  | 123 => ⟨S2048x1024, .f32⟩
  | 124 => ⟨S2048x1024, .f32⟩
  | 125 => ⟨S_, .f32⟩
  | 126 => ⟨S1024, .f32⟩
  | 127 => ⟨S1x1024, .f32⟩
  | _ => ⟨S2048x1024, .f32⟩

abbrev hbmTy0_1 (i : Nat) : BufTy := match i % 128 with
  | 0 => ⟨S2048x1024, .bf16⟩
  | 1 => ⟨S8x1024x512, .bf16⟩
  | 2 => ⟨S8x512x1024, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call0_cst : Ref sig .tc := ⟨.hbm, 52, rfl⟩
abbrev main_call0_v0 : Ref sig .tc := ⟨.hbm, 53, rfl⟩
abbrev main_v36 : Ref sig .tc := ⟨.hbm, 54, rfl⟩
abbrev main_cst_4 : Ref sig .tc := ⟨.hbm, 55, rfl⟩
abbrev main_v37 : Ref sig .tc := ⟨.hbm, 56, rfl⟩
abbrev main_v38 : Ref sig .tc := ⟨.hbm, 57, rfl⟩
abbrev main_cst_5 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_7 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_8 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_9 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_10 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_11 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_12 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_13 : Ref sig .tc := ⟨.hbm, 110, rfl⟩
abbrev main_v83 : Ref sig .tc := ⟨.hbm, 111, rfl⟩
abbrev main_v84 : Ref sig .tc := ⟨.hbm, 112, rfl⟩
abbrev main_cst_14 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_15 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩

abbrev nD : Nat := 1
abbrev τ : Topo := Topo.v7x

variable {F : FTy → Type} [FloatOps F]
-- ==== Kernel5.lean ====
abbrev S2304x1280 : Shape := ⟨2, ![2304, 1280]⟩
abbrev S2304x2560 : Shape := ⟨2, ![2304, 2560]⟩
abbrev S4x1280 : Shape := ⟨2, ![4, 1280]⟩
abbrev S1x1280 : Shape := ⟨2, ![1, 1280]⟩
abbrev S2304x256 : Shape := ⟨2, ![2304, 256]⟩
abbrev S4x256 : Shape := ⟨2, ![4, 256]⟩
abbrev S1x256 : Shape := ⟨2, ![1, 256]⟩
abbrev S2336x256 : Shape := ⟨2, ![2336, 256]⟩
abbrev S16x256 : Shape := ⟨2, ![16, 256]⟩
abbrev S256x256 : Shape := ⟨2, ![256, 256]⟩
abbrev S256 : Shape := ⟨1, ![256]⟩
abbrev S2048x256 : Shape := ⟨2, ![2048, 256]⟩

abbrev nBuf : Space → Nat
  | .hbm => 8
  | .vmem => 18
  | .smem => 0
  | _ => 0

abbrev bufTy : (tb : Table) → Fin (tcTables nBuf tb) → BufTy
  | .hbm, ⟨0, _⟩ => ⟨S2304x1280, .f32⟩
  | .hbm, ⟨1, _⟩ => ⟨S2304x1280, .f32⟩
  | .hbm, ⟨2, _⟩ => ⟨S2304x1280, .f32⟩
  | .hbm, ⟨3, _⟩ => ⟨S2304x2560, .f32⟩
  | .hbm, ⟨4, _⟩ => ⟨S4x1280, .f32⟩
  | .hbm, ⟨5, _⟩ => ⟨S2304x1280, .bf16⟩
  | .hbm, ⟨6, _⟩ => ⟨S4x1280, .f32⟩
  | .hbm, ⟨7, _⟩ => ⟨S1x1280, .f32⟩
  | .local _ .vmem, ⟨0, _⟩ => ⟨S2304x256, .f32⟩
  | .local _ .vmem, ⟨1, _⟩ => ⟨S2304x256, .f32⟩
  | .local _ .vmem, ⟨2, _⟩ => ⟨S2304x256, .f32⟩
  | .local _ .vmem, ⟨3, _⟩ => ⟨S2304x256, .f32⟩
  | .local _ .vmem, ⟨4, _⟩ => ⟨S2304x256, .f32⟩
  | .local _ .vmem, ⟨5, _⟩ => ⟨S2304x256, .f32⟩
  | .local _ .vmem, ⟨6, _⟩ => ⟨S2304x256, .f32⟩
  | .local _ .vmem, ⟨7, _⟩ => ⟨S2304x256, .f32⟩
  | .local _ .vmem, ⟨8, _⟩ => ⟨S4x256, .f32⟩
  | .local _ .vmem, ⟨9, _⟩ => ⟨S4x256, .f32⟩
  | .local _ .vmem, ⟨10, _⟩ => ⟨S2304x256, .bf16⟩
  | .local _ .vmem, ⟨11, _⟩ => ⟨S2304x256, .bf16⟩
  | .local _ .vmem, ⟨12, _⟩ => ⟨S4x256, .f32⟩
  | .local _ .vmem, ⟨13, _⟩ => ⟨S4x256, .f32⟩
  | .local _ .vmem, ⟨14, _⟩ => ⟨S1x256, .f32⟩
  | .local _ .vmem, ⟨15, _⟩ => ⟨S1x256, .f32⟩
  | .local _ .vmem, ⟨16, _⟩ => ⟨S2336x256, .f32⟩
  | .local _ .vmem, ⟨17, _⟩ => ⟨S2304x256, .f32⟩
  | _, _ => ⟨S2304x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c5_i32 : BitVec 32 := 5#32
  let v0 : BitVec 32 := Scalar.addi arg0 c5_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2304x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2304x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2304x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2304x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2304x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S2304x1280 : Shape := ⟨2, ![2304, 1280]⟩
abbrev S2304x2560 : Shape := ⟨2, ![2304, 2560]⟩
abbrev S4x1280 : Shape := ⟨2, ![4, 1280]⟩
abbrev S_ : Shape := ⟨0, ![]⟩
abbrev S1x1280 : Shape := ⟨2, ![1, 1280]⟩
abbrev S256x1280 : Shape := ⟨2, ![256, 1280]⟩
abbrev S2x1280 : Shape := ⟨2, ![2, 1280]⟩
abbrev S259x1280 : Shape := ⟨2, ![259, 1280]⟩
abbrev S1x256x1280 : Shape := ⟨3, ![1, 256, 1280]⟩
abbrev S4x256x1280 : Shape := ⟨3, ![4, 256, 1280]⟩
abbrev S4x1x1280 : Shape := ⟨3, ![4, 1, 1280]⟩
abbrev S2048x1280 : Shape := ⟨2, ![2048, 1280]⟩
abbrev S2051x1280 : Shape := ⟨2, ![2051, 1280]⟩
abbrev S1x2048x1280 : Shape := ⟨3, ![1, 2048, 1280]⟩
abbrev S4x2048x1280 : Shape := ⟨3, ![4, 2048, 1280]⟩
abbrev S1280 : Shape := ⟨1, ![1280]⟩

abbrev nBuf : Space → Nat
  | .hbm => 141
  | .vmem => 0
  | .smem => 0
  | _ => 0

abbrev hbmTy0_0 (i : Nat) : BufTy := match i % 128 with
  | 0 => ⟨S2304x1280, .f32⟩
  | 1 => ⟨S2304x1280, .f32⟩
  | 2 => ⟨S2304x1280, .f32⟩
  | 3 => ⟨S2304x2560, .f32⟩
  | 4 => ⟨S4x1280, .f32⟩
  | 5 => ⟨S2304x1280, .f32⟩
  | 6 => ⟨S_, .f32⟩
  | 7 => ⟨S1x1280, .f32⟩
  | 8 => ⟨S256x1280, .f32⟩
  | 9 => ⟨S_, .f32⟩
  | 10 => ⟨S1x1280, .f32⟩
  | 11 => ⟨S_, .f32⟩
  | 12 => ⟨S2x1280, .f32⟩
  | 13 => ⟨S259x1280, .f32⟩
  | 14 => ⟨S_, .f32⟩
  | 15 => ⟨S1x1280, .f32⟩
  | 16 => ⟨S_, .f32⟩
  | 17 => ⟨S2x1280, .f32⟩
  | 18 => ⟨S256x1280, .f32⟩
  | 19 => ⟨S256x1280, .f32⟩
  | 20 => ⟨S256x1280, .f32⟩
  | 21 => ⟨S256x1280, .f32⟩
  | 22 => ⟨S1x256x1280, .f32⟩
  | 23 => ⟨S1x256x1280, .f32⟩
  | 24 => ⟨S1x256x1280, .f32⟩
  | 25 => ⟨S1x256x1280, .f32⟩
  | 26 => ⟨S4x256x1280, .f32⟩
  | 27 => ⟨S4x1x1280, .f32⟩
  | 28 => ⟨S4x256x1280, .f32⟩
  | 29 => ⟨S4x256x1280, .f32⟩
  | 30 => ⟨S_, .f32⟩
  | 31 => ⟨S256x1280, .f32⟩
  | 32 => ⟨S256x1280, .f32⟩
  | 33 => ⟨S256x1280, .f32⟩
  | 34 => ⟨S2048x1280, .f32⟩
  | 35 => ⟨S_, .f32⟩
  | 36 => ⟨S1x1280, .f32⟩
  | 37 => ⟨S_, .f32⟩
  | 38 => ⟨S2x1280, .f32⟩
  | 39 => ⟨S2051x1280, .f32⟩
  | 40 => ⟨S_, .f32⟩
  | 41 => ⟨S1x1280, .f32⟩
  | 42 => ⟨S_, .f32⟩
  | 43 => ⟨S2x1280, .f32⟩
  | 44 => ⟨S2048x1280, .f32⟩
  | 45 => ⟨S2048x1280, .f32⟩
  | 46 => ⟨S2048x1280, .f32⟩
  | 47 => ⟨S2048x1280, .f32⟩
  | 48 => ⟨S1x2048x1280, .f32⟩
  | 49 => ⟨S1x2048x1280, .f32⟩
  | 50 => ⟨S1x2048x1280, .f32⟩
  | 51 => ⟨S1x2048x1280, .f32⟩
  | 52 => ⟨S4x2048x1280, .f32⟩
  | 53 => ⟨S4x1x1280, .f32⟩
  | 54 => ⟨S4x2048x1280, .f32⟩
  | 55 => ⟨S4x2048x1280, .f32⟩
  | 56 => ⟨S_, .f32⟩
  | 57 => ⟨S2048x1280, .f32⟩
  | 58 => ⟨S2048x1280, .f32⟩
  | 59 => ⟨S2048x1280, .f32⟩
  | 60 => ⟨S2304x1280, .f32⟩
  | 61 => ⟨S2304x1280, .f32⟩
  | 62 => ⟨S2304x1280, .f32⟩
  | 63 => ⟨S256x1280, .f32⟩
  | 64 => ⟨S2048x1280, .f32⟩
  | 65 => ⟨S_, .f32⟩
  | 66 => ⟨S1280, .f32⟩
  | 67 => ⟨S1x1280, .f32⟩
  | 68 => ⟨S4x2048x1280, .f32⟩
  | 69 => ⟨S4x2048x1280, .f32⟩
  | 70 => ⟨S_, .f32⟩
  | 71 => ⟨S4x1280, .f32⟩
  | 72 => ⟨S4x1x1280, .f32⟩
  | 73 => ⟨S4x2048x1280, .f32⟩
  | 74 => ⟨S4x2048x1280, .f32⟩
  | 75 => ⟨S_, .f32⟩
  | 76 => ⟨S4x1280, .f32⟩
  | 77 => ⟨S1x2048x1280, .f32⟩
  | 78 => ⟨S2048x1280, .f32⟩
  | 79 => ⟨S1x2048x1280, .f32⟩
  | 80 => ⟨S2048x1280, .f32⟩
  | 81 => ⟨S1x2048x1280, .f32⟩
  | 82 => ⟨S2048x1280, .f32⟩
  | 83 => ⟨S1x2048x1280, .f32⟩
  | 84 => ⟨S2048x1280, .f32⟩
  | 85 => ⟨S_, .f32⟩
  | 86 => ⟨S2051x1280, .f32⟩
  | 87 => ⟨S_, .f32⟩
  | 88 => ⟨S2051x1280, .f32⟩
  | 89 => ⟨S2051x1280, .f32⟩
  | 90 => ⟨S_, .f32⟩
  | 91 => ⟨S2051x1280, .f32⟩
  | 92 => ⟨S2051x1280, .f32⟩
  | 93 => ⟨S_, .f32⟩
  | 94 => ⟨S2051x1280, .f32⟩
  | 95 => ⟨S2051x1280, .f32⟩
  | 96 => ⟨S1x1280, .f32⟩
  | 97 => ⟨S2048x1280, .f32⟩
  | 98 => ⟨S2x1280, .f32⟩
  | 99 => ⟨S_, .f32⟩
  | 100 => ⟨S2304x1280, .f32⟩
  | 101 => ⟨S_, .f32⟩
  | 102 => ⟨S1280, .f32⟩
  | 103 => ⟨S1x1280, .f32⟩
  | 104 => ⟨S1x1280, .f32⟩
  | 105 => ⟨S4x256x1280, .f32⟩
  | 106 => ⟨S4x256x1280, .f32⟩
  | 107 => ⟨S_, .f32⟩
  | 108 => ⟨S4x1280, .f32⟩
  | 109 => ⟨S4x1x1280, .f32⟩
  | 110 => ⟨S4x256x1280, .f32⟩
  | 111 => ⟨S4x256x1280, .f32⟩
  | 112 => ⟨S_, .f32⟩
  | 113 => ⟨S4x1280, .f32⟩
  | 114 => ⟨S4x1280, .f32⟩
  | 115 => ⟨S1x256x1280, .f32⟩
  | 116 => ⟨S256x1280, .f32⟩
  | 117 => ⟨S1x256x1280, .f32⟩
  | 118 => ⟨S256x1280, .f32⟩
  | 119 => ⟨S1x256x1280, .f32⟩
  | 120 => ⟨S256x1280, .f32⟩
  | 121 => ⟨S1x256x1280, .f32⟩
  | 122 => ⟨S256x1280, .f32⟩
  | 123 => ⟨S_, .f32⟩
  | 124 => ⟨S259x1280, .f32⟩
  | 125 => ⟨S_, .f32⟩
  | 126 => ⟨S259x1280, .f32⟩
  | 127 => ⟨S259x1280, .f32⟩
  | _ => ⟨S2304x1280, .f32⟩

abbrev hbmTy0_1 (i : Nat) : BufTy := match i % 128 with
  | 0 => ⟨S_, .f32⟩
  | 1 => ⟨S259x1280, .f32⟩
  | 2 => ⟨S259x1280, .f32⟩
  | 3 => ⟨S_, .f32⟩
  | 4 => ⟨S259x1280, .f32⟩
  | 5 => ⟨S259x1280, .f32⟩
  | 6 => ⟨S1x1280, .f32⟩
  | 7 => ⟨S256x1280, .f32⟩
  | 8 => ⟨S2x1280, .f32⟩
  | 9 => ⟨S_, .f32⟩
  | 10 => ⟨S2304x1280, .f32⟩
  | 11 => ⟨S2304x1280, .f32⟩
  | 12 => ⟨S2304x1280, .bf16⟩
  | _ => ⟨S2304x1280, .f32⟩

abbrev hbmTy (i : Nat) : BufTy := match i / 128 with
  | 0 => hbmTy0_0 i
  | 1 => hbmTy0_1 i
  | _ => ⟨S2304x1280, .f32⟩

abbrev bufTy : (tb : Table) → Fin (tcTables nBuf tb) → BufTy
  | .hbm, ⟨i, _⟩ => hbmTy i
  | _, _ => ⟨S2304x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_cst_3 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_12 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_13 : Ref sig .tc := ⟨.hbm, 85, rfl⟩
abbrev main_v66 : Ref sig .tc := ⟨.hbm, 86, rfl⟩
abbrev main_cst_14 : Ref sig .tc := ⟨.hbm, 87, rfl⟩
abbrev main_v67 : Ref sig .tc := ⟨.hbm, 88, rfl⟩
abbrev main_v68 : Ref sig .tc := ⟨.hbm, 89, rfl⟩
abbrev main_cst_15 : Ref sig .tc := ⟨.hbm, 90, rfl⟩
abbrev main_v69 : Ref sig .tc := ⟨.hbm, 91, rfl⟩
abbrev main_v70 : Ref sig .tc := ⟨.hbm, 92, rfl⟩
abbrev main_cst_16 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_17 : Ref sig .tc := ⟨.hbm, 99, rfl⟩
abbrev main_v76 : Ref sig .tc := ⟨.hbm, 100, rfl⟩
abbrev main_cst_18 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_19 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_20 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_21 : Ref sig .tc := ⟨.hbm, 123, rfl⟩
abbrev main_v96 : Ref sig .tc := ⟨.hbm, 124, rfl⟩
abbrev main_cst_22 : Ref sig .tc := ⟨.hbm, 125, rfl⟩
abbrev main_v97 : Ref sig .tc := ⟨.hbm, 126, rfl⟩
abbrev main_v98 : Ref sig .tc := ⟨.hbm, 127, rfl⟩
abbrev main_cst_23 : Ref sig .tc := ⟨.hbm, 128, rfl⟩
abbrev main_v99 : Ref sig .tc := ⟨.hbm, 129, rfl⟩
abbrev main_v100 : Ref sig .tc := ⟨.hbm, 130, rfl⟩
abbrev main_cst_24 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_25 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩

abbrev nD : Nat := 1
abbrev τ : Topo := Topo.v7x

variable {F : FTy → Type} [FloatOps F]
-- ==== Kernel6.lean ====
abbrev S2304x1024 : Shape := ⟨2, ![2304, 1024]⟩
abbrev S1x1024 : Shape := ⟨2, ![1, 1024]⟩
abbrev S2x1024 : Shape := ⟨2, ![2, 1024]⟩
abbrev S1024x2560 : Shape := ⟨2, ![1024, 2560]⟩
abbrev S2304x2560 : Shape := ⟨2, ![2304, 2560]⟩
abbrev S256x1024 : Shape := ⟨2, ![256, 1024]⟩
abbrev S256x2560 : Shape := ⟨2, ![256, 2560]⟩
abbrev S256 : Shape := ⟨1, ![256]⟩
abbrev S256x1 : Shape := ⟨2, ![256, 1]⟩
abbrev S2304x512 : Shape := ⟨2, ![2304, 512]⟩
abbrev S512x512 : Shape := ⟨2, ![512, 512]⟩

abbrev nBuf : Space → Nat
  | .hbm => 11
  | .vmem => 20
  | .smem => 0
  | _ => 0

abbrev bufTy : (tb : Table) → Fin (tcTables nBuf tb) → BufTy
  | .hbm, ⟨0, _⟩ => ⟨S2304x1024, .f32⟩
  | .hbm, ⟨1, _⟩ => ⟨S2304x1024, .f32⟩
  | .hbm, ⟨2, _⟩ => ⟨S1x1024, .f32⟩
  | .hbm, ⟨3, _⟩ => ⟨S2x1024, .f32⟩
  | .hbm, ⟨4, _⟩ => ⟨S2x1024, .f32⟩
  | .hbm, ⟨5, _⟩ => ⟨S1024x2560, .bf16⟩
  | .hbm, ⟨6, _⟩ => ⟨S2304x2560, .bf16⟩
  | .hbm, ⟨7, _⟩ => ⟨S2304x1024, .f32⟩
  | .hbm, ⟨8, _⟩ => ⟨S2304x1024, .bf16⟩
  | .hbm, ⟨9, _⟩ => ⟨S2304x2560, .f32⟩
  | .hbm, ⟨10, _⟩ => ⟨S1024x2560, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S2x1024, .f32⟩
  | .local _ .vmem, ⟨6, _⟩ => ⟨S2x1024, .f32⟩
  | .local _ .vmem, ⟨7, _⟩ => ⟨S1024x2560, .bf16⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x2560, .f32⟩
  | .local _ .vmem, ⟨13, _⟩ => ⟨S256x2560, .f32⟩
  | .local _ .vmem, ⟨14, _⟩ => ⟨S2304x512, .bf16⟩
  | .local _ .vmem, ⟨15, _⟩ => ⟨S2304x512, .bf16⟩
  | .local _ .vmem, ⟨16, _⟩ => ⟨S2304x512, .bf16⟩
  | .local _ .vmem, ⟨17, _⟩ => ⟨S2304x512, .bf16⟩
  | .local _ .vmem, ⟨18, _⟩ => ⟨S512x512, .bf16⟩
  | .local _ .vmem, ⟨19, _⟩ => ⟨S512x512, .bf16⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2560 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨3, ![2, 5, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2304x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2304x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference6Ideal.lean ====
abbrev S2304x1024 : Shape := ⟨2, ![2304, 1024]⟩
abbrev S1x1024 : Shape := ⟨2, ![1, 1024]⟩
abbrev S2x1024 : Shape := ⟨2, ![2, 1024]⟩
abbrev S1024x2560 : Shape := ⟨2, ![1024, 2560]⟩
abbrev S2304x2560 : Shape := ⟨2, ![2304, 2560]⟩
abbrev S_ : Shape := ⟨0, ![]⟩
abbrev S2304 : Shape := ⟨1, ![2304]⟩
abbrev S2304x1 : Shape := ⟨2, ![2304, 1]⟩
abbrev S256x1024 : Shape := ⟨2, ![256, 1024]⟩
abbrev S2048x1024 : Shape := ⟨2, ![2048, 1024]⟩
abbrev S2560x1024 : Shape := ⟨2, ![2560, 1024]⟩

abbrev nBuf : Space → Nat
  | .hbm => 44
  | .vmem => 0
  | .smem => 0
  | _ => 0

abbrev bufTy : (tb : Table) → Fin (tcTables nBuf tb) → BufTy
  | .hbm, ⟨0, _⟩ => ⟨S2304x1024, .f32⟩
  | .hbm, ⟨1, _⟩ => ⟨S2304x1024, .f32⟩
  | .hbm, ⟨2, _⟩ => ⟨S1x1024, .f32⟩
  | .hbm, ⟨3, _⟩ => ⟨S2x1024, .f32⟩
  | .hbm, ⟨4, _⟩ => ⟨S2x1024, .f32⟩
  | .hbm, ⟨5, _⟩ => ⟨S1024x2560, .bf16⟩
  | .hbm, ⟨6, _⟩ => ⟨S2304x2560, .bf16⟩
  | .hbm, ⟨7, _⟩ => ⟨S2304x1024, .f32⟩
  | .hbm, ⟨8, _⟩ => ⟨S1024x2560, .f32⟩
  | .hbm, ⟨9, _⟩ => ⟨S2304x1024, .f32⟩
  | .hbm, ⟨10, _⟩ => ⟨S_, .f32⟩
  | .hbm, ⟨11, _⟩ => ⟨S2304, .f32⟩
  | .hbm, ⟨12, _⟩ => ⟨S2304x1, .f32⟩
  | .hbm, ⟨13, _⟩ => ⟨S_, .f32⟩
  | .hbm, ⟨14, _⟩ => ⟨S2304x1, .f32⟩
  | .hbm, ⟨15, _⟩ => ⟨S2304x1, .f32⟩
  | .hbm, ⟨16, _⟩ => ⟨S_, .f32⟩
  | .hbm, ⟨17, _⟩ => ⟨S2304x1, .f32⟩
  | .hbm, ⟨18, _⟩ => ⟨S2304x1, .f32⟩
  | .hbm, ⟨19, _⟩ => ⟨S2304x1, .f32⟩
  | .hbm, ⟨20, _⟩ => ⟨S2304x1024, .f32⟩
  | .hbm, ⟨21, _⟩ => ⟨S2304x1024, .f32⟩
  | .hbm, ⟨22, _⟩ => ⟨S2304x1024, .f32⟩
  | .hbm, ⟨23, _⟩ => ⟨S2304x1024, .f32⟩
  | .hbm, ⟨24, _⟩ => ⟨S1x1024, .f32⟩
  | .hbm, ⟨25, _⟩ => ⟨S256x1024, .f32⟩
  | .hbm, ⟨26, _⟩ => ⟨S1x1024, .f32⟩
  | .hbm, ⟨27, _⟩ => ⟨S2048x1024, .f32⟩
  | .hbm, ⟨28, _⟩ => ⟨S2304x1024, .f32⟩
  | .hbm, ⟨29, _⟩ => ⟨S1x1024, .f32⟩
  | .hbm, ⟨30, _⟩ => ⟨S256x1024, .f32⟩
  | .hbm, ⟨31, _⟩ => ⟨S1x1024, .f32⟩
  | .hbm, ⟨32, _⟩ => ⟨S2048x1024, .f32⟩
  | .hbm, ⟨33, _⟩ => ⟨S2304x1024, .f32⟩
  | .hbm, ⟨34, _⟩ => ⟨S_, .f32⟩
  | .hbm, ⟨35, _⟩ => ⟨S2304x1024, .f32⟩
  | .hbm, ⟨36, _⟩ => ⟨S2304x1024, .f32⟩
  | .hbm, ⟨37, _⟩ => ⟨S2304x1024, .f32⟩
  | .hbm, ⟨38, _⟩ => ⟨S2304x1024, .f32⟩
  | .hbm, ⟨39, _⟩ => ⟨S2304x2560, .f32⟩
  | .hbm, ⟨40, _⟩ => ⟨S2304x2560, .f32⟩
  | .hbm, ⟨41, _⟩ => ⟨S2560x1024, .f32⟩
  | .hbm, ⟨42, _⟩ => ⟨S1024x2560, .f32⟩
  | .hbm, ⟨43, _⟩ => ⟨S1024x2560, .bf16⟩
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel7.lean ====
abbrev S2048x1024 : Shape := ⟨2, ![2048, 1024]⟩
abbrev S1x2048 : Shape := ⟨2, ![1, 2048]⟩
abbrev S1024x2048 : Shape := ⟨2, ![1024, 2048]⟩
abbrev S1x1024 : Shape := ⟨2, ![1, 1024]⟩
abbrev S2048x2048 : Shape := ⟨2, ![2048, 2048]⟩
abbrev S256x1024 : Shape := ⟨2, ![256, 1024]⟩
abbrev S256x2048 : Shape := ⟨2, ![256, 2048]⟩
abbrev S1024 : Shape := ⟨1, ![1024]⟩
abbrev S256 : Shape := ⟨1, ![256]⟩
abbrev S256x1 : Shape := ⟨2, ![256, 1]⟩
abbrev S2048x512 : Shape := ⟨2, ![2048, 512]⟩
abbrev S512x512 : Shape := ⟨2, ![512, 512]⟩

abbrev nBuf : Space → Nat
  | .hbm => 18
  | .vmem => 35
  | .smem => 0
  | _ => 0

abbrev bufTy : (tb : Table) → Fin (tcTables nBuf tb) → BufTy
  | .hbm, ⟨0, _⟩ => ⟨S2048x1024, .bf16⟩
  | .hbm, ⟨1, _⟩ => ⟨S1x2048, .f32⟩
  | .hbm, ⟨2, _⟩ => ⟨S1024x2048, .bf16⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S2048x1024, .f32⟩
  | .hbm, ⟨10, _⟩ => ⟨S2048x2048, .bf16⟩
  | .hbm, ⟨11, _⟩ => ⟨S2048x2048, .bf16⟩
  | .hbm, ⟨12, _⟩ => ⟨S2048x1024, .f32⟩
  | .hbm, ⟨13, _⟩ => ⟨S1x2048, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1024x2048, .bf16⟩
  | .local _ .vmem, ⟨0, _⟩ => ⟨S256x1024, .bf16⟩
  | .local _ .vmem, ⟨1, _⟩ => ⟨S256x1024, .bf16⟩
  | .local _ .vmem, ⟨2, _⟩ => ⟨S1x2048, .f32⟩
  | .local _ .vmem, ⟨3, _⟩ => ⟨S1024x2048, .bf16⟩
  | .local _ .vmem, ⟨4, _⟩ => ⟨S256x1024, .f32⟩
  | .local _ .vmem, ⟨5, _⟩ => ⟨S256x1024, .f32⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x2048, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1024x2048, .bf16⟩
  | .local _ .vmem, ⟨21, _⟩ => ⟨S256x2048, .bf16⟩
  | .local _ .vmem, ⟨22, _⟩ => ⟨S256x2048, .bf16⟩
  | .local _ .vmem, ⟨23, _⟩ => ⟨S256x1024, .f32⟩
  | .local _ .vmem, ⟨24, _⟩ => ⟨S256x1024, .f32⟩
  | .local _ .vmem, ⟨25, _⟩ => ⟨S1x2048, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S2048x512, .bf16⟩
  | .local _ .vmem, ⟨30, _⟩ => ⟨S2048x512, .bf16⟩
  | .local _ .vmem, ⟨31, _⟩ => ⟨S2048x512, .bf16⟩
  | .local _ .vmem, ⟨32, _⟩ => ⟨S2048x512, .bf16⟩
  | .local _ .vmem, ⟨33, _⟩ => ⟨S512x512, .bf16⟩
  | .local _ .vmem, ⟨34, _⟩ => ⟨S512x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v1_4 : Ref sig .tc := ⟨.hbm, 15, rfl⟩
abbrev main_v1_5 : Ref sig .tc := ⟨.hbm, 16, rfl⟩
abbrev main_v2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg9_1 : Ref sig .tc := ⟨.vmem, 22, rfl⟩
abbrev cc1_stg10_0 : Ref sig .tc := ⟨.vmem, 23, rfl⟩
abbrev cc1_stg10_1 : Ref sig .tc := ⟨.vmem, 24, rfl⟩
abbrev cc1_stg11_0 : Ref sig .tc := ⟨.vmem, 25, rfl⟩
abbrev cc1_stg12_0 : Ref sig .tc := ⟨.vmem, 26, rfl⟩
abbrev cc1_stg13_0 : Ref sig .tc := ⟨.vmem, 27, rfl⟩
abbrev cc1_stg14_0 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg2_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem9_1 : DmaSem sig := 22
abbrev cc1_sem10_0 : DmaSem sig := 23
abbrev cc1_sem10_1 : DmaSem sig := 24
abbrev cc1_sem11_0 : DmaSem sig := 25
abbrev cc1_sem12_0 : DmaSem sig := 26
abbrev cc1_sem13_0 : DmaSem sig := 27
abbrev cc1_sem14_0 : DmaSem sig := 28
abbrev cc2_sem0_0 : DmaSem sig := 29
abbrev cc2_sem0_1 : DmaSem sig := 30
abbrev cc2_sem1_0 : DmaSem sig := 31
abbrev cc2_sem1_1 : DmaSem sig := 32
abbrev cc2_sem2_0 : DmaSem sig := 33
abbrev cc2_sem2_1 : DmaSem sig := 34

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_2 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_3 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x2048 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S256x2048 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 1 → Memref sig .tc .vmem S1x2048 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x1024 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev grid2 : Pipeline.Grid := ⟨3, ![2, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== Reference7Ideal.lean ====
abbrev S2048x1024 : Shape := ⟨2, ![2048, 1024]⟩
abbrev S1x2048 : Shape := ⟨2, ![1, 2048]⟩
abbrev S1024x2048 : Shape := ⟨2, ![1024, 2048]⟩
abbrev S1x1024 : Shape := ⟨2, ![1, 1024]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 99
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1x2048, .f32⟩
  | .hbm, ⟨2, _⟩ => ⟨S1024x2048, .bf16⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S2048x1024, .f32⟩
  | .hbm, ⟨10, _⟩ => ⟨S1024x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S2048x1024, .f32⟩
  | .hbm, ⟨37, _⟩ => ⟨S1024x2048, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S2048x1, .f32⟩
  | .hbm, ⟨50, _⟩ => ⟨S2048x1, .f32⟩
  | .hbm, ⟨51, _⟩ => ⟨S_, .f32⟩
  | .hbm, ⟨52, _⟩ => ⟨S2048x1, .f32⟩
  | .hbm, ⟨53, _⟩ => ⟨S2048x1, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S_, .f32⟩
  | .hbm, ⟨59, _⟩ => ⟨S1x1024, .f32⟩
  | .hbm, ⟨60, _⟩ => ⟨S1x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S2048x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S_, .f32⟩
  | .hbm, ⟨82, _⟩ => ⟨S2048, .f32⟩
  | .hbm, ⟨83, _⟩ => ⟨S2048x1, .f32⟩
  | .hbm, ⟨84, _⟩ => ⟨S2048x1024, .f32⟩
  | .hbm, ⟨85, _⟩ => ⟨S2048x1024, .f32⟩
  | .hbm, ⟨86, _⟩ => ⟨S2048x1, .f32⟩
  | .hbm, ⟨87, _⟩ => ⟨S_, .f32⟩
  | .hbm, ⟨88, _⟩ => ⟨S2048x1, .f32⟩
  | .hbm, ⟨89, _⟩ => ⟨S2048x1, .f32⟩
  | .hbm, ⟨90, _⟩ => ⟨S_, .f32⟩
  | .hbm, ⟨91, _⟩ => ⟨S2048, .f32⟩
  | .hbm, ⟨92, _⟩ => ⟨S2048x1024, .f32⟩
  | .hbm, ⟨93, _⟩ => ⟨S2048x1024, .f32⟩
  | .hbm, ⟨94, _⟩ => ⟨S2048x1024, .f32⟩
  | .hbm, ⟨95, _⟩ => ⟨S2048x1024, .f32⟩
  | .hbm, ⟨96, _⟩ => ⟨S2048x1024, .f32⟩
  | .hbm, ⟨97, _⟩ => ⟨S2048x1024, .f32⟩
  | .hbm, ⟨98, _⟩ => ⟨S1024x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_3 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_cst : Ref sig .tc := ⟨.hbm, 18, rfl⟩
abbrev main_call0_v4 : Ref sig .tc := ⟨.hbm, 19, rfl⟩
abbrev main_call0_v5 : Ref sig .tc := ⟨.hbm, 20, rfl⟩
abbrev main_call0_cst_0 : Ref sig .tc := ⟨.hbm, 21, rfl⟩
abbrev main_call0_v6 : Ref sig .tc := ⟨.hbm, 22, rfl⟩
abbrev main_v5_2 : Ref sig .tc := ⟨.hbm, 23, rfl⟩
abbrev main_call0_cst_1 : Ref sig .tc := ⟨.hbm, 24, rfl⟩
abbrev main_call0_v8 : Ref sig .tc := ⟨.hbm, 25, rfl⟩
abbrev main_call0_v9 : Ref sig .tc := ⟨.hbm, 26, rfl⟩
abbrev main_v5_1 : Ref sig .tc := ⟨.hbm, 27, rfl⟩
abbrev main_v5_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v6 : Ref sig .tc := ⟨.hbm, 32, rfl⟩
abbrev main_cst : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst_0 : Ref sig .tc := ⟨.hbm, 40, rfl⟩
abbrev main_v13 : Ref sig .tc := ⟨.hbm, 41, rfl⟩
abbrev main_v14 : Ref sig .tc := ⟨.hbm, 42, rfl⟩
abbrev main_cst_1 : Ref sig .tc := ⟨.hbm, 43, rfl⟩
abbrev main_v15 : Ref sig .tc := ⟨.hbm, 44, rfl⟩
abbrev main_v16 : Ref sig .tc := ⟨.hbm, 45, rfl⟩
abbrev main_cst_2 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_cst_3 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_4 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_5 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_cst_6 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_7 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_8 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_9 : Ref sig .tc := ⟨.hbm, 87, rfl⟩
abbrev main_v51 : Ref sig .tc := ⟨.hbm, 88, rfl⟩
abbrev main_v52 : Ref sig .tc := ⟨.hbm, 89, rfl⟩
abbrev main_cst_10 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩

abbrev nD : Nat := 1
abbrev τ : Topo := Topo.v7x

variable {F : FTy → Type} [FloatOps F]
-- ==== Kernel8.lean ====
abbrev S2304x2560 : Shape := ⟨2, ![2304, 2560]⟩
abbrev S2304x1280 : Shape := ⟨2, ![2304, 1280]⟩
abbrev S1280x1024 : Shape := ⟨2, ![1280, 1024]⟩
abbrev S2048x1024 : Shape := ⟨2, ![2048, 1024]⟩
abbrev S2048x1280 : Shape := ⟨2, ![2048, 1280]⟩
abbrev S256x1280 : Shape := ⟨2, ![256, 1280]⟩
abbrev S256x1024 : Shape := ⟨2, ![256, 1024]⟩
abbrev S2048x640 : Shape := ⟨2, ![2048, 640]⟩
abbrev S2048x512 : Shape := ⟨2, ![2048, 512]⟩
abbrev S640x512 : Shape := ⟨2, ![640, 512]⟩

abbrev nBuf : Space → Nat
  | .hbm => 8
  | .vmem => 17
  | .smem => 0
  | _ => 0

abbrev bufTy : (tb : Table) → Fin (tcTables nBuf tb) → BufTy
  | .hbm, ⟨0, _⟩ => ⟨S2304x2560, .f32⟩
  | .hbm, ⟨1, _⟩ => ⟨S2304x1280, .f32⟩
  | .hbm, ⟨2, _⟩ => ⟨S2304x1280, .f32⟩
  | .hbm, ⟨3, _⟩ => ⟨S1280x1024, .bf16⟩
  | .hbm, ⟨4, _⟩ => ⟨S2048x1024, .bf16⟩
  | .hbm, ⟨5, _⟩ => ⟨S2048x1280, .bf16⟩
  | .hbm, ⟨6, _⟩ => ⟨S2048x1024, .f32⟩
  | .hbm, ⟨7, _⟩ => ⟨S1280x1024, .bf16⟩
  | .local _ .vmem, ⟨0, _⟩ => ⟨S256x1280, .f32⟩
  | .local _ .vmem, ⟨1, _⟩ => ⟨S256x1280, .f32⟩
  | .local _ .vmem, ⟨2, _⟩ => ⟨S256x1280, .f32⟩
  | .local _ .vmem, ⟨3, _⟩ => ⟨S256x1280, .f32⟩
  | .local _ .vmem, ⟨4, _⟩ => ⟨S256x1280, .f32⟩
  | .local _ .vmem, ⟨5, _⟩ => ⟨S256x1280, .f32⟩
  | .local _ .vmem, ⟨6, _⟩ => ⟨S1280x1024, .bf16⟩
  | .local _ .vmem, ⟨7, _⟩ => ⟨S256x1280, .bf16⟩
  | .local _ .vmem, ⟨8, _⟩ => ⟨S256x1280, .bf16⟩
  | .local _ .vmem, ⟨9, _⟩ => ⟨S256x1024, .f32⟩
  | .local _ .vmem, ⟨10, _⟩ => ⟨S256x1024, .f32⟩
  | .local _ .vmem, ⟨11, _⟩ => ⟨S2048x640, .bf16⟩
  | .local _ .vmem, ⟨12, _⟩ => ⟨S2048x640, .bf16⟩
  | .local _ .vmem, ⟨13, _⟩ => ⟨S2048x512, .bf16⟩
  | .local _ .vmem, ⟨14, _⟩ => ⟨S2048x512, .bf16⟩
  | .local _ .vmem, ⟨15, _⟩ => ⟨S640x512, .bf16⟩
  | .local _ .vmem, ⟨16, _⟩ => ⟨S640x512, .bf16⟩
  | _, _ => ⟨S2304x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1280x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x640 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S640x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference8Ideal.lean ====
abbrev S2304x2560 : Shape := ⟨2, ![2304, 2560]⟩
abbrev S2304x1280 : Shape := ⟨2, ![2304, 1280]⟩
abbrev S1280x1024 : Shape := ⟨2, ![1280, 1024]⟩
abbrev S2048x1024 : Shape := ⟨2, ![2048, 1024]⟩
abbrev S2048x1280 : Shape := ⟨2, ![2048, 1280]⟩
abbrev S_ : Shape := ⟨0, ![]⟩
abbrev S1024x1280 : Shape := ⟨2, ![1024, 1280]⟩

abbrev nBuf : Space → Nat
  | .hbm => 33
  | .vmem => 0
  | .smem => 0
  | _ => 0

abbrev bufTy : (tb : Table) → Fin (tcTables nBuf tb) → BufTy
  | .hbm, ⟨0, _⟩ => ⟨S2304x2560, .f32⟩
  | .hbm, ⟨1, _⟩ => ⟨S2304x1280, .f32⟩
  | .hbm, ⟨2, _⟩ => ⟨S2304x1280, .f32⟩
  | .hbm, ⟨3, _⟩ => ⟨S1280x1024, .bf16⟩
  | .hbm, ⟨4, _⟩ => ⟨S2048x1024, .bf16⟩
  | .hbm, ⟨5, _⟩ => ⟨S1280x1024, .f32⟩
  | .hbm, ⟨6, _⟩ => ⟨S2048x1280, .f32⟩
  | .hbm, ⟨7, _⟩ => ⟨S2048x1280, .f32⟩
  | .hbm, ⟨8, _⟩ => ⟨S2048x1280, .f32⟩
  | .hbm, ⟨9, _⟩ => ⟨S_, .f32⟩
  | .hbm, ⟨10, _⟩ => ⟨S2048x1280, .f32⟩
  | .hbm, ⟨11, _⟩ => ⟨S2048x1280, .f32⟩
  | .hbm, ⟨12, _⟩ => ⟨S2048x1280, .f32⟩
  | .hbm, ⟨13, _⟩ => ⟨S_, .f32⟩
  | .hbm, ⟨14, _⟩ => ⟨S2048x1280, .f32⟩
  | .hbm, ⟨15, _⟩ => ⟨S2048x1280, .f32⟩
  | .hbm, ⟨16, _⟩ => ⟨S2048x1280, .f32⟩
  | .hbm, ⟨17, _⟩ => ⟨S_, .f32⟩
  | .hbm, ⟨18, _⟩ => ⟨S2048x1280, .f32⟩
  | .hbm, ⟨19, _⟩ => ⟨S2048x1280, .f32⟩
  | .hbm, ⟨20, _⟩ => ⟨S_, .f32⟩
  | .hbm, ⟨21, _⟩ => ⟨S2048x1280, .f32⟩
  | .hbm, ⟨22, _⟩ => ⟨S2048x1280, .f32⟩
  | .hbm, ⟨23, _⟩ => ⟨S2048x1280, .f32⟩
  | .hbm, ⟨24, _⟩ => ⟨S2048x1280, .f32⟩
  | .hbm, ⟨25, _⟩ => ⟨S2048x1280, .f32⟩
  | .hbm, ⟨26, _⟩ => ⟨S2048x1280, .f32⟩
  | .hbm, ⟨27, _⟩ => ⟨S2048x1280, .f32⟩
  | .hbm, ⟨28, _⟩ => ⟨S2048x1024, .f32⟩
  | .hbm, ⟨29, _⟩ => ⟨S2048x1024, .f32⟩
  | .hbm, ⟨30, _⟩ => ⟨S1024x1280, .f32⟩
  | .hbm, ⟨31, _⟩ => ⟨S1280x1024, .f32⟩
  | .hbm, ⟨32, _⟩ => ⟨S1280x1024, .bf16⟩
  | _, _ => ⟨S2304x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel9.lean ====
abbrev S2048x1024 : Shape := ⟨2, ![2048, 1024]⟩
abbrev S1x1024 : Shape := ⟨2, ![1, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S2048x512 : Shape := ⟨2, ![2048, 512]⟩
abbrev S512x512 : Shape := ⟨2, ![512, 512]⟩

abbrev nBuf : Space → Nat
  | .hbm => 8
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1024x1024, .bf16⟩
  | .hbm, ⟨4, _⟩ => ⟨S2048x1024, .bf16⟩
  | .hbm, ⟨5, _⟩ => ⟨S2048x1024, .bf16⟩
  | .hbm, ⟨6, _⟩ => ⟨S2048x1024, .f32⟩
  | .hbm, ⟨7, _⟩ => ⟨S1024x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .f32⟩
  | .local _ .vmem, ⟨8, _⟩ => ⟨S256x1024, .f32⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S512x512, .bf16⟩
  | .local _ .vmem, ⟨14, _⟩ => ⟨S512x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference9Ideal.lean ====
abbrev S2048x1024 : Shape := ⟨2, ![2048, 1024]⟩
abbrev S1x1024 : Shape := ⟨2, ![1, 1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩

abbrev nBuf : Space → Nat
  | .hbm => 45
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1024x1024, .bf16⟩
  | .hbm, ⟨4, _⟩ => ⟨S2048x1024, .bf16⟩
  | .hbm, ⟨5, _⟩ => ⟨S1024x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S1024x1024, .f32⟩
  | .hbm, ⟨43, _⟩ => ⟨S1024x1024, .f32⟩
  | .hbm, ⟨44, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]
-- ==== Kernel10.lean ====
abbrev S2304x1280 : Shape := ⟨2, ![2304, 1280]⟩
abbrev S2304x5120 : Shape := ⟨2, ![2304, 5120]⟩
abbrev S640x5120 : Shape := ⟨2, ![640, 5120]⟩
abbrev S768x2560 : Shape := ⟨2, ![768, 2560]⟩
abbrev S640x2560 : Shape := ⟨2, ![640, 2560]⟩
abbrev S768x640 : Shape := ⟨2, ![768, 640]⟩
abbrev S2304x640 : Shape := ⟨2, ![2304, 640]⟩
abbrev S640x640 : Shape := ⟨2, ![640, 640]⟩

abbrev nBuf : Space → Nat
  | .hbm => 5
  | .vmem => 12
  | .smem => 0
  | _ => 0

abbrev bufTy : (tb : Table) → Fin (tcTables nBuf tb) → BufTy
  | .hbm, ⟨0, _⟩ => ⟨S2304x1280, .bf16⟩
  | .hbm, ⟨1, _⟩ => ⟨S2304x5120, .bf16⟩
  | .hbm, ⟨2, _⟩ => ⟨S640x5120, .bf16⟩
  | .hbm, ⟨3, _⟩ => ⟨S2304x1280, .f32⟩
  | .hbm, ⟨4, _⟩ => ⟨S640x5120, .f32⟩
  | .local _ .vmem, ⟨0, _⟩ => ⟨S768x2560, .bf16⟩
  | .local _ .vmem, ⟨1, _⟩ => ⟨S768x2560, .bf16⟩
  | .local _ .vmem, ⟨2, _⟩ => ⟨S640x2560, .bf16⟩
  | .local _ .vmem, ⟨3, _⟩ => ⟨S640x2560, .bf16⟩
  | .local _ .vmem, ⟨4, _⟩ => ⟨S768x640, .f32⟩
  | .local _ .vmem, ⟨5, _⟩ => ⟨S768x640, .f32⟩
  | .local _ .vmem, ⟨6, _⟩ => ⟨S2304x640, .bf16⟩
  | .local _ .vmem, ⟨7, _⟩ => ⟨S2304x640, .bf16⟩
  | .local _ .vmem, ⟨8, _⟩ => ⟨S2304x640, .bf16⟩
  | .local _ .vmem, ⟨9, _⟩ => ⟨S2304x640, .bf16⟩
  | .local _ .vmem, ⟨10, _⟩ => ⟨S640x640, .f32⟩
  | .local _ .vmem, ⟨11, _⟩ => ⟨S640x640, .f32⟩
  | _, _ => ⟨S2304x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![3, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S640x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2304x640 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2304x640 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S640x640 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== Reference10Ideal.lean ====
abbrev S2304x1280 : Shape := ⟨2, ![2304, 1280]⟩
abbrev S2304x5120 : Shape := ⟨2, ![2304, 5120]⟩
abbrev S640x5120 : Shape := ⟨2, ![640, 5120]⟩
abbrev S640x2x2560 : Shape := ⟨3, ![640, 2, 2560]⟩
abbrev S2x640x2560 : Shape := ⟨3, ![2, 640, 2560]⟩
abbrev S2304x2x640 : Shape := ⟨3, ![2304, 2, 640]⟩
abbrev S2x2560x2304 : Shape := ⟨3, ![2, 2560, 2304]⟩
abbrev S2304x2x2560 : Shape := ⟨3, ![2304, 2, 2560]⟩
abbrev S2x2304x640 : Shape := ⟨3, ![2, 2304, 640]⟩
abbrev S2x2560x640 : Shape := ⟨3, ![2, 2560, 640]⟩

abbrev nBuf : Space → Nat
  | .hbm => 21
  | .vmem => 0
  | .smem => 0
  | _ => 0

abbrev bufTy : (tb : Table) → Fin (tcTables nBuf tb) → BufTy
  | .hbm, ⟨0, _⟩ => ⟨S2304x1280, .bf16⟩
  | .hbm, ⟨1, _⟩ => ⟨S2304x5120, .bf16⟩
  | .hbm, ⟨2, _⟩ => ⟨S640x5120, .bf16⟩
  | .hbm, ⟨3, _⟩ => ⟨S2304x1280, .f32⟩
  | .hbm, ⟨4, _⟩ => ⟨S640x5120, .f32⟩
  | .hbm, ⟨5, _⟩ => ⟨S640x2x2560, .f32⟩
  | .hbm, ⟨6, _⟩ => ⟨S2x640x2560, .f32⟩
  | .hbm, ⟨7, _⟩ => ⟨S2304x2x640, .f32⟩
  | .hbm, ⟨8, _⟩ => ⟨S2x2560x2304, .f32⟩
  | .hbm, ⟨9, _⟩ => ⟨S2304x2x2560, .f32⟩
  | .hbm, ⟨10, _⟩ => ⟨S2304x5120, .f32⟩
  | .hbm, ⟨11, _⟩ => ⟨S2304x5120, .f32⟩
  | .hbm, ⟨12, _⟩ => ⟨S2304x2x2560, .f32⟩
  | .hbm, ⟨13, _⟩ => ⟨S2x2560x2304, .f32⟩
  | .hbm, ⟨14, _⟩ => ⟨S2x2304x640, .f32⟩
  | .hbm, ⟨15, _⟩ => ⟨S2304x2x640, .f32⟩
  | .hbm, ⟨16, _⟩ => ⟨S2x2560x640, .f32⟩
  | .hbm, ⟨17, _⟩ => ⟨S2x640x2560, .f32⟩
  | .hbm, ⟨18, _⟩ => ⟨S2304x1280, .f32⟩
  | .hbm, ⟨19, _⟩ => ⟨S640x2x2560, .f32⟩
  | .hbm, ⟨20, _⟩ => ⟨S640x5120, .f32⟩
  | _, _ => ⟨S2304x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]
-- ==== Kernel11.lean ====
abbrev S2048x1024 : Shape := ⟨2, ![2048, 1024]⟩
abbrev S1x1024 : Shape := ⟨2, ![1, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 8
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1024x1024, .bf16⟩
  | .hbm, ⟨4, _⟩ => ⟨S2048x1024, .bf16⟩
  | .hbm, ⟨5, _⟩ => ⟨S2048x1024, .f32⟩
  | .hbm, ⟨6, _⟩ => ⟨S1x1024, .f32⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference11Ideal.lean ====
abbrev S2048x1024 : Shape := ⟨2, ![2048, 1024]⟩
abbrev S1x1024 : Shape := ⟨2, ![1, 1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 93
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1024x1024, .bf16⟩
  | .hbm, ⟨4, _⟩ => ⟨S2048x1024, .bf16⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S1024x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S2048x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S_, .f32⟩
  | .hbm, ⟨69, _⟩ => ⟨S2048, .f32⟩
  | .hbm, ⟨70, _⟩ => ⟨S2048x1, .f32⟩
  | .hbm, ⟨71, _⟩ => ⟨S2048x1024, .f32⟩
  | .hbm, ⟨72, _⟩ => ⟨S2048x1024, .f32⟩
  | .hbm, ⟨73, _⟩ => ⟨S2048x1, .f32⟩
  | .hbm, ⟨74, _⟩ => ⟨S_, .f32⟩
  | .hbm, ⟨75, _⟩ => ⟨S2048x1, .f32⟩
  | .hbm, ⟨76, _⟩ => ⟨S2048x1, .f32⟩
  | .hbm, ⟨77, _⟩ => ⟨S_, .f32⟩
  | .hbm, ⟨78, _⟩ => ⟨S2048, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S_, .f32⟩
  | .hbm, ⟨84, _⟩ => ⟨S2048, .f32⟩
  | .hbm, ⟨85, _⟩ => ⟨S2048x1, .f32⟩
  | .hbm, ⟨86, _⟩ => ⟨S_, .f32⟩
  | .hbm, ⟨87, _⟩ => ⟨S2048x1, .f32⟩
  | .hbm, ⟨88, _⟩ => ⟨S2048x1, .f32⟩
  | .hbm, ⟨89, _⟩ => ⟨S_, .f32⟩
  | .hbm, ⟨90, _⟩ => ⟨S2048, .f32⟩
  | .hbm, ⟨91, _⟩ => ⟨S2048x1024, .f32⟩
  | .hbm, ⟨92, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v25_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v25_1 : Ref sig .tc := ⟨.hbm, 48, rfl⟩
abbrev main_v25_0 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v30 : Ref sig .tc := ⟨.hbm, 57, rfl⟩
abbrev main_cst_6 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_7 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_8 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_9 : Ref sig .tc := ⟨.hbm, 74, rfl⟩
abbrev main_v44 : Ref sig .tc := ⟨.hbm, 75, rfl⟩
abbrev main_v45 : Ref sig .tc := ⟨.hbm, 76, rfl⟩
abbrev main_cst_10 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_11 : Ref sig .tc := ⟨.hbm, 83, rfl⟩
abbrev main_v51 : Ref sig .tc := ⟨.hbm, 84, rfl⟩
abbrev main_v52 : Ref sig .tc := ⟨.hbm, 85, rfl⟩
abbrev main_cst_12 : Ref sig .tc := ⟨.hbm, 86, rfl⟩
abbrev main_v53 : Ref sig .tc := ⟨.hbm, 87, rfl⟩
abbrev main_v54 : Ref sig .tc := ⟨.hbm, 88, rfl⟩
abbrev main_cst_13 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩

abbrev nD : Nat := 1
abbrev τ : Topo := Topo.v7x

variable {F : FTy → Type} [FloatOps F]
-- ==== Proof.FwdTrip.lean ====
/- The forward-direction scan's gradient kernel at a grid point, in closed form: the rows each trip of its loop writes
   and the value it hands on, as functions of the two blocks and of the value carried in. -/
module

public import proofs.«01_k».proof.Proof.Gen.KernelIdeal.Frame
public import proofs.«01_k».proof.Proof.Gen.KernelIdeal.Loops
public import Idealize.ShloMosaic.Lib.VecWindow

@[expose] public section

set_option maxRecDepth 16384

noncomputable section

namespace Cert.FwdTrip

open Idealize.ShloMosaic Idealize.SL.Sem Cert.KernelIdeal Cert.KernelIdeal.Gen

variable {F : FTy → Type} [FloatOps F]

abbrev rows : IVec S8x1280 32 := iota .tc S8x1280 32 [0] iota_S8x1280_d0_w32

/-- One trip's rows, from the two tiles it loads and the value carried in. -/
def tile (a v : FVec F S8x1280 .f32) (acc : FVec F S1x1280 .f32) : FVec F S8x1280 .f32 :=
  k0_pay2 acc (k0_pay7 rows a v) (k0_pay8 rows a) (k0_pay9 rows a v)

/-- The value one trip hands the next. -/
def next (a v : FVec F S8x1280 .f32) (acc : FVec F S1x1280 .f32) : FVec F S1x1280 .f32 :=
  k0_pay3 acc a (k0_pay7 rows a v) (k0_pay8 rows a) (k0_pay9 rows a v)

abbrev rect (k : Fin k0_t1_loop.trips) : Rect S256x1280 := Rect.unit (s := S256x1280) (k0_off1 k) S8x1280.size (k0_off1_inb k)

/-- The eight rows of a block that trip `k` loads. -/
def rowsAt (x : FVec F S256x1280 .f32) (k : Fin k0_t1_loop.trips) : FVec F S8x1280 .f32 := fun y => x ((rect k).emb y)

variable (𝒱 : Variants) (c : Dev nD) (bd : Option 𝒱.V) (i : grid0.Coords)
  (arg1 : Memref sig .tc .vmem S256x1280 .f32) (harg1 : arg1.IsWhole) (arg2 : Memref sig .tc .vmem S256x1280 .f32) (harg2 : arg2.IsWhole)
  (arg3 : Memref sig .tc .vmem S256x1280 .f32) (harg3 : arg3.IsWhole) (arg4 : Memref sig .tc .vmem S8x1280 .f32) (harg4 : arg4.IsWhole)
  (x1 x2 : FVec F S256x1280 .f32)

theorem tripR_eq (k : Fin k0_t1_loop.trips) (acc : FVec F S1x1280 .f32) :
    tripR_k0_t1 (F := F) 𝒱 c bd i arg1 harg1 arg2 harg2 arg3 harg3 arg4 harg4 rows (harg1.unread x1) (harg2.unread x2) k acc
      = next (rowsAt x1 k) (rowsAt x2 k) acc := by
  have e1 : arg1.view.readAt (Elt F) (rect k).toLoadRect (harg1.unread x1) = rowsAt x1 k :=
    funext fun y => congrFun (harg1.read_unread (Val := Elt F) x1) ((rect k).emb y)
  have e2 : arg2.view.readAt (Elt F) (rect k).toLoadRect (harg2.unread x2) = rowsAt x2 k :=
    funext fun y => congrFun (harg2.read_unread (Val := Elt F) x2) ((rect k).emb y)
  rw [← e1, ← e2]
  unfold tripR_k0_t1 trip_k0_t1
  rfl

theorem tripL_eq (k : Fin k0_t1_loop.trips) (acc : FVec F S1x1280 .f32) :
    tripL_k0_t1 (F := F) 𝒱 c bd i arg1 harg1 arg2 harg2 arg3 harg3 arg4 harg4 rows (harg1.unread x1) (harg2.unread x2) k acc
      = [(⟨rect k, tile (rowsAt x1 k) (rowsAt x2 k) acc⟩ : View.Piece (Elt F) S256x1280 .f32)] := by
  have e1 : arg1.view.readAt (Elt F) (rect k).toLoadRect (harg1.unread x1) = rowsAt x1 k :=
    funext fun y => congrFun (harg1.read_unread (Val := Elt F) x1) ((rect k).emb y)
  have e2 : arg2.view.readAt (Elt F) (rect k).toLoadRect (harg2.unread x2) = rowsAt x2 k :=
    funext fun y => congrFun (harg2.read_unread (Val := Elt F) x2) ((rect k).emb y)
  rw [← e1, ← e2]
  unfold tripL_k0_t1 trip_k0_t1
  rfl

/-- The value carried before trip `k`, and the pieces the trips before it wrote. -/
def carried (x1 x2 : FVec F S256x1280 .f32) (init : FVec F S1x1280 .f32) : ℕ → FVec F S1x1280 .f32
  | 0 => init
  | k + 1 => if h : k < k0_t1_loop.trips then next (rowsAt x1 ⟨k, h⟩) (rowsAt x2 ⟨k, h⟩) (carried x1 x2 init k) else carried x1 x2 init k

def pieces (x1 x2 : FVec F S256x1280 .f32) (init : FVec F S1x1280 .f32) : ℕ → List (View.Piece (Elt F) S256x1280 .f32)
  | 0 => []
  | k + 1 => if h : k < k0_t1_loop.trips then
      ⟨rect ⟨k, h⟩, tile (rowsAt x1 ⟨k, h⟩) (rowsAt x2 ⟨k, h⟩) (carried x1 x2 init k)⟩ :: pieces x1 x2 init k else pieces x1 x2 init k

theorem st_eq (init : FVec F S1x1280 .f32) (k : ℕ) (hk : k ≤ k0_t1_loop.trips) :
    st_k0_t1 (F := F) 𝒱 c bd i arg1 harg1 arg2 harg2 arg3 harg3 arg4 harg4 rows (harg1.unread x1) (harg2.unread x2) init k
      = (carried x1 x2 init k, pieces x1 x2 init k) := by
  induction k with
  | zero => rfl
  | succ k ih =>
    have h : k < k0_t1_loop.trips := hk
    have e := st_k0_t1_succ (F := F) 𝒱 c bd i arg1 harg1 arg2 harg2 arg3 harg3 arg4 harg4 rows (harg1.unread x1) (harg2.unread x2) init ⟨k, h⟩
    rw [tripR_eq, tripL_eq] at e
    refine e.trans ?_
    rw [ih (Nat.le_of_lt h)]
    simp only [carried, pieces, dif_pos h, List.cons_append, List.nil_append]

end Cert.FwdTrip

end
-- ==== Proof.FwdRun.lean ====
/- The forward-direction scan's gradient kernel run at a grid point (the first, which clears the carried row, and any
   other): the pieces it leaves in its output block and in the carried scratch. -/
module

public import proofs.«01_k».proof.Proof.FwdTrip
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.FwdRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 9 = 0 :=
  (fun t => by
    have ht : t.val < 9 := Nat.lt_of_lt_of_eq t.isLt N_0
    have e0 : (grid0.coords t 0).val = t.val / 1 % 9 := Pipeline.Grid.coords_val t 0 (by decide) rfl
    simp only [cond0_0, e0]
    word_cmp
   : ∀ t : Fin grid0.N, cond0_0 (grid0.coords t) ↔ t.val % 9 = 0)

/-! ## The kernel body on any staging memrefs: a subtype the run finds -/

/-- Each window's current staging memref at point `t`, spelled as the pipeline passes it (`bodyAt0`), and its wholeness. -/
abbrev ms0_0 (t : Fin cfg0.N) : Memref sig .tc .vmem S256x1280 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1280 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1280 .f32 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S8x1280 .f32 := Memref.whole cc0_scratch0
/-- The scratch `arg4` the kernel carries between points, as a view: what it holds is stated through it. -/
abbrev VS0_0 : View sig .tc .vmem S8x1280 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

-- the first point's run, which clears the carried scratch
set_option maxHeartbeats 1000000 in
def kernelRun0_A (c : Dev nD) (i : grid0.Coords) (arg1 : Memref sig .tc .vmem S256x1280 .f32) (harg1 : arg1.IsWhole) (arg2 : Memref sig .tc .vmem S256x1280 .f32) (harg2 : arg2.IsWhole) (arg3 : Memref sig .tc .vmem S256x1280 .f32) (harg3 : arg3.IsWhole) (arg4 : Memref sig .tc .vmem S8x1280 .f32) (harg4 : arg4.IsWhole) (hc0 : cond0_0 i)
    (x0 : Vec F S256x1280 .f32) (x1 : Vec F S256x1280 .f32) :
    Σ' (L2 : List (View.Piece (Elt F) S256x1280 .f32)), { LS0 : List (View.Piece (Elt F) S8x1280 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0_l0_scan_fwd_bwd i arg1 harg1 arg2 harg2 arg3 harg3 arg4 harg4) K } := by
  refine ⟨?_, ?_, fun E K => ?run⟩
  case run =>
    simp only [cc0_l0_scan_fwd_bwd_eq_skeleton]; unfold cc0_l0_scan_fwd_bwd_skel
    unfold owns
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact HS0

-- any other point's, over what the point before left
set_option maxHeartbeats 1000000 in
def kernelRun0_B (c : Dev nD) (i : grid0.Coords) (arg1 : Memref sig .tc .vmem S256x1280 .f32) (harg1 : arg1.IsWhole) (arg2 : Memref sig .tc .vmem S256x1280 .f32) (harg2 : arg2.IsWhole) (arg3 : Memref sig .tc .vmem S256x1280 .f32) (harg3 : arg3.IsWhole) (arg4 : Memref sig .tc .vmem S8x1280 .f32) (harg4 : arg4.IsWhole) (hc0 : ¬cond0_0 i)
    (x0 : Vec F S256x1280 .f32) (x1 : Vec F S256x1280 .f32) (xs0 : Vec F S8x1280 .f32) :
    Σ' (L2 : List (View.Piece (Elt F) S256x1280 .f32)), { LS0 : List (View.Piece (Elt F) S8x1280 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (arg4.view.loc (c : Thread nD τ) ↦[arg4.view.set]{fullShare} arg4.view.writes (Elt F) (harg4.unread xs0) LS0)) -∗ K ⟨⟩))
          ⊢ wp frame (wpE (defs₀ (F := F)) Variants.none c none) E (cc0_l0_scan_fwd_bwd i arg1 harg1 arg2 harg2 arg3 harg3 arg4 harg4) K } := by
  refine ⟨?_, ?_, fun E K => ?run⟩
  case run =>
    simp only [cc0_l0_scan_fwd_bwd_eq_skeleton]; unfold cc0_l0_scan_fwd_bwd_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexact HS0

end Cert.FwdRun

end
-- ==== Proof.FwdBlock.lean ====
/- What the forward-direction scan's gradient kernel leaves in its output block, index by index. -/
module

public import proofs.«01_k».proof.Proof.FwdRun
public import Idealize.ShloMosaic.Lib.Pointwise

@[expose] public section

set_option maxRecDepth 16384

noncomputable section

namespace Cert.FwdTrip

open Cert.KernelIdeal Cert.KernelIdeal.Gen Idealize.ShloMosaic Idealize.ShloMosaic.TcCoe

variable {F : FTy → Type} [FloatOps F]

theorem trips_eq : k0_t1_loop.trips = 32 := by decide

/-- The trip that writes a row of the block: the last rows first. -/
def tripOf (y : S256x1280.Idx) : Fin k0_t1_loop.trips :=
  ⟨31 - (y (0 : Fin 2)).val / 8, by rw [trips_eq]; omega⟩

/-- The block the point leaves. -/
def block (x0 x1 : FVec F S256x1280 .f32) (init : FVec F S1x1280 .f32) : FVec F S256x1280 .f32 := fun y =>
  tile (rowsAt x0 (tripOf y)) (rowsAt x1 (tripOf y)) (carried x0 x1 init (tripOf y).val)
    (ix2 (⟨(y (0 : Fin 2)).val % 8, by omega⟩ : Fin 8) (y (1 : Fin 2)))

variable (x0 x1 : FVec F S256x1280 .f32) (init : FVec F S1x1280 .f32)

theorem rect_emb_zero (k : Fin k0_t1_loop.trips) (x : S8x1280.Idx) :
    ((rect k).emb x (0 : Fin 2)).val = 248 - 8 * k.val + (x (0 : Fin 2)).val := by
  have h : k0_off1 k (0 : Fin 2) = 248 - 8 * k.val := congrFun (k0_off1_eq k) (0 : Fin 2)
  show k0_off1 k (0 : Fin 2) + 1 * (x (0 : Fin 2)).val = _
  rw [h, Nat.one_mul]

theorem rect_emb_one (k : Fin k0_t1_loop.trips) (x : S8x1280.Idx) :
    (rect k).emb x (1 : Fin 2) = x (1 : Fin 2) := by
  have h : k0_off1 k (1 : Fin 2) = 0 := congrFun (k0_off1_eq k) (1 : Fin 2)
  apply Fin.ext
  show k0_off1 k (1 : Fin 2) + 1 * (x (1 : Fin 2)).val = _
  rw [h, Nat.one_mul, Nat.zero_add]

theorem tripOf_emb (k : Fin k0_t1_loop.trips) (x : S8x1280.Idx) : tripOf ((rect k).emb x) = k := by
  apply Fin.ext
  show 31 - ((rect k).emb x (0 : Fin 2)).val / 8 = k.val
  rw [rect_emb_zero]
  have h1 : k.val < 32 := lt_of_lt_of_eq k.isLt trips_eq
  have h2 : (x (0 : Fin 2)).val < 8 := (x (0 : Fin 2)).isLt
  omega

theorem block_emb (k : Fin k0_t1_loop.trips) (x : S8x1280.Idx) :
    block x0 x1 init ((rect k).emb x) = tile (rowsAt x0 k) (rowsAt x1 k) (carried x0 x1 init k.val) x := by
  unfold block
  rw [tripOf_emb]
  refine congrArg _ (funext fun b => ?_)
  match b with
  | ⟨0, _⟩ =>
    apply Fin.ext
    show ((rect k).emb x (0 : Fin 2)).val % 8 = (x (0 : Fin 2)).val
    rw [rect_emb_zero]
    have h1 : k.val < 32 := lt_of_lt_of_eq k.isLt trips_eq
    have h2 : (x (0 : Fin 2)).val < 8 := (x (0 : Fin 2)).isLt
    omega
  | ⟨1, _⟩ => exact rect_emb_one k x

theorem pieces_agree (n : ℕ) : ∀ p ∈ pieces x0 x1 init n, ∀ x : p.1.shape.Idx, p.2 x = block x0 x1 init (p.1.emb x) := by
  induction n with
  | zero => exact fun p hp => absurd hp List.not_mem_nil
  | succ n ih =>
    intro p hp
    by_cases h : n < k0_t1_loop.trips
    · simp only [pieces, dif_pos h] at hp
      rcases List.mem_cons.mp hp with rfl | hp
      · exact fun x => (block_emb x0 x1 init ⟨n, h⟩ x).symm
      · exact ih p hp
    · simp only [pieces, dif_neg h] at hp
      exact ih p hp

theorem mem_pieces (n : ℕ) (k : Fin k0_t1_loop.trips) (hk : k.val < n) :
    (⟨rect k, tile (rowsAt x0 k) (rowsAt x1 k) (carried x0 x1 init k.val)⟩ : View.Piece (Elt F) S256x1280 .f32) ∈ pieces x0 x1 init n := by
  induction n with
  | zero => omega
  | succ n ih =>
    by_cases h : n < k0_t1_loop.trips
    · simp only [pieces, dif_pos h]
      by_cases e : k.val = n
      · subst e; exact List.mem_cons_self
      · exact List.mem_cons_of_mem _ (ih (by omega))
    · simp only [pieces, dif_neg h]
      exact ih (lt_of_lt_of_le k.isLt (not_lt.mp h))

theorem pieces_cover (y : S256x1280.Idx) : ∃ p ∈ pieces x0 x1 init k0_t1_loop.trips, y ∈ p.1.set := by
  refine ⟨_, mem_pieces x0 x1 init _ (tripOf y) (tripOf y).isLt, ?_⟩
  have hy : (rect (tripOf y)).emb (ix2 (⟨(y (0 : Fin 2)).val % 8, by omega⟩ : Fin 8) (y (1 : Fin 2))) = y := funext fun b => by
    match b with
    | ⟨0, _⟩ =>
      apply Fin.ext
      refine (rect_emb_zero _ _).trans ?_
      show 248 - 8 * (31 - (y (0 : Fin 2)).val / 8) + (y (0 : Fin 2)).val % 8 = (y (0 : Fin 2)).val
      have h : (y (0 : Fin 2)).val < 256 := (y (0 : Fin 2)).isLt
      omega
    | ⟨1, _⟩ => exact rect_emb_one _ _
  rw [← Rect.map_emb_univ]
  exact Finset.mem_map.mpr ⟨_, Finset.mem_univ _, hy⟩

/-- The pieces read back, whatever the buffer held: the block. -/
theorem read_pieces {sig' : RefSig} {κ : Kind} {sp : Space} (w : View sig' κ sp S256x1280 .f32) (f : w.ty.Contents (Elt F)) :
    w.read (Elt F) (w.writes (Elt F) f (pieces x0 x1 init k0_t1_loop.trips)) = block x0 x1 init :=
  funext fun y => View.read_writes_apply_of_pieces w f (block x0 x1 init) _ (pieces_agree x0 x1 init _) y (pieces_cover x0 x1 init y)

end Cert.FwdTrip

end
-- ==== Proof.FwdVal.lean ====
/- What the forward-direction scan's gradient kernel leaves at a point, as values: the output block, and the first row of
   the carried scratch. -/
module

public import proofs.«01_k».proof.Proof.FwdBlock

@[expose] public section

set_option maxRecDepth 16384

noncomputable section

namespace Cert.FwdRun

open Cert.KernelIdeal Cert.KernelIdeal.Gen Idealize.ShloMosaic Idealize.ShloMosaic.TcCoe
open Cert.FwdTrip (carried pieces block)

variable {F : FTy → Type} [FloatOps F]

/-- The first row of the scratch, the only one the kernel reads. -/
def rowZero (x : FVec F S8x1280 .f32) : FVec F S1x1280 .f32 := fun y => x (ix2 (⟨0, by decide⟩ : Fin 8) (y (1 : Fin 2)))

/-- The row the first point starts from: the cleared scratch's. -/
def clearRow : FVec F S1x1280 .f32 := rowZero (k0_pay1 (F := F))

theorem readAt_rowZero {sig' : RefSig} {κ : Kind} {sp : Space} (w : View sig' κ sp S8x1280 .f32) (f : w.ty.Contents (Elt F)) :
    View.readAt (Elt F) w (Rect.unit (s := S8x1280) ![0, 0] S1x1280.size inb_S8x1280_S1x1280_0_0).toLoadRect f
      = rowZero (w.read (Elt F) f) := by
  funext y
  show w.read (Elt F) f _ = w.read (Elt F) f _
  refine congrArg _ (funext fun b => ?_)
  match b with
  | ⟨0, _⟩ =>
    apply Fin.ext
    have h : (y (0 : Fin 2)).val < 1 := (y (0 : Fin 2)).isLt
    show 0 + 1 * (y (0 : Fin 2)).val = 0
    omega
  | ⟨1, _⟩ =>
    apply Fin.ext
    show 0 + 1 * (y (1 : Fin 2)).val = (y (1 : Fin 2)).val
    omega

theorem rowZero_writes {sig' : RefSig} {κ : Kind} {sp : Space} (w : View sig' κ sp S8x1280 .f32) (f : w.ty.Contents (Elt F))
    (x : FVec F S1x1280 .f32) (L : List (View.Piece (Elt F) S8x1280 .f32)) :
    rowZero (w.read (Elt F) (w.writes (Elt F) f (⟨Rect.unit (s := S8x1280) ![0, 0] S1x1280.size inb_S8x1280_S1x1280_0_0, x⟩ :: L))) = x := by
  funext y
  refine View.read_writes_cons_unit_of_mem w f _ x L _ y rfl fun b => ?_
  match b with
  | ⟨0, _⟩ =>
    have h : (y (0 : Fin 2)).val < 1 := (y (0 : Fin 2)).isLt
    show 0 = 0 + (y (0 : Fin 2)).val
    omega
  | ⟨1, _⟩ =>
    show (y (1 : Fin 2)).val = 0 + (y (1 : Fin 2)).val
    omega

variable (c : Dev nD) (i : grid0.Coords) (arg1 : Memref sig .tc .vmem S256x1280 .f32) (harg1 : arg1.IsWhole) (arg2 : Memref sig .tc .vmem S256x1280 .f32) (harg2 : arg2.IsWhole) (arg3 : Memref sig .tc .vmem S256x1280 .f32) (harg3 : arg3.IsWhole) (arg4 : Memref sig .tc .vmem S8x1280 .f32) (harg4 : arg4.IsWhole)
variable (x0 x1 : FVec F S256x1280 .f32) (xs : FVec F S8x1280 .f32)

theorem pay4_eq (x : FVec F S1x1280 .f32) : k0_pay4 x = x := by
  unfold k0_pay4
  exact shapeCast_id x _

theorem start_eq : kernelRun0_A.sl.v4 (F := F) c arg4 = clearRow := by
  unfold kernelRun0_A.sl.v4 kernelRun0_A.sl.HS0_1
  exact (readAt_rowZero arg4.view _).trans (congrArg rowZero (View.read_writes_full arg4.view arg4.view.junk inb_S8x1280_S8x1280_0_0 _ []))

theorem runA_out (hc0 : cond0_0 i) :
    (kernelRun0_A (F := F) c i arg1 harg1 arg2 harg2 arg3 harg3 arg4 harg4 hc0 x0 x1).1 = pieces x0 x1 clearRow k0_t1_loop.trips := by
  unfold kernelRun0_A; dsimp only
  rw [start_eq]
  exact congrArg Prod.snd (FwdTrip.st_eq Variants.none c none i arg1 harg1 arg2 harg2 arg3 harg3 arg4 harg4 x0 x1 clearRow _ (Nat.le_refl _))

theorem runA_scratch (hc0 : cond0_0 i) : ∃ L,
    (kernelRun0_A (F := F) c i arg1 harg1 arg2 harg2 arg3 harg3 arg4 harg4 hc0 x0 x1).2.1
      = ⟨Rect.unit (s := S8x1280) ![0, 0] S1x1280.size inb_S8x1280_S1x1280_0_0, carried x0 x1 clearRow k0_t1_loop.trips⟩ :: L := by
  refine ⟨kernelRun0_A.sl.HS0_1, ?_⟩
  unfold kernelRun0_A; dsimp only
  rw [start_eq, pay4_eq]
  refine congrArg (fun z : FVec F S1x1280 .f32 => ((⟨Rect.unit (s := S8x1280) ![0, 0] S1x1280.size inb_S8x1280_S1x1280_0_0, z⟩ : View.Piece (Elt F) S8x1280 .f32) :: kernelRun0_A.sl.HS0_1)) ?_
  exact congrArg Prod.fst (FwdTrip.st_eq Variants.none c none i arg1 harg1 arg2 harg2 arg3 harg3 arg4 harg4 x0 x1 clearRow _ (Nat.le_refl _))

theorem runB_out (hc0 : ¬ cond0_0 i) :
    (kernelRun0_B (F := F) c i arg1 harg1 arg2 harg2 arg3 harg3 arg4 harg4 hc0 x0 x1 xs).1 = pieces x0 x1 (rowZero xs) k0_t1_loop.trips := by
  unfold kernelRun0_B; dsimp only
  rw [readAt_rowZero, harg4.read_unread (Val := Elt F) xs]
  exact congrArg Prod.snd (FwdTrip.st_eq Variants.none c none i arg1 harg1 arg2 harg2 arg3 harg3 arg4 harg4 x0 x1 (rowZero xs) _ (Nat.le_refl _))

theorem runB_scratch (hc0 : ¬ cond0_0 i) :
    (kernelRun0_B (F := F) c i arg1 harg1 arg2 harg2 arg3 harg3 arg4 harg4 hc0 x0 x1 xs).2.1
      = [⟨Rect.unit (s := S8x1280) ![0, 0] S1x1280.size inb_S8x1280_S1x1280_0_0, carried x0 x1 (rowZero xs) k0_t1_loop.trips⟩] := by
  unfold kernelRun0_B; dsimp only
  rw [readAt_rowZero, harg4.read_unread (Val := Elt F) xs]
  rw [pay4_eq]
  refine congrArg (fun z : FVec F S1x1280 .f32 => ([⟨Rect.unit (s := S8x1280) ![0, 0] S1x1280.size inb_S8x1280_S1x1280_0_0, z⟩] : List (View.Piece (Elt F) S8x1280 .f32))) ?_
  exact congrArg Prod.fst (FwdTrip.st_eq Variants.none c none i arg1 harg1 arg2 harg2 arg3 harg3 arg4 harg4 x0 x1 (rowZero xs) _ (Nat.le_refl _))

end Cert.FwdRun

end
-- ==== Proof.FwdMain.lean ====
/- The forward-direction scan's gradient kernel run over its grid: the carried row from point to point, the proof data
   with the output block named, the body obligation, and the run with both frame posts. -/
module

public import proofs.«01_k».proof.Proof.FwdVal
public import proofs.«01_k».proof.Proof.Gen.KernelIdeal.Frame
public import Idealize.ShloMosaic.Lib.Pipeline.Value
public import Idealize.ShloMosaic.Lib.Claim

@[expose] public section

set_option maxRecDepth 16384

noncomputable section

namespace Cert.FwdRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FwdTrip (carried pieces block)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two input blocks of a point, at their shape. -/
abbrev blkA (c : Dev nD) (t : Fin cfg0.N) : FVec F S256x1280 .f32 := iblk m c 0 t
abbrev blkD (c : Dev nD) (t : Fin cfg0.N) : FVec F S256x1280 .f32 := iblk m c 1 t

/-- The carried row before point `n`. -/
def rowIn (c : Dev nD) : ℕ → FVec F S1x1280 .f32
  | 0 => clearRow
  | n + 1 => if h : n < cfg0.N then carried (blkA m c ⟨n, h⟩) (blkD m c ⟨n, h⟩) (rowIn c n) k0_t1_loop.trips else rowIn c n

theorem rowIn_succ (c : Dev nD) (t : Fin cfg0.N) :
    rowIn m c (t.val + 1) = carried (blkA m c t) (blkD m c t) (rowIn m c t.val) k0_t1_loop.trips := by
  simp only [rowIn, dif_pos t.isLt]

/-- What point `t` leaves in its output block. -/
def outBlock (c : Dev nD) (t : Fin cfg0.N) : FVec F S256x1280 .f32 := block (blkA m c t) (blkD m c t) (rowIn m c t.val)

/-- The invariant before point `n`: the carried scratch's first row is the carried row. -/
def PhiS (c : Dev nD) : ℕ → sProp 𝕄
  | 0 => Pipeline.ΦA spec0 c
  | n + 1 => iprop(iprop(∃ d, ⌜rowZero d = rowIn m c (n + 1)⌝ ∗ owns (c : Thread nD τ) scM0_0 fullShare d) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outBlock m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

theorem owns_out (c : Dev nD) (t : Fin cfg0.N) (L : List (View.Piece (Elt F) S256x1280 .f32))
    (hL : L = pieces (blkA m c t) (blkD m c t) (rowIn m c t.val) k0_t1_loop.trips) (f : (ms0_2 t).view.ty.Contents (Elt F)) :
    (ms0_2 t).view.read (Elt F) ((ms0_2 t).view.writes (Elt F) f L) = outBlock m c t := by
  subst hL
  exact FwdTrip.read_pieces (blkA m c t) (blkD m c t) (rowIn m c t.val) (ms0_2 t).view f

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl,
    after0_0, after0_1, after0_2]
  rw [show (dats m 0 c).Φ t.succ = iprop(iprop(∃ d, ⌜rowZero d = rowIn m c (t.val + 1)⌝ ∗ owns (c : Thread nD τ) scM0_0 fullShare d) ∗ (∃ r, prngReg c r)) from rfl,
    show (dats m 0 c).Φ t.castSucc = PhiS m c t.val from rfl, rowIn_succ]
  have hN : t.val < 9 := lt_of_lt_of_eq t.isLt (show cfg0.N = 9 from N_0)
  by_cases hz : t.val = 0
  · have h0 : cond0_0 (grid0.coords t) := (hcond0_0 t).mpr (by omega)
    obtain ⟨L, hL⟩ := runA_scratch (F := F) c (grid0.coords t) (ms0_0 t) (hs0_0 t) (ms0_1 t) (hs0_1 t) (ms0_2 t) (hs0_2 t) scM0_0 (Memref.isWhole_whole _) (blkA m c t) (blkD m c t) h0
    have hO := runA_out (F := F) c (grid0.coords t) (ms0_0 t) (hs0_0 t) (ms0_1 t) (hs0_1 t) (ms0_2 t) (hs0_2 t) scM0_0 (Memref.isWhole_whole _) (blkA m c t) (blkD m c t) h0
    have hr : rowIn m c t.val = clearRow := by rw [hz]; rfl
    rw [← hr] at hL hO
    rw [show PhiS m c t.val = Pipeline.ΦA spec0 c by rw [hz]; rfl, PhiA0_eq]
    iintro ⟨⟨HS0, Hg⟩, Ho, ⟨%d0, H0⟩, ⟨%d1, H1⟩, ⟨%d2, H2⟩⟩
    iapply ((kernelRun0_A c (grid0.coords t) _ _ _ _ _ _ _ _ h0 (blkA m c t) (blkD m c t)).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hg]
    · isplitl [HS0]
      · iexists _; isplitr
        swap
        · unfold owns; iexists _; isplitr
          swap; · iexact HS0
          ipureintro; rfl
        ipureintro
        rw [hL]; exact rowZero_writes _ _ _ _
      iexact Hg
    isplitl [Ho]; · iexact Ho
    isplitl [H0]; · iexact H0
    isplitl [H1]; · iexact H1
    unfold owns; iexists _; isplitr
    swap; · iexact H2
    ipureintro; exact owns_out m c t _ hO _
  · have h0 : ¬ cond0_0 (grid0.coords t) := fun h => hz (by have := (hcond0_0 t).mp h; omega)
    obtain ⟨n, hn⟩ : ∃ n, t.val = n + 1 := ⟨t.val - 1, by omega⟩
    rw [show PhiS m c t.val = iprop(iprop(∃ d, ⌜rowZero d = rowIn m c t.val⌝ ∗ owns (c : Thread nD τ) scM0_0 fullShare d) ∗ (∃ r, prngReg c r)) by rw [hn]; rfl]
    iintro ⟨⟨⟨%ds, %hds, HS0⟩, Hg⟩, Ho, ⟨%d0, H0⟩, ⟨%d1, H1⟩, ⟨%d2, H2⟩⟩
    have hL := runB_scratch (F := F) c (grid0.coords t) (ms0_0 t) (hs0_0 t) (ms0_1 t) (hs0_1 t) (ms0_2 t) (hs0_2 t) scM0_0 (Memref.isWhole_whole _) (blkA m c t) (blkD m c t) ds h0
    have hO := runB_out (F := F) c (grid0.coords t) (ms0_0 t) (hs0_0 t) (ms0_1 t) (hs0_1 t) (ms0_2 t) (hs0_2 t) scM0_0 (Memref.isWhole_whole _) (blkA m c t) (blkD m c t) ds h0
    rw [hds] at hL hO
    iapply ((kernelRun0_B c (grid0.coords t) _ _ _ _ _ _ _ _ h0 (blkA m c t) (blkD m c t) ds).2.2 Set.univ _)
    isplitl [H0]; · iexact H0
    isplitl [H1]; · iexact H1
    isplitl [H2]; · iexists _; iexact H2
    isplitl [HS0]; · iexact HS0
    iintro ⟨H0, H1, ⟨%e2, H2⟩, HS0⟩
    isplitl [HS0 Hg]
    · isplitl [HS0]
      · iexists _; isplitr
        swap
        · unfold owns; iexists _; isplitr
          swap; · iexact HS0
          ipureintro; rfl
        ipureintro
        rw [hL]; exact rowZero_writes _ _ _ _
      iexact Hg
    isplitl [Ho]; · iexact Ho
    isplitl [H0]; · iexact H0
    isplitl [H1]; · iexact H1
    unfold owns; iexists _; isplitr
    swap; · iexact H2
    ipureintro; exact owns_out m c t _ hO _

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = iprop(iprop(∃ d, ⌜rowZero d = rowIn m c (8 + 1)⌝ ∗ owns (c : Thread nD τ) scM0_0 fullShare d) ∗ (∃ r, prngReg c r)) by
    show PhiS m c (Fin.last cfg0.N).val = _
    rw [Fin.val_last, show cfg0.N = 8 + 1 from N_0]; rfl, PhiA0_eq]
  iintro ⟨⟨%d, -, HS0⟩, Hg⟩
  isplitl [HS0]
  · iexists _; iexact HS0
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

theorem frame_post : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.FwdRun

end
-- ==== Proof.ScanAlg.lean ====
/- The recurrence of the scan's gradient, and the eight-row network the kernel runs it by, on extended reals. -/
module

public import Mathlib.Data.EReal.Inv
public import Mathlib.Tactic.IntervalCases

@[expose] public section

noncomputable section

namespace Cert.ScanAlg

/-- The value carried INTO visit `n`: the sum of what came after, decayed. -/
def carry (a v : ℕ → EReal) : ℕ → EReal
  | 0 => 0
  | n + 1 => a n * (carry a v n + v n)

/-- The gradient at visit `n`: what is carried in, and the row's own cotangent. -/
def grad (a v : ℕ → EReal) (n : ℕ) : EReal := carry a v n + v n

theorem carry_congr {a b v w : ℕ → EReal} (n : ℕ) (ha : ∀ k < n, a k = b k) (hv : ∀ k < n, v k = w k) :
    carry a v n = carry b w n := by
  induction n with
  | zero => rfl
  | succ n ih =>
    simp only [carry]
    rw [ih (fun k hk => ha k (by omega)) (fun k hk => hv k (by omega)), ha n (by omega), hv n (by omega)]

/-- Values handed `d` visits on within a tile of eight, `fill` where none arrives. -/
def shift (d : ℕ) (fill : EReal) (x : ℕ → EReal) (q : ℕ) : EReal := if d ≤ q then x (q - d) else fill

theorem shift_congr {d : ℕ} {fill : EReal} {x y : ℕ → EReal} {q : ℕ} (hq : q < 8) (h : ∀ k < 8, x k = y k) :
    shift d fill x q = shift d fill y q := by
  unfold shift
  rw [h (q - d) (by omega)]

def c1 (a : ℕ → EReal) : ℕ → EReal := shift 1 1 a
def s1 (a v : ℕ → EReal) (q : ℕ) : EReal := c1 a q * shift 1 0 v q + v q
def c2 (a : ℕ → EReal) (q : ℕ) : EReal := c1 a q * shift 1 1 (c1 a) q
def s2 (a v : ℕ → EReal) (q : ℕ) : EReal := c2 a q * shift 2 0 (s1 a v) q + s1 a v q
def c4 (a : ℕ → EReal) (q : ℕ) : EReal := c2 a q * shift 2 1 (c2 a) q

/-- The network: doubling steps of 1, 2 and 4 visits, then the carried value. -/
def net (st : EReal) (a v : ℕ → EReal) (q : ℕ) : EReal :=
  c4 a q * shift 4 1 (c4 a) q * st + (c4 a q * shift 4 0 (s2 a v) q + s2 a v q)

theorem mul_dist {x : EReal} (h0 : 0 ≤ x) (ht : x ≠ ⊤) (y z : EReal) : x * (y + z) = x * y + x * z :=
  EReal.left_distrib_of_nonneg_of_ne_top h0 ht y z

theorem net_zero (st : EReal) (a v : ℕ → EReal) : net st a v 0 = st + v 0 := by
  simp [net, c4, c2, c1, s2, s1, shift]

theorem net_congr (st : EReal) {a b v w : ℕ → EReal} (ha : ∀ k < 8, a k = b k) (hv : ∀ k < 8, v k = w k) (q : ℕ) (hq : q < 8) :
    net st a v q = net st b w q := by
  have e1 : ∀ k < 8, c1 a k = c1 b k := fun k hk => shift_congr hk ha
  have f1 : ∀ k < 8, s1 a v k = s1 b w k := fun k hk => by unfold s1; rw [e1 k hk, shift_congr hk hv, hv k hk]
  have e2 : ∀ k < 8, c2 a k = c2 b k := fun k hk => by unfold c2; rw [e1 k hk, shift_congr hk e1]
  have f2 : ∀ k < 8, s2 a v k = s2 b w k := fun k hk => by unfold s2; rw [e2 k hk, shift_congr hk f1, f1 k hk]
  have e4 : ∀ k < 8, c4 a k = c4 b k := fun k hk => by unfold c4; rw [e2 k hk, shift_congr hk e2]
  unfold net
  rw [e4 q hq, shift_congr hq e4, shift_congr hq f2, f2 q hq]

/-- Visit by visit the network obeys the recurrence, coefficients being finite and not negative. -/
theorem net_succ (st : EReal) (a v : ℕ → EReal) (ha : ∀ q < 8, 0 ≤ a q ∧ a q ≠ ⊤) (q : ℕ) (hq : q < 7) :
    net st a v (q + 1) = a q * net st a v q + v (q + 1) := by
  have h0 := mul_dist (ha 0 (by omega)).1 (ha 0 (by omega)).2
  have h1 := mul_dist (ha 1 (by omega)).1 (ha 1 (by omega)).2
  have h2 := mul_dist (ha 2 (by omega)).1 (ha 2 (by omega)).2
  have h3 := mul_dist (ha 3 (by omega)).1 (ha 3 (by omega)).2
  have h4 := mul_dist (ha 4 (by omega)).1 (ha 4 (by omega)).2
  have h5 := mul_dist (ha 5 (by omega)).1 (ha 5 (by omega)).2
  have h6 := mul_dist (ha 6 (by omega)).1 (ha 6 (by omega)).2
  interval_cases q <;>
  · simp [net, c4, c2, c1, s2, s1, shift, h0, h1, h2, h3, h4, h5, h6]
    try simp only [mul_assoc, h0, h1, h2, h3, h4, h5, h6]
    try simp only [add_assoc]

/-- A tile of the network, entered with the value carried into visit `n`, holds the gradient of its eight visits. -/
theorem net_grad (a v : ℕ → EReal) (n : ℕ) (ha : ∀ q < 8, 0 ≤ a (n + q) ∧ a (n + q) ≠ ⊤) (q : ℕ) (hq : q < 8) :
    net (carry a v n) (fun k => a (n + k)) (fun k => v (n + k)) q = grad a v (n + q) := by
  induction q with
  | zero => rw [net_zero]; rfl
  | succ q ih =>
    rw [net_succ _ _ _ ha q (by omega), ih (by omega)]
    rfl

/-- A tile given as two columns of eight, entered with what is carried into visit `n`. -/
theorem net_visit {st : EReal} {x y a v : ℕ → EReal} {n : ℕ} (hs : st = carry a v n) (hx : ∀ k < 8, x k = a (n + k))
    (hy : ∀ k < 8, y k = v (n + k)) (ha : ∀ q < 8, 0 ≤ a (n + q) ∧ a (n + q) ≠ ⊤) (q : ℕ) (hq : q < 8) :
    net st x y q = grad a v (n + q) := by
  rw [hs, net_congr _ hx hy q hq]
  exact net_grad a v n ha q hq

end Cert.ScanAlg

end
-- ==== Proof.FwdTile.lean ====
/- One trip of the forward-direction scan's gradient kernel: its eight rows, column by column, are the network. -/
module

public import proofs.«01_k».proof.Proof.ScanAlg
public import proofs.«01_k».proof.Proof.FwdTrip
public import Idealize.ShloMosaic.Lib.Pointwise
public import Idealize.ShloMosaic.Lib.KernelVsHost

@[expose] public section

set_option maxRecDepth 16384

noncomputable section

namespace Cert.FwdTile

open Idealize.ShloMosaic Cert.KernelIdeal Cert.KernelIdeal.Gen Cert.ScanAlg Cert.FwdTrip

/-- Row of a tile at its visit `q`: the last row first. -/
def at_ (q : ℕ) (j : Fin 1280) : S8x1280.Idx := ix2 (⟨7 - q, by omega⟩ : Fin 8) j

/-- A tile's column, visit by visit. -/
def col (X : FVec Ideal S8x1280 .f32) (j : Fin 1280) (q : ℕ) : EReal := X (at_ q j)

theorem hand (d : ℕ) (b : BitVec 32) (hb : (d, b) ∈ [(1, 7#32), (2, 6#32), (4, 4#32)]) (f : EReal) (X : FVec Ideal S8x1280 .f32) (j : Fin 1280) (q : ℕ) (hq : q < 8) :
    select (cmpi .sge rows (broadcast S8x1280 b)) (broadcast S8x1280 f) (dynamicRotate 0 b none X rotates_S8x1280_d0) (at_ q j)
      = shift d f (col X j) q := by
  simp only [List.mem_cons, Prod.mk.injEq, List.not_mem_nil, or_false] at hb
  have hrot : d ≤ q → dynamicRotate 0 b none X rotates_S8x1280_d0 (at_ q j) = X (at_ (q - d) j) := fun hd =>
    dynamicRotate_apply 0 b X _ (at_ q j) (at_ (q - d) j) fun a => by
      match a with
      | ⟨0, _⟩ =>
        show 7 - (q - d) = (7 - q + 8 - b.toNat % 8) % 8
        rcases hb with ⟨rfl, rfl⟩ | ⟨rfl, rfl⟩ | ⟨rfl, rfl⟩ <;> interval_cases q <;> first | rfl | omega
      | ⟨1, _⟩ => rfl
  have hm : cmpi .sge rows (broadcast S8x1280 b) (at_ q j) = if d ≤ q then 0#1 else 1#1 := by
    rcases hb with ⟨rfl, rfl⟩ | ⟨rfl, rfl⟩ | ⟨rfl, rfl⟩ <;> interval_cases q <;> rfl
  unfold shift
  by_cases h : d ≤ q
  · rw [if_pos h] at hm ⊢
    show (if _ = 1#1 then _ else _) = _
    rw [hm, if_neg (by decide), hrot h]; rfl
  · rw [if_neg h] at hm ⊢
    show (if _ = 1#1 then _ else _) = _
    rw [hm, if_pos rfl]; rfl

theorem bits_one : (Scalar.ofBits .f32 0x3F800000#32 : Ideal .f32) = (1 : EReal) := Ideal.ofBits_one_f32
theorem bits_zero : (Scalar.ofBits .f32 0x00000000#32 : Ideal .f32) = (0 : EReal) := Ideal.ofBits_zero_f32

theorem hand_one (d : ℕ) (b : BitVec 32) (hb : (d, b) ∈ [(1, 7#32), (2, 6#32), (4, 4#32)]) (X : FVec Ideal S8x1280 .f32) (x : ℕ → EReal)
    (j : Fin 1280) (hx : ∀ q < 8, X (at_ q j) = x q) (q : ℕ) (hq : q < 8) :
    select (cmpi .sge rows (broadcast S8x1280 b)) (broadcast S8x1280 (Scalar.ofBits .f32 0x3F800000#32 : Ideal .f32))
      (dynamicRotate 0 b none X rotates_S8x1280_d0) (at_ q j) = shift d 1 x q := by
  rw [bits_one, hand d b hb 1 X j q hq]
  exact shift_congr hq hx

theorem hand_zero (d : ℕ) (b : BitVec 32) (hb : (d, b) ∈ [(1, 7#32), (2, 6#32), (4, 4#32)]) (X : FVec Ideal S8x1280 .f32) (x : ℕ → EReal)
    (j : Fin 1280) (hx : ∀ q < 8, X (at_ q j) = x q) (q : ℕ) (hq : q < 8) :
    select (cmpi .sge rows (broadcast S8x1280 b)) (broadcast S8x1280 (Scalar.ofBits .f32 0x00000000#32 : Ideal .f32))
      (dynamicRotate 0 b none X rotates_S8x1280_d0) (at_ q j) = shift d 0 x q := by
  rw [bits_zero, hand d b hb 0 X j q hq]
  exact shift_congr hq hx

variable (a v : FVec Ideal S8x1280 .f32) (j : Fin 1280)

theorem pay5_at (q : ℕ) (hq : q < 8) : k0_pay5 (F := Ideal) rows a (at_ q j) = c1 (col a j) q :=
  hand_one 1 7#32 (by decide) a (col a j) j (fun _ _ => rfl) q hq

theorem pay6_at (q : ℕ) (hq : q < 8) : k0_pay6 (F := Ideal) rows a (at_ q j) = c2 (col a j) q :=
  congrArg₂ (fun x y : EReal => x * y) (pay5_at a j q hq) (hand_one 1 7#32 (by decide) _ _ j (pay5_at a j) q hq)

/-- The first of the two doubling steps of `k0_pay7`. -/
def step1 : FVec Ideal S8x1280 .f32 :=
  addf (mulf (k0_pay5 (F := Ideal) rows a) (select (cmpi .sge rows (broadcast S8x1280 7#32)) (broadcast S8x1280 (Scalar.ofBits .f32 0x00000000#32 : Ideal .f32))
      (dynamicRotate 0 7#32 none v rotates_S8x1280_d0))) v

theorem step1_at (q : ℕ) (hq : q < 8) : step1 a v (at_ q j) = s1 (col a j) (col v j) q :=
  congrArg₂ (fun x y : EReal => x * y + v (at_ q j)) (pay5_at a j q hq) (hand_zero 1 7#32 (by decide) v (col v j) j (fun _ _ => rfl) q hq)

theorem pay7_at (q : ℕ) (hq : q < 8) : k0_pay7 (F := Ideal) rows a v (at_ q j) = s2 (col a j) (col v j) q := by
  have h := congrArg₂ (fun x y : EReal => x * y + step1 a v (at_ q j)) (pay6_at a j q hq)
    (hand_zero 2 6#32 (by decide) (step1 a v) _ j (step1_at a v j) q hq)
  refine Eq.trans (Eq.refl _) (h.trans ?_)
  show _ + step1 a v (at_ q j) = _
  rw [step1_at a v j q hq]
  rfl

theorem pay8_at (q : ℕ) (hq : q < 8) : k0_pay8 (F := Ideal) rows a (at_ q j) = c4 (col a j) q :=
  congrArg₂ (fun x y : EReal => x * y) (pay6_at a j q hq) (hand_one 2 6#32 (by decide) _ _ j (pay6_at a j) q hq)

variable (acc : FVec Ideal S1x1280 .f32)

theorem tile_at (q : ℕ) (hq : q < 8) : tile a v acc (at_ q j) = net (acc (ix2 (0 : Fin 1) j)) (col a j) (col v j) q := by
  have h8 := pay8_at a j q hq
  have h7 := pay7_at a v j q hq
  have e1 := hand_one 4 4#32 (by decide) _ _ j (pay8_at a j) q hq
  have e0 := hand_zero 4 4#32 (by decide) _ _ j (pay7_at a v j) q hq
  have hb : broadcastTo S8x1280 acc broadcasts_S1x1280_S8x1280 (at_ q j) = acc (ix2 (0 : Fin 1) j) := by pointwise; rfl
  unfold net
  rw [← h8, ← h7, ← e1, ← e0, ← hb]
  rfl

theorem next_at : next a v acc (ix2 (0 : Fin 1) j) = col a j 7 * net (acc (ix2 (0 : Fin 1) j)) (col a j) (col v j) 7 := by
  rw [← tile_at a v j acc 7 (by omega)]
  have h : ∀ X : FVec Ideal S8x1280 .f32, extractStridedSlice S1x1280 ![0, 0] X slices_S8x1280_o0_0_S1x1280 (ix2 (0 : Fin 1) j) = X (at_ 7 j) := fun X => by
    refine congrArg X (funext fun b => ?_)
    match b with
    | ⟨0, _⟩ => rfl
    | ⟨1, _⟩ => exact Fin.ext (Nat.zero_add _)
  exact congrArg₂ (fun x y : EReal => x * y) (h a) (h _)

end Cert.FwdTile

end
-- ==== Proof.FwdSum.lean ====
/- A block of the forward-direction scan's gradient kernel is the recurrence's gradient, visit by visit. -/
module

public import proofs.«01_k».proof.Proof.FwdBlock
public import proofs.«01_k».proof.Proof.FwdTile

@[expose] public section

set_option maxRecDepth 16384

noncomputable section

namespace Cert.FwdSum

open Cert.KernelIdeal Cert.KernelIdeal.Gen Idealize.ShloMosaic Idealize.ShloMosaic.TcCoe
open Cert.ScanAlg Cert.FwdTile
open Cert.FwdTrip (carried block rowsAt rect tile next tripOf trips_eq)

/-- The row of a block that visit `n` of the block reads: the last one first. -/
def rowOf (n : ℕ) (j : Fin 1280) : S256x1280.Idx := ix2 (⟨255 - n, by omega⟩ : Fin 256) j

variable (x0 x1 : FVec Ideal S256x1280 .f32) (init : FVec Ideal S1x1280 .f32) (j : Fin 1280)
variable (a v : ℕ → EReal) (N : ℕ)

theorem col_rows (x : FVec Ideal S256x1280 .f32) (k : Fin k0_t1_loop.trips) (q : ℕ) (hq : q < 8) :
    col (rowsAt x k) j q = x (rowOf (8 * k.val + q) j) := by
  show x ((rect k).emb (at_ q j)) = _
  have hk : k.val < 32 := lt_of_lt_of_eq k.isLt trips_eq
  refine congrArg x (funext fun b => ?_)
  match b with
  | ⟨0, _⟩ =>
    apply Fin.ext
    refine (FwdTrip.rect_emb_zero k _).trans ?_
    show 248 - 8 * k.val + (7 - q) = 255 - (8 * k.val + q)
    omega
  | ⟨1, _⟩ => exact FwdTrip.rect_emb_one k _

variable (h0 : ∀ n < 256, x0 (rowOf n j) = a (N + n)) (h1 : ∀ n < 256, x1 (rowOf n j) = v (N + n))
  (hi : init (ix2 (0 : Fin 1) j) = carry a v N) (ha : ∀ n < 256, 0 ≤ a (N + n) ∧ a (N + n) ≠ ⊤)

include h0 h1 ha in
theorem net_trip (k : Fin k0_t1_loop.trips) (acc : FVec Ideal S1x1280 .f32) (hacc : acc (ix2 (0 : Fin 1) j) = carry a v (N + 8 * k.val)) (q : ℕ) (hq : q < 8) :
    net (acc (ix2 (0 : Fin 1) j)) (col (rowsAt x0 k) j) (col (rowsAt x1 k) j) q = grad a v (N + 8 * k.val + q) := by
  have hk : k.val < 32 := lt_of_lt_of_eq k.isLt trips_eq
  refine net_visit hacc (fun p hp => ?_) (fun p hp => ?_) (fun p hp => ?_) q hq
  · rw [col_rows j x0 k p hp, h0 _ (by omega), Nat.add_assoc]
  · rw [col_rows j x1 k p hp, h1 _ (by omega), Nat.add_assoc]
  · rw [Nat.add_assoc]; exact ha _ (by omega)

include h0 h1 hi ha in
theorem carried_eq (k : ℕ) (hk : k ≤ k0_t1_loop.trips) :
    carried x0 x1 init k (ix2 (0 : Fin 1) j) = carry a v (N + 8 * k) := by
  induction k with
  | zero => exact hi
  | succ k ih =>
    have h : k < k0_t1_loop.trips := hk
    have hk' : k < 32 := lt_of_lt_of_eq h trips_eq
    have e := ih (Nat.le_of_lt h)
    simp only [carried, dif_pos h]
    rw [next_at, net_trip x0 x1 j a v N h0 h1 ha ⟨k, h⟩ _ e 7 (by omega), col_rows j x0 ⟨k, h⟩ 7 (by omega), h0 _ (by show 8 * k + 7 < 256; omega)]
    show a (N + (8 * k + 7)) * grad a v (N + 8 * k + 7) = carry a v (N + 8 * k + 7 + 1)
    rw [← Nat.add_assoc]
    rfl

include h0 h1 hi ha in
theorem block_eq (n : ℕ) (hn : n < 256) : block x0 x1 init (rowOf n j) = grad a v (N + n) := by
  have hk : tripOf (rowOf n j) = ⟨n / 8, by rw [trips_eq]; omega⟩ := by
    apply Fin.ext
    show 31 - (255 - n) / 8 = n / 8
    omega
  unfold block
  rw [hk]
  have hrow : ix2 (⟨(rowOf n j (0 : Fin 2)).val % 8, by omega⟩ : Fin 8) (rowOf n j (1 : Fin 2)) = at_ (n % 8) j := funext fun b => by
    match b with
    | ⟨0, _⟩ =>
      apply Fin.ext
      show (255 - n) % 8 = 7 - n % 8
      omega
    | ⟨1, _⟩ => rfl
  refine (congrArg (tile _ _ _) hrow).trans ?_
  rw [tile_at _ _ j _ (n % 8) (by omega)]
  rw [net_trip x0 x1 j a v N h0 h1 ha ⟨n / 8, by rw [trips_eq]; omega⟩ _ (carried_eq x0 x1 init j a v N h0 h1 hi ha (n / 8) (by rw [trips_eq]; omega)) (n % 8) (by omega)]
  refine congrArg (grad a v) ?_
  show N + 8 * (n / 8) + n % 8 = N + n
  omega

end Cert.FwdSum

end
-- ==== Proof.RowSlice.lean ====
/- One row read from, and written to, an array of 2304 rows at a start counted down from the last row. -/
module

public import Idealize.ShloMosaic.Lib.DynamicIndex
public import Idealize.ShloMosaic.Lib.Pointwise
public import Idealize.ShloMosaic.Lib.Pipeline.Value

@[expose] public section

set_option maxRecDepth 16384

noncomputable section

namespace Cert.RowSlice

open Idealize.ShloMosaic

abbrev Rows : Shape := ⟨2, ![2304, 1280]⟩
abbrev Row : Shape := ⟨2, ![1, 1280]⟩

theorem down_toInt (n : ℕ) (hn : n < 2304) : (IntOp.subi (IntOp.subi 2304#32 (BitVec.ofNat 32 n)) 1#32).toInt = ((2303 - n : ℕ) : Int) := by
  have h : IntOp.subi (IntOp.subi 2304#32 (BitVec.ofNat 32 n)) 1#32 = BitVec.ofNat 32 (2303 - n) := by
    show 2304#32 - BitVec.ofNat 32 n - 1#32 = _
    apply BitVec.eq_of_toNat_eq
    simp only [BitVec.toNat_sub, BitVec.toNat_ofNat]
    omega
  rw [h, BitVec.toInt_eq_toNat_of_lt (by simp only [BitVec.toNat_ofNat]; omega), BitVec.toNat_ofNat]
  omega

variable {α : Type}

theorem slice_row (x : Rows.Idx → α) (start : Fin 2 → Int) (h : Rows.Slices (fun _ => 0) Row) (r : Fin 2304)
    (h0 : start 0 = (r.val : Int)) (h1 : start 1 = 0) (j : Fin 1280) :
    Host.dynamicSlice Row x start h (ix2 (0 : Fin 1) j) = x (ix2 r j) := by
  have hs : Rows.Slices ![r.val, 0] Row := ⟨rfl, fun b => by
    match b with
    | ⟨0, _⟩ => show r.val + 1 ≤ 2304; omega
    | ⟨1, _⟩ => show 0 + 1280 ≤ 1280; omega⟩
  rw [Host.dynamicSlice_eq_extractStridedSlice Row x start ![r.val, 0] h hs (fun b => by
    match b with
    | ⟨0, _⟩ => exact h0
    | ⟨1, _⟩ => exact h1)]
  refine congrArg x (funext fun b => ?_)
  match b with
  | ⟨0, _⟩ => exact Fin.ext (Nat.add_zero _)
  | ⟨1, _⟩ => exact Fin.ext (Nat.zero_add _)

theorem update_row (x : Rows.Idx → α) (upd : Row.Idx → α) (start : Fin 2 → Int) (h : Rows.Slices (fun _ => 0) Row) (r : Fin 2304)
    (h0 : start 0 = (r.val : Int)) (h1 : start 1 = 0) (i : Fin 2304) (j : Fin 1280) :
    Host.dynamicUpdateSlice x upd start h (ix2 i j) = if i = r then upd (ix2 (0 : Fin 1) j) else x (ix2 i j) := by
  have hs : Rows.Slices ![r.val, 0] Row := ⟨rfl, fun b => by
    match b with
    | ⟨0, _⟩ => show r.val + 1 ≤ 2304; omega
    | ⟨1, _⟩ => show 0 + 1280 ≤ 1280; omega⟩
  rw [Host.dynamicUpdateSlice_eq_updateSlice x upd start h ![r.val, 0] (fun b => by
    match b with
    | ⟨0, _⟩ => show (min (max (start 0) 0) ((2304 - 1 : ℕ) : Int)).toNat = r.val; rw [h0]; omega
    | ⟨1, _⟩ => show (min (max (start 1) 0) ((1280 - 1280 : ℕ) : Int)).toNat = 0; rw [h1]; omega) hs]
  unfold updateSlice
  by_cases e : i = r
  · subst e
    rw [if_pos rfl, dif_pos (fun b => by
      match b with
      | ⟨0, _⟩ => exact ⟨Nat.le_refl _, Nat.lt_succ_self _⟩
      | ⟨1, _⟩ => exact ⟨Nat.zero_le _, by show j.val < 0 + 1280; omega⟩)]
    refine congrArg upd (funext fun b => ?_)
    match b with
    | ⟨0, _⟩ => exact Fin.ext (Nat.sub_self _)
    | ⟨1, _⟩ => exact Fin.ext (Nat.sub_zero _)
  · rw [if_neg e, dif_neg (fun hin => e (by
      have h := hin (0 : Fin 2)
      have ha : r.val ≤ i.val := h.1
      have hb : i.val < r.val + 1 := h.2
      exact Fin.ext (by omega)))]

/-- A column of an array of 2304 rows in the order of the visits: the last row first. -/
def down (x : FVec Ideal Rows .f32) (j : Fin 1280) (n : ℕ) : EReal := x (ix2 (⟨2303 - n, by omega⟩ : Fin 2304) j)

end Cert.RowSlice

end
-- ==== Proof.FwdFinal.lean ====
/- The result array of the forward-direction scan's gradient kernel: at each row the recurrence's gradient, the rows
   visited from the last to the first. -/
module

public import proofs.«01_k».proof.Proof.FwdMain
public import proofs.«01_k».proof.Proof.FwdSum
public import proofs.«01_k».proof.Proof.RowSlice

@[expose] public section

set_option maxRecDepth 16384

noncomputable section

namespace Cert.FwdRun

open Cert.KernelIdeal Cert.KernelIdeal.Gen Idealize.ShloMosaic Idealize.ShloMosaic.TcCoe Idealize.SL.Sem
open Cert.ScanAlg
open Cert.FwdSum (rowOf)
open Cert.RowSlice (down)

/-- The gradient array. -/
def gradArr (a v : FVec Ideal S2304x1280 .f32) : FVec Ideal S2304x1280 .f32 := fun y =>
  grad (down a (y (1 : Fin 2))) (down v (y (1 : Fin 2))) (2303 - (y (0 : Fin 2)).val)

theorem index0 : ∀ t : Fin cfg0.N, win0_0.index t (0 : Fin 2) = 8 - t.val ∧ win0_0.index t (1 : Fin 2) = 0 :=
  (by decide +kernel : ∀ t : Fin grid0.N, win0_0.index t (0 : Fin 2) = 8 - t.val ∧ win0_0.index t (1 : Fin 2) = 0)
theorem index1 : ∀ t : Fin cfg0.N, win0_1.index t (0 : Fin 2) = 8 - t.val ∧ win0_1.index t (1 : Fin 2) = 0 :=
  (by decide +kernel : ∀ t : Fin grid0.N, win0_1.index t (0 : Fin 2) = 8 - t.val ∧ win0_1.index t (1 : Fin 2) = 0)
theorem index2 : ∀ t : Fin cfg0.N, win0_2.index t (0 : Fin 2) = 8 - t.val ∧ win0_2.index t (1 : Fin 2) = 0 :=
  (by decide +kernel : ∀ t : Fin grid0.N, win0_2.index t (0 : Fin 2) = 8 - t.val ∧ win0_2.index t (1 : Fin 2) = 0)
theorem flush2 : ∀ t : Fin cfg0.N, (cfg0.win 2).flush t = true :=
  (by decide +kernel : ∀ t : Fin grid0.N, win0_2.flush t = true)

/-- The row of the array that row `r` of point `t`'s block is. -/
def arrRow (t : Fin cfg0.N) (y : S256x1280.Idx) : S2304x1280.Idx :=
  ix2 (⟨256 * (8 - t.val) + (y (0 : Fin 2)).val, by
    have h : (y (0 : Fin 2)).val < 256 := (y (0 : Fin 2)).isLt
    omega⟩ : Fin 2304) (y (1 : Fin 2))

theorem read0 (t : Fin cfg0.N) (f : FVec Ideal S2304x1280 .f32) (y : S256x1280.Idx) :
    (win0_0.blk t).view.read (Elt Ideal) f y = f (arrRow t y) := by
  refine congrArg f (funext fun b => ?_)
  match b with
  | ⟨0, _⟩ =>
    apply Fin.ext
    show win0_0.index t (0 : Fin 2) * 256 + 1 * (y (0 : Fin 2)).val = 256 * (8 - t.val) + (y (0 : Fin 2)).val
    rw [(index0 t).1]; omega
  | ⟨1, _⟩ =>
    apply Fin.ext
    show win0_0.index t (1 : Fin 2) * 1280 + 1 * (y (1 : Fin 2)).val = (y (1 : Fin 2)).val
    rw [(index0 t).2]; omega
theorem read1 (t : Fin cfg0.N) (f : FVec Ideal S2304x1280 .f32) (y : S256x1280.Idx) :
    (win0_1.blk t).view.read (Elt Ideal) f y = f (arrRow t y) := by
  refine congrArg f (funext fun b => ?_)
  match b with
  | ⟨0, _⟩ =>
    apply Fin.ext
    show win0_1.index t (0 : Fin 2) * 256 + 1 * (y (0 : Fin 2)).val = 256 * (8 - t.val) + (y (0 : Fin 2)).val
    rw [(index1 t).1]; omega
  | ⟨1, _⟩ =>
    apply Fin.ext
    show win0_1.index t (1 : Fin 2) * 1280 + 1 * (y (1 : Fin 2)).val = (y (1 : Fin 2)).val
    rw [(index1 t).2]; omega
theorem read2 (t : Fin cfg0.N) (f : FVec Ideal S2304x1280 .f32) (y : S256x1280.Idx) :
    (win0_2.blk t).view.read (Elt Ideal) f y = f (arrRow t y) := by
  refine congrArg f (funext fun b => ?_)
  match b with
  | ⟨0, _⟩ =>
    apply Fin.ext
    show win0_2.index t (0 : Fin 2) * 256 + 1 * (y (0 : Fin 2)).val = 256 * (8 - t.val) + (y (0 : Fin 2)).val
    rw [(index2 t).1]; omega
  | ⟨1, _⟩ =>
    apply Fin.ext
    show win0_2.index t (1 : Fin 2) * 1280 + 1 * (y (1 : Fin 2)).val = (y (1 : Fin 2)).val
    rw [(index2 t).2]; omega

theorem mem_blk (t : Fin cfg0.N) (i : S2304x1280.Idx) :
    i ∈ ((cfg0.win 2).blk t).view.set ↔ ∀ a : Fin 2, win0_2.index t a * S256x1280.size a ≤ (i a).val ∧ (i a).val < win0_2.index t a * S256x1280.size a + S256x1280.size a := by
  show i ∈ ((View.whole main_v0).slice (win0_2.rect t)).set ↔ _
  rw [View.set_slice_whole, Rect.mem_set_unit]
  exact Iff.rfl

variable (m : (ℓ : Loc nD τ sig) → Buf (Elt Ideal) ℓ) (ρ : Dev nD → PrngReg) (c : Dev nD)

abbrev arrA : FVec Ideal S2304x1280 .f32 := m ((c : Thread nD τ).loc main_arg0)
abbrev arrD : FVec Ideal S2304x1280 .f32 := m ((c : Thread nD τ).loc main_arg1)

theorem visits_row (t : Fin cfg0.N) (x : FVec Ideal S2304x1280 .f32) (j : Fin 1280) (n : ℕ) (hn : n < 256) :
    x (arrRow t (rowOf n j)) = down x j (256 * t.val + n) := by
  have ht : t.val < 9 := lt_of_lt_of_eq t.isLt N_0
  refine congrArg x (funext fun b => ?_)
  match b with
  | ⟨0, _⟩ =>
    apply Fin.ext
    show 256 * (8 - t.val) + (255 - n) = 2303 - (256 * t.val + n)
    omega
  | ⟨1, _⟩ => rfl

theorem blkA_row (t : Fin cfg0.N) (j : Fin 1280) (n : ℕ) (hn : n < 256) :
    blkA m c t (rowOf n j) = down (arrA m c) j (256 * t.val + n) :=
  (read0 t (arrA m c) (rowOf n j)).trans (visits_row t _ j n hn)
theorem blkD_row (t : Fin cfg0.N) (j : Fin 1280) (n : ℕ) (hn : n < 256) :
    blkD m c t (rowOf n j) = down (arrD m c) j (256 * t.val + n) :=
  (read1 t (arrD m c) (rowOf n j)).trans (visits_row t _ j n hn)

theorem clearRow_at (j : Fin 1280) : clearRow (F := Ideal) (ix2 (0 : Fin 1) j) = (0 : EReal) := by
  unfold clearRow rowZero k0_pay1
  rw [shapeCast_id]
  exact Ideal.ofBits_zero_f32

variable (hpos : ∀ y, 0 ≤ arrA m c y ∧ arrA m c y ≠ ⊤)

include hpos in
theorem rowIn_eq (j : Fin 1280) (n : ℕ) (hn : n ≤ 9) :
    rowIn m c n (ix2 (0 : Fin 1) j) = carry (down (arrA m c) j) (down (arrD m c) j) (256 * n) := by
  induction n with
  | zero => exact clearRow_at j
  | succ n ih =>
    have hN : n < cfg0.N := lt_of_lt_of_eq (by omega : n < 9) N_0.symm
    refine (congrFun (rowIn_succ m c ⟨n, hN⟩) _).trans ?_
    refine (FwdSum.carried_eq (blkA m c ⟨n, hN⟩) (blkD m c ⟨n, hN⟩) (rowIn m c n) j _ _ (256 * n)
      (blkA_row m c ⟨n, hN⟩ j) (blkD_row m c ⟨n, hN⟩ j) (ih (by omega)) (fun k _ => hpos _) _ (Nat.le_refl _)).trans ?_
    rw [FwdTrip.trips_eq]
    exact congrArg (carry _ _) (by omega)

include hpos in
theorem flushed_eq (t : Fin cfg0.N) :
    (dats m 0 c).flushed 2 t = (win0_2.blk t).view.read (Elt Ideal) (gradArr (arrA m c) (arrD m c)) := by
  have ht : t.val < 9 := lt_of_lt_of_eq t.isLt N_0
  show (cfg0.win 2).cut (grid0.coords t) ((dats m 0 c).after 2 t) = _
  rw [after0_2]
  refine Eq.trans (b := outBlock m c t) rfl (funext fun y => ?_)
  rw [read2]
  have hy : (y (0 : Fin 2)).val < 256 := (y (0 : Fin 2)).isLt
  have e : rowOf (255 - (y (0 : Fin 2)).val) (y (1 : Fin 2)) = y := funext fun b => by
    match b with
    | ⟨0, _⟩ => exact Fin.ext (show 255 - (255 - (y (0 : Fin 2)).val) = (y (0 : Fin 2)).val by omega)
    | ⟨1, _⟩ => rfl
  have h := FwdSum.block_eq (blkA m c t) (blkD m c t) (rowIn m c t.val) (y (1 : Fin 2)) _ _ (256 * t.val)
    (blkA_row m c t _) (blkD_row m c t _) (rowIn_eq m c hpos _ t.val (by omega)) (fun k _ => hpos _) (255 - (y (0 : Fin 2)).val) (by omega)
  rw [e] at h
  refine h.trans ?_
  show grad _ _ (256 * t.val + (255 - (y (0 : Fin 2)).val)) = grad _ _ (2303 - (256 * (8 - t.val) + (y (0 : Fin 2)).val))
  refine congrArg (grad _ _) ?_
  omega

theorem cover (i : S2304x1280.Idx) : ∃ t : Fin cfg0.N, (cfg0.win 2).flush t = true ∧ i ∈ ((cfg0.win 2).blk t).view.set := by
  have h0 : (i (0 : Fin 2)).val < 2304 := (i (0 : Fin 2)).isLt
  have h1 : (i (1 : Fin 2)).val < 1280 := (i (1 : Fin 2)).isLt
  have hN : cfg0.N = 9 := N_0
  refine ⟨⟨8 - (i (0 : Fin 2)).val / 256, by omega⟩, flush2 _, ?_⟩
  rw [mem_blk]
  intro b
  match b with
  | ⟨0, _⟩ =>
    have e := (index2 ⟨8 - (i (0 : Fin 2)).val / 256, by omega⟩).1
    show win0_2.index _ (0 : Fin 2) * 256 ≤ (i (0 : Fin 2)).val ∧ (i (0 : Fin 2)).val < win0_2.index _ (0 : Fin 2) * 256 + 256
    rw [e]
    show (8 - (8 - (i (0 : Fin 2)).val / 256)) * 256 ≤ (i (0 : Fin 2)).val ∧ (i (0 : Fin 2)).val < (8 - (8 - (i (0 : Fin 2)).val / 256)) * 256 + 256
    omega
  | ⟨1, _⟩ =>
    have e := (index2 ⟨8 - (i (0 : Fin 2)).val / 256, by omega⟩).2
    show win0_2.index _ (1 : Fin 2) * 1280 ≤ (i (1 : Fin 2)).val ∧ (i (1 : Fin 2)).val < win0_2.index _ (1 : Fin 2) * 1280 + 1280
    rw [e]
    omega

include hpos in
theorem final_out : (dats m 0 c).arrAt 2 cfg0.N = gradArr (arrA m c) (arrD m c) :=
  (dats m 0 c).arrAt_eq_of_cover 2 (gradArr (arrA m c) (arrD m c)) (fun t _ => flushed_eq m c hpos t) cover

theorem run (hp : ∀ c : Dev nD, ∀ y, 0 ≤ arrA m c y ∧ arrA m c y ≠ ⊤) :
    θ_run defs (onTc (τ := τ) (main (F := Ideal))) ⟨m, fun _ => 0, ρ⟩ fun r => ∀ c : Dev nD,
      r.2.mem ((c : Thread nD τ).loc main_v0) = gradArr (arrA m c) (arrD m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final_out m c (hp c)),
      ((h c).1 0).trans ((dats m 0 c).arrAt_in 0 rfl _), ((h c).1 1).trans ((dats m 0 c).arrAt_in 1 rfl _)⟩)
    (run_main m ρ)

end Cert.FwdRun

end
-- ==== Proof.FwdRef.lean ====
/- What the forward reference's loop leaves: the recurrence's gradient, row by row from the last. -/
module

public import proofs.«01_k».proof.Proof.RowSlice
public import proofs.«01_k».proof.Proof.ScanAlg
public import proofs.«01_k».proof.Proof.Gen.ReferenceIdeal.Run
public import Idealize.ShloMosaic.Lib.Quiescent

@[expose] public section

set_option maxRecDepth 16384

noncomputable section

namespace Cert.FwdRef

open Cert.ReferenceIdeal Cert.ReferenceIdeal.Gen Cert.ReferenceIdeal.Value Idealize.ShloMosaic Idealize.ShloMosaic.TcCoe Idealize.SL.Sem Idealize.ShloMosaic.StableHlo
open Cert.ScanAlg Cert.RowSlice

/-- The loop's buffers at their shapes: the cotangent, the coefficients, the carried row, the rows written so far. -/
abbrev bufV (W : Valuation τ sig (Elt Ideal)) : FVec Ideal S2304x1280 .f32 := W (Proc.devRef .tc main_v3_0)
abbrev bufA (W : Valuation τ sig (Elt Ideal)) : FVec Ideal S2304x1280 .f32 := W (Proc.devRef .tc main_v3_1)
abbrev bufC (W : Valuation τ sig (Elt Ideal)) : IVec S_ 32 := W (Proc.devRef .tc main_v3_2)
abbrev bufS (W : Valuation τ sig (Elt Ideal)) : FVec Ideal S1280 .f32 := W (Proc.devRef .tc main_v3_3)
abbrev bufO (W : Valuation τ sig (Elt Ideal)) : FVec Ideal S2304x1280 .f32 := W (Proc.devRef .tc main_v3_4)

variable (W : Valuation τ sig (Elt Ideal))

/-- Where a trip reads and writes. -/
def start : Fin 2 → Int := fun k => ((![res_main_while0b_v5 W, constantI S_ 32 0#32] : Fin 2 → (⟨S_, .i32⟩ : BufTy).Contents (Elt Ideal)) k (Shape.Idx.first h_S_)).toInt

/-- The row a trip takes from the cotangent, and from the coefficients. -/
def rowV : FVec Ideal S1x1280 .f32 := Host.dynamicSlice S1x1280 (bufV W) (start W) sliceFits_S2304x1280_S1x1280
def rowA : FVec Ideal S1x1280 .f32 := Host.dynamicSlice S1x1280 (bufA W) (start W) sliceFits_S2304x1280_S1x1280
def rowG : FVec Ideal S1280 .f32 := res_main_while0b_v8 W
def outRow : FVec Ideal S1x1280 .f32 := broadcastInDim S1x1280 ![1] bcast_S1280_S1x1280_1 (rowG W)

variable {W} {n : ℕ}

theorem start_eq (hn : n < 2304) (hc : bufC W = constantI S_ 32 (BitVec.ofNat 32 n)) :
    start W 0 = ((2303 - n : ℕ) : Int) := by
  show (IntOp.subi (IntOp.subi 2304#32 (bufC W (Shape.Idx.first h_S_))) 1#32).toInt = _
  rw [hc]
  exact down_toInt n hn

theorem start_zero : start W 1 = 0 := by
  show (0#32).toInt = 0
  decide

theorem rowV_at (hn : n < 2304) (hc : bufC W = constantI S_ 32 (BitVec.ofNat 32 n)) (j : Fin 1280) :
    rowV W (ix2 (0 : Fin 1) j) = down (bufV W) j n := by
  unfold rowV
  exact slice_row (bufV W) (start W) sliceFits_S2304x1280_S1x1280 ⟨2303 - n, by omega⟩ (start_eq hn hc) start_zero j

theorem rowA_at (hn : n < 2304) (hc : bufC W = constantI S_ 32 (BitVec.ofNat 32 n)) (j : Fin 1280) :
    rowA W (ix2 (0 : Fin 1) j) = down (bufA W) j n := by
  unfold rowA
  exact slice_row (bufA W) (start W) sliceFits_S2304x1280_S1x1280 ⟨2303 - n, by omega⟩ (start_eq hn hc) start_zero j

theorem flat (x : FVec Ideal S1x1280 .f32) (j : Fin 1280) : shapeCast S1280 x shapeCasts_S1x1280_S1280 (ix1 j) = x (ix2 (0 : Fin 1) j) := by
  pointwise

theorem rowG_at (hn : n < 2304) (hc : bufC W = constantI S_ 32 (BitVec.ofNat 32 n)) (j : Fin 1280) :
    rowG W (ix1 j) = bufS W (ix1 j) + down (bufV W) j n := by
  rw [← rowV_at hn hc j, ← flat (rowV W) j]
  unfold rowG res_main_while0b_v8 rowV
  rfl

theorem outRow_at (j : Fin 1280) : outRow W (ix2 (0 : Fin 1) j) = rowG W (ix1 j) := by
  unfold outRow
  pointwise

theorem nextS_at (hn : n < 2304) (hc : bufC W = constantI S_ 32 (BitVec.ofNat 32 n)) (j : Fin 1280) :
    bufS (STEP W) (ix1 j) = down (bufA W) j n * (bufS W (ix1 j) + down (bufV W) j n) := by
  unfold bufS
  rw [STEP_main_v3_3, ← rowA_at hn hc j, ← flat (rowA W) j, ← rowG_at hn hc j]
  unfold step_main_v3_3 rowA rowG
  rfl

theorem stepO : bufO (STEP W) = Host.dynamicUpdateSlice (bufO W) (outRow W) (start W) updateFits_S2304x1280_S1x1280 := by
  refine (STEP_main_v3_4 W).trans ?_
  unfold step_main_v3_4 outRow rowG start bufO
  exact id_eq _

theorem nextO_at (hn : n < 2304) (hc : bufC W = constantI S_ 32 (BitVec.ofNat 32 n)) (i : Fin 2304) (j : Fin 1280) :
    bufO (STEP W) (ix2 i j) = if i = ⟨2303 - n, by omega⟩ then bufS W (ix1 j) + down (bufV W) j n else bufO W (ix2 i j) := by
  rw [stepO, ← rowG_at hn hc j, ← outRow_at j]
  exact update_row (bufO W) (outRow W) (start W) updateFits_S2304x1280_S1x1280 ⟨2303 - n, by omega⟩ (start_eq hn hc) start_zero i j

theorem nextC (hc : bufC W = constantI S_ 32 (BitVec.ofNat 32 n)) : bufC (STEP W) = constantI S_ 32 (BitVec.ofNat 32 (n + 1)) := by
  refine (STEP_main_v3_2 W).trans ?_
  unfold step_main_v3_2
  funext i
  show bufC W i + 1#32 = BitVec.ofNat 32 (n + 1)
  rw [hc]
  show BitVec.ofNat 32 n + 1#32 = BitVec.ofNat 32 (n + 1)
  simp only [BitVec.ofNat_add]

/-- Before trip `n`: the arrays as they entered, the trip's number, the carried row, and the rows already written. -/
structure Before (iv ia : FVec Ideal S2304x1280 .f32) (n : ℕ) (W : Valuation τ sig (Elt Ideal)) : Prop where
  v : bufV W = iv
  a : bufA W = ia
  c : bufC W = constantI S_ 32 (BitVec.ofNat 32 n)
  s : ∀ j, bufS W (ix1 j) = carry (down ia j) (down iv j) n
  o : ∀ (i : Fin 2304) (j : Fin 1280), 2303 - i.val < n → bufO W (ix2 i j) = grad (down ia j) (down iv j) (2303 - i.val)

theorem Before.next {iv ia : FVec Ideal S2304x1280 .f32} (h : Before iv ia n W) (hn : n < 2304) : Before iv ia (n + 1) (STEP W) where
  v := (STEP_main_v3_0 W).trans h.v
  a := (STEP_main_v3_1 W).trans h.a
  c := nextC h.c
  s j := by rw [nextS_at hn h.c j, h.s j, h.v, h.a]; rfl
  o i j hi := by
    rw [nextO_at hn h.c i j]
    by_cases e : i = ⟨2303 - n, by omega⟩
    · have hv : i.val = 2303 - n := congrArg Fin.val e
      rw [if_pos e, h.s j, h.v, show 2303 - i.val = n by omega]
      rfl
    · rw [if_neg e]
      have hv : i.val ≠ 2303 - n := fun hv => e (Fin.ext hv)
      have := i.isLt
      exact h.o i j (by omega)

theorem Before.iterate {iv ia : FVec Ideal S2304x1280 .f32} (h : Before iv ia 0 W) (n : ℕ) (hn : n ≤ 2304) : Before iv ia n (STEP^[n] W) := by
  induction n with
  | zero => exact h
  | succ n ih => rw [Function.iterate_succ_apply']; exact (ih (by omega)).next hn

theorem Before.all {iv ia : FVec Ideal S2304x1280 .f32} (h : Before iv ia 0 W) (i : Fin 2304) (j : Fin 1280) :
    bufO (STEP^[2304] W) (ix2 i j) = grad (down ia j) (down iv j) (2303 - i.val) :=
  (h.iterate 2304 (Nat.le_refl _)).o i j (by omega)

variable (m : (ℓ : Loc nD τ sig) → Buf (Elt Ideal) ℓ) (ρ : Dev nD → PrngReg) (c : Dev nD)

abbrev argA : FVec Ideal S2304x1280 .f32 := m ((c : Thread nD τ).loc main_arg0)
abbrev argD : FVec Ideal S2304x1280 .f32 := m ((c : Thread nD τ).loc main_arg1)

theorem entry_zero : (∀ j, bufS (entryContents preI m c) (ix1 j) = (0 : EReal)) ∧ bufC (entryContents preI m c) = constantI S_ 32 (BitVec.ofNat 32 0) := by
  constructor
  · intro j
    unfold bufS
    simp only [entryContents, afterL_cons, afterL_nil]
    after_reads_simp
    exact Ideal.ofBits_zero_f32
  · unfold bufC
    simp only [entryContents, afterL_cons, afterL_nil]
    after_reads_simp
    rfl

theorem entry : Before (argD m c) (argA m c) 0 (entryContents preI m c) where
  v := by
    unfold bufV
    simp only [entryContents, afterL_cons, afterL_nil]
    after_reads_simp
    rfl
  a := by
    unfold bufA
    simp only [entryContents, afterL_cons, afterL_nil]
    after_reads_simp
    rfl
  c := (entry_zero m c).2
  s := (entry_zero m c).1
  o i j h := absurd h (Nat.not_lt_zero _)

/-- The result, row by row. -/
theorem result_at (i : Fin 2304) (j : Fin 1280) :
    bufO (STEP^[2304] (entryContents preI m c)) (ix2 i j) = grad (down (argA m c) j) (down (argD m c) j) (2303 - i.val) :=
  (entry m c).all i j

end Cert.FwdRef

end
-- ==== Proof.ScanPre.lean ====
/- What the precondition `decays` says of the coefficients: finite and nonnegative, everywhere. -/
module

public import proofs.«01_k».proof.Pre_decays
public import Idealize.ShloMosaic.PureOps.Ideal
public import Idealize.ShloMosaic.Lib.Claim
public import Idealize.ShloMosaic.Lib.IdealHost

@[expose] public section

set_option maxRecDepth 16384

noncomputable section

namespace Cert.ScanPre

open Idealize.ShloMosaic

/-- The predicate's one stated fact. -/
instance facts : Cert.Pre_decays.Facts where
  bcast_S_S2304x1280 := by decide

theorem top_bits : (Ideal.ofBits .f32 (0x7F800000#32) : EReal) = ⊤ := by
  simp [Ideal.ofBits, Ideal.ieee]

theorem of_decays {a v : FVec Ideal Cert.Pre_decays.S2304x1280 .f32} (h : Cert.Pre_decays.fn (F := Ideal) a v = fun _ => 1#1) (y : Cert.Pre_decays.S2304x1280.Idx) :
    0 ≤ a y ∧ a y ≠ ⊤ := by
  have h0 := congrFun h y
  unfold Cert.Pre_decays.fn at h0
  have h1 : IntOp.andi (Ideal.cmp .oge (a y) (Ideal.ofBits .f32 0x00000000#32)) (Ideal.cmp .olt (a y) (Ideal.ofBits .f32 0x7F800000#32)) = 1#1 := h0
  rw [top_bits, Ideal.ofBits_zero_f32] at h1
  unfold Ideal.cmp IntOp.andi at h1
  by_cases p : (0 : EReal) ≤ a y <;> by_cases q : (a y : EReal) < ⊤
  · exact ⟨p, ne_of_lt q⟩
  all_goals simp [p, q] at h1

end Cert.ScanPre

end
-- ==== Proof.FwdClaim.lean ====
/- The forward-direction scan's gradient: the kernel and the reference leave one array. -/
module

public import proofs.«01_k».proof.Defs
public import proofs.«01_k».proof.Proof.Gen.Kernel
public import proofs.«01_k».proof.Proof.FwdFinal
public import proofs.«01_k».proof.Proof.FwdRef
public import proofs.«01_k».proof.Proof.ScanPre

@[expose] public section

set_option maxRecDepth 16384

noncomputable section

namespace Cert.FwdClaim

open Idealize.ShloMosaic Idealize.ShloMosaic.TcCoe Idealize.SL.Sem
open Cert.FwdRun (gradArr arrA arrD)

/-- The program's two readings have one text, so the run over any float values is the run of both. -/
theorem same_bodies : Cert.Kernel.defs₀ (F := Bits) = Cert.KernelIdeal.defs₀ (F := Bits) := by
  unfold Cert.Kernel.defs₀ Cert.KernelIdeal.defs₀
  refine congrArg (Defs.onTc (Λ := Cert.Kernel.Λ₀)) (funext fun l => ?_)
  match l with
  | ⟨0, _⟩ => rfl

theorem same_defs : Cert.Kernel.defs (F := Bits) = Cert.KernelIdeal.defs (F := Bits) := congrArg (Pipeline.defs Cert.Kernel.pcfgs) same_bodies

/-- The kernel's frame, from that run. -/
theorem frame_kernel : Cert.quiescent_Kernel := fun m g _ => by
  rw [same_defs]; exact Cert.FwdRun.frame_post (F := Bits) m g

/-- The reference runs, its arguments unchanged, every counter at zero. -/
theorem ref_frame (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0 :=
  (θ_run _ _ _).mono (fun r h => ⟨fun c => (h c).2, sem_eq_zero_of_no_sems (by decide) r.2⟩) (Cert.ReferenceIdeal.Value.run m ρ)

theorem pre_at {m : (ℓ : Loc Cert.KernelIdeal.nD Cert.KernelIdeal.τ Cert.KernelIdeal.sig) → Buf (Elt Ideal) ℓ}
    (h : Cert.Pre_KernelIdeal_decays m) (c : Dev Cert.KernelIdeal.nD) (y : Cert.KernelIdeal.S2304x1280.Idx) : 0 ≤ arrA m c y ∧ arrA m c y ≠ ⊤ :=
  Cert.ScanPre.of_decays (h c) y

/-- The reference's result is the gradient array of its arguments. -/
theorem ref_result (m : (ℓ : Loc Cert.ReferenceIdeal.nD Cert.ReferenceIdeal.τ Cert.ReferenceIdeal.sig) → Buf (Elt Ideal) ℓ) (c : Dev Cert.ReferenceIdeal.nD) :
    Cert.FwdRef.bufO (Cert.ReferenceIdeal.Value.STEP^[2304] (StableHlo.entryContents Cert.ReferenceIdeal.Value.preI m c)) = gradArr (Cert.FwdRef.argA m c) (Cert.FwdRef.argD m c) :=
  funext fun y => by
    refine (congrArg (Cert.FwdRef.bufO _) (eq_ix2 (n0 := 2304) (n1 := 1280) y)).trans ?_
    exact Cert.FwdRef.result_at m c _ _

theorem value : Cert.algebraic_KernelIdeal_ReferenceIdeal_pre_decays := by
  intro m g m' g' hp hm
  refine ⟨fun c => gradArr (arrA m c) (arrD m c), Cert.FwdRun.run m g (fun c y => pre_at hp c y), ?_⟩
  refine (θ_run _ _ _).mono (fun r h c => ⟨((h c).1.trans (ref_result m' c)).trans ?_, (h c).2⟩) (Cert.ReferenceIdeal.Value.run m' g')
  have ha : Cert.FwdRef.argA m' c = arrA m c := (hm c).1
  have hd : Cert.FwdRef.argD m' c = arrD m c := (hm c).2
  rw [ha, hd]

end Cert.FwdClaim

end
-- ==== Proof.RevTrip.lean ====
/- The reverse-direction scan's gradient kernel at a grid point, in closed form: the rows each trip of its loop writes
   and the value it hands on, as functions of the two blocks and of the value carried in. -/
module

public import proofs.«01_k».proof.Proof.Gen.Kernel2Ideal.Frame
public import proofs.«01_k».proof.Proof.Gen.Kernel2Ideal.Loops
public import Idealize.ShloMosaic.Lib.VecWindow

@[expose] public section

set_option maxRecDepth 16384

noncomputable section

namespace Cert.RevTrip

open Idealize.ShloMosaic Idealize.SL.Sem Cert.Kernel2Ideal Cert.Kernel2Ideal.Gen

variable {F : FTy → Type} [FloatOps F]

abbrev rows : IVec S8x1280 32 := iota .tc S8x1280 32 [0] iota_S8x1280_d0_w32

/-- One trip's rows, from the two tiles it loads and the value carried in. -/
def tile (a v : FVec F S8x1280 .f32) (acc : FVec F S1x1280 .f32) : FVec F S8x1280 .f32 :=
  k0_pay2 acc (k0_pay7 rows a v) (k0_pay8 rows a) (k0_pay9 rows a v) k0_pay10

/-- The value one trip hands the next. -/
def next (a v : FVec F S8x1280 .f32) (acc : FVec F S1x1280 .f32) : FVec F S1x1280 .f32 :=
  k0_pay3 acc a (k0_pay7 rows a v) (k0_pay8 rows a) (k0_pay9 rows a v) k0_pay10

abbrev rect (k : Fin k0_t1_loop.trips) : Rect S256x1280 := Rect.unit (s := S256x1280) (k0_off1 k) S8x1280.size (k0_off1_inb k)

/-- The eight rows of a block that trip `k` loads. -/
def rowsAt (x : FVec F S256x1280 .f32) (k : Fin k0_t1_loop.trips) : FVec F S8x1280 .f32 := fun y => x ((rect k).emb y)

variable (𝒱 : Variants) (c : Dev nD) (bd : Option 𝒱.V) (i : grid0.Coords)
  (arg1 : Memref sig .tc .vmem S256x1280 .f32) (harg1 : arg1.IsWhole) (arg2 : Memref sig .tc .vmem S256x1280 .f32) (harg2 : arg2.IsWhole)
  (arg3 : Memref sig .tc .vmem S256x1280 .f32) (harg3 : arg3.IsWhole) (arg4 : Memref sig .tc .vmem S8x1280 .f32) (harg4 : arg4.IsWhole)
  (x1 x2 : FVec F S256x1280 .f32)

theorem tripR_eq (k : Fin k0_t1_loop.trips) (acc : FVec F S1x1280 .f32) :
    tripR_k0_t1 (F := F) 𝒱 c bd i arg1 harg1 arg2 harg2 arg3 harg3 arg4 harg4 rows (harg1.unread x1) (harg2.unread x2) k acc
      = next (rowsAt x1 k) (rowsAt x2 k) acc := by
  have e1 : arg1.view.readAt (Elt F) (rect k).toLoadRect (harg1.unread x1) = rowsAt x1 k :=
    funext fun y => congrFun (harg1.read_unread (Val := Elt F) x1) ((rect k).emb y)
  have e2 : arg2.view.readAt (Elt F) (rect k).toLoadRect (harg2.unread x2) = rowsAt x2 k :=
    funext fun y => congrFun (harg2.read_unread (Val := Elt F) x2) ((rect k).emb y)
  rw [← e1, ← e2]
  unfold tripR_k0_t1 trip_k0_t1
  rfl

theorem tripL_eq (k : Fin k0_t1_loop.trips) (acc : FVec F S1x1280 .f32) :
    tripL_k0_t1 (F := F) 𝒱 c bd i arg1 harg1 arg2 harg2 arg3 harg3 arg4 harg4 rows (harg1.unread x1) (harg2.unread x2) k acc
      = [(⟨rect k, tile (rowsAt x1 k) (rowsAt x2 k) acc⟩ : View.Piece (Elt F) S256x1280 .f32)] := by
  have e1 : arg1.view.readAt (Elt F) (rect k).toLoadRect (harg1.unread x1) = rowsAt x1 k :=
    funext fun y => congrFun (harg1.read_unread (Val := Elt F) x1) ((rect k).emb y)
  have e2 : arg2.view.readAt (Elt F) (rect k).toLoadRect (harg2.unread x2) = rowsAt x2 k :=
    funext fun y => congrFun (harg2.read_unread (Val := Elt F) x2) ((rect k).emb y)
  rw [← e1, ← e2]
  unfold tripL_k0_t1 trip_k0_t1
  rfl

/-- The value carried before trip `k`, and the pieces the trips before it wrote. -/
def carried (x1 x2 : FVec F S256x1280 .f32) (init : FVec F S1x1280 .f32) : ℕ → FVec F S1x1280 .f32
  | 0 => init
  | k + 1 => if h : k < k0_t1_loop.trips then next (rowsAt x1 ⟨k, h⟩) (rowsAt x2 ⟨k, h⟩) (carried x1 x2 init k) else carried x1 x2 init k

def pieces (x1 x2 : FVec F S256x1280 .f32) (init : FVec F S1x1280 .f32) : ℕ → List (View.Piece (Elt F) S256x1280 .f32)
  | 0 => []
  | k + 1 => if h : k < k0_t1_loop.trips then
      ⟨rect ⟨k, h⟩, tile (rowsAt x1 ⟨k, h⟩) (rowsAt x2 ⟨k, h⟩) (carried x1 x2 init k)⟩ :: pieces x1 x2 init k else pieces x1 x2 init k

theorem st_eq (init : FVec F S1x1280 .f32) (k : ℕ) (hk : k ≤ k0_t1_loop.trips) :
    st_k0_t1 (F := F) 𝒱 c bd i arg1 harg1 arg2 harg2 arg3 harg3 arg4 harg4 rows (harg1.unread x1) (harg2.unread x2) init k
      = (carried x1 x2 init k, pieces x1 x2 init k) := by
  induction k with
  | zero => rfl
  | succ k ih =>
    have h : k < k0_t1_loop.trips := hk
    have e := st_k0_t1_succ (F := F) 𝒱 c bd i arg1 harg1 arg2 harg2 arg3 harg3 arg4 harg4 rows (harg1.unread x1) (harg2.unread x2) init ⟨k, h⟩
    rw [tripR_eq, tripL_eq] at e
    refine e.trans ?_
    rw [ih (Nat.le_of_lt h)]
    simp only [carried, pieces, dif_pos h, List.cons_append, List.nil_append]

end Cert.RevTrip

end
-- ==== Proof.RevRun.lean ====
/- The reverse-direction scan's gradient kernel run at a grid point (the first, which clears the carried row, and any
   other): the pieces it leaves in its output block and in the carried scratch. -/
module

public import proofs.«01_k».proof.Proof.RevTrip
public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.RevRun

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 9 = 0 :=
  (fun t => by
    have ht : t.val < 9 := Nat.lt_of_lt_of_eq t.isLt N_0
    have e0 : (grid0.coords t 0).val = t.val / 1 % 9 := Pipeline.Grid.coords_val t 0 (by decide) rfl
    simp only [cond0_0, e0]
    word_cmp
   : ∀ t : Fin grid0.N, cond0_0 (grid0.coords t) ↔ t.val % 9 = 0)

/-! ## The kernel body on any staging memrefs: a subtype the run finds -/

/-- Each window's current staging memref at point `t`, spelled as the pipeline passes it (`bodyAt0`), and its wholeness. -/
abbrev ms0_0 (t : Fin cfg0.N) : Memref sig .tc .vmem S256x1280 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1280 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1280 .f32 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S8x1280 .f32 := Memref.whole cc0_scratch0
/-- The scratch `arg4` the kernel carries between points, as a view: what it holds is stated through it. -/
abbrev VS0_0 : View sig .tc .vmem S8x1280 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

-- the first point's run, which clears the carried scratch
set_option maxHeartbeats 1000000 in
def kernelRun0_A (c : Dev nD) (i : grid0.Coords) (arg1 : Memref sig .tc .vmem S256x1280 .f32) (harg1 : arg1.IsWhole) (arg2 : Memref sig .tc .vmem S256x1280 .f32) (harg2 : arg2.IsWhole) (arg3 : Memref sig .tc .vmem S256x1280 .f32) (harg3 : arg3.IsWhole) (arg4 : Memref sig .tc .vmem S8x1280 .f32) (harg4 : arg4.IsWhole) (hc0 : cond0_0 i)
    (x0 : Vec F S256x1280 .f32) (x1 : Vec F S256x1280 .f32) :
    Σ' (L2 : List (View.Piece (Elt F) S256x1280 .f32)), { LS0 : List (View.Piece (Elt F) S8x1280 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0_l0_scan_rev_bwd i arg1 harg1 arg2 harg2 arg3 harg3 arg4 harg4) K } := by
  refine ⟨?_, ?_, fun E K => ?run⟩
  case run =>
    simp only [cc0_l0_scan_rev_bwd_eq_skeleton]; unfold cc0_l0_scan_rev_bwd_skel
    unfold owns
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact HS0

-- any other point's, over what the point before left
set_option maxHeartbeats 1000000 in
def kernelRun0_B (c : Dev nD) (i : grid0.Coords) (arg1 : Memref sig .tc .vmem S256x1280 .f32) (harg1 : arg1.IsWhole) (arg2 : Memref sig .tc .vmem S256x1280 .f32) (harg2 : arg2.IsWhole) (arg3 : Memref sig .tc .vmem S256x1280 .f32) (harg3 : arg3.IsWhole) (arg4 : Memref sig .tc .vmem S8x1280 .f32) (harg4 : arg4.IsWhole) (hc0 : ¬cond0_0 i)
    (x0 : Vec F S256x1280 .f32) (x1 : Vec F S256x1280 .f32) (xs0 : Vec F S8x1280 .f32) :
    Σ' (L2 : List (View.Piece (Elt F) S256x1280 .f32)), { LS0 : List (View.Piece (Elt F) S8x1280 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (arg4.view.loc (c : Thread nD τ) ↦[arg4.view.set]{fullShare} arg4.view.writes (Elt F) (harg4.unread xs0) LS0)) -∗ K ⟨⟩))
          ⊢ wp frame (wpE (defs₀ (F := F)) Variants.none c none) E (cc0_l0_scan_rev_bwd i arg1 harg1 arg2 harg2 arg3 harg3 arg4 harg4) K } := by
  refine ⟨?_, ?_, fun E K => ?run⟩
  case run =>
    simp only [cc0_l0_scan_rev_bwd_eq_skeleton]; unfold cc0_l0_scan_rev_bwd_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexact HS0

end Cert.RevRun

end
-- ==== Proof.RevBlock.lean ====
/- What the reverse-direction scan's gradient kernel leaves in its output block, index by index. -/
module

public import proofs.«01_k».proof.Proof.RevRun
public import Idealize.ShloMosaic.Lib.Pointwise

@[expose] public section

set_option maxRecDepth 16384

noncomputable section

namespace Cert.RevTrip

open Cert.Kernel2Ideal Cert.Kernel2Ideal.Gen Idealize.ShloMosaic Idealize.ShloMosaic.TcCoe

variable {F : FTy → Type} [FloatOps F]

theorem trips_eq : k0_t1_loop.trips = 32 := by decide

/-- The trip that writes a row of the block: the first rows first. -/
def tripOf (y : S256x1280.Idx) : Fin k0_t1_loop.trips :=
  ⟨(y (0 : Fin 2)).val / 8, by
    have h : (y (0 : Fin 2)).val < 256 := (y (0 : Fin 2)).isLt
    rw [trips_eq]; omega⟩

/-- The block the point leaves. -/
def block (x0 x1 : FVec F S256x1280 .f32) (init : FVec F S1x1280 .f32) : FVec F S256x1280 .f32 := fun y =>
  tile (rowsAt x0 (tripOf y)) (rowsAt x1 (tripOf y)) (carried x0 x1 init (tripOf y).val)
    (ix2 (⟨(y (0 : Fin 2)).val % 8, by omega⟩ : Fin 8) (y (1 : Fin 2)))

variable (x0 x1 : FVec F S256x1280 .f32) (init : FVec F S1x1280 .f32)

theorem rect_emb_zero (k : Fin k0_t1_loop.trips) (x : S8x1280.Idx) :
    ((rect k).emb x (0 : Fin 2)).val = 8 * k.val + (x (0 : Fin 2)).val := by
  have h : k0_off1 k (0 : Fin 2) = 8 * k.val := congrFun (k0_off1_eq k) (0 : Fin 2)
  show k0_off1 k (0 : Fin 2) + 1 * (x (0 : Fin 2)).val = _
  rw [h, Nat.one_mul]

theorem rect_emb_one (k : Fin k0_t1_loop.trips) (x : S8x1280.Idx) :
    (rect k).emb x (1 : Fin 2) = x (1 : Fin 2) := by
  have h : k0_off1 k (1 : Fin 2) = 0 := congrFun (k0_off1_eq k) (1 : Fin 2)
  apply Fin.ext
  show k0_off1 k (1 : Fin 2) + 1 * (x (1 : Fin 2)).val = _
  rw [h, Nat.one_mul, Nat.zero_add]

theorem tripOf_emb (k : Fin k0_t1_loop.trips) (x : S8x1280.Idx) : tripOf ((rect k).emb x) = k := by
  apply Fin.ext
  show ((rect k).emb x (0 : Fin 2)).val / 8 = k.val
  rw [rect_emb_zero]
  have h1 : k.val < 32 := lt_of_lt_of_eq k.isLt trips_eq
  have h2 : (x (0 : Fin 2)).val < 8 := (x (0 : Fin 2)).isLt
  omega

theorem block_emb (k : Fin k0_t1_loop.trips) (x : S8x1280.Idx) :
    block x0 x1 init ((rect k).emb x) = tile (rowsAt x0 k) (rowsAt x1 k) (carried x0 x1 init k.val) x := by
  unfold block
  rw [tripOf_emb]
  refine congrArg _ (funext fun b => ?_)
  match b with
  | ⟨0, _⟩ =>
    apply Fin.ext
    show ((rect k).emb x (0 : Fin 2)).val % 8 = (x (0 : Fin 2)).val
    rw [rect_emb_zero]
    have h1 : k.val < 32 := lt_of_lt_of_eq k.isLt trips_eq
    have h2 : (x (0 : Fin 2)).val < 8 := (x (0 : Fin 2)).isLt
    omega
  | ⟨1, _⟩ => exact rect_emb_one k x

theorem pieces_agree (n : ℕ) : ∀ p ∈ pieces x0 x1 init n, ∀ x : p.1.shape.Idx, p.2 x = block x0 x1 init (p.1.emb x) := by
  induction n with
  | zero => exact fun p hp => absurd hp List.not_mem_nil
  | succ n ih =>
    intro p hp
    by_cases h : n < k0_t1_loop.trips
    · simp only [pieces, dif_pos h] at hp
      rcases List.mem_cons.mp hp with rfl | hp
      · exact fun x => (block_emb x0 x1 init ⟨n, h⟩ x).symm
      · exact ih p hp
    · simp only [pieces, dif_neg h] at hp
      exact ih p hp

theorem mem_pieces (n : ℕ) (k : Fin k0_t1_loop.trips) (hk : k.val < n) :
    (⟨rect k, tile (rowsAt x0 k) (rowsAt x1 k) (carried x0 x1 init k.val)⟩ : View.Piece (Elt F) S256x1280 .f32) ∈ pieces x0 x1 init n := by
  induction n with
  | zero => omega
  | succ n ih =>
    by_cases h : n < k0_t1_loop.trips
    · simp only [pieces, dif_pos h]
      by_cases e : k.val = n
      · subst e; exact List.mem_cons_self
      · exact List.mem_cons_of_mem _ (ih (by omega))
    · simp only [pieces, dif_neg h]
      exact ih (lt_of_lt_of_le k.isLt (not_lt.mp h))

theorem pieces_cover (y : S256x1280.Idx) : ∃ p ∈ pieces x0 x1 init k0_t1_loop.trips, y ∈ p.1.set := by
  refine ⟨_, mem_pieces x0 x1 init _ (tripOf y) (tripOf y).isLt, ?_⟩
  have hy : (rect (tripOf y)).emb (ix2 (⟨(y (0 : Fin 2)).val % 8, by omega⟩ : Fin 8) (y (1 : Fin 2))) = y := funext fun b => by
    match b with
    | ⟨0, _⟩ =>
      apply Fin.ext
      refine (rect_emb_zero _ _).trans ?_
      show 8 * ((y (0 : Fin 2)).val / 8) + (y (0 : Fin 2)).val % 8 = (y (0 : Fin 2)).val
      have h : (y (0 : Fin 2)).val < 256 := (y (0 : Fin 2)).isLt
      omega
    | ⟨1, _⟩ => exact rect_emb_one _ _
  rw [← Rect.map_emb_univ]
  exact Finset.mem_map.mpr ⟨_, Finset.mem_univ _, hy⟩

/-- The pieces read back, whatever the buffer held: the block. -/
theorem read_pieces {sig' : RefSig} {κ : Kind} {sp : Space} (w : View sig' κ sp S256x1280 .f32) (f : w.ty.Contents (Elt F)) :
    w.read (Elt F) (w.writes (Elt F) f (pieces x0 x1 init k0_t1_loop.trips)) = block x0 x1 init :=
  funext fun y => View.read_writes_apply_of_pieces w f (block x0 x1 init) _ (pieces_agree x0 x1 init _) y (pieces_cover x0 x1 init y)

end Cert.RevTrip

end
-- ==== Proof.RevVal.lean ====
/- What the reverse-direction scan's gradient kernel leaves at a point, as values: the output block, and the first row of
   the carried scratch. -/
module

public import proofs.«01_k».proof.Proof.RevBlock

@[expose] public section

set_option maxRecDepth 16384

noncomputable section

namespace Cert.RevRun

open Cert.Kernel2Ideal Cert.Kernel2Ideal.Gen Idealize.ShloMosaic Idealize.ShloMosaic.TcCoe
open Cert.RevTrip (carried pieces block)

variable {F : FTy → Type} [FloatOps F]

/-- The first row of the scratch, the only one the kernel reads. -/
def rowZero (x : FVec F S8x1280 .f32) : FVec F S1x1280 .f32 := fun y => x (ix2 (⟨0, by decide⟩ : Fin 8) (y (1 : Fin 2)))

/-- The row the first point starts from: the cleared scratch's. -/
def clearRow : FVec F S1x1280 .f32 := rowZero (k0_pay1 (F := F))

theorem readAt_rowZero {sig' : RefSig} {κ : Kind} {sp : Space} (w : View sig' κ sp S8x1280 .f32) (f : w.ty.Contents (Elt F)) :
    View.readAt (Elt F) w (Rect.unit (s := S8x1280) ![0, 0] S1x1280.size inb_S8x1280_S1x1280_0_0).toLoadRect f
      = rowZero (w.read (Elt F) f) := by
  funext y
  show w.read (Elt F) f _ = w.read (Elt F) f _
  refine congrArg _ (funext fun b => ?_)
  match b with
  | ⟨0, _⟩ =>
    apply Fin.ext
    have h : (y (0 : Fin 2)).val < 1 := (y (0 : Fin 2)).isLt
    show 0 + 1 * (y (0 : Fin 2)).val = 0
    omega
  | ⟨1, _⟩ =>
    apply Fin.ext
    show 0 + 1 * (y (1 : Fin 2)).val = (y (1 : Fin 2)).val
    omega

theorem rowZero_writes {sig' : RefSig} {κ : Kind} {sp : Space} (w : View sig' κ sp S8x1280 .f32) (f : w.ty.Contents (Elt F))
    (x : FVec F S1x1280 .f32) (L : List (View.Piece (Elt F) S8x1280 .f32)) :
    rowZero (w.read (Elt F) (w.writes (Elt F) f (⟨Rect.unit (s := S8x1280) ![0, 0] S1x1280.size inb_S8x1280_S1x1280_0_0, x⟩ :: L))) = x := by
  funext y
  refine View.read_writes_cons_unit_of_mem w f _ x L _ y rfl fun b => ?_
  match b with
  | ⟨0, _⟩ =>
    have h : (y (0 : Fin 2)).val < 1 := (y (0 : Fin 2)).isLt
    show 0 = 0 + (y (0 : Fin 2)).val
    omega
  | ⟨1, _⟩ =>
    show (y (1 : Fin 2)).val = 0 + (y (1 : Fin 2)).val
    omega

variable (c : Dev nD) (i : grid0.Coords) (arg1 : Memref sig .tc .vmem S256x1280 .f32) (harg1 : arg1.IsWhole) (arg2 : Memref sig .tc .vmem S256x1280 .f32) (harg2 : arg2.IsWhole) (arg3 : Memref sig .tc .vmem S256x1280 .f32) (harg3 : arg3.IsWhole) (arg4 : Memref sig .tc .vmem S8x1280 .f32) (harg4 : arg4.IsWhole)
variable (x0 x1 : FVec F S256x1280 .f32) (xs : FVec F S8x1280 .f32)

theorem pay4_eq (x : FVec F S1x1280 .f32) : k0_pay4 x = x := by
  unfold k0_pay4
  exact shapeCast_id x _

theorem start_eq : kernelRun0_A.sl.v4 (F := F) c arg4 = clearRow := by
  unfold kernelRun0_A.sl.v4 kernelRun0_A.sl.HS0_1
  exact (readAt_rowZero arg4.view _).trans (congrArg rowZero (View.read_writes_full arg4.view arg4.view.junk inb_S8x1280_S8x1280_0_0 _ []))

theorem runA_out (hc0 : cond0_0 i) :
    (kernelRun0_A (F := F) c i arg1 harg1 arg2 harg2 arg3 harg3 arg4 harg4 hc0 x0 x1).1 = pieces x0 x1 clearRow k0_t1_loop.trips := by
  unfold kernelRun0_A; dsimp only
  rw [start_eq]
  exact congrArg Prod.snd (RevTrip.st_eq Variants.none c none i arg1 harg1 arg2 harg2 arg3 harg3 arg4 harg4 x0 x1 clearRow _ (Nat.le_refl _))

theorem runA_scratch (hc0 : cond0_0 i) : ∃ L,
    (kernelRun0_A (F := F) c i arg1 harg1 arg2 harg2 arg3 harg3 arg4 harg4 hc0 x0 x1).2.1
      = ⟨Rect.unit (s := S8x1280) ![0, 0] S1x1280.size inb_S8x1280_S1x1280_0_0, carried x0 x1 clearRow k0_t1_loop.trips⟩ :: L := by
  refine ⟨kernelRun0_A.sl.HS0_1, ?_⟩
  unfold kernelRun0_A; dsimp only
  rw [start_eq, pay4_eq]
  refine congrArg (fun z : FVec F S1x1280 .f32 => ((⟨Rect.unit (s := S8x1280) ![0, 0] S1x1280.size inb_S8x1280_S1x1280_0_0, z⟩ : View.Piece (Elt F) S8x1280 .f32) :: kernelRun0_A.sl.HS0_1)) ?_
  exact congrArg Prod.fst (RevTrip.st_eq Variants.none c none i arg1 harg1 arg2 harg2 arg3 harg3 arg4 harg4 x0 x1 clearRow _ (Nat.le_refl _))

theorem runB_out (hc0 : ¬ cond0_0 i) :
    (kernelRun0_B (F := F) c i arg1 harg1 arg2 harg2 arg3 harg3 arg4 harg4 hc0 x0 x1 xs).1 = pieces x0 x1 (rowZero xs) k0_t1_loop.trips := by
  unfold kernelRun0_B; dsimp only
  rw [readAt_rowZero, harg4.read_unread (Val := Elt F) xs]
  exact congrArg Prod.snd (RevTrip.st_eq Variants.none c none i arg1 harg1 arg2 harg2 arg3 harg3 arg4 harg4 x0 x1 (rowZero xs) _ (Nat.le_refl _))

theorem runB_scratch (hc0 : ¬ cond0_0 i) :
    (kernelRun0_B (F := F) c i arg1 harg1 arg2 harg2 arg3 harg3 arg4 harg4 hc0 x0 x1 xs).2.1
      = [⟨Rect.unit (s := S8x1280) ![0, 0] S1x1280.size inb_S8x1280_S1x1280_0_0, carried x0 x1 (rowZero xs) k0_t1_loop.trips⟩] := by
  unfold kernelRun0_B; dsimp only
  rw [readAt_rowZero, harg4.read_unread (Val := Elt F) xs]
  rw [pay4_eq]
  refine congrArg (fun z : FVec F S1x1280 .f32 => ([⟨Rect.unit (s := S8x1280) ![0, 0] S1x1280.size inb_S8x1280_S1x1280_0_0, z⟩] : List (View.Piece (Elt F) S8x1280 .f32))) ?_
  exact congrArg Prod.fst (RevTrip.st_eq Variants.none c none i arg1 harg1 arg2 harg2 arg3 harg3 arg4 harg4 x0 x1 (rowZero xs) _ (Nat.le_refl _))

end Cert.RevRun

end
-- ==== Proof.RevMain.lean ====
/- The reverse-direction scan's gradient kernel run over its grid: the carried row from point to point, the proof data
   with the output block named, the body obligation, and the run with both frame posts. -/
module

public import proofs.«01_k».proof.Proof.RevVal
public import proofs.«01_k».proof.Proof.Gen.Kernel2Ideal.Frame
public import Idealize.ShloMosaic.Lib.Pipeline.Value
public import Idealize.ShloMosaic.Lib.Claim

@[expose] public section

set_option maxRecDepth 16384

noncomputable section

namespace Cert.RevRun

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RevTrip (carried pieces block)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two input blocks of a point, at their shape. -/
abbrev blkA (c : Dev nD) (t : Fin cfg0.N) : FVec F S256x1280 .f32 := iblk m c 0 t
abbrev blkD (c : Dev nD) (t : Fin cfg0.N) : FVec F S256x1280 .f32 := iblk m c 1 t

/-- The carried row before point `n`. -/
def rowIn (c : Dev nD) : ℕ → FVec F S1x1280 .f32
  | 0 => clearRow
  | n + 1 => if h : n < cfg0.N then carried (blkA m c ⟨n, h⟩) (blkD m c ⟨n, h⟩) (rowIn c n) k0_t1_loop.trips else rowIn c n

theorem rowIn_succ (c : Dev nD) (t : Fin cfg0.N) :
    rowIn m c (t.val + 1) = carried (blkA m c t) (blkD m c t) (rowIn m c t.val) k0_t1_loop.trips := by
  simp only [rowIn, dif_pos t.isLt]

/-- What point `t` leaves in its output block. -/
def outBlock (c : Dev nD) (t : Fin cfg0.N) : FVec F S256x1280 .f32 := block (blkA m c t) (blkD m c t) (rowIn m c t.val)

/-- The invariant before point `n`: the carried scratch's first row is the carried row. -/
def PhiS (c : Dev nD) : ℕ → sProp 𝕄
  | 0 => Pipeline.ΦA spec0 c
  | n + 1 => iprop(iprop(∃ d, ⌜rowZero d = rowIn m c (n + 1)⌝ ∗ owns (c : Thread nD τ) scM0_0 fullShare d) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outBlock m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

theorem owns_out (c : Dev nD) (t : Fin cfg0.N) (L : List (View.Piece (Elt F) S256x1280 .f32))
    (hL : L = pieces (blkA m c t) (blkD m c t) (rowIn m c t.val) k0_t1_loop.trips) (f : (ms0_2 t).view.ty.Contents (Elt F)) :
    (ms0_2 t).view.read (Elt F) ((ms0_2 t).view.writes (Elt F) f L) = outBlock m c t := by
  subst hL
  exact RevTrip.read_pieces (blkA m c t) (blkD m c t) (rowIn m c t.val) (ms0_2 t).view f

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl,
    after0_0, after0_1, after0_2]
  rw [show (dats m 0 c).Φ t.succ = iprop(iprop(∃ d, ⌜rowZero d = rowIn m c (t.val + 1)⌝ ∗ owns (c : Thread nD τ) scM0_0 fullShare d) ∗ (∃ r, prngReg c r)) from rfl,
    show (dats m 0 c).Φ t.castSucc = PhiS m c t.val from rfl, rowIn_succ]
  have hN : t.val < 9 := lt_of_lt_of_eq t.isLt (show cfg0.N = 9 from N_0)
  by_cases hz : t.val = 0
  · have h0 : cond0_0 (grid0.coords t) := (hcond0_0 t).mpr (by omega)
    obtain ⟨L, hL⟩ := runA_scratch (F := F) c (grid0.coords t) (ms0_0 t) (hs0_0 t) (ms0_1 t) (hs0_1 t) (ms0_2 t) (hs0_2 t) scM0_0 (Memref.isWhole_whole _) (blkA m c t) (blkD m c t) h0
    have hO := runA_out (F := F) c (grid0.coords t) (ms0_0 t) (hs0_0 t) (ms0_1 t) (hs0_1 t) (ms0_2 t) (hs0_2 t) scM0_0 (Memref.isWhole_whole _) (blkA m c t) (blkD m c t) h0
    have hr : rowIn m c t.val = clearRow := by rw [hz]; rfl
    rw [← hr] at hL hO
    rw [show PhiS m c t.val = Pipeline.ΦA spec0 c by rw [hz]; rfl, PhiA0_eq]
    iintro ⟨⟨HS0, Hg⟩, Ho, ⟨%d0, H0⟩, ⟨%d1, H1⟩, ⟨%d2, H2⟩⟩
    iapply ((kernelRun0_A c (grid0.coords t) _ _ _ _ _ _ _ _ h0 (blkA m c t) (blkD m c t)).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hg]
    · isplitl [HS0]
      · iexists _; isplitr
        swap
        · unfold owns; iexists _; isplitr
          swap; · iexact HS0
          ipureintro; rfl
        ipureintro
        rw [hL]; exact rowZero_writes _ _ _ _
      iexact Hg
    isplitl [Ho]; · iexact Ho
    isplitl [H0]; · iexact H0
    isplitl [H1]; · iexact H1
    unfold owns; iexists _; isplitr
    swap; · iexact H2
    ipureintro; exact owns_out m c t _ hO _
  · have h0 : ¬ cond0_0 (grid0.coords t) := fun h => hz (by have := (hcond0_0 t).mp h; omega)
    obtain ⟨n, hn⟩ : ∃ n, t.val = n + 1 := ⟨t.val - 1, by omega⟩
    rw [show PhiS m c t.val = iprop(iprop(∃ d, ⌜rowZero d = rowIn m c t.val⌝ ∗ owns (c : Thread nD τ) scM0_0 fullShare d) ∗ (∃ r, prngReg c r)) by rw [hn]; rfl]
    iintro ⟨⟨⟨%ds, %hds, HS0⟩, Hg⟩, Ho, ⟨%d0, H0⟩, ⟨%d1, H1⟩, ⟨%d2, H2⟩⟩
    have hL := runB_scratch (F := F) c (grid0.coords t) (ms0_0 t) (hs0_0 t) (ms0_1 t) (hs0_1 t) (ms0_2 t) (hs0_2 t) scM0_0 (Memref.isWhole_whole _) (blkA m c t) (blkD m c t) ds h0
    have hO := runB_out (F := F) c (grid0.coords t) (ms0_0 t) (hs0_0 t) (ms0_1 t) (hs0_1 t) (ms0_2 t) (hs0_2 t) scM0_0 (Memref.isWhole_whole _) (blkA m c t) (blkD m c t) ds h0
    rw [hds] at hL hO
    iapply ((kernelRun0_B c (grid0.coords t) _ _ _ _ _ _ _ _ h0 (blkA m c t) (blkD m c t) ds).2.2 Set.univ _)
    isplitl [H0]; · iexact H0
    isplitl [H1]; · iexact H1
    isplitl [H2]; · iexists _; iexact H2
    isplitl [HS0]; · iexact HS0
    iintro ⟨H0, H1, ⟨%e2, H2⟩, HS0⟩
    isplitl [HS0 Hg]
    · isplitl [HS0]
      · iexists _; isplitr
        swap
        · unfold owns; iexists _; isplitr
          swap; · iexact HS0
          ipureintro; rfl
        ipureintro
        rw [hL]; exact rowZero_writes _ _ _ _
      iexact Hg
    isplitl [Ho]; · iexact Ho
    isplitl [H0]; · iexact H0
    isplitl [H1]; · iexact H1
    unfold owns; iexists _; isplitr
    swap; · iexact H2
    ipureintro; exact owns_out m c t _ hO _

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = iprop(iprop(∃ d, ⌜rowZero d = rowIn m c (8 + 1)⌝ ∗ owns (c : Thread nD τ) scM0_0 fullShare d) ∗ (∃ r, prngReg c r)) by
    show PhiS m c (Fin.last cfg0.N).val = _
    rw [Fin.val_last, show cfg0.N = 8 + 1 from N_0]; rfl, PhiA0_eq]
  iintro ⟨⟨%d, -, HS0⟩, Hg⟩
  isplitl [HS0]
  · iexists _; iexact HS0
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

theorem frame_post : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.RevRun

end
-- ==== Proof.RevTile.lean ====
/- One trip of the reverse-direction scan's gradient kernel: its eight rows, column by column, are the network. -/
module

public import proofs.«01_k».proof.Proof.ScanAlg
public import proofs.«01_k».proof.Proof.RevTrip
public import Idealize.ShloMosaic.Lib.Pointwise
public import Idealize.ShloMosaic.Lib.KernelVsHost

@[expose] public section

set_option maxRecDepth 16384

noncomputable section

namespace Cert.RevTile

open Idealize.ShloMosaic Cert.Kernel2Ideal Cert.Kernel2Ideal.Gen Cert.ScanAlg Cert.RevTrip

/-- Row of a tile at its visit `q`: the first row first. -/
def at_ (q : ℕ) (j : Fin 1280) : S8x1280.Idx := ix2 (⟨q % 8, by omega⟩ : Fin 8) j

/-- A tile's column, visit by visit. -/
def col (X : FVec Ideal S8x1280 .f32) (j : Fin 1280) (q : ℕ) : EReal := X (at_ q j)

theorem hand (d : ℕ) (b : BitVec 32) (hb : (d, b) ∈ [(1, 1#32), (2, 2#32), (4, 4#32)]) (f : EReal) (X : FVec Ideal S8x1280 .f32) (j : Fin 1280) (q : ℕ) (hq : q < 8) :
    select (cmpi .slt rows (broadcast S8x1280 b)) (broadcast S8x1280 f) (dynamicRotate 0 b none X rotates_S8x1280_d0) (at_ q j)
      = shift d f (col X j) q := by
  simp only [List.mem_cons, Prod.mk.injEq, List.not_mem_nil, or_false] at hb
  have hrot : d ≤ q → dynamicRotate 0 b none X rotates_S8x1280_d0 (at_ q j) = X (at_ (q - d) j) := fun hd =>
    dynamicRotate_apply 0 b X _ (at_ q j) (at_ (q - d) j) fun a => by
      match a with
      | ⟨0, _⟩ =>
        show (q - d) % 8 = (q % 8 + 8 - b.toNat % 8) % 8
        rcases hb with ⟨rfl, rfl⟩ | ⟨rfl, rfl⟩ | ⟨rfl, rfl⟩ <;> interval_cases q <;> first | rfl | omega
      | ⟨1, _⟩ => rfl
  have hm : cmpi .slt rows (broadcast S8x1280 b) (at_ q j) = if d ≤ q then 0#1 else 1#1 := by
    rcases hb with ⟨rfl, rfl⟩ | ⟨rfl, rfl⟩ | ⟨rfl, rfl⟩ <;> interval_cases q <;> rfl
  unfold shift
  by_cases h : d ≤ q
  · rw [if_pos h] at hm ⊢
    show (if _ = 1#1 then _ else _) = _
    rw [hm, if_neg (by decide), hrot h]; rfl
  · rw [if_neg h] at hm ⊢
    show (if _ = 1#1 then _ else _) = _
    rw [hm, if_pos rfl]; rfl

theorem bits_one : (Scalar.ofBits .f32 0x3F800000#32 : Ideal .f32) = (1 : EReal) := Ideal.ofBits_one_f32
theorem bits_zero : (Scalar.ofBits .f32 0x00000000#32 : Ideal .f32) = (0 : EReal) := Ideal.ofBits_zero_f32

theorem hand_one (d : ℕ) (b : BitVec 32) (hb : (d, b) ∈ [(1, 1#32), (2, 2#32), (4, 4#32)]) (X : FVec Ideal S8x1280 .f32) (x : ℕ → EReal)
    (j : Fin 1280) (hx : ∀ q < 8, X (at_ q j) = x q) (q : ℕ) (hq : q < 8) :
    select (cmpi .slt rows (broadcast S8x1280 b)) (broadcast S8x1280 (Scalar.ofBits .f32 0x3F800000#32 : Ideal .f32))
      (dynamicRotate 0 b none X rotates_S8x1280_d0) (at_ q j) = shift d 1 x q := by
  rw [bits_one, hand d b hb 1 X j q hq]
  exact shift_congr hq hx

theorem hand_zero (d : ℕ) (b : BitVec 32) (hb : (d, b) ∈ [(1, 1#32), (2, 2#32), (4, 4#32)]) (X : FVec Ideal S8x1280 .f32) (x : ℕ → EReal)
    (j : Fin 1280) (hx : ∀ q < 8, X (at_ q j) = x q) (q : ℕ) (hq : q < 8) :
    select (cmpi .slt rows (broadcast S8x1280 b)) (broadcast S8x1280 (Scalar.ofBits .f32 0x00000000#32 : Ideal .f32))
      (dynamicRotate 0 b none X rotates_S8x1280_d0) (at_ q j) = shift d 0 x q := by
  rw [bits_zero, hand d b hb 0 X j q hq]
  exact shift_congr hq hx

variable (a v : FVec Ideal S8x1280 .f32) (j : Fin 1280)

theorem pay5_at (q : ℕ) (hq : q < 8) : k0_pay5 (F := Ideal) rows a (at_ q j) = c1 (col a j) q :=
  hand_one 1 1#32 (by decide) a (col a j) j (fun _ _ => rfl) q hq

theorem pay6_at (q : ℕ) (hq : q < 8) : k0_pay6 (F := Ideal) rows a (at_ q j) = c2 (col a j) q :=
  congrArg₂ (fun x y : EReal => x * y) (pay5_at a j q hq) (hand_one 1 1#32 (by decide) _ _ j (pay5_at a j) q hq)

/-- The first of the two doubling steps of `k0_pay7`. -/
def step1 : FVec Ideal S8x1280 .f32 :=
  addf (mulf (k0_pay5 (F := Ideal) rows a) (select (cmpi .slt rows (broadcast S8x1280 1#32)) (broadcast S8x1280 (Scalar.ofBits .f32 0x00000000#32 : Ideal .f32))
      (dynamicRotate 0 1#32 none v rotates_S8x1280_d0))) v

theorem step1_at (q : ℕ) (hq : q < 8) : step1 a v (at_ q j) = s1 (col a j) (col v j) q :=
  congrArg₂ (fun x y : EReal => x * y + v (at_ q j)) (pay5_at a j q hq) (hand_zero 1 1#32 (by decide) v (col v j) j (fun _ _ => rfl) q hq)

theorem pay7_at (q : ℕ) (hq : q < 8) : k0_pay7 (F := Ideal) rows a v (at_ q j) = s2 (col a j) (col v j) q := by
  have h := congrArg₂ (fun x y : EReal => x * y + step1 a v (at_ q j)) (pay6_at a j q hq)
    (hand_zero 2 2#32 (by decide) (step1 a v) _ j (step1_at a v j) q hq)
  refine Eq.trans (Eq.refl _) (h.trans ?_)
  show _ + step1 a v (at_ q j) = _
  rw [step1_at a v j q hq]
  rfl

theorem pay8_at (q : ℕ) (hq : q < 8) : k0_pay8 (F := Ideal) rows a (at_ q j) = c4 (col a j) q :=
  congrArg₂ (fun x y : EReal => x * y) (pay6_at a j q hq) (hand_one 2 2#32 (by decide) _ _ j (pay6_at a j) q hq)

variable (acc : FVec Ideal S1x1280 .f32)

theorem tile_at (q : ℕ) (hq : q < 8) : tile a v acc (at_ q j) = net (acc (ix2 (0 : Fin 1) j)) (col a j) (col v j) q := by
  have h8 := pay8_at a j q hq
  have h7 := pay7_at a v j q hq
  have e1 := hand_one 4 4#32 (by decide) _ _ j (pay8_at a j) q hq
  have e0 := hand_zero 4 4#32 (by decide) _ _ j (pay7_at a v j) q hq
  have hb : broadcastTo S8x1280 acc broadcasts_S1x1280_S8x1280 (at_ q j) = acc (ix2 (0 : Fin 1) j) := by pointwise; rfl
  unfold net
  rw [← h8, ← h7, ← e1, ← e0, ← hb]
  rfl

theorem next_at : next a v acc (ix2 (0 : Fin 1) j) = col a j 7 * net (acc (ix2 (0 : Fin 1) j)) (col a j) (col v j) 7 := by
  rw [← tile_at a v j acc 7 (by omega)]
  have h : ∀ X : FVec Ideal S8x1280 .f32, extractStridedSlice S1x1280 ![7, 0] X slices_S8x1280_o7_0_S1x1280 (ix2 (0 : Fin 1) j) = X (at_ 7 j) := fun X => by
    refine congrArg X (funext fun b => ?_)
    match b with
    | ⟨0, _⟩ => rfl
    | ⟨1, _⟩ => exact Fin.ext (Nat.zero_add _)
  exact congrArg₂ (fun x y : EReal => x * y) (h a) (h _)

end Cert.RevTile

end
-- ==== Proof.RevSum.lean ====
/- A block of the reverse-direction scan's gradient kernel is the recurrence's gradient, visit by visit. -/
module

public import proofs.«01_k».proof.Proof.RevBlock
public import proofs.«01_k».proof.Proof.RevTile

@[expose] public section

set_option maxRecDepth 16384

noncomputable section

namespace Cert.RevSum

open Cert.Kernel2Ideal Cert.Kernel2Ideal.Gen Idealize.ShloMosaic Idealize.ShloMosaic.TcCoe
open Cert.ScanAlg Cert.RevTile
open Cert.RevTrip (carried block rowsAt rect tile next tripOf trips_eq)

/-- The row of a block that visit `n` of the block reads: the first one first. -/
def rowOf (n : ℕ) (j : Fin 1280) : S256x1280.Idx := ix2 (⟨n % 256, by omega⟩ : Fin 256) j

variable (x0 x1 : FVec Ideal S256x1280 .f32) (init : FVec Ideal S1x1280 .f32) (j : Fin 1280)
variable (a v : ℕ → EReal) (N : ℕ)

theorem col_rows (x : FVec Ideal S256x1280 .f32) (k : Fin k0_t1_loop.trips) (q : ℕ) (hq : q < 8) :
    col (rowsAt x k) j q = x (rowOf (8 * k.val + q) j) := by
  show x ((rect k).emb (at_ q j)) = _
  have hk : k.val < 32 := lt_of_lt_of_eq k.isLt trips_eq
  refine congrArg x (funext fun b => ?_)
  match b with
  | ⟨0, _⟩ =>
    apply Fin.ext
    refine (RevTrip.rect_emb_zero k _).trans ?_
    show 8 * k.val + q % 8 = (8 * k.val + q) % 256
    omega
  | ⟨1, _⟩ => exact RevTrip.rect_emb_one k _

variable (h0 : ∀ n < 256, x0 (rowOf n j) = a (N + n)) (h1 : ∀ n < 256, x1 (rowOf n j) = v (N + n))
  (hi : init (ix2 (0 : Fin 1) j) = carry a v N) (ha : ∀ n < 256, 0 ≤ a (N + n) ∧ a (N + n) ≠ ⊤)

include h0 h1 ha in
theorem net_trip (k : Fin k0_t1_loop.trips) (acc : FVec Ideal S1x1280 .f32) (hacc : acc (ix2 (0 : Fin 1) j) = carry a v (N + 8 * k.val)) (q : ℕ) (hq : q < 8) :
    net (acc (ix2 (0 : Fin 1) j)) (col (rowsAt x0 k) j) (col (rowsAt x1 k) j) q = grad a v (N + 8 * k.val + q) := by
  have hk : k.val < 32 := lt_of_lt_of_eq k.isLt trips_eq
  refine net_visit hacc (fun p hp => ?_) (fun p hp => ?_) (fun p hp => ?_) q hq
  · rw [col_rows j x0 k p hp, h0 _ (by omega), Nat.add_assoc]
  · rw [col_rows j x1 k p hp, h1 _ (by omega), Nat.add_assoc]
  · rw [Nat.add_assoc]; exact ha _ (by omega)

include h0 h1 hi ha in
theorem carried_eq (k : ℕ) (hk : k ≤ k0_t1_loop.trips) :
    carried x0 x1 init k (ix2 (0 : Fin 1) j) = carry a v (N + 8 * k) := by
  induction k with
  | zero => exact hi
  | succ k ih =>
    have h : k < k0_t1_loop.trips := hk
    have hk' : k < 32 := lt_of_lt_of_eq h trips_eq
    have e := ih (Nat.le_of_lt h)
    simp only [carried, dif_pos h]
    rw [next_at, net_trip x0 x1 j a v N h0 h1 ha ⟨k, h⟩ _ e 7 (by omega), col_rows j x0 ⟨k, h⟩ 7 (by omega), h0 _ (by show 8 * k + 7 < 256; omega)]
    show a (N + (8 * k + 7)) * grad a v (N + 8 * k + 7) = carry a v (N + 8 * k + 7 + 1)
    rw [← Nat.add_assoc]
    rfl

include h0 h1 hi ha in
theorem block_eq (n : ℕ) (hn : n < 256) : block x0 x1 init (rowOf n j) = grad a v (N + n) := by
  have hk : tripOf (rowOf n j) = ⟨n / 8, by rw [trips_eq]; omega⟩ := by
    apply Fin.ext
    show n % 256 / 8 = n / 8
    omega
  unfold block
  rw [hk]
  have hrow : ix2 (⟨(rowOf n j (0 : Fin 2)).val % 8, by omega⟩ : Fin 8) (rowOf n j (1 : Fin 2)) = at_ (n % 8) j := funext fun b => by
    match b with
    | ⟨0, _⟩ =>
      apply Fin.ext
      show n % 256 % 8 = n % 8 % 8
      omega
    | ⟨1, _⟩ => rfl
  refine (congrArg (tile _ _ _) hrow).trans ?_
  rw [tile_at _ _ j _ (n % 8) (by omega)]
  rw [net_trip x0 x1 j a v N h0 h1 ha ⟨n / 8, by rw [trips_eq]; omega⟩ _ (carried_eq x0 x1 init j a v N h0 h1 hi ha (n / 8) (by rw [trips_eq]; omega)) (n % 8) (by omega)]
  refine congrArg (grad a v) ?_
  show N + 8 * (n / 8) + n % 8 = N + n
  omega

end Cert.RevSum

end
-- ==== Proof.RowTurn.lean ====
/- The reverse direction's order of rows on the host: the first 256 rows reversed, then the other 2048 reversed. -/
module

public import proofs.«01_k».proof.Proof.RowSlice
public import Idealize.ShloMosaic.PureOps.Ideal
public import Idealize.ShloMosaic.Lib.Pointwise
public import Idealize.ShloMosaic.Lib.KernelVsHost

@[expose] public section

set_option maxRecDepth 16384

noncomputable section

namespace Cert.RowTurn

open Idealize.ShloMosaic
open Cert.RowSlice (Rows)

abbrev Head : Shape := ⟨2, ![256, 1280]⟩
abbrev Tail : Shape := ⟨2, ![2048, 1280]⟩
abbrev One : Shape := ⟨0, ![]⟩

/-- The row standing at place `i` of the reversed order. -/
def turn (i : Fin 2304) : Fin 2304 := if h : i.val < 256 then ⟨255 - i.val, by omega⟩ else ⟨2559 - i.val, by omega⟩

theorem turn_head {i : Fin 2304} (h : i.val < 256) : turn i = ⟨255 - i.val, by omega⟩ := dif_pos h
theorem turn_tail {i : Fin 2304} (h : ¬ i.val < 256) : turn i = ⟨2559 - i.val, by omega⟩ := dif_neg h

theorem turn_turn (i : Fin 2304) : turn (turn i) = i := by
  have hi := i.isLt
  by_cases h : i.val < 256
  · rw [turn_head h, turn_head (by show 255 - i.val < 256; omega)]
    exact Fin.ext (by show 255 - (255 - i.val) = i.val; omega)
  · rw [turn_tail h, turn_tail (by show ¬ 2559 - i.val < 256; omega)]
    exact Fin.ext (by show 2559 - (2559 - i.val) = i.val; omega)

variable {α : Type}

/-- An array in the reversed order of its rows. -/
def turned (x : Rows.Idx → α) : Rows.Idx → α := fun y => x (ix2 (turn (y (0 : Fin 2))) (y (1 : Fin 2)))

/-- The reversed head at a row of it, and the reversed tail at a row of it. -/
theorem head_at (x : Rows.Idx → α) (h : Rows.Slices ![0, 0] Head) (i : Fin 256) (j : Fin 1280) :
    Host.reverse [0] (extractStridedSlice Head ![0, 0] x h) (ix2 i j) = x (ix2 (⟨255 - i.val, by omega⟩ : Fin 2304) j) := by
  pointwise
  refine congrArg x (congr (congrArg ix2 (Fin.ext ?_)) (if_neg (by decide)))
  refine (congrArg Fin.val (if_pos (by decide))).trans ?_
  show 256 - (i.val + 1) = 255 - i.val
  omega

theorem tail_at (x : Rows.Idx → α) (h : Rows.Slices ![256, 0] Tail) (i : Fin 2048) (j : Fin 1280) :
    Host.reverse [0] (extractStridedSlice Tail ![256, 0] x h) (ix2 i j) = x (ix2 (⟨2303 - i.val, by omega⟩ : Fin 2304) j) := by
  pointwise
  refine congrArg x (congr (congrArg ix2 (Fin.ext ?_)) (if_neg (by decide)))
  refine (congrArg (256 + ·) (congrArg Fin.val (if_pos (by decide)))).trans ?_
  show 256 + (2048 - (i.val + 1)) = 2303 - i.val
  omega

theorem join_at (x : Head.Idx → α) (y : Tail.Idx → α) (h : Shape.Concatenates [Head, Tail] Rows 0) (i : Fin 2304) (j : Fin 1280) :
    concatenate Rows 0 [⟨Head, x⟩, ⟨Tail, y⟩] h (ix2 i j) = if hi : i.val < 256 then x (ix2 ⟨i.val, hi⟩ j) else y (ix2 ⟨i.val - 256, by omega⟩ j) := by
  pointwise

theorem padHead_at (x : Head.Idx → α) (v : One.Idx → α) (h : Head.Pads ![0, 0] ![2048, 0] ![0, 0] Rows) (hu : 0 < One.numel) (i : Fin 2304) (j : Fin 1280) :
    pad Rows ![0, 0] ![2048, 0] ![0, 0] x v h hu (ix2 i j) = if hi : i.val < 256 then x (ix2 ⟨i.val, hi⟩ j) else v (Shape.Idx.first hu) := by
  pointwise

theorem padTail_at (x : Tail.Idx → α) (v : One.Idx → α) (h : Tail.Pads ![256, 0] ![0, 0] ![0, 0] Rows) (hu : 0 < One.numel) (i : Fin 2304) (j : Fin 1280) :
    pad Rows ![256, 0] ![0, 0] ![0, 0] x v h hu (ix2 i j) = if hi : i.val < 256 then v (Shape.Idx.first hu) else x (ix2 ⟨i.val - 256, by omega⟩ j) := by
  pointwise
  have := i.isLt
  by_cases hi : i.val < 256
  · rw [dif_pos hi, dif_neg (by omega)]
  · rw [dif_neg hi, dif_pos (by omega)]

/-- The coefficients' order: the reversed head followed by the reversed tail. -/
theorem joined (x : Rows.Idx → α) (h0 : Rows.Slices ![0, 0] Head) (h1 : Rows.Slices ![256, 0] Tail) (h : Shape.Concatenates [Head, Tail] Rows 0) (i : Fin 2304) (j : Fin 1280) :
    concatenate Rows 0 [⟨Head, Host.reverse [0] (extractStridedSlice Head ![0, 0] x h0)⟩, ⟨Tail, Host.reverse [0] (extractStridedSlice Tail ![256, 0] x h1)⟩] h (ix2 i j)
      = x (ix2 (turn i) j) := by
  rw [join_at]
  by_cases hi : i.val < 256
  · rw [dif_pos hi, head_at, turn_head hi]
  · rw [dif_neg hi, tail_at, turn_tail hi]
    exact congrArg x (congrArg (ix2 · j) (Fin.ext (by show 2303 - (i.val - 256) = 2559 - i.val; omega)))

/-- The cotangent's order, the two parts added into zeros. -/
theorem added (x : FVec Ideal Rows .f32) (v : FVec Ideal One .f32) (h0 : Rows.Slices ![0, 0] Head) (h1 : Rows.Slices ![256, 0] Tail)
    (p0 : Head.Pads ![0, 0] ![2048, 0] ![0, 0] Rows) (p1 : Tail.Pads ![256, 0] ![0, 0] ![0, 0] Rows) (hu : 0 < One.numel) (hv : v (Shape.Idx.first hu) = (0 : EReal)) (i : Fin 2304) (j : Fin 1280) :
    addf (pad Rows ![256, 0] ![0, 0] ![0, 0] (Host.reverse [0] (extractStridedSlice Tail ![256, 0] x h1)) v p1 hu)
      (pad Rows ![0, 0] ![2048, 0] ![0, 0] (Host.reverse [0] (extractStridedSlice Head ![0, 0] x h0)) v p0 hu) (ix2 i j) = x (ix2 (turn i) j) := by
  refine (show _ = (_ + _ : EReal) from rfl).trans ?_
  rw [padTail_at, padHead_at]
  by_cases hi : i.val < 256
  · rw [dif_pos hi, dif_pos hi, head_at, turn_head hi]
    exact (congrArg (· + _) hv).trans (zero_add _)
  · rw [dif_neg hi, dif_neg hi, tail_at, turn_tail hi]
    refine (congrArg (_ + ·) hv).trans ((add_zero _).trans ?_)
    exact congrArg x (congrArg (ix2 · j) (Fin.ext (by show 2303 - (i.val - 256) = 2559 - i.val; omega)))

end Cert.RowTurn

end
-- ==== Proof.RevFinal.lean ====
/- The result array of the reverse-direction scan's gradient kernel: at each row the recurrence's gradient, the rows
   visited from row 256 on, the first 256 last. -/
module

public import proofs.«01_k».proof.Proof.RevMain
public import proofs.«01_k».proof.Proof.RevSum
public import proofs.«01_k».proof.Proof.RowTurn

@[expose] public section

set_option maxRecDepth 16384

noncomputable section

namespace Cert.RevRun

open Cert.Kernel2Ideal Cert.Kernel2Ideal.Gen Idealize.ShloMosaic Idealize.ShloMosaic.TcCoe Idealize.SL.Sem
open Cert.ScanAlg
open Cert.RevSum (rowOf)
open Cert.RowSlice (down)
open Cert.RowTurn (turn turned turn_head turn_tail)

/-- The gradient array. -/
def gradArr (a v : FVec Ideal S2304x1280 .f32) : FVec Ideal S2304x1280 .f32 := fun y =>
  grad (down (turned a) (y (1 : Fin 2))) (down (turned v) (y (1 : Fin 2))) (2303 - (turn (y (0 : Fin 2))).val)

theorem index0 : ∀ t : Fin cfg0.N, win0_0.index t (0 : Fin 2) = (t.val + 1) % 9 ∧ win0_0.index t (1 : Fin 2) = 0 :=
  (by decide +kernel : ∀ t : Fin grid0.N, win0_0.index t (0 : Fin 2) = (t.val + 1) % 9 ∧ win0_0.index t (1 : Fin 2) = 0)
theorem index1 : ∀ t : Fin cfg0.N, win0_1.index t (0 : Fin 2) = (t.val + 1) % 9 ∧ win0_1.index t (1 : Fin 2) = 0 :=
  (by decide +kernel : ∀ t : Fin grid0.N, win0_1.index t (0 : Fin 2) = (t.val + 1) % 9 ∧ win0_1.index t (1 : Fin 2) = 0)
theorem index2 : ∀ t : Fin cfg0.N, win0_2.index t (0 : Fin 2) = (t.val + 1) % 9 ∧ win0_2.index t (1 : Fin 2) = 0 :=
  (by decide +kernel : ∀ t : Fin grid0.N, win0_2.index t (0 : Fin 2) = (t.val + 1) % 9 ∧ win0_2.index t (1 : Fin 2) = 0)
theorem flush2 : ∀ t : Fin cfg0.N, (cfg0.win 2).flush t = true :=
  (by decide +kernel : ∀ t : Fin grid0.N, win0_2.flush t = true)

/-- The row of the array that row `r` of point `t`'s block is. -/
def arrRow (t : Fin cfg0.N) (y : S256x1280.Idx) : S2304x1280.Idx :=
  ix2 (⟨256 * ((t.val + 1) % 9) + (y (0 : Fin 2)).val, by
    have h : (y (0 : Fin 2)).val < 256 := (y (0 : Fin 2)).isLt
    omega⟩ : Fin 2304) (y (1 : Fin 2))

theorem read0 (t : Fin cfg0.N) (f : FVec Ideal S2304x1280 .f32) (y : S256x1280.Idx) :
    (win0_0.blk t).view.read (Elt Ideal) f y = f (arrRow t y) := by
  refine congrArg f (funext fun b => ?_)
  match b with
  | ⟨0, _⟩ =>
    apply Fin.ext
    show win0_0.index t (0 : Fin 2) * 256 + 1 * (y (0 : Fin 2)).val = 256 * ((t.val + 1) % 9) + (y (0 : Fin 2)).val
    rw [(index0 t).1]; omega
  | ⟨1, _⟩ =>
    apply Fin.ext
    show win0_0.index t (1 : Fin 2) * 1280 + 1 * (y (1 : Fin 2)).val = (y (1 : Fin 2)).val
    rw [(index0 t).2]; omega
theorem read1 (t : Fin cfg0.N) (f : FVec Ideal S2304x1280 .f32) (y : S256x1280.Idx) :
    (win0_1.blk t).view.read (Elt Ideal) f y = f (arrRow t y) := by
  refine congrArg f (funext fun b => ?_)
  match b with
  | ⟨0, _⟩ =>
    apply Fin.ext
    show win0_1.index t (0 : Fin 2) * 256 + 1 * (y (0 : Fin 2)).val = 256 * ((t.val + 1) % 9) + (y (0 : Fin 2)).val
    rw [(index1 t).1]; omega
  | ⟨1, _⟩ =>
    apply Fin.ext
    show win0_1.index t (1 : Fin 2) * 1280 + 1 * (y (1 : Fin 2)).val = (y (1 : Fin 2)).val
    rw [(index1 t).2]; omega
theorem read2 (t : Fin cfg0.N) (f : FVec Ideal S2304x1280 .f32) (y : S256x1280.Idx) :
    (win0_2.blk t).view.read (Elt Ideal) f y = f (arrRow t y) := by
  refine congrArg f (funext fun b => ?_)
  match b with
  | ⟨0, _⟩ =>
    apply Fin.ext
    show win0_2.index t (0 : Fin 2) * 256 + 1 * (y (0 : Fin 2)).val = 256 * ((t.val + 1) % 9) + (y (0 : Fin 2)).val
    rw [(index2 t).1]; omega
  | ⟨1, _⟩ =>
    apply Fin.ext
    show win0_2.index t (1 : Fin 2) * 1280 + 1 * (y (1 : Fin 2)).val = (y (1 : Fin 2)).val
    rw [(index2 t).2]; omega

theorem mem_blk (t : Fin cfg0.N) (i : S2304x1280.Idx) :
    i ∈ ((cfg0.win 2).blk t).view.set ↔ ∀ a : Fin 2, win0_2.index t a * S256x1280.size a ≤ (i a).val ∧ (i a).val < win0_2.index t a * S256x1280.size a + S256x1280.size a := by
  show i ∈ ((View.whole main_v0).slice (win0_2.rect t)).set ↔ _
  rw [View.set_slice_whole, Rect.mem_set_unit]
  exact Iff.rfl

variable (m : (ℓ : Loc nD τ sig) → Buf (Elt Ideal) ℓ) (ρ : Dev nD → PrngReg) (c : Dev nD)

abbrev arrA : FVec Ideal S2304x1280 .f32 := m ((c : Thread nD τ).loc main_arg0)
abbrev arrD : FVec Ideal S2304x1280 .f32 := m ((c : Thread nD τ).loc main_arg1)

theorem visits_row (t : Fin cfg0.N) (x : FVec Ideal S2304x1280 .f32) (j : Fin 1280) (n : ℕ) (hn : n < 256) :
    x (arrRow t (rowOf n j)) = down (turned x) j (256 * t.val + n) := by
  have ht : t.val < 9 := lt_of_lt_of_eq t.isLt N_0
  refine congrArg x (funext fun b => ?_)
  match b with
  | ⟨0, _⟩ =>
    apply Fin.ext
    show 256 * ((t.val + 1) % 9) + n % 256 = (turn ⟨2303 - (256 * t.val + n), by omega⟩).val
    by_cases h : t.val = 8
    · rw [turn_head (by show 2303 - (256 * t.val + n) < 256; omega)]
      show 256 * ((t.val + 1) % 9) + n % 256 = 255 - (2303 - (256 * t.val + n))
      omega
    · rw [turn_tail (by show ¬ 2303 - (256 * t.val + n) < 256; omega)]
      show 256 * ((t.val + 1) % 9) + n % 256 = 2559 - (2303 - (256 * t.val + n))
      omega
  | ⟨1, _⟩ => rfl

theorem blkA_row (t : Fin cfg0.N) (j : Fin 1280) (n : ℕ) (hn : n < 256) :
    blkA m c t (rowOf n j) = down (turned (arrA m c)) j (256 * t.val + n) :=
  (read0 t (arrA m c) (rowOf n j)).trans (visits_row t _ j n hn)
theorem blkD_row (t : Fin cfg0.N) (j : Fin 1280) (n : ℕ) (hn : n < 256) :
    blkD m c t (rowOf n j) = down (turned (arrD m c)) j (256 * t.val + n) :=
  (read1 t (arrD m c) (rowOf n j)).trans (visits_row t _ j n hn)

theorem clearRow_at (j : Fin 1280) : clearRow (F := Ideal) (ix2 (0 : Fin 1) j) = (0 : EReal) := by
  unfold clearRow rowZero k0_pay1
  rw [shapeCast_id]
  exact Ideal.ofBits_zero_f32

variable (hpos : ∀ y, 0 ≤ arrA m c y ∧ arrA m c y ≠ ⊤)

include hpos in
theorem rowIn_eq (j : Fin 1280) (n : ℕ) (hn : n ≤ 9) :
    rowIn m c n (ix2 (0 : Fin 1) j) = carry (down (turned (arrA m c)) j) (down (turned (arrD m c)) j) (256 * n) := by
  induction n with
  | zero => exact clearRow_at j
  | succ n ih =>
    have hN : n < cfg0.N := lt_of_lt_of_eq (by omega : n < 9) N_0.symm
    refine (congrFun (rowIn_succ m c ⟨n, hN⟩) _).trans ?_
    refine (RevSum.carried_eq (blkA m c ⟨n, hN⟩) (blkD m c ⟨n, hN⟩) (rowIn m c n) j _ _ (256 * n)
      (blkA_row m c ⟨n, hN⟩ j) (blkD_row m c ⟨n, hN⟩ j) (ih (by omega)) (fun k _ => hpos _) _ (Nat.le_refl _)).trans ?_
    rw [RevTrip.trips_eq]
    exact congrArg (carry _ _) (by omega)

include hpos in
theorem flushed_eq (t : Fin cfg0.N) :
    (dats m 0 c).flushed 2 t = (win0_2.blk t).view.read (Elt Ideal) (gradArr (arrA m c) (arrD m c)) := by
  have ht : t.val < 9 := lt_of_lt_of_eq t.isLt N_0
  show (cfg0.win 2).cut (grid0.coords t) ((dats m 0 c).after 2 t) = _
  rw [after0_2]
  refine Eq.trans (b := outBlock m c t) rfl (funext fun y => ?_)
  rw [read2]
  have hy : (y (0 : Fin 2)).val < 256 := (y (0 : Fin 2)).isLt
  have e : rowOf (y (0 : Fin 2)).val (y (1 : Fin 2)) = y := funext fun b => by
    match b with
    | ⟨0, _⟩ => exact Fin.ext (show (y (0 : Fin 2)).val % 256 = (y (0 : Fin 2)).val by omega)
    | ⟨1, _⟩ => rfl
  have h := RevSum.block_eq (blkA m c t) (blkD m c t) (rowIn m c t.val) (y (1 : Fin 2)) _ _ (256 * t.val)
    (blkA_row m c t _) (blkD_row m c t _) (rowIn_eq m c hpos _ t.val (by omega)) (fun k _ => hpos _) (y (0 : Fin 2)).val hy
  rw [e] at h
  refine h.trans ?_
  show grad _ _ (256 * t.val + (y (0 : Fin 2)).val) = grad _ _ (2303 - (turn ⟨256 * ((t.val + 1) % 9) + (y (0 : Fin 2)).val, by omega⟩).val)
  refine congrArg (grad _ _) ?_
  by_cases h : t.val = 8
  · rw [turn_head (by show 256 * ((t.val + 1) % 9) + (y (0 : Fin 2)).val < 256; omega)]
    show _ = 2303 - (255 - (256 * ((t.val + 1) % 9) + (y (0 : Fin 2)).val))
    omega
  · rw [turn_tail (by show ¬ 256 * ((t.val + 1) % 9) + (y (0 : Fin 2)).val < 256; omega)]
    show _ = 2303 - (2559 - (256 * ((t.val + 1) % 9) + (y (0 : Fin 2)).val))
    omega

theorem cover (i : S2304x1280.Idx) : ∃ t : Fin cfg0.N, (cfg0.win 2).flush t = true ∧ i ∈ ((cfg0.win 2).blk t).view.set := by
  have h0 : (i (0 : Fin 2)).val < 2304 := (i (0 : Fin 2)).isLt
  have h1 : (i (1 : Fin 2)).val < 1280 := (i (1 : Fin 2)).isLt
  have hN : cfg0.N = 9 := N_0
  refine ⟨⟨((i (0 : Fin 2)).val / 256 + 8) % 9, by omega⟩, flush2 _, ?_⟩
  rw [mem_blk]
  intro b
  match b with
  | ⟨0, _⟩ =>
    have e := (index2 ⟨((i (0 : Fin 2)).val / 256 + 8) % 9, by omega⟩).1
    show win0_2.index _ (0 : Fin 2) * 256 ≤ (i (0 : Fin 2)).val ∧ (i (0 : Fin 2)).val < win0_2.index _ (0 : Fin 2) * 256 + 256
    rw [e]
    show ((((i (0 : Fin 2)).val / 256 + 8) % 9 + 1) % 9) * 256 ≤ (i (0 : Fin 2)).val ∧ (i (0 : Fin 2)).val < ((((i (0 : Fin 2)).val / 256 + 8) % 9 + 1) % 9) * 256 + 256
    omega
  | ⟨1, _⟩ =>
    have e := (index2 ⟨((i (0 : Fin 2)).val / 256 + 8) % 9, by omega⟩).2
    show win0_2.index _ (1 : Fin 2) * 1280 ≤ (i (1 : Fin 2)).val ∧ (i (1 : Fin 2)).val < win0_2.index _ (1 : Fin 2) * 1280 + 1280
    rw [e]
    omega

include hpos in
theorem final_out : (dats m 0 c).arrAt 2 cfg0.N = gradArr (arrA m c) (arrD m c) :=
  (dats m 0 c).arrAt_eq_of_cover 2 (gradArr (arrA m c) (arrD m c)) (fun t _ => flushed_eq m c hpos t) cover

theorem run (hp : ∀ c : Dev nD, ∀ y, 0 ≤ arrA m c y ∧ arrA m c y ≠ ⊤) :
    θ_run defs (onTc (τ := τ) (main (F := Ideal))) ⟨m, fun _ => 0, ρ⟩ fun r => ∀ c : Dev nD,
      r.2.mem ((c : Thread nD τ).loc main_v0) = gradArr (arrA m c) (arrD m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final_out m c (hp c)),
      ((h c).1 0).trans ((dats m 0 c).arrAt_in 0 rfl _), ((h c).1 1).trans ((dats m 0 c).arrAt_in 1 rfl _)⟩)
    (run_main m ρ)

end Cert.RevRun

end
-- ==== Proof.RevRef.lean ====
/- What the reverse reference's loop leaves: the recurrence's gradient, row by row from the last. -/
module

public import proofs.«01_k».proof.Proof.RowTurn
public import proofs.«01_k».proof.Proof.ScanAlg
public import proofs.«01_k».proof.Proof.Gen.Reference2Ideal.Run
public import Idealize.ShloMosaic.Lib.Quiescent

@[expose] public section

set_option maxRecDepth 16384

noncomputable section

namespace Cert.RevRef

open Cert.Reference2Ideal Cert.Reference2Ideal.Gen Cert.Reference2Ideal.Value Idealize.ShloMosaic Idealize.ShloMosaic.TcCoe Idealize.SL.Sem Idealize.ShloMosaic.StableHlo
open Cert.ScanAlg Cert.RowSlice Cert.RowTurn

/-- The loop's buffers at their shapes: the cotangent, the coefficients, the carried row, the rows written so far. -/
abbrev bufV (W : Valuation τ sig (Elt Ideal)) : FVec Ideal S2304x1280 .f32 := W (Proc.devRef .tc main_v15_0)
abbrev bufA (W : Valuation τ sig (Elt Ideal)) : FVec Ideal S2304x1280 .f32 := W (Proc.devRef .tc main_v15_1)
abbrev bufC (W : Valuation τ sig (Elt Ideal)) : IVec S_ 32 := W (Proc.devRef .tc main_v15_2)
abbrev bufS (W : Valuation τ sig (Elt Ideal)) : FVec Ideal S1280 .f32 := W (Proc.devRef .tc main_v15_3)
abbrev bufO (W : Valuation τ sig (Elt Ideal)) : FVec Ideal S2304x1280 .f32 := W (Proc.devRef .tc main_v15_4)

variable (W : Valuation τ sig (Elt Ideal))

/-- Where a trip reads and writes. -/
def start : Fin 2 → Int := fun k => ((![res_main_while0b_v24 W, constantI S_ 32 0#32] : Fin 2 → (⟨S_, .i32⟩ : BufTy).Contents (Elt Ideal)) k (Shape.Idx.first h_S_)).toInt

/-- The row a trip takes from the cotangent, and from the coefficients. -/
def rowV : FVec Ideal S1x1280 .f32 := Host.dynamicSlice S1x1280 (bufV W) (start W) sliceFits_S2304x1280_S1x1280
def rowA : FVec Ideal S1x1280 .f32 := Host.dynamicSlice S1x1280 (bufA W) (start W) sliceFits_S2304x1280_S1x1280
def rowG : FVec Ideal S1280 .f32 := res_main_while0b_v27 W
def outRow : FVec Ideal S1x1280 .f32 := broadcastInDim S1x1280 ![1] bcast_S1280_S1x1280_1 (rowG W)

variable {W} {n : ℕ}

theorem start_eq (hn : n < 2304) (hc : bufC W = constantI S_ 32 (BitVec.ofNat 32 n)) :
    start W 0 = ((2303 - n : ℕ) : Int) := by
  show (IntOp.subi (IntOp.subi 2304#32 (bufC W (Shape.Idx.first h_S_))) 1#32).toInt = _
  rw [hc]
  exact down_toInt n hn

theorem start_zero : start W 1 = 0 := by
  show (0#32).toInt = 0
  decide

theorem rowV_at (hn : n < 2304) (hc : bufC W = constantI S_ 32 (BitVec.ofNat 32 n)) (j : Fin 1280) :
    rowV W (ix2 (0 : Fin 1) j) = down (bufV W) j n := by
  unfold rowV
  exact slice_row (bufV W) (start W) sliceFits_S2304x1280_S1x1280 ⟨2303 - n, by omega⟩ (start_eq hn hc) start_zero j

theorem rowA_at (hn : n < 2304) (hc : bufC W = constantI S_ 32 (BitVec.ofNat 32 n)) (j : Fin 1280) :
    rowA W (ix2 (0 : Fin 1) j) = down (bufA W) j n := by
  unfold rowA
  exact slice_row (bufA W) (start W) sliceFits_S2304x1280_S1x1280 ⟨2303 - n, by omega⟩ (start_eq hn hc) start_zero j

theorem flat (x : FVec Ideal S1x1280 .f32) (j : Fin 1280) : shapeCast S1280 x shapeCasts_S1x1280_S1280 (ix1 j) = x (ix2 (0 : Fin 1) j) := by
  pointwise

theorem rowG_at (hn : n < 2304) (hc : bufC W = constantI S_ 32 (BitVec.ofNat 32 n)) (j : Fin 1280) :
    rowG W (ix1 j) = bufS W (ix1 j) + down (bufV W) j n := by
  rw [← rowV_at hn hc j, ← flat (rowV W) j]
  unfold rowG res_main_while0b_v27 rowV
  rfl

theorem outRow_at (j : Fin 1280) : outRow W (ix2 (0 : Fin 1) j) = rowG W (ix1 j) := by
  unfold outRow
  pointwise

theorem nextS_at (hn : n < 2304) (hc : bufC W = constantI S_ 32 (BitVec.ofNat 32 n)) (j : Fin 1280) :
    bufS (STEP W) (ix1 j) = down (bufA W) j n * (bufS W (ix1 j) + down (bufV W) j n) := by
  unfold bufS
  rw [STEP_main_v15_3, ← rowA_at hn hc j, ← flat (rowA W) j, ← rowG_at hn hc j]
  unfold step_main_v15_3 rowA rowG
  rfl

theorem stepO : bufO (STEP W) = Host.dynamicUpdateSlice (bufO W) (outRow W) (start W) updateFits_S2304x1280_S1x1280 := by
  refine (STEP_main_v15_4 W).trans ?_
  unfold step_main_v15_4 outRow rowG start bufO
  exact id_eq _

theorem nextO_at (hn : n < 2304) (hc : bufC W = constantI S_ 32 (BitVec.ofNat 32 n)) (i : Fin 2304) (j : Fin 1280) :
    bufO (STEP W) (ix2 i j) = if i = ⟨2303 - n, by omega⟩ then bufS W (ix1 j) + down (bufV W) j n else bufO W (ix2 i j) := by
  rw [stepO, ← rowG_at hn hc j, ← outRow_at j]
  exact update_row (bufO W) (outRow W) (start W) updateFits_S2304x1280_S1x1280 ⟨2303 - n, by omega⟩ (start_eq hn hc) start_zero i j

theorem nextC (hc : bufC W = constantI S_ 32 (BitVec.ofNat 32 n)) : bufC (STEP W) = constantI S_ 32 (BitVec.ofNat 32 (n + 1)) := by
  refine (STEP_main_v15_2 W).trans ?_
  unfold step_main_v15_2
  funext i
  show bufC W i + 1#32 = BitVec.ofNat 32 (n + 1)
  rw [hc]
  show BitVec.ofNat 32 n + 1#32 = BitVec.ofNat 32 (n + 1)
  simp only [BitVec.ofNat_add]

/-- Before trip `n`: the arrays as they entered, the trip's number, the carried row, and the rows already written. -/
structure Before (iv ia : FVec Ideal S2304x1280 .f32) (n : ℕ) (W : Valuation τ sig (Elt Ideal)) : Prop where
  v : bufV W = iv
  a : bufA W = ia
  c : bufC W = constantI S_ 32 (BitVec.ofNat 32 n)
  s : ∀ j, bufS W (ix1 j) = carry (down ia j) (down iv j) n
  o : ∀ (i : Fin 2304) (j : Fin 1280), 2303 - i.val < n → bufO W (ix2 i j) = grad (down ia j) (down iv j) (2303 - i.val)

theorem Before.next {iv ia : FVec Ideal S2304x1280 .f32} (h : Before iv ia n W) (hn : n < 2304) : Before iv ia (n + 1) (STEP W) where
  v := (STEP_main_v15_0 W).trans h.v
  a := (STEP_main_v15_1 W).trans h.a
  c := nextC h.c
  s j := by rw [nextS_at hn h.c j, h.s j, h.v, h.a]; rfl
  o i j hi := by
    rw [nextO_at hn h.c i j]
    by_cases e : i = ⟨2303 - n, by omega⟩
    · have hv : i.val = 2303 - n := congrArg Fin.val e
      rw [if_pos e, h.s j, h.v, show 2303 - i.val = n by omega]
      rfl
    · rw [if_neg e]
      have hv : i.val ≠ 2303 - n := fun hv => e (Fin.ext hv)
      have := i.isLt
      exact h.o i j (by omega)

theorem Before.iterate {iv ia : FVec Ideal S2304x1280 .f32} (h : Before iv ia 0 W) (n : ℕ) (hn : n ≤ 2304) : Before iv ia n (STEP^[n] W) := by
  induction n with
  | zero => exact h
  | succ n ih => rw [Function.iterate_succ_apply']; exact (ih (by omega)).next hn

theorem Before.all {iv ia : FVec Ideal S2304x1280 .f32} (h : Before iv ia 0 W) (i : Fin 2304) (j : Fin 1280) :
    bufO (STEP^[2304] W) (ix2 i j) = grad (down ia j) (down iv j) (2303 - i.val) :=
  (h.iterate 2304 (Nat.le_refl _)).o i j (by omega)

variable (m : (ℓ : Loc nD τ sig) → Buf (Elt Ideal) ℓ) (ρ : Dev nD → PrngReg) (c : Dev nD)

abbrev argA : FVec Ideal S2304x1280 .f32 := m ((c : Thread nD τ).loc main_arg0)
abbrev argD : FVec Ideal S2304x1280 .f32 := m ((c : Thread nD τ).loc main_arg1)

theorem entry_zero : (∀ j, bufS (entryContents preI m c) (ix1 j) = (0 : EReal)) ∧ bufC (entryContents preI m c) = constantI S_ 32 (BitVec.ofNat 32 0) := by
  constructor
  · intro j
    unfold bufS
    simp only [entryContents, afterL_cons, afterL_nil]
    after_reads_simp
    exact Ideal.ofBits_zero_f32
  · unfold bufC
    simp only [entryContents, afterL_cons, afterL_nil]
    after_reads_simp
    rfl

theorem entry : Before (turned (argD m c)) (turned (argA m c)) 0 (entryContents preI m c) where
  v := by
    unfold bufV
    simp only [entryContents, afterL_cons, afterL_nil]
    after_reads_simp
    funext y
    refine (congrArg _ (eq_ix2 (n0 := 2304) (n1 := 1280) y)).trans ?_
    exact added (argD m c) (constant S_ .f32 0x00000000#32) slices_S2304x1280_S256x1280_0_0 slices_S2304x1280_S2048x1280_256_0 pads_S256x1280_S2304x1280_020480_000 pads_S2048x1280_S2304x1280_25600_000 h_S_ Ideal.ofBits_zero_f32 _ _
  a := by
    unfold bufA
    simp only [entryContents, afterL_cons, afterL_nil]
    after_reads_simp
    funext y
    refine (congrArg _ (eq_ix2 (n0 := 2304) (n1 := 1280) y)).trans ?_
    exact joined (argA m c) slices_S2304x1280_S256x1280_0_0 slices_S2304x1280_S2048x1280_256_0 concatenates_S256x1280_S2048x1280_S2304x1280_d0 _ _
  c := (entry_zero m c).2
  s := (entry_zero m c).1
  o i j h := absurd h (Nat.not_lt_zero _)

/-- The result, row by row. -/
theorem result_at (i : Fin 2304) (j : Fin 1280) :
    (out_main_v22 (STEP^[2304] (entryContents preI m c)) : FVec Ideal S2304x1280 .f32) (ix2 i j)
      = grad (down (turned (argA m c)) j) (down (turned (argD m c)) j) (2303 - (turn i).val) := by
  rw [← (entry m c).all (turn i) j]
  unfold out_main_v22
  exact added (bufO _) (constant S_ .f32 0x00000000#32) slices_S2304x1280_S256x1280_0_0 slices_S2304x1280_S2048x1280_256_0 pads_S256x1280_S2304x1280_020480_000 pads_S2048x1280_S2304x1280_25600_000 h_S_ Ideal.ofBits_zero_f32 i j

end Cert.RevRef

end
-- ==== Proof.RevClaim.lean ====
/- The reverse-direction scan's gradient: the kernel and the reference leave one array. -/
module

public import proofs.«01_k».proof.Defs
public import proofs.«01_k».proof.Proof.Gen.Kernel2
public import proofs.«01_k».proof.Proof.RevFinal
public import proofs.«01_k».proof.Proof.RevRef
public import proofs.«01_k».proof.Proof.ScanPre

@[expose] public section

set_option maxRecDepth 16384

noncomputable section

namespace Cert.RevClaim

open Idealize.ShloMosaic Idealize.ShloMosaic.TcCoe Idealize.SL.Sem
open Cert.RevRun (gradArr arrA arrD)

/-- The program's two readings have one text, so the run over any float values is the run of both. -/
theorem same_bodies : Cert.Kernel2.defs₀ (F := Bits) = Cert.Kernel2Ideal.defs₀ (F := Bits) := by
  unfold Cert.Kernel2.defs₀ Cert.Kernel2Ideal.defs₀
  refine congrArg (Defs.onTc (Λ := Cert.Kernel2.Λ₀)) (funext fun l => ?_)
  match l with
  | ⟨0, _⟩ => rfl

theorem same_defs : Cert.Kernel2.defs (F := Bits) = Cert.Kernel2Ideal.defs (F := Bits) := congrArg (Pipeline.defs Cert.Kernel2.pcfgs) same_bodies

/-- The kernel's frame, from that run. -/
theorem frame_kernel : Cert.quiescent_Kernel2 := fun m g _ => by
  rw [same_defs]; exact Cert.RevRun.frame_post (F := Bits) m g

/-- The reference runs, its arguments unchanged, every counter at zero. -/
theorem ref_frame (m : (ℓ : Loc Cert.Reference2Ideal.nD Cert.Reference2Ideal.τ Cert.Reference2Ideal.sig) → Buf (Elt Ideal) ℓ) (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ fun r =>
      (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0 :=
  (θ_run _ _ _).mono (fun r h => ⟨fun c => (h c).2, sem_eq_zero_of_no_sems (by decide) r.2⟩) (Cert.Reference2Ideal.Value.run m ρ)

theorem pre_at {m : (ℓ : Loc Cert.Kernel2Ideal.nD Cert.Kernel2Ideal.τ Cert.Kernel2Ideal.sig) → Buf (Elt Ideal) ℓ}
    (h : Cert.Pre_Kernel2Ideal_decays m) (c : Dev Cert.Kernel2Ideal.nD) (y : Cert.Kernel2Ideal.S2304x1280.Idx) : 0 ≤ arrA m c y ∧ arrA m c y ≠ ⊤ :=
  Cert.ScanPre.of_decays (h c) y

/-- The reference's result is the gradient array of its arguments. -/
theorem ref_result (m : (ℓ : Loc Cert.Reference2Ideal.nD Cert.Reference2Ideal.τ Cert.Reference2Ideal.sig) → Buf (Elt Ideal) ℓ) (c : Dev Cert.Reference2Ideal.nD) :
    (Cert.Reference2Ideal.Value.out_main_v22 (Cert.Reference2Ideal.Value.STEP^[2304] (StableHlo.entryContents Cert.Reference2Ideal.Value.preI m c)) : FVec Ideal Cert.RowSlice.Rows .f32) = gradArr (Cert.RevRef.argA m c) (Cert.RevRef.argD m c) :=
  funext fun y => by
    conv => lhs; rw [eq_ix2 (n0 := 2304) (n1 := 1280) y]
    exact Cert.RevRef.result_at m c _ _

theorem value : Cert.algebraic_Kernel2Ideal_Reference2Ideal_pre_decays := by
  intro m g m' g' hp hm
  refine ⟨fun c => gradArr (arrA m c) (arrD m c), Cert.RevRun.run m g (fun c y => pre_at hp c y), ?_⟩
  refine (θ_run _ _ _).mono (fun r h c => ⟨((h c).1.trans (ref_result m' c)).trans ?_, (h c).2⟩) (Cert.Reference2Ideal.Value.run m' g')
  have ha : Cert.RevRef.argA m' c = arrA m c := (hm c).1
  have hd : Cert.RevRef.argD m' c = arrD m c := (hm c).2
  rw [ha, hd]

end Cert.RevClaim

end
-- ==== Proof.RunKit.lean ====
/- The run of a program that is a list of regions and host stretches, with every unscoped buffer read at its end. -/
module

public import Idealize.ShloMosaic.Lib.Pipeline.FrameBody
public import Idealize.ShloMosaic.Lib.Pipeline.RegionsLoop
public import Idealize.ShloMosaic.Lib.Pipeline.FrameSuffix

@[expose] public section

noncomputable section

namespace Cert.RunKit

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (PCfg Dat Seg pin)

variable {nD : Nat} {τ : Topo} {sig : RefSig} {Val : EltTy → Type} {Λ₀ : Labels} {P : Type} [Fintype P] [DecidableEq P] [∀ e, Nonempty (Val e)]

local notation "𝕄" => MT nD τ sig Unit Val ℕ (UR sig nD τ) ℕ

set_option backward.isDefEq.respectTransparency.types false in
/-- Every execution ends with all counters at zero and every unscoped buffer at the last boundary's contents `W`. -/
theorem run (pcs : P → PCfg sig Λ₀ Val) (a : (p : P) → (pcs p).Adm)
    (pdats : (p : P) → (c : Dev nD) → Dat τ Val Unit ℕ (UR sig nD τ) ℕ (pin pcs a p) c)
    (hinj : Function.Injective (Pipeline.cellOf (nD := nD) (τ := τ) (pin pcs a))) (defs₀ : Defs nD τ sig Val Λ₀)
    (m : (ℓ : Loc nD τ sig) → Buf Val ℓ) (ρ : Dev nD → PrngReg)
    (main : Dev nD → Prog (TpuEff nD τ sig Val (Pipeline.Sig Λ₀ P fun p => (pcs p).Adm) .tc) PUnit)
    (segs : List (Seg pcs a pdats () defs₀ Variants.none (fun _ => ∅) (fun _ _ => 0)))
    (hmain : ∀ c, main c = Seg.run segs) (hnd : (Seg.pipes segs).Nodup) (W : Dev nD → Valuation τ sig Val)
    (hch : Seg.Chains (fun c => iprop(StableHlo.held (c : Thread nD τ) (Pipeline.ucRefs τ sig) (fun b => m (c, b))
        ∗ (∃ r, prngReg c r) ∗ ∃ W, owes (c : Thread nD τ) (0 : CellTallies nD τ sig Unit) W)) segs
      fun c => iprop((StableHlo.held (c : Thread nD τ) (Pipeline.ucRefs τ sig) (W c) ∗ ∃ r, prngReg c r)
        ∗ ∃ W, owes (c : Thread nD τ) (0 : CellTallies nD τ sig Unit) W))
    (hno : ∀ sm : SemLoc sig, sm.isScoped .tc = true) :
    θ_run (Pipeline.defs pcs defs₀) (onTc (τ := τ) main) ⟨m, fun _ => 0, ρ⟩ (fun r =>
      (∀ c : Dev nD, ∀ b ∈ Pipeline.ucRefs τ sig, r.2.mem ((c : Thread nD τ).1, b) = W c b) ∧ r.2.sem = fun _ => 0) :=
  Pipeline.θ_run_regions_kit_sems pcs a pdats () hinj emb₁ defs₀ Variants.none (fun _ => ∅) (fun _ _ => 0) m ρ main segs
    (fun c Q => by rw [hmain c]) hnd
    (O₀ := 0) (hL := fun _ _ => rfl) (G := fun _ => iprop(emp))
    (u₀ := initOf (Pipeline.cells (pin pcs a) hinj) (Pipeline.launchToks (pin pcs a) hinj))
    (hu₀ := by
      iintro Hu; imodintro
      isplitl [Hu]
      · iapply (show (ownU (initOf (Pipeline.cells (pin pcs a) hinj) (Pipeline.launchToks (pin pcs a) hinj)) : sProp 𝕄)
            ⊢ BI.own (emb₁ (initOf (Pipeline.cells (pin pcs a) hinj) (Pipeline.launchToks (pin pcs a) hinj))) from .rfl)
        iexact Hu
      iapply (show (BI.emp : sProp 𝕄) ⊢ bigSep Finset.univ (fun _ : Dev nD => (BI.emp : sProp 𝕄)) from by rw [BI.bigSep_emp_const])
      iempintro)
    (T₀ := _) (Tₙ := fun c => iprop(StableHlo.held (c : Thread nD τ) (Pipeline.ucRefs τ sig) (W c) ∗ ∃ r, prngReg c r))
    (hch := hch)
    (hinit := by
      refine Pipeline.initEach (fun _ => ∅) (fun _ _ => 0) fun c => ?_
      rw [show unscopedBufs c (fun b => m ((c : Thread nD τ).loc b))
          = StableHlo.held (c : Thread nD τ) (Pipeline.ucRefs τ sig) (fun b => m (c, b))
        from Pipeline.unscopedBufs_held c (fun b => m (c, b))]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W c b)
    (hfin := fun c s' => by
      iintro ⟨⟨Hh, -⟩, HSI⟩
      unfold StableHlo.held
      imodintro
      iapply (pointsTo_read_all (Pipeline.ucRefs τ sig) (fun b => ((c : Thread nD τ).1, b)) (W c) s')
      isplitl [Hh] <;> iassumption)
    (hQ := fun s h hz => ⟨fun c => h c, funext fun g => hz g (.inr (hno g.2))⟩)

end Cert.RunKit
-- ==== Proof.MlpRun.lean ====
/- The run of the MLP sub-layer's program. -/
module

public import proofs.«01_k».proof.Proof.RunKit
public import proofs.«01_k».proof.Proof.Gen.Kernel3Ideal.Frame

@[expose] public section

set_option maxRecDepth 16384

noncomputable section

namespace Cert.MlpRun

open Cert.Kernel3Ideal Cert.Kernel3Ideal.Gen Idealize.ShloMosaic Idealize.ShloMosaic.TcCoe Idealize.SL.ProofMode Idealize.SL.Sem

variable {F : FTy → Type} [FloatOps F] (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r =>
    (∀ c : Dev nD, ∀ b ∈ Pipeline.ucRefs τ sig, r.2.mem ((c : Thread nD τ).1, b) = W8 m ρ c b) ∧ r.2.sem = fun _ => 0) :=
  RunKit.run pcfgs adm (pdats m ρ) cellOf_inj defs₀ m ρ main (segs m ρ) (main_run m ρ)
    (by simp only [segs, Pipeline.Seg.pipes_host, Pipeline.Seg.pipes_region, Pipeline.Seg.pipes_nil]; decide)
    (W8 m ρ) ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩ no_unscoped

end Cert.MlpRun
-- ==== Proof.MlpRow.lean ====
/-
  THE MLP SUB-LAYER ON ONE ROW. Every result of the layer is, at a row, a function of that row of the inputs, of the
  parameter rows and of the two weight matrices; the sums over the rows are taken of such functions. Both programs are read
  in these words: the kernel on the rows of a block, the reference on the rows of the whole arrays.
-/
module

public import Idealize.ShloMosaic.Lib.Pointwise
public import Idealize.ShloMosaic.PureOps.Ideal

@[expose] public section

noncomputable section

namespace Cert.Mlp

open Idealize.ShloMosaic

/-- A row of 1024 features. -/
abbrev Row := Fin 1024 → EReal
/-- A row of 4096 hidden units. -/
abbrev Hid := Fin 4096 → EReal

/-- The number of features, as the programs spell it. -/
def cK : EReal := Ideal.ofBits .f32 0x44800000#32
/-- The norm's addend. -/
def cE : EReal := Ideal.ofBits .f32 0x358637BD#32
/-- Two, the factor of the activation's derivative. -/
def c2 : EReal := Ideal.ofBits .f32 0x40000000#32
/-- Minus one half, the factor of the inverse root's derivative. -/
def cH : EReal := Ideal.ofBits .f32 0xBF000000#32

/-- The residual row entering the norm. -/
def x1 (x g y b : Row) : Row := fun d => x d + g d * (y d + b d)
/-- The mean of squares. -/
def ms (x : Row) : EReal := Ideal.div (∑ d, x d * x d) cK + cE
/-- Its inverse root. -/
def rs (x : Row) : EReal := Ideal.rsqrt (ms x)
/-- The row scaled by the inverse root. -/
def q (x : Row) : Row := fun d => x d * rs x
/-- The normed row. -/
def nr (x ng : Row) : Row := fun d => q x d * ng d
/-- The modulated row. -/
def h (x ng sc sh : Row) : Row := fun d => nr x ng d * (1 + sc d) + sh d
/-- The hidden row before the activation. -/
def hid (h : Row) (wi : Fin 1024 → Fin 4096 → EReal) : Hid := fun f => ∑ d, h d * wi d f
/-- The rectified hidden row. -/
def r (h : Row) (wi : Fin 1024 → Fin 4096 → EReal) : Hid := fun f => max (hid h wi f) 0
/-- The layer's output row before its gate. -/
def mo (r : Hid) (wo : Fin 4096 → Fin 1024 → EReal) : Row := fun d => ∑ f, r f * r f * wo f d
/-- The residual row leaving the layer. -/
def x2 (x g m : Row) : Row := fun d => x d + g d * m d
/-- The cotangent of the output row. -/
def dmo (g ct : Row) : Row := fun d => g d * ct d
/-- The cotangent of the hidden row. -/
def dhid (dm : Row) (wo : Fin 4096 → Fin 1024 → EReal) (r : Hid) : Hid := fun f => (∑ d, dm d * wo f d) * (c2 * r f)
/-- The cotangent of the modulated row. -/
def dh (dhi : Hid) (wi : Fin 1024 → Fin 4096 → EReal) : Row := fun d => ∑ f, dhi f * wi d f
/-- The cotangent of the normed row. -/
def dn (sc dh : Row) : Row := fun d => dh d * (1 + sc d)
/-- The cotangent of the scaled row. -/
def dq (sc ng dh : Row) : Row := fun d => dn sc dh d * ng d
/-- The share of the mean of squares in the cotangent. -/
def kk (x e : Row) : EReal := Ideal.div ((∑ d, x d * e d) * (cH * Ideal.div (rs x) (ms x))) cK
/-- The cotangent of the residual row. -/
def dx1 (ct x e : Row) : Row := fun d => ct d + (e d * rs x + x d * kk x e + kk x e * x d)

/-! The forward values of a row, of the rows `x` and `y` entering the layer, the parameter rows `P` (as the kernel is given them, one
    of every eight) and the weights. -/

def fx (P : Fin 72 → Row) (x y : Row) : Row := x1 x (P 0) y (P 8)
def fh (P : Fin 72 → Row) (x y : Row) : Row := h (fx P x y) (P 16) (P 24) (P 32)
def fr (P : Fin 72 → Row) (Wi : Fin 1024 → Fin 4096 → EReal) (x y : Row) : Hid := r (fh P x y) Wi
def fm (P : Fin 72 → Row) (Wi : Fin 1024 → Fin 4096 → EReal) (Wo : Fin 4096 → Fin 1024 → EReal) (x y : Row) : Row :=
  mo (fr P Wi x y) Wo
def fo (P : Fin 72 → Row) (Wi : Fin 1024 → Fin 4096 → EReal) (Wo : Fin 4096 → Fin 1024 → EReal) (x y : Row) : Row :=
  x2 (fx P x y) (P 40) (fm P Wi Wo x y)

/-! The cotangents of a row, of the cotangent row `ct` and of the saved rows: the residual row `x`, the rectified row `s`. -/

def bm (P : Fin 72 → Row) (ct : Row) : Row := dmo (P 40) ct
def bi (P : Fin 72 → Row) (Wo : Fin 4096 → Fin 1024 → EReal) (ct : Row) (s : Hid) : Hid := dhid (bm P ct) Wo s
def bh (P : Fin 72 → Row) (Wi : Fin 1024 → Fin 4096 → EReal) (Wo : Fin 4096 → Fin 1024 → EReal) (ct : Row) (s : Hid) : Row :=
  dh (bi P Wo ct s) Wi
def bx (P : Fin 72 → Row) (Wi : Fin 1024 → Fin 4096 → EReal) (Wo : Fin 4096 → Fin 1024 → EReal) (ct x : Row) (s : Hid) : Row :=
  dx1 ct x (dq (P 24) (P 16) (bh P Wi Wo ct s))
def bo (P : Fin 72 → Row) (Wi : Fin 1024 → Fin 4096 → EReal) (Wo : Fin 4096 → Fin 1024 → EReal) (ct x : Row) (s : Hid) : Row :=
  fun d => P 0 d * bx P Wi Wo ct x s d

/-- Row `i` of an array of rows. -/
def row {n m : ℕ} {α : Type} (v : (⟨2, ![n, m]⟩ : Shape).Idx → α) (i : Fin n) : Fin m → α := fun d => v (ix2 i d)

/-- The block of a hidden unit. -/
def fj (f : Fin 4096) : Fin 8 := ⟨f.val / 512, by omega⟩
/-- Its place in the block. -/
def fk (f : Fin 4096) : Fin 512 := ⟨f.val % 512, by omega⟩
/-- The hidden unit of a block and a place. -/
def fof (j : Fin 8) (k : Fin 512) : Fin 4096 := ⟨512 * j.val + k.val, by omega⟩

theorem fj_fof (j : Fin 8) (k : Fin 512) : fj (fof j k) = j := by
  apply Fin.ext; simp only [fj, fof]; omega
theorem fk_fof (j : Fin 8) (k : Fin 512) : fk (fof j k) = k := by
  apply Fin.ext; simp only [fk, fof]; omega
theorem fof_fj_fk (f : Fin 4096) : fof (fj f) (fk f) = f := by
  apply Fin.ext; simp only [fj, fk, fof]; omega

/-- A hidden unit is a block and a place. -/
def fEquiv : Fin 8 × Fin 512 ≃ Fin 4096 where
  toFun p := fof p.1 p.2
  invFun f := (fj f, fk f)
  left_inv p := Prod.ext (fj_fof p.1 p.2) (fk_fof p.1 p.2)
  right_inv f := fof_fj_fk f

theorem sum_fof (a : Fin 4096 → EReal) : ∑ f, a f = ∑ j, ∑ k, a (fof j k) := by
  rw [← Equiv.sum_comp fEquiv a, Fintype.sum_prod_type]; rfl

/-- The row of a block and a place in it. -/
def rof (t : Fin 8) (i : Fin 256) : Fin 2048 := ⟨256 * t.val + i.val, by omega⟩
/-- The block of a row. -/
def rt (i : Fin 2048) : Fin 8 := ⟨i.val / 256, by omega⟩
/-- Its place in the block. -/
def ri (i : Fin 2048) : Fin 256 := ⟨i.val % 256, by omega⟩

theorem rof_rt_ri (i : Fin 2048) : rof (rt i) (ri i) = i := by
  apply Fin.ext; simp only [rt, ri, rof]; omega

/-- A row is a block and a place. -/
def rEquiv : Fin 8 × Fin 256 ≃ Fin 2048 where
  toFun p := rof p.1 p.2
  invFun i := (rt i, ri i)
  left_inv p := by
    refine Prod.ext (Fin.ext ?_) (Fin.ext ?_) <;> simp only [rt, ri, rof] <;> omega
  right_inv i := rof_rt_ri i

theorem sum_rof (a : Fin 2048 → EReal) : ∑ i, a i = ∑ t, ∑ i, a (rof t i) := by
  rw [← Equiv.sum_comp rEquiv a, Fintype.sum_prod_type]; rfl

/-- Layer `l`'s first weight matrix, of the array of its eight blocks. -/
def wi {n : ℕ} (W : (⟨4, ![8, n, 1024, 512]⟩ : Shape).Idx → EReal) (l : Fin n) : Fin 1024 → Fin 4096 → EReal :=
  fun d f => W (ix4 (fj f) l d (fk f))
/-- Layer `l`'s second weight matrix, likewise. -/
def wo {n : ℕ} (W : (⟨4, ![8, n, 512, 1024]⟩ : Shape).Idx → EReal) (l : Fin n) : Fin 4096 → Fin 1024 → EReal :=
  fun f d => W (ix4 (fj f) l (fk f) d)

end Cert.Mlp
-- ==== Proof.MlpBwdOut.lean ====
/- The blocks the backward kernel of the MLP sub-layer leaves at one grid point, as terms of the blocks it reads. -/
module

public import proofs.«01_k».proof.Proof.Gen.Kernel3Ideal.Frame.Region1
public import Idealize.ShloMosaic.Lib.Pipeline.Value

@[expose] public section

set_option maxRecDepth 16384

noncomputable section

namespace Cert.MlpBwd

open Cert.Kernel3Ideal Cert.Kernel3Ideal.Gen Idealize.ShloMosaic Idealize.ShloMosaic.TcCoe

variable {F : FTy → Type} [FloatOps F]

/-! The parts of the blocks that the body loads. -/

/-- All of a block of rows. -/
def lw {e : EltTy} (x : Vec F S256x1024 e) : Vec F S256x1024 e :=
  View.ld x (Rect.unit (s := S256x1024) ![0, 0] S256x1024.size inb_S256x1024_S256x1024_0_0)
/-- A parameter row. -/
def lp (x : Vec F S72x1024 .f32) (a : Fin 72) : Vec F S1x1024 .f32 :=
  View.ld x (Rect.unit (s := S72x1024) ![a.val, 0] S1x1024.size
    (fun b => match b with | ⟨0, _⟩ => (by show a.val + 1 ≤ 72; omega) | ⟨1, _⟩ => (by show 0 + 1024 ≤ 1024; omega)))
/-- A block of the hidden units. -/
def lh (x : Vec F S256x4096 .bf16) (j : Fin 8) : Vec F S256x512 .bf16 :=
  View.ld x (Rect.unit (s := S256x4096) ![0, 512 * j.val] S256x512.size
    (fun b => match b with | ⟨0, _⟩ => (by show 0 + 256 ≤ 256; omega) | ⟨1, _⟩ => (by show 512 * j.val + 512 ≤ 4096; omega)))
/-- A block of the first weights. -/
def li (x : Vec F S8x1x1024x512 .bf16) (j : Fin 8) : Vec F S1x1x1024x512 .bf16 :=
  View.ld x (Rect.unit (s := S8x1x1024x512) ![j.val, 0, 0, 0] S1x1x1024x512.size
    (fun b => match b with
      | ⟨0, _⟩ => (by show j.val + 1 ≤ 8; omega) | ⟨1, _⟩ => (by show 0 + 1 ≤ 1; omega)
      | ⟨2, _⟩ => (by show 0 + 1024 ≤ 1024; omega) | ⟨3, _⟩ => (by show 0 + 512 ≤ 512; omega)))
/-- A block of the second weights. -/
def lo (x : Vec F S8x1x512x1024 .bf16) (j : Fin 8) : Vec F S1x1x512x1024 .bf16 :=
  View.ld x (Rect.unit (s := S8x1x512x1024) ![j.val, 0, 0, 0] S1x1x512x1024.size
    (fun b => match b with
      | ⟨0, _⟩ => (by show j.val + 1 ≤ 8; omega) | ⟨1, _⟩ => (by show 0 + 1 ≤ 1; omega)
      | ⟨2, _⟩ => (by show 0 + 512 ≤ 512; omega) | ⟨3, _⟩ => (by show 0 + 1024 ≤ 1024; omega)))

/-! The values of the point. -/

variable (x0 x1 : Vec F S256x1024 .f32) (x2 : Vec F S256x4096 .bf16) (x3 : Vec F S256x1024 .bf16) (x4 : Vec F S256x1024 .f32)
  (x5 : Vec F S72x1024 .f32) (x6 : Vec F S8x1x1024x512 .bf16) (x7 : Vec F S8x1x512x1024 .bf16)

/-- The cotangent of the output rows. -/
def vM : FVec F S256x1024 .bf16 := k1_pay3 (lw x0) (lp x5 40)
/-- The cotangent of one block of hidden units. -/
def vD (j : Fin 8) : FVec F S256x512 .bf16 := k1_pay9 (vM x0 x5) (lh x2 j) (lo x7 j)
/-- The cotangent of the modulated rows. -/
def vH : FVec F S256x1024 .f32 :=
  k1_pay19 (vM x0 x5)
    (k1_pay17 (vM x0 x5)
      (k1_pay14 (vM x0 x5)
        (k1_pay10 (vM x0 x5) (k1_pay6 (lw x0) (lp x5 40) (lh x2 0) (lo x7 0) (li x6 0)) (k1_pay7 (lh x2 1)) (lo x7 1) (li x6 1)
          (lh x2 2) (lo x7 2) (li x6 2))
        (k1_pay11 (lh x2 3)) (lo x7 3) (li x6 3) (lh x2 4) (lo x7 4) (li x6 4))
      (lh x2 5) (lo x7 5) (li x6 5) (lh x2 6) (lo x7 6) (li x6 6))
    (lh x2 7) (lo x7 7) (li x6 7)
/-- The cotangent of the residual rows. -/
def vX : FVec F S256x1024 .f32 :=
  k1_pay32 (lw x0) (vH x0 x2 x5 x6 x7) (k1_pay20 (lw x1)) (k1_pay21 (lp x5 16)) (k1_pay22 (lp x5 24)) (k1_pay24 (lw x1))
    (k1_pay25 (lw x1))
/-- The cotangent of the mixer's rows. -/
def vO : FVec F S256x1024 .bf16 :=
  k1_pay33 (lw x0) (vH x0 x2 x5 x6 x7) (k1_pay20 (lw x1)) (k1_pay21 (lp x5 16)) (k1_pay22 (lp x5 24)) (k1_pay24 (lw x1))
    (k1_pay25 (lw x1)) (lp x5 0)
/-- The point's sums over its rows. -/
def vS : FVec F S8x1024 .f32 :=
  k1_pay35 (lw x0) (k1_pay4 (lw x3)) (k1_pay28 (vH x0 x2 x5 x6 x7))
    (k1_pay29 (vH x0 x2 x5 x6 x7) (k1_pay26 (lw x1)) (k1_pay27 (lp x5 16)))
    (k1_pay31 (vH x0 x2 x5 x6 x7) (k1_pay22 (lp x5 24)) (k1_pay26 (lw x1)))
    (vX x0 x1 x2 x5 x6 x7) (lw x4) (k1_pay34 (lp x5 8)) (lp x5 0)
/-- The hidden units' cotangents, as the eight pieces the body stores. -/
def vDs : List (View.Piece (Elt F) S256x4096 .bf16) :=
  [⟨Rect.unit ![0, 3584] S256x512.size inb_S256x4096_S256x512_0_3584, vD x0 x2 x5 x7 7⟩,
   ⟨Rect.unit ![0, 3072] S256x512.size inb_S256x4096_S256x512_0_3072, vD x0 x2 x5 x7 6⟩,
   ⟨Rect.unit ![0, 2560] S256x512.size inb_S256x4096_S256x512_0_2560, vD x0 x2 x5 x7 5⟩,
   ⟨Rect.unit ![0, 2048] S256x512.size inb_S256x4096_S256x512_0_2048, vD x0 x2 x5 x7 4⟩,
   ⟨Rect.unit ![0, 1536] S256x512.size inb_S256x4096_S256x512_0_1536, vD x0 x2 x5 x7 3⟩,
   ⟨Rect.unit ![0, 1024] S256x512.size inb_S256x4096_S256x512_0_1024, vD x0 x2 x5 x7 2⟩,
   ⟨Rect.unit ![0, 512] S256x512.size inb_S256x4096_S256x512_0_512, vD x0 x2 x5 x7 1⟩,
   ⟨Rect.unit ![0, 0] S256x512.size inb_S256x4096_S256x512_0_0, vD x0 x2 x5 x7 0⟩]

/-- What a buffer that holds `x` reads as: `x`. -/
abbrev rd {g : RefSig} {s : Shape} {e : EltTy} {a : Memref g .tc .vmem s e} (h : a.IsWhole) (x : Vec F s e) : Vec F s e := a.view.read (Elt F) (h.unread x)

theorem whole_z : (![0, 0] : Fin 2 → ℕ) = fun _ => 0 := by funext a; fin_cases a <;> rfl

/-! What each of the two cases of the body leaves. -/

variable (c : Dev nD) (i : grid1.Coords) (arg1 : Memref sig .tc .vmem S256x1024 .f32) (harg1 : arg1.IsWhole)
  (arg2 : Memref sig .tc .vmem S256x1024 .f32) (harg2 : arg2.IsWhole)
  (arg3 : Memref sig .tc .vmem S256x4096 .bf16) (harg3 : arg3.IsWhole)
  (arg4 : Memref sig .tc .vmem S256x1024 .bf16) (harg4 : arg4.IsWhole)
  (arg5 : Memref sig .tc .vmem S256x1024 .f32) (harg5 : arg5.IsWhole)
  (arg6 : Memref sig .tc .vmem S72x1024 .f32) (harg6 : arg6.IsWhole)
  (arg7 : Memref sig .tc .vmem S8x1x1024x512 .bf16) (harg7 : arg7.IsWhole)
  (arg8 : Memref sig .tc .vmem S8x1x512x1024 .bf16) (harg8 : arg8.IsWhole)
  (arg9 : Memref sig .tc .vmem S256x1024 .f32) (harg9 : arg9.IsWhole)
  (arg10 : Memref sig .tc .vmem S256x1024 .bf16) (harg10 : arg10.IsWhole)
  (arg11 : Memref sig .tc .vmem S256x1024 .bf16) (harg11 : arg11.IsWhole)
  (arg12 : Memref sig .tc .vmem S256x4096 .bf16) (harg12 : arg12.IsWhole)
  (arg13 : Memref sig .tc .vmem S8x1024 .f32) (harg13 : arg13.IsWhole)

theorem outA_8 (hc : cond1_0 i) :
    out1_A_8 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 = vX x0 x1 x2 x5 x6 x7 := by
  unfold out1_A_8
  rw [View.read_writes_eq_canon _ _ _ (fun _ => cover1_A_8 ..)]
  refine (View.canon_unit_zero whole_z _ _).trans ?_
  refine Eq.trans (b := vX (rd harg1 x0) (rd harg2 x1) (rd harg3 x2) (rd harg6 x5) (rd harg7 x6) (rd harg8 x7)) rfl ?_
  simp only [Memref.IsWhole.read_unread]

theorem outA_9 (hc : cond1_0 i) :
    out1_A_9 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 = vO x0 x1 x2 x5 x6 x7 := by
  unfold out1_A_9
  rw [View.read_writes_eq_canon _ _ _ (fun _ => cover1_A_9 ..)]
  refine (View.canon_unit_zero whole_z _ _).trans ?_
  refine Eq.trans (b := vO (rd harg1 x0) (rd harg2 x1) (rd harg3 x2) (rd harg6 x5) (rd harg7 x6) (rd harg8 x7)) rfl ?_
  simp only [Memref.IsWhole.read_unread]

theorem outA_10 (hc : cond1_0 i) :
    out1_A_10 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 = vM x0 x5 := by
  unfold out1_A_10
  rw [View.read_writes_eq_canon _ _ _ (fun _ => cover1_A_10 ..)]
  refine (View.canon_unit_zero whole_z _ _).trans ?_
  refine Eq.trans (b := vM (rd harg1 x0) (rd harg6 x5)) rfl ?_
  simp only [Memref.IsWhole.read_unread]

theorem outA_11 (hc : cond1_0 i) :
    out1_A_11 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 = View.canon (vDs x0 x2 x5 x7) := by
  unfold out1_A_11
  rw [View.read_writes_eq_canon _ _ _ (fun _ => cover1_A_11 ..)]
  refine Eq.trans (b := View.canon (vDs (rd harg1 x0) (rd harg3 x2) (rd harg6 x5) (rd harg8 x7))) rfl ?_
  simp only [Memref.IsWhole.read_unread]

theorem outB_8 (hc : ¬cond1_0 i) (xo : Vec F S8x1024 .f32) :
    out1_B_8 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 xo = vX x0 x1 x2 x5 x6 x7 := by
  unfold out1_B_8
  rw [View.read_writes_eq_canon _ _ _ (fun _ => cover1_B_8 ..)]
  refine (View.canon_unit_zero whole_z _ _).trans ?_
  refine Eq.trans (b := vX (rd harg1 x0) (rd harg2 x1) (rd harg3 x2) (rd harg6 x5) (rd harg7 x6) (rd harg8 x7)) rfl ?_
  simp only [Memref.IsWhole.read_unread]

theorem outB_9 (hc : ¬cond1_0 i) (xo : Vec F S8x1024 .f32) :
    out1_B_9 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 xo = vO x0 x1 x2 x5 x6 x7 := by
  unfold out1_B_9
  rw [View.read_writes_eq_canon _ _ _ (fun _ => cover1_B_9 ..)]
  refine (View.canon_unit_zero whole_z _ _).trans ?_
  refine Eq.trans (b := vO (rd harg1 x0) (rd harg2 x1) (rd harg3 x2) (rd harg6 x5) (rd harg7 x6) (rd harg8 x7)) rfl ?_
  simp only [Memref.IsWhole.read_unread]

theorem outB_10 (hc : ¬cond1_0 i) (xo : Vec F S8x1024 .f32) :
    out1_B_10 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 xo = vM x0 x5 := by
  unfold out1_B_10
  rw [View.read_writes_eq_canon _ _ _ (fun _ => cover1_B_10 ..)]
  refine (View.canon_unit_zero whole_z _ _).trans ?_
  refine Eq.trans (b := vM (rd harg1 x0) (rd harg6 x5)) rfl ?_
  simp only [Memref.IsWhole.read_unread]

theorem outB_11 (hc : ¬cond1_0 i) (xo : Vec F S8x1024 .f32) :
    out1_B_11 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 xo = View.canon (vDs x0 x2 x5 x7) := by
  unfold out1_B_11
  rw [View.read_writes_eq_canon _ _ _ (fun _ => cover1_B_11 ..)]
  refine Eq.trans (b := View.canon (vDs (rd harg1 x0) (rd harg3 x2) (rd harg6 x5) (rd harg8 x7))) rfl ?_
  simp only [Memref.IsWhole.read_unread]

theorem outB_12 (hc : ¬cond1_0 i) (xo : Vec F S8x1024 .f32) :
    out1_B_12 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 xo = k1_pay2 (vS x0 x1 x2 x3 x4 x5 x6 x7) xo := by
  unfold out1_B_12
  rw [View.read_writes_eq_canon _ _ _ (fun _ => cover1_B_12 ..)]
  refine (View.canon_unit_zero whole_z _ _).trans ?_
  refine Eq.trans (b := k1_pay2 (vS (rd harg1 x0) (rd harg2 x1) (rd harg3 x2) (rd harg4 x3) (rd harg5 x4) (rd harg6 x5) (rd harg7 x6) (rd harg8 x7))
    (View.ld (rd harg13 xo) (Rect.unit (s := S8x1024) ![0, 0] S8x1024.size inb_S8x1024_S8x1024_0_0))) rfl ?_
  simp only [Memref.IsWhole.read_unread]
  rw [View.ld_unit_zero whole_z]

theorem outA_12 (hc : cond1_0 i) :
    out1_A_12 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 = k1_pay2 (vS x0 x1 x2 x3 x4 x5 x6 x7) k1_pay1 := by
  unfold out1_A_12
  rw [View.read_writes_eq_canon _ _ _ (fun _ => cover1_A_12 ..)]
  refine (View.canon_cons_unit_zero whole_z _ _ _).trans ?_
  refine Eq.trans (b := k1_pay2 (vS (rd harg1 x0) (rd harg2 x1) (rd harg3 x2) (rd harg4 x3) (rd harg5 x4) (rd harg6 x5) (rd harg7 x6) (rd harg8 x7))
    (arg13.view.readCov [(⟨Rect.unit (s := S8x1024) ![0, 0] S8x1024.size inb_S8x1024_S8x1024_0_0, k1_pay1⟩ : View.Piece (Elt F) S8x1024 .f32)]
      (Rect.unit (s := S8x1024) ![0, 0] S8x1024.size inb_S8x1024_S8x1024_0_0).toLoadRect)) rfl ?_
  simp only [Memref.IsWhole.read_unread]
  rw [View.readCov_unit_zero _ whole_z]

end Cert.MlpBwd
-- ==== Proof.MlpBwdPay.lean ====
/- What the backward kernel of the MLP sub-layer computes at one grid point, read on the rows of its blocks. -/
module

public import proofs.«01_k».proof.Proof.MlpRow
public import proofs.«01_k».proof.Proof.MlpBwdOut
public import Idealize.ShloMosaic.Lib.Pipeline.ValueKit.Tiles

@[expose] public section

set_option maxRecDepth 16384

noncomputable section

namespace Cert.MlpBwd

open Cert.Kernel3Ideal Cert.Kernel3Ideal.Gen Idealize.ShloMosaic Idealize.ShloMosaic.TcCoe

/-! The loads. -/

theorem lw_eq {e : EltTy} (x : Vec Ideal S256x1024 e) : lw x = x := View.ld_unit_zero whole_z _ x

theorem lp_apply (x : Vec Ideal S72x1024 .f32) (a : Fin 72) (d : Fin 1024) : lp x a (ix2 (0 : Fin 1) d) = Mlp.row x a d := by
  refine View.ld_unit_apply_of x _ _ _ _ _ fun b => ?_
  fin_cases b <;> simp [ix2]

theorem lh_apply (x : Vec Ideal S256x4096 .bf16) (j : Fin 8) (i : Fin 256) (k : Fin 512) :
    lh x j (ix2 i k) = Mlp.row x i (Mlp.fof j k) := by
  refine View.ld_unit_apply_of x _ _ _ _ _ fun b => ?_
  fin_cases b <;> simp [ix2, Mlp.fof]

theorem li_apply (x : Vec Ideal S8x1x1024x512 .bf16) (j : Fin 8) (d : Fin 1024) (k : Fin 512) :
    li x j (ix4 (0 : Fin 1) (0 : Fin 1) d k) = Mlp.wi x 0 d (Mlp.fof j k) := by
  unfold Mlp.wi
  rw [Mlp.fj_fof, Mlp.fk_fof]
  refine View.ld_unit_apply_of x _ _ _ _ _ fun b => ?_
  fin_cases b <;> simp [ix4]

theorem lo_apply (x : Vec Ideal S8x1x512x1024 .bf16) (j : Fin 8) (k : Fin 512) (d : Fin 1024) :
    lo x j (ix4 (0 : Fin 1) (0 : Fin 1) k d) = Mlp.wo x 0 (Mlp.fof j k) d := by
  unfold Mlp.wo
  rw [Mlp.fj_fof, Mlp.fk_fof]
  refine View.ld_unit_apply_of x _ _ _ _ _ fun b => ?_
  fin_cases b <;> simp [ix4]

/-! The payloads. -/

theorem pay3_apply (v0 : Vec Ideal S256x1024 .f32) (v1 : Vec Ideal S1x1024 .f32) (i : Fin 256) (d : Fin 1024) :
    k1_pay3 v0 v1 (ix2 i d) = v1 (ix2 0 d) * v0 (ix2 i d) := by
  pointwise [k1_pay3]

theorem pay9_apply (v5 : FVec Ideal S256x1024 .bf16) (s : Vec Ideal S256x512 .bf16) (w : Vec Ideal S1x1x512x1024 .bf16)
    (i : Fin 256) (k : Fin 512) :
    k1_pay9 v5 s w (ix2 i k) = (∑ d : Fin 1024, v5 (ix2 i d) * w (ix4 0 0 k d)) * (Mlp.c2 * s (ix2 i k)) := by
  pointwise [k1_pay9]
  rfl

/-- The product with the first weights over one block of hidden units. -/
def part (D : FVec Ideal S256x512 .bf16) (w : Vec Ideal S1x1x1024x512 .bf16) (i : Fin 256) (d : Fin 1024) : EReal :=
  ∑ k : Fin 512, D (ix2 i k) * w (ix4 0 0 d k)

theorem pay6_apply (v0 : Vec Ideal S256x1024 .f32) (v1 : Vec Ideal S1x1024 .f32) (s : Vec Ideal S256x512 .bf16)
    (w : Vec Ideal S1x1x512x1024 .bf16) (u : Vec Ideal S1x1x1024x512 .bf16) (i : Fin 256) (d : Fin 1024) :
    k1_pay6 v0 v1 s w u (ix2 i d) = part (k1_pay9 (k1_pay3 v0 v1) s w) u i d := by
  have e : k1_pay5 (F := Ideal) v0 v1 s w = k1_pay9 (k1_pay3 v0 v1) s w := rfl
  unfold k1_pay6
  rw [e]
  generalize k1_pay9 (k1_pay3 v0 v1) s w = A
  pointwise
  simp [part]

theorem pay10_apply (v5 : FVec Ideal S256x1024 .bf16) (v25 : FVec Ideal S256x1024 .f32) (s : Vec Ideal S256x512 .bf16)
    (w : Vec Ideal S1x1x512x1024 .bf16) (u : Vec Ideal S1x1x1024x512 .bf16) (s' : Vec Ideal S256x512 .bf16)
    (w' : Vec Ideal S1x1x512x1024 .bf16) (u' : Vec Ideal S1x1x1024x512 .bf16) (i : Fin 256) (d : Fin 1024) :
    k1_pay10 v5 v25 (k1_pay7 s) w u s' w' u' (ix2 i d)
      = v25 (ix2 i d) + part (k1_pay9 v5 s w) u i d + part (k1_pay9 v5 s' w') u' i d := by
  have e : k1_pay8 (F := Ideal) v5 (k1_pay7 s) w = k1_pay9 v5 s w := rfl
  unfold k1_pay10
  rw [e]
  generalize k1_pay9 v5 s w = A
  generalize k1_pay9 v5 s' w' = B
  pointwise
  simp [part]

theorem pay14_eq (v5 : FVec Ideal S256x1024 .bf16) (v25 : FVec Ideal S256x1024 .f32) (s : Vec Ideal S256x512 .bf16)
    (w : Vec Ideal S1x1x512x1024 .bf16) (u : Vec Ideal S1x1x1024x512 .bf16) (s' : Vec Ideal S256x512 .bf16)
    (w' : Vec Ideal S1x1x512x1024 .bf16) (u' : Vec Ideal S1x1x1024x512 .bf16) :
    k1_pay14 v5 v25 (k1_pay11 s) w u s' w' u' = k1_pay10 v5 v25 (k1_pay7 s) w u s' w' u' := rfl

theorem pay17_eq (v5 : FVec Ideal S256x1024 .bf16) (v25 : FVec Ideal S256x1024 .f32) (s : Vec Ideal S256x512 .bf16)
    (w : Vec Ideal S1x1x512x1024 .bf16) (u : Vec Ideal S1x1x1024x512 .bf16) (s' : Vec Ideal S256x512 .bf16)
    (w' : Vec Ideal S1x1x512x1024 .bf16) (u' : Vec Ideal S1x1x1024x512 .bf16) :
    k1_pay17 v5 v25 s w u s' w' u' = k1_pay10 v5 v25 (k1_pay7 s) w u s' w' u' := rfl

theorem pay19_apply (v5 : FVec Ideal S256x1024 .bf16) (v25 : FVec Ideal S256x1024 .f32) (s : Vec Ideal S256x512 .bf16)
    (w : Vec Ideal S1x1x512x1024 .bf16) (u : Vec Ideal S1x1x1024x512 .bf16) (i : Fin 256) (d : Fin 1024) :
    k1_pay19 v5 v25 s w u (ix2 i d) = v25 (ix2 i d) + part (k1_pay9 v5 s w) u i d := by
  have e : k1_pay18 (F := Ideal) v5 s w = k1_pay9 v5 s w := rfl
  unfold k1_pay19
  rw [e]
  generalize k1_pay9 v5 s w = A
  pointwise
  simp [part]

theorem pay20_apply (x : Vec Ideal S256x1024 .f32) : k1_pay20 x = x := by
  unfold k1_pay20; exact shapeCast_id _ _

theorem pay23_apply (x : Vec Ideal S256x1024 .f32) (i : Fin 256) : k1_pay23 x (ix2 i (0 : Fin 1)) = Mlp.ms (Mlp.row x i) := by
  unfold k1_pay23
  rw [pay20_apply]
  pointwise
  rfl

theorem pay24_apply (x : Vec Ideal S256x1024 .f32) (i : Fin 256) : k1_pay24 x (ix2 i (0 : Fin 1)) = Mlp.rs (Mlp.row x i) := by
  unfold k1_pay24 Mlp.rs
  rw [← pay23_apply]
  generalize k1_pay23 x = A
  pointwise

theorem pay25_apply (x : Vec Ideal S256x1024 .f32) (i : Fin 256) :
    k1_pay25 x (ix2 i (0 : Fin 1)) = Mlp.cH * Ideal.div (Mlp.rs (Mlp.row x i)) (Mlp.ms (Mlp.row x i)) := by
  unfold k1_pay25
  rw [← pay23_apply, ← pay24_apply]
  generalize k1_pay23 x = A
  generalize k1_pay24 x = B
  pointwise
  rfl

theorem pay26_apply (x : Vec Ideal S256x1024 .f32) (i : Fin 256) (d : Fin 1024) : k1_pay26 x (ix2 i d) = Mlp.q (Mlp.row x i) d := by
  unfold k1_pay26 Mlp.q
  rw [pay20_apply, ← pay24_apply]
  generalize k1_pay24 x = A
  pointwise
  rfl

theorem pay28_apply (H : FVec Ideal S256x1024 .f32) (d : Fin 1024) : k1_pay28 H (ix2 (0 : Fin 1) d) = ∑ i : Fin 256, H (ix2 i d) := by
  pointwise [k1_pay28]

theorem pay29_apply (H Q : FVec Ideal S256x1024 .f32) (g : Vec Ideal S1x1024 .f32) (d : Fin 1024) :
    k1_pay29 H Q (k1_pay27 g) (ix2 (0 : Fin 1) d) = ∑ i : Fin 256, Q (ix2 i d) * g (ix2 0 d) * H (ix2 i d) := by
  pointwise [k1_pay29, k1_pay27, k1_pay21]

theorem pay30_apply (H : FVec Ideal S256x1024 .f32) (s : Vec Ideal S1x1024 .f32) (i : Fin 256) (d : Fin 1024) :
    k1_pay30 H s (ix2 i d) = H (ix2 i d) * (1 + s (ix2 0 d)) := by
  pointwise [k1_pay30]

theorem pay31_apply (H Q : FVec Ideal S256x1024 .f32) (s : Vec Ideal S1x1024 .f32) (d : Fin 1024) :
    k1_pay31 H (k1_pay22 s) Q (ix2 (0 : Fin 1) d) = ∑ i : Fin 256, Q (ix2 i d) * (H (ix2 i d) * (1 + s (ix2 0 d))) := by
  pointwise [k1_pay31, k1_pay30, k1_pay22]

theorem pay32_apply (ct H : FVec Ideal S256x1024 .f32) (x : Vec Ideal S256x1024 .f32) (g s : Vec Ideal S1x1024 .f32) (i : Fin 256) (d : Fin 1024) :
    k1_pay32 ct H (k1_pay20 x) (k1_pay21 g) (k1_pay22 s) (k1_pay24 x) (k1_pay25 x) (ix2 i d)
      = Mlp.dx1 (Mlp.row ct i) (Mlp.row x i) (Mlp.dq (Mlp.row s 0) (Mlp.row g 0) (Mlp.row H i)) d := by
  unfold Mlp.dx1 Mlp.kk
  rw [← pay25_apply x i, ← pay24_apply x i, pay20_apply]
  generalize k1_pay25 x = A
  generalize k1_pay24 x = B
  pointwise [k1_pay32, k1_pay30, k1_pay21, k1_pay22]
  simp [Mlp.dq, Mlp.dn, Mlp.row, Mlp.cK]

theorem pay33_apply (ct H x : FVec Ideal S256x1024 .f32) (g s : Vec Ideal S1x1024 .f32) (a : FVec Ideal S256x1 .f32)
    (b : FVec Ideal S256x1 .f32) (p : Vec Ideal S1x1024 .f32) (i : Fin 256) (d : Fin 1024) :
    k1_pay33 ct H x g s a b p (ix2 i d) = p (ix2 0 d) * k1_pay32 ct H x g s a b (ix2 i d) := by
  unfold k1_pay33
  generalize k1_pay32 ct H x g s a b = A
  pointwise

section rows
variable (ct : FVec Ideal S256x1024 .f32) (mo : Vec Ideal S256x1024 .bf16) (a b e : FVec Ideal S1x1024 .f32) (X Y : FVec Ideal S256x1024 .f32)
  (p g : Vec Ideal S1x1024 .f32) (d : Fin 1024)

theorem pay35_0 : k1_pay35 ct (k1_pay4 mo) a b e X Y (k1_pay34 p) g (ix2 (0 : Fin 8) d)
    = ∑ i : Fin 256, X (ix2 i d) * (Y (ix2 i d) + p (ix2 0 d)) := by
  pointwise [k1_pay35, k1_pay34]
  rfl
theorem pay35_2 : k1_pay35 ct (k1_pay4 mo) a b e X Y (k1_pay34 p) g (ix2 (2 : Fin 8) d) = e (ix2 0 d) := by
  pointwise [k1_pay35, k1_pay34]
  rfl
theorem pay35_3 : k1_pay35 ct (k1_pay4 mo) a b e X Y (k1_pay34 p) g (ix2 (3 : Fin 8) d) = b (ix2 0 d) := by
  pointwise [k1_pay35, k1_pay34]
  rfl
theorem pay35_4 : k1_pay35 ct (k1_pay4 mo) a b e X Y (k1_pay34 p) g (ix2 (4 : Fin 8) d) = a (ix2 0 d) := by
  pointwise [k1_pay35, k1_pay34]
  rfl
theorem pay35_5 : k1_pay35 ct (k1_pay4 mo) a b e X Y (k1_pay34 p) g (ix2 (5 : Fin 8) d)
    = ∑ i : Fin 256, ct (ix2 i d) * mo (ix2 i d) := by
  pointwise [k1_pay35, k1_pay34, k1_pay4]
end rows

theorem pay2_apply (S A : FVec Ideal S8x1024 .f32) (y : S8x1024.Idx) : k1_pay2 S A y = A y + S y := by
  unfold k1_pay2
  rw [shapeCast_id]
  pointwise

theorem pay1_apply (y : S8x1024.Idx) : k1_pay1 (F := Ideal) y = 0 := by
  pointwise [k1_pay1]

/-! The values of the point, of the rows of its blocks. -/

section vals
variable (x0 x1 : Vec Ideal S256x1024 .f32) (x2 : Vec Ideal S256x4096 .bf16) (x3 : Vec Ideal S256x1024 .bf16) (x4 : Vec Ideal S256x1024 .f32)
  (x5 : Vec Ideal S72x1024 .f32) (x6 : Vec Ideal S8x1x1024x512 .bf16) (x7 : Vec Ideal S8x1x512x1024 .bf16) (i : Fin 256) (d : Fin 1024)

theorem vM_apply : vM x0 x5 (ix2 i d) = Mlp.bm (Mlp.row x5) (Mlp.row x0 i) d := by
  unfold vM
  rw [pay3_apply, lw_eq]
  exact congrArg (· * x0 (ix2 i d)) (lp_apply x5 40 d)

theorem vD_apply (j : Fin 8) (k : Fin 512) :
    vD x0 x2 x5 x7 j (ix2 i k) = Mlp.bi (Mlp.row x5) (Mlp.wo x7 0) (Mlp.row x0 i) (Mlp.row x2 i) (Mlp.fof j k) := by
  unfold vD
  rw [pay9_apply, lh_apply]
  refine congrArg (· * (Mlp.c2 * Mlp.row x2 i (Mlp.fof j k))) (Finset.sum_congr rfl fun e _ => ?_)
  rw [vM_apply, lo_apply]

theorem part_vD (j : Fin 8) : part (k1_pay9 (vM x0 x5) (lh x2 j) (lo x7 j)) (li x6 j) i d
    = ∑ k : Fin 512, Mlp.bi (Mlp.row x5) (Mlp.wo x7 0) (Mlp.row x0 i) (Mlp.row x2 i) (Mlp.fof j k) * Mlp.wi x6 0 d (Mlp.fof j k) := by
  refine Finset.sum_congr rfl fun k _ => ?_
  rw [li_apply]
  exact congrArg (· * Mlp.wi x6 0 d (Mlp.fof j k)) (vD_apply x0 x2 x5 x7 i j k)

theorem vH_apply : vH x0 x2 x5 x6 x7 (ix2 i d)
    = Mlp.bh (Mlp.row x5) (Mlp.wi x6 0) (Mlp.wo x7 0) (Mlp.row x0 i) (Mlp.row x2 i) d := by
  unfold vH
  have e : k1_pay3 (F := Ideal) (lw x0) (lp x5 40) = vM x0 x5 := rfl
  rw [pay19_apply, pay17_eq, pay10_apply, pay14_eq, pay10_apply, pay10_apply, pay6_apply, e]
  simp only [part_vD]
  unfold Mlp.bh Mlp.dh
  rw [Mlp.sum_fof]
  simp only [Fin.sum_univ_eight]

theorem row_vH : Mlp.row (vH x0 x2 x5 x6 x7) i = Mlp.bh (Mlp.row x5) (Mlp.wi x6 0) (Mlp.wo x7 0) (Mlp.row x0 i) (Mlp.row x2 i) :=
  funext fun d => vH_apply x0 x2 x5 x6 x7 i d

theorem row_lp (a : Fin 72) : Mlp.row (lp x5 a) (0 : Fin 1) = Mlp.row x5 a := funext fun d => lp_apply x5 a d

theorem vX_apply : vX x0 x1 x2 x5 x6 x7 (ix2 i d)
    = Mlp.bx (Mlp.row x5) (Mlp.wi x6 0) (Mlp.wo x7 0) (Mlp.row x0 i) (Mlp.row x1 i) (Mlp.row x2 i) d := by
  unfold vX
  rw [pay32_apply, row_vH, row_lp, row_lp, lw_eq, lw_eq]
  rfl

theorem vO_apply : vO x0 x1 x2 x5 x6 x7 (ix2 i d)
    = Mlp.bo (Mlp.row x5) (Mlp.wi x6 0) (Mlp.wo x7 0) (Mlp.row x0 i) (Mlp.row x1 i) (Mlp.row x2 i) d := by
  unfold vO
  rw [pay33_apply, lp_apply]
  exact congrArg (Mlp.row x5 0 d * ·) (vX_apply x0 x1 x2 x5 x6 x7 i d)

theorem emb_hid (j : Fin 8) (inb) (x : S256x512.Idx) :
    (Rect.unit (s := S256x4096) ![0, 512 * j.val] S256x512.size inb).emb x = ix2 (x 0 : Fin 256) (Mlp.fof j (x 1 : Fin 512)) := by
  funext a
  apply Fin.ext
  rw [Rect.emb_apply]
  fin_cases a <;> simp [ix2, Mlp.fof]

theorem vD_piece (j : Fin 8) (inb) (x : S256x512.Idx) :
    vD x0 x2 x5 x7 j x
      = (fun y : S256x4096.Idx => Mlp.bi (Mlp.row x5) (Mlp.wo x7 0) (Mlp.row x0 (y 0 : Fin 256)) (Mlp.row x2 (y 0 : Fin 256)) (y 1 : Fin 4096))
          ((Rect.unit (s := S256x4096) ![0, 512 * j.val] S256x512.size inb).emb x) := by
  rw [emb_hid]
  have e : x = ix2 (x 0 : Fin 256) (x 1 : Fin 512) := eq_ix2 (n0 := 256) (n1 := 512) x
  exact (congrArg _ e).trans (vD_apply x0 x2 x5 x7 _ j _)

theorem vDs_apply (f : Fin 4096) : View.canon (vDs x0 x2 x5 x7) (ix2 i f)
    = Mlp.bi (Mlp.row x5) (Mlp.wo x7 0) (Mlp.row x0 i) (Mlp.row x2 i) f := by
  refine (View.canon_apply_of_pieces (Val := Elt Ideal) (e := .bf16) (fun y : S256x4096.Idx =>
    Mlp.bi (Mlp.row x5) (Mlp.wo x7 0) (Mlp.row x0 (y 0 : Fin 256)) (Mlp.row x2 (y 0 : Fin 256)) (y 1 : Fin 4096)) _ ?_ _ ?_)
  · unfold vDs
    refine List.forall_mem_cons.mpr ⟨fun x => vD_piece x0 x2 x5 x7 7 inb_S256x4096_S256x512_0_3584 x, ?_⟩
    refine List.forall_mem_cons.mpr ⟨fun x => vD_piece x0 x2 x5 x7 6 inb_S256x4096_S256x512_0_3072 x, ?_⟩
    refine List.forall_mem_cons.mpr ⟨fun x => vD_piece x0 x2 x5 x7 5 inb_S256x4096_S256x512_0_2560 x, ?_⟩
    refine List.forall_mem_cons.mpr ⟨fun x => vD_piece x0 x2 x5 x7 4 inb_S256x4096_S256x512_0_2048 x, ?_⟩
    refine List.forall_mem_cons.mpr ⟨fun x => vD_piece x0 x2 x5 x7 3 inb_S256x4096_S256x512_0_1536 x, ?_⟩
    refine List.forall_mem_cons.mpr ⟨fun x => vD_piece x0 x2 x5 x7 2 inb_S256x4096_S256x512_0_1024 x, ?_⟩
    refine List.forall_mem_cons.mpr ⟨fun x => vD_piece x0 x2 x5 x7 1 inb_S256x4096_S256x512_0_512 x, ?_⟩
    refine List.forall_mem_cons.mpr ⟨fun x => vD_piece x0 x2 x5 x7 0 inb_S256x4096_S256x512_0_0 x, ?_⟩
    exact fun _ h => absurd h List.not_mem_nil
  · exact View.cover_of_tiledL (vDs x0 x2 x5 x7) S256x512.size (by sl_kernel_rfl) _

/-! The point's sums over its rows. -/

theorem vS_0 : vS x0 x1 x2 x3 x4 x5 x6 x7 (ix2 (0 : Fin 8) d) = ∑ i : Fin 256,
    Mlp.bx (Mlp.row x5) (Mlp.wi x6 0) (Mlp.wo x7 0) (Mlp.row x0 i) (Mlp.row x1 i) (Mlp.row x2 i) d * (Mlp.row x4 i d + Mlp.row x5 8 d) := by
  unfold vS
  rw [pay35_0, lw_eq]
  refine Finset.sum_congr rfl fun i _ => ?_
  rw [vX_apply, lp_apply]
  rfl

theorem vS_2 : vS x0 x1 x2 x3 x4 x5 x6 x7 (ix2 (2 : Fin 8) d) = ∑ i : Fin 256,
    Mlp.q (Mlp.row x1 i) d * Mlp.dn (Mlp.row x5 24) (Mlp.bh (Mlp.row x5) (Mlp.wi x6 0) (Mlp.wo x7 0) (Mlp.row x0 i) (Mlp.row x2 i)) d := by
  unfold vS
  rw [pay35_2, pay31_apply]
  refine Finset.sum_congr rfl fun i _ => ?_
  rw [pay26_apply, vH_apply, lp_apply, lw_eq]
  rfl

theorem vS_3 : vS x0 x1 x2 x3 x4 x5 x6 x7 (ix2 (3 : Fin 8) d) = ∑ i : Fin 256,
    Mlp.nr (Mlp.row x1 i) (Mlp.row x5 16) d * Mlp.bh (Mlp.row x5) (Mlp.wi x6 0) (Mlp.wo x7 0) (Mlp.row x0 i) (Mlp.row x2 i) d := by
  unfold vS
  rw [pay35_3, pay29_apply]
  refine Finset.sum_congr rfl fun i _ => ?_
  rw [pay26_apply, vH_apply, lp_apply, lw_eq]
  rfl

theorem vS_4 : vS x0 x1 x2 x3 x4 x5 x6 x7 (ix2 (4 : Fin 8) d) = ∑ i : Fin 256,
    Mlp.bh (Mlp.row x5) (Mlp.wi x6 0) (Mlp.wo x7 0) (Mlp.row x0 i) (Mlp.row x2 i) d := by
  unfold vS
  rw [pay35_4, pay28_apply]
  exact Finset.sum_congr rfl fun i _ => vH_apply x0 x2 x5 x6 x7 i d

theorem vS_5 : vS x0 x1 x2 x3 x4 x5 x6 x7 (ix2 (5 : Fin 8) d) = ∑ i : Fin 256, Mlp.row x0 i d * Mlp.row x3 i d := by
  unfold vS
  rw [pay35_5, lw_eq, lw_eq]
  rfl

end vals

end Cert.MlpBwd
-- ==== Proof.MlpFwdPay.lean ====
/- What the forward kernel of the MLP sub-layer computes at one grid point, read on the rows of its blocks. -/
module

public import proofs.«01_k».proof.Proof.MlpRow
public import Idealize.ShloMosaic.Lib.Pipeline.ValueKit.Tiles
public import proofs.«01_k».proof.Proof.Gen.Kernel3Ideal.Frame.Region0

@[expose] public section

set_option maxRecDepth 16384

noncomputable section

namespace Cert.MlpFwd

open Cert.Kernel3Ideal Cert.Kernel3Ideal.Gen Idealize.ShloMosaic Idealize.ShloMosaic.TcCoe

theorem pay2_apply (v0 : Vec Ideal S256x1024 .f32) (v1 : Vec Ideal S1x1024 .f32) (v3 : Vec Ideal S256x1024 .f32)
    (v4 : Vec Ideal S1x1024 .f32) (i : Fin 256) (d : Fin 1024) :
    k0_pay2 v0 v1 v3 v4 (ix2 i d) = Mlp.x1 (Mlp.row v0 i) (Mlp.row v1 0) (Mlp.row v3 i) (Mlp.row v4 0) d := by
  pointwise [k0_pay2]
  rfl

theorem pay3_apply (v0 : Vec Ideal S256x1024 .f32) (v1 : Vec Ideal S1x1024 .f32) (v3 : Vec Ideal S256x1024 .f32)
    (v4 v11 v13 v15 : Vec Ideal S1x1024 .f32) (i : Fin 256) (d : Fin 1024) :
    k0_pay3 v0 v1 v3 v4 v11 v13 v15 (ix2 i d)
      = Mlp.h (Mlp.x1 (Mlp.row v0 i) (Mlp.row v1 0) (Mlp.row v3 i) (Mlp.row v4 0)) (Mlp.row v11 0) (Mlp.row v13 0)
          (Mlp.row v15 0) d := by
  unfold k0_pay3
  generalize hx : k0_pay2 v0 v1 v3 v4 = X
  have e : Mlp.x1 (Mlp.row v0 i) (Mlp.row v1 0) (Mlp.row v3 i) (Mlp.row v4 0) = Mlp.row X i := by
    funext d'; rw [← pay2_apply, hx]; rfl
  rw [e]
  pointwise
  rfl

theorem pay4_apply (v35 : FVec Ideal S256x1024 .bf16) (v39 : Vec Ideal S1x1x1024x512 .bf16) (i : Fin 256) (k : Fin 512) :
    k0_pay4 v35 v39 (ix2 i k) = max (∑ d : Fin 1024, v35 (ix2 i d) * v39 (ix4 0 0 d k)) 0 := by
  pointwise [k0_pay4]

/-- The second product over one block of hidden units. -/
def part (r : FVec Ideal S256x512 .f32) (w : Vec Ideal S1x1x512x1024 .bf16) (i : Fin 256) (d : Fin 1024) : EReal :=
  ∑ k : Fin 512, r (ix2 i k) * r (ix2 i k) * w (ix4 0 0 k d)

theorem pay8_apply (v35 : FVec Ideal S256x1024 .bf16) (v39 : Vec Ideal S1x1x1024x512 .bf16)
    (v48 : Vec Ideal S1x1x512x1024 .bf16) (v52 : Vec Ideal S1x1x1024x512 .bf16) (v61 : Vec Ideal S1x1x512x1024 .bf16)
    (i : Fin 256) (d : Fin 1024) :
    k0_pay8 v35 v39 v48 v52 v61 (ix2 i d) = part (k0_pay4 v35 v39) v48 i d + part (k0_pay4 v35 v52) v61 i d := by
  have e : k0_pay6 (F := Ideal) v35 v52 = k0_pay4 v35 v52 := rfl
  unfold k0_pay8
  rw [e]
  generalize k0_pay4 v35 v39 = A
  generalize k0_pay4 v35 v52 = B
  pointwise
  simp [part]

theorem pay13_apply (v35 : FVec Ideal S256x1024 .bf16) (v64 : FVec Ideal S256x1024 .f32) (v65 : Vec Ideal S1x1x1024x512 .bf16)
    (v74 : Vec Ideal S1x1x512x1024 .bf16) (v78 : Vec Ideal S1x1x1024x512 .bf16) (v87 : Vec Ideal S1x1x512x1024 .bf16)
    (i : Fin 256) (d : Fin 1024) :
    k0_pay13 v35 v64 v65 v74 v78 v87 (ix2 i d)
      = v64 (ix2 i d) + part (k0_pay4 v35 v65) v74 i d + part (k0_pay4 v35 v78) v87 i d := by
  have e : k0_pay9 (F := Ideal) v35 v65 = k0_pay4 v35 v65 := rfl
  have e' : k0_pay11 (F := Ideal) v35 v78 = k0_pay4 v35 v78 := rfl
  unfold k0_pay13
  rw [e, e']
  generalize k0_pay4 v35 v65 = A
  generalize k0_pay4 v35 v78 = B
  pointwise
  simp [part]

theorem pay19_apply (v35 : FVec Ideal S256x1024 .bf16) (v90 : FVec Ideal S256x1024 .f32) (v91 : Vec Ideal S1x1x1024x512 .bf16)
    (v100 : Vec Ideal S1x1x512x1024 .bf16) (v104 : Vec Ideal S1x1x1024x512 .bf16) (v113 : Vec Ideal S1x1x512x1024 .bf16)
    (i : Fin 256) (d : Fin 1024) :
    k0_pay19 v35 v90 (k0_pay14 v91) (constant S256x512 .f32 0x00000000#32) v100 v104 v113 (ix2 i d)
      = v90 (ix2 i d) + part (k0_pay4 v35 v91) v100 i d + part (k0_pay4 v35 v104) v113 i d := by
  have e : k0_pay15 (F := Ideal) v35 (k0_pay14 v91) (constant S256x512 .f32 0x00000000#32) = k0_pay4 v35 v91 := rfl
  have e' : k0_pay17 (F := Ideal) v35 v104 = k0_pay4 v35 v104 := rfl
  unfold k0_pay19
  rw [e, e']
  generalize k0_pay4 v35 v91 = A
  generalize k0_pay4 v35 v104 = B
  pointwise
  simp [part]

theorem pay24_apply (v35 : FVec Ideal S256x1024 .bf16) (v116 : FVec Ideal S256x1024 .f32) (v121 : FVec Ideal S256x512 .f32)
    (v126 : Vec Ideal S1x1x512x1024 .bf16) (v130 : Vec Ideal S1x1x1024x512 .bf16) (v139 : Vec Ideal S1x1x512x1024 .bf16)
    (i : Fin 256) (d : Fin 1024) :
    k0_pay24 v35 v116 v121 v126 v130 v139 (ix2 i d)
      = v116 (ix2 i d) + part v121 v126 i d + part (k0_pay4 v35 v130) v139 i d := by
  have e : k0_pay22 (F := Ideal) v35 v130 = k0_pay4 v35 v130 := rfl
  unfold k0_pay24
  rw [e]
  generalize k0_pay4 v35 v130 = B
  pointwise
  simp [part]

theorem pay26_apply (v10 : FVec Ideal S256x1024 .f32) (v35 : FVec Ideal S256x1024 .bf16) (v116 : FVec Ideal S256x1024 .f32)
    (v121 : FVec Ideal S256x512 .f32) (v126 : Vec Ideal S1x1x512x1024 .bf16) (v130 : Vec Ideal S1x1x1024x512 .bf16)
    (v139 : Vec Ideal S1x1x512x1024 .bf16) (v145 : Vec Ideal S1x1024 .f32) (i : Fin 256) (d : Fin 1024) :
    k0_pay26 v10 v35 v116 v121 v126 v130 v139 v145 (ix2 i d)
      = v10 (ix2 i d) + v145 (ix2 0 d) * k0_pay24 v35 v116 v121 v126 v130 v139 (ix2 i d) := by
  unfold k0_pay26
  generalize k0_pay24 v35 v116 v121 v126 v130 v139 = A
  pointwise

/-! The loads of a block through a part of it. -/

/-- A parameter row of the block of parameters. -/
theorem ld_par {e : EltTy} (x : Vec Ideal S72x1024 e) (a : Fin 72) (inb) (d : Fin 1024) :
    View.ld x (Rect.unit (s := S72x1024) ![a.val, 0] S1x1024.size inb) (ix2 (0 : Fin 1) d) = x (ix2 a d) := by
  refine View.ld_unit_apply_of x _ _ inb _ _ fun b => ?_
  fin_cases b <;> simp [ix2]

theorem row_par {e : EltTy} (x : Vec Ideal S72x1024 e) (a : Fin 72) (inb) :
    Mlp.row (View.ld x (Rect.unit (s := S72x1024) ![a.val, 0] S1x1024.size inb)) (0 : Fin 1) = Mlp.row x a :=
  funext fun d => ld_par x a inb d

theorem ld_wi (x : Vec Ideal S8x1x1024x512 .bf16) (j : Fin 8) (inb) (d : Fin 1024) (k : Fin 512) :
    View.ld x (Rect.unit (s := S8x1x1024x512) ![j.val, 0, 0, 0] S1x1x1024x512.size inb) (ix4 (0 : Fin 1) (0 : Fin 1) d k)
      = Mlp.wi x 0 d (Mlp.fof j k) := by
  unfold Mlp.wi
  rw [Mlp.fj_fof, Mlp.fk_fof]
  refine View.ld_unit_apply_of x _ _ inb _ _ fun b => ?_
  fin_cases b <;> simp [ix4]

theorem ld_wo (x : Vec Ideal S8x1x512x1024 .bf16) (j : Fin 8) (inb) (k : Fin 512) (d : Fin 1024) :
    View.ld x (Rect.unit (s := S8x1x512x1024) ![j.val, 0, 0, 0] S1x1x512x1024.size inb) (ix4 (0 : Fin 1) (0 : Fin 1) k d)
      = Mlp.wo x 0 (Mlp.fof j k) d := by
  unfold Mlp.wo
  rw [Mlp.fj_fof, Mlp.fk_fof]
  refine View.ld_unit_apply_of x _ _ inb _ _ fun b => ?_
  fin_cases b <;> simp [ix4]

/-! The five blocks the point leaves that the layer uses. -/

variable (x0 x1 : Vec Ideal S256x1024 .f32) (x2 : Vec Ideal S72x1024 .f32) (x3 : Vec Ideal S8x1x1024x512 .bf16)
  (x4 : Vec Ideal S8x1x512x1024 .bf16)

theorem ld_whole (x : Vec Ideal S256x1024 .f32) : View.ld x r0_0 = x :=
  View.ld_unit_zero (by funext a; fin_cases a <;> rfl) _ x

theorem pay27_apply (i : Fin 256) (d : Fin 1024) :
    k0_pay27 x0 x1 x2 x3 x4 (ix2 i d) = Mlp.fx (Mlp.row x2) (Mlp.row x0 i) (Mlp.row x1 i) d := by
  unfold k0_pay27
  rw [ld_whole, ld_whole, pay2_apply]
  have e0 := row_par x2 0 inb_S72x1024_S1x1024_0_0
  have e8 := row_par x2 8 inb_S72x1024_S1x1024_8_0
  exact congrFun (congrArg₂ (fun g b => Mlp.x1 (Mlp.row x0 i) g (Mlp.row x1 i) b) e0 e8) d

theorem out5_apply (i : Fin 256) (d : Fin 1024) :
    out0_5 x0 x1 x2 x3 x4 (ix2 i d) = Mlp.fx (Mlp.row x2) (Mlp.row x0 i) (Mlp.row x1 i) d := by
  unfold out0_5
  rw [View.canon_unit_zero (by funext a; fin_cases a <;> rfl)]
  exact pay27_apply x0 x1 x2 x3 x4 i d

theorem pay28_apply (i : Fin 256) (d : Fin 1024) :
    k0_pay28 x0 x1 x2 x3 x4 (ix2 i d) = Mlp.fh (Mlp.row x2) (Mlp.row x0 i) (Mlp.row x1 i) d := by
  unfold k0_pay28
  rw [ld_whole, ld_whole, pay3_apply]
  have e0 := row_par x2 0 inb_S72x1024_S1x1024_0_0
  have e8 := row_par x2 8 inb_S72x1024_S1x1024_8_0
  have e16 := row_par x2 16 inb_S72x1024_S1x1024_16_0
  have e24 := row_par x2 24 inb_S72x1024_S1x1024_24_0
  have e32 := row_par x2 32 inb_S72x1024_S1x1024_32_0
  unfold Mlp.fh Mlp.fx
  exact congrFun (congr (congr (congrArg₂ Mlp.h
    (congrArg₂ (fun g b => Mlp.x1 (Mlp.row x0 i) g (Mlp.row x1 i) b) e0 e8) e16) e24) e32) d

theorem out6_apply (i : Fin 256) (d : Fin 1024) :
    out0_6 x0 x1 x2 x3 x4 (ix2 i d) = Mlp.fh (Mlp.row x2) (Mlp.row x0 i) (Mlp.row x1 i) d := by
  unfold out0_6
  rw [View.canon_unit_zero (by funext a; fin_cases a <;> rfl)]
  exact pay28_apply x0 x1 x2 x3 x4 i d

/-- The rectified values of one block of hidden units. -/
theorem hid_apply (j : Fin 8) (inb) (i : Fin 256) (k : Fin 512) :
    k0_pay4 (k0_pay28 x0 x1 x2 x3 x4)
        (View.ld x3 (Rect.unit (s := S8x1x1024x512) ![j.val, 0, 0, 0] S1x1x1024x512.size inb)) (ix2 i k)
      = Mlp.fr (Mlp.row x2) (Mlp.wi x3 0) (Mlp.row x0 i) (Mlp.row x1 i) (Mlp.fof j k) := by
  rw [pay4_apply]
  unfold Mlp.fr Mlp.r Mlp.hid
  refine congrArg (fun z => max z 0) (Finset.sum_congr rfl fun d _ => ?_)
  rw [pay28_apply]
  exact congrArg _ (ld_wi x3 j inb d k)

theorem emb_hid (j : Fin 8) (inb) (x : S256x512.Idx) :
    (Rect.unit (s := S256x4096) ![0, 512 * j.val] S256x512.size inb).emb x = ix2 (x 0 : Fin 256) (Mlp.fof j (x 1 : Fin 512)) := by
  funext a
  apply Fin.ext
  rw [Rect.emb_apply]
  fin_cases a <;> simp [ix2, Mlp.fof]

theorem hid_piece (j : Fin 8) (inb) (inb') (x : S256x512.Idx) :
    k0_pay4 (k0_pay28 x0 x1 x2 x3 x4)
        (View.ld x3 (Rect.unit (s := S8x1x1024x512) ![j.val, 0, 0, 0] S1x1x1024x512.size inb)) x
      = (fun y : S256x4096.Idx => Mlp.fr (Mlp.row x2) (Mlp.wi x3 0) (Mlp.row x0 (y 0 : Fin 256)) (Mlp.row x1 (y 0 : Fin 256)) (y 1 : Fin 4096))
          ((Rect.unit (s := S256x4096) ![0, 512 * j.val] S256x512.size inb').emb x) := by
  rw [emb_hid]
  have e : x = ix2 (x 0 : Fin 256) (x 1 : Fin 512) := eq_ix2 (n0 := 256) (n1 := 512) x
  exact (congrArg _ e).trans (hid_apply x0 x1 x2 x3 x4 j inb _ _)

theorem out7_apply (i : Fin 256) (f : Fin 4096) :
    out0_7 x0 x1 x2 x3 x4 (ix2 i f) = Mlp.fr (Mlp.row x2) (Mlp.wi x3 0) (Mlp.row x0 i) (Mlp.row x1 i) f := by
  unfold out0_7
  refine (View.canon_apply_of_pieces (Val := Elt Ideal) (e := .bf16) (fun y : S256x4096.Idx =>
    Mlp.fr (Mlp.row x2) (Mlp.wi x3 0) (Mlp.row x0 (y 0 : Fin 256)) (Mlp.row x1 (y 0 : Fin 256)) (y 1 : Fin 4096)) _ ?_ _ ?_)
  · refine List.forall_mem_cons.mpr ⟨fun x => hid_piece x0 x1 x2 x3 x4 7 inb_S8x1x1024x512_S1x1x1024x512_7_0_0_0 inb_S256x4096_S256x512_0_3584 x, ?_⟩
    refine List.forall_mem_cons.mpr ⟨fun x => hid_piece x0 x1 x2 x3 x4 6 inb_S8x1x1024x512_S1x1x1024x512_6_0_0_0 inb_S256x4096_S256x512_0_3072 x, ?_⟩
    refine List.forall_mem_cons.mpr ⟨fun x => hid_piece x0 x1 x2 x3 x4 5 inb_S8x1x1024x512_S1x1x1024x512_5_0_0_0 inb_S256x4096_S256x512_0_2560 x, ?_⟩
    refine List.forall_mem_cons.mpr ⟨fun x => hid_piece x0 x1 x2 x3 x4 4 inb_S8x1x1024x512_S1x1x1024x512_4_0_0_0 inb_S256x4096_S256x512_0_2048 x, ?_⟩
    refine List.forall_mem_cons.mpr ⟨fun x => hid_piece x0 x1 x2 x3 x4 3 inb_S8x1x1024x512_S1x1x1024x512_3_0_0_0 inb_S256x4096_S256x512_0_1536 x, ?_⟩
    refine List.forall_mem_cons.mpr ⟨fun x => hid_piece x0 x1 x2 x3 x4 2 inb_S8x1x1024x512_S1x1x1024x512_2_0_0_0 inb_S256x4096_S256x512_0_1024 x, ?_⟩
    refine List.forall_mem_cons.mpr ⟨fun x => hid_piece x0 x1 x2 x3 x4 1 inb_S8x1x1024x512_S1x1x1024x512_1_0_0_0 inb_S256x4096_S256x512_0_512 x, ?_⟩
    refine List.forall_mem_cons.mpr ⟨fun x => hid_piece x0 x1 x2 x3 x4 0 inb_S8x1x1024x512_S1x1x1024x512_0_0_0_0 inb_S256x4096_S256x512_0_0 x, ?_⟩
    exact fun _ h => absurd h List.not_mem_nil
  · exact cover0_7 _ _ _ _ _ _ _ _ _

theorem part_apply (j : Fin 8) (inb) (inb') (i : Fin 256) (d : Fin 1024) :
    part (k0_pay4 (k0_pay28 x0 x1 x2 x3 x4)
        (View.ld x3 (Rect.unit (s := S8x1x1024x512) ![j.val, 0, 0, 0] S1x1x1024x512.size inb)))
        (View.ld x4 (Rect.unit (s := S8x1x512x1024) ![j.val, 0, 0, 0] S1x1x512x1024.size inb')) i d
      = ∑ k : Fin 512, (fun f : Fin 4096 => Mlp.fr (Mlp.row x2) (Mlp.wi x3 0) (Mlp.row x0 i) (Mlp.row x1 i) f
          * Mlp.fr (Mlp.row x2) (Mlp.wi x3 0) (Mlp.row x0 i) (Mlp.row x1 i) f * Mlp.wo x4 0 f d) (Mlp.fof j k) := by
  unfold part
  refine Finset.sum_congr rfl fun k _ => ?_
  rw [hid_apply]
  exact congrArg _ (ld_wo x4 j inb' k d)

theorem mo_apply (i : Fin 256) (d : Fin 1024) :
    k0_pay24 (k0_pay28 x0 x1 x2 x3 x4) (k0_pay31 x0 x1 x2 x3 x4) (k0_pay32 x0 x1 x2 x3 x4) (View.ld x4 r0_26) (View.ld x3 r0_27)
        (View.ld x4 r0_29) (ix2 i d)
      = Mlp.fm (Mlp.row x2) (Mlp.wi x3 0) (Mlp.wo x4 0) (Mlp.row x0 i) (Mlp.row x1 i) d := by
  have e : k0_pay32 x0 x1 x2 x3 x4 = k0_pay4 (k0_pay28 x0 x1 x2 x3 x4) (View.ld x3 r0_24) := rfl
  have e' : k0_pay29 x0 x1 x2 x3 x4 = constant S256x512 .f32 0x00000000#32 := rfl
  rw [pay24_apply, e, k0_pay31, e', k0_pay30, pay19_apply, pay13_apply, pay8_apply]
  unfold Mlp.fm Mlp.mo
  rw [Mlp.sum_fof, Fin.sum_univ_eight]
  refine congrArg₂ _ (congrArg₂ _ (congrArg₂ _ (congrArg₂ _ (congrArg₂ _ (congrArg₂ _ (congrArg₂ _ ?_ ?_) ?_) ?_) ?_) ?_) ?_) ?_
  · exact part_apply x0 x1 x2 x3 x4 0 inb_S8x1x1024x512_S1x1x1024x512_0_0_0_0 inb_S8x1x512x1024_S1x1x512x1024_0_0_0_0 i d
  · exact part_apply x0 x1 x2 x3 x4 1 inb_S8x1x1024x512_S1x1x1024x512_1_0_0_0 inb_S8x1x512x1024_S1x1x512x1024_1_0_0_0 i d
  · exact part_apply x0 x1 x2 x3 x4 2 inb_S8x1x1024x512_S1x1x1024x512_2_0_0_0 inb_S8x1x512x1024_S1x1x512x1024_2_0_0_0 i d
  · exact part_apply x0 x1 x2 x3 x4 3 inb_S8x1x1024x512_S1x1x1024x512_3_0_0_0 inb_S8x1x512x1024_S1x1x512x1024_3_0_0_0 i d
  · exact part_apply x0 x1 x2 x3 x4 4 inb_S8x1x1024x512_S1x1x1024x512_4_0_0_0 inb_S8x1x512x1024_S1x1x512x1024_4_0_0_0 i d
  · exact part_apply x0 x1 x2 x3 x4 5 inb_S8x1x1024x512_S1x1x1024x512_5_0_0_0 inb_S8x1x512x1024_S1x1x512x1024_5_0_0_0 i d
  · exact part_apply x0 x1 x2 x3 x4 6 inb_S8x1x1024x512_S1x1x1024x512_6_0_0_0 inb_S8x1x512x1024_S1x1x512x1024_6_0_0_0 i d
  · exact part_apply x0 x1 x2 x3 x4 7 inb_S8x1x1024x512_S1x1x1024x512_7_0_0_0 inb_S8x1x512x1024_S1x1x512x1024_7_0_0_0 i d

theorem out8_apply (i : Fin 256) (d : Fin 1024) :
    out0_8 x0 x1 x2 x3 x4 (ix2 i d) = Mlp.fm (Mlp.row x2) (Mlp.wi x3 0) (Mlp.wo x4 0) (Mlp.row x0 i) (Mlp.row x1 i) d := by
  unfold out0_8
  rw [View.canon_unit_zero (by funext a; fin_cases a <;> rfl)]
  exact mo_apply x0 x1 x2 x3 x4 i d

theorem out9_apply (i : Fin 256) (d : Fin 1024) :
    out0_9 x0 x1 x2 x3 x4 (ix2 i d) = Mlp.fo (Mlp.row x2) (Mlp.wi x3 0) (Mlp.wo x4 0) (Mlp.row x0 i) (Mlp.row x1 i) d := by
  unfold out0_9
  rw [View.canon_unit_zero (by funext a; fin_cases a <;> rfl), pay26_apply, mo_apply, pay27_apply]
  unfold Mlp.fo Mlp.x2
  exact congrArg (fun z => Mlp.fx (Mlp.row x2) (Mlp.row x0 i) (Mlp.row x1 i) d
    + z * Mlp.fm (Mlp.row x2) (Mlp.wi x3 0) (Mlp.wo x4 0) (Mlp.row x0 i) (Mlp.row x1 i) d) (ld_par x2 40 inb_S72x1024_S1x1024_40_0 d)

end Cert.MlpFwd
-- ==== Proof.MlpFwdArr.lean ====
/- The arrays the forward kernel of the MLP sub-layer leaves, row by row, of the arrays it finds. -/
module

public import proofs.«01_k».proof.Proof.MlpFwdPay

@[expose] public section

set_option maxRecDepth 16384

noncomputable section

namespace Cert.MlpFwd

open Cert.Kernel3Ideal Cert.Kernel3Ideal.Gen Idealize.ShloMosaic Idealize.ShloMosaic.TcCoe
open Idealize.ShloMosaic.Pipeline (Dat)

/-- What a window's array holds at an index of a point's block, where distinct points have distinct blocks: what the point wrote. -/
theorem arr_at {nD : ℕ} {τ : Topo} {g : RefSig} {Val : EltTy → Type} {Ix Name U Lvl : Type} [DecidableEq Ix] [DecidableEq Name]
    [Idealize.SL.RA.URA U] {Λ : Idealize.SL.Sem.Labels} {cfg : Pipeline.Cfg g Λ} {c : Dev nD} (dat : Dat τ Val Ix Name U Lvl cfg c) (w : Fin cfg.W)
    (hk : (cfg.win w).kind = .blocked) (h : ∀ t : Fin cfg.N, (cfg.win w).flush t = true)
    (hi : ∀ t t' : Fin cfg.N, (cfg.win w).index t = (cfg.win w).index t' → t = t') (t : Fin cfg.N)
    (y : ((cfg.win w).xblock (cfg.grid.coords t)).Idx) :
    ((cfg.win w).blk t).view.read Val (dat.arrAt w cfg.N) y = dat.flushed w t y :=
  congrFun (dat.read_blk_arrAt_eq_flushed w
    (fun t t' _ _ hne => (cfg.win w).disjoint_blk (hk := hk) fun e => hne (hi t t' e)) cfg.N t t.isLt (h t)) y

/-- A window whose block at a point is the point's row of blocks has distinct blocks at distinct points. -/
theorem row_inj {N : ℕ} {f : Fin N → Fin 2 → ℕ} {A : Fin N → Prop} (h : ∀ t, f t (0 : Fin 2) = t.val ∧ A t) (t t' : Fin N) (e : f t = f t') : t = t' :=
  Fin.ext ((h t).1.symm.trans ((congrFun e (0 : Fin 2)).trans (h t').1))

/-- An index of a rank-2 array by its coordinates. -/
theorem at2 {n m : ℕ} {α : Type} (f : (⟨2, ![n, m]⟩ : Shape).Idx → α) (i : (⟨2, ![n, m]⟩ : Shape).Idx) (a : Fin n) (b : Fin m)
    (h0 : (i 0 : ℕ) = a.val) (h1 : (i 1 : ℕ) = b.val) : f i = f (ix2 a b) := by
  refine congrArg f (funext fun k => ?_)
  match k with
  | ⟨0, _⟩ => exact Fin.ext h0
  | ⟨1, _⟩ => exact Fin.ext h1

/-- An index of a rank-4 array by its coordinates. -/
theorem at4 {n0 n1 n2 n3 : ℕ} {α : Type} (f : (⟨4, ![n0, n1, n2, n3]⟩ : Shape).Idx → α) (i : (⟨4, ![n0, n1, n2, n3]⟩ : Shape).Idx)
    (a : Fin n0) (b : Fin n1) (e : Fin n2) (g : Fin n3) (h0 : (i 0 : ℕ) = a.val) (h1 : (i 1 : ℕ) = b.val) (h2 : (i 2 : ℕ) = e.val)
    (h3 : (i 3 : ℕ) = g.val) : f i = f (ix4 a b e g) := by
  refine congrArg f (funext fun k => ?_)
  match k with
  | ⟨0, _⟩ => exact Fin.ext h0
  | ⟨1, _⟩ => exact Fin.ext h1
  | ⟨2, _⟩ => exact Fin.ext h2
  | ⟨3, _⟩ => exact Fin.ext h3

/-- The coordinates of an element of a block of rows. -/
theorem blk_row {n t i : ℕ} (h : n = t) : n * 256 + 1 * i = 256 * t + i := by omega
theorem blk_col {n m d : ℕ} (h : n = 0) : n * m + 1 * d = d := by subst h; omega

theorem N0 : cfg0.N = 8 := by decide

/-- The grid point of a block of rows. -/
def pt (t : Fin 8) : Fin cfg0.N := ⟨t.val, by rw [N0]; exact t.isLt⟩

variable (V : (c : Dev nD) → (b : Ref sig .tc) → Buf (Elt Ideal) ((c : Thread nD τ).loc b)) (c : Dev nD)

/-- The arrays the region finds. -/
abbrev aX : FVec Ideal S2304x1024 .f32 := V c main_arg0
abbrev aY : FVec Ideal S2048x1024 .f32 := V c main_arg1
abbrev aP : FVec Ideal S72x1024 .f32 := V c main_v11
abbrev aI : FVec Ideal S8x2x1024x512 .bf16 := V c main_arg7
abbrev aO : FVec Ideal S8x2x512x1024 .bf16 := V c main_arg8

theorem ixX : ∀ t : Fin grid0.N, win0_0.index t (0 : Fin 2) = t.val + 1 ∧ win0_0.index t (1 : Fin 2) = 0 := by decide +kernel
theorem ixY : ∀ t : Fin grid0.N, win0_1.index t (0 : Fin 2) = t.val ∧ win0_1.index t (1 : Fin 2) = 0 := by decide +kernel
theorem ixP : ∀ t : Fin grid0.N, win0_2.index t (0 : Fin 2) = 0 ∧ win0_2.index t (1 : Fin 2) = 0 := by decide +kernel
theorem ixI : ∀ t : Fin grid0.N, ∀ a : Fin 4, win0_3.index t a = 0 := by decide +kernel
theorem ixO : ∀ t : Fin grid0.N, ∀ a : Fin 4, win0_4.index t a = 0 := by decide +kernel

/-- A row of the context array, past its first 256. -/
def past (i : Fin 2048) : Fin 2304 := ⟨256 + i.val, by omega⟩

theorem rowX (t : Fin 8) (i : Fin 256) : Mlp.row (iblk0 V c 0 (pt t) : Vec Ideal S256x1024 .f32) i = Mlp.row (aX V c) (past (Mlp.rof t i)) := by
  funext d
  refine at2 (aX V c) _ _ _ ?_ ?_
  · show win0_0.index (pt t) (0 : Fin 2) * 256 + 1 * i.val = 256 + (256 * t.val + i.val)
    rw [(ixX (pt t)).1]; show (t.val + 1) * 256 + 1 * i.val = _; omega
  · show win0_0.index (pt t) (1 : Fin 2) * 1024 + 1 * d.val = d.val
    rw [(ixX (pt t)).2]; omega

theorem rowY (t : Fin 8) (i : Fin 256) : Mlp.row (iblk0 V c 1 (pt t) : Vec Ideal S256x1024 .f32) i = Mlp.row (aY V c) (Mlp.rof t i) :=
  funext fun _ => at2 (aY V c) _ _ _ (blk_row (ixY (pt t)).1) (blk_col (ixY (pt t)).2)

theorem rowP (t : Fin 8) : Mlp.row (iblk0 V c 2 (pt t) : Vec Ideal S72x1024 .f32) = Mlp.row (aP V c) :=
  funext fun _ => funext fun _ => at2 (aP V c) _ _ _ (blk_col (ixP (pt t)).1) (blk_col (ixP (pt t)).2)

theorem wiI (t : Fin 8) : Mlp.wi (iblk0 V c 3 (pt t) : Vec Ideal S8x1x1024x512 .bf16) 0 = Mlp.wi (aI V c) 0 :=
  funext fun _ => funext fun _ => at4 (aI V c) _ _ _ _ _ (blk_col (ixI (pt t) 0)) (blk_col (ixI (pt t) 1)) (blk_col (ixI (pt t) 2))
    (blk_col (ixI (pt t) 3))

theorem woO (t : Fin 8) : Mlp.wo (iblk0 V c 4 (pt t) : Vec Ideal S8x1x512x1024 .bf16) 0 = Mlp.wo (aO V c) 0 :=
  funext fun _ => funext fun _ => at4 (aO V c) _ _ _ _ _ (blk_col (ixO (pt t) 0)) (blk_col (ixO (pt t) 1)) (blk_col (ixO (pt t) 2))
    (blk_col (ixO (pt t) 3))

/-- The window's block number at a point, and that each point writes its block back. -/
theorem ix5 : ∀ t : Fin grid0.N, win0_5.index t (0 : Fin 2) = t.val ∧ win0_5.index t (1 : Fin 2) = 0 ∧ win0_5.flush t = true := by decide +kernel
theorem ix6 : ∀ t : Fin grid0.N, win0_6.index t (0 : Fin 2) = t.val ∧ win0_6.index t (1 : Fin 2) = 0 ∧ win0_6.flush t = true := by decide +kernel
theorem ix7 : ∀ t : Fin grid0.N, win0_7.index t (0 : Fin 2) = t.val ∧ win0_7.index t (1 : Fin 2) = 0 ∧ win0_7.flush t = true := by decide +kernel
theorem ix8 : ∀ t : Fin grid0.N, win0_8.index t (0 : Fin 2) = t.val ∧ win0_8.index t (1 : Fin 2) = 0 ∧ win0_8.flush t = true := by decide +kernel
theorem ix9 : ∀ t : Fin grid0.N, win0_9.index t (0 : Fin 2) = t.val ∧ win0_9.index t (1 : Fin 2) = 0 ∧ win0_9.flush t = true := by decide +kernel

/-- The residual array. -/
theorem arr5 (i : Fin 2048) (d : Fin 1024) :
    ((dat0 V c).arrAt 5 cfg0.N : FVec Ideal S2048x1024 .f32) (ix2 i d)
      = Mlp.fx (Mlp.row (aP V c)) (Mlp.row (aX V c) (past i)) (Mlp.row (aY V c) i) d := by
  obtain ⟨t, k, rfl⟩ : ∃ t k, i = Mlp.rof t k := ⟨_, _, (Mlp.rof_rt_ri i).symm⟩
  have e := arr_at (dat0 V c) 5 rfl (fun t => (ix5 t).2.2)
    (row_inj ix5) (pt t) (ix2 k d : S256x1024.Idx)
  refine Eq.trans (at2 ((dat0 V c).arrAt 5 cfg0.N : FVec Ideal S2048x1024 .f32) _ _ _ (blk_row (ix5 (pt t)).1) (blk_col (ix5 (pt t)).2.1)).symm (e.trans ?_)
  rw [← rowX, ← rowY, ← rowP V c t]
  exact (congrFun (after0_5 V c (pt t)) _).trans (out5_apply _ _ _ _ _ k d)
/-- The modulated array. -/
theorem arr6 (i : Fin 2048) (d : Fin 1024) :
    ((dat0 V c).arrAt 6 cfg0.N : FVec Ideal S2048x1024 .bf16) (ix2 i d)
      = Mlp.fh (Mlp.row (aP V c)) (Mlp.row (aX V c) (past i)) (Mlp.row (aY V c) i) d := by
  obtain ⟨t, k, rfl⟩ : ∃ t k, i = Mlp.rof t k := ⟨_, _, (Mlp.rof_rt_ri i).symm⟩
  have e := arr_at (dat0 V c) 6 rfl (fun t => (ix6 t).2.2)
    (row_inj ix6) (pt t) (ix2 k d : S256x1024.Idx)
  refine Eq.trans (at2 ((dat0 V c).arrAt 6 cfg0.N : FVec Ideal S2048x1024 .bf16) _ _ _ (blk_row (ix6 (pt t)).1) (blk_col (ix6 (pt t)).2.1)).symm (e.trans ?_)
  rw [← rowX, ← rowY, ← rowP V c t]
  exact (congrFun (after0_6 V c (pt t)) _).trans (out6_apply _ _ _ _ _ k d)
/-- The rectified array. -/
theorem arr7 (i : Fin 2048) (d : Fin 4096) :
    ((dat0 V c).arrAt 7 cfg0.N : FVec Ideal S2048x4096 .bf16) (ix2 i d)
      = Mlp.fr (Mlp.row (aP V c)) (Mlp.wi (aI V c) 0) (Mlp.row (aX V c) (past i)) (Mlp.row (aY V c) i) d := by
  obtain ⟨t, k, rfl⟩ : ∃ t k, i = Mlp.rof t k := ⟨_, _, (Mlp.rof_rt_ri i).symm⟩
  have e := arr_at (dat0 V c) 7 rfl (fun t => (ix7 t).2.2)
    (row_inj ix7) (pt t) (ix2 k d : S256x4096.Idx)
  refine Eq.trans (at2 ((dat0 V c).arrAt 7 cfg0.N : FVec Ideal S2048x4096 .bf16) _ _ _ (blk_row (ix7 (pt t)).1) (blk_col (ix7 (pt t)).2.1)).symm (e.trans ?_)
  rw [← rowX, ← rowY, ← rowP V c t, ← wiI V c t]
  exact (congrFun (after0_7 V c (pt t)) _).trans (out7_apply _ _ _ _ _ k d)
/-- The output array before its gate. -/
theorem arr8 (i : Fin 2048) (d : Fin 1024) :
    ((dat0 V c).arrAt 8 cfg0.N : FVec Ideal S2048x1024 .bf16) (ix2 i d)
      = Mlp.fm (Mlp.row (aP V c)) (Mlp.wi (aI V c) 0) (Mlp.wo (aO V c) 0) (Mlp.row (aX V c) (past i)) (Mlp.row (aY V c) i) d := by
  obtain ⟨t, k, rfl⟩ : ∃ t k, i = Mlp.rof t k := ⟨_, _, (Mlp.rof_rt_ri i).symm⟩
  have e := arr_at (dat0 V c) 8 rfl (fun t => (ix8 t).2.2)
    (row_inj ix8) (pt t) (ix2 k d : S256x1024.Idx)
  refine Eq.trans (at2 ((dat0 V c).arrAt 8 cfg0.N : FVec Ideal S2048x1024 .bf16) _ _ _ (blk_row (ix8 (pt t)).1) (blk_col (ix8 (pt t)).2.1)).symm (e.trans ?_)
  rw [← rowX, ← rowY, ← rowP V c t, ← wiI V c t, ← woO V c t]
  exact (congrFun (after0_8 V c (pt t)) _).trans (out8_apply _ _ _ _ _ k d)
/-- The residual array leaving the layer. -/
theorem arr9 (i : Fin 2048) (d : Fin 1024) :
    ((dat0 V c).arrAt 9 cfg0.N : FVec Ideal S2048x1024 .f32) (ix2 i d)
      = Mlp.fo (Mlp.row (aP V c)) (Mlp.wi (aI V c) 0) (Mlp.wo (aO V c) 0) (Mlp.row (aX V c) (past i)) (Mlp.row (aY V c) i) d := by
  obtain ⟨t, k, rfl⟩ : ∃ t k, i = Mlp.rof t k := ⟨_, _, (Mlp.rof_rt_ri i).symm⟩
  have e := arr_at (dat0 V c) 9 rfl (fun t => (ix9 t).2.2)
    (row_inj ix9) (pt t) (ix2 k d : S256x1024.Idx)
  refine Eq.trans (at2 ((dat0 V c).arrAt 9 cfg0.N : FVec Ideal S2048x1024 .f32) _ _ _ (blk_row (ix9 (pt t)).1) (blk_col (ix9 (pt t)).2.1)).symm (e.trans ?_)
  rw [← rowX, ← rowY, ← rowP V c t, ← wiI V c t, ← woO V c t]
  exact (congrFun (after0_9 V c (pt t)) _).trans (out9_apply _ _ _ _ _ k d)

end Cert.MlpFwd
-- ==== Proof.MlpBwdArr.lean ====
/- The arrays the backward kernel of the MLP sub-layer leaves, row by row, of the arrays it finds. -/
module

public import proofs.«01_k».proof.Proof.MlpBwdPay
public import proofs.«01_k».proof.Proof.MlpFwdArr
public import Idealize.ShloMosaic.Lib.Pipeline.ValueKit.Geometry
public import Idealize.ShloMosaic.Lib.Pipeline.ValueKit.Acc

@[expose] public section

set_option maxRecDepth 16384

noncomputable section

namespace Cert.MlpBwd

open Cert.Kernel3Ideal Cert.Kernel3Ideal.Gen Idealize.ShloMosaic Idealize.ShloMosaic.TcCoe
open Idealize.ShloMosaic.Pipeline (Dat)
open Cert.MlpFwd (at2 at4 arr_at row_inj blk_row blk_col)

theorem N1 : cfg1.N = 8 := by decide

/-- The grid point of a block of rows. -/
def pt (t : Fin 8) : Fin cfg1.N := ⟨t.val, by rw [N1]; exact t.isLt⟩

variable (V : (c : Dev nD) → (b : Ref sig .tc) → Buf (Elt Ideal) ((c : Thread nD τ).loc b)) (c : Dev nD)

/-- The arrays the region finds. -/
abbrev aC : FVec Ideal S2048x1024 .f32 := V c main_arg9
abbrev aX : FVec Ideal S2048x1024 .f32 := V c main_v12_0
abbrev aR : FVec Ideal S2048x4096 .bf16 := V c main_v12_2
abbrev aM : FVec Ideal S2048x1024 .bf16 := V c main_v12_3
abbrev aY : FVec Ideal S2048x1024 .f32 := V c main_arg1
abbrev aP : FVec Ideal S72x1024 .f32 := V c main_v11
abbrev aI : FVec Ideal S8x2x1024x512 .bf16 := V c main_arg7
abbrev aO : FVec Ideal S8x2x512x1024 .bf16 := V c main_arg8

/-! Where each point's blocks of the inputs lie. -/

theorem ixC : ∀ t : Fin grid1.N, win1_0.index t (0 : Fin 2) = t.val ∧ win1_0.index t (1 : Fin 2) = 0 := by decide +kernel
theorem ixX : ∀ t : Fin grid1.N, win1_1.index t (0 : Fin 2) = t.val ∧ win1_1.index t (1 : Fin 2) = 0 := by decide +kernel
theorem ixR : ∀ t : Fin grid1.N, win1_2.index t (0 : Fin 2) = t.val ∧ win1_2.index t (1 : Fin 2) = 0 := by decide +kernel
theorem ixM : ∀ t : Fin grid1.N, win1_3.index t (0 : Fin 2) = t.val ∧ win1_3.index t (1 : Fin 2) = 0 := by decide +kernel
theorem ixY : ∀ t : Fin grid1.N, win1_4.index t (0 : Fin 2) = t.val ∧ win1_4.index t (1 : Fin 2) = 0 := by decide +kernel
theorem ixP : ∀ t : Fin grid1.N, win1_5.index t (0 : Fin 2) = 0 ∧ win1_5.index t (1 : Fin 2) = 0 := by decide +kernel
theorem ixI : ∀ t : Fin grid1.N, ∀ a : Fin 4, win1_6.index t a = 0 := by decide +kernel
theorem ixO : ∀ t : Fin grid1.N, ∀ a : Fin 4, win1_7.index t a = 0 := by decide +kernel

theorem rowC (t : Fin 8) (i : Fin 256) : Mlp.row (iblk1 V c 0 (pt t) : Vec Ideal S256x1024 .f32) i = Mlp.row (aC V c) (Mlp.rof t i) :=
  funext fun _ => at2 (aC V c) _ _ _ (blk_row (ixC (pt t)).1) (blk_col (ixC (pt t)).2)
theorem rowX (t : Fin 8) (i : Fin 256) : Mlp.row (iblk1 V c 1 (pt t) : Vec Ideal S256x1024 .f32) i = Mlp.row (aX V c) (Mlp.rof t i) :=
  funext fun _ => at2 (aX V c) _ _ _ (blk_row (ixX (pt t)).1) (blk_col (ixX (pt t)).2)
theorem rowR (t : Fin 8) (i : Fin 256) : Mlp.row (iblk1 V c 2 (pt t) : Vec Ideal S256x4096 .bf16) i = Mlp.row (aR V c) (Mlp.rof t i) :=
  funext fun _ => at2 (aR V c) _ _ _ (blk_row (ixR (pt t)).1) (blk_col (ixR (pt t)).2)
theorem rowM (t : Fin 8) (i : Fin 256) : Mlp.row (iblk1 V c 3 (pt t) : Vec Ideal S256x1024 .bf16) i = Mlp.row (aM V c) (Mlp.rof t i) :=
  funext fun _ => at2 (aM V c) _ _ _ (blk_row (ixM (pt t)).1) (blk_col (ixM (pt t)).2)
theorem rowY (t : Fin 8) (i : Fin 256) : Mlp.row (iblk1 V c 4 (pt t) : Vec Ideal S256x1024 .f32) i = Mlp.row (aY V c) (Mlp.rof t i) :=
  funext fun _ => at2 (aY V c) _ _ _ (blk_row (ixY (pt t)).1) (blk_col (ixY (pt t)).2)
theorem rowP (t : Fin 8) : Mlp.row (iblk1 V c 5 (pt t) : Vec Ideal S72x1024 .f32) = Mlp.row (aP V c) :=
  funext fun _ => funext fun _ => at2 (aP V c) _ _ _ (blk_col (ixP (pt t)).1) (blk_col (ixP (pt t)).2)
theorem wiI (t : Fin 8) : Mlp.wi (iblk1 V c 6 (pt t) : Vec Ideal S8x1x1024x512 .bf16) 0 = Mlp.wi (aI V c) 0 :=
  funext fun _ => funext fun _ => at4 (aI V c) _ _ _ _ _ (blk_col (ixI (pt t) 0)) (blk_col (ixI (pt t) 1)) (blk_col (ixI (pt t) 2))
    (blk_col (ixI (pt t) 3))
theorem woO (t : Fin 8) : Mlp.wo (iblk1 V c 7 (pt t) : Vec Ideal S8x1x512x1024 .bf16) 0 = Mlp.wo (aO V c) 0 :=
  funext fun _ => funext fun _ => at4 (aO V c) _ _ _ _ _ (blk_col (ixO (pt t) 0)) (blk_col (ixO (pt t) 1)) (blk_col (ixO (pt t) 2))
    (blk_col (ixO (pt t) 3))

/-! What the point leaves, the same in both cases of the body. -/

theorem left8 (t : Fin cfg1.N) : (outsAt1 V c t.val t.isLt).1
    = vX (iblk1 V c 0 t) (iblk1 V c 1 t) (iblk1 V c 2 t) (iblk1 V c 5 t) (iblk1 V c 6 t) (iblk1 V c 7 t) := by
  by_cases h : t.val % 8 = 0
  · rw [outsAt1_A V c t h]; dsimp only; rw [outA_8]
  · rw [outsAt1_B V c t h]; dsimp only; rw [outB_8]
theorem left9 (t : Fin cfg1.N) : (outsAt1 V c t.val t.isLt).2.1
    = vO (iblk1 V c 0 t) (iblk1 V c 1 t) (iblk1 V c 2 t) (iblk1 V c 5 t) (iblk1 V c 6 t) (iblk1 V c 7 t) := by
  by_cases h : t.val % 8 = 0
  · rw [outsAt1_A V c t h]; dsimp only; rw [outA_9]
  · rw [outsAt1_B V c t h]; dsimp only; rw [outB_9]
theorem left10 (t : Fin cfg1.N) : (outsAt1 V c t.val t.isLt).2.2.1 = vM (iblk1 V c 0 t) (iblk1 V c 5 t) := by
  by_cases h : t.val % 8 = 0
  · rw [outsAt1_A V c t h]; dsimp only; rw [outA_10]
  · rw [outsAt1_B V c t h]; dsimp only; rw [outB_10]
theorem left11 (t : Fin cfg1.N) : (outsAt1 V c t.val t.isLt).2.2.2.1
    = View.canon (vDs (iblk1 V c 0 t) (iblk1 V c 2 t) (iblk1 V c 5 t) (iblk1 V c 7 t)) := by
  by_cases h : t.val % 8 = 0
  · rw [outsAt1_A V c t h]; dsimp only; rw [outA_11]
  · rw [outsAt1_B V c t h]; dsimp only; rw [outB_11]

/-- What the point's body adds into the block of sums. -/
def sums (t : Fin cfg1.N) : FVec Ideal S8x1024 .f32 :=
  vS (iblk1 V c 0 t) (iblk1 V c 1 t) (iblk1 V c 2 t) (iblk1 V c 3 t) (iblk1 V c 4 t) (iblk1 V c 5 t) (iblk1 V c 6 t) (iblk1 V c 7 t)

theorem left12_first (t : Fin cfg1.N) (h : t.val % 8 = 0) (y : S8x1024.Idx) :
    (outsAt1 V c t.val t.isLt).2.2.2.2 y = 0 + sums V c t y := by
  have e : (outsAt1 V c t.val t.isLt).2.2.2.2 = k1_pay2 (F := Ideal) (sums V c t) (k1_pay1 (F := Ideal)) := by
    rw [outsAt1_A V c t h]; dsimp only; rw [outA_12]; rfl
  rw [e, pay2_apply, pay1_apply]
theorem left12_next (t : Fin cfg1.N) (h : ¬t.val % 8 = 0) (y : S8x1024.Idx) :
    (outsAt1 V c t.val t.isLt).2.2.2.2 y
      = (outsAt1 V c (t.val - 1) (Nat.lt_of_le_of_lt (Nat.sub_le _ _) t.isLt)).2.2.2.2 y + sums V c t y := by
  have e : (outsAt1 V c t.val t.isLt).2.2.2.2
      = k1_pay2 (sums V c t) (outsAt1 V c (t.val - 1) (Nat.lt_of_le_of_lt (Nat.sub_le _ _) t.isLt)).2.2.2.2 := by
    rw [outsAt1_B V c t h]; dsimp only; rw [outB_12]; rfl
  rw [e, pay2_apply]

/-! The arrays of rows. -/

theorem ix8 : ∀ t : Fin grid1.N, win1_8.index t (0 : Fin 2) = t.val ∧ win1_8.index t (1 : Fin 2) = 0 ∧ win1_8.flush t = true := by decide +kernel
theorem ix9 : ∀ t : Fin grid1.N, win1_9.index t (0 : Fin 2) = t.val ∧ win1_9.index t (1 : Fin 2) = 0 ∧ win1_9.flush t = true := by decide +kernel
theorem ix10 : ∀ t : Fin grid1.N, win1_10.index t (0 : Fin 2) = t.val ∧ win1_10.index t (1 : Fin 2) = 0 ∧ win1_10.flush t = true := by decide +kernel
theorem ix11 : ∀ t : Fin grid1.N, win1_11.index t (0 : Fin 2) = t.val ∧ win1_11.index t (1 : Fin 2) = 0 ∧ win1_11.flush t = true := by decide +kernel

/-- The residual rows' cotangents. -/
theorem arr8 (t : Fin 8) (i : Fin 256) (d : Fin 1024) :
    ((dat1 V c).arrAt 8 cfg1.N : FVec Ideal S2048x1024 .f32) (ix2 (Mlp.rof t i) d)
      = Mlp.bx (Mlp.row (aP V c)) (Mlp.wi (aI V c) 0) (Mlp.wo (aO V c) 0) (Mlp.row (aC V c) (Mlp.rof t i)) (Mlp.row (aX V c) (Mlp.rof t i))
          (Mlp.row (aR V c) (Mlp.rof t i)) d := by
  have e := arr_at (dat1 V c) 8 rfl (fun t => (ix8 t).2.2)
    (row_inj ix8) (pt t) (ix2 i d : S256x1024.Idx)
  refine Eq.trans (at2 ((dat1 V c).arrAt 8 cfg1.N : FVec Ideal S2048x1024 .f32) _ _ _ (blk_row (ix8 (pt t)).1) (blk_col (ix8 (pt t)).2.1)).symm
    (e.trans ?_)
  rw [← rowC, ← rowX, ← rowR, ← rowP V c t, ← wiI V c t, ← woO V c t]
  exact (congrFun ((after1_8 V c (pt t)).trans (left8 V c (pt t))) _).trans (vX_apply _ _ _ _ _ _ i d)
/-- The mixer's rows' cotangents. -/
theorem arr9 (t : Fin 8) (i : Fin 256) (d : Fin 1024) :
    ((dat1 V c).arrAt 9 cfg1.N : FVec Ideal S2048x1024 .bf16) (ix2 (Mlp.rof t i) d)
      = Mlp.bo (Mlp.row (aP V c)) (Mlp.wi (aI V c) 0) (Mlp.wo (aO V c) 0) (Mlp.row (aC V c) (Mlp.rof t i)) (Mlp.row (aX V c) (Mlp.rof t i))
          (Mlp.row (aR V c) (Mlp.rof t i)) d := by
  have e := arr_at (dat1 V c) 9 rfl (fun t => (ix9 t).2.2)
    (row_inj ix9) (pt t) (ix2 i d : S256x1024.Idx)
  refine Eq.trans (at2 ((dat1 V c).arrAt 9 cfg1.N : FVec Ideal S2048x1024 .bf16) _ _ _ (blk_row (ix9 (pt t)).1) (blk_col (ix9 (pt t)).2.1)).symm
    (e.trans ?_)
  rw [← rowC, ← rowX, ← rowR, ← rowP V c t, ← wiI V c t, ← woO V c t]
  exact (congrFun ((after1_9 V c (pt t)).trans (left9 V c (pt t))) _).trans (vO_apply _ _ _ _ _ _ i d)
/-- The output rows' cotangents. -/
theorem arr10 (t : Fin 8) (i : Fin 256) (d : Fin 1024) :
    ((dat1 V c).arrAt 10 cfg1.N : FVec Ideal S2048x1024 .bf16) (ix2 (Mlp.rof t i) d)
      = Mlp.bm (Mlp.row (aP V c)) (Mlp.row (aC V c) (Mlp.rof t i)) d := by
  have e := arr_at (dat1 V c) 10 rfl (fun t => (ix10 t).2.2)
    (row_inj ix10) (pt t) (ix2 i d : S256x1024.Idx)
  refine Eq.trans (at2 ((dat1 V c).arrAt 10 cfg1.N : FVec Ideal S2048x1024 .bf16) _ _ _ (blk_row (ix10 (pt t)).1) (blk_col (ix10 (pt t)).2.1)).symm
    (e.trans ?_)
  rw [← rowC, ← rowP V c t]
  exact (congrFun ((after1_10 V c (pt t)).trans (left10 V c (pt t))) _).trans (vM_apply _ _ i d)
/-- The hidden units' cotangents. -/
theorem arr11 (t : Fin 8) (i : Fin 256) (f : Fin 4096) :
    ((dat1 V c).arrAt 11 cfg1.N : FVec Ideal S2048x4096 .bf16) (ix2 (Mlp.rof t i) f)
      = Mlp.bi (Mlp.row (aP V c)) (Mlp.wo (aO V c) 0) (Mlp.row (aC V c) (Mlp.rof t i)) (Mlp.row (aR V c) (Mlp.rof t i)) f := by
  have e := arr_at (dat1 V c) 11 rfl (fun t => (ix11 t).2.2)
    (row_inj ix11) (pt t) (ix2 i f : S256x4096.Idx)
  refine Eq.trans (at2 ((dat1 V c).arrAt 11 cfg1.N : FVec Ideal S2048x4096 .bf16) _ _ _ (blk_row (ix11 (pt t)).1) (blk_col (ix11 (pt t)).2.1)).symm
    (e.trans ?_)
  rw [← rowC, ← rowR, ← rowP V c t, ← woO V c t]
  exact (congrFun ((after1_11 V c (pt t)).trans (left11 V c (pt t))) _).trans (vDs_apply _ _ _ _ i f)

/-! The sums over all rows. -/

/-- What the body leaves in the block of sums at the last point: the sum over the points. -/
theorem left12_last (y : S8x1024.Idx) : (outsAt1 V c (pt 7).val (pt 7).isLt).2.2.2.2 y = ∑ t : Fin 8, sums V c (pt t) y := by
  have e := Pipeline.eq_sum_of_reset_step_apply_single_of_mod (N := cfg1.N) (M := EReal) (ι := S8x1024.Idx)
    (fun n h => (outsAt1 V c n h).2.2.2.2) 8 (fun _ => 0) (fun n y => if h : n < cfg1.N then sums V c ⟨n, h⟩ y else 0)
    (fun t h y => by rw [left12_first V c t h y, dif_pos t.isLt]) (fun t h y => by rw [left12_next V c t h y, dif_pos t.isLt])
    (by rw [N1]) (pt 7) (r := 7) rfl y
  refine e.trans ?_
  rw [zero_add, Finset.sum_range]
  exact Finset.sum_congr rfl fun t _ => dif_pos (pt t).isLt

theorem whole12 : (cfg1.win 12).WholeAt (pt 7) := by decide +kernel

theorem arr12 (y : S8x1024.Idx) : ((dat1 V c).arrAt 12 cfg1.N : FVec Ideal S8x1024 .f32) y = ∑ t : Fin 8, sums V c (pt t) y := by
  refine Eq.trans ((dat1 V c).arrAt_emb_eq_after_last 12 (pt 7) whole12 y) ?_
  exact (congrFun (after1_12 V c (pt 7)) y).trans (left12_last V c y)

end Cert.MlpBwd
-- ==== Proof.MlpDw.lean ====
/- The two weight gradients of the MLP sub-layer, of the arrays their kernels find. -/
module

public import proofs.«01_k».proof.Proof.MlpBwdArr
public import proofs.«01_k».proof.Proof.Gen.Kernel3Ideal.Frame.Region2
public import proofs.«01_k».proof.Proof.Gen.Kernel3Ideal.Frame.Region3
public import Idealize.ShloMosaic.Lib.Pipeline.ValueKit.Partial

@[expose] public section

set_option maxRecDepth 16384

noncomputable section

namespace Cert.MlpDw

open Cert.Kernel3Ideal Cert.Kernel3Ideal.Gen Idealize.ShloMosaic Idealize.ShloMosaic.TcCoe
open Idealize.ShloMosaic.Pipeline (Dat)
open Cert.MlpFwd (at2 at4 blk_col)
open Cert.MlpBwd (whole_z)

theorem whole_z4 : (![0, 0, 0, 0] : Fin 4 → ℕ) = fun _ => 0 := by funext a; fin_cases a <;> rfl

/-! The payloads: a product of the transpose of one array with another. -/

theorem in_apply (v : Vec Ideal S2048x1024 .bf16) (w : Vec Ideal S2048x512 .bf16) (d : Fin 1024) (k : Fin 512) :
    k2_pay1 v w (ix4 (0 : Fin 1) (0 : Fin 1) d k) = ∑ i : Fin 2048, v (ix2 i d) * w (ix2 i k) := by
  pointwise [k2_pay1]

theorem out_apply (v : Vec Ideal S2048x512 .bf16) (w : Vec Ideal S2048x1024 .bf16) (k : Fin 512) (d : Fin 1024) :
    k3_pay1 v w (ix4 (0 : Fin 1) (0 : Fin 1) k d) = ∑ i : Fin 2048, v (ix2 i k) * v (ix2 i k) * w (ix2 i d) := by
  pointwise [k3_pay1]

variable (V : (c : Dev nD) → (b : Ref sig .tc) → Buf (Elt Ideal) ((c : Thread nD τ).loc b)) (c : Dev nD)

theorem left2 (t : Fin cfg2.N) : outsAt2 V c t = k2_pay1 (iblk2 V c 0 t) (iblk2 V c 1 t) := by
  unfold outsAt2 out2_A_2
  rw [View.read_writes_eq_canon _ _ _ (cover2_A_2 c (grid2.coords t) (ms2_0 t) (hs2_0 t) (ms2_1 t) (hs2_1 t) (ms2_2 t) (hs2_2 t) (iblk2 V c 0 t) (iblk2 V c 1 t))]
  refine (View.canon_unit_zero whole_z4 _ _).trans ?_
  refine Eq.trans (b := k2_pay1
    (View.ld ((ms2_0 t).view.read (Elt Ideal) ((hs2_0 t).unread (iblk2 V c 0 t))) (Rect.unit (s := S2048x1024) ![0, 0] S2048x1024.size inb_S2048x1024_S2048x1024_0_0))
    (View.ld ((ms2_1 t).view.read (Elt Ideal) ((hs2_1 t).unread (iblk2 V c 1 t))) (Rect.unit (s := S2048x512) ![0, 0] S2048x512.size inb_S2048x512_S2048x512_0_0)))
    rfl ?_
  rw [Memref.IsWhole.read_unread, Memref.IsWhole.read_unread, View.ld_unit_zero whole_z, View.ld_unit_zero whole_z]

theorem left3 (t : Fin cfg3.N) : outsAt3 V c t = k3_pay1 (iblk3 V c 0 t) (iblk3 V c 1 t) := by
  unfold outsAt3 out3_A_2
  rw [View.read_writes_eq_canon _ _ _ (cover3_A_2 c (grid3.coords t) (ms3_0 t) (hs3_0 t) (ms3_1 t) (hs3_1 t) (ms3_2 t) (hs3_2 t) (iblk3 V c 0 t) (iblk3 V c 1 t))]
  refine (View.canon_unit_zero whole_z4 _ _).trans ?_
  refine Eq.trans (b := k3_pay1
    (View.ld ((ms3_0 t).view.read (Elt Ideal) ((hs3_0 t).unread (iblk3 V c 0 t))) (Rect.unit (s := S2048x512) ![0, 0] S2048x512.size inb_S2048x512_S2048x512_0_0))
    (View.ld ((ms3_1 t).view.read (Elt Ideal) ((hs3_1 t).unread (iblk3 V c 1 t))) (Rect.unit (s := S2048x1024) ![0, 0] S2048x1024.size inb_S2048x1024_S2048x1024_0_0)))
    rfl ?_
  rw [Memref.IsWhole.read_unread, Memref.IsWhole.read_unread, View.ld_unit_zero whole_z, View.ld_unit_zero whole_z]

/-! Where the blocks lie. -/

theorem N2 : cfg2.N = 8 := by decide
theorem N3 : cfg3.N = 8 := by decide
def pt2 (j : Fin 8) : Fin cfg2.N := ⟨j.val, by rw [N2]; exact j.isLt⟩
def pt3 (j : Fin 8) : Fin cfg3.N := ⟨j.val, by rw [N3]; exact j.isLt⟩

theorem ix2_0 : ∀ t : Fin grid2.N, ∀ a : Fin 2, win2_0.index t a = 0 := by decide +kernel
theorem ix2_1 : ∀ t : Fin grid2.N, win2_1.index t (0 : Fin 2) = 0 ∧ win2_1.index t (1 : Fin 2) = t.val := by decide +kernel
theorem ix2_2 : ∀ t : Fin grid2.N, win2_2.index t (0 : Fin 4) = t.val ∧ win2_2.index t (1 : Fin 4) = 0 ∧ win2_2.index t (2 : Fin 4) = 0
    ∧ win2_2.index t (3 : Fin 4) = 0 ∧ win2_2.flush t = true := by decide +kernel
theorem ix3_0 : ∀ t : Fin grid3.N, win3_0.index t (0 : Fin 2) = 0 ∧ win3_0.index t (1 : Fin 2) = t.val := by decide +kernel
theorem ix3_1 : ∀ t : Fin grid3.N, ∀ a : Fin 2, win3_1.index t a = 0 := by decide +kernel
theorem ix3_2 : ∀ t : Fin grid3.N, win3_2.index t (0 : Fin 4) = t.val ∧ win3_2.index t (1 : Fin 4) = 0 ∧ win3_2.index t (2 : Fin 4) = 0
    ∧ win3_2.index t (3 : Fin 4) = 0 ∧ win3_2.flush t = true := by decide +kernel

theorem blk_hid {n j k : ℕ} (h : n = j) : n * 512 + 1 * k = 512 * j + k := by omega
theorem blk_one {n j : ℕ} (h : n = j) : n * 1 + 1 * 0 = j := by omega

/-- The arrays the regions find. -/
abbrev aH : FVec Ideal S2048x1024 .bf16 := V c main_v12_1
abbrev aD : FVec Ideal S2048x4096 .bf16 := V c main_v13_3
abbrev aR : FVec Ideal S2048x4096 .bf16 := V c main_v12_2
abbrev aM : FVec Ideal S2048x1024 .bf16 := V c main_v13_2

theorem rowH (t : Fin cfg2.N) (i : Fin 2048) (d : Fin 1024) : (iblk2 V c 0 t : Vec Ideal S2048x1024 .bf16) (ix2 i d) = aH V c (ix2 i d) :=
  at2 (aH V c) _ _ _ (blk_col (ix2_0 t 0)) (blk_col (ix2_0 t 1))
theorem rowD (j : Fin 8) (i : Fin 2048) (k : Fin 512) :
    (iblk2 V c 1 (pt2 j) : Vec Ideal S2048x512 .bf16) (ix2 i k) = aD V c (ix2 i (Mlp.fof j k)) :=
  at2 (aD V c) _ _ _ (blk_col (ix2_1 (pt2 j)).1) (blk_hid (ix2_1 (pt2 j)).2)
theorem rowR (j : Fin 8) (i : Fin 2048) (k : Fin 512) :
    (iblk3 V c 0 (pt3 j) : Vec Ideal S2048x512 .bf16) (ix2 i k) = aR V c (ix2 i (Mlp.fof j k)) :=
  at2 (aR V c) _ _ _ (blk_col (ix3_0 (pt3 j)).1) (blk_hid (ix3_0 (pt3 j)).2)
theorem rowM (t : Fin cfg3.N) (i : Fin 2048) (d : Fin 1024) : (iblk3 V c 1 t : Vec Ideal S2048x1024 .bf16) (ix2 i d) = aM V c (ix2 i d) :=
  at2 (aM V c) _ _ _ (blk_col (ix3_1 t 0)) (blk_col (ix3_1 t 1))

/-- The first weights' gradient, in the half the layer writes. -/
theorem arr2 (j : Fin 8) (d : Fin 1024) (k : Fin 512) :
    ((dat2 V c).arrAt 2 cfg2.N : FVec Ideal S8x2x1024x512 .bf16) (ix4 j (0 : Fin 2) d k)
      = ∑ i : Fin 2048, aH V c (ix2 i d) * aD V c (ix2 i (Mlp.fof j k)) := by
  have e := congrFun ((dat2 V c).read_blk_arrAt_eq_flushed 2
    (fun t t' _ _ hne => (cfg2.win 2).disjoint_blk (hk := rfl) fun h => hne
      (Fin.ext ((ix2_2 t).1.symm.trans ((congrFun h (0 : Fin 4)).trans (ix2_2 t').1)))) cfg2.N (pt2 j) (pt2 j).isLt (ix2_2 (pt2 j)).2.2.2.2)
    (ix4 (0 : Fin 1) (0 : Fin 1) d k : S1x1x1024x512.Idx)
  obtain ⟨h0, h1, h2, h3, -⟩ := ix2_2 (pt2 j)
  refine Eq.trans (at4 ((dat2 V c).arrAt 2 cfg2.N : FVec Ideal S8x2x1024x512 .bf16) _ _ _ _ _ (blk_one h0) (blk_one h1) (blk_col h2)
    (blk_col h3)).symm (e.trans ?_)
  refine (congrFun ((after2_2 V c (pt2 j)).trans (left2 V c (pt2 j))) _).trans ((in_apply _ _ d k).trans ?_)
  exact Finset.sum_congr rfl fun i _ => congrArg₂ (· * ·) (rowH V c (pt2 j) i d) (rowD V c j i k)

/-- The other half keeps what the region finds. -/
theorem arr2_other (j : Fin 8) (d : Fin 1024) (k : Fin 512) :
    ((dat2 V c).arrAt 2 cfg2.N : FVec Ideal S8x2x1024x512 .bf16) (ix4 j (1 : Fin 2) d k)
      = (V c main_v14 : FVec Ideal S8x2x1024x512 .bf16) (ix4 j (1 : Fin 2) d k) := by
  have hW : (cfg2.win 2).CoversWhere (fun β => β (1 : Fin 4) = 0) := by decide +kernel
  exact (dat2 V c).arrAt_emb_eq_entry 2 (fun β => β (1 : Fin 4) = 0) hW (ix4 j (1 : Fin 2) d k) (by show ¬ (1 / 1 : ℕ) = 0; decide)

/-- The second weights' gradient, in the half the layer writes. -/
theorem arr3 (j : Fin 8) (k : Fin 512) (d : Fin 1024) :
    ((dat3 V c).arrAt 2 cfg3.N : FVec Ideal S8x2x512x1024 .bf16) (ix4 j (0 : Fin 2) k d)
      = ∑ i : Fin 2048, aR V c (ix2 i (Mlp.fof j k)) * aR V c (ix2 i (Mlp.fof j k)) * aM V c (ix2 i d) := by
  have e := congrFun ((dat3 V c).read_blk_arrAt_eq_flushed 2
    (fun t t' _ _ hne => (cfg3.win 2).disjoint_blk (hk := rfl) fun h => hne
      (Fin.ext ((ix3_2 t).1.symm.trans ((congrFun h (0 : Fin 4)).trans (ix3_2 t').1)))) cfg3.N (pt3 j) (pt3 j).isLt (ix3_2 (pt3 j)).2.2.2.2)
    (ix4 (0 : Fin 1) (0 : Fin 1) k d : S1x1x512x1024.Idx)
  obtain ⟨h0, h1, h2, h3, -⟩ := ix3_2 (pt3 j)
  refine Eq.trans (at4 ((dat3 V c).arrAt 2 cfg3.N : FVec Ideal S8x2x512x1024 .bf16) _ _ _ _ _ (blk_one h0) (blk_one h1) (blk_col h2)
    (blk_col h3)).symm (e.trans ?_)
  refine (congrFun ((after3_2 V c (pt3 j)).trans (left3 V c (pt3 j))) _).trans ((out_apply _ _ k d).trans ?_)
  refine Finset.sum_congr rfl fun i _ => ?_
  rw [rowM V c (pt3 j) i d]
  exact congrArg₂ (fun a b => a * b * aM V c (ix2 i d)) (rowR V c j i k) (rowR V c j i k)

/-- The other half keeps what the region finds. -/
theorem arr3_other (j : Fin 8) (k : Fin 512) (d : Fin 1024) :
    ((dat3 V c).arrAt 2 cfg3.N : FVec Ideal S8x2x512x1024 .bf16) (ix4 j (1 : Fin 2) k d)
      = (V c main_v15 : FVec Ideal S8x2x512x1024 .bf16) (ix4 j (1 : Fin 2) k d) := by
  have hW : (cfg3.win 2).CoversWhere (fun β => β (1 : Fin 4) = 0) := by decide +kernel
  exact (dat3 V c).arrAt_emb_eq_entry 2 (fun β => β (1 : Fin 4) = 0) hW (ix4 j (1 : Fin 2) k d) (by show ¬ (1 / 1 : ℕ) = 0; decide)

end Cert.MlpDw
-- ==== Proof.MlpFold.lean ====
/- What each result of the MLP sub-layer's program holds after its run, row by row, of the arrays as launched. -/
module

public import proofs.«01_k».proof.Proof.MlpRun
public import proofs.«01_k».proof.Proof.MlpDw

@[expose] public section

set_option maxRecDepth 16384

noncomputable section

namespace Cert.MlpFold

open Cert.Kernel3Ideal Cert.Kernel3Ideal.Gen Idealize.ShloMosaic Idealize.ShloMosaic.TcCoe Idealize.ShloMosaic.Tactic
open Cert.MlpFwd (past)

variable (m : (ℓ : Loc nD τ sig) → Buf (Elt Ideal) ℓ) (ρ : Dev nD → PrngReg) (c : Dev nD)

/-- The arrays as launched. -/
abbrev gX : FVec Ideal S2304x1024 .f32 := m ((c : Thread nD τ).loc main_arg0)
abbrev gY : FVec Ideal S2048x1024 .f32 := m ((c : Thread nD τ).loc main_arg1)
abbrev gG1 : FVec Ideal S1x1024 .f32 := m ((c : Thread nD τ).loc main_arg2)
abbrev gN : FVec Ideal S1x1024 .f32 := m ((c : Thread nD τ).loc main_arg3)
abbrev gSc : FVec Ideal S1x1024 .f32 := m ((c : Thread nD τ).loc main_arg4)
abbrev gSh : FVec Ideal S1x1024 .f32 := m ((c : Thread nD τ).loc main_arg5)
abbrev gG2 : FVec Ideal S1x1024 .f32 := m ((c : Thread nD τ).loc main_arg6)
abbrev gI : FVec Ideal S8x2x1024x512 .bf16 := m ((c : Thread nD τ).loc main_arg7)
abbrev gO : FVec Ideal S8x2x512x1024 .bf16 := m ((c : Thread nD τ).loc main_arg8)
abbrev gC : FVec Ideal S2048x1024 .f32 := m ((c : Thread nD τ).loc main_arg9)
abbrev gOI : FVec Ideal S8x2x1024x512 .bf16 := m ((c : Thread nD τ).loc main_arg10)
abbrev gOO : FVec Ideal S8x2x512x1024 .bf16 := m ((c : Thread nD τ).loc main_arg11)

/-- The rows of the parameter block the host lines build. -/
abbrev Pr : Fin 72 → Mlp.Row := Mlp.row (MlpFwd.aP (V1 m ρ) c)

theorem pars (d : Fin 1024) :
    Pr m ρ c 0 d = Mlp.row (gG1 m c) 0 d ∧
    Pr m ρ c 8 d = 0 ∧
    Pr m ρ c 16 d = Mlp.row (gN m c) 0 d ∧
    Pr m ρ c 24 d = Mlp.row (gSc m c) 0 d ∧
    Pr m ρ c 32 d = Mlp.row (gSh m c) 0 d ∧
    Pr m ρ c 40 d = Mlp.row (gG2 m c) 0 d := by
  refine ⟨?_, ?_, ?_, ?_, ?_, ?_⟩ <;>
  · show (V1 m ρ c main_v11 : FVec Ideal S72x1024 .f32) (ix2 _ d) = _
    unfold V1 W1
    after_results
    pointwise
    after_results_simp
    pointwise <;> rfl
theorem par_0 : Pr m ρ c 0 = Mlp.row (gG1 m c) 0 := funext fun d => (pars m ρ c d).1
theorem par_8 : Pr m ρ c 8 = fun _ => 0 := funext fun d => (pars m ρ c d).2.1
theorem par_16 : Pr m ρ c 16 = Mlp.row (gN m c) 0 := funext fun d => (pars m ρ c d).2.2.1
theorem par_24 : Pr m ρ c 24 = Mlp.row (gSc m c) 0 := funext fun d => (pars m ρ c d).2.2.2.1
theorem par_32 : Pr m ρ c 32 = Mlp.row (gSh m c) 0 := funext fun d => (pars m ρ c d).2.2.2.2.1
theorem par_40 : Pr m ρ c 40 = Mlp.row (gG2 m c) 0 := funext fun d => (pars m ρ c d).2.2.2.2.2

/-! The layer's rows and their cotangents. -/

abbrev Wi : Fin 1024 → Fin 4096 → EReal := Mlp.wi (gI m c) 0
abbrev Wo : Fin 4096 → Fin 1024 → EReal := Mlp.wo (gO m c) 0
def rX (i : Fin 2048) : Mlp.Row := Mlp.fx (Pr m ρ c) (Mlp.row (gX m c) (past i)) (Mlp.row (gY m c) i)
def rH (i : Fin 2048) : Mlp.Row := Mlp.fh (Pr m ρ c) (Mlp.row (gX m c) (past i)) (Mlp.row (gY m c) i)
def rR (i : Fin 2048) : Mlp.Hid := Mlp.fr (Pr m ρ c) (Wi m c) (Mlp.row (gX m c) (past i)) (Mlp.row (gY m c) i)
def rM (i : Fin 2048) : Mlp.Row := Mlp.fm (Pr m ρ c) (Wi m c) (Wo m c) (Mlp.row (gX m c) (past i)) (Mlp.row (gY m c) i)
def rO (i : Fin 2048) : Mlp.Row := Mlp.fo (Pr m ρ c) (Wi m c) (Wo m c) (Mlp.row (gX m c) (past i)) (Mlp.row (gY m c) i)
def cM (i : Fin 2048) : Mlp.Row := Mlp.bm (Pr m ρ c) (Mlp.row (gC m c) i)
def cI (i : Fin 2048) : Mlp.Hid := Mlp.bi (Pr m ρ c) (Wo m c) (Mlp.row (gC m c) i) (rR m ρ c i)
def cH (i : Fin 2048) : Mlp.Row := Mlp.bh (Pr m ρ c) (Wi m c) (Wo m c) (Mlp.row (gC m c) i) (rR m ρ c i)
def cX (i : Fin 2048) : Mlp.Row := Mlp.bx (Pr m ρ c) (Wi m c) (Wo m c) (Mlp.row (gC m c) i) (rX m ρ c i) (rR m ρ c i)

/-! What the forward region leaves. -/

theorem fX : MlpFwd.aX (V1 m ρ) c = gX m c := W1_args m ρ c main_arg0 (by decide)
theorem fY : MlpFwd.aY (V1 m ρ) c = gY m c := W1_args m ρ c main_arg1 (by decide)
theorem fI : MlpFwd.aI (V1 m ρ) c = gI m c := W1_args m ρ c main_arg7 (by decide)
theorem fO : MlpFwd.aO (V1 m ρ) c = gO m c := W1_args m ρ c main_arg8 (by decide)

theorem two_x (i : Fin 2048) (d : Fin 1024) : (W2 m ρ c (Proc.devRef .tc main_v12_0) : FVec Ideal S2048x1024 .f32) (ix2 i d) = rX m ρ c i d := by
  refine (congrFun (W2_arr m ρ c 5) _).trans ((MlpFwd.arr5 (V1 m ρ) c i d).trans ?_)
  rw [fX, fY]; rfl
theorem two_h (i : Fin 2048) (d : Fin 1024) : (W2 m ρ c (Proc.devRef .tc main_v12_1) : FVec Ideal S2048x1024 .bf16) (ix2 i d) = rH m ρ c i d := by
  refine (congrFun (W2_arr m ρ c 6) _).trans ((MlpFwd.arr6 (V1 m ρ) c i d).trans ?_)
  rw [fX, fY]; rfl
theorem two_r (i : Fin 2048) (d : Fin 4096) : (W2 m ρ c (Proc.devRef .tc main_v12_2) : FVec Ideal S2048x4096 .bf16) (ix2 i d) = rR m ρ c i d := by
  refine (congrFun (W2_arr m ρ c 7) _).trans ((MlpFwd.arr7 (V1 m ρ) c i d).trans ?_)
  rw [fX, fY, fI]; rfl
theorem two_m (i : Fin 2048) (d : Fin 1024) : (W2 m ρ c (Proc.devRef .tc main_v12_3) : FVec Ideal S2048x1024 .bf16) (ix2 i d) = rM m ρ c i d := by
  refine (congrFun (W2_arr m ρ c 8) _).trans ((MlpFwd.arr8 (V1 m ρ) c i d).trans ?_)
  rw [fX, fY, fI, fO]; rfl
theorem two_o (i : Fin 2048) (d : Fin 1024) : (W2 m ρ c (Proc.devRef .tc main_v12_4) : FVec Ideal S2048x1024 .f32) (ix2 i d) = rO m ρ c i d := by
  refine (congrFun (W2_arr m ρ c 9) _).trans ((MlpFwd.arr9 (V1 m ρ) c i d).trans ?_)
  rw [fX, fY, fI, fO]; rfl

/-! What the backward region finds and leaves. -/

theorem bC : MlpBwd.aC (V2 m ρ) c = gC m c := W2_args m ρ c main_arg9 (by decide)
theorem bY : MlpBwd.aY (V2 m ρ) c = gY m c := W2_args m ρ c main_arg1 (by decide)
theorem bI : MlpBwd.aI (V2 m ρ) c = gI m c := W2_args m ρ c main_arg7 (by decide)
theorem bO : MlpBwd.aO (V2 m ρ) c = gO m c := W2_args m ρ c main_arg8 (by decide)
theorem bP : MlpBwd.aP (V2 m ρ) c = MlpFwd.aP (V1 m ρ) c := W2_of m ρ c main_v11 (by decide +kernel)
theorem bX (i : Fin 2048) : Mlp.row (MlpBwd.aX (V2 m ρ) c) i = rX m ρ c i := funext fun d => two_x m ρ c i d
theorem bR (i : Fin 2048) : Mlp.row (MlpBwd.aR (V2 m ρ) c) i = rR m ρ c i := funext fun d => two_r m ρ c i d
theorem bM (i : Fin 2048) : Mlp.row (MlpBwd.aM (V2 m ρ) c) i = rM m ρ c i := funext fun d => two_m m ρ c i d

theorem three_x (i : Fin 2048) (d : Fin 1024) : (W3 m ρ c (Proc.devRef .tc main_v13_0) : FVec Ideal S2048x1024 .f32) (ix2 i d) = cX m ρ c i d := by
  obtain ⟨t, k, rfl⟩ : ∃ t k, i = Mlp.rof t k := ⟨_, _, (Mlp.rof_rt_ri i).symm⟩
  refine (congrFun (W3_arr m ρ c 8) _).trans ((MlpBwd.arr8 (V2 m ρ) c t k d).trans ?_)
  rw [bC, bX, bR, bI, bO, bP]; rfl
theorem three_o (i : Fin 2048) (d : Fin 1024) : (W3 m ρ c (Proc.devRef .tc main_v13_1) : FVec Ideal S2048x1024 .bf16) (ix2 i d)
    = Pr m ρ c 0 d * cX m ρ c i d := by
  obtain ⟨t, k, rfl⟩ : ∃ t k, i = Mlp.rof t k := ⟨_, _, (Mlp.rof_rt_ri i).symm⟩
  refine (congrFun (W3_arr m ρ c 9) _).trans ((MlpBwd.arr9 (V2 m ρ) c t k d).trans ?_)
  rw [bC, bX, bR, bI, bO, bP]; rfl
theorem three_m (i : Fin 2048) (d : Fin 1024) : (W3 m ρ c (Proc.devRef .tc main_v13_2) : FVec Ideal S2048x1024 .bf16) (ix2 i d) = cM m ρ c i d := by
  obtain ⟨t, k, rfl⟩ : ∃ t k, i = Mlp.rof t k := ⟨_, _, (Mlp.rof_rt_ri i).symm⟩
  refine (congrFun (W3_arr m ρ c 10) _).trans ((MlpBwd.arr10 (V2 m ρ) c t k d).trans ?_)
  rw [bC, bP]; rfl
theorem three_i (i : Fin 2048) (f : Fin 4096) : (W3 m ρ c (Proc.devRef .tc main_v13_3) : FVec Ideal S2048x4096 .bf16) (ix2 i f) = cI m ρ c i f := by
  obtain ⟨t, k, rfl⟩ : ∃ t k, i = Mlp.rof t k := ⟨_, _, (Mlp.rof_rt_ri i).symm⟩
  refine (congrFun (W3_arr m ρ c 11) _).trans ((MlpBwd.arr11 (V2 m ρ) c t k f).trans ?_)
  rw [bC, bR, bO, bP]; rfl

/-- A row of the block of sums, as the sum over the points. -/
theorem three_s (a : Fin 8) (d : Fin 1024) : (W3 m ρ c (Proc.devRef .tc main_v13_4) : FVec Ideal S8x1024 .f32) (ix2 a d)
    = ∑ t : Fin 8, MlpBwd.sums (V2 m ρ) c (MlpBwd.pt t) (ix2 a d) :=
  (congrFun (W3_arr m ρ c 12) _).trans (MlpBwd.arr12 (V2 m ρ) c (ix2 a d))

/-- A sum over the points of sums over their rows is one sum over the rows. -/
theorem over_rows {g : Fin 8 → EReal} (f : Fin 2048 → EReal) (h : ∀ t, g t = ∑ i : Fin 256, f (Mlp.rof t i)) : ∑ t, g t = ∑ i, f i := by
  rw [Mlp.sum_rof]; exact Finset.sum_congr rfl fun t _ => h t

theorem sum_0 (d : Fin 1024) : (W3 m ρ c (Proc.devRef .tc main_v13_4) : FVec Ideal S8x1024 .f32) (ix2 (0 : Fin 8) d)
    = ∑ i : Fin 2048, cX m ρ c i d * (Mlp.row (gY m c) i d + Pr m ρ c 8 d) := by
  refine (three_s m ρ c 0 d).trans (over_rows _ fun t => (MlpBwd.vS_0 _ _ _ _ _ _ _ _ d).trans (Finset.sum_congr rfl fun i _ => ?_))
  rw [MlpBwd.rowC, MlpBwd.rowX, MlpBwd.rowR, MlpBwd.rowY, MlpBwd.rowP, MlpBwd.wiI, MlpBwd.woO, bC, bX, bR, bY, bI, bO, bP]; rfl
theorem sum_2 (d : Fin 1024) : (W3 m ρ c (Proc.devRef .tc main_v13_4) : FVec Ideal S8x1024 .f32) (ix2 (2 : Fin 8) d)
    = ∑ i : Fin 2048, Mlp.q (rX m ρ c i) d * Mlp.dn (Pr m ρ c 24) (cH m ρ c i) d := by
  refine (three_s m ρ c 2 d).trans (over_rows _ fun t => (MlpBwd.vS_2 _ _ _ _ _ _ _ _ d).trans (Finset.sum_congr rfl fun i _ => ?_))
  rw [MlpBwd.rowC, MlpBwd.rowX, MlpBwd.rowR, MlpBwd.rowP, MlpBwd.wiI, MlpBwd.woO, bC, bX, bR, bI, bO, bP]; rfl
theorem sum_3 (d : Fin 1024) : (W3 m ρ c (Proc.devRef .tc main_v13_4) : FVec Ideal S8x1024 .f32) (ix2 (3 : Fin 8) d)
    = ∑ i : Fin 2048, Mlp.nr (rX m ρ c i) (Pr m ρ c 16) d * cH m ρ c i d := by
  refine (three_s m ρ c 3 d).trans (over_rows _ fun t => (MlpBwd.vS_3 _ _ _ _ _ _ _ _ d).trans (Finset.sum_congr rfl fun i _ => ?_))
  rw [MlpBwd.rowC, MlpBwd.rowX, MlpBwd.rowR, MlpBwd.rowP, MlpBwd.wiI, MlpBwd.woO, bC, bX, bR, bI, bO, bP]; rfl
theorem sum_4 (d : Fin 1024) : (W3 m ρ c (Proc.devRef .tc main_v13_4) : FVec Ideal S8x1024 .f32) (ix2 (4 : Fin 8) d)
    = ∑ i : Fin 2048, cH m ρ c i d := by
  refine (three_s m ρ c 4 d).trans (over_rows _ fun t => (MlpBwd.vS_4 _ _ _ _ _ _ _ _ d).trans (Finset.sum_congr rfl fun i _ => ?_))
  rw [MlpBwd.rowC, MlpBwd.rowR, MlpBwd.rowP, MlpBwd.wiI, MlpBwd.woO, bC, bR, bI, bO, bP]; rfl
theorem sum_5 (d : Fin 1024) : (W3 m ρ c (Proc.devRef .tc main_v13_4) : FVec Ideal S8x1024 .f32) (ix2 (5 : Fin 8) d)
    = ∑ i : Fin 2048, Mlp.row (gC m c) i d * rM m ρ c i d := by
  refine (three_s m ρ c 5 d).trans (over_rows _ fun t => (MlpBwd.vS_5 _ _ _ _ _ _ _ _ d).trans (Finset.sum_congr rfl fun i _ => ?_))
  rw [MlpBwd.rowC, MlpBwd.rowM, bC, bM]

/-! What the two weight-gradient regions find. -/

theorem dH (i : Fin 2048) (d : Fin 1024) : MlpDw.aH (V4 m ρ) c (ix2 i d) = rH m ρ c i d :=
  (congrFun ((W4_of m ρ c main_v12_1 (by decide)).trans (W3_of m ρ c main_v12_1 (by decide +kernel))) _).trans (two_h m ρ c i d)
theorem dD (i : Fin 2048) (f : Fin 4096) : MlpDw.aD (V4 m ρ) c (ix2 i f) = cI m ρ c i f :=
  (congrFun (W4_of m ρ c main_v13_3 (by decide)) _).trans (three_i m ρ c i f)
theorem dR (i : Fin 2048) (f : Fin 4096) : MlpDw.aR (V6 m ρ) c (ix2 i f) = rR m ρ c i f :=
  (congrFun ((W6_of m ρ c main_v12_2 (by decide)).trans ((W5_of m ρ c main_v12_2 (by decide +kernel)).trans
    ((W4_of m ρ c main_v12_2 (by decide)).trans (W3_of m ρ c main_v12_2 (by decide +kernel))))) _).trans (two_r m ρ c i f)
theorem dM (i : Fin 2048) (d : Fin 1024) : MlpDw.aM (V6 m ρ) c (ix2 i d) = cM m ρ c i d :=
  (congrFun ((W6_of m ρ c main_v13_2 (by decide)).trans ((W5_of m ρ c main_v13_2 (by decide +kernel)).trans
    (W4_of m ρ c main_v13_2 (by decide)))) _).trans (three_m m ρ c i d)
theorem copy_in : W4 m ρ c (Proc.devRef .tc main_v14) = gOI m c := by
  refine Eq.trans ?_ (W3_args m ρ c main_arg10 (by decide))
  unfold W4
  after_results
  rfl
theorem copy_out : W6 m ρ c (Proc.devRef .tc main_v15) = gOO m c := by
  refine Eq.trans ?_ (W5_args m ρ c main_arg11 (by decide))
  unfold W6
  after_results
  rfl

/-! The results. -/

/-- A buffer no later item writes holds at the end what the backward region's exit holds. -/
theorem last_of (r : Ref sig .tc) (h8 : r ∉ hostOps4_W) (h7 : ∀ w : Fin cfg3.W, Pipeline.arrRef spec3 w = r → (cfg3.win w).isOut = false)
    (h6 : r ∉ hostOps3_W) (h5 : ∀ w : Fin cfg2.W, Pipeline.arrRef spec2 w = r → (cfg2.win w).isOut = false) (h4 : r ∉ hostOps2_W) :
    W8 m ρ c (Proc.devRef .tc r) = W3 m ρ c (Proc.devRef .tc r) :=
  (W8_of m ρ c r h8).trans ((W7_of m ρ c r h7).trans ((W6_of m ρ c r h6).trans ((W5_of m ρ c r h5).trans (W4_of m ρ c r h4))))
theorem sums_of : W7 m ρ c (Proc.devRef .tc main_v13_4) = W3 m ρ c (Proc.devRef .tc main_v13_4) :=
  (W7_of m ρ c _ (by decide +kernel)).trans ((W6_of m ρ c _ (by decide)).trans ((W5_of m ρ c _ (by decide +kernel)).trans (W4_of m ρ c _ (by decide))))

theorem out_x2 (i : Fin 2048) (d : Fin 1024) : (W8 m ρ c (Proc.devRef .tc main_v12_4) : FVec Ideal S2048x1024 .f32) (ix2 i d) = rO m ρ c i d :=
  (congrFun ((last_of m ρ c main_v12_4 (by decide) (by decide +kernel) (by decide) (by decide +kernel) (by decide)).trans
    (W3_of m ρ c main_v12_4 (by decide +kernel))) _).trans (two_o m ρ c i d)
theorem out_dx (i : Fin 2048) (d : Fin 1024) : (W8 m ρ c (Proc.devRef .tc main_v13_0) : FVec Ideal S2048x1024 .f32) (ix2 i d) = cX m ρ c i d :=
  (congrFun (last_of m ρ c main_v13_0 (by decide) (by decide +kernel) (by decide) (by decide +kernel) (by decide)) _).trans (three_x m ρ c i d)
theorem out_do (i : Fin 2048) (d : Fin 1024) : (W8 m ρ c (Proc.devRef .tc main_v13_1) : FVec Ideal S2048x1024 .bf16) (ix2 i d)
    = Pr m ρ c 0 d * cX m ρ c i d :=
  (congrFun (last_of m ρ c main_v13_1 (by decide) (by decide +kernel) (by decide) (by decide +kernel) (by decide)) _).trans (three_o m ρ c i d)
theorem out_dg1 (d : Fin 1024) : (W8 m ρ c (Proc.devRef .tc main_v16) : FVec Ideal S1x1024 .f32) (ix2 0 d)
    = ∑ i : Fin 2048, cX m ρ c i d * (Mlp.row (gY m c) i d + Pr m ρ c 8 d) := by
  refine Eq.trans ?_ ((congrFun (sums_of m ρ c) _).trans (sum_0 m ρ c d))
  unfold W8
  after_results
  pointwise
theorem out_dng (d : Fin 1024) : (W8 m ρ c (Proc.devRef .tc main_v18) : FVec Ideal S1x1024 .f32) (ix2 0 d)
    = ∑ i : Fin 2048, Mlp.q (rX m ρ c i) d * Mlp.dn (Pr m ρ c 24) (cH m ρ c i) d := by
  refine Eq.trans ?_ ((congrFun (sums_of m ρ c) _).trans (sum_2 m ρ c d))
  unfold W8
  after_results
  pointwise
theorem out_dsc (d : Fin 1024) : (W8 m ρ c (Proc.devRef .tc main_v19) : FVec Ideal S1x1024 .f32) (ix2 0 d)
    = ∑ i : Fin 2048, Mlp.nr (rX m ρ c i) (Pr m ρ c 16) d * cH m ρ c i d := by
  refine Eq.trans ?_ ((congrFun (sums_of m ρ c) _).trans (sum_3 m ρ c d))
  unfold W8
  after_results
  pointwise
theorem out_dsh (d : Fin 1024) : (W8 m ρ c (Proc.devRef .tc main_v20) : FVec Ideal S1x1024 .f32) (ix2 0 d)
    = ∑ i : Fin 2048, cH m ρ c i d := by
  refine Eq.trans ?_ ((congrFun (sums_of m ρ c) _).trans (sum_4 m ρ c d))
  unfold W8
  after_results
  pointwise
theorem out_dg2 (d : Fin 1024) : (W8 m ρ c (Proc.devRef .tc main_v21) : FVec Ideal S1x1024 .f32) (ix2 0 d)
    = ∑ i : Fin 2048, Mlp.row (gC m c) i d * rM m ρ c i d := by
  refine Eq.trans ?_ ((congrFun (sums_of m ρ c) _).trans (sum_5 m ρ c d))
  unfold W8
  after_results
  pointwise
theorem out_dwi (j : Fin 8) (d : Fin 1024) (k : Fin 512) :
    (W8 m ρ c (Proc.devRef .tc main_v14) : FVec Ideal S8x2x1024x512 .bf16) (ix4 j (0 : Fin 2) d k)
      = ∑ i : Fin 2048, rH m ρ c i d * cI m ρ c i (Mlp.fof j k) := by
  have e : (∑ i : Fin 2048, (MlpDw.aH (V4 m ρ) c (ix2 i d) : EReal) * MlpDw.aD (V4 m ρ) c (ix2 i (Mlp.fof j k)))
      = ∑ i : Fin 2048, rH m ρ c i d * cI m ρ c i (Mlp.fof j k) :=
    Finset.sum_congr rfl fun i _ => congrArg₂ (· * ·) (dH m ρ c i d) (dD m ρ c i _)
  exact (congrFun ((W8_of m ρ c main_v14 (by decide)).trans ((W7_of m ρ c main_v14 (by decide +kernel)).trans
    ((W6_of m ρ c main_v14 (by decide)).trans (W5_arr m ρ c 2)))) _).trans ((MlpDw.arr2 (V4 m ρ) c j d k).trans e)
theorem out_dwi_other (j : Fin 8) (d : Fin 1024) (k : Fin 512) :
    (W8 m ρ c (Proc.devRef .tc main_v14) : FVec Ideal S8x2x1024x512 .bf16) (ix4 j (1 : Fin 2) d k) = gOI m c (ix4 j (1 : Fin 2) d k) :=
  (congrFun ((W8_of m ρ c main_v14 (by decide)).trans ((W7_of m ρ c main_v14 (by decide +kernel)).trans
    ((W6_of m ρ c main_v14 (by decide)).trans (W5_arr m ρ c 2)))) _).trans ((MlpDw.arr2_other (V4 m ρ) c j d k).trans
      (congrFun (copy_in m ρ c) _))
theorem out_dwo (j : Fin 8) (k : Fin 512) (d : Fin 1024) :
    (W8 m ρ c (Proc.devRef .tc main_v15) : FVec Ideal S8x2x512x1024 .bf16) (ix4 j (0 : Fin 2) k d)
      = ∑ i : Fin 2048, rR m ρ c i (Mlp.fof j k) * rR m ρ c i (Mlp.fof j k) * cM m ρ c i d := by
  have e : (∑ i : Fin 2048, (MlpDw.aR (V6 m ρ) c (ix2 i (Mlp.fof j k)) : EReal) * MlpDw.aR (V6 m ρ) c (ix2 i (Mlp.fof j k))
        * MlpDw.aM (V6 m ρ) c (ix2 i d))
      = ∑ i : Fin 2048, rR m ρ c i (Mlp.fof j k) * rR m ρ c i (Mlp.fof j k) * cM m ρ c i d :=
    Finset.sum_congr rfl fun i _ => by rw [dR, dM]
  exact (congrFun ((W8_of m ρ c main_v15 (by decide)).trans (W7_arr m ρ c 2)) _).trans ((MlpDw.arr3 (V6 m ρ) c j k d).trans e)
theorem out_dwo_other (j : Fin 8) (k : Fin 512) (d : Fin 1024) :
    (W8 m ρ c (Proc.devRef .tc main_v15) : FVec Ideal S8x2x512x1024 .bf16) (ix4 j (1 : Fin 2) k d) = gOO m c (ix4 j (1 : Fin 2) k d) :=
  (congrFun ((W8_of m ρ c main_v15 (by decide)).trans (W7_arr m ρ c 2)) _).trans ((MlpDw.arr3_other (V6 m ρ) c j k d).trans
    (congrFun (copy_out m ρ c) _))

end Cert.MlpFold
-- ==== Proof.MlpRef.lean ====
/-
  THE REFERENCE, LINE BY LINE. The reference's lines are named as functions of the arrays they take, each is read at a place as
  the row function of `MlpRow`, and each result is these lines composed.
-/
module

public import proofs.«01_k».proof.Proof.MlpRow
public import proofs.«01_k».proof.Proof.Gen.Reference3Ideal.Run
public import Idealize.ShloMosaic.Lib.IdealHost

@[expose] public section

set_option maxRecDepth 16384

noncomputable section

namespace Cert.MlpRef

open Cert.Reference3Ideal Cert.Reference3Ideal.Gen Cert.Reference3Ideal.Value Idealize.ShloMosaic Idealize.ShloMosaic.TcCoe Idealize.ShloMosaic.Tactic

/-! The arrays' types, by what they hold. -/
abbrev Feat := FVec Ideal S2048x1024 .f32
abbrev Hidd := FVec Ideal S2048x4096 .f32
abbrev Par := FVec Ideal S1x1024 .f32
abbrev WIn := FVec Ideal S1024x4096 .f32
abbrev WOut := FVec Ideal S4096x1024 .f32

/-- A parameter row under every row. -/
def under (p : Par) : Feat := broadcastInDim S2048x1024 ![0, 1] bcast_S1x1024_S2048x1024_0_1 p
/-- One entry per row, across it. -/
def across (p : FVec Ideal S2048x1 .f32) : Feat := broadcastInDim S2048x1024 ![0, 1] bcast_S2048x1_S2048x1024_0_1 p
/-- A number in every row. -/
def col (b : BitVec 32) : FVec Ideal S2048x1 .f32 := broadcastInDim S2048x1 ![] bcast_S_S2048x1 (constant S_ .f32 b)
/-- A number everywhere. -/
def flat (b : BitVec 32) : Hidd := broadcastInDim S2048x4096 ![] bcast_S_S2048x4096 (constant S_ .f32 b)
/-- A sum along each row. -/
def along (z : Feat) : FVec Ideal S2048 .f32 := Host.reduceAdd z (constant S_ .f32 0x00000000#32) reducesTo_S2048x1024_S2048_d1 h_S_
/-- A sum down each column, as a row. -/
def down (z : Feat) : Par :=
  shapeCast _ (Host.reduceAdd z (constant S_ .f32 0x00000000#32) reducesTo_S2048x1024_S1024_d0 h_S_) shapeCasts_S1024_S1x1024

theorem under_at (p : Par) (i : Fin 2048) (d : Fin 1024) : under p (ix2 i d) = Mlp.row p 0 d := by
  pointwise [under]
  rfl
theorem down_at (z : Feat) (d : Fin 1024) : down z (ix2 0 d) = ∑ i : Fin 2048, z (ix2 i d) := by
  pointwise [down]
theorem along_at (z : Feat) (i : Fin 2048) : along z (ix1 i) = ∑ d : Fin 1024, z (ix2 i d) := by
  pointwise [along]

def lX (a0 : FVec Ideal S2304x1024 .f32) (a1 : Feat) (a2 : Par) : Feat :=
  addf (extractStridedSlice S2048x1024 ![256, 0] a0 slices_S2304x1024_S2048x1024_256_0) (mulf (under a2) a1)
def lMs (x : Feat) : FVec Ideal S2048x1 .f32 :=
  addf (Host.divf (broadcastInDim S2048x1 ![0] bcast_S2048_S2048x1_0 (along (mulf x x))) (col 0x44800000#32)) (col 0x358637BD#32)
def lRs (x : Feat) : FVec Ideal S2048x1 .f32 := Host.rsqrt (lMs x)
def lQ (x : Feat) : Feat := mulf x (across (lRs x))
def lN (x : Feat) (a3 : Par) : Feat := mulf (lQ x) (under a3)
def lS (a4 : Par) : Feat := under (addf (broadcastInDim S1x1024 ![] bcast_S_S1x1024 (constant S_ .f32 0x3F800000#32)) a4)
def lH (x : Feat) (a3 a4 a5 : Par) : Feat := addf (mulf (lN x a3) (lS a4)) (under a5)
def lWi (a7 : FVec Ideal S8x2x1024x512 .bf16) : WIn :=
  shapeCast _ (transpose S1024x8x512 [1, 0, 2] (extf .f32 (shapeCast _ (extractStridedSlice S8x1x1024x512 ![0, 0, 0, 0] a7
    slices_S8x2x1024x512_S8x1x1024x512_0_0_0_0) shapeCasts_S8x1x1024x512_S8x1024x512) bitsLt_bf16_f32)
    transposes_S8x1024x512_S1024x8x512_1_0_2) shapeCasts_S1024x8x512_S1024x4096
def lWo (a8 : FVec Ideal S8x2x512x1024 .bf16) : WOut :=
  shapeCast _ (extf .f32 (shapeCast _ (extractStridedSlice S8x1x512x1024 ![0, 0, 0, 0] a8
    slices_S8x2x512x1024_S8x1x512x1024_0_0_0_0) shapeCasts_S8x1x512x1024_S8x512x1024) bitsLt_bf16_f32) shapeCasts_S8x512x1024_S4096x1024
def lHid (h : Feat) (wi : WIn) : Hidd := Host.dotGeneral dot_S2048x1024_S1024x4096_S2048x4096_1_0_0_1_n_n none h wi
def lR (hid : Hidd) : Hidd := maximumf hid (flat 0x00000000#32)
def lMo (r : Hidd) (wo : WOut) : Feat := Host.dotGeneral dot_S2048x4096_S4096x1024_S2048x1024_1_0_0_1_n_n none (mulf r r) wo
def lO (x : Feat) (a6 : Par) (mo : Feat) : Feat := addf x (mulf (under a6) mo)
def lCt (a9 : Feat) : Feat := shapeCast _ a9 shapeCasts_S2048x1024_S2048x1024
def lDm (a6 : Par) (ct : Feat) : Feat := mulf (under a6) ct
def lDi (hid : Hidd) (dm : Feat) (wo : WOut) : Hidd :=
  select (cmpf .ogt hid (flat 0x00000000#32))
    (mulf (Host.dotGeneral dot_S2048x1024_S4096x1024_S2048x4096_1_1_0_0_n_n none dm wo) (mulf (flat 0x40000000#32) (lR hid)))
    (flat 0x00000000#32)
def lDh (di : Hidd) (wi : WIn) : Feat := Host.dotGeneral dot_S2048x4096_S1024x4096_S2048x1024_1_1_0_0_n_n none di wi
def lDn (dh : Feat) (a4 : Par) : Feat := mulf dh (lS a4)
def lDq (dn : Feat) (a3 : Par) : Feat := mulf dn (under a3)
def lK (x dq : Feat) : Feat :=
  broadcastInDim S2048x1024 ![0] bcast_S2048_S2048x1024_0 (Host.reduceAdd (Host.divf (mulf (shapeCast _ (along (mulf x dq)) shapeCasts_S2048_S2048x1)
    (mulf (col 0xBF000000#32) (Host.divf (lRs x) (lMs x)))) (col 0x44800000#32)) (constant S_ .f32 0x00000000#32) reducesTo_S2048x1_S2048_d1 h_S_)
def lDx (ct x dq : Feat) : Feat := addf (addf (addf ct (mulf dq (across (lRs x)))) (mulf x (lK x dq))) (mulf (lK x dq) x)

theorem lX_at (a0 : FVec Ideal S2304x1024 .f32) (a1 : Feat) (a2 : Par) (i : Fin 2048) (d : Fin 1024) :
    lX a0 a1 a2 (ix2 i d) = a0 (ix2 (⟨256 + i.val, by omega⟩ : Fin 2304) d) + Mlp.row a2 0 d * a1 (ix2 i d) := by
  rw [lX]
  pointwise
  rw [under_at]
theorem lMs_at (x : Feat) (i : Fin 2048) : lMs x (ix2 i 0) = Mlp.ms (Mlp.row x i) := by
  rw [lMs]
  pointwise [col, along]
  rfl
theorem lRs_at (x : Feat) (i : Fin 2048) : lRs x (ix2 i 0) = Mlp.rs (Mlp.row x i) := by
  rw [lRs]
  pointwise
  rw [lMs_at]; rfl
theorem across_at (p : FVec Ideal S2048x1 .f32) (i : Fin 2048) (d : Fin 1024) : across p (ix2 i d) = p (ix2 i 0) := by
  pointwise [across]
theorem lQ_at (x : Feat) (i : Fin 2048) (d : Fin 1024) : lQ x (ix2 i d) = Mlp.q (Mlp.row x i) d := by
  rw [lQ]
  pointwise
  rw [across_at, lRs_at]; rfl
theorem lN_at (x : Feat) (a3 : Par) (i : Fin 2048) (d : Fin 1024) : lN x a3 (ix2 i d) = Mlp.nr (Mlp.row x i) (Mlp.row a3 0) d := by
  rw [lN]
  pointwise
  rw [under_at, lQ_at]; rfl
theorem lS_at (a4 : Par) (i : Fin 2048) (d : Fin 1024) : lS a4 (ix2 i d) = 1 + Mlp.row a4 0 d := by
  rw [lS, under_at]
  show addf _ a4 (ix2 0 d) = _
  pointwise
  rfl
theorem lH_at (x : Feat) (a3 a4 a5 : Par) (i : Fin 2048) (d : Fin 1024) :
    lH x a3 a4 a5 (ix2 i d) = Mlp.h (Mlp.row x i) (Mlp.row a3 0) (Mlp.row a4 0) (Mlp.row a5 0) d := by
  rw [lH]
  pointwise
  rw [under_at, lN_at, lS_at]; rfl
theorem lHid_at (h : Feat) (wi : WIn) (i : Fin 2048) (f : Fin 4096) :
    lHid h wi (ix2 i f) = Mlp.hid (Mlp.row h i) (fun d f => wi (ix2 d f)) f := by
  rw [lHid]
  pointwise
  rfl
theorem lR_at (hid : Hidd) (i : Fin 2048) (f : Fin 4096) : lR hid (ix2 i f) = max (hid (ix2 i f)) 0 := by
  rw [lR]
  pointwise [flat]
theorem lMo_at (r : Hidd) (wo : WOut) (i : Fin 2048) (d : Fin 1024) :
    lMo r wo (ix2 i d) = Mlp.mo (Mlp.row r i) (fun f d => wo (ix2 f d)) d := by
  rw [lMo]
  pointwise
  rfl
theorem lO_at (x : Feat) (a6 : Par) (mo : Feat) (i : Fin 2048) (d : Fin 1024) :
    lO x a6 mo (ix2 i d) = Mlp.x2 (Mlp.row x i) (Mlp.row a6 0) (Mlp.row mo i) d := by
  rw [lO]
  pointwise
  rw [under_at]; rfl
theorem lDm_at (a6 : Par) (ct : Feat) (i : Fin 2048) (d : Fin 1024) : lDm a6 ct (ix2 i d) = Mlp.dmo (Mlp.row a6 0) (Mlp.row ct i) d := by
  rw [lDm]
  pointwise
  rw [under_at]; rfl
/-- The mask the reference puts on the activation's derivative is one the factor already bears: where the hidden entry is
    not above zero the rectified entry is zero, and the product with it. -/
theorem masked (z w : EReal) : (if 0 < z then w * (Mlp.c2 * max z 0) else 0) = w * (Mlp.c2 * max z 0) := by
  split
  · rfl
  · next hz => rw [max_eq_right (not_lt.mp hz), mul_zero, mul_zero]
theorem lDi_at (hid : Hidd) (dm : Feat) (wo : WOut) (i : Fin 2048) (f : Fin 4096) :
    lDi hid dm wo (ix2 i f) = Mlp.dhid (Mlp.row dm i) (fun f d => wo (ix2 f d)) (Mlp.row (lR hid) i) f := by
  rw [lDi]
  generalize hr : lR hid = r
  pointwise [flat]
  subst hr
  refine Eq.trans ?_ (show _ * (Mlp.c2 * lR hid (ix2 i f)) = _ from rfl)
  rw [lR_at]
  exact masked _ _
theorem lDh_at (di : Hidd) (wi : WIn) (i : Fin 2048) (d : Fin 1024) :
    lDh di wi (ix2 i d) = Mlp.dh (Mlp.row di i) (fun d f => wi (ix2 d f)) d := by
  rw [lDh]
  pointwise
  rfl
theorem lDn_at (dh : Feat) (a4 : Par) (i : Fin 2048) (d : Fin 1024) : lDn dh a4 (ix2 i d) = Mlp.dn (Mlp.row a4 0) (Mlp.row dh i) d := by
  rw [lDn]
  pointwise
  rw [lS_at]; rfl
theorem lDq_at (dn : Feat) (a3 : Par) (i : Fin 2048) (d : Fin 1024) : lDq dn a3 (ix2 i d) = dn (ix2 i d) * Mlp.row a3 0 d := by
  rw [lDq]
  pointwise
  rw [under_at]
theorem lK_at (x dq : Feat) (i : Fin 2048) (d : Fin 1024) : lK x dq (ix2 i d) = Mlp.kk (Mlp.row x i) (Mlp.row dq i) := by
  rw [lK]
  generalize hr : lRs x = r
  generalize hm : lMs x = m
  pointwise [col, along]
  subst hr hm
  rw [Fin.sum_univ_one, lRs_at, lMs_at]
  rfl
theorem lDx_at (ct x dq : Feat) (i : Fin 2048) (d : Fin 1024) :
    lDx ct x dq (ix2 i d) = Mlp.dx1 (Mlp.row ct i) (Mlp.row x i) (Mlp.row dq i) d := by
  rw [lDx]
  generalize hk : lK x dq = k
  generalize hr : lRs x = r
  pointwise [across]
  subst hk hr
  rw [lK_at, lRs_at, add_assoc, add_assoc, ← add_assoc (_ * _)]
  rfl
theorem lWi_at (a7 : FVec Ideal S8x2x1024x512 .bf16) (d : Fin 1024) (f : Fin 4096) : lWi a7 (ix2 d f) = Mlp.wi a7 0 d f := by
  rw [lWi]
  pointwise
  rfl
theorem lWo_at (a8 : FVec Ideal S8x2x512x1024 .bf16) (f : Fin 4096) (d : Fin 1024) : lWo a8 (ix2 f d) = Mlp.wo a8 0 f d := by
  rw [lWo]
  pointwise
  rfl

/-! The reference's arguments, and its lines on them. -/

variable (m : (ℓ : Loc nD τ sig) → Buf (Elt Ideal) ℓ) (c : Dev nD)

abbrev gX : FVec Ideal S2304x1024 .f32 := m ((c.tc : Thread nD τ).loc main_arg0)
abbrev gY : Feat := m ((c.tc : Thread nD τ).loc main_arg1)
abbrev gG1 : Par := m ((c.tc : Thread nD τ).loc main_arg2)
abbrev gN : Par := m ((c.tc : Thread nD τ).loc main_arg3)
abbrev gSc : Par := m ((c.tc : Thread nD τ).loc main_arg4)
abbrev gSh : Par := m ((c.tc : Thread nD τ).loc main_arg5)
abbrev gG2 : Par := m ((c.tc : Thread nD τ).loc main_arg6)
abbrev gI : FVec Ideal S8x2x1024x512 .bf16 := m ((c.tc : Thread nD τ).loc main_arg7)
abbrev gO : FVec Ideal S8x2x512x1024 .bf16 := m ((c.tc : Thread nD τ).loc main_arg8)
abbrev gC : Feat := m ((c.tc : Thread nD τ).loc main_arg9)
abbrev gOI : FVec Ideal S8x2x1024x512 .bf16 := m ((c.tc : Thread nD τ).loc main_arg10)
abbrev gOO : FVec Ideal S8x2x512x1024 .bf16 := m ((c.tc : Thread nD τ).loc main_arg11)

def aX : Feat := lX (gX m c) (gY m c) (gG1 m c)
def aH : Feat := lH (aX m c) (gN m c) (gSc m c) (gSh m c)
def aHid : Hidd := lHid (aH m c) (lWi (gI m c))
def aM : Feat := lMo (lR (aHid m c)) (lWo (gO m c))
def aDm : Feat := lDm (gG2 m c) (lCt (gC m c))
def aDi : Hidd := lDi (aHid m c) (aDm m c) (lWo (gO m c))
def aDh : Feat := lDh (aDi m c) (lWi (gI m c))
def aDn : Feat := lDn (aDh m c) (gSc m c)
def aDx : Feat := lDx (lCt (gC m c)) (aX m c) (lDq (aDn m c) (gN m c))

theorem res_0 : res_out0 m c = lO (aX m c) (gG2 m c) (aM m c) := rfl
theorem res_1 : res_out1 m c = aDx m c := rfl
theorem res_2 : res_out2 m c = truncf .bf16 (mulf (under (gG1 m c)) (aDx m c)) bitsLt_bf16_f32 := rfl
theorem res_3 : res_out3 m c = down (mulf (aDx m c) (gY m c)) := rfl
theorem res_4 : res_out4 m c = down (mulf (lQ (aX m c)) (aDn m c)) := rfl
theorem res_5 : res_out5 m c = down (mulf (lN (aX m c) (gN m c)) (aDh m c)) := rfl
theorem res_6 : res_out6 m c = down (aDh m c) := rfl
theorem res_7 : res_out7 m c = down (mulf (lCt (gC m c)) (aM m c)) := rfl

/-- The first weights' gradient under the other layer's, as the reference stacks them. -/
def lDwi (di : Hidd) (h : Feat) (o : FVec Ideal S8x2x1024x512 .bf16) : FVec Ideal S8x2x1024x512 .bf16 :=
  concatenate S8x2x1024x512 1 [⟨S8x1x1024x512, (broadcastInDim S8x1x1024x512 ![0, 2, 3] bcast_S8x1024x512_S8x1x1024x512_0_2_3 (truncf .bf16 (transpose S8x1024x512 [1, 0, 2] (shapeCast _ (transpose S1024x4096 [1, 0] (Host.dotGeneral dot_S2048x4096_S2048x1024_S4096x1024_0_0_1_1_n_n none di h) transposes_S4096x1024_S1024x4096_1_0) shapeCasts_S1024x4096_S1024x8x512) transposes_S1024x8x512_S8x1024x512_1_0_2) bitsLt_bf16_f32))⟩, ⟨S8x1x1024x512, (broadcastInDim S8x1x1024x512 ![0, 2, 3] bcast_S8x1024x512_S8x1x1024x512_0_2_3 (shapeCast _ (extractStridedSlice S8x1x1024x512 ![0, 1, 0, 0] o slices_S8x2x1024x512_S8x1x1024x512_0_1_0_0) shapeCasts_S8x1x1024x512_S8x1024x512))⟩] concatenates_S8x1x1024x512_S8x1x1024x512_S8x2x1024x512_d1
/-- The second weights' gradient, likewise. -/
def lDwo (dm : Feat) (act : Hidd) (o : FVec Ideal S8x2x512x1024 .bf16) : FVec Ideal S8x2x512x1024 .bf16 :=
  concatenate S8x2x512x1024 1 [⟨S8x1x512x1024, (broadcastInDim S8x1x512x1024 ![0, 2, 3] bcast_S8x512x1024_S8x1x512x1024_0_2_3 (truncf .bf16 (shapeCast _ (transpose S4096x1024 [1, 0] (Host.dotGeneral dot_S2048x1024_S2048x4096_S1024x4096_0_0_1_1_n_n none dm act) transposes_S1024x4096_S4096x1024_1_0) shapeCasts_S4096x1024_S8x512x1024) bitsLt_bf16_f32))⟩, ⟨S8x1x512x1024, (broadcastInDim S8x1x512x1024 ![0, 2, 3] bcast_S8x512x1024_S8x1x512x1024_0_2_3 (shapeCast _ (extractStridedSlice S8x1x512x1024 ![0, 1, 0, 0] o slices_S8x2x512x1024_S8x1x512x1024_0_1_0_0) shapeCasts_S8x1x512x1024_S8x512x1024))⟩] concatenates_S8x1x512x1024_S8x1x512x1024_S8x2x512x1024_d1

/-- A hidden unit's number, as the reference's reshape spells it. -/
theorem fof_form (j : Fin 8) (k : Fin 512) (h : j.val * 512 + k.val < 4096) : (⟨j.val * 512 + k.val, h⟩ : Fin 4096) = Mlp.fof j k := by
  apply Fin.ext; simp only [Mlp.fof]; omega
theorem lDwi_at (di : Hidd) (h : Feat) (o : FVec Ideal S8x2x1024x512 .bf16) (j : Fin 8) (d : Fin 1024) (k : Fin 512) :
    lDwi di h o (ix4 j (0 : Fin 2) d k) = ∑ i : Fin 2048, di (ix2 i (Mlp.fof j k)) * h (ix2 i d) := by
  rw [lDwi]
  pointwise
  rw [fof_form]
theorem lDwi_other (di : Hidd) (h : Feat) (o : FVec Ideal S8x2x1024x512 .bf16) (j : Fin 8) (d : Fin 1024) (k : Fin 512) :
    lDwi di h o (ix4 j (1 : Fin 2) d k) = o (ix4 j (1 : Fin 2) d k) := by
  rw [lDwi]
  pointwise
theorem lDwo_at (dm : Feat) (act : Hidd) (o : FVec Ideal S8x2x512x1024 .bf16) (j : Fin 8) (k : Fin 512) (d : Fin 1024) :
    lDwo dm act o (ix4 j (0 : Fin 2) k d) = ∑ i : Fin 2048, dm (ix2 i d) * act (ix2 i (Mlp.fof j k)) := by
  rw [lDwo]
  pointwise
  rw [fof_form]
theorem lDwo_other (dm : Feat) (act : Hidd) (o : FVec Ideal S8x2x512x1024 .bf16) (j : Fin 8) (k : Fin 512) (d : Fin 1024) :
    lDwo dm act o (ix4 j (1 : Fin 2) k d) = o (ix4 j (1 : Fin 2) k d) := by
  rw [lDwo]
  pointwise

theorem res_8 : res_out8 m c = lDwi (aDi m c) (aH m c) (gOI m c) := rfl
theorem res_9 : res_out9 m c = lDwo (aDm m c) (mulf (lR (aHid m c)) (lR (aHid m c))) (gOO m c) := rfl

/-! The same lines, row by row. -/

abbrev Wi : Fin 1024 → Fin 4096 → EReal := Mlp.wi (gI m c) 0
abbrev Wo : Fin 4096 → Fin 1024 → EReal := Mlp.wo (gO m c) 0
def rX (i : Fin 2048) : Mlp.Row := fun d => gX m c (ix2 (⟨256 + i.val, by omega⟩ : Fin 2304) d) + Mlp.row (gG1 m c) 0 d * gY m c (ix2 i d)
def rH (i : Fin 2048) : Mlp.Row := Mlp.h (rX m c i) (Mlp.row (gN m c) 0) (Mlp.row (gSc m c) 0) (Mlp.row (gSh m c) 0)
def rR (i : Fin 2048) : Mlp.Hid := Mlp.r (rH m c i) (Wi m c)
def rM (i : Fin 2048) : Mlp.Row := Mlp.mo (rR m c i) (Wo m c)
def cM (i : Fin 2048) : Mlp.Row := Mlp.dmo (Mlp.row (gG2 m c) 0) (Mlp.row (gC m c) i)
def cI (i : Fin 2048) : Mlp.Hid := Mlp.dhid (cM m c i) (Wo m c) (rR m c i)
def cH (i : Fin 2048) : Mlp.Row := Mlp.dh (cI m c i) (Wi m c)
def cX (i : Fin 2048) : Mlp.Row :=
  Mlp.dx1 (Mlp.row (gC m c) i) (rX m c i) (Mlp.dq (Mlp.row (gSc m c) 0) (Mlp.row (gN m c) 0) (cH m c i))

theorem wi_eq : (fun d f => lWi (gI m c) (ix2 d f)) = Wi m c := funext fun d => funext fun f => lWi_at _ d f
theorem wo_eq : (fun f d => lWo (gO m c) (ix2 f d)) = Wo m c := funext fun f => funext fun d => lWo_at _ f d
theorem ct_eq : lCt (gC m c) = gC m c := shapeCast_id _ _

theorem row_X (i : Fin 2048) : Mlp.row (aX m c) i = rX m c i := funext fun d => lX_at _ _ _ i d
theorem row_H (i : Fin 2048) : Mlp.row (aH m c) i = rH m c i := funext fun d => by
  refine (lH_at _ _ _ _ i d).trans ?_
  rw [row_X]; rfl
theorem row_R (i : Fin 2048) : Mlp.row (lR (aHid m c)) i = rR m c i := funext fun f => by
  refine (lR_at _ i f).trans ?_
  rw [aHid, lHid_at, row_H, wi_eq]; rfl
theorem row_M (i : Fin 2048) : Mlp.row (aM m c) i = rM m c i := funext fun d => by
  refine (lMo_at _ _ i d).trans ?_
  rw [row_R, wo_eq]; rfl
theorem row_Dm (i : Fin 2048) : Mlp.row (aDm m c) i = cM m c i := funext fun d => by
  refine (lDm_at _ _ i d).trans ?_
  rw [ct_eq]; rfl
theorem row_Di (i : Fin 2048) : Mlp.row (aDi m c) i = cI m c i := funext fun f => by
  refine (lDi_at _ _ _ i f).trans ?_
  rw [row_Dm, row_R, wo_eq]; rfl
theorem row_Dh (i : Fin 2048) : Mlp.row (aDh m c) i = cH m c i := funext fun d => by
  refine (lDh_at _ _ i d).trans ?_
  rw [row_Di, wi_eq]; rfl
theorem row_Dn (i : Fin 2048) : Mlp.row (aDn m c) i = Mlp.dn (Mlp.row (gSc m c) 0) (cH m c i) := funext fun d => by
  refine (lDn_at _ _ i d).trans ?_
  rw [row_Dh]
theorem row_Dx (i : Fin 2048) : Mlp.row (aDx m c) i = cX m c i := funext fun d => by
  have e : Mlp.row (lDq (aDn m c) (gN m c)) i = Mlp.dq (Mlp.row (gSc m c) 0) (Mlp.row (gN m c) 0) (cH m c i) := funext fun d => by
    refine (lDq_at _ _ i d).trans ?_
    rw [show aDn m c (ix2 i d) = Mlp.dn _ _ d from congrFun (row_Dn m c i) d]; rfl
  refine (lDx_at _ _ _ i d).trans ?_
  rw [e, row_X, ct_eq]; rfl

/-! The results at a place. -/

theorem out_x2 (i : Fin 2048) (d : Fin 1024) : res_out0 m c (ix2 i d) = Mlp.x2 (rX m c i) (Mlp.row (gG2 m c) 0) (rM m c i) d := by
  refine (congrFun (res_0 m c) _).trans ((lO_at _ _ _ i d).trans ?_)
  rw [row_X, row_M]
theorem out_dx (i : Fin 2048) (d : Fin 1024) : res_out1 m c (ix2 i d) = cX m c i d :=
  (congrFun (res_1 m c) _).trans (congrFun (row_Dx m c i) d)
theorem out_do (i : Fin 2048) (d : Fin 1024) : res_out2 m c (ix2 i d) = Mlp.row (gG1 m c) 0 d * cX m c i d := by
  refine (congrFun (res_2 m c) _).trans ?_
  pointwise
  exact congrArg₂ (· * ·) (under_at _ i d) (congrFun (row_Dx m c i) d)
theorem out_dg1 (d : Fin 1024) : res_out3 m c (ix2 0 d) = ∑ i : Fin 2048, cX m c i d * gY m c (ix2 i d) :=
  (congrFun (res_3 m c) _).trans ((down_at _ d).trans (Finset.sum_congr rfl fun i _ =>
    congrArg (· * gY m c (ix2 i d)) (congrFun (row_Dx m c i) d)))
theorem out_dng (d : Fin 1024) : res_out4 m c (ix2 0 d) = ∑ i : Fin 2048, Mlp.q (rX m c i) d * Mlp.dn (Mlp.row (gSc m c) 0) (cH m c i) d :=
  (congrFun (res_4 m c) _).trans ((down_at _ d).trans (Finset.sum_congr rfl fun i _ =>
    congrArg₂ (· * ·) ((lQ_at _ i d).trans (by rw [row_X])) (congrFun (row_Dn m c i) d)))
theorem out_dsc (d : Fin 1024) : res_out5 m c (ix2 0 d) = ∑ i : Fin 2048, Mlp.nr (rX m c i) (Mlp.row (gN m c) 0) d * cH m c i d :=
  (congrFun (res_5 m c) _).trans ((down_at _ d).trans (Finset.sum_congr rfl fun i _ =>
    congrArg₂ (· * ·) ((lN_at _ _ i d).trans (by rw [row_X])) (congrFun (row_Dh m c i) d)))
theorem out_dsh (d : Fin 1024) : res_out6 m c (ix2 0 d) = ∑ i : Fin 2048, cH m c i d :=
  (congrFun (res_6 m c) _).trans ((down_at _ d).trans (Finset.sum_congr rfl fun i _ => congrFun (row_Dh m c i) d))
theorem out_dg2 (d : Fin 1024) : res_out7 m c (ix2 0 d) = ∑ i : Fin 2048, Mlp.row (gC m c) i d * rM m c i d :=
  (congrFun (res_7 m c) _).trans ((down_at _ d).trans (Finset.sum_congr rfl fun i _ =>
    congrArg₂ (· * ·) (congrFun (ct_eq m c) (ix2 i d)) (congrFun (row_M m c i) d)))
theorem out_dwi (j : Fin 8) (d : Fin 1024) (k : Fin 512) :
    res_out8 m c (ix4 j (0 : Fin 2) d k) = ∑ i : Fin 2048, cI m c i (Mlp.fof j k) * rH m c i d :=
  (congrFun (res_8 m c) _).trans ((lDwi_at _ _ _ j d k).trans (Finset.sum_congr rfl fun i _ =>
    congrArg₂ (· * ·) (congrFun (row_Di m c i) _) (congrFun (row_H m c i) d)))
theorem out_dwi_other (j : Fin 8) (d : Fin 1024) (k : Fin 512) : res_out8 m c (ix4 j (1 : Fin 2) d k) = gOI m c (ix4 j (1 : Fin 2) d k) :=
  (congrFun (res_8 m c) _).trans (lDwi_other _ _ _ j d k)
theorem out_dwo (j : Fin 8) (k : Fin 512) (d : Fin 1024) :
    res_out9 m c (ix4 j (0 : Fin 2) k d) = ∑ i : Fin 2048, cM m c i d * (rR m c i (Mlp.fof j k) * rR m c i (Mlp.fof j k)) :=
  (congrFun (res_9 m c) _).trans ((lDwo_at _ _ _ j k d).trans (Finset.sum_congr rfl fun i _ =>
    congrArg₂ (· * ·) (congrFun (row_Dm m c i) d) (congrArg (fun z : EReal => z * z) (congrFun (row_R m c i) _))))
theorem out_dwo_other (j : Fin 8) (k : Fin 512) (d : Fin 1024) : res_out9 m c (ix4 j (1 : Fin 2) k d) = gOO m c (ix4 j (1 : Fin 2) k d) :=
  (congrFun (res_9 m c) _).trans (lDwo_other _ _ _ j k d)

end Cert.MlpRef
-- ==== Proof.MlpClaim.lean ====
/- The MLP sub-layer: the kernels and the reference leave the same arrays, and the frames of the three programs. -/
module

public import proofs.«01_k».proof.Defs
public import proofs.«01_k».proof.Proof.MlpFold
public import proofs.«01_k».proof.Proof.MlpRef
public import Idealize.ShloMosaic.Lib.Quiescent

@[expose] public section

set_option maxRecDepth 16384

noncomputable section

namespace Cert.MlpClaim

open Idealize.ShloMosaic Idealize.ShloMosaic.TcCoe Idealize.SL.Sem
open Cert.Kernel3Ideal.Gen (W8)
open Cert.MlpFwd (past)

theorem frame_ref : Cert.quiescent_Reference3Ideal := fun m g _ =>
  (θ_run _ _ _).mono (fun r h => ⟨fun c => (h c).2.2.2.2.2.2.2.2.2.2, sem_eq_zero_of_no_sems (by decide) r.2⟩) (Cert.Reference3Ideal.Value.run m g)

variable (m : (ℓ : Loc Cert.Kernel3Ideal.nD Cert.Kernel3Ideal.τ Cert.Kernel3Ideal.sig) → Buf (Elt Ideal) ℓ) (ρ : Dev Cert.Kernel3Ideal.nD → PrngReg)
variable (m' : (ℓ : Loc Cert.Reference3Ideal.nD Cert.Reference3Ideal.τ Cert.Reference3Ideal.sig) → Buf (Elt Ideal) ℓ) (c : Dev Cert.Kernel3Ideal.nD)

/-- The two programs are given the same arrays. -/
structure Given : Prop where
  X : MlpRef.gX m' c = MlpFold.gX m c
  Y : MlpRef.gY m' c = MlpFold.gY m c
  G1 : MlpRef.gG1 m' c = MlpFold.gG1 m c
  N : MlpRef.gN m' c = MlpFold.gN m c
  Sc : MlpRef.gSc m' c = MlpFold.gSc m c
  Sh : MlpRef.gSh m' c = MlpFold.gSh m c
  G2 : MlpRef.gG2 m' c = MlpFold.gG2 m c
  I : MlpRef.gI m' c = MlpFold.gI m c
  O : MlpRef.gO m' c = MlpFold.gO m c
  C : MlpRef.gC m' c = MlpFold.gC m c
  OI : MlpRef.gOI m' c = MlpFold.gOI m c
  OO : MlpRef.gOO m' c = MlpFold.gOO m c

variable {m m' c} (e : Given m m' c)
include e

theorem row_X (i : Fin 2048) : MlpRef.rX m' c i = MlpFold.rX m ρ c i := by
  funext d
  rw [MlpRef.rX, MlpFold.rX, Mlp.fx, MlpFold.par_0, MlpFold.par_8, Mlp.x1, add_zero, e.X, e.Y, e.G1]
  rfl
theorem row_H (i : Fin 2048) : MlpRef.rH m' c i = MlpFold.rH m ρ c i := by
  rw [MlpRef.rH, row_X ρ e, e.N, e.Sc, e.Sh, MlpFold.rH, Mlp.fh, MlpFold.par_16, MlpFold.par_24, MlpFold.par_32]
  rfl
theorem row_R (i : Fin 2048) : MlpRef.rR m' c i = MlpFold.rR m ρ c i := by
  rw [MlpRef.rR, row_H ρ e, MlpRef.Wi, e.I]
  rfl
theorem row_M (i : Fin 2048) : MlpRef.rM m' c i = MlpFold.rM m ρ c i := by
  rw [MlpRef.rM, row_R ρ e, MlpRef.Wo, e.O]
  rfl
theorem ct_M (i : Fin 2048) : MlpRef.cM m' c i = MlpFold.cM m ρ c i := by
  rw [MlpRef.cM, MlpFold.cM, Mlp.bm, MlpFold.par_40, e.G2, e.C]
theorem ct_I (i : Fin 2048) : MlpRef.cI m' c i = MlpFold.cI m ρ c i := by
  rw [MlpRef.cI, ct_M ρ e, row_R ρ e, MlpRef.Wo, e.O]
  rfl
theorem ct_H (i : Fin 2048) : MlpRef.cH m' c i = MlpFold.cH m ρ c i := by
  rw [MlpRef.cH, ct_I ρ e, MlpRef.Wi, e.I]
  rfl
theorem ct_X (i : Fin 2048) : MlpRef.cX m' c i = MlpFold.cX m ρ c i := by
  rw [MlpRef.cX, ct_H ρ e, row_X ρ e, e.C, e.Sc, e.N, MlpFold.cX, Mlp.bx, MlpFold.par_16, MlpFold.par_24]
  rfl

omit e in
/-- Arrays of rows with equal entries are equal. -/
theorem by_row {n k : ℕ} {a b : (⟨2, ![n, k]⟩ : Shape).Idx → EReal} (h : ∀ i d, a (ix2 i d) = b (ix2 i d)) : a = b :=
  funext fun y => by rw [eq_ix2 (n0 := n) (n1 := k) y]; exact h _ _
omit e in
/-- Arrays of one row, likewise. -/
theorem by_col {k : ℕ} {a b : (⟨2, ![1, k]⟩ : Shape).Idx → EReal} (h : ∀ d, a (ix2 0 d) = b (ix2 0 d)) : a = b :=
  by_row fun i d => by rw [Subsingleton.elim i 0]; exact h d
omit e in
/-- Arrays of the weights' shape, from the two layers. -/
theorem by_layer {n p q : ℕ} {a b : (⟨4, ![n, 2, p, q]⟩ : Shape).Idx → EReal} (h0 : ∀ j d k, a (ix4 j (0 : Fin 2) d k) = b (ix4 j (0 : Fin 2) d k))
    (h1 : ∀ j d k, a (ix4 j (1 : Fin 2) d k) = b (ix4 j (1 : Fin 2) d k)) : a = b :=
  funext fun y => by
    rw [eq_ix4 (n0 := n) (n1 := 2) (n2 := p) (n3 := q) y]
    have hl : ∀ l : Fin 2, l = 0 ∨ l = 1 := by decide
    rcases hl (y 1) with h | h
    · rw [h]; exact h0 _ _ _
    · rw [h]; exact h1 _ _ _

theorem same_x2 : (Cert.Reference3Ideal.Value.res_out0 m' c : FVec Ideal Cert.Kernel3Ideal.S2048x1024 .f32) = W8 m ρ c (Proc.devRef .tc Cert.Kernel3Ideal.main_v12_4) := by
  refine by_row fun i d => (MlpRef.out_x2 m' c i d).trans (Eq.trans ?_ (MlpFold.out_x2 m ρ c i d).symm)
  rw [row_X ρ e, row_M ρ e, e.G2, MlpFold.rO, Mlp.fo, MlpFold.par_40]; rfl
theorem same_dx : (Cert.Reference3Ideal.Value.res_out1 m' c : FVec Ideal Cert.Kernel3Ideal.S2048x1024 .f32) = W8 m ρ c (Proc.devRef .tc Cert.Kernel3Ideal.main_v13_0) := by
  refine by_row fun i d => (MlpRef.out_dx m' c i d).trans (Eq.trans ?_ (MlpFold.out_dx m ρ c i d).symm)
  rw [ct_X ρ e]
theorem same_do : (Cert.Reference3Ideal.Value.res_out2 m' c : FVec Ideal Cert.Kernel3Ideal.S2048x1024 .bf16) = W8 m ρ c (Proc.devRef .tc Cert.Kernel3Ideal.main_v13_1) := by
  refine by_row fun i d => (MlpRef.out_do m' c i d).trans (Eq.trans ?_ (MlpFold.out_do m ρ c i d).symm)
  rw [ct_X ρ e, MlpFold.par_0, e.G1]
theorem same_dg1 : (Cert.Reference3Ideal.Value.res_out3 m' c : FVec Ideal Cert.Kernel3Ideal.S1x1024 .f32) = W8 m ρ c (Proc.devRef .tc Cert.Kernel3Ideal.main_v16) := by
  refine by_col fun d => (MlpRef.out_dg1 m' c d).trans (Eq.trans ?_ (MlpFold.out_dg1 m ρ c d).symm)
  refine Finset.sum_congr (M := EReal) rfl fun i _ => ?_
  rw [ct_X ρ e, MlpFold.par_8, add_zero, e.Y]; rfl
theorem same_dng : (Cert.Reference3Ideal.Value.res_out4 m' c : FVec Ideal Cert.Kernel3Ideal.S1x1024 .f32) = W8 m ρ c (Proc.devRef .tc Cert.Kernel3Ideal.main_v18) := by
  refine by_col fun d => (MlpRef.out_dng m' c d).trans (Eq.trans ?_ (MlpFold.out_dng m ρ c d).symm)
  rw [MlpFold.par_24]
  simp only [row_X ρ e, ct_H ρ e, e.Sc]
theorem same_dsc : (Cert.Reference3Ideal.Value.res_out5 m' c : FVec Ideal Cert.Kernel3Ideal.S1x1024 .f32) = W8 m ρ c (Proc.devRef .tc Cert.Kernel3Ideal.main_v19) := by
  refine by_col fun d => (MlpRef.out_dsc m' c d).trans (Eq.trans ?_ (MlpFold.out_dsc m ρ c d).symm)
  rw [MlpFold.par_16]
  simp only [row_X ρ e, ct_H ρ e, e.N]
theorem same_dsh : (Cert.Reference3Ideal.Value.res_out6 m' c : FVec Ideal Cert.Kernel3Ideal.S1x1024 .f32) = W8 m ρ c (Proc.devRef .tc Cert.Kernel3Ideal.main_v20) := by
  refine by_col fun d => (MlpRef.out_dsh m' c d).trans (Eq.trans ?_ (MlpFold.out_dsh m ρ c d).symm)
  simp only [ct_H ρ e]
theorem same_dg2 : (Cert.Reference3Ideal.Value.res_out7 m' c : FVec Ideal Cert.Kernel3Ideal.S1x1024 .f32) = W8 m ρ c (Proc.devRef .tc Cert.Kernel3Ideal.main_v21) := by
  refine by_col fun d => (MlpRef.out_dg2 m' c d).trans (Eq.trans ?_ (MlpFold.out_dg2 m ρ c d).symm)
  simp only [row_M ρ e, e.C]
theorem same_dwi : (Cert.Reference3Ideal.Value.res_out8 m' c : FVec Ideal Cert.Kernel3Ideal.S8x2x1024x512 .bf16) = W8 m ρ c (Proc.devRef .tc Cert.Kernel3Ideal.main_v14) := by
  refine by_layer (fun j d k => (MlpRef.out_dwi m' c j d k).trans (Eq.trans ?_ (MlpFold.out_dwi m ρ c j d k).symm))
    (fun j d k => (MlpRef.out_dwi_other m' c j d k).trans (Eq.trans ?_ (MlpFold.out_dwi_other m ρ c j d k).symm))
  · refine Finset.sum_congr (M := EReal) rfl fun i _ => ?_
    rw [ct_I ρ e, row_H ρ e, mul_comm]
  · rw [e.OI]
theorem same_dwo : (Cert.Reference3Ideal.Value.res_out9 m' c : FVec Ideal Cert.Kernel3Ideal.S8x2x512x1024 .bf16) = W8 m ρ c (Proc.devRef .tc Cert.Kernel3Ideal.main_v15) := by
  refine by_layer (fun j k d => (MlpRef.out_dwo m' c j k d).trans (Eq.trans ?_ (MlpFold.out_dwo m ρ c j k d).symm))
    (fun j k d => (MlpRef.out_dwo_other m' c j k d).trans (Eq.trans ?_ (MlpFold.out_dwo_other m ρ c j k d).symm))
  · refine Finset.sum_congr (M := EReal) rfl fun i _ => ?_
    rw [ct_M ρ e, row_R ρ e, mul_comm]
  · rw [e.OO]

omit e in
theorem value : Cert.algebraic_Kernel3Ideal_Reference3Ideal := by
  intro m g m' g' _ hm
  have e : ∀ c, Given m m' c := fun c => by
    obtain ⟨h0, h1, h2, h3, h4, h5, h6, h7, h8, h9, h10, h11⟩ := hm c
    exact ⟨h0, h1, h2, h3, h4, h5, h6, h7, h8, h9, h10, h11⟩
  refine ⟨fun c => W8 m g c (Proc.devRef .tc Cert.Kernel3Ideal.main_v12_4),
    fun c => W8 m g c (Proc.devRef .tc Cert.Kernel3Ideal.main_v13_0),
    fun c => W8 m g c (Proc.devRef .tc Cert.Kernel3Ideal.main_v13_1),
    fun c => W8 m g c (Proc.devRef .tc Cert.Kernel3Ideal.main_v16),
    fun c => W8 m g c (Proc.devRef .tc Cert.Kernel3Ideal.main_v18),
    fun c => W8 m g c (Proc.devRef .tc Cert.Kernel3Ideal.main_v19),
    fun c => W8 m g c (Proc.devRef .tc Cert.Kernel3Ideal.main_v20),
    fun c => W8 m g c (Proc.devRef .tc Cert.Kernel3Ideal.main_v21),
    fun c => W8 m g c (Proc.devRef .tc Cert.Kernel3Ideal.main_v14),
    fun c => W8 m g c (Proc.devRef .tc Cert.Kernel3Ideal.main_v15), ?_, ?_⟩
  · refine (θ_run _ _ _).mono (fun r h c => ?_) (Cert.MlpRun.run m g)
    have at_ := fun (b : Ref Cert.Kernel3Ideal.sig .tc) (hb : ¬ (Proc.devRef .tc b : DevRef Cert.Kernel3Ideal.τ Cert.Kernel3Ideal.sig).isScoped) =>
      h.1 c _ (Cert.Kernel3Ideal.Gen.mem_uc b hb)
    exact ⟨at_ Cert.Kernel3Ideal.main_v12_4 (by decide),
      at_ Cert.Kernel3Ideal.main_v13_0 (by decide),
      at_ Cert.Kernel3Ideal.main_v13_1 (by decide),
      at_ Cert.Kernel3Ideal.main_v16 (by decide),
      at_ Cert.Kernel3Ideal.main_v18 (by decide),
      at_ Cert.Kernel3Ideal.main_v19 (by decide),
      at_ Cert.Kernel3Ideal.main_v20 (by decide),
      at_ Cert.Kernel3Ideal.main_v21 (by decide),
      at_ Cert.Kernel3Ideal.main_v14 (by decide),
      at_ Cert.Kernel3Ideal.main_v15 (by decide),
      (at_ Cert.Kernel3Ideal.main_arg0 (by decide)).trans (Cert.Kernel3Ideal.Gen.W8_main_arg0 m g c),
      (at_ Cert.Kernel3Ideal.main_arg1 (by decide)).trans (Cert.Kernel3Ideal.Gen.W8_main_arg1 m g c),
      (at_ Cert.Kernel3Ideal.main_arg2 (by decide)).trans (Cert.Kernel3Ideal.Gen.W8_main_arg2 m g c),
      (at_ Cert.Kernel3Ideal.main_arg3 (by decide)).trans (Cert.Kernel3Ideal.Gen.W8_main_arg3 m g c),
      (at_ Cert.Kernel3Ideal.main_arg4 (by decide)).trans (Cert.Kernel3Ideal.Gen.W8_main_arg4 m g c),
      (at_ Cert.Kernel3Ideal.main_arg5 (by decide)).trans (Cert.Kernel3Ideal.Gen.W8_main_arg5 m g c),
      (at_ Cert.Kernel3Ideal.main_arg6 (by decide)).trans (Cert.Kernel3Ideal.Gen.W8_main_arg6 m g c),
      (at_ Cert.Kernel3Ideal.main_arg7 (by decide)).trans (Cert.Kernel3Ideal.Gen.W8_main_arg7 m g c),
      (at_ Cert.Kernel3Ideal.main_arg8 (by decide)).trans (Cert.Kernel3Ideal.Gen.W8_main_arg8 m g c),
      (at_ Cert.Kernel3Ideal.main_arg9 (by decide)).trans (Cert.Kernel3Ideal.Gen.W8_main_arg9 m g c),
      (at_ Cert.Kernel3Ideal.main_arg10 (by decide)).trans (Cert.Kernel3Ideal.Gen.W8_main_arg10 m g c),
      (at_ Cert.Kernel3Ideal.main_arg11 (by decide)).trans (Cert.Kernel3Ideal.Gen.W8_main_arg11 m g c)⟩
  · refine (θ_run _ _ _).mono (fun r h c => ?_) (Cert.Reference3Ideal.Value.run m' g')
    obtain ⟨r0, r1, r2, r3, r4, r5, r6, r7, r8, r9, rest⟩ := h c
    exact ⟨r0.trans (same_x2 g (e c)),
      r1.trans (same_dx g (e c)),
      r2.trans (same_do g (e c)),
      r3.trans (same_dg1 g (e c)),
      r4.trans (same_dng g (e c)),
      r5.trans (same_dsc g (e c)),
      r6.trans (same_dsh g (e c)),
      r7.trans (same_dg2 g (e c)),
      r8.trans (same_dwi g (e c)),
      r9.trans (same_dwo g (e c)), rest⟩

end Cert.MlpClaim

end
-- ==== Proof.Mlp1Run.lean ====
/- The run of the program of layer 1's MLP sub-layer. -/
module

public import proofs.«01_k».proof.Proof.RunKit
public import proofs.«01_k».proof.Proof.Gen.Kernel4Ideal.Frame

@[expose] public section

set_option maxRecDepth 16384

noncomputable section

namespace Cert.Mlp1Run

open Cert.Kernel4Ideal Cert.Kernel4Ideal.Gen Idealize.ShloMosaic Idealize.ShloMosaic.TcCoe Idealize.SL.ProofMode Idealize.SL.Sem

variable {F : FTy → Type} [FloatOps F] (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r =>
    (∀ c : Dev nD, ∀ b ∈ Pipeline.ucRefs τ sig, r.2.mem ((c : Thread nD τ).1, b) = W6 m ρ c b) ∧ r.2.sem = fun _ => 0) :=
  RunKit.run pcfgs adm (pdats m ρ) cellOf_inj defs₀ m ρ main (segs m ρ) (main_run m ρ)
    (by simp only [segs, Pipeline.Seg.pipes_host, Pipeline.Seg.pipes_region, Pipeline.Seg.pipes_nil]; decide)
    (W6 m ρ) ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩ no_unscoped

end Cert.Mlp1Run
-- ==== Proof.Mlp1BwdOut.lean ====
/- The blocks layer 1's backward kernel leaves at one grid point: layer 0's terms of the blocks it reads. -/
module

public import proofs.«01_k».proof.Proof.MlpBwdPay
public import proofs.«01_k».proof.Proof.Gen.Kernel4Ideal.Frame
public import Idealize.ShloMosaic.Lib.Pipeline.Value

@[expose] public section

set_option maxRecDepth 16384

noncomputable section

namespace Cert.Mlp1Bwd

open Cert.Kernel4Ideal Cert.Kernel4Ideal.Gen Idealize.ShloMosaic Idealize.ShloMosaic.TcCoe
open Cert.MlpBwd (lw lp lh li lo vM vD vH vX vO vS vDs whole_z rd)

variable {F : FTy → Type} [FloatOps F]

variable (x0 x1 : Vec F S256x1024 .f32) (x2 : Vec F S256x4096 .bf16) (x3 : Vec F S256x1024 .bf16) (x4 : Vec F S256x1024 .f32)
  (x5 : Vec F S72x1024 .f32) (x6 : Vec F S8x1x1024x512 .bf16) (x7 : Vec F S8x1x512x1024 .bf16)

/-! What each of the two cases of the body leaves. -/

variable (c : Dev nD) (i : grid1.Coords) (arg1 : Memref sig .tc .vmem S256x1024 .f32) (harg1 : arg1.IsWhole)
  (arg2 : Memref sig .tc .vmem S256x1024 .f32) (harg2 : arg2.IsWhole)
  (arg3 : Memref sig .tc .vmem S256x4096 .bf16) (harg3 : arg3.IsWhole)
  (arg4 : Memref sig .tc .vmem S256x1024 .bf16) (harg4 : arg4.IsWhole)
  (arg5 : Memref sig .tc .vmem S256x1024 .f32) (harg5 : arg5.IsWhole)
  (arg6 : Memref sig .tc .vmem S72x1024 .f32) (harg6 : arg6.IsWhole)
  (arg7 : Memref sig .tc .vmem S8x1x1024x512 .bf16) (harg7 : arg7.IsWhole)
  (arg8 : Memref sig .tc .vmem S8x1x512x1024 .bf16) (harg8 : arg8.IsWhole)
  (arg9 : Memref sig .tc .vmem S256x1024 .f32) (harg9 : arg9.IsWhole)
  (arg10 : Memref sig .tc .vmem S256x1024 .bf16) (harg10 : arg10.IsWhole)
  (arg11 : Memref sig .tc .vmem S256x1024 .bf16) (harg11 : arg11.IsWhole)
  (arg12 : Memref sig .tc .vmem S256x4096 .bf16) (harg12 : arg12.IsWhole)
  (arg13 : Memref sig .tc .vmem S8x1024 .f32) (harg13 : arg13.IsWhole)

theorem outA_8 (hc : cond1_0 i) :
    out1_A_8 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 = vX x0 x1 x2 x5 x6 x7 := by
  unfold out1_A_8
  rw [View.read_writes_eq_canon _ _ _ (fun _ => cover1_A_8 ..)]
  refine (View.canon_unit_zero whole_z _ _).trans ?_
  refine Eq.trans (b := vX (rd harg1 x0) (rd harg2 x1) (rd harg3 x2) (rd harg6 x5) (rd harg7 x6) (rd harg8 x7)) rfl ?_
  simp only [Memref.IsWhole.read_unread]

theorem outA_9 (hc : cond1_0 i) :
    out1_A_9 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 = vO x0 x1 x2 x5 x6 x7 := by
  unfold out1_A_9
  rw [View.read_writes_eq_canon _ _ _ (fun _ => cover1_A_9 ..)]
  refine (View.canon_unit_zero whole_z _ _).trans ?_
  refine Eq.trans (b := vO (rd harg1 x0) (rd harg2 x1) (rd harg3 x2) (rd harg6 x5) (rd harg7 x6) (rd harg8 x7)) rfl ?_
  simp only [Memref.IsWhole.read_unread]

theorem outA_10 (hc : cond1_0 i) :
    out1_A_10 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 = vM x0 x5 := by
  unfold out1_A_10
  rw [View.read_writes_eq_canon _ _ _ (fun _ => cover1_A_10 ..)]
  refine (View.canon_unit_zero whole_z _ _).trans ?_
  refine Eq.trans (b := vM (rd harg1 x0) (rd harg6 x5)) rfl ?_
  simp only [Memref.IsWhole.read_unread]

theorem outA_11 (hc : cond1_0 i) :
    out1_A_11 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 = View.canon (vDs x0 x2 x5 x7) := by
  unfold out1_A_11
  rw [View.read_writes_eq_canon _ _ _ (fun _ => cover1_A_11 ..)]
  refine Eq.trans (b := View.canon (vDs (rd harg1 x0) (rd harg3 x2) (rd harg6 x5) (rd harg8 x7))) rfl ?_
  simp only [Memref.IsWhole.read_unread]

theorem outB_8 (hc : ¬cond1_0 i) (xo : Vec F S8x1024 .f32) :
    out1_B_8 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 xo = vX x0 x1 x2 x5 x6 x7 := by
  unfold out1_B_8
  rw [View.read_writes_eq_canon _ _ _ (fun _ => cover1_B_8 ..)]
  refine (View.canon_unit_zero whole_z _ _).trans ?_
  refine Eq.trans (b := vX (rd harg1 x0) (rd harg2 x1) (rd harg3 x2) (rd harg6 x5) (rd harg7 x6) (rd harg8 x7)) rfl ?_
  simp only [Memref.IsWhole.read_unread]

theorem outB_9 (hc : ¬cond1_0 i) (xo : Vec F S8x1024 .f32) :
    out1_B_9 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 xo = vO x0 x1 x2 x5 x6 x7 := by
  unfold out1_B_9
  rw [View.read_writes_eq_canon _ _ _ (fun _ => cover1_B_9 ..)]
  refine (View.canon_unit_zero whole_z _ _).trans ?_
  refine Eq.trans (b := vO (rd harg1 x0) (rd harg2 x1) (rd harg3 x2) (rd harg6 x5) (rd harg7 x6) (rd harg8 x7)) rfl ?_
  simp only [Memref.IsWhole.read_unread]

theorem outB_10 (hc : ¬cond1_0 i) (xo : Vec F S8x1024 .f32) :
    out1_B_10 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 xo = vM x0 x5 := by
  unfold out1_B_10
  rw [View.read_writes_eq_canon _ _ _ (fun _ => cover1_B_10 ..)]
  refine (View.canon_unit_zero whole_z _ _).trans ?_
  refine Eq.trans (b := vM (rd harg1 x0) (rd harg6 x5)) rfl ?_
  simp only [Memref.IsWhole.read_unread]

theorem outB_11 (hc : ¬cond1_0 i) (xo : Vec F S8x1024 .f32) :
    out1_B_11 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 xo = View.canon (vDs x0 x2 x5 x7) := by
  unfold out1_B_11
  rw [View.read_writes_eq_canon _ _ _ (fun _ => cover1_B_11 ..)]
  refine Eq.trans (b := View.canon (vDs (rd harg1 x0) (rd harg3 x2) (rd harg6 x5) (rd harg8 x7))) rfl ?_
  simp only [Memref.IsWhole.read_unread]

theorem outB_12 (hc : ¬cond1_0 i) (xo : Vec F S8x1024 .f32) :
    out1_B_12 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 xo = Kernel3Ideal.Gen.k1_pay2 (vS x0 x1 x2 x3 x4 x5 x6 x7) xo := by
  unfold out1_B_12
  rw [View.read_writes_eq_canon _ _ _ (fun _ => cover1_B_12 ..)]
  refine (View.canon_unit_zero whole_z _ _).trans ?_
  refine Eq.trans (b := Kernel3Ideal.Gen.k1_pay2 (vS (rd harg1 x0) (rd harg2 x1) (rd harg3 x2) (rd harg4 x3) (rd harg5 x4) (rd harg6 x5) (rd harg7 x6) (rd harg8 x7))
    (View.ld (rd harg13 xo) (Rect.unit (s := S8x1024) ![0, 0] S8x1024.size inb_S8x1024_S8x1024_0_0))) rfl ?_
  simp only [Memref.IsWhole.read_unread]
  rw [View.ld_unit_zero whole_z]

theorem outA_12 (hc : cond1_0 i) :
    out1_A_12 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 x7 = Kernel3Ideal.Gen.k1_pay2 (vS x0 x1 x2 x3 x4 x5 x6 x7) Kernel3Ideal.Gen.k1_pay1 := by
  unfold out1_A_12
  rw [View.read_writes_eq_canon _ _ _ (fun _ => cover1_A_12 ..)]
  refine (View.canon_cons_unit_zero whole_z _ _ _).trans ?_
  refine Eq.trans (b := Kernel3Ideal.Gen.k1_pay2 (vS (rd harg1 x0) (rd harg2 x1) (rd harg3 x2) (rd harg4 x3) (rd harg5 x4) (rd harg6 x5) (rd harg7 x6) (rd harg8 x7))
    (arg13.view.readCov [(⟨Rect.unit (s := S8x1024) ![0, 0] S8x1024.size inb_S8x1024_S8x1024_0_0, Kernel3Ideal.Gen.k1_pay1⟩ : View.Piece (Elt F) S8x1024 .f32)]
      (Rect.unit (s := S8x1024) ![0, 0] S8x1024.size inb_S8x1024_S8x1024_0_0).toLoadRect)) rfl ?_
  simp only [Memref.IsWhole.read_unread]
  rw [View.readCov_unit_zero _ whole_z]

end Cert.Mlp1Bwd
-- ==== Proof.Mlp1FwdArr.lean ====
/- The arrays the forward kernel of the MLP sub-layer leaves, row by row, of the arrays it finds. -/
module

public import proofs.«01_k».proof.Proof.MlpFwdArr
public import proofs.«01_k».proof.Proof.Gen.Kernel4Ideal.Frame

@[expose] public section

set_option maxRecDepth 16384

noncomputable section

namespace Cert.Mlp1Fwd

open Cert.Kernel4Ideal Cert.Kernel4Ideal.Gen Idealize.ShloMosaic Idealize.ShloMosaic.TcCoe
open Idealize.ShloMosaic.Pipeline (Dat)
open Cert.MlpFwd (at2 at4 arr_at row_inj blk_row blk_col)

/-! The kernel's text is layer 0's; only where it finds the weights and the rows differs. -/

theorem same5 : @out0_5 Ideal _ = @Kernel3Ideal.Gen.out0_5 Ideal _ := rfl
theorem same6 : @out0_6 Ideal _ = @Kernel3Ideal.Gen.out0_6 Ideal _ := rfl
theorem same7 : @out0_7 Ideal _ = @Kernel3Ideal.Gen.out0_7 Ideal _ := rfl
theorem same8 : @out0_8 Ideal _ = @Kernel3Ideal.Gen.out0_8 Ideal _ := rfl
theorem same9 : @out0_9 Ideal _ = @Kernel3Ideal.Gen.out0_9 Ideal _ := rfl

theorem N0 : cfg0.N = 8 := by decide

/-- The grid point of a block of rows. -/
def pt (t : Fin 8) : Fin cfg0.N := ⟨t.val, by rw [N0]; exact t.isLt⟩

variable (V : (c : Dev nD) → (b : Ref sig .tc) → Buf (Elt Ideal) ((c : Thread nD τ).loc b)) (c : Dev nD)

/-- The arrays the region finds. -/
abbrev aX : FVec Ideal S2048x1024 .f32 := V c main_arg0
abbrev aY : FVec Ideal S2048x1024 .f32 := V c main_arg1
abbrev aP : FVec Ideal S72x1024 .f32 := V c main_v10
abbrev aI : FVec Ideal S8x2x1024x512 .bf16 := V c main_arg8
abbrev aO : FVec Ideal S8x2x512x1024 .bf16 := V c main_arg9

theorem ixX : ∀ t : Fin grid0.N, win0_0.index t (0 : Fin 2) = t.val ∧ win0_0.index t (1 : Fin 2) = 0 := by decide +kernel
theorem ixY : ∀ t : Fin grid0.N, win0_1.index t (0 : Fin 2) = t.val ∧ win0_1.index t (1 : Fin 2) = 0 := by decide +kernel
theorem ixP : ∀ t : Fin grid0.N, win0_2.index t (0 : Fin 2) = 0 ∧ win0_2.index t (1 : Fin 2) = 0 := by decide +kernel
theorem ixI : ∀ t : Fin grid0.N, win0_3.index t (0 : Fin 4) = 0 ∧ win0_3.index t (1 : Fin 4) = 1 ∧ win0_3.index t (2 : Fin 4) = 0 ∧ win0_3.index t (3 : Fin 4) = 0 := by decide +kernel
theorem ixO : ∀ t : Fin grid0.N, win0_4.index t (0 : Fin 4) = 0 ∧ win0_4.index t (1 : Fin 4) = 1 ∧ win0_4.index t (2 : Fin 4) = 0 ∧ win0_4.index t (3 : Fin 4) = 0 := by decide +kernel

theorem rowX (t : Fin 8) (i : Fin 256) : Mlp.row (iblk0 V c 0 (pt t) : Vec Ideal S256x1024 .f32) i = Mlp.row (aX V c) (Mlp.rof t i) :=
  funext fun _ => at2 (aX V c) _ _ _ (blk_row (ixX (pt t)).1) (blk_col (ixX (pt t)).2)

theorem rowY (t : Fin 8) (i : Fin 256) : Mlp.row (iblk0 V c 1 (pt t) : Vec Ideal S256x1024 .f32) i = Mlp.row (aY V c) (Mlp.rof t i) :=
  funext fun _ => at2 (aY V c) _ _ _ (blk_row (ixY (pt t)).1) (blk_col (ixY (pt t)).2)

theorem rowP (t : Fin 8) : Mlp.row (iblk0 V c 2 (pt t) : Vec Ideal S72x1024 .f32) = Mlp.row (aP V c) :=
  funext fun _ => funext fun _ => at2 (aP V c) _ _ _ (blk_col (ixP (pt t)).1) (blk_col (ixP (pt t)).2)

theorem wiI (t : Fin 8) : Mlp.wi (iblk0 V c 3 (pt t) : Vec Ideal S8x1x1024x512 .bf16) 0 = Mlp.wi (aI V c) 1 :=
  funext fun _ => funext fun _ => at4 (aI V c) _ _ _ _ _ (blk_col (ixI (pt t)).1) (congrArg (· * 1 + 1 * 0) (ixI (pt t)).2.1)
    (blk_col (ixI (pt t)).2.2.1) (blk_col (ixI (pt t)).2.2.2)

theorem woO (t : Fin 8) : Mlp.wo (iblk0 V c 4 (pt t) : Vec Ideal S8x1x512x1024 .bf16) 0 = Mlp.wo (aO V c) 1 :=
  funext fun _ => funext fun _ => at4 (aO V c) _ _ _ _ _ (blk_col (ixO (pt t)).1) (congrArg (· * 1 + 1 * 0) (ixO (pt t)).2.1)
    (blk_col (ixO (pt t)).2.2.1) (blk_col (ixO (pt t)).2.2.2)

/-- The window's block number at a point, and that each point writes its block back. -/
theorem ix5 : ∀ t : Fin grid0.N, win0_5.index t (0 : Fin 2) = t.val ∧ win0_5.index t (1 : Fin 2) = 0 ∧ win0_5.flush t = true := by decide +kernel
theorem ix6 : ∀ t : Fin grid0.N, win0_6.index t (0 : Fin 2) = t.val ∧ win0_6.index t (1 : Fin 2) = 0 ∧ win0_6.flush t = true := by decide +kernel
theorem ix7 : ∀ t : Fin grid0.N, win0_7.index t (0 : Fin 2) = t.val ∧ win0_7.index t (1 : Fin 2) = 0 ∧ win0_7.flush t = true := by decide +kernel
theorem ix8 : ∀ t : Fin grid0.N, win0_8.index t (0 : Fin 2) = t.val ∧ win0_8.index t (1 : Fin 2) = 0 ∧ win0_8.flush t = true := by decide +kernel
theorem ix9 : ∀ t : Fin grid0.N, win0_9.index t (0 : Fin 2) = t.val ∧ win0_9.index t (1 : Fin 2) = 0 ∧ win0_9.flush t = true := by decide +kernel

/-- The residual array. -/
theorem arr5 (i : Fin 2048) (d : Fin 1024) :
    ((dat0 V c).arrAt 5 cfg0.N : FVec Ideal S2048x1024 .f32) (ix2 i d)
      = Mlp.fx (Mlp.row (aP V c)) (Mlp.row (aX V c) i) (Mlp.row (aY V c) i) d := by
  obtain ⟨t, k, rfl⟩ : ∃ t k, i = Mlp.rof t k := ⟨_, _, (Mlp.rof_rt_ri i).symm⟩
  have e := arr_at (dat0 V c) 5 rfl (fun t => (ix5 t).2.2)
    (row_inj ix5) (pt t) (ix2 k d : S256x1024.Idx)
  refine Eq.trans (at2 ((dat0 V c).arrAt 5 cfg0.N : FVec Ideal S2048x1024 .f32) _ _ _ (blk_row (ix5 (pt t)).1) (blk_col (ix5 (pt t)).2.1)).symm (e.trans ?_)
  rw [← rowX, ← rowY, ← rowP V c t]
  exact (congrFun ((after0_5 V c (pt t)).trans (by rw [same5])) _).trans (MlpFwd.out5_apply _ _ _ _ _ k d)
/-- The modulated array. -/
theorem arr6 (i : Fin 2048) (d : Fin 1024) :
    ((dat0 V c).arrAt 6 cfg0.N : FVec Ideal S2048x1024 .bf16) (ix2 i d)
      = Mlp.fh (Mlp.row (aP V c)) (Mlp.row (aX V c) i) (Mlp.row (aY V c) i) d := by
  obtain ⟨t, k, rfl⟩ : ∃ t k, i = Mlp.rof t k := ⟨_, _, (Mlp.rof_rt_ri i).symm⟩
  have e := arr_at (dat0 V c) 6 rfl (fun t => (ix6 t).2.2)
    (row_inj ix6) (pt t) (ix2 k d : S256x1024.Idx)
  refine Eq.trans (at2 ((dat0 V c).arrAt 6 cfg0.N : FVec Ideal S2048x1024 .bf16) _ _ _ (blk_row (ix6 (pt t)).1) (blk_col (ix6 (pt t)).2.1)).symm (e.trans ?_)
  rw [← rowX, ← rowY, ← rowP V c t]
  exact (congrFun ((after0_6 V c (pt t)).trans (by rw [same6])) _).trans (MlpFwd.out6_apply _ _ _ _ _ k d)
/-- The rectified array. -/
theorem arr7 (i : Fin 2048) (d : Fin 4096) :
    ((dat0 V c).arrAt 7 cfg0.N : FVec Ideal S2048x4096 .bf16) (ix2 i d)
      = Mlp.fr (Mlp.row (aP V c)) (Mlp.wi (aI V c) 1) (Mlp.row (aX V c) i) (Mlp.row (aY V c) i) d := by
  obtain ⟨t, k, rfl⟩ : ∃ t k, i = Mlp.rof t k := ⟨_, _, (Mlp.rof_rt_ri i).symm⟩
  have e := arr_at (dat0 V c) 7 rfl (fun t => (ix7 t).2.2)
    (row_inj ix7) (pt t) (ix2 k d : S256x4096.Idx)
  refine Eq.trans (at2 ((dat0 V c).arrAt 7 cfg0.N : FVec Ideal S2048x4096 .bf16) _ _ _ (blk_row (ix7 (pt t)).1) (blk_col (ix7 (pt t)).2.1)).symm (e.trans ?_)
  rw [← rowX, ← rowY, ← rowP V c t, ← wiI V c t]
  exact (congrFun ((after0_7 V c (pt t)).trans (by rw [same7])) _).trans (MlpFwd.out7_apply _ _ _ _ _ k d)
/-- The output array before its gate. -/
theorem arr8 (i : Fin 2048) (d : Fin 1024) :
    ((dat0 V c).arrAt 8 cfg0.N : FVec Ideal S2048x1024 .bf16) (ix2 i d)
      = Mlp.fm (Mlp.row (aP V c)) (Mlp.wi (aI V c) 1) (Mlp.wo (aO V c) 1) (Mlp.row (aX V c) i) (Mlp.row (aY V c) i) d := by
  obtain ⟨t, k, rfl⟩ : ∃ t k, i = Mlp.rof t k := ⟨_, _, (Mlp.rof_rt_ri i).symm⟩
  have e := arr_at (dat0 V c) 8 rfl (fun t => (ix8 t).2.2)
    (row_inj ix8) (pt t) (ix2 k d : S256x1024.Idx)
  refine Eq.trans (at2 ((dat0 V c).arrAt 8 cfg0.N : FVec Ideal S2048x1024 .bf16) _ _ _ (blk_row (ix8 (pt t)).1) (blk_col (ix8 (pt t)).2.1)).symm (e.trans ?_)
  rw [← rowX, ← rowY, ← rowP V c t, ← wiI V c t, ← woO V c t]
  exact (congrFun ((after0_8 V c (pt t)).trans (by rw [same8])) _).trans (MlpFwd.out8_apply _ _ _ _ _ k d)
/-- The residual array leaving the layer. -/
theorem arr9 (i : Fin 2048) (d : Fin 1024) :
    ((dat0 V c).arrAt 9 cfg0.N : FVec Ideal S2048x1024 .f32) (ix2 i d)
      = Mlp.fo (Mlp.row (aP V c)) (Mlp.wi (aI V c) 1) (Mlp.wo (aO V c) 1) (Mlp.row (aX V c) i) (Mlp.row (aY V c) i) d := by
  obtain ⟨t, k, rfl⟩ : ∃ t k, i = Mlp.rof t k := ⟨_, _, (Mlp.rof_rt_ri i).symm⟩
  have e := arr_at (dat0 V c) 9 rfl (fun t => (ix9 t).2.2)
    (row_inj ix9) (pt t) (ix2 k d : S256x1024.Idx)
  refine Eq.trans (at2 ((dat0 V c).arrAt 9 cfg0.N : FVec Ideal S2048x1024 .f32) _ _ _ (blk_row (ix9 (pt t)).1) (blk_col (ix9 (pt t)).2.1)).symm (e.trans ?_)
  rw [← rowX, ← rowY, ← rowP V c t, ← wiI V c t, ← woO V c t]
  exact (congrFun ((after0_9 V c (pt t)).trans (by rw [same9])) _).trans (MlpFwd.out9_apply _ _ _ _ _ k d)

end Cert.Mlp1Fwd
-- ==== Proof.Mlp1BwdArr.lean ====
/- The arrays the backward kernel of the MLP sub-layer of layer 1 leaves, row by row, of the arrays it finds. -/
module

public import proofs.«01_k».proof.Proof.MlpBwdArr
public import proofs.«01_k».proof.Proof.Mlp1BwdOut
public import proofs.«01_k».proof.Proof.Mlp1FwdArr

@[expose] public section

set_option maxRecDepth 16384

noncomputable section

namespace Cert.Mlp1Bwd

open Cert.Kernel4Ideal Cert.Kernel4Ideal.Gen Idealize.ShloMosaic Idealize.ShloMosaic.TcCoe
open Idealize.ShloMosaic.Pipeline (Dat)
open Cert.MlpFwd (at2 at4 arr_at row_inj blk_row blk_col)
open Cert.MlpBwd (lw lp lh li lo vM vD vH vX vO vS vDs vX_apply vO_apply vM_apply vDs_apply pay1_apply pay2_apply)

theorem N1 : cfg1.N = 8 := by decide

/-- The grid point of a block of rows. -/
def pt (t : Fin 8) : Fin cfg1.N := ⟨t.val, by rw [N1]; exact t.isLt⟩

variable (V : (c : Dev nD) → (b : Ref sig .tc) → Buf (Elt Ideal) ((c : Thread nD τ).loc b)) (c : Dev nD)

/-- The arrays the region finds. -/
abbrev aC : FVec Ideal S2048x1024 .f32 := V c main_arg10
abbrev aX : FVec Ideal S2048x1024 .f32 := V c main_v11_0
abbrev aR : FVec Ideal S2048x4096 .bf16 := V c main_v11_2
abbrev aM : FVec Ideal S2048x1024 .bf16 := V c main_v11_3
abbrev aY : FVec Ideal S2048x1024 .f32 := V c main_arg1
abbrev aP : FVec Ideal S72x1024 .f32 := V c main_v10
abbrev aI : FVec Ideal S8x2x1024x512 .bf16 := V c main_arg8
abbrev aO : FVec Ideal S8x2x512x1024 .bf16 := V c main_arg9

/-! Where each point's blocks of the inputs lie. -/

theorem ixC : ∀ t : Fin grid1.N, win1_0.index t (0 : Fin 2) = t.val ∧ win1_0.index t (1 : Fin 2) = 0 := by decide +kernel
theorem ixX : ∀ t : Fin grid1.N, win1_1.index t (0 : Fin 2) = t.val ∧ win1_1.index t (1 : Fin 2) = 0 := by decide +kernel
theorem ixR : ∀ t : Fin grid1.N, win1_2.index t (0 : Fin 2) = t.val ∧ win1_2.index t (1 : Fin 2) = 0 := by decide +kernel
theorem ixM : ∀ t : Fin grid1.N, win1_3.index t (0 : Fin 2) = t.val ∧ win1_3.index t (1 : Fin 2) = 0 := by decide +kernel
theorem ixY : ∀ t : Fin grid1.N, win1_4.index t (0 : Fin 2) = t.val ∧ win1_4.index t (1 : Fin 2) = 0 := by decide +kernel
theorem ixP : ∀ t : Fin grid1.N, win1_5.index t (0 : Fin 2) = 0 ∧ win1_5.index t (1 : Fin 2) = 0 := by decide +kernel
theorem ixI : ∀ t : Fin grid1.N, win1_6.index t (0 : Fin 4) = 0 ∧ win1_6.index t (1 : Fin 4) = 1 ∧ win1_6.index t (2 : Fin 4) = 0 ∧ win1_6.index t (3 : Fin 4) = 0 := by decide +kernel
theorem ixO : ∀ t : Fin grid1.N, win1_7.index t (0 : Fin 4) = 0 ∧ win1_7.index t (1 : Fin 4) = 1 ∧ win1_7.index t (2 : Fin 4) = 0 ∧ win1_7.index t (3 : Fin 4) = 0 := by decide +kernel

theorem blk_lay {n : ℕ} (h : n = 1) : n * 1 + 1 * 0 = 1 := by omega

theorem rowC (t : Fin 8) (i : Fin 256) : Mlp.row (iblk1 V c 0 (pt t) : Vec Ideal S256x1024 .f32) i = Mlp.row (aC V c) (Mlp.rof t i) :=
  funext fun _ => at2 (aC V c) _ _ _ (blk_row (ixC (pt t)).1) (blk_col (ixC (pt t)).2)
theorem rowX (t : Fin 8) (i : Fin 256) : Mlp.row (iblk1 V c 1 (pt t) : Vec Ideal S256x1024 .f32) i = Mlp.row (aX V c) (Mlp.rof t i) :=
  funext fun _ => at2 (aX V c) _ _ _ (blk_row (ixX (pt t)).1) (blk_col (ixX (pt t)).2)
theorem rowR (t : Fin 8) (i : Fin 256) : Mlp.row (iblk1 V c 2 (pt t) : Vec Ideal S256x4096 .bf16) i = Mlp.row (aR V c) (Mlp.rof t i) :=
  funext fun _ => at2 (aR V c) _ _ _ (blk_row (ixR (pt t)).1) (blk_col (ixR (pt t)).2)
theorem rowM (t : Fin 8) (i : Fin 256) : Mlp.row (iblk1 V c 3 (pt t) : Vec Ideal S256x1024 .bf16) i = Mlp.row (aM V c) (Mlp.rof t i) :=
  funext fun _ => at2 (aM V c) _ _ _ (blk_row (ixM (pt t)).1) (blk_col (ixM (pt t)).2)
theorem rowY (t : Fin 8) (i : Fin 256) : Mlp.row (iblk1 V c 4 (pt t) : Vec Ideal S256x1024 .f32) i = Mlp.row (aY V c) (Mlp.rof t i) :=
  funext fun _ => at2 (aY V c) _ _ _ (blk_row (ixY (pt t)).1) (blk_col (ixY (pt t)).2)
theorem rowP (t : Fin 8) : Mlp.row (iblk1 V c 5 (pt t) : Vec Ideal S72x1024 .f32) = Mlp.row (aP V c) :=
  funext fun _ => funext fun _ => at2 (aP V c) _ _ _ (blk_col (ixP (pt t)).1) (blk_col (ixP (pt t)).2)
theorem wiI (t : Fin 8) : Mlp.wi (iblk1 V c 6 (pt t) : Vec Ideal S8x1x1024x512 .bf16) 0 = Mlp.wi (aI V c) 1 :=
  funext fun _ => funext fun _ => at4 (aI V c) _ _ _ _ _ (blk_col (ixI (pt t)).1) (blk_lay (ixI (pt t)).2.1) (blk_col (ixI (pt t)).2.2.1)
    (blk_col (ixI (pt t)).2.2.2)
theorem woO (t : Fin 8) : Mlp.wo (iblk1 V c 7 (pt t) : Vec Ideal S8x1x512x1024 .bf16) 0 = Mlp.wo (aO V c) 1 :=
  funext fun _ => funext fun _ => at4 (aO V c) _ _ _ _ _ (blk_col (ixO (pt t)).1) (blk_lay (ixO (pt t)).2.1) (blk_col (ixO (pt t)).2.2.1)
    (blk_col (ixO (pt t)).2.2.2)

/-! What the point leaves, the same in both cases of the body. -/

theorem left8 (t : Fin cfg1.N) : (outsAt1 V c t.val t.isLt).1
    = vX (iblk1 V c 0 t) (iblk1 V c 1 t) (iblk1 V c 2 t) (iblk1 V c 5 t) (iblk1 V c 6 t) (iblk1 V c 7 t) := by
  by_cases h : t.val % 8 = 0
  · rw [outsAt1_A V c t h]; dsimp only; rw [outA_8]
  · rw [outsAt1_B V c t h]; dsimp only; rw [outB_8]
theorem left9 (t : Fin cfg1.N) : (outsAt1 V c t.val t.isLt).2.1
    = vO (iblk1 V c 0 t) (iblk1 V c 1 t) (iblk1 V c 2 t) (iblk1 V c 5 t) (iblk1 V c 6 t) (iblk1 V c 7 t) := by
  by_cases h : t.val % 8 = 0
  · rw [outsAt1_A V c t h]; dsimp only; rw [outA_9]
  · rw [outsAt1_B V c t h]; dsimp only; rw [outB_9]
theorem left10 (t : Fin cfg1.N) : (outsAt1 V c t.val t.isLt).2.2.1 = vM (iblk1 V c 0 t) (iblk1 V c 5 t) := by
  by_cases h : t.val % 8 = 0
  · rw [outsAt1_A V c t h]; dsimp only; rw [outA_10]
  · rw [outsAt1_B V c t h]; dsimp only; rw [outB_10]
theorem left11 (t : Fin cfg1.N) : (outsAt1 V c t.val t.isLt).2.2.2.1
    = View.canon (vDs (iblk1 V c 0 t) (iblk1 V c 2 t) (iblk1 V c 5 t) (iblk1 V c 7 t)) := by
  by_cases h : t.val % 8 = 0
  · rw [outsAt1_A V c t h]; dsimp only; rw [outA_11]
  · rw [outsAt1_B V c t h]; dsimp only; rw [outB_11]

/-- What the point's body adds into the block of sums. -/
def sums (t : Fin cfg1.N) : FVec Ideal S8x1024 .f32 :=
  vS (iblk1 V c 0 t) (iblk1 V c 1 t) (iblk1 V c 2 t) (iblk1 V c 3 t) (iblk1 V c 4 t) (iblk1 V c 5 t) (iblk1 V c 6 t) (iblk1 V c 7 t)

theorem left12_first (t : Fin cfg1.N) (h : t.val % 8 = 0) (y : S8x1024.Idx) :
    (outsAt1 V c t.val t.isLt).2.2.2.2 y = 0 + sums V c t y := by
  have e : (outsAt1 V c t.val t.isLt).2.2.2.2 = Kernel3Ideal.Gen.k1_pay2 (F := Ideal) (sums V c t) (Kernel3Ideal.Gen.k1_pay1 (F := Ideal)) := by
    rw [outsAt1_A V c t h]; dsimp only; rw [outA_12]; rfl
  rw [e, pay2_apply, pay1_apply]
theorem left12_next (t : Fin cfg1.N) (h : ¬t.val % 8 = 0) (y : S8x1024.Idx) :
    (outsAt1 V c t.val t.isLt).2.2.2.2 y
      = (outsAt1 V c (t.val - 1) (Nat.lt_of_le_of_lt (Nat.sub_le _ _) t.isLt)).2.2.2.2 y + sums V c t y := by
  have e : (outsAt1 V c t.val t.isLt).2.2.2.2
      = Kernel3Ideal.Gen.k1_pay2 (sums V c t) (outsAt1 V c (t.val - 1) (Nat.lt_of_le_of_lt (Nat.sub_le _ _) t.isLt)).2.2.2.2 := by
    rw [outsAt1_B V c t h]; dsimp only; rw [outB_12]; rfl
  rw [e, pay2_apply]

/-! The arrays of rows. -/

theorem ix8 : ∀ t : Fin grid1.N, win1_8.index t (0 : Fin 2) = t.val ∧ win1_8.index t (1 : Fin 2) = 0 ∧ win1_8.flush t = true := by decide +kernel
theorem ix9 : ∀ t : Fin grid1.N, win1_9.index t (0 : Fin 2) = t.val ∧ win1_9.index t (1 : Fin 2) = 0 ∧ win1_9.flush t = true := by decide +kernel
theorem ix10 : ∀ t : Fin grid1.N, win1_10.index t (0 : Fin 2) = t.val ∧ win1_10.index t (1 : Fin 2) = 0 ∧ win1_10.flush t = true := by decide +kernel
theorem ix11 : ∀ t : Fin grid1.N, win1_11.index t (0 : Fin 2) = t.val ∧ win1_11.index t (1 : Fin 2) = 0 ∧ win1_11.flush t = true := by decide +kernel

/-- The residual rows' cotangents. -/
theorem arr8 (t : Fin 8) (i : Fin 256) (d : Fin 1024) :
    ((dat1 V c).arrAt 8 cfg1.N : FVec Ideal S2048x1024 .f32) (ix2 (Mlp.rof t i) d)
      = Mlp.bx (Mlp.row (aP V c)) (Mlp.wi (aI V c) 1) (Mlp.wo (aO V c) 1) (Mlp.row (aC V c) (Mlp.rof t i)) (Mlp.row (aX V c) (Mlp.rof t i))
          (Mlp.row (aR V c) (Mlp.rof t i)) d := by
  have e := arr_at (dat1 V c) 8 rfl (fun t => (ix8 t).2.2)
    (row_inj ix8) (pt t) (ix2 i d : S256x1024.Idx)
  refine Eq.trans (at2 ((dat1 V c).arrAt 8 cfg1.N : FVec Ideal S2048x1024 .f32) _ _ _ (blk_row (ix8 (pt t)).1) (blk_col (ix8 (pt t)).2.1)).symm
    (e.trans ?_)
  rw [← rowC, ← rowX, ← rowR, ← rowP V c t, ← wiI V c t, ← woO V c t]
  exact (congrFun ((after1_8 V c (pt t)).trans (left8 V c (pt t))) _).trans (vX_apply _ _ _ _ _ _ i d)
/-- The mixer's rows' cotangents. -/
theorem arr9 (t : Fin 8) (i : Fin 256) (d : Fin 1024) :
    ((dat1 V c).arrAt 9 cfg1.N : FVec Ideal S2048x1024 .bf16) (ix2 (Mlp.rof t i) d)
      = Mlp.bo (Mlp.row (aP V c)) (Mlp.wi (aI V c) 1) (Mlp.wo (aO V c) 1) (Mlp.row (aC V c) (Mlp.rof t i)) (Mlp.row (aX V c) (Mlp.rof t i))
          (Mlp.row (aR V c) (Mlp.rof t i)) d := by
  have e := arr_at (dat1 V c) 9 rfl (fun t => (ix9 t).2.2)
    (row_inj ix9) (pt t) (ix2 i d : S256x1024.Idx)
  refine Eq.trans (at2 ((dat1 V c).arrAt 9 cfg1.N : FVec Ideal S2048x1024 .bf16) _ _ _ (blk_row (ix9 (pt t)).1) (blk_col (ix9 (pt t)).2.1)).symm
    (e.trans ?_)
  rw [← rowC, ← rowX, ← rowR, ← rowP V c t, ← wiI V c t, ← woO V c t]
  exact (congrFun ((after1_9 V c (pt t)).trans (left9 V c (pt t))) _).trans (vO_apply _ _ _ _ _ _ i d)
/-- The output rows' cotangents. -/
theorem arr10 (t : Fin 8) (i : Fin 256) (d : Fin 1024) :
    ((dat1 V c).arrAt 10 cfg1.N : FVec Ideal S2048x1024 .bf16) (ix2 (Mlp.rof t i) d)
      = Mlp.bm (Mlp.row (aP V c)) (Mlp.row (aC V c) (Mlp.rof t i)) d := by
  have e := arr_at (dat1 V c) 10 rfl (fun t => (ix10 t).2.2)
    (row_inj ix10) (pt t) (ix2 i d : S256x1024.Idx)
  refine Eq.trans (at2 ((dat1 V c).arrAt 10 cfg1.N : FVec Ideal S2048x1024 .bf16) _ _ _ (blk_row (ix10 (pt t)).1) (blk_col (ix10 (pt t)).2.1)).symm
    (e.trans ?_)
  rw [← rowC, ← rowP V c t]
  exact (congrFun ((after1_10 V c (pt t)).trans (left10 V c (pt t))) _).trans (vM_apply _ _ i d)
/-- The hidden units' cotangents. -/
theorem arr11 (t : Fin 8) (i : Fin 256) (f : Fin 4096) :
    ((dat1 V c).arrAt 11 cfg1.N : FVec Ideal S2048x4096 .bf16) (ix2 (Mlp.rof t i) f)
      = Mlp.bi (Mlp.row (aP V c)) (Mlp.wo (aO V c) 1) (Mlp.row (aC V c) (Mlp.rof t i)) (Mlp.row (aR V c) (Mlp.rof t i)) f := by
  have e := arr_at (dat1 V c) 11 rfl (fun t => (ix11 t).2.2)
    (row_inj ix11) (pt t) (ix2 i f : S256x4096.Idx)
  refine Eq.trans (at2 ((dat1 V c).arrAt 11 cfg1.N : FVec Ideal S2048x4096 .bf16) _ _ _ (blk_row (ix11 (pt t)).1) (blk_col (ix11 (pt t)).2.1)).symm
    (e.trans ?_)
  rw [← rowC, ← rowR, ← rowP V c t, ← woO V c t]
  exact (congrFun ((after1_11 V c (pt t)).trans (left11 V c (pt t))) _).trans (vDs_apply _ _ _ _ i f)

/-! The sums over all rows. -/

/-- What the body leaves in the block of sums at the last point: the sum over the points. -/
theorem left12_last (y : S8x1024.Idx) : (outsAt1 V c (pt 7).val (pt 7).isLt).2.2.2.2 y = ∑ t : Fin 8, sums V c (pt t) y := by
  have e := Pipeline.eq_sum_of_reset_step_apply_single_of_mod (N := cfg1.N) (M := EReal) (ι := S8x1024.Idx)
    (fun n h => (outsAt1 V c n h).2.2.2.2) 8 (fun _ => 0) (fun n y => if h : n < cfg1.N then sums V c ⟨n, h⟩ y else 0)
    (fun t h y => by rw [left12_first V c t h y, dif_pos t.isLt]) (fun t h y => by rw [left12_next V c t h y, dif_pos t.isLt])
    (by rw [N1]) (pt 7) (r := 7) rfl y
  refine e.trans ?_
  rw [zero_add, Finset.sum_range]
  exact Finset.sum_congr rfl fun t _ => dif_pos (pt t).isLt

theorem whole12 : (cfg1.win 12).WholeAt (pt 7) := by decide +kernel

theorem arr12 (y : S8x1024.Idx) : ((dat1 V c).arrAt 12 cfg1.N : FVec Ideal S8x1024 .f32) y = ∑ t : Fin 8, sums V c (pt t) y := by
  refine Eq.trans ((dat1 V c).arrAt_emb_eq_after_last 12 (pt 7) whole12 y) ?_
  exact (congrFun (after1_12 V c (pt 7)) y).trans (left12_last V c y)

end Cert.Mlp1Bwd
-- ==== Proof.Mlp1Dw.lean ====
/- The two weight gradients of the MLP sub-layer of layer 1, of the arrays their kernels find. -/
module

public import proofs.«01_k».proof.Proof.MlpDw
public import proofs.«01_k».proof.Proof.Mlp1BwdArr

@[expose] public section

set_option maxRecDepth 16384

noncomputable section

namespace Cert.Mlp1Dw

open Cert.Kernel4Ideal Cert.Kernel4Ideal.Gen Idealize.ShloMosaic Idealize.ShloMosaic.TcCoe
open Idealize.ShloMosaic.Pipeline (Dat)
open Cert.MlpFwd (at2 at4 blk_col)
open Cert.MlpBwd (whole_z)
open Cert.MlpDw (whole_z4 in_apply out_apply blk_hid blk_one)

/-! The payloads are layer 0's: a product of the transpose of one array with another. -/

theorem left2 (x0 : Vec Ideal S2048x1024 .bf16) (x1 : Vec Ideal S2048x512 .bf16) : out2_2 x0 x1 = Kernel3Ideal.Gen.k2_pay1 x0 x1 := by
  unfold out2_2
  refine (View.canon_unit_zero whole_z4 _ _).trans ?_
  refine Eq.trans (b := Kernel3Ideal.Gen.k2_pay1
    (View.ld x0 (Rect.unit (s := S2048x1024) ![0, 0] S2048x1024.size inb_S2048x1024_S2048x1024_0_0))
    (View.ld x1 (Rect.unit (s := S2048x512) ![0, 0] S2048x512.size inb_S2048x512_S2048x512_0_0))) rfl ?_
  rw [View.ld_unit_zero whole_z, View.ld_unit_zero whole_z]

theorem left3 (x0 : Vec Ideal S2048x512 .bf16) (x1 : Vec Ideal S2048x1024 .bf16) : out3_2 x0 x1 = Kernel3Ideal.Gen.k3_pay1 x0 x1 := by
  unfold out3_2
  refine (View.canon_unit_zero whole_z4 _ _).trans ?_
  refine Eq.trans (b := Kernel3Ideal.Gen.k3_pay1
    (View.ld x0 (Rect.unit (s := S2048x512) ![0, 0] S2048x512.size inb_S2048x512_S2048x512_0_0))
    (View.ld x1 (Rect.unit (s := S2048x1024) ![0, 0] S2048x1024.size inb_S2048x1024_S2048x1024_0_0))) rfl ?_
  rw [View.ld_unit_zero whole_z, View.ld_unit_zero whole_z]

variable (V : (c : Dev nD) → (b : Ref sig .tc) → Buf (Elt Ideal) ((c : Thread nD τ).loc b)) (c : Dev nD)

/-! Where the blocks lie. -/

theorem N2 : cfg2.N = 8 := by decide
theorem N3 : cfg3.N = 8 := by decide
def pt2 (j : Fin 8) : Fin cfg2.N := ⟨j.val, by rw [N2]; exact j.isLt⟩
def pt3 (j : Fin 8) : Fin cfg3.N := ⟨j.val, by rw [N3]; exact j.isLt⟩

theorem ix2_0 : ∀ t : Fin grid2.N, ∀ a : Fin 2, win2_0.index t a = 0 := by decide +kernel
theorem ix2_1 : ∀ t : Fin grid2.N, win2_1.index t (0 : Fin 2) = 0 ∧ win2_1.index t (1 : Fin 2) = t.val := by decide +kernel
theorem ix2_2 : ∀ t : Fin grid2.N, win2_2.index t (0 : Fin 4) = t.val ∧ win2_2.index t (1 : Fin 4) = 1 ∧ win2_2.index t (2 : Fin 4) = 0
    ∧ win2_2.index t (3 : Fin 4) = 0 ∧ win2_2.flush t = true := by decide +kernel
theorem ix3_0 : ∀ t : Fin grid3.N, win3_0.index t (0 : Fin 2) = 0 ∧ win3_0.index t (1 : Fin 2) = t.val := by decide +kernel
theorem ix3_1 : ∀ t : Fin grid3.N, ∀ a : Fin 2, win3_1.index t a = 0 := by decide +kernel
theorem ix3_2 : ∀ t : Fin grid3.N, win3_2.index t (0 : Fin 4) = t.val ∧ win3_2.index t (1 : Fin 4) = 1 ∧ win3_2.index t (2 : Fin 4) = 0
    ∧ win3_2.index t (3 : Fin 4) = 0 ∧ win3_2.flush t = true := by decide +kernel

/-- The arrays the regions find. -/
abbrev aH : FVec Ideal S2048x1024 .bf16 := V c main_v11_1
abbrev aD : FVec Ideal S2048x4096 .bf16 := V c main_v12_3
abbrev aR : FVec Ideal S2048x4096 .bf16 := V c main_v11_2
abbrev aM : FVec Ideal S2048x1024 .bf16 := V c main_v12_2

theorem rowH (t : Fin cfg2.N) (i : Fin 2048) (d : Fin 1024) : (iblk2 V c 0 t : Vec Ideal S2048x1024 .bf16) (ix2 i d) = aH V c (ix2 i d) :=
  at2 (aH V c) _ _ _ (blk_col (ix2_0 t 0)) (blk_col (ix2_0 t 1))
theorem rowD (j : Fin 8) (i : Fin 2048) (k : Fin 512) :
    (iblk2 V c 1 (pt2 j) : Vec Ideal S2048x512 .bf16) (ix2 i k) = aD V c (ix2 i (Mlp.fof j k)) :=
  at2 (aD V c) _ _ _ (blk_col (ix2_1 (pt2 j)).1) (blk_hid (ix2_1 (pt2 j)).2)
theorem rowR (j : Fin 8) (i : Fin 2048) (k : Fin 512) :
    (iblk3 V c 0 (pt3 j) : Vec Ideal S2048x512 .bf16) (ix2 i k) = aR V c (ix2 i (Mlp.fof j k)) :=
  at2 (aR V c) _ _ _ (blk_col (ix3_0 (pt3 j)).1) (blk_hid (ix3_0 (pt3 j)).2)
theorem rowM (t : Fin cfg3.N) (i : Fin 2048) (d : Fin 1024) : (iblk3 V c 1 t : Vec Ideal S2048x1024 .bf16) (ix2 i d) = aM V c (ix2 i d) :=
  at2 (aM V c) _ _ _ (blk_col (ix3_1 t 0)) (blk_col (ix3_1 t 1))

/-- The first weights' gradient, in the half layer 1 writes. -/
theorem arr2 (j : Fin 8) (d : Fin 1024) (k : Fin 512) :
    ((dat2 V c).arrAt 2 cfg2.N : FVec Ideal S8x2x1024x512 .bf16) (ix4 j (1 : Fin 2) d k)
      = ∑ i : Fin 2048, aH V c (ix2 i d) * aD V c (ix2 i (Mlp.fof j k)) := by
  have e := congrFun ((dat2 V c).read_blk_arrAt_eq_flushed 2
    (fun t t' _ _ hne => (cfg2.win 2).disjoint_blk (hk := rfl) fun h => hne
      (Fin.ext ((ix2_2 t).1.symm.trans ((congrFun h (0 : Fin 4)).trans (ix2_2 t').1)))) cfg2.N (pt2 j) (pt2 j).isLt (ix2_2 (pt2 j)).2.2.2.2)
    (ix4 (0 : Fin 1) (0 : Fin 1) d k : S1x1x1024x512.Idx)
  obtain ⟨h0, h1, h2, h3, -⟩ := ix2_2 (pt2 j)
  refine Eq.trans (at4 ((dat2 V c).arrAt 2 cfg2.N : FVec Ideal S8x2x1024x512 .bf16) _ _ _ _ _ (blk_one h0) (blk_one h1) (blk_col h2)
    (blk_col h3)).symm (e.trans ?_)
  refine (congrFun ((after2_2 V c (pt2 j)).trans (left2 _ _)) _).trans ((in_apply _ _ d k).trans ?_)
  exact Finset.sum_congr rfl fun i _ => congrArg₂ (· * ·) (rowH V c (pt2 j) i d) (rowD V c j i k)

/-- The second weights' gradient, in the half layer 1 writes. -/
theorem arr3 (j : Fin 8) (k : Fin 512) (d : Fin 1024) :
    ((dat3 V c).arrAt 2 cfg3.N : FVec Ideal S8x2x512x1024 .bf16) (ix4 j (1 : Fin 2) k d)
      = ∑ i : Fin 2048, aR V c (ix2 i (Mlp.fof j k)) * aR V c (ix2 i (Mlp.fof j k)) * aM V c (ix2 i d) := by
  have e := congrFun ((dat3 V c).read_blk_arrAt_eq_flushed 2
    (fun t t' _ _ hne => (cfg3.win 2).disjoint_blk (hk := rfl) fun h => hne
      (Fin.ext ((ix3_2 t).1.symm.trans ((congrFun h (0 : Fin 4)).trans (ix3_2 t').1)))) cfg3.N (pt3 j) (pt3 j).isLt (ix3_2 (pt3 j)).2.2.2.2)
    (ix4 (0 : Fin 1) (0 : Fin 1) k d : S1x1x512x1024.Idx)
  obtain ⟨h0, h1, h2, h3, -⟩ := ix3_2 (pt3 j)
  refine Eq.trans (at4 ((dat3 V c).arrAt 2 cfg3.N : FVec Ideal S8x2x512x1024 .bf16) _ _ _ _ _ (blk_one h0) (blk_one h1) (blk_col h2)
    (blk_col h3)).symm (e.trans ?_)
  refine (congrFun ((after3_2 V c (pt3 j)).trans (left3 _ _)) _).trans ((out_apply _ _ k d).trans ?_)
  refine Finset.sum_congr rfl fun i _ => ?_
  rw [rowM V c (pt3 j) i d]
  exact congrArg₂ (fun a b => a * b * aM V c (ix2 i d)) (rowR V c j i k) (rowR V c j i k)

end Cert.Mlp1Dw
-- ==== Proof.Mlp1Fold.lean ====
/- What each result of the program of layer 1's MLP sub-layer holds after its run, row by row, of the arrays as launched. -/
module

public import proofs.«01_k».proof.Proof.Mlp1Run
public import proofs.«01_k».proof.Proof.Mlp1Dw
public import proofs.«01_k».proof.Proof.MlpFold

@[expose] public section

set_option maxRecDepth 16384

noncomputable section

namespace Cert.Mlp1Fold

open Cert.Kernel4Ideal Cert.Kernel4Ideal.Gen Idealize.ShloMosaic Idealize.ShloMosaic.TcCoe Idealize.ShloMosaic.Tactic

variable (m : (ℓ : Loc nD τ sig) → Buf (Elt Ideal) ℓ) (ρ : Dev nD → PrngReg) (c : Dev nD)

/-- The arrays as launched. -/
abbrev gX : FVec Ideal S2048x1024 .f32 := m ((c : Thread nD τ).loc main_arg0)
abbrev gY : FVec Ideal S2048x1024 .f32 := m ((c : Thread nD τ).loc main_arg1)
abbrev gG1 : FVec Ideal S1x1024 .f32 := m ((c : Thread nD τ).loc main_arg2)
abbrev gB : FVec Ideal S1x1024 .f32 := m ((c : Thread nD τ).loc main_arg3)
abbrev gN : FVec Ideal S1x1024 .f32 := m ((c : Thread nD τ).loc main_arg4)
abbrev gSc : FVec Ideal S1x1024 .f32 := m ((c : Thread nD τ).loc main_arg5)
abbrev gSh : FVec Ideal S1x1024 .f32 := m ((c : Thread nD τ).loc main_arg6)
abbrev gG2 : FVec Ideal S1x1024 .f32 := m ((c : Thread nD τ).loc main_arg7)
abbrev gI : FVec Ideal S8x2x1024x512 .bf16 := m ((c : Thread nD τ).loc main_arg8)
abbrev gO : FVec Ideal S8x2x512x1024 .bf16 := m ((c : Thread nD τ).loc main_arg9)
abbrev gC : FVec Ideal S2048x1024 .f32 := m ((c : Thread nD τ).loc main_arg10)

/-- The rows of the parameter block the host lines build. -/
abbrev Pr : Fin 72 → Mlp.Row := Mlp.row (Mlp1Fwd.aP (V1 m ρ) c)

theorem pars (d : Fin 1024) :
    Pr m ρ c 0 d = Mlp.row (gG1 m c) 0 d ∧
    Pr m ρ c 8 d = Mlp.row (gB m c) 0 d ∧
    Pr m ρ c 16 d = Mlp.row (gN m c) 0 d ∧
    Pr m ρ c 24 d = Mlp.row (gSc m c) 0 d ∧
    Pr m ρ c 32 d = Mlp.row (gSh m c) 0 d ∧
    Pr m ρ c 40 d = Mlp.row (gG2 m c) 0 d := by
  refine ⟨?_, ?_, ?_, ?_, ?_, ?_⟩ <;>
  · show (V1 m ρ c main_v10 : FVec Ideal S72x1024 .f32) (ix2 _ d) = _
    unfold V1 W1
    after_results
    pointwise
    after_results_simp
    pointwise <;> rfl
theorem par_0 : Pr m ρ c 0 = Mlp.row (gG1 m c) 0 := funext fun d => (pars m ρ c d).1
theorem par_8 : Pr m ρ c 8 = Mlp.row (gB m c) 0 := funext fun d => (pars m ρ c d).2.1
theorem par_16 : Pr m ρ c 16 = Mlp.row (gN m c) 0 := funext fun d => (pars m ρ c d).2.2.1
theorem par_24 : Pr m ρ c 24 = Mlp.row (gSc m c) 0 := funext fun d => (pars m ρ c d).2.2.2.1
theorem par_32 : Pr m ρ c 32 = Mlp.row (gSh m c) 0 := funext fun d => (pars m ρ c d).2.2.2.2.1
theorem par_40 : Pr m ρ c 40 = Mlp.row (gG2 m c) 0 := funext fun d => (pars m ρ c d).2.2.2.2.2

/-! The layer's rows and their cotangents. -/

abbrev Wi : Fin 1024 → Fin 4096 → EReal := Mlp.wi (gI m c) 1
abbrev Wo : Fin 4096 → Fin 1024 → EReal := Mlp.wo (gO m c) 1
def rX (i : Fin 2048) : Mlp.Row := Mlp.fx (Pr m ρ c) (Mlp.row (gX m c) i) (Mlp.row (gY m c) i)
def rH (i : Fin 2048) : Mlp.Row := Mlp.fh (Pr m ρ c) (Mlp.row (gX m c) i) (Mlp.row (gY m c) i)
def rR (i : Fin 2048) : Mlp.Hid := Mlp.fr (Pr m ρ c) (Wi m c) (Mlp.row (gX m c) i) (Mlp.row (gY m c) i)
def rM (i : Fin 2048) : Mlp.Row := Mlp.fm (Pr m ρ c) (Wi m c) (Wo m c) (Mlp.row (gX m c) i) (Mlp.row (gY m c) i)
def rO (i : Fin 2048) : Mlp.Row := Mlp.fo (Pr m ρ c) (Wi m c) (Wo m c) (Mlp.row (gX m c) i) (Mlp.row (gY m c) i)
def cM (i : Fin 2048) : Mlp.Row := Mlp.bm (Pr m ρ c) (Mlp.row (gC m c) i)
def cI (i : Fin 2048) : Mlp.Hid := Mlp.bi (Pr m ρ c) (Wo m c) (Mlp.row (gC m c) i) (rR m ρ c i)
def cH (i : Fin 2048) : Mlp.Row := Mlp.bh (Pr m ρ c) (Wi m c) (Wo m c) (Mlp.row (gC m c) i) (rR m ρ c i)
def cX (i : Fin 2048) : Mlp.Row := Mlp.bx (Pr m ρ c) (Wi m c) (Wo m c) (Mlp.row (gC m c) i) (rX m ρ c i) (rR m ρ c i)

/-! What the forward region leaves. -/

theorem fX : Mlp1Fwd.aX (V1 m ρ) c = gX m c := W1_args m ρ c main_arg0 (by decide)
theorem fY : Mlp1Fwd.aY (V1 m ρ) c = gY m c := W1_args m ρ c main_arg1 (by decide)
theorem fI : Mlp1Fwd.aI (V1 m ρ) c = gI m c := W1_args m ρ c main_arg8 (by decide)
theorem fO : Mlp1Fwd.aO (V1 m ρ) c = gO m c := W1_args m ρ c main_arg9 (by decide)

theorem two_x (i : Fin 2048) (d : Fin 1024) : (W2 m ρ c (Proc.devRef .tc main_v11_0) : FVec Ideal S2048x1024 .f32) (ix2 i d) = rX m ρ c i d := by
  refine (congrFun (W2_arr m ρ c 5) _).trans ((Mlp1Fwd.arr5 (V1 m ρ) c i d).trans ?_)
  rw [fX, fY]; rfl
theorem two_h (i : Fin 2048) (d : Fin 1024) : (W2 m ρ c (Proc.devRef .tc main_v11_1) : FVec Ideal S2048x1024 .bf16) (ix2 i d) = rH m ρ c i d := by
  refine (congrFun (W2_arr m ρ c 6) _).trans ((Mlp1Fwd.arr6 (V1 m ρ) c i d).trans ?_)
  rw [fX, fY]; rfl
theorem two_r (i : Fin 2048) (d : Fin 4096) : (W2 m ρ c (Proc.devRef .tc main_v11_2) : FVec Ideal S2048x4096 .bf16) (ix2 i d) = rR m ρ c i d := by
  refine (congrFun (W2_arr m ρ c 7) _).trans ((Mlp1Fwd.arr7 (V1 m ρ) c i d).trans ?_)
  rw [fX, fY, fI]; rfl
theorem two_m (i : Fin 2048) (d : Fin 1024) : (W2 m ρ c (Proc.devRef .tc main_v11_3) : FVec Ideal S2048x1024 .bf16) (ix2 i d) = rM m ρ c i d := by
  refine (congrFun (W2_arr m ρ c 8) _).trans ((Mlp1Fwd.arr8 (V1 m ρ) c i d).trans ?_)
  rw [fX, fY, fI, fO]; rfl
theorem two_o (i : Fin 2048) (d : Fin 1024) : (W2 m ρ c (Proc.devRef .tc main_v11_4) : FVec Ideal S2048x1024 .f32) (ix2 i d) = rO m ρ c i d := by
  refine (congrFun (W2_arr m ρ c 9) _).trans ((Mlp1Fwd.arr9 (V1 m ρ) c i d).trans ?_)
  rw [fX, fY, fI, fO]; rfl

/-! What the backward region finds and leaves. -/

theorem bC : Mlp1Bwd.aC (V2 m ρ) c = gC m c := W2_args m ρ c main_arg10 (by decide)
theorem bY : Mlp1Bwd.aY (V2 m ρ) c = gY m c := W2_args m ρ c main_arg1 (by decide)
theorem bI : Mlp1Bwd.aI (V2 m ρ) c = gI m c := W2_args m ρ c main_arg8 (by decide)
theorem bO : Mlp1Bwd.aO (V2 m ρ) c = gO m c := W2_args m ρ c main_arg9 (by decide)
theorem bP : Mlp1Bwd.aP (V2 m ρ) c = Mlp1Fwd.aP (V1 m ρ) c := W2_of m ρ c main_v10 (by decide +kernel)
theorem bX (i : Fin 2048) : Mlp.row (Mlp1Bwd.aX (V2 m ρ) c) i = rX m ρ c i := funext fun d => two_x m ρ c i d
theorem bR (i : Fin 2048) : Mlp.row (Mlp1Bwd.aR (V2 m ρ) c) i = rR m ρ c i := funext fun d => two_r m ρ c i d
theorem bM (i : Fin 2048) : Mlp.row (Mlp1Bwd.aM (V2 m ρ) c) i = rM m ρ c i := funext fun d => two_m m ρ c i d

theorem three_x (i : Fin 2048) (d : Fin 1024) : (W3 m ρ c (Proc.devRef .tc main_v12_0) : FVec Ideal S2048x1024 .f32) (ix2 i d) = cX m ρ c i d := by
  obtain ⟨t, k, rfl⟩ : ∃ t k, i = Mlp.rof t k := ⟨_, _, (Mlp.rof_rt_ri i).symm⟩
  refine (congrFun (W3_arr m ρ c 8) _).trans ((Mlp1Bwd.arr8 (V2 m ρ) c t k d).trans ?_)
  rw [bC, bX, bR, bI, bO, bP]; rfl
theorem three_o (i : Fin 2048) (d : Fin 1024) : (W3 m ρ c (Proc.devRef .tc main_v12_1) : FVec Ideal S2048x1024 .bf16) (ix2 i d)
    = Pr m ρ c 0 d * cX m ρ c i d := by
  obtain ⟨t, k, rfl⟩ : ∃ t k, i = Mlp.rof t k := ⟨_, _, (Mlp.rof_rt_ri i).symm⟩
  refine (congrFun (W3_arr m ρ c 9) _).trans ((Mlp1Bwd.arr9 (V2 m ρ) c t k d).trans ?_)
  rw [bC, bX, bR, bI, bO, bP]; rfl
theorem three_m (i : Fin 2048) (d : Fin 1024) : (W3 m ρ c (Proc.devRef .tc main_v12_2) : FVec Ideal S2048x1024 .bf16) (ix2 i d) = cM m ρ c i d := by
  obtain ⟨t, k, rfl⟩ : ∃ t k, i = Mlp.rof t k := ⟨_, _, (Mlp.rof_rt_ri i).symm⟩
  refine (congrFun (W3_arr m ρ c 10) _).trans ((Mlp1Bwd.arr10 (V2 m ρ) c t k d).trans ?_)
  rw [bC, bP]; rfl
theorem three_i (i : Fin 2048) (f : Fin 4096) : (W3 m ρ c (Proc.devRef .tc main_v12_3) : FVec Ideal S2048x4096 .bf16) (ix2 i f) = cI m ρ c i f := by
  obtain ⟨t, k, rfl⟩ : ∃ t k, i = Mlp.rof t k := ⟨_, _, (Mlp.rof_rt_ri i).symm⟩
  refine (congrFun (W3_arr m ρ c 11) _).trans ((Mlp1Bwd.arr11 (V2 m ρ) c t k f).trans ?_)
  rw [bC, bR, bO, bP]; rfl

/-- A row of the block of sums, as the sum over the points. -/
theorem three_s (a : Fin 8) (d : Fin 1024) : (W3 m ρ c (Proc.devRef .tc main_v12_4) : FVec Ideal S8x1024 .f32) (ix2 a d)
    = ∑ t : Fin 8, Mlp1Bwd.sums (V2 m ρ) c (Mlp1Bwd.pt t) (ix2 a d) :=
  (congrFun (W3_arr m ρ c 12) _).trans (Mlp1Bwd.arr12 (V2 m ρ) c (ix2 a d))

theorem sum_0 (d : Fin 1024) : (W3 m ρ c (Proc.devRef .tc main_v12_4) : FVec Ideal S8x1024 .f32) (ix2 (0 : Fin 8) d)
    = ∑ i : Fin 2048, cX m ρ c i d * (Mlp.row (gY m c) i d + Pr m ρ c 8 d) := by
  refine (three_s m ρ c 0 d).trans (MlpFold.over_rows _ fun t => (MlpBwd.vS_0 _ _ _ _ _ _ _ _ d).trans (Finset.sum_congr rfl fun i _ => ?_))
  rw [Mlp1Bwd.rowC, Mlp1Bwd.rowX, Mlp1Bwd.rowR, Mlp1Bwd.rowY, Mlp1Bwd.rowP, Mlp1Bwd.wiI, Mlp1Bwd.woO, bC, bX, bR, bY, bI, bO, bP]; rfl
theorem sum_2 (d : Fin 1024) : (W3 m ρ c (Proc.devRef .tc main_v12_4) : FVec Ideal S8x1024 .f32) (ix2 (2 : Fin 8) d)
    = ∑ i : Fin 2048, Mlp.q (rX m ρ c i) d * Mlp.dn (Pr m ρ c 24) (cH m ρ c i) d := by
  refine (three_s m ρ c 2 d).trans (MlpFold.over_rows _ fun t => (MlpBwd.vS_2 _ _ _ _ _ _ _ _ d).trans (Finset.sum_congr rfl fun i _ => ?_))
  rw [Mlp1Bwd.rowC, Mlp1Bwd.rowX, Mlp1Bwd.rowR, Mlp1Bwd.rowP, Mlp1Bwd.wiI, Mlp1Bwd.woO, bC, bX, bR, bI, bO, bP]; rfl
theorem sum_3 (d : Fin 1024) : (W3 m ρ c (Proc.devRef .tc main_v12_4) : FVec Ideal S8x1024 .f32) (ix2 (3 : Fin 8) d)
    = ∑ i : Fin 2048, Mlp.nr (rX m ρ c i) (Pr m ρ c 16) d * cH m ρ c i d := by
  refine (three_s m ρ c 3 d).trans (MlpFold.over_rows _ fun t => (MlpBwd.vS_3 _ _ _ _ _ _ _ _ d).trans (Finset.sum_congr rfl fun i _ => ?_))
  rw [Mlp1Bwd.rowC, Mlp1Bwd.rowX, Mlp1Bwd.rowR, Mlp1Bwd.rowP, Mlp1Bwd.wiI, Mlp1Bwd.woO, bC, bX, bR, bI, bO, bP]; rfl
theorem sum_4 (d : Fin 1024) : (W3 m ρ c (Proc.devRef .tc main_v12_4) : FVec Ideal S8x1024 .f32) (ix2 (4 : Fin 8) d)
    = ∑ i : Fin 2048, cH m ρ c i d := by
  refine (three_s m ρ c 4 d).trans (MlpFold.over_rows _ fun t => (MlpBwd.vS_4 _ _ _ _ _ _ _ _ d).trans (Finset.sum_congr rfl fun i _ => ?_))
  rw [Mlp1Bwd.rowC, Mlp1Bwd.rowR, Mlp1Bwd.rowP, Mlp1Bwd.wiI, Mlp1Bwd.woO, bC, bR, bI, bO, bP]; rfl
theorem sum_5 (d : Fin 1024) : (W3 m ρ c (Proc.devRef .tc main_v12_4) : FVec Ideal S8x1024 .f32) (ix2 (5 : Fin 8) d)
    = ∑ i : Fin 2048, Mlp.row (gC m c) i d * rM m ρ c i d := by
  refine (three_s m ρ c 5 d).trans (MlpFold.over_rows _ fun t => (MlpBwd.vS_5 _ _ _ _ _ _ _ _ d).trans (Finset.sum_congr rfl fun i _ => ?_))
  rw [Mlp1Bwd.rowC, Mlp1Bwd.rowM, bC, bM]

/-! What the two weight-gradient regions find. -/

theorem dH (i : Fin 2048) (d : Fin 1024) : Mlp1Dw.aH (V3 m ρ) c (ix2 i d) = rH m ρ c i d :=
  (congrFun (W3_of m ρ c main_v11_1 (by decide +kernel)) _).trans (two_h m ρ c i d)
theorem dD (i : Fin 2048) (f : Fin 4096) : Mlp1Dw.aD (V3 m ρ) c (ix2 i f) = cI m ρ c i f := three_i m ρ c i f
theorem dR (i : Fin 2048) (f : Fin 4096) : Mlp1Dw.aR (V4 m ρ) c (ix2 i f) = rR m ρ c i f :=
  (congrFun ((W4_of m ρ c main_v11_2 (by decide +kernel)).trans (W3_of m ρ c main_v11_2 (by decide +kernel))) _).trans (two_r m ρ c i f)
theorem dM (i : Fin 2048) (d : Fin 1024) : Mlp1Dw.aM (V4 m ρ) c (ix2 i d) = cM m ρ c i d :=
  (congrFun (W4_of m ρ c main_v12_2 (by decide +kernel)) _).trans (three_m m ρ c i d)

/-! The results. -/

/-- A buffer no later item writes holds at the end what the backward region's exit holds. -/
theorem last_of (r : Ref sig .tc) (h6 : r ∉ hostOps4_W) (h5 : ∀ w : Fin cfg3.W, Pipeline.arrRef spec3 w = r → (cfg3.win w).isOut = false)
    (h4 : ∀ w : Fin cfg2.W, Pipeline.arrRef spec2 w = r → (cfg2.win w).isOut = false) :
    W6 m ρ c (Proc.devRef .tc r) = W3 m ρ c (Proc.devRef .tc r) :=
  (W6_of m ρ c r h6).trans ((W5_of m ρ c r h5).trans (W4_of m ρ c r h4))
theorem sums_of : W5 m ρ c (Proc.devRef .tc main_v12_4) = W3 m ρ c (Proc.devRef .tc main_v12_4) :=
  (W5_of m ρ c _ (by decide +kernel)).trans (W4_of m ρ c _ (by decide +kernel))
theorem wi_of : W5 m ρ c (Proc.devRef .tc main_v13) = (dat2 (V3 m ρ) c).arrAt 2 cfg2.N :=
  (W5_of m ρ c _ (by decide +kernel)).trans (W4_arr m ρ c 2)

theorem out_x2 (i : Fin 2048) (d : Fin 1024) : (W6 m ρ c (Proc.devRef .tc main_v11_4) : FVec Ideal S2048x1024 .f32) (ix2 i d) = rO m ρ c i d :=
  (congrFun ((last_of m ρ c main_v11_4 (by decide) (by decide +kernel) (by decide +kernel)).trans
    (W3_of m ρ c main_v11_4 (by decide +kernel))) _).trans (two_o m ρ c i d)
theorem out_dx (i : Fin 2048) (d : Fin 1024) : (W6 m ρ c (Proc.devRef .tc main_v12_0) : FVec Ideal S2048x1024 .f32) (ix2 i d) = cX m ρ c i d :=
  (congrFun (last_of m ρ c main_v12_0 (by decide) (by decide +kernel) (by decide +kernel)) _).trans (three_x m ρ c i d)
theorem out_do (i : Fin 2048) (d : Fin 1024) : (W6 m ρ c (Proc.devRef .tc main_v12_1) : FVec Ideal S2048x1024 .bf16) (ix2 i d)
    = Pr m ρ c 0 d * cX m ρ c i d :=
  (congrFun (last_of m ρ c main_v12_1 (by decide) (by decide +kernel) (by decide +kernel)) _).trans (three_o m ρ c i d)
theorem out_dg1 (d : Fin 1024) : (W6 m ρ c (Proc.devRef .tc main_v15) : FVec Ideal S1x1024 .f32) (ix2 0 d)
    = ∑ i : Fin 2048, cX m ρ c i d * (Mlp.row (gY m c) i d + Pr m ρ c 8 d) := by
  refine Eq.trans ?_ ((congrFun (sums_of m ρ c) _).trans (sum_0 m ρ c d))
  unfold W6
  after_results
  pointwise
theorem out_dng (d : Fin 1024) : (W6 m ρ c (Proc.devRef .tc main_v17) : FVec Ideal S1x1024 .f32) (ix2 0 d)
    = ∑ i : Fin 2048, Mlp.q (rX m ρ c i) d * Mlp.dn (Pr m ρ c 24) (cH m ρ c i) d := by
  refine Eq.trans ?_ ((congrFun (sums_of m ρ c) _).trans (sum_2 m ρ c d))
  unfold W6
  after_results
  pointwise
theorem out_dsc (d : Fin 1024) : (W6 m ρ c (Proc.devRef .tc main_v18) : FVec Ideal S1x1024 .f32) (ix2 0 d)
    = ∑ i : Fin 2048, Mlp.nr (rX m ρ c i) (Pr m ρ c 16) d * cH m ρ c i d := by
  refine Eq.trans ?_ ((congrFun (sums_of m ρ c) _).trans (sum_3 m ρ c d))
  unfold W6
  after_results
  pointwise
theorem out_dsh (d : Fin 1024) : (W6 m ρ c (Proc.devRef .tc main_v19) : FVec Ideal S1x1024 .f32) (ix2 0 d)
    = ∑ i : Fin 2048, cH m ρ c i d := by
  refine Eq.trans ?_ ((congrFun (sums_of m ρ c) _).trans (sum_4 m ρ c d))
  unfold W6
  after_results
  pointwise
theorem out_dg2 (d : Fin 1024) : (W6 m ρ c (Proc.devRef .tc main_v20) : FVec Ideal S1x1024 .f32) (ix2 0 d)
    = ∑ i : Fin 2048, Mlp.row (gC m c) i d * rM m ρ c i d := by
  refine Eq.trans ?_ ((congrFun (sums_of m ρ c) _).trans (sum_5 m ρ c d))
  unfold W6
  after_results
  pointwise
theorem out_dwi (j : Fin 8) (d : Fin 1024) (k : Fin 512) :
    (W6 m ρ c (Proc.devRef .tc main_v22) : FVec Ideal S8x1024x512 .bf16) (ix3 j d k) = ∑ i : Fin 2048, rH m ρ c i d * cI m ρ c i (Mlp.fof j k) := by
  have e : (∑ i : Fin 2048, (Mlp1Dw.aH (V3 m ρ) c (ix2 i d) : EReal) * Mlp1Dw.aD (V3 m ρ) c (ix2 i (Mlp.fof j k)))
      = ∑ i : Fin 2048, rH m ρ c i d * cI m ρ c i (Mlp.fof j k) :=
    Finset.sum_congr rfl fun i _ => congrArg₂ (· * ·) (dH m ρ c i d) (dD m ρ c i _)
  refine Eq.trans ?_ ((congrFun (wi_of m ρ c) _).trans ((Mlp1Dw.arr2 (V3 m ρ) c j d k).trans e))
  unfold W6
  after_results
  pointwise
theorem out_dwo (j : Fin 8) (k : Fin 512) (d : Fin 1024) :
    (W6 m ρ c (Proc.devRef .tc main_v24) : FVec Ideal S8x512x1024 .bf16) (ix3 j k d)
      = ∑ i : Fin 2048, rR m ρ c i (Mlp.fof j k) * rR m ρ c i (Mlp.fof j k) * cM m ρ c i d := by
  have e : (∑ i : Fin 2048, (Mlp1Dw.aR (V4 m ρ) c (ix2 i (Mlp.fof j k)) : EReal) * Mlp1Dw.aR (V4 m ρ) c (ix2 i (Mlp.fof j k))
        * Mlp1Dw.aM (V4 m ρ) c (ix2 i d))
      = ∑ i : Fin 2048, rR m ρ c i (Mlp.fof j k) * rR m ρ c i (Mlp.fof j k) * cM m ρ c i d :=
    Finset.sum_congr rfl fun i _ => by rw [dR, dM]
  refine Eq.trans ?_ ((congrFun (W5_arr m ρ c 2) _).trans ((Mlp1Dw.arr3 (V4 m ρ) c j k d).trans e))
  unfold W6
  after_results
  pointwise

end Cert.Mlp1Fold
-- ==== Proof.Mlp1Ref.lean ====
/-
  THE REFERENCE OF LAYER 1, LINE BY LINE. Its lines are layer 0's but for the first (the mixer's rows come without their bias, and
  the residual array is the layer's own rows) and the weights' half; each result is these lines composed.
-/
module

public import proofs.«01_k».proof.Proof.MlpRef
public import proofs.«01_k».proof.Proof.Gen.Reference4Ideal.Run
public import Idealize.ShloMosaic.Lib.IdealHost

@[expose] public section

set_option maxRecDepth 16384

noncomputable section

namespace Cert.Mlp1Ref

open Cert.MlpRef hiding gX gY gG1 gN gSc gSh gG2 gI gO gC gOI gOO aX aH aHid aM aDm aDi aDh aDn aDx res_0 res_1 res_2 res_3 res_4 res_5 res_6 res_7 res_8 res_9 Wi Wo rX rH rR rM cM cI cH cX wi_eq wo_eq ct_eq row_X row_H row_R row_M row_Dm row_Di row_Dh row_Dn row_Dx out_x2 out_dx out_do out_dg1 out_dng out_dsc out_dsh out_dg2 out_dwi out_dwo out_dwi_other out_dwo_other

open Cert.Reference4Ideal Cert.Reference4Ideal.Gen Cert.Reference4Ideal.Value Idealize.ShloMosaic Idealize.ShloMosaic.TcCoe Idealize.ShloMosaic.Tactic

/-- The residual rows, from the mixer's rows under their bias. -/
def lX1 (a0 : Feat) (y : Feat) (a2 : Par) : Feat := addf a0 (mulf (under a2) y)
def lY (a1 : Feat) (a3 : Par) : Feat := addf a1 (under a3)
def lWi1 (a8 : FVec Ideal S8x2x1024x512 .bf16) : WIn :=
  shapeCast _ (transpose S1024x8x512 [1, 0, 2] (extf .f32 (shapeCast _ (extractStridedSlice S8x1x1024x512 ![0, 1, 0, 0] a8
    slices_S8x2x1024x512_S8x1x1024x512_0_1_0_0) shapeCasts_S8x1x1024x512_S8x1024x512) bitsLt_bf16_f32)
    transposes_S8x1024x512_S1024x8x512_1_0_2) shapeCasts_S1024x8x512_S1024x4096
def lWo1 (a9 : FVec Ideal S8x2x512x1024 .bf16) : WOut :=
  shapeCast _ (extf .f32 (shapeCast _ (extractStridedSlice S8x1x512x1024 ![0, 1, 0, 0] a9
    slices_S8x2x512x1024_S8x1x512x1024_0_1_0_0) shapeCasts_S8x1x512x1024_S8x512x1024) bitsLt_bf16_f32) shapeCasts_S8x512x1024_S4096x1024

theorem lY_at (a1 : Feat) (a3 : Par) (i : Fin 2048) (d : Fin 1024) : lY a1 a3 (ix2 i d) = a1 (ix2 i d) + Mlp.row a3 0 d := by
  rw [lY]
  pointwise
  rw [under_at]
theorem lX1_at (a0 y : Feat) (a2 : Par) (i : Fin 2048) (d : Fin 1024) :
    lX1 a0 y a2 (ix2 i d) = a0 (ix2 i d) + Mlp.row a2 0 d * y (ix2 i d) := by
  rw [lX1]
  pointwise
  rw [under_at]
theorem lWi1_at (a8 : FVec Ideal S8x2x1024x512 .bf16) (d : Fin 1024) (f : Fin 4096) : lWi1 a8 (ix2 d f) = Mlp.wi a8 1 d f := by
  rw [lWi1]
  pointwise
  rfl
theorem lWo1_at (a9 : FVec Ideal S8x2x512x1024 .bf16) (f : Fin 4096) (d : Fin 1024) : lWo1 a9 (ix2 f d) = Mlp.wo a9 1 f d := by
  rw [lWo1]
  pointwise
  rfl

/-! The reference's arguments, and its lines on them. -/

variable (m : (ℓ : Loc nD τ sig) → Buf (Elt Ideal) ℓ) (c : Dev nD)

abbrev gX : Feat := m ((c.tc : Thread nD τ).loc main_arg0)
abbrev gY : Feat := m ((c.tc : Thread nD τ).loc main_arg1)
abbrev gG1 : Par := m ((c.tc : Thread nD τ).loc main_arg2)
abbrev gB : Par := m ((c.tc : Thread nD τ).loc main_arg3)
abbrev gN : Par := m ((c.tc : Thread nD τ).loc main_arg4)
abbrev gSc : Par := m ((c.tc : Thread nD τ).loc main_arg5)
abbrev gSh : Par := m ((c.tc : Thread nD τ).loc main_arg6)
abbrev gG2 : Par := m ((c.tc : Thread nD τ).loc main_arg7)
abbrev gI : FVec Ideal S8x2x1024x512 .bf16 := m ((c.tc : Thread nD τ).loc main_arg8)
abbrev gO : FVec Ideal S8x2x512x1024 .bf16 := m ((c.tc : Thread nD τ).loc main_arg9)
abbrev gC : Feat := m ((c.tc : Thread nD τ).loc main_arg10)

def aY : Feat := lY (gY m c) (gB m c)
def aX : Feat := lX1 (gX m c) (aY m c) (gG1 m c)
def aH : Feat := lH (aX m c) (gN m c) (gSc m c) (gSh m c)
def aHid : Hidd := lHid (aH m c) (lWi1 (gI m c))
def aM : Feat := lMo (lR (aHid m c)) (lWo1 (gO m c))
def aDm : Feat := lDm (gG2 m c) (lCt (gC m c))
def aDi : Hidd := lDi (aHid m c) (aDm m c) (lWo1 (gO m c))
def aDh : Feat := lDh (aDi m c) (lWi1 (gI m c))
def aDn : Feat := lDn (aDh m c) (gSc m c)
def aDx : Feat := lDx (lCt (gC m c)) (aX m c) (lDq (aDn m c) (gN m c))

theorem res_0 : res_out0 m c = lO (aX m c) (gG2 m c) (aM m c) := rfl
theorem res_1 : res_out1 m c = aDx m c := rfl
theorem res_2 : res_out2 m c = truncf .bf16 (mulf (under (gG1 m c)) (aDx m c)) bitsLt_bf16_f32 := rfl
theorem res_3 : res_out3 m c = down (mulf (aDx m c) (aY m c)) := rfl
theorem res_4 : res_out4 m c = down (mulf (lQ (aX m c)) (aDn m c)) := rfl
theorem res_5 : res_out5 m c = down (mulf (lN (aX m c) (gN m c)) (aDh m c)) := rfl
theorem res_6 : res_out6 m c = down (aDh m c) := rfl
theorem res_7 : res_out7 m c = down (mulf (lCt (gC m c)) (aM m c)) := rfl

/-- The first weights' gradient, in the weights' own shape. -/
def lDwi1 (di : Hidd) (h : Feat) : FVec Ideal S8x1024x512 .bf16 :=
  truncf .bf16 (transpose S8x1024x512 [1, 0, 2] (shapeCast _ (transpose S1024x4096 [1, 0] (Host.dotGeneral dot_S2048x4096_S2048x1024_S4096x1024_0_0_1_1_n_n none di h) transposes_S4096x1024_S1024x4096_1_0) shapeCasts_S1024x4096_S1024x8x512) transposes_S1024x8x512_S8x1024x512_1_0_2) bitsLt_bf16_f32
/-- The second weights' gradient, likewise. -/
def lDwo1 (dm : Feat) (act : Hidd) : FVec Ideal S8x512x1024 .bf16 :=
  truncf .bf16 (shapeCast _ (transpose S4096x1024 [1, 0] (Host.dotGeneral dot_S2048x1024_S2048x4096_S1024x4096_0_0_1_1_n_n none dm act) transposes_S1024x4096_S4096x1024_1_0) shapeCasts_S4096x1024_S8x512x1024) bitsLt_bf16_f32

theorem lDwi1_at (di : Hidd) (h : Feat) (j : Fin 8) (d : Fin 1024) (k : Fin 512) :
    lDwi1 di h (ix3 j d k) = ∑ i : Fin 2048, di (ix2 i (Mlp.fof j k)) * h (ix2 i d) := by
  rw [lDwi1]
  pointwise
  rw [fof_form]
theorem lDwo1_at (dm : Feat) (act : Hidd) (j : Fin 8) (k : Fin 512) (d : Fin 1024) :
    lDwo1 dm act (ix3 j k d) = ∑ i : Fin 2048, dm (ix2 i d) * act (ix2 i (Mlp.fof j k)) := by
  rw [lDwo1]
  pointwise
  rw [fof_form]

theorem res_8 : res_out8 m c = lDwi1 (aDi m c) (aH m c) := rfl
theorem res_9 : res_out9 m c = lDwo1 (aDm m c) (mulf (lR (aHid m c)) (lR (aHid m c))) := rfl

/-! The same lines, row by row. -/

abbrev Wi : Fin 1024 → Fin 4096 → EReal := Mlp.wi (gI m c) 1
abbrev Wo : Fin 4096 → Fin 1024 → EReal := Mlp.wo (gO m c) 1
def rY (i : Fin 2048) : Mlp.Row := fun d => gY m c (ix2 i d) + Mlp.row (gB m c) 0 d
def rX (i : Fin 2048) : Mlp.Row := fun d => gX m c (ix2 i d) + Mlp.row (gG1 m c) 0 d * rY m c i d
def rH (i : Fin 2048) : Mlp.Row := Mlp.h (rX m c i) (Mlp.row (gN m c) 0) (Mlp.row (gSc m c) 0) (Mlp.row (gSh m c) 0)
def rR (i : Fin 2048) : Mlp.Hid := Mlp.r (rH m c i) (Wi m c)
def rM (i : Fin 2048) : Mlp.Row := Mlp.mo (rR m c i) (Wo m c)
def cM (i : Fin 2048) : Mlp.Row := Mlp.dmo (Mlp.row (gG2 m c) 0) (Mlp.row (gC m c) i)
def cI (i : Fin 2048) : Mlp.Hid := Mlp.dhid (cM m c i) (Wo m c) (rR m c i)
def cH (i : Fin 2048) : Mlp.Row := Mlp.dh (cI m c i) (Wi m c)
def cX (i : Fin 2048) : Mlp.Row :=
  Mlp.dx1 (Mlp.row (gC m c) i) (rX m c i) (Mlp.dq (Mlp.row (gSc m c) 0) (Mlp.row (gN m c) 0) (cH m c i))

theorem wi_eq : (fun d f => lWi1 (gI m c) (ix2 d f)) = Wi m c := funext fun d => funext fun f => lWi1_at _ d f
theorem wo_eq : (fun f d => lWo1 (gO m c) (ix2 f d)) = Wo m c := funext fun f => funext fun d => lWo1_at _ f d
theorem ct_eq : lCt (gC m c) = gC m c := shapeCast_id _ _

theorem row_Y (i : Fin 2048) : Mlp.row (aY m c) i = rY m c i := funext fun d => lY_at _ _ i d
theorem row_X (i : Fin 2048) : Mlp.row (aX m c) i = rX m c i := funext fun d => (lX1_at _ _ _ i d).trans
  (congrArg (fun z : EReal => gX m c (ix2 i d) + Mlp.row (gG1 m c) 0 d * z) (congrFun (row_Y m c i) d))
theorem row_H (i : Fin 2048) : Mlp.row (aH m c) i = rH m c i := funext fun d => by
  refine (lH_at _ _ _ _ i d).trans ?_
  rw [row_X]; rfl
theorem row_R (i : Fin 2048) : Mlp.row (lR (aHid m c)) i = rR m c i := funext fun f => by
  refine (lR_at _ i f).trans ?_
  rw [aHid, lHid_at, row_H, wi_eq]; rfl
theorem row_M (i : Fin 2048) : Mlp.row (aM m c) i = rM m c i := funext fun d => by
  refine (lMo_at _ _ i d).trans ?_
  rw [row_R, wo_eq]; rfl
theorem row_Dm (i : Fin 2048) : Mlp.row (aDm m c) i = cM m c i := funext fun d => by
  refine (lDm_at _ _ i d).trans ?_
  rw [ct_eq]; rfl
theorem row_Di (i : Fin 2048) : Mlp.row (aDi m c) i = cI m c i := funext fun f => by
  refine (lDi_at _ _ _ i f).trans ?_
  rw [row_Dm, row_R, wo_eq]; rfl
theorem row_Dh (i : Fin 2048) : Mlp.row (aDh m c) i = cH m c i := funext fun d => by
  refine (lDh_at _ _ i d).trans ?_
  rw [row_Di, wi_eq]; rfl
theorem row_Dn (i : Fin 2048) : Mlp.row (aDn m c) i = Mlp.dn (Mlp.row (gSc m c) 0) (cH m c i) := funext fun d => by
  refine (lDn_at _ _ i d).trans ?_
  rw [row_Dh]
theorem row_Dx (i : Fin 2048) : Mlp.row (aDx m c) i = cX m c i := funext fun d => by
  have e : Mlp.row (lDq (aDn m c) (gN m c)) i = Mlp.dq (Mlp.row (gSc m c) 0) (Mlp.row (gN m c) 0) (cH m c i) := funext fun d => by
    refine (lDq_at _ _ i d).trans ?_
    rw [show aDn m c (ix2 i d) = Mlp.dn _ _ d from congrFun (row_Dn m c i) d]; rfl
  refine (lDx_at _ _ _ i d).trans ?_
  rw [e, row_X, ct_eq]; rfl

/-! The results at a place. -/

theorem out_x2 (i : Fin 2048) (d : Fin 1024) : res_out0 m c (ix2 i d) = Mlp.x2 (rX m c i) (Mlp.row (gG2 m c) 0) (rM m c i) d := by
  refine (congrFun (res_0 m c) _).trans ((lO_at _ _ _ i d).trans ?_)
  rw [row_X, row_M]
theorem out_dx (i : Fin 2048) (d : Fin 1024) : res_out1 m c (ix2 i d) = cX m c i d :=
  (congrFun (res_1 m c) _).trans (congrFun (row_Dx m c i) d)
theorem out_do (i : Fin 2048) (d : Fin 1024) : res_out2 m c (ix2 i d) = Mlp.row (gG1 m c) 0 d * cX m c i d := by
  refine (congrFun (res_2 m c) _).trans ?_
  pointwise
  exact congrArg₂ (· * ·) (under_at _ i d) (congrFun (row_Dx m c i) d)
theorem out_dg1 (d : Fin 1024) : res_out3 m c (ix2 0 d) = ∑ i : Fin 2048, cX m c i d * rY m c i d :=
  (congrFun (res_3 m c) _).trans ((down_at _ d).trans (Finset.sum_congr rfl fun i _ =>
    congrArg₂ (· * ·) (congrFun (row_Dx m c i) d) (congrFun (row_Y m c i) d)))
theorem out_dng (d : Fin 1024) : res_out4 m c (ix2 0 d) = ∑ i : Fin 2048, Mlp.q (rX m c i) d * Mlp.dn (Mlp.row (gSc m c) 0) (cH m c i) d :=
  (congrFun (res_4 m c) _).trans ((down_at _ d).trans (Finset.sum_congr rfl fun i _ =>
    congrArg₂ (· * ·) ((lQ_at _ i d).trans (by rw [row_X])) (congrFun (row_Dn m c i) d)))
theorem out_dsc (d : Fin 1024) : res_out5 m c (ix2 0 d) = ∑ i : Fin 2048, Mlp.nr (rX m c i) (Mlp.row (gN m c) 0) d * cH m c i d :=
  (congrFun (res_5 m c) _).trans ((down_at _ d).trans (Finset.sum_congr rfl fun i _ =>
    congrArg₂ (· * ·) ((lN_at _ _ i d).trans (by rw [row_X])) (congrFun (row_Dh m c i) d)))
theorem out_dsh (d : Fin 1024) : res_out6 m c (ix2 0 d) = ∑ i : Fin 2048, cH m c i d :=
  (congrFun (res_6 m c) _).trans ((down_at _ d).trans (Finset.sum_congr rfl fun i _ => congrFun (row_Dh m c i) d))
theorem out_dg2 (d : Fin 1024) : res_out7 m c (ix2 0 d) = ∑ i : Fin 2048, Mlp.row (gC m c) i d * rM m c i d :=
  (congrFun (res_7 m c) _).trans ((down_at _ d).trans (Finset.sum_congr rfl fun i _ =>
    congrArg₂ (· * ·) (congrFun (ct_eq m c) (ix2 i d)) (congrFun (row_M m c i) d)))
theorem out_dwi (j : Fin 8) (d : Fin 1024) (k : Fin 512) :
    res_out8 m c (ix3 j d k) = ∑ i : Fin 2048, cI m c i (Mlp.fof j k) * rH m c i d :=
  (congrFun (res_8 m c) _).trans ((lDwi1_at _ _ j d k).trans (Finset.sum_congr rfl fun i _ =>
    congrArg₂ (· * ·) (congrFun (row_Di m c i) _) (congrFun (row_H m c i) d)))
theorem out_dwo (j : Fin 8) (k : Fin 512) (d : Fin 1024) :
    res_out9 m c (ix3 j k d) = ∑ i : Fin 2048, cM m c i d * (rR m c i (Mlp.fof j k) * rR m c i (Mlp.fof j k)) :=
  (congrFun (res_9 m c) _).trans ((lDwo1_at _ _ j k d).trans (Finset.sum_congr rfl fun i _ =>
    congrArg₂ (· * ·) (congrFun (row_Dm m c i) d) (congrArg (fun z : EReal => z * z) (congrFun (row_R m c i) _))))

end Cert.Mlp1Ref
-- ==== Proof.Mlp1Claim.lean ====
/- The MLP sub-layer of layer 1: the kernels and the reference leave the same arrays, and the frames of the three programs. -/
module

public import proofs.«01_k».proof.Defs
public import proofs.«01_k».proof.Proof.Mlp1Fold
public import proofs.«01_k».proof.Proof.Mlp1Ref
public import proofs.«01_k».proof.Proof.MlpClaim
public import Idealize.ShloMosaic.Lib.Quiescent

@[expose] public section

set_option maxRecDepth 16384

noncomputable section

namespace Cert.Mlp1Claim

open Idealize.ShloMosaic Idealize.ShloMosaic.TcCoe Idealize.SL.Sem
open Cert.Kernel4Ideal.Gen (W6)
open Cert.MlpClaim (by_row by_col)

theorem frame_ref : Cert.quiescent_Reference4Ideal := fun m g _ =>
  (θ_run _ _ _).mono (fun r h => ⟨fun c => (h c).2.2.2.2.2.2.2.2.2.2, sem_eq_zero_of_no_sems (by decide) r.2⟩) (Cert.Reference4Ideal.Value.run m g)

variable (m : (ℓ : Loc Cert.Kernel4Ideal.nD Cert.Kernel4Ideal.τ Cert.Kernel4Ideal.sig) → Buf (Elt Ideal) ℓ) (ρ : Dev Cert.Kernel4Ideal.nD → PrngReg)
variable (m' : (ℓ : Loc Cert.Reference4Ideal.nD Cert.Reference4Ideal.τ Cert.Reference4Ideal.sig) → Buf (Elt Ideal) ℓ) (c : Dev Cert.Kernel4Ideal.nD)

/-- The two programs are given the same arrays. -/
structure Given : Prop where
  X : Mlp1Ref.gX m' c = Mlp1Fold.gX m c
  Y : Mlp1Ref.gY m' c = Mlp1Fold.gY m c
  G1 : Mlp1Ref.gG1 m' c = Mlp1Fold.gG1 m c
  B : Mlp1Ref.gB m' c = Mlp1Fold.gB m c
  N : Mlp1Ref.gN m' c = Mlp1Fold.gN m c
  Sc : Mlp1Ref.gSc m' c = Mlp1Fold.gSc m c
  Sh : Mlp1Ref.gSh m' c = Mlp1Fold.gSh m c
  G2 : Mlp1Ref.gG2 m' c = Mlp1Fold.gG2 m c
  I : Mlp1Ref.gI m' c = Mlp1Fold.gI m c
  O : Mlp1Ref.gO m' c = Mlp1Fold.gO m c
  C : Mlp1Ref.gC m' c = Mlp1Fold.gC m c

variable {m m' c} (e : Given m m' c)
include e

theorem row_X (i : Fin 2048) : Mlp1Ref.rX m' c i = Mlp1Fold.rX m ρ c i := by
  funext d
  rw [Mlp1Ref.rX, Mlp1Ref.rY, Mlp1Fold.rX, Mlp.fx, Mlp1Fold.par_0, Mlp1Fold.par_8, Mlp.x1, e.X, e.Y, e.G1, e.B]
  rfl
theorem row_H (i : Fin 2048) : Mlp1Ref.rH m' c i = Mlp1Fold.rH m ρ c i := by
  rw [Mlp1Ref.rH, row_X ρ e, e.N, e.Sc, e.Sh, Mlp1Fold.rH, Mlp.fh, Mlp1Fold.par_16, Mlp1Fold.par_24, Mlp1Fold.par_32]
  rfl
theorem row_R (i : Fin 2048) : Mlp1Ref.rR m' c i = Mlp1Fold.rR m ρ c i := by
  rw [Mlp1Ref.rR, row_H ρ e, Mlp1Ref.Wi, e.I]
  rfl
theorem row_M (i : Fin 2048) : Mlp1Ref.rM m' c i = Mlp1Fold.rM m ρ c i := by
  rw [Mlp1Ref.rM, row_R ρ e, Mlp1Ref.Wo, e.O]
  rfl
theorem ct_M (i : Fin 2048) : Mlp1Ref.cM m' c i = Mlp1Fold.cM m ρ c i := by
  rw [Mlp1Ref.cM, Mlp1Fold.cM, Mlp.bm, Mlp1Fold.par_40, e.G2, e.C]
theorem ct_I (i : Fin 2048) : Mlp1Ref.cI m' c i = Mlp1Fold.cI m ρ c i := by
  rw [Mlp1Ref.cI, ct_M ρ e, row_R ρ e, Mlp1Ref.Wo, e.O]
  rfl
theorem ct_H (i : Fin 2048) : Mlp1Ref.cH m' c i = Mlp1Fold.cH m ρ c i := by
  rw [Mlp1Ref.cH, ct_I ρ e, Mlp1Ref.Wi, e.I]
  rfl
theorem ct_X (i : Fin 2048) : Mlp1Ref.cX m' c i = Mlp1Fold.cX m ρ c i := by
  rw [Mlp1Ref.cX, ct_H ρ e, row_X ρ e, e.C, e.Sc, e.N, Mlp1Fold.cX, Mlp.bx, Mlp1Fold.par_16, Mlp1Fold.par_24]
  rfl

omit e in
/-- Arrays of the weights' shape with equal entries are equal. -/
theorem by_block {n p q : ℕ} {a b : (⟨3, ![n, p, q]⟩ : Shape).Idx → EReal} (h : ∀ j d k, a (ix3 j d k) = b (ix3 j d k)) : a = b :=
  funext fun y => by rw [eq_ix3 (n0 := n) (n1 := p) (n2 := q) y]; exact h _ _ _

theorem same_x2 : (Cert.Reference4Ideal.Value.res_out0 m' c : FVec Ideal Cert.Kernel4Ideal.S2048x1024 .f32) = W6 m ρ c (Proc.devRef .tc Cert.Kernel4Ideal.main_v11_4) := by
  refine by_row fun i d => (Mlp1Ref.out_x2 m' c i d).trans (Eq.trans ?_ (Mlp1Fold.out_x2 m ρ c i d).symm)
  rw [row_X ρ e, row_M ρ e, e.G2, Mlp1Fold.rO, Mlp.fo, Mlp1Fold.par_40]; rfl
theorem same_dx : (Cert.Reference4Ideal.Value.res_out1 m' c : FVec Ideal Cert.Kernel4Ideal.S2048x1024 .f32) = W6 m ρ c (Proc.devRef .tc Cert.Kernel4Ideal.main_v12_0) := by
  refine by_row fun i d => (Mlp1Ref.out_dx m' c i d).trans (Eq.trans ?_ (Mlp1Fold.out_dx m ρ c i d).symm)
  rw [ct_X ρ e]
theorem same_do : (Cert.Reference4Ideal.Value.res_out2 m' c : FVec Ideal Cert.Kernel4Ideal.S2048x1024 .bf16) = W6 m ρ c (Proc.devRef .tc Cert.Kernel4Ideal.main_v12_1) := by
  refine by_row fun i d => (Mlp1Ref.out_do m' c i d).trans (Eq.trans ?_ (Mlp1Fold.out_do m ρ c i d).symm)
  rw [ct_X ρ e, Mlp1Fold.par_0, e.G1]
theorem same_dg1 : (Cert.Reference4Ideal.Value.res_out3 m' c : FVec Ideal Cert.Kernel4Ideal.S1x1024 .f32) = W6 m ρ c (Proc.devRef .tc Cert.Kernel4Ideal.main_v15) := by
  refine by_col fun d => (Mlp1Ref.out_dg1 m' c d).trans (Eq.trans ?_ (Mlp1Fold.out_dg1 m ρ c d).symm)
  refine Finset.sum_congr (M := EReal) rfl fun i _ => ?_
  rw [ct_X ρ e, Mlp1Fold.par_8, Mlp1Ref.rY, e.Y, e.B]; rfl
theorem same_dng : (Cert.Reference4Ideal.Value.res_out4 m' c : FVec Ideal Cert.Kernel4Ideal.S1x1024 .f32) = W6 m ρ c (Proc.devRef .tc Cert.Kernel4Ideal.main_v17) := by
  refine by_col fun d => (Mlp1Ref.out_dng m' c d).trans (Eq.trans ?_ (Mlp1Fold.out_dng m ρ c d).symm)
  rw [Mlp1Fold.par_24]
  simp only [row_X ρ e, ct_H ρ e, e.Sc]
theorem same_dsc : (Cert.Reference4Ideal.Value.res_out5 m' c : FVec Ideal Cert.Kernel4Ideal.S1x1024 .f32) = W6 m ρ c (Proc.devRef .tc Cert.Kernel4Ideal.main_v18) := by
  refine by_col fun d => (Mlp1Ref.out_dsc m' c d).trans (Eq.trans ?_ (Mlp1Fold.out_dsc m ρ c d).symm)
  rw [Mlp1Fold.par_16]
  simp only [row_X ρ e, ct_H ρ e, e.N]
theorem same_dsh : (Cert.Reference4Ideal.Value.res_out6 m' c : FVec Ideal Cert.Kernel4Ideal.S1x1024 .f32) = W6 m ρ c (Proc.devRef .tc Cert.Kernel4Ideal.main_v19) := by
  refine by_col fun d => (Mlp1Ref.out_dsh m' c d).trans (Eq.trans ?_ (Mlp1Fold.out_dsh m ρ c d).symm)
  simp only [ct_H ρ e]
theorem same_dg2 : (Cert.Reference4Ideal.Value.res_out7 m' c : FVec Ideal Cert.Kernel4Ideal.S1x1024 .f32) = W6 m ρ c (Proc.devRef .tc Cert.Kernel4Ideal.main_v20) := by
  refine by_col fun d => (Mlp1Ref.out_dg2 m' c d).trans (Eq.trans ?_ (Mlp1Fold.out_dg2 m ρ c d).symm)
  simp only [row_M ρ e, e.C]
theorem same_dwi : (Cert.Reference4Ideal.Value.res_out8 m' c : FVec Ideal Cert.Kernel4Ideal.S8x1024x512 .bf16) = W6 m ρ c (Proc.devRef .tc Cert.Kernel4Ideal.main_v22) := by
  refine by_block fun j d k => (Mlp1Ref.out_dwi m' c j d k).trans (Eq.trans ?_ (Mlp1Fold.out_dwi m ρ c j d k).symm)
  refine Finset.sum_congr (M := EReal) rfl fun i _ => ?_
  rw [ct_I ρ e, row_H ρ e, mul_comm]
theorem same_dwo : (Cert.Reference4Ideal.Value.res_out9 m' c : FVec Ideal Cert.Kernel4Ideal.S8x512x1024 .bf16) = W6 m ρ c (Proc.devRef .tc Cert.Kernel4Ideal.main_v24) := by
  refine by_block fun j k d => (Mlp1Ref.out_dwo m' c j k d).trans (Eq.trans ?_ (Mlp1Fold.out_dwo m ρ c j k d).symm)
  refine Finset.sum_congr (M := EReal) rfl fun i _ => ?_
  rw [ct_M ρ e, row_R ρ e, mul_comm]

omit e in
theorem value : Cert.algebraic_Kernel4Ideal_Reference4Ideal := by
  intro m g m' g' _ hm
  have e : ∀ c, Given m m' c := fun c => by
    obtain ⟨h0, h1, h2, h3, h4, h5, h6, h7, h8, h9, h10⟩ := hm c
    exact ⟨h0, h1, h2, h3, h4, h5, h6, h7, h8, h9, h10⟩
  refine ⟨fun c => W6 m g c (Proc.devRef .tc Cert.Kernel4Ideal.main_v11_4),
    fun c => W6 m g c (Proc.devRef .tc Cert.Kernel4Ideal.main_v12_0),
    fun c => W6 m g c (Proc.devRef .tc Cert.Kernel4Ideal.main_v12_1),
    fun c => W6 m g c (Proc.devRef .tc Cert.Kernel4Ideal.main_v15),
    fun c => W6 m g c (Proc.devRef .tc Cert.Kernel4Ideal.main_v17),
    fun c => W6 m g c (Proc.devRef .tc Cert.Kernel4Ideal.main_v18),
    fun c => W6 m g c (Proc.devRef .tc Cert.Kernel4Ideal.main_v19),
    fun c => W6 m g c (Proc.devRef .tc Cert.Kernel4Ideal.main_v20),
    fun c => W6 m g c (Proc.devRef .tc Cert.Kernel4Ideal.main_v22),
    fun c => W6 m g c (Proc.devRef .tc Cert.Kernel4Ideal.main_v24), ?_, ?_⟩
  · refine (θ_run _ _ _).mono (fun r h c => ?_) (Cert.Mlp1Run.run m g)
    have at_ := fun (b : Ref Cert.Kernel4Ideal.sig .tc) (hb : ¬ (Proc.devRef .tc b : DevRef Cert.Kernel4Ideal.τ Cert.Kernel4Ideal.sig).isScoped) =>
      h.1 c _ (Cert.Kernel4Ideal.Gen.mem_uc b hb)
    exact ⟨at_ Cert.Kernel4Ideal.main_v11_4 (by decide),
      at_ Cert.Kernel4Ideal.main_v12_0 (by decide),
      at_ Cert.Kernel4Ideal.main_v12_1 (by decide),
      at_ Cert.Kernel4Ideal.main_v15 (by decide),
      at_ Cert.Kernel4Ideal.main_v17 (by decide),
      at_ Cert.Kernel4Ideal.main_v18 (by decide),
      at_ Cert.Kernel4Ideal.main_v19 (by decide),
      at_ Cert.Kernel4Ideal.main_v20 (by decide),
      at_ Cert.Kernel4Ideal.main_v22 (by decide),
      at_ Cert.Kernel4Ideal.main_v24 (by decide),
      (at_ Cert.Kernel4Ideal.main_arg0 (by decide)).trans (Cert.Kernel4Ideal.Gen.W6_main_arg0 m g c),
      (at_ Cert.Kernel4Ideal.main_arg1 (by decide)).trans (Cert.Kernel4Ideal.Gen.W6_main_arg1 m g c),
      (at_ Cert.Kernel4Ideal.main_arg2 (by decide)).trans (Cert.Kernel4Ideal.Gen.W6_main_arg2 m g c),
      (at_ Cert.Kernel4Ideal.main_arg3 (by decide)).trans (Cert.Kernel4Ideal.Gen.W6_main_arg3 m g c),
      (at_ Cert.Kernel4Ideal.main_arg4 (by decide)).trans (Cert.Kernel4Ideal.Gen.W6_main_arg4 m g c),
      (at_ Cert.Kernel4Ideal.main_arg5 (by decide)).trans (Cert.Kernel4Ideal.Gen.W6_main_arg5 m g c),
      (at_ Cert.Kernel4Ideal.main_arg6 (by decide)).trans (Cert.Kernel4Ideal.Gen.W6_main_arg6 m g c),
      (at_ Cert.Kernel4Ideal.main_arg7 (by decide)).trans (Cert.Kernel4Ideal.Gen.W6_main_arg7 m g c),
      (at_ Cert.Kernel4Ideal.main_arg8 (by decide)).trans (Cert.Kernel4Ideal.Gen.W6_main_arg8 m g c),
      (at_ Cert.Kernel4Ideal.main_arg9 (by decide)).trans (Cert.Kernel4Ideal.Gen.W6_main_arg9 m g c),
      (at_ Cert.Kernel4Ideal.main_arg10 (by decide)).trans (Cert.Kernel4Ideal.Gen.W6_main_arg10 m g c)⟩
  · refine (θ_run _ _ _).mono (fun r h c => ?_) (Cert.Reference4Ideal.Value.run m' g')
    obtain ⟨r0, r1, r2, r3, r4, r5, r6, r7, r8, r9, rest⟩ := h c
    exact ⟨r0.trans (same_x2 g (e c)),
      r1.trans (same_dx g (e c)),
      r2.trans (same_do g (e c)),
      r3.trans (same_dg1 g (e c)),
      r4.trans (same_dng g (e c)),
      r5.trans (same_dsc g (e c)),
      r6.trans (same_dsh g (e c)),
      r7.trans (same_dg2 g (e c)),
      r8.trans (same_dwi g (e c)),
      r9.trans (same_dwo g (e c)), rest⟩

end Cert.Mlp1Claim

end
-- ==== Proof.ConvAlg.lean ====
/-
  THE CONVOLUTION'S TAPS ON ONE COLUMN. A column of a segment is a function of its rows; under tap `k` the output's row `u` reads
  the input's row `u + k - 1`, and a row outside of the segment reads zero.
-/
module

public import Idealize.ShloMosaic.PureOps.Ideal

@[expose] public section

noncomputable section

namespace Cert.Conv

/-- The cotangent's row that the input's row `t` gets under tap `k`. -/
def up {n : ℕ} (s : Fin n → EReal) (t k : ℕ) : EReal := if h : k ≤ t + 1 ∧ t + 1 - k < n then s ⟨t + 1 - k, h.2⟩ else 0

/-- The input's row that the output's row `u` reads under tap `k`. -/
def dn {n : ℕ} (x : Fin n → EReal) (u k : ℕ) : EReal := if h : 1 ≤ u + k ∧ u + k - 1 < n then x ⟨u + k - 1, h.2⟩ else 0

theorem pick {n : ℕ} (a : Fin n) (f : Fin n → EReal) (p : Fin n → Prop) [DecidablePred p] (h : ∀ u, p u ↔ u.val = a.val) :
    ∑ u : Fin n, (if p u then f u else 0) = f a :=
  (Finset.sum_eq_single a (fun u _ hu => if_neg fun e => hu (Fin.ext ((h u).1 e))) (fun hn => absurd (Finset.mem_univ _) hn)).trans
    (if_pos ((h a).2 rfl))

/-- Each side has at most one term in which the two rows meet, the others are zero. -/
theorem up_mul {n : ℕ} (s : Fin n → EReal) (t k : ℕ) (y : EReal) :
    up s t k * y = ∑ u : Fin n, if u.val + k = t + 1 then s u * y else 0 := by
  unfold up
  split
  · rename_i h
    exact (pick ⟨t + 1 - k, h.2⟩ (fun u => s u * y) _ fun u => by dsimp only; omega).symm
  · rename_i h
    rw [zero_mul]
    exact (Finset.sum_eq_zero fun u _ => if_neg fun e => h ⟨by omega, by have := u.isLt; omega⟩).symm

theorem dn_mul {n : ℕ} (x : Fin n → EReal) (u k : ℕ) (y : EReal) :
    dn x u k * y = ∑ t : Fin n, if u + k = t.val + 1 then y * x t else 0 := by
  unfold dn
  split
  · rename_i h
    exact (mul_comm _ _).trans (pick ⟨u + k - 1, h.2⟩ (fun t => y * x t) _ fun t => by dsimp only; omega).symm
  · rename_i h
    rw [zero_mul]
    exact (Finset.sum_eq_zero fun t _ => if_neg fun e => h ⟨by omega, by have := t.isLt; omega⟩).symm

/-- A tap's weight gets the same sum whether the cotangent is shifted against the input or the input against the cotangent. -/
theorem shift {n : ℕ} (s x : Fin n → EReal) (k : ℕ) : ∑ t : Fin n, up s t k * x t = ∑ u : Fin n, dn x u k * s u := by
  simp only [up_mul, dn_mul]
  exact Finset.sum_comm

/-- Under the middle tap nothing is shifted. -/
theorem up_one {n : ℕ} (s : Fin n → EReal) (t : Fin n) : up s t 1 = s t := by
  unfold up
  rw [dif_pos ⟨by omega, by have := t.isLt; omega⟩]
  rfl

/-- The two segments of a column: the context's 256 rows and the latents' 2048. -/
def ctx (s : Fin 2304 → EReal) : Fin 256 → EReal := fun t => s ⟨t.val, by omega⟩
def lat (s : Fin 2304 → EReal) : Fin 2048 → EReal := fun t => s ⟨256 + t.val, by omega⟩

/-- The cotangent's row that row `t` gets under tap `k`, in the row's own segment. -/
def tap (s : Fin 2304 → EReal) (t : Fin 2304) (k : ℕ) : EReal :=
  if t.val < 256 then up (ctx s) t k else up (lat s) (t.val - 256) k

theorem tap_one (s : Fin 2304 → EReal) (t : Fin 2304) : tap s t (1 : Fin 4).val = s t := by
  unfold tap
  split
  · rename_i h
    exact up_one (ctx s) ⟨t.val, h⟩
  · rename_i h
    refine (up_one (lat s) ⟨t.val - 256, by omega⟩).trans (congrArg s (Fin.ext ?_))
    show 256 + (t.val - 256) = t.val
    omega

/-- The three gradients of a column. -/
def dx (s : Fin 2304 → EReal) (w : Fin 4 → EReal) (t : Fin 2304) : EReal :=
  w 0 * tap s t 0 + w 1 * tap s t 1 + w 2 * tap s t 2 + w 3 * tap s t 3
def dw (s x : Fin 2304 → EReal) (k : ℕ) : EReal := ∑ t : Fin 2304, tap s t k * x t
def db (s : Fin 2304 → EReal) : EReal := ∑ t : Fin 2304, s t

theorem sum_segs (f : Fin 2304 → EReal) : ∑ t, f t = ∑ t, ctx f t + ∑ t, lat f t := Fin.sum_univ_add (a := 256) (b := 2048) f

/-- Row `r` of chunk `q`. -/
abbrev rowOf (q : Fin 9) (r : Fin 256) : Fin 2304 := ⟨256 * q.val + r.val, by omega⟩

theorem sum_chunks (f : Fin 2304 → EReal) : ∑ q : Fin 9, ∑ r : Fin 256, f (rowOf q r) = ∑ t, f t := by
  rw [← Fintype.sum_prod_type']
  refine Fintype.sum_equiv (finProdFinEquiv (m := 9) (n := 256)) _ _ fun p => congrArg f (Fin.ext ?_)
  show 256 * p.1.val + p.2.val = p.2.val + 256 * p.1.val
  omega

theorem dw_eq (s x : Fin 2304 → EReal) (k : ℕ) :
    dw s x k = ∑ u : Fin 2048, dn (lat x) u k * lat s u + ∑ u : Fin 256, dn (ctx x) u k * ctx s u := by
  unfold dw
  rw [sum_segs, add_comm, ← shift, ← shift]
  refine congrArg₂ (· + ·) (Finset.sum_congr rfl fun t _ => ?_) (Finset.sum_congr rfl fun t _ => ?_)
  · show tap s ⟨256 + t.val, _⟩ k * lat x t = _
    unfold tap
    rw [if_neg (by show ¬ 256 + t.val < 256; omega)]
    show up (lat s) (256 + t.val - 256) k * lat x t = _
    rw [Nat.add_sub_cancel_left]
  · show tap s ⟨t.val, _⟩ k * ctx x t = _
    unfold tap
    rw [if_pos t.isLt]

end Cert.Conv

end
-- ==== Proof.ConvAcc.lean ====
/- A buffer of rows, filled once and then stored into one row at a time, each store a function of the row as it stands. -/
module

public import Idealize.ShloMosaic.Lib.Pipeline.Value
public import Idealize.ShloMosaic.Lib.Pipeline.ValueKit.Tiles
public import Idealize.ShloMosaic.Lib.Pointwise

@[expose] public section

noncomputable section

namespace Cert.ConvAcc

open Idealize.ShloMosaic

variable {Val : EltTy → Type} {e : EltTy} {sig : RefSig} {κ : Kind} {sp : Space} {K n : ℕ}

/-- The buffer's shape, and a row's. -/
abbrev Buf (K n : ℕ) : Shape := ⟨2, ![K, n]⟩
abbrev Row (n : ℕ) : Shape := ⟨2, ![1, n]⟩

theorem inbRow (k : Fin K) : ∀ a, (![k.val, 0] : Fin 2 → ℕ) a + (Row n).size a ≤ (Buf K n).size a := by
  intro a
  fin_cases a
  · show k.val + 1 ≤ K; omega
  · show 0 + n ≤ n; omega

theorem inbAll : ∀ a, (![0, 0] : Fin 2 → ℕ) a + (Buf K n).size a ≤ (Buf K n).size a := by
  intro a
  fin_cases a
  · show 0 + K ≤ K; omega
  · show 0 + n ≤ n; omega

/-- Row `k` of the buffer. -/
abbrev rowRect (k : Fin K) : Rect (Buf K n) := Rect.unit (s := Buf K n) ![k.val, 0] (Row n).size (inbRow k)

/-- The stores, last first: a fill with `Z`, and for each step a row and the function of it. -/
def accs [∀ e, Nonempty (Val e)] (v : View sig κ sp (Buf K n) e) (Z : (Buf K n).Idx → Val e) :
    List (Fin K × (((Row n).Idx → Val e) → (Row n).Idx → Val e)) → List (View.Piece Val (Buf K n) e)
  | [] => [⟨Rect.unit (s := Buf K n) ![0, 0] (Buf K n).size inbAll, Z⟩]
  | p :: L => ⟨rowRect p.1, p.2 (v.readCov (accs v Z L) (rowRect p.1).toLoadRect)⟩ :: accs v Z L

/-- What the steps make of row `k`. -/
def rowVal (Z : (Buf K n).Idx → Val e) (k : Fin K) :
    List (Fin K × (((Row n).Idx → Val e) → (Row n).Idx → Val e)) → (Row n).Idx → Val e
  | [] => fun i => Z (ix2 k (i 1))
  | p :: L => if p.1 = k then p.2 (rowVal Z k L) else rowVal Z k L

theorem emb_row (k : Fin K) (i : (Row n).Idx) : (rowRect k).emb i = ix2 k (i 1) := by
  funext a
  apply Fin.ext
  fin_cases a
  · show k.val + 1 * (i 0).val = k.val
    have : (i 0).val < 1 := (i 0).isLt
    omega
  · show 0 + 1 * (i 1).val = (i 1).val; omega

/-- The buffer after the stores, row by row. -/
theorem canon_accs [∀ e, Nonempty (Val e)] (v : View sig κ sp (Buf K n) e) (Z : (Buf K n).Idx → Val e) :
    ∀ (L : List (Fin K × (((Row n).Idx → Val e) → (Row n).Idx → Val e))) (k : Fin K) (i : (Row n).Idx),
      View.canon (accs v Z L) (ix2 k (i 1)) = rowVal Z k L i
  | [], k, i => by
    unfold accs rowVal
    exact congrFun (View.canon_unit_zero (by funext a; fin_cases a <;> rfl) inbAll Z) _
  | p :: L, k, i => by
    obtain ⟨k', g⟩ := p
    unfold accs rowVal
    dsimp only
    by_cases h : k' = k
    · subst h
      rw [if_pos rfl]
      refine (congrArg _ (emb_row k' i).symm).trans ((View.canon_cons_emb _ _ _ _).trans ?_)
      refine congrFun (congrArg g ?_) i
      rw [View.readCov_eq_canon']
      funext x
      refine Eq.trans ?_ (canon_accs v Z L k' x)
      exact congrArg _ (emb_row k' x)
    · rw [if_neg h, ← canon_accs v Z L k i]
      refine View.canon_cons_of_not_mem _ _ fun hm => h ?_
      obtain ⟨x, hx⟩ := (rowRect k').exists_idx_of_mem hm
      have e0 := congrArg Fin.val (congrFun ((emb_row k' x).symm.trans hx) 0)
      exact Fin.ext e0

end Cert.ConvAcc

end
-- ==== Proof.ConvBlk.lean ====
/- The stores of the convolution's backward kernel at one grid point, as the same three stores for each chunk of 256 rows. -/
module

public import proofs.«01_k».proof.Proof.ConvAcc
public import proofs.«01_k».proof.Proof.Gen.Kernel5Ideal.Frame

@[expose] public section

set_option maxRecDepth 16384

noncomputable section

namespace Cert.ConvBlk

open Cert.Kernel5Ideal Cert.Kernel5Ideal.Gen Idealize.ShloMosaic Idealize.ShloMosaic.TcCoe Idealize.ShloMosaic.Tactic
open Cert.ConvAcc

variable {F : FTy → Type} [FloatOps F]

variable (c : Dev nD) (i : grid0.Coords) (arg1 : Memref sig .tc .vmem S2304x256 .f32) (harg1 : arg1.IsWhole)
  (arg2 : Memref sig .tc .vmem S2304x256 .f32) (harg2 : arg2.IsWhole)
  (arg3 : Memref sig .tc .vmem S2304x256 .f32) (harg3 : arg3.IsWhole)
  (arg4 : Memref sig .tc .vmem S2304x256 .f32) (harg4 : arg4.IsWhole)
  (arg5 : Memref sig .tc .vmem S4x256 .f32) (harg5 : arg5.IsWhole)
  (arg6 : Memref sig .tc .vmem S2304x256 .bf16) (harg6 : arg6.IsWhole)
  (arg7 : Memref sig .tc .vmem S4x256 .f32) (harg7 : arg7.IsWhole)
  (arg8 : Memref sig .tc .vmem S1x256 .f32) (harg8 : arg8.IsWhole)
  (arg9 : Memref sig .tc .vmem S2336x256 .f32) (harg9 : arg9.IsWhole)
  (arg10 : Memref sig .tc .vmem S2304x256 .f32) (harg10 : arg10.IsWhole)
  (x0 x1 x2 x3 : Vec F S2304x256 .f32) (x4 : Vec F S4x256 .f32)

/-! The loads. A chunk is one of nine runs of 256 rows: the context's is the first, the latents' are the others. -/

theorem inbPad (q : Fin 9) (k : Fin 4) : ∀ a, (![256 * (q.val - 1) + 17 - k.val, 0] : Fin 2 → ℕ) a + S256x256.size a ≤ S2336x256.size a := by
  intro a
  fin_cases a
  · show 256 * (q.val - 1) + 17 - k.val + 256 ≤ 2336; omega
  · show 0 + 256 ≤ 256; omega
theorem inbRows (q : Fin 9) : ∀ a, (![256 * q.val, 0] : Fin 2 → ℕ) a + S256x256.size a ≤ S2304x256.size a := by
  intro a
  fin_cases a
  · show 256 * q.val + 256 ≤ 2304; omega
  · show 0 + 256 ≤ 256; omega

/-- The padded buffer when chunk `q` is read: the context's segment or the latents'. -/
def pad (q : Fin 9) : List (View.Piece (Elt F) S2336x256 .f32) :=
  if q.val = 0 then kernelRun0_A.sl.HS0_3 c arg1 harg1 arg2 harg2 arg3 harg3 arg10 x0 x1 x2
  else kernelRun0_A.sl.HS0_6 c arg1 harg1 arg2 harg2 arg3 harg3 arg10 x0 x1 x2

/-- The chunk's rows of the cotangent under tap `k`. -/
def sh (q : Fin 9) (k : Fin 4) : Vec F S256x256 .f32 :=
  arg9.view.readCov (pad c arg1 harg1 arg2 harg2 arg3 harg3 arg10 x0 x1 x2 q)
    (Rect.unit (s := S2336x256) ![256 * (q.val - 1) + 17 - k.val, 0] S256x256.size (inbPad q k)).toLoadRect

/-- The chunk's rows of the input. -/
def xc (q : Fin 9) : Vec F S256x256 .f32 :=
  View.readAt (Elt F) arg4.view (Rect.unit (s := S2304x256) ![256 * q.val, 0] S256x256.size (inbRows q)).toLoadRect (harg4.unread x3)

/-- A tap's row of the weights. -/
def wk (k : Fin 4) : Vec F S1x256 .f32 :=
  View.readAt (Elt F) arg5.view (Rect.unit (s := S4x256) ![k.val, 0] S1x256.size (inbRow (K := 4) (n := 256) k)).toLoadRect (harg5.unread x4)

/-- A chunk's rows of the input's gradient. -/
def dxB (q : Fin 9) : FVec F S256x256 .bf16 :=
  k0_pay16 (k0_pay12 (sh c arg1 harg1 arg2 harg2 arg3 harg3 arg9 arg10 x0 x1 x2 q 0) (wk arg5 harg5 x4 0)
      (sh c arg1 harg1 arg2 harg2 arg3 harg3 arg9 arg10 x0 x1 x2 q 1) (wk arg5 harg5 x4 1))
    (sh c arg1 harg1 arg2 harg2 arg3 harg3 arg9 arg10 x0 x1 x2 q 2) (wk arg5 harg5 x4 2)
    (sh c arg1 harg1 arg2 harg2 arg3 harg3 arg9 arg10 x0 x1 x2 q 3) (wk arg5 harg5 x4 3)

/-- What a chunk adds to a tap's row of the weights' gradient. -/
def dwF (q : Fin 9) (k : Fin 4) (r : Vec F S1x256 .f32) : FVec F S1x256 .f32 :=
  k0_pay11 (xc arg4 harg4 x3 q) (sh c arg1 harg1 arg2 harg2 arg3 harg3 arg9 arg10 x0 x1 x2 q k) r

/-- What a chunk adds to the bias's gradient. -/
def dbF (q : Fin 9) (r : Vec F S1x256 .f32) : FVec F S1x256 .f32 :=
  k0_pay20 r (sh c arg1 harg1 arg2 harg2 arg3 harg3 arg9 arg10 x0 x1 x2 q 1)

/-- The steps on the weights' gradient after the first `n` chunks, the last first. -/
def dwSteps : (n : ℕ) → n ≤ 9 → List (Fin 4 × (Vec F S1x256 .f32 → FVec F S1x256 .f32))
  | 0, _ => []
  | n + 1, h =>
    (3, dwF c arg1 harg1 arg2 harg2 arg3 harg3 arg4 harg4 arg9 arg10 x0 x1 x2 x3 ⟨n, h⟩ 3)
      :: (2, dwF c arg1 harg1 arg2 harg2 arg3 harg3 arg4 harg4 arg9 arg10 x0 x1 x2 x3 ⟨n, h⟩ 2)
      :: (1, dwF c arg1 harg1 arg2 harg2 arg3 harg3 arg4 harg4 arg9 arg10 x0 x1 x2 x3 ⟨n, h⟩ 1)
      :: (0, dwF c arg1 harg1 arg2 harg2 arg3 harg3 arg4 harg4 arg9 arg10 x0 x1 x2 x3 ⟨n, h⟩ 0)
      :: dwSteps n (Nat.le_of_succ_le h)

/-- Those on the bias's gradient. -/
def dbSteps : (n : ℕ) → n ≤ 9 → List (Fin 1 × (Vec F S1x256 .f32 → FVec F S1x256 .f32))
  | 0, _ => []
  | n + 1, h => (0, dbF c arg1 harg1 arg2 harg2 arg3 harg3 arg9 arg10 x0 x1 x2 ⟨n, h⟩) :: dbSteps n (Nat.le_of_succ_le h)

theorem pieces5 :
    (kernelRun0_A c i arg1 harg1 arg2 harg2 arg3 harg3 arg4 harg4 arg5 harg5 arg6 harg6 arg7 harg7 arg8 harg8 arg9 harg9 arg10 harg10 x0 x1 x2 x3 x4).1
      = List.ofFn fun q : Fin 9 => ⟨Rect.unit (s := S2304x256) ![256 * q.rev.val, 0] S256x256.size (inbRows q.rev),
          dxB c arg1 harg1 arg2 harg2 arg3 harg3 arg5 harg5 arg9 arg10 x0 x1 x2 x4 q.rev⟩ := by
  sl_kernel_rfl

theorem pieces7 :
    (kernelRun0_A c i arg1 harg1 arg2 harg2 arg3 harg3 arg4 harg4 arg5 harg5 arg6 harg6 arg7 harg7 arg8 harg8 arg9 harg9 arg10 harg10 x0 x1 x2 x3 x4).2.2.1
      = accs (K := 1) (n := 256) arg8.view (k0_pay4 (F := F)) (dbSteps c arg1 harg1 arg2 harg2 arg3 harg3 arg9 arg10 x0 x1 x2 9 (Nat.le_refl 9)) := by
  sl_kernel_rfl

theorem pieces6 :
    (kernelRun0_A c i arg1 harg1 arg2 harg2 arg3 harg3 arg4 harg4 arg5 harg5 arg6 harg6 arg7 harg7 arg8 harg8 arg9 harg9 arg10 harg10 x0 x1 x2 x3 x4).2.1
      = accs (K := 4) (n := 256) arg7.view (k0_pay3 (F := F)) (dwSteps c arg1 harg1 arg2 harg2 arg3 harg3 arg4 harg4 arg9 arg10 x0 x1 x2 x3 9 (Nat.le_refl 9)) := by
  sl_kernel_rfl

end Cert.ConvBlk

end
-- ==== Proof.ConvPay.lean ====
/- What the convolution's backward kernel computes at one grid point, read on the columns of its blocks. -/
module

public import proofs.«01_k».proof.Proof.ConvAlg
public import proofs.«01_k».proof.Proof.ConvBlk
public import Idealize.ShloMosaic.Lib.Pointwise
public import Idealize.ShloMosaic.Lib.Pipeline.CanonAppend
public import Idealize.ShloMosaic.Lib.Pipeline.ReadBack
public import Idealize.ShloMosaic.Lib.Pipeline.ValueKit.Tiles

@[expose] public section

set_option maxRecDepth 16384

noncomputable section

namespace Cert.ConvBlk

open Cert.Kernel5Ideal Cert.Kernel5Ideal.Gen Idealize.ShloMosaic Idealize.ShloMosaic.TcCoe Idealize.ShloMosaic.Tactic
open Cert.ConvAcc

/-! The payloads. -/

theorem dx_pay (s0 s1 s2 s3 : Vec Ideal S256x256 .f32) (w0 w1 w2 w3 : Vec Ideal S1x256 .f32) (r j : Fin 256) :
    k0_pay16 (k0_pay12 s0 w0 s1 w1) s2 w2 s3 w3 (ix2 r j)
      = w0 (ix2 0 j) * s0 (ix2 r j) + w1 (ix2 0 j) * s1 (ix2 r j) + w2 (ix2 0 j) * s2 (ix2 r j) + w3 (ix2 0 j) * s3 (ix2 r j) := by
  pointwise [k0_pay16, k0_pay12]

theorem dw_pay (x s : Vec Ideal S256x256 .f32) (p : Vec Ideal S1x256 .f32) (j : Fin 256) :
    k0_pay11 x s p (ix2 0 j) = p (ix2 0 j) + ∑ r : Fin 256, s (ix2 r j) * x (ix2 r j) := by
  pointwise [k0_pay11]

theorem db_pay (s : Vec Ideal S256x256 .f32) (p : Vec Ideal S1x256 .f32) (j : Fin 256) :
    k0_pay20 p s (ix2 0 j) = p (ix2 0 j) + ∑ r : Fin 256, s (ix2 r j) := by
  pointwise [k0_pay20]

theorem sum_pay (a b d : Vec Ideal S2304x256 .f32) (t : Fin 2304) (j : Fin 256) :
    k0_pay5 a b d (ix2 t j) = a (ix2 t j) + b (ix2 t j) + d (ix2 t j) := by
  pointwise [k0_pay5]

theorem zero16 (r : Fin 16) (j : Fin 256) : k0_pay6 (F := Ideal) (ix2 r j) = 0 := by pointwise [k0_pay6]
theorem zero4 (k : Fin 4) (j : Fin 256) : k0_pay3 (F := Ideal) (ix2 k j) = 0 := by pointwise [k0_pay3]
theorem zero1 (j : Fin 256) : k0_pay4 (F := Ideal) (ix2 0 j) = 0 := by pointwise [k0_pay4]

/-! The padded segment: 16 rows of zeros, the segment's rows, 16 rows of zeros. -/

section Pad
variable {n : ℕ}

theorem inb_mid (hn : n + 32 ≤ 2336) : ∀ a, (![16, 0] : Fin 2 → ℕ) a + (Buf n 256).size a ≤ S2336x256.size a := by
  intro a
  fin_cases a
  · show 16 + n ≤ 2336; omega
  · show 0 + 256 ≤ 256; omega
theorem inb_end (o : ℕ) (ho : o + 16 ≤ 2336) : ∀ a, (![o, 0] : Fin 2 → ℕ) a + S16x256.size a ≤ S2336x256.size a := by
  intro a
  fin_cases a
  · show o + 16 ≤ 2336; omega
  · show 0 + 256 ≤ 256; omega

/-- The three stores, the last first, over earlier ones. -/
def padded {F : FTy → Type} [FloatOps F] (hn : n + 32 ≤ 2336) (M : Vec F (Buf n 256) .f32) (L : List (View.Piece (Elt F) S2336x256 .f32)) :
    List (View.Piece (Elt F) S2336x256 .f32) :=
  ⟨Rect.unit (s := S2336x256) ![16 + n, 0] S16x256.size (inb_end _ (by omega)), k0_pay6 (F := F)⟩
    :: ⟨Rect.unit (s := S2336x256) ![16, 0] (Buf n 256).size (inb_mid hn), M⟩
    :: ⟨Rect.unit (s := S2336x256) ![0, 0] S16x256.size (inb_end 0 (by omega)), k0_pay6 (F := F)⟩ :: L

theorem canon_piece {K : ℕ} (o : ℕ) (inb : ∀ a, (![o, 0] : Fin 2 → ℕ) a + (Buf K 256).size a ≤ S2336x256.size a)
    (w : Vec Ideal (Buf K 256) .f32) (L : List (View.Piece (Elt Ideal) S2336x256 .f32)) (R : Fin 2336) (j : Fin 256) (z : Fin K)
    (h : o + z.val = R.val) :
    View.canon (⟨Rect.unit (s := S2336x256) ![o, 0] (Buf K 256).size inb, w⟩ :: L) (ix2 R j) = w (ix2 z j) := by
  refine (congrArg _ ?_).trans (View.canon_cons_emb (Rect.unit (s := S2336x256) ![o, 0] (Buf K 256).size inb) w L (ix2 z j))
  funext a
  apply Fin.ext
  fin_cases a
  · show R.val = o + 1 * z.val; omega
  · show j.val = 0 + 1 * j.val; omega

theorem canon_skip {K : ℕ} (o : ℕ) (inb : ∀ a, (![o, 0] : Fin 2 → ℕ) a + (Buf K 256).size a ≤ S2336x256.size a)
    (w : Vec Ideal (Buf K 256) .f32) (L : List (View.Piece (Elt Ideal) S2336x256 .f32)) (R : Fin 2336) (j : Fin 256)
    (h : R.val < o ∨ o + K ≤ R.val) :
    View.canon (⟨Rect.unit (s := S2336x256) ![o, 0] (Buf K 256).size inb, w⟩ :: L) (ix2 R j) = View.canon L (ix2 R j) := by
  refine View.canon_cons_of_not_mem _ _ fun hm => ?_
  have hm' := (Rect.mem_set_unit (inb := inb)).mp hm 0
  have e : o ≤ R.val ∧ R.val < o + K := hm'
  omega

theorem canon_padded (hn : n + 32 ≤ 2336) (M : Vec Ideal (Buf n 256) .f32) (L : List (View.Piece (Elt Ideal) S2336x256 .f32))
    (t k : ℕ) (hk : k ≤ 3) (ht : t < n) (R : Fin 2336) (hR : R.val = t + 17 - k) (j : Fin 256) :
    View.canon (padded hn M L) (ix2 R j) = Conv.up (fun u => M (ix2 u j)) t k := by
  unfold padded Conv.up
  by_cases h3 : 16 + n ≤ R.val
  · rw [dif_neg (by omega)]
    exact (canon_piece (16 + n) _ _ _ R j ⟨R.val - (16 + n), by omega⟩ (by dsimp only; omega)).trans (zero16 _ _)
  · refine (canon_skip (16 + n) _ _ _ R j (by omega)).trans ?_
    by_cases h2 : 16 ≤ R.val
    · rw [dif_pos (by omega)]
      exact canon_piece 16 _ _ _ R j _ (by dsimp only; omega)
    · rw [dif_neg (by omega)]
      refine (canon_skip 16 _ _ _ R j (by omega)).trans ?_
      exact (canon_piece 0 _ _ _ R j ⟨R.val, by omega⟩ (by dsimp only; omega)).trans (zero16 _ _)

end Pad

section Loads
variable (c : Dev nD) (arg1 : Memref sig .tc .vmem S2304x256 .f32) (harg1 : arg1.IsWhole)
  (arg2 : Memref sig .tc .vmem S2304x256 .f32) (harg2 : arg2.IsWhole)
  (arg3 : Memref sig .tc .vmem S2304x256 .f32) (harg3 : arg3.IsWhole)
  (arg4 : Memref sig .tc .vmem S2304x256 .f32) (harg4 : arg4.IsWhole)
  (arg5 : Memref sig .tc .vmem S4x256 .f32) (harg5 : arg5.IsWhole)
  (arg9 : Memref sig .tc .vmem S2336x256 .f32) (arg10 : Memref sig .tc .vmem S2304x256 .f32)

section
variable {F : FTy → Type} [FloatOps F] (x0 x1 x2 : Vec F S2304x256 .f32)

/-- The sum of the three cotangents, as the kernel takes it. -/
def dS : Vec F S2304x256 .f32 :=
  k0_pay5 (View.readAt (Elt F) arg1.view (Rect.unit (s := S2304x256) ![0, 0] S2304x256.size (inbAll (K := 2304) (n := 256))).toLoadRect (harg1.unread x0))
    (View.readAt (Elt F) arg2.view (Rect.unit (s := S2304x256) ![0, 0] S2304x256.size (inbAll (K := 2304) (n := 256))).toLoadRect (harg2.unread x1))
    (View.readAt (Elt F) arg3.view (Rect.unit (s := S2304x256) ![0, 0] S2304x256.size (inbAll (K := 2304) (n := 256))).toLoadRect (harg3.unread x2))

theorem inb_seg (o n : ℕ) (h : o + n ≤ 2304) : ∀ a, (![o, 0] : Fin 2 → ℕ) a + (Buf n 256).size a ≤ S2304x256.size a := by
  intro a
  fin_cases a
  · show o + n ≤ 2304; omega
  · show 0 + 256 ≤ 256; omega

/-- A segment's rows of it, as the kernel reads them back. -/
def seg (o n : ℕ) (h : o + n ≤ 2304) : Vec F (Buf n 256) .f32 :=
  arg10.view.readCov [⟨Rect.unit (s := S2304x256) ![0, 0] S2304x256.size (inbAll (K := 2304) (n := 256)), dS arg1 harg1 arg2 harg2 arg3 harg3 x0 x1 x2⟩]
    (Rect.unit (s := S2304x256) ![o, 0] (Buf n 256).size (inb_seg o n h)).toLoadRect

theorem pad_ctx : kernelRun0_A.sl.HS0_3 c arg1 harg1 arg2 harg2 arg3 harg3 arg10 x0 x1 x2
    = padded (n := 256) (by omega) (k0_pay7 (seg arg1 harg1 arg2 harg2 arg3 harg3 arg10 x0 x1 x2 0 256 (by omega))) [] := by
  sl_kernel_rfl

theorem pad_lat : kernelRun0_A.sl.HS0_6 c arg1 harg1 arg2 harg2 arg3 harg3 arg10 x0 x1 x2
    = padded (n := 2048) (by omega) (k0_pay18 (seg arg1 harg1 arg2 harg2 arg3 harg3 arg10 x0 x1 x2 256 2048 (by omega)))
        (kernelRun0_A.sl.HS0_3 c arg1 harg1 arg2 harg2 arg3 harg3 arg10 x0 x1 x2) := by
  sl_kernel_rfl
end

variable (x0 x1 x2 x3 : Vec Ideal S2304x256 .f32) (x4 : Vec Ideal S4x256 .f32)

/-- A load of rows from row `o`. -/
theorem rd {H K : ℕ} (arg : Memref sig .tc .vmem (Buf H 256) .f32) (h : arg.IsWhole) (x : Vec Ideal (Buf H 256) .f32) (o : ℕ)
    (inb : ∀ a, (![o, 0] : Fin 2 → ℕ) a + (Buf K 256).size a ≤ (Buf H 256).size a) (r : Fin K) (j : Fin 256) (R : Fin H) (hR : R.val = o + r.val) :
    View.readAt (Elt Ideal) arg.view (Rect.unit (s := Buf H 256) ![o, 0] (Buf K 256).size inb).toLoadRect (h.unread x) (ix2 r j) = x (ix2 R j) := by
  refine (congrFun (h.read_unread x) _).trans (congrArg x ?_)
  funext a
  apply Fin.ext
  fin_cases a
  · show o + 1 * r.val = R.val; omega
  · show 0 + 1 * j.val = j.val; omega

/-- A column of the cotangent, of the input and of the weights. -/
def cD (j : Fin 256) : Fin 2304 → EReal := fun t => x0 (ix2 t j) + x1 (ix2 t j) + x2 (ix2 t j)
def cX (j : Fin 256) : Fin 2304 → EReal := fun t => x3 (ix2 t j)
def cW (j : Fin 256) : Fin 4 → EReal := fun k => x4 (ix2 k j)

theorem dS_apply (t : Fin 2304) (j : Fin 256) : dS arg1 harg1 arg2 harg2 arg3 harg3 x0 x1 x2 (ix2 t j) = cD x0 x1 x2 j t := by
  unfold dS cD
  rw [sum_pay]
  refine congrArg₂ (· + ·) (congrArg₂ (· + ·) ?_ ?_) ?_
  · exact rd (H := 2304) (K := 2304) arg1 harg1 x0 0 _ t j t (by omega)
  · exact rd (H := 2304) (K := 2304) arg2 harg2 x1 0 _ t j t (by omega)
  · exact rd (H := 2304) (K := 2304) arg3 harg3 x2 0 _ t j t (by omega)

theorem seg_apply (o n : ℕ) (h : o + n ≤ 2304) (t : Fin n) (j : Fin 256) :
    seg arg1 harg1 arg2 harg2 arg3 harg3 arg10 x0 x1 x2 o n h (ix2 t j) = cD x0 x1 x2 j ⟨o + t.val, by omega⟩ := by
  unfold seg
  rw [View.readCov_eq_canon']
  refine (congrFun (View.canon_unit_zero (by funext a; fin_cases a <;> rfl) _ _) _).trans ?_
  refine Eq.trans (congrArg _ ?_) (dS_apply arg1 harg1 arg2 harg2 arg3 harg3 x0 x1 x2 ⟨o + t.val, by omega⟩ j)
  funext a
  apply Fin.ext
  fin_cases a
  · show o + 1 * t.val = o + t.val; omega
  · show 0 + 1 * j.val = j.val; omega

theorem sh_apply (q : Fin 9) (k : Fin 4) (r j : Fin 256) :
    sh c arg1 harg1 arg2 harg2 arg3 harg3 arg9 arg10 x0 x1 x2 q k (ix2 r j) = Conv.tap (cD x0 x1 x2 j) (Conv.rowOf q r) k := by
  unfold sh Conv.tap pad
  rw [View.readCov_eq_canon']
  have hR : 256 * (q.val - 1) + 17 - k.val + r.val < 2336 := by omega
  have e : (Rect.unit (s := S2336x256) ![256 * (q.val - 1) + 17 - k.val, 0] S256x256.size (inbPad q k)).toLoadRect.idx (ix2 r j)
      = ix2 (⟨256 * (q.val - 1) + 17 - k.val + r.val, hR⟩ : Fin 2336) j := by
    funext a
    apply Fin.ext
    fin_cases a
    · show 256 * (q.val - 1) + 17 - k.val + 1 * r.val = 256 * (q.val - 1) + 17 - k.val + r.val; omega
    · show 0 + 1 * j.val = j.val; omega
  refine (congrArg _ e).trans ?_
  by_cases hq : q.val = 0
  · rw [if_pos hq, if_pos (by show 256 * q.val + r.val < 256; omega), pad_ctx]
    refine (canon_padded _ _ _ (Conv.rowOf q r).val k.val (by omega) (by show 256 * q.val + r.val < 256; omega) _
      (by show _ = 256 * q.val + r.val + 17 - k.val; show 256 * (q.val - 1) + 17 - k.val + r.val = _; omega) j).trans ?_
    refine congrArg (fun s => Conv.up s (Conv.rowOf q r).val k.val) ?_
    funext u
    refine Eq.trans ?_ ((seg_apply arg1 harg1 arg2 harg2 arg3 harg3 arg10 x0 x1 x2 0 256 (by omega) u j).trans
      (congrArg (cD x0 x1 x2 j) (Fin.ext (Nat.zero_add _))))
    generalize seg arg1 harg1 arg2 harg2 arg3 harg3 arg10 x0 x1 x2 0 256 (by omega) = S
    pointwise [k0_pay7]
  · rw [if_neg hq, if_neg (by show ¬ 256 * q.val + r.val < 256; omega), pad_lat]
    refine (canon_padded _ _ _ ((Conv.rowOf q r).val - 256) k.val (by omega) (by show 256 * q.val + r.val - 256 < 2048; omega) _
      (by show _ = 256 * q.val + r.val - 256 + 17 - k.val; show 256 * (q.val - 1) + 17 - k.val + r.val = _; omega) j).trans ?_
    refine congrArg (fun s => Conv.up s ((Conv.rowOf q r).val - 256) k.val) ?_
    funext u
    refine Eq.trans ?_ (seg_apply arg1 harg1 arg2 harg2 arg3 harg3 arg10 x0 x1 x2 256 2048 (by omega) u j)
    generalize seg arg1 harg1 arg2 harg2 arg3 harg3 arg10 x0 x1 x2 256 2048 (by omega) = S
    pointwise [k0_pay18]

theorem xc_apply (q : Fin 9) (r j : Fin 256) : xc arg4 harg4 x3 q (ix2 r j) = cX x3 j (Conv.rowOf q r) :=
  rd (H := 2304) (K := 256) arg4 harg4 x3 _ _ r j (Conv.rowOf q r) rfl

theorem wk_apply (k : Fin 4) (j : Fin 256) : wk arg5 harg5 x4 k (ix2 0 j) = cW x4 j k :=
  rd (H := 4) (K := 1) arg5 harg5 x4 _ _ 0 j k rfl

theorem dxB_apply (q : Fin 9) (r j : Fin 256) :
    dxB c arg1 harg1 arg2 harg2 arg3 harg3 arg5 harg5 arg9 arg10 x0 x1 x2 x4 q (ix2 r j)
      = Conv.dx (cD x0 x1 x2 j) (cW x4 j) (Conv.rowOf q r) := by
  unfold dxB Conv.dx
  refine (dx_pay _ _ _ _ _ _ _ _ r j).trans ?_
  simp only [sh_apply, wk_apply]
  rfl

/-- The weights' gradient after the first `n` chunks. -/
theorem dwVal (k : Fin 4) (j : Fin 256) : ∀ (n : ℕ) (h : n ≤ 9),
    rowVal (k0_pay3 (F := Ideal)) k (dwSteps c arg1 harg1 arg2 harg2 arg3 harg3 arg4 harg4 arg9 arg10 x0 x1 x2 x3 n h) (ix2 0 j)
      = ∑ q : Fin n, ∑ r : Fin 256, Conv.tap (cD x0 x1 x2 j) (Conv.rowOf ⟨q.val, by omega⟩ r) k * cX x3 j (Conv.rowOf ⟨q.val, by omega⟩ r)
  | 0, _ => zero4 k j
  | n + 1, h => by
    have ih := dwVal k j n (Nat.le_of_succ_le h)
    have step (p : Vec Ideal S1x256 .f32) : dwF c arg1 harg1 arg2 harg2 arg3 harg3 arg4 harg4 arg9 arg10 x0 x1 x2 x3 ⟨n, h⟩ k p (ix2 0 j)
        = p (ix2 0 j) + ∑ r : Fin 256, Conv.tap (cD x0 x1 x2 j) (Conv.rowOf ⟨n, h⟩ r) k * cX x3 j (Conv.rowOf ⟨n, h⟩ r) := by
      unfold dwF
      refine (dw_pay _ _ _ j).trans ?_
      simp only [sh_apply, xc_apply]
    rw [Fin.sum_univ_castSucc]
    refine Eq.trans ?_ ((step _).trans (congrArg (· + _) ih))
    fin_cases k <;> rfl

theorem dbVal (j : Fin 256) : ∀ (n : ℕ) (h : n ≤ 9),
    rowVal (k0_pay4 (F := Ideal)) 0 (dbSteps c arg1 harg1 arg2 harg2 arg3 harg3 arg9 arg10 x0 x1 x2 n h) (ix2 0 j)
      = ∑ q : Fin n, ∑ r : Fin 256, cD x0 x1 x2 j (Conv.rowOf ⟨q.val, by omega⟩ r)
  | 0, _ => zero1 j
  | n + 1, h => by
    have ih := dbVal j n (Nat.le_of_succ_le h)
    have step (p : Vec Ideal S1x256 .f32) : dbF c arg1 harg1 arg2 harg2 arg3 harg3 arg9 arg10 x0 x1 x2 ⟨n, h⟩ p (ix2 0 j)
        = p (ix2 0 j) + ∑ r : Fin 256, cD x0 x1 x2 j (Conv.rowOf ⟨n, h⟩ r) := by
      unfold dbF
      refine (db_pay _ _ j).trans (congrArg _ (Finset.sum_congr rfl fun r _ => (sh_apply c arg1 harg1 arg2 harg2 arg3 harg3 arg9 arg10 x0 x1 x2 _ 1 r j).trans ?_))
      exact Conv.tap_one _ _
    rw [Fin.sum_univ_castSucc]
    exact (step _).trans (congrArg (· + _) ih)

/-! What the body leaves in the three outputs' blocks. -/

variable (i : grid0.Coords) (arg6 : Memref sig .tc .vmem S2304x256 .bf16) (harg6 : arg6.IsWhole)
  (arg7 : Memref sig .tc .vmem S4x256 .f32) (harg7 : arg7.IsWhole)
  (arg8 : Memref sig .tc .vmem S1x256 .f32) (harg8 : arg8.IsWhole)
  (harg9 : arg9.IsWhole) (harg10 : arg10.IsWhole)

theorem out5 (t : Fin 2304) (j : Fin 256) :
    out0_A_5 c i arg1 harg1 arg2 harg2 arg3 harg3 arg4 harg4 arg5 harg5 arg6 harg6 arg7 harg7 arg8 harg8 arg9 harg9 arg10 harg10 x0 x1 x2 x3 x4 (ix2 t j)
      = Conv.dx (cD x0 x1 x2 j) (cW x4 j) t := by
  unfold out0_A_5
  rw [View.read_writes_junk_eq_canon, pieces5]
  refine View.canon_ofFn_unit_eq_of_forall (Val := Elt Ideal) (e := .bf16) (S := S2304x256) (fun q : Fin 9 => ![256 * q.rev.val, 0]) S256x256.size (fun q => inbRows q.rev)
    (fun q => dxB c arg1 harg1 arg2 harg2 arg3 harg3 arg5 harg5 arg9 arg10 x0 x1 x2 x4 q.rev) _ _ ?_ ?_
  · refine ⟨(⟨t.val / 256, by omega⟩ : Fin 9).rev, fun a => ?_⟩
    dsimp only
    rw [Fin.rev_rev]
    fin_cases a
    · show 256 * (t.val / 256) ≤ t.val ∧ t.val < 256 * (t.val / 256) + 256; omega
    · show 0 ≤ j.val ∧ j.val < 0 + 256; omega
  · intro q z hz
    have h0 : 256 * q.rev.val + (z 0).val = t.val := (hz 0).symm
    have h1 : 0 + (z 1).val = j.val := (hz 1).symm
    obtain rfl : t = Conv.rowOf q.rev (z 0) := Fin.ext h0.symm
    obtain rfl : j = z 1 := Fin.ext (by omega)
    refine Eq.trans (congrArg _ ?_) (dxB_apply c arg1 harg1 arg2 harg2 arg3 harg3 arg5 harg5 arg9 arg10 x0 x1 x2 x4 q.rev (z 0) (z 1))
    funext a
    fin_cases a <;> rfl

theorem out6 (k : Fin 4) (j : Fin 256) :
    out0_A_6 c i arg1 harg1 arg2 harg2 arg3 harg3 arg4 harg4 arg5 harg5 arg6 harg6 arg7 harg7 arg8 harg8 arg9 harg9 arg10 harg10 x0 x1 x2 x3 x4 (ix2 k j)
      = Conv.dw (cD x0 x1 x2 j) (cX x3 j) k := by
  unfold out0_A_6
  rw [View.read_writes_junk_eq_canon, pieces6]
  refine (canon_accs _ _ _ k (ix2 0 j)).trans ((dwVal c arg1 harg1 arg2 harg2 arg3 harg3 arg4 harg4 arg9 arg10 x0 x1 x2 x3 k j 9 (Nat.le_refl 9)).trans ?_)
  exact Conv.sum_chunks fun t => Conv.tap (cD x0 x1 x2 j) t k * cX x3 j t

theorem out7 (j : Fin 256) :
    out0_A_7 c i arg1 harg1 arg2 harg2 arg3 harg3 arg4 harg4 arg5 harg5 arg6 harg6 arg7 harg7 arg8 harg8 arg9 harg9 arg10 harg10 x0 x1 x2 x3 x4 (ix2 0 j)
      = Conv.db (cD x0 x1 x2 j) := by
  unfold out0_A_7
  rw [View.read_writes_junk_eq_canon, pieces7]
  refine (canon_accs _ _ _ 0 (ix2 0 j)).trans ((dbVal c arg1 harg1 arg2 harg2 arg3 harg3 arg9 arg10 x0 x1 x2 j 9 (Nat.le_refl 9)).trans ?_)
  exact Conv.sum_chunks (cD x0 x1 x2 j)

end Loads

end Cert.ConvBlk

end
-- ==== Proof.ConvArr.lean ====
/- The arrays the kernel of the convolution's gradient leaves, column by column, of the arrays it finds. -/
module

public import proofs.«01_k».proof.Proof.ConvPay
public import proofs.«01_k».proof.Proof.MlpBwdArr
public import proofs.«01_k».proof.Proof.Gen.Kernel5Ideal.Value

@[expose] public section

set_option maxRecDepth 16384

noncomputable section

namespace Cert.ConvArr

open Cert.Kernel5Ideal Cert.Kernel5Ideal.Gen Cert.Kernel5Ideal.Value Cert.ConvBlk Idealize.ShloMosaic Idealize.ShloMosaic.TcCoe
open Cert.MlpFwd (at2 blk_col)

theorem N0 : cfg0.N = 5 := by decide

/-- The grid point of a block of columns. -/
def pt (b : Fin 5) : Fin cfg0.N := ⟨b.val, by rw [N0]; exact b.isLt⟩

/-- Column `j` of block `b`. -/
def colOf (b : Fin 5) (j : Fin 256) : Fin 1280 := ⟨256 * b.val + j.val, by omega⟩
/-- The column of the saved array, of which the convolution takes the upper half, that a column of the convolution's input is. -/
def upper (d : Fin 1280) : Fin 2560 := ⟨1280 + d.val, by omega⟩

theorem exists_col (d : Fin 1280) : ∃ (b : Fin 5) (j : Fin 256), d = colOf b j :=
  ⟨⟨d.val / 256, by omega⟩, ⟨d.val % 256, by omega⟩, Fin.ext (by show d.val = 256 * (d.val / 256) + d.val % 256; omega)⟩

variable (m : (ℓ : Loc nD τ sig) → Buf (Elt Ideal) ℓ) (c : Dev nD)

/-- The arrays the kernel is given. -/
abbrev g0 : FVec Ideal S2304x1280 .f32 := m ((c : Thread nD τ).loc main_arg0)
abbrev g1 : FVec Ideal S2304x1280 .f32 := m ((c : Thread nD τ).loc main_arg1)
abbrev g2 : FVec Ideal S2304x1280 .f32 := m ((c : Thread nD τ).loc main_arg2)
abbrev gX : FVec Ideal S2304x2560 .f32 := m ((c : Thread nD τ).loc main_arg3)
abbrev gW : FVec Ideal S4x1280 .f32 := m ((c : Thread nD τ).loc main_arg4)

/-- A column of the sum of the three cotangents, of the convolution's input, of its weights. -/
def aD (d : Fin 1280) (t : Fin 2304) : EReal := g0 m c (ix2 t d) + g1 m c (ix2 t d) + g2 m c (ix2 t d)
def aX (d : Fin 1280) (t : Fin 2304) : EReal := gX m c (ix2 t (upper d))
def aW (d : Fin 1280) (k : Fin 4) : EReal := gW m c (ix2 k d)

/-! Where each point's blocks lie. -/

theorem i0 : ∀ t : Fin grid0.N, win0_0.index t (0 : Fin 2) = 0 ∧ win0_0.index t (1 : Fin 2) = t.val := by decide +kernel
theorem i1 : ∀ t : Fin grid0.N, win0_1.index t (0 : Fin 2) = 0 ∧ win0_1.index t (1 : Fin 2) = t.val := by decide +kernel
theorem i2 : ∀ t : Fin grid0.N, win0_2.index t (0 : Fin 2) = 0 ∧ win0_2.index t (1 : Fin 2) = t.val := by decide +kernel
theorem i3 : ∀ t : Fin grid0.N, win0_3.index t (0 : Fin 2) = 0 ∧ win0_3.index t (1 : Fin 2) = t.val + 5 := by decide +kernel
theorem i4 : ∀ t : Fin grid0.N, win0_4.index t (0 : Fin 2) = 0 ∧ win0_4.index t (1 : Fin 2) = t.val := by decide +kernel
theorem i5 : ∀ t : Fin grid0.N, win0_5.index t (0 : Fin 2) = 0 ∧ win0_5.index t (1 : Fin 2) = t.val ∧ win0_5.flush t = true := by decide +kernel
theorem i6 : ∀ t : Fin grid0.N, win0_6.index t (0 : Fin 2) = 0 ∧ win0_6.index t (1 : Fin 2) = t.val ∧ win0_6.flush t = true := by decide +kernel
theorem i7 : ∀ t : Fin grid0.N, win0_7.index t (0 : Fin 2) = 0 ∧ win0_7.index t (1 : Fin 2) = t.val ∧ win0_7.flush t = true := by decide +kernel

theorem col {n : ℕ} {b : Fin 5} {j : Fin 256} (h : n = (pt b).val) : n * 256 + 1 * j.val = (colOf b j).val := by
  subst h; show b.val * 256 + 1 * j.val = 256 * b.val + j.val; omega
theorem ucol {n : ℕ} {b : Fin 5} {j : Fin 256} (h : n = (pt b).val + 5) : n * 256 + 1 * j.val = (upper (colOf b j)).val := by
  subst h; show (b.val + 5) * 256 + 1 * j.val = 1280 + (256 * b.val + j.val); omega

theorem colD (b : Fin 5) (j : Fin 256) : cD (iblk m c 0 (pt b)) (iblk m c 1 (pt b)) (iblk m c 2 (pt b)) j = aD m c (colOf b j) := by
  funext t
  refine congrArg₂ (fun p q : EReal => p + q) (congrArg₂ (fun p q : EReal => p + q) ?_ ?_) ?_
  · exact at2 (g0 m c) _ _ _ (blk_col (i0 (pt b)).1) (col (i0 (pt b)).2)
  · exact at2 (g1 m c) _ _ _ (blk_col (i1 (pt b)).1) (col (i1 (pt b)).2)
  · exact at2 (g2 m c) _ _ _ (blk_col (i2 (pt b)).1) (col (i2 (pt b)).2)
theorem colX (b : Fin 5) (j : Fin 256) : cX (iblk m c 3 (pt b)) j = aX m c (colOf b j) :=
  funext fun t => at2 (gX m c) _ _ _ (blk_col (i3 (pt b)).1) (ucol (i3 (pt b)).2)
theorem colW (b : Fin 5) (j : Fin 256) : cW (iblk m c 4 (pt b)) j = aW m c (colOf b j) :=
  funext fun k => at2 (gW m c) _ _ _ (blk_col (i4 (pt b)).1) (col (i4 (pt b)).2)

/-! The three arrays. -/

theorem arr5 (t : Fin 2304) (d : Fin 1280) :
    ((dats m 0 c).arrAt 5 cfg0.N : FVec Ideal S2304x1280 .bf16) (ix2 t d) = Conv.dx (aD m c d) (aW m c d) t := by
  obtain ⟨b, j, rfl⟩ := exists_col d
  refine Eq.trans (at2 ((dats m 0 c).arrAt 5 cfg0.N : FVec Ideal S2304x1280 .bf16) _ _ _ (blk_col (i5 (pt b)).1) (col (i5 (pt b)).2.1)).symm
    ((congrFun ((blocks5 m c (pt b) (i5 (pt b)).2.2).trans (flushed5_A m c (pt b))) (ix2 t j : S2304x256.Idx)).trans ?_)
  rw [← colD, ← colW]
  exact out5 ..
theorem arr6 (k : Fin 4) (d : Fin 1280) :
    ((dats m 0 c).arrAt 6 cfg0.N : FVec Ideal S4x1280 .f32) (ix2 k d) = Conv.dw (aD m c d) (aX m c d) k := by
  obtain ⟨b, j, rfl⟩ := exists_col d
  refine Eq.trans (at2 ((dats m 0 c).arrAt 6 cfg0.N : FVec Ideal S4x1280 .f32) _ _ _ (blk_col (i6 (pt b)).1) (col (i6 (pt b)).2.1)).symm
    ((congrFun ((blocks6 m c (pt b) (i6 (pt b)).2.2).trans (flushed6_A m c (pt b))) (ix2 k j : S4x256.Idx)).trans ?_)
  rw [← colD, ← colX]
  exact out6 ..
theorem arr7 (d : Fin 1280) : ((dats m 0 c).arrAt 7 cfg0.N : FVec Ideal S1x1280 .f32) (ix2 0 d) = Conv.db (aD m c d) := by
  obtain ⟨b, j, rfl⟩ := exists_col d
  refine Eq.trans (at2 ((dats m 0 c).arrAt 7 cfg0.N : FVec Ideal S1x1280 .f32) _ _ _ (blk_col (i7 (pt b)).1) (col (i7 (pt b)).2.1)).symm
    ((congrFun ((blocks7 m c (pt b) (i7 (pt b)).2.2).trans (flushed7_A m c (pt b))) (ix2 (0 : Fin 1) j : S1x256.Idx)).trans ?_)
  rw [← colD]
  exact out7 ..

end Cert.ConvArr

end
-- ==== Proof.ConvRef.lean ====
/-
  THE REFERENCE'S GRADIENT OF THE CONVOLUTION, LINE BY LINE. The lines are named for a segment of any number of rows, read at a
  place, and composed for the two segments.
-/
module

public import proofs.«01_k».proof.Proof.ConvAlg
public import proofs.«01_k».proof.Proof.Gen.Reference5Ideal.Run
public import Idealize.ShloMosaic.Lib.IdealHost
public import Idealize.ShloMosaic.Lib.Pointwise
public import Idealize.ShloMosaic.Lib.KernelVsHost
public import Idealize.ShloMosaic.Lib.Pipeline.Value

@[expose] public section

set_option maxRecDepth 16384

noncomputable section

namespace Cert.ConvRef

open Cert.Reference5Ideal Cert.Reference5Ideal.Gen Cert.Reference5Ideal.Value Idealize.ShloMosaic Idealize.ShloMosaic.TcCoe Idealize.ShloMosaic.Tactic

/-- Rows of features, a segment's or more. -/
abbrev Rows (n : ℕ) : Shape := ⟨2, ![n, 1280]⟩
/-- The same under every tap. -/
abbrev Taps (K n : ℕ) : Shape := ⟨3, ![K, n, 1280]⟩

/-- A column. -/
def col {n : ℕ} (x : FVec Ideal (Rows n) .f32) (d : Fin 1280) : Fin n → EReal := fun t => x (ix2 t d)

def zero : FVec Ideal S_ .f32 := constant S_ .f32 0x00000000#32
theorem zero_at (i : S_.Idx) : zero i = 0 := by pointwise [zero]

/-- Rows of zeros above and below. -/
theorem pad_at {n N lo hi : ℕ} (x : FVec Ideal (Rows n) .f32) (h : (Rows n).Pads ![lo, 0] ![hi, 0] ![0, 0] (Rows N)) (t : Fin N) (d : Fin 1280) :
    pad (Rows N) ![lo, 0] ![hi, 0] ![0, 0] x zero h h_S_ (ix2 t d) = if e : lo ≤ t.val ∧ t.val - lo < n then x (ix2 ⟨t.val - lo, e.2⟩ d) else 0 := by
  split
  · rename_i e
    refine pad_apply_of_inside _ _ _ _ _ _ _ _ _ fun a => ?_
    fin_cases a
    · show t.val = lo + (t.val - lo) * (0 + 1); omega
    · show d.val = 0 + d.val * (0 + 1); omega
  · rename_i e
    refine (pad_apply_of_not_inside _ _ _ _ _ _ _ _ 0 fun q => e ⟨q.1, ?_⟩).trans (zero_at _)
    have := q.2.2
    change (t.val - lo) / (0 + 1) < n at this
    omega

/-- What the lines on a segment of `n` rows, `N` with the rows of zeros about it, require of the shapes. -/
structure Fits (n N : ℕ) : Prop where
  len : N = n + 3
  under : S4x1x1280.BroadcastsInDim (Taps 4 n) (![0, 1, 2] : Fin 3 → Fin (Taps 4 n).rank)
  each : (Rows n).BroadcastsInDim (Taps 4 n) (![1, 2] : Fin 2 → Fin (Taps 4 n).rank)
  one : (Rows n).BroadcastsInDim (Taps 1 n) (![1, 2] : Fin 2 → Fin (Taps 1 n).rank)
  drop : (Taps 1 n).ShapeCasts (Rows n)
  tap : ∀ k : Fin 4, (Taps 4 n).Slices ![k.val, 0, 0] (Taps 1 n)
  win : ∀ k : Fin 4, (Rows N).Slices ![k.val, 0] (Rows n)
  pads : ∀ k : Fin 4, (Rows n).Pads (![k.val, 0] : Fin 2 → ℕ) ![3 - k.val, 0] ![0, 0] (Rows N)
  about : Shape.Concatenates [S1x1280, Rows n, S2x1280] (Rows N) 0
  stack : Shape.Concatenates [Taps 1 n, Taps 1 n, Taps 1 n, Taps 1 n] (Taps 4 n) 0
  sum : (Taps 4 n).ReducesTo [1] S4x1280

section Seg
variable {n N : ℕ} (e : Fits n N)

/-- The cotangent times each tap's weights. -/
def lP (D : FVec Ideal (Rows n) .f32) (W : FVec Ideal S4x1280 .f32) : FVec Ideal (Taps 4 n) .f32 :=
  mulf (broadcastInDim (Taps 4 n) ![1, 2] e.each D)
    (broadcastInDim (Taps 4 n) ![0, 1, 2] e.under (broadcastInDim S4x1x1280 ![0, 2] bcast_S4x1280_S4x1x1280_0_2 W))
/-- One tap's products where they were read. -/
def lT (D : FVec Ideal (Rows n) .f32) (W : FVec Ideal S4x1280 .f32) (k : Fin 4) : FVec Ideal (Rows N) .f32 :=
  pad (Rows N) ![k.val, 0] ![3 - k.val, 0] ![0, 0]
    (shapeCast _ (extractStridedSlice (Taps 1 n) ![k.val, 0, 0] (lP e D W) (e.tap k)) e.drop) zero (e.pads k) h_S_
/-- The segment's input gradient. -/
def lDx (D : FVec Ideal (Rows n) .f32) (W : FVec Ideal S4x1280 .f32) : FVec Ideal (Rows n) .f32 :=
  extractStridedSlice (Rows n) ![1, 0] (addf (addf (addf (lT e D W 3) (lT e D W 2)) (lT e D W 1)) (lT e D W 0)) (e.win 1)
/-- The segment between rows of zeros. -/
def lZ (X : FVec Ideal (Rows n) .f32) : FVec Ideal (Rows N) .f32 :=
  concatenate (Rows N) 0 [⟨S1x1280, broadcastInDim S1x1280 ![] bcast_S_S1x1280 zero⟩, ⟨Rows n, X⟩,
    ⟨S2x1280, broadcastInDim S2x1280 ![] bcast_S_S2x1280 zero⟩] e.about
/-- The rows one tap reads. -/
def lV (X : FVec Ideal (Rows n) .f32) (k : Fin 4) : FVec Ideal (Taps 1 n) .f32 :=
  broadcastInDim (Taps 1 n) ![1, 2] e.one (extractStridedSlice (Rows n) ![k.val, 0] (lZ e X) (e.win k))
/-- The rows the taps read. -/
def lS (X : FVec Ideal (Rows n) .f32) : FVec Ideal (Taps 4 n) .f32 :=
  concatenate (Taps 4 n) 0 [⟨Taps 1 n, lV e X 0⟩, ⟨Taps 1 n, lV e X 1⟩, ⟨Taps 1 n, lV e X 2⟩, ⟨Taps 1 n, lV e X 3⟩] e.stack
/-- The segment's part of the weights' gradient. -/
def lDw (D X : FVec Ideal (Rows n) .f32) : FVec Ideal S4x1280 .f32 :=
  Host.reduceAdd (shapeCast _ (Host.reduceAdd (mulf (lS e X) (broadcastInDim (Taps 4 n) ![1, 2] e.each D)) zero e.sum h_S_)
    shapeCasts_S4x1280_S4x1x1280) zero reducesTo_S4x1x1280_S4x1280_d1 h_S_

/-- Rows under every tap. -/
theorem each_at {K : ℕ} (h : (Rows n).BroadcastsInDim (Taps K n) (![1, 2] : Fin 2 → Fin (Taps K n).rank)) (x : FVec Ideal (Rows n) .f32)
    (k : Fin K) (t : Fin n) (d : Fin 1280) : broadcastInDim (Taps K n) ![1, 2] h x (ix3 k t d) = x (ix2 t d) := by
  refine broadcastInDim_apply _ _ _ _ _ fun a => ?_
  fin_cases a
  · show t.val = if n = 1 then 0 else t.val
    split <;> omega
  · rfl

theorem lP_at (D : FVec Ideal (Rows n) .f32) (W : FVec Ideal S4x1280 .f32) (k : Fin 4) (t : Fin n) (d : Fin 1280) :
    lP e D W (ix3 k t d) = D (ix2 t d) * W (ix2 k d) := by
  have under : broadcastInDim (Taps 4 n) ![0, 1, 2] e.under (broadcastInDim S4x1x1280 ![0, 2] bcast_S4x1280_S4x1x1280_0_2 W) (ix3 k t d) = W (ix2 k d) := by
    pointwise
  exact congrArg₂ (fun p q : EReal => p * q) (each_at e.each D k t d) under

theorem lT_at (D : FVec Ideal (Rows n) .f32) (W : FVec Ideal S4x1280 .f32) (k : Fin 4) (t : Fin N) (d : Fin 1280) :
    lT e D W k (ix2 t d) = if q : k.val ≤ t.val ∧ t.val - k.val < n then D (ix2 ⟨t.val - k.val, q.2⟩ d) * W (ix2 k d) else 0 := by
  unfold lT
  rw [pad_at]
  split
  · rename_i q
    refine Eq.trans (shapeCast_apply _ _ _ (ix3 (0 : Fin 1) ⟨t.val - k.val, q.2⟩ d) ?_)
      ((extractStridedSlice_apply _ _ _ _ (ix3 k ⟨t.val - k.val, q.2⟩ d) ?_).trans (lP_at e D W k _ d))
    · rw [Shape.rowMajor_val_three, Shape.rowMajor_val_two]
      show (0 * n + (t.val - k.val)) * 1280 + d.val = (t.val - k.val) * 1280 + d.val
      rw [Nat.zero_mul, Nat.zero_add]
    · intro a; fin_cases a
      · show k.val = k.val + 0; omega
      · show t.val - k.val = 0 + (t.val - k.val); omega
      · show d.val = 0 + d.val; omega
  · rfl

theorem turn (a b p q : EReal) : q + p + b + a = a + b + p + q := by ac_rfl

theorem lDx_at (D : FVec Ideal (Rows n) .f32) (W : FVec Ideal S4x1280 .f32) (t : Fin n) (d : Fin 1280) :
    lDx e D W (ix2 t d) = W (ix2 0 d) * Conv.up (col D d) t 0 + W (ix2 1 d) * Conv.up (col D d) t 1 + W (ix2 2 d) * Conv.up (col D d) t 2
      + W (ix2 3 d) * Conv.up (col D d) t 3 := by
  have hN := e.len
  have tap (k : Fin 4) : lT e D W k (ix2 ⟨1 + t.val, by omega⟩ d) = W (ix2 k d) * Conv.up (col D d) t k := by
    rw [lT_at]
    unfold Conv.up
    split
    · rename_i q
      change k.val ≤ 1 + t.val ∧ 1 + t.val - k.val < n at q
      rw [dif_pos (by omega), mul_comm]
      refine congrArg (_ * ·) (congrArg (col D d) (Fin.ext ?_))
      show 1 + t.val - k.val = t.val + 1 - k.val
      omega
    · rename_i q
      change ¬(k.val ≤ 1 + t.val ∧ 1 + t.val - k.val < n) at q
      rw [dif_neg (by omega), mul_zero]
  unfold lDx
  refine (extractStridedSlice_apply _ _ _ _ (ix2 ⟨1 + t.val, by omega⟩ d) ?_).trans ?_
  · intro a; fin_cases a
    · rfl
    · exact (Nat.zero_add _).symm
  · pointwise
    rw [tap, tap, tap, tap]
    exact turn _ _ _ _

theorem lZ_at (X : FVec Ideal (Rows n) .f32) (r : Fin N) (d : Fin 1280) :
    lZ e X (ix2 r d) = if q : 1 ≤ r.val ∧ r.val - 1 < n then X (ix2 ⟨r.val - 1, q.2⟩ d) else 0 := by
  have hN := e.len
  unfold lZ
  split
  · rename_i q
    refine concatenate_apply_piece (t := Rows N) 0 _ _ _ 1 ?_ (Rows n) X ?_ rfl 1 ?_ (ix2 ⟨r.val - 1, q.2⟩ d) ?_ ?_
    · exact (by decide : 1 < 3)
    · rfl
    · rfl
    · intro b hb; fin_cases b
      · exact absurd rfl hb
      · rfl
    · show 1 + (r.val - 1) = r.val; omega
  · rename_i q
    by_cases h0 : r.val = 0
    · refine (concatenate_apply_piece (t := Rows N) 0 _ _ _ 0 ?_ S1x1280 (broadcastInDim S1x1280 ![] bcast_S_S1x1280 zero) ?_ rfl 0 ?_ (ix2 0 d) ?_ ?_).trans ?_
      · exact (by decide : 0 < 3)
      · rfl
      · rfl
      · intro b hb; fin_cases b
        · exact absurd rfl hb
        · rfl
      · exact h0.symm
      · pointwise [zero]
    · refine (concatenate_apply_piece (t := Rows N) 0 _ _ _ 2 ?_ S2x1280 (broadcastInDim S2x1280 ![] bcast_S_S2x1280 zero) ?_ rfl (1 + n) ?_ (ix2 ⟨r.val - (1 + n), by omega⟩ d) ?_ ?_).trans ?_
      · exact (by decide : 2 < 3)
      · rfl
      · show 1 + (n + 0) = 1 + n; omega
      · intro b hb; fin_cases b
        · exact absurd rfl hb
        · rfl
      · show 1 + n + (r.val - (1 + n)) = r.val; omega
      · pointwise [zero]

theorem lS_at (X : FVec Ideal (Rows n) .f32) (k : Fin 4) (t : Fin n) (d : Fin 1280) : lS e X (ix3 k t d) = Conv.dn (col X d) t k := by
  have hN := e.len
  have piece : lS e X (ix3 k t d) = lV e X k (ix3 0 t d) := by
    unfold lS
    refine concatenate_apply_piece (t := Taps 4 n) 0 _ _ _ k.val ?_ (Taps 1 n) (lV e X k) ?_ rfl k.val ?_ (ix3 0 t d) ?_ ?_
    · exact k.isLt
    · fin_cases k <;> rfl
    · fin_cases k <;> rfl
    · intro b hb; fin_cases b
      · exact absurd rfl hb
      · rfl
      · rfl
    · exact Nat.add_zero _
  have read : lV e X k (ix3 0 t d) = lZ e X (ix2 ⟨k.val + t.val, by omega⟩ d) := by
    unfold lV
    refine (each_at e.one _ 0 t d).trans (extractStridedSlice_apply _ _ _ _ _ fun a => ?_)
    fin_cases a
    · rfl
    · exact (Nat.zero_add _).symm
  rw [piece, read, lZ_at]
  unfold Conv.dn
  split
  · rename_i q
    change 1 ≤ k.val + t.val ∧ k.val + t.val - 1 < n at q
    rw [dif_pos (by omega)]
    refine congrArg (col X d) (Fin.ext ?_)
    show k.val + t.val - 1 = t.val + k.val - 1
    omega
  · rename_i q
    change ¬(1 ≤ k.val + t.val ∧ k.val + t.val - 1 < n) at q
    rw [dif_neg (by omega)]

theorem sum_at (x : FVec Ideal (Taps 4 n) .f32) (k : Fin 4) (d : Fin 1280) : Host.reduceAdd x zero e.sum h_S_ (ix2 k d) = ∑ t : Fin n, x (ix3 k t d) := by
  pointwise [zero]

theorem lDw_at (D X : FVec Ideal (Rows n) .f32) (k : Fin 4) (d : Fin 1280) :
    lDw e D X (ix2 k d) = ∑ t : Fin n, Conv.dn (col X d) t k * col D d t := by
  have outer (x : FVec Ideal S4x1280 .f32) :
      Host.reduceAdd (shapeCast _ x shapeCasts_S4x1280_S4x1x1280) zero reducesTo_S4x1x1280_S4x1280_d1 h_S_ (ix2 k d) = x (ix2 k d) := by
    pointwise [zero]
    exact Fin.sum_univ_one _
  unfold lDw
  rw [outer, sum_at e]
  exact Finset.sum_congr rfl fun t _ => congrArg₂ (fun p q : EReal => p * q) (lS_at e X k t d) (each_at e.each D k t d)

end Seg

theorem fitsC : Fits 256 259 where
  len := rfl
  under := bcast_S4x1x1280_S4x256x1280_0_1_2
  each := bcast_S256x1280_S4x256x1280_1_2
  one := bcast_S256x1280_S1x256x1280_1_2
  drop := shapeCasts_S1x256x1280_S256x1280
  tap k := match k with
    | 0 => slices_S4x256x1280_S1x256x1280_0_0_0
    | 1 => slices_S4x256x1280_S1x256x1280_1_0_0
    | 2 => slices_S4x256x1280_S1x256x1280_2_0_0
    | 3 => slices_S4x256x1280_S1x256x1280_3_0_0
  win k := match k with
    | 0 => slices_S259x1280_S256x1280_0_0
    | 1 => slices_S259x1280_S256x1280_1_0
    | 2 => slices_S259x1280_S256x1280_2_0
    | 3 => slices_S259x1280_S256x1280_3_0
  pads k := match k with
    | 0 => pads_S256x1280_S259x1280_030_000
    | 1 => pads_S256x1280_S259x1280_120_000
    | 2 => pads_S256x1280_S259x1280_210_000
    | 3 => pads_S256x1280_S259x1280_300_000
  about := concatenates_S1x1280_S256x1280_S2x1280_S259x1280_d0
  stack := concatenates_S1x256x1280_S1x256x1280_S1x256x1280_S1x256x1280_S4x256x1280_d0
  sum := reducesTo_S4x256x1280_S4x1280_d1

theorem fitsL : Fits 2048 2051 where
  len := rfl
  under := bcast_S4x1x1280_S4x2048x1280_0_1_2
  each := bcast_S2048x1280_S4x2048x1280_1_2
  one := bcast_S2048x1280_S1x2048x1280_1_2
  drop := shapeCasts_S1x2048x1280_S2048x1280
  tap k := match k with
    | 0 => slices_S4x2048x1280_S1x2048x1280_0_0_0
    | 1 => slices_S4x2048x1280_S1x2048x1280_1_0_0
    | 2 => slices_S4x2048x1280_S1x2048x1280_2_0_0
    | 3 => slices_S4x2048x1280_S1x2048x1280_3_0_0
  win k := match k with
    | 0 => slices_S2051x1280_S2048x1280_0_0
    | 1 => slices_S2051x1280_S2048x1280_1_0
    | 2 => slices_S2051x1280_S2048x1280_2_0
    | 3 => slices_S2051x1280_S2048x1280_3_0
  pads k := match k with
    | 0 => pads_S2048x1280_S2051x1280_030_000
    | 1 => pads_S2048x1280_S2051x1280_120_000
    | 2 => pads_S2048x1280_S2051x1280_210_000
    | 3 => pads_S2048x1280_S2051x1280_300_000
  about := concatenates_S1x1280_S2048x1280_S2x1280_S2051x1280_d0
  stack := concatenates_S1x2048x1280_S1x2048x1280_S1x2048x1280_S1x2048x1280_S4x2048x1280_d0
  sum := reducesTo_S4x2048x1280_S4x1280_d1

/-- The two segments of a stream. -/
def pC (x : FVec Ideal S2304x1280 .f32) : FVec Ideal S256x1280 .f32 := extractStridedSlice S256x1280 ![0, 0] x slices_S2304x1280_S256x1280_0_0
def pL (x : FVec Ideal S2304x1280 .f32) : FVec Ideal S2048x1280 .f32 := extractStridedSlice S2048x1280 ![256, 0] x slices_S2304x1280_S2048x1280_256_0

theorem pC_col (x : FVec Ideal S2304x1280 .f32) (d : Fin 1280) : col (n := 256) (pC x) d = Conv.ctx (col x d) := by
  funext t
  refine extractStridedSlice_apply _ x slices_S2304x1280_S256x1280_0_0 (ix2 t d) (ix2 ⟨t.val, by omega⟩ d) fun a => ?_
  fin_cases a
  · exact (Nat.zero_add _).symm
  · exact (Nat.zero_add _).symm
theorem pL_col (x : FVec Ideal S2304x1280 .f32) (d : Fin 1280) : col (n := 2048) (pL x) d = Conv.lat (col x d) := by
  funext t
  refine extractStridedSlice_apply _ x slices_S2304x1280_S2048x1280_256_0 (ix2 t d) (ix2 ⟨256 + t.val, by omega⟩ d) fun a => ?_
  fin_cases a
  · rfl
  · exact (Nat.zero_add _).symm

variable (m : (ℓ : Loc nD τ sig) → Buf (Elt Ideal) ℓ) (c : Dev nD)

/-- The arrays the reference is given. -/
abbrev g0 : FVec Ideal S2304x1280 .f32 := m ((c.tc : Thread nD τ).loc main_arg0)
abbrev g1 : FVec Ideal S2304x1280 .f32 := m ((c.tc : Thread nD τ).loc main_arg1)
abbrev g2 : FVec Ideal S2304x1280 .f32 := m ((c.tc : Thread nD τ).loc main_arg2)
abbrev gX : FVec Ideal S2304x2560 .f32 := m ((c.tc : Thread nD τ).loc main_arg3)
abbrev gW : FVec Ideal S4x1280 .f32 := m ((c.tc : Thread nD τ).loc main_arg4)

/-- The cotangent, and the convolution's input. -/
def rD : FVec Ideal S2304x1280 .f32 := addf (addf (g0 m c) (g1 m c)) (g2 m c)
def rX : FVec Ideal S2304x1280 .f32 := extractStridedSlice S2304x1280 ![0, 1280] (gX m c) slices_S2304x2560_S2304x1280_0_1280

/-- The bias's gradient, as the reference's run states it. -/
def rB : FVec Ideal S1x1280 .f32 :=
  addf (shapeCast _ (Host.reduceAdd (pL (rD m c)) zero reducesTo_S2048x1280_S1280_d0 h_S_) shapeCasts_S1280_S1x1280)
    (shapeCast _ (Host.reduceAdd (pC (rD m c)) zero reducesTo_S256x1280_S1280_d0 h_S_) shapeCasts_S1280_S1x1280)

theorem res_dx : res_out0 m c = truncf .bf16 (addf
    (pad S2304x1280 ![256, 0] ![0, 0] ![0, 0] (lDx fitsL (pL (rD m c)) (gW m c)) zero pads_S2048x1280_S2304x1280_25600_000 h_S_)
    (pad S2304x1280 ![0, 0] ![2048, 0] ![0, 0] (lDx fitsC (pC (rD m c)) (gW m c)) zero pads_S256x1280_S2304x1280_020480_000 h_S_)) bitsLt_bf16_f32 := by
  rfl
theorem res_dw : res_out1 m c = addf (lDw fitsL (pL (rD m c)) (pL (rX m c))) (lDw fitsC (pC (rD m c)) (pC (rX m c))) := by
  rfl

/-- The input's gradient. -/
theorem out_dx (t : Fin 2304) (d : Fin 1280) :
    (res_out0 m c : FVec Ideal S2304x1280 .bf16) (ix2 t d) = Conv.dx (col (rD m c) d) (fun k => gW m c (ix2 k d)) t := by
  have segL := lDx_at fitsL (pL (rD m c)) (gW m c)
  have segC := lDx_at fitsC (pC (rD m c)) (gW m c)
  rw [res_dx]
  generalize lDx fitsL (pL (rD m c)) (gW m c) = a at segL ⊢
  generalize lDx fitsC (pC (rD m c)) (gW m c) = b at segC ⊢
  refine Eq.trans (congrArg₂ (fun p q : EReal => p + q) (pad_at a pads_S2048x1280_S2304x1280_25600_000 t d)
    (pad_at b pads_S256x1280_S2304x1280_020480_000 t d)) ?_
  unfold Conv.dx Conv.tap
  rw [← pC_col, ← pL_col]
  by_cases q : t.val < 256
  · rw [dif_neg (by omega), dif_pos ⟨Nat.zero_le _, q⟩, segC, zero_add]
    simp only [if_pos q]
    rfl
  · rw [dif_pos ⟨by omega, by omega⟩, dif_neg (by omega), segL, add_zero]
    simp only [if_neg q]
/-- The weights' gradient. -/
theorem out_dw (k : Fin 4) (d : Fin 1280) :
    (res_out1 m c : FVec Ideal S4x1280 .f32) (ix2 k d) = Conv.dw (col (rD m c) d) (col (rX m c) d) k := by
  rw [res_dw, Conv.dw_eq, ← pC_col, ← pC_col, ← pL_col, ← pL_col]
  exact congrArg₂ (fun p q : EReal => p + q) (lDw_at fitsL _ _ k d) (lDw_at fitsC _ _ k d)
/-- The bias's gradient. -/
theorem out_db (d : Fin 1280) : rB m c (ix2 0 d) = Conv.db (col (rD m c) d) := by
  unfold Conv.db
  rw [Conv.sum_segs, add_comm, ← pC_col, ← pL_col]
  unfold rB
  generalize pC (rD m c) = a, pL (rD m c) = b
  pointwise [zero]
  rfl

end Cert.ConvRef

end
-- ==== Proof.ConvClaim.lean ====
/- The gradient of layer 0's convolution: the kernel and the reference leave the same arrays, and the reference's frame. -/
module

public import proofs.«01_k».proof.Defs
public import proofs.«01_k».proof.Proof.ConvArr
public import proofs.«01_k».proof.Proof.ConvRef
public import proofs.«01_k».proof.Proof.MlpClaim

@[expose] public section

set_option maxRecDepth 16384

noncomputable section

namespace Cert.ConvClaim

open Idealize.ShloMosaic Idealize.ShloMosaic.TcCoe Idealize.SL.Sem
open Cert.MlpClaim (by_row by_col)

theorem frame_ref : Cert.quiescent_Reference5Ideal := fun m g _ =>
  (θ_run _ _ _).mono (fun r h => ⟨fun c => (h c).2.2.2, sem_eq_zero_of_no_sems (by decide) r.2⟩) (Cert.Reference5Ideal.Value.run m g)

variable (m : (ℓ : Loc Cert.Kernel5Ideal.nD Cert.Kernel5Ideal.τ Cert.Kernel5Ideal.sig) → Buf (Elt Ideal) ℓ)
variable (m' : (ℓ : Loc Cert.Reference5Ideal.nD Cert.Reference5Ideal.τ Cert.Reference5Ideal.sig) → Buf (Elt Ideal) ℓ) (c : Dev Cert.Kernel5Ideal.nD)

/-- The two programs are given the same arrays. -/
structure Given : Prop where
  d0 : ConvRef.g0 m' c = ConvArr.g0 m c
  d1 : ConvRef.g1 m' c = ConvArr.g1 m c
  d2 : ConvRef.g2 m' c = ConvArr.g2 m c
  X : ConvRef.gX m' c = ConvArr.gX m c
  W : ConvRef.gW m' c = ConvArr.gW m c

variable {m m' c} (e : Given m m' c)
include e

theorem col_D (d : Fin 1280) : ConvRef.col (n := 2304) (ConvRef.rD m' c) d = ConvArr.aD m c d := by
  rw [ConvRef.rD, e.d0, e.d1, e.d2]; rfl
theorem col_X (d : Fin 1280) : ConvRef.col (n := 2304) (ConvRef.rX m' c) d = ConvArr.aX m c d := by
  rw [ConvRef.rX, e.X]
  funext t
  refine extractStridedSlice_apply _ (ConvArr.gX m c) Cert.Reference5Ideal.Gen.slices_S2304x2560_S2304x1280_0_1280 (ix2 t d) (ix2 t (ConvArr.upper d)) fun a => ?_
  fin_cases a
  · exact (Nat.zero_add _).symm
  · rfl

theorem same_dx : (Cert.Reference5Ideal.Value.res_out0 m' c : FVec Ideal Cert.Kernel5Ideal.S2304x1280 .bf16)
    = (Cert.Kernel5Ideal.Gen.dats m 0 c).arrAt 5 Cert.Kernel5Ideal.cfg0.N := by
  refine by_row fun t d => (ConvRef.out_dx m' c t d).trans (Eq.trans ?_ (ConvArr.arr5 m c t d).symm)
  rw [col_D e, e.W]; rfl
theorem same_dw : (Cert.Reference5Ideal.Value.res_out1 m' c : FVec Ideal Cert.Kernel5Ideal.S4x1280 .f32)
    = (Cert.Kernel5Ideal.Gen.dats m 0 c).arrAt 6 Cert.Kernel5Ideal.cfg0.N := by
  refine by_row fun k d => (ConvRef.out_dw m' c k d).trans (Eq.trans ?_ (ConvArr.arr6 m c k d).symm)
  rw [col_D e, col_X e]
theorem same_db : (ConvRef.rB m' c : FVec Ideal Cert.Kernel5Ideal.S1x1280 .f32)
    = (Cert.Kernel5Ideal.Gen.dats m 0 c).arrAt 7 Cert.Kernel5Ideal.cfg0.N := by
  refine by_col fun d => (ConvRef.out_db m' c d).trans (Eq.trans ?_ (ConvArr.arr7 m c d).symm)
  rw [col_D e]

omit e in
theorem value : Cert.algebraic_Kernel5Ideal_Reference5Ideal := by
  intro m g m' g' _ hm
  have e : ∀ c, Given m m' c := fun c => by
    obtain ⟨h0, h1, h2, h3, h4⟩ := hm c
    exact ⟨h0, h1, h2, h3, h4⟩
  refine ⟨fun c => (Cert.Kernel5Ideal.Gen.dats m 0 c).arrAt 5 Cert.Kernel5Ideal.cfg0.N,
    fun c => (Cert.Kernel5Ideal.Gen.dats m 0 c).arrAt 6 Cert.Kernel5Ideal.cfg0.N,
    fun c => (Cert.Kernel5Ideal.Gen.dats m 0 c).arrAt 7 Cert.Kernel5Ideal.cfg0.N, Cert.Kernel5Ideal.Value.run_blocks m g, ?_⟩
  refine (θ_run _ _ _).mono (fun r h c => ?_) (Cert.Reference5Ideal.Value.run m' g')
  obtain ⟨r0, r1, r2, rest⟩ := h c
  exact ⟨r0.trans (same_dx (e c)), r1.trans (same_dw (e c)), r2.trans (same_db (e c)), rest⟩

end Cert.ConvClaim

end
-- ==== Proof.PreRow.lean ====
/-
  LAYER 0'S NORM AND PROJECTION ON ONE ROW. The rows are the context's followed by the latents', each sequence with its own
  scale and shift; the kernels take them in nine blocks, the first of which is the context. Both programs are read as functions
  of one row, of its sequence's parameters and of the weights.
-/
module

public import proofs.«01_k».proof.Proof.MlpRow

@[expose] public section

noncomputable section

namespace Cert.Pre

open Idealize.ShloMosaic
open Cert.Mlp (Row)

/-- A row of the projection. -/
abbrev Wide := Fin 2560 → EReal

/-- The row of a block and a place in it. -/
def pof (t : Fin 9) (i : Fin 256) : Fin 2304 := ⟨256 * t.val + i.val, by omega⟩
/-- The block of a row. -/
def pt (i : Fin 2304) : Fin 9 := ⟨i.val / 256, by omega⟩
/-- Its place in the block. -/
def pl (i : Fin 2304) : Fin 256 := ⟨i.val % 256, by omega⟩
/-- A row of the context. -/
def ctx (i : Fin 256) : Fin 2304 := ⟨i.val, by omega⟩
/-- A row of the latents. -/
def lat (i : Fin 2048) : Fin 2304 := ⟨256 + i.val, by omega⟩

theorem pof_pt_pl (i : Fin 2304) : pof (pt i) (pl i) = i := by
  apply Fin.ext; simp only [pt, pl, pof]; omega
theorem pt_pof (t : Fin 9) (i : Fin 256) : pt (pof t i) = t := by
  apply Fin.ext; simp only [pt, pof]; omega
theorem pof_zero (i : Fin 256) : pof 0 i = ctx i := by
  apply Fin.ext; simp [pof, ctx]
theorem pof_succ (t : Fin 8) (i : Fin 256) : pof t.succ i = lat (Mlp.rof t i) := by
  apply Fin.ext; simp only [pof, lat, Mlp.rof, Fin.val_succ]; omega

/-- The sequence of a block: the context is the first. -/
def sq (t : Fin 9) : Fin 2 := if t = 0 then 0 else 1
theorem sq_zero : sq 0 = 0 := rfl
theorem sq_succ (t : Fin 8) : sq t.succ = 1 := if_neg (Fin.succ_ne_zero t)
theorem pt_ctx (i : Fin 256) : pt (ctx i) = 0 := by rw [← pof_zero, pt_pof]
theorem sq_ctx (i : Fin 256) : sq (pt (ctx i)) = 0 := by rw [pt_ctx]; rfl
theorem sq_lat (i : Fin 2048) : sq (pt (lat i)) = 1 := by
  rw [← Mlp.rof_rt_ri i, ← pof_succ, pt_pof, sq_succ]
/-- A row is the context's or the latents'. -/
theorem which (i : Fin 2304) : (∃ k, i = ctx k) ∨ ∃ k, i = lat k := by
  by_cases h : i.val < 256
  · exact .inl ⟨⟨i.val, h⟩, rfl⟩
  · exact .inr ⟨⟨i.val - 256, by omega⟩, Fin.ext (by simp only [lat]; omega)⟩

/-- Sums over the blocks of sums over their rows: all rows, the context's, the latents'. -/
theorem sum_lat (f : Fin 2304 → EReal) : ∑ t : Fin 8, ∑ i : Fin 256, f (pof t.succ i) = ∑ i, f (lat i) := by
  rw [Mlp.sum_rof (fun i => f (lat i))]
  exact Finset.sum_congr rfl fun t _ => Finset.sum_congr rfl fun i _ => congrArg f (pof_succ t i)

/-- A row is a block and a place. -/
def pEquiv : Fin 9 × Fin 256 ≃ Fin 2304 where
  toFun p := pof p.1 p.2
  invFun i := (pt i, pl i)
  left_inv p := by
    refine Prod.ext (Fin.ext ?_) (Fin.ext ?_) <;> simp only [pt, pl, pof] <;> omega
  right_inv i := pof_pt_pl i

theorem sum_pof (f : Fin 2304 → EReal) : ∑ i, f i = ∑ t, ∑ i, f (pof t i) := by
  rw [← Equiv.sum_comp pEquiv f, Fintype.sum_prod_type]; rfl

/-- One in the context's block, zero elsewhere. -/
def on (t : Fin 9) : EReal := if t = 0 then 1 else 0
/-- Zero in the context's block, one elsewhere. -/
def off (t : Fin 9) : EReal := if t = 0 then 0 else 1
theorem one_sub_on (t : Fin 9) : 1 - on t = off t := by
  unfold on off
  split
  · exact EReal.sub_self (by decide) (by decide)
  · exact sub_zero _
/-- The kernels' choice of a sequence's parameters, as the mix of both with these factors. -/
theorem mix (t : Fin 9) (p : Fin 2 → EReal) : on t * p 0 + off t * p 1 = p (sq t) := by
  unfold on off sq
  split <;> simp
theorem sum_on (f : Fin 2304 → EReal) : ∑ t : Fin 9, (0 + on t * ∑ i : Fin 256, f (pof t i)) = ∑ i, f (ctx i) := by
  rw [Fin.sum_univ_succ]
  simp [on, Fin.succ_ne_zero, pof_zero]
theorem sum_off (f : Fin 2304 → EReal) : ∑ t : Fin 9, (off t * (∑ i : Fin 256, f (pof t i)) + 0) = ∑ i, f (lat i) := by
  rw [Fin.sum_univ_succ, ← sum_lat]
  simp [off, Fin.succ_ne_zero]

/-- A projected row. -/
def pj (h : Row) (w : Fin 1024 → Fin 2560 → EReal) : Wide := fun f => ∑ d, h d * w d f
/-- The modulated row's cotangent, of the projected row's. -/
def dh (g : Wide) (w : Fin 1024 → Fin 2560 → EReal) : Row := fun d => ∑ f, g f * w d f
/-- What the norm passes back to its row `x`, of the scaled row's cotangent. -/
def nb (x e : Row) : Row := fun d => e d * Mlp.rs x + x d * Mlp.kk x e + Mlp.kk x e * x d
/-- The latents' cotangents under zeros for the context. -/
def tail (y : Fin 2048 → Row) (i : Fin 2304) : Row := fun d => if h : 256 ≤ i.val then y ⟨i.val - 256, by omega⟩ d else 0
theorem tail_ctx (y : Fin 2048 → Row) (i : Fin 256) (d : Fin 1024) : tail y (ctx i) d = 0 :=
  dif_neg (by show ¬256 ≤ i.val; omega)
theorem tail_lat (y : Fin 2048 → Row) (i : Fin 2048) (d : Fin 1024) : tail y (lat i) d = y i d := by
  unfold tail
  rw [dif_pos (show 256 ≤ (lat i).val by simp [lat])]
  exact congrArg (fun k => y k d) (Fin.ext (by simp [lat]))

end Cert.Pre
-- ==== Proof.PreFwd.lean ====
/- Layer 0's norm and projection: the arrays the forward kernel leaves, row by row, of the arrays it finds. -/
module

public import proofs.«01_k».proof.Proof.PreRow
public import proofs.«01_k».proof.Proof.MlpBwdArr
public import proofs.«01_k».proof.Proof.Gen.Kernel6Ideal.Frame

@[expose] public section

set_option maxRecDepth 16384

noncomputable section

namespace Cert.PreFwd

open Cert.Kernel6Ideal Cert.Kernel6Ideal.Gen Idealize.ShloMosaic Idealize.ShloMosaic.TcCoe
open Idealize.ShloMosaic.Pipeline (Dat)
open Cert.MlpFwd (at2 arr_at row_inj blk_row blk_col)
open Cert.MlpBwd (whole_z)

theorem N0 : cfg0.N = 9 := by decide
/-- The grid point of a block of rows. -/
def at0 (t : Fin 9) : Fin cfg0.N := ⟨t.val, by rw [N0]; exact t.isLt⟩

/-- The comparison by which the kernels choose the sequence. -/
theorem slt_one : ∀ n : Fin 9, Scalar.cmpi .slt (BitVec.ofNat 32 n.val) 1#32 = if n = 0 then 1#1 else 0#1 := by decide
theorem one_bits : (Scalar.ofBits .f32 0x3F800000#32 : Ideal .f32) = (1 : EReal) := by
  show Ideal.ofBits .f32 0x3F800000#32 = 1
  pointwise
theorem zero_bits : (Scalar.ofBits .f32 0x00000000#32 : Ideal .f32) = (0 : EReal) := by
  show Ideal.ofBits .f32 0x00000000#32 = 0
  pointwise
theorem pick (n : Fin 9) (a b : Ideal .f32) :
    Scalar.select (Scalar.cmpi .slt (BitVec.ofNat 32 n.val) 1#32) a b = if n = 0 then a else b := by
  rw [slt_one]
  split <;> rfl

theorem coord0 : ∀ t : Fin 9, ((grid0.coords (at0 t)) 0).val = t.val := by decide +kernel

/-! The payloads. -/

theorem pay4_apply (t : Fin 9) (v : Vec Ideal S2x1024 .f32) (d : Fin 1024) :
    k0_pay4 (grid0.coords (at0 t)) v (ix2 (0 : Fin 1) d) = v (ix2 (Pre.sq t) d) := by
  rw [← Pre.mix t (fun a => v (ix2 a d)), ← Pre.one_sub_on]
  unfold k0_pay4
  rw [coord0 t]
  rw [pick, one_bits, zero_bits]
  change _ = Pre.on t * v (ix2 0 d) + (1 - Pre.on t) * v (ix2 1 d)
  have hs : (if t = 0 then (1 : EReal) else 0) = Pre.on t := rfl
  rw [hs]
  generalize Pre.on t = s
  pointwise

theorem pay5_eq (i : grid0.Coords) (v : Vec Ideal S2x1024 .f32) : k0_pay5 i v = k0_pay4 i v := rfl

theorem pay3_apply (x y : Vec Ideal S256x1024 .f32) (i : Fin 256) (d : Fin 1024) : k0_pay3 x y (ix2 i d) = x (ix2 i d) + y (ix2 i d) := by
  pointwise [k0_pay3]

theorem pay6_apply (x y : Vec Ideal S256x1024 .f32) (i : Fin 256) (d : Fin 1024) :
    k0_pay6 x y (ix2 i d) = Mlp.rs (Mlp.row (k0_pay3 x y) i) := by
  unfold k0_pay6
  generalize k0_pay3 x y = z
  pointwise
  rfl

theorem pay1_apply (g : Vec Ideal S1x1024 .f32) (z r : FVec Ideal S256x1024 .f32) (a b : FVec Ideal S1x1024 .f32) (i : Fin 256) (d : Fin 1024) :
    k0_pay1 g z a b r (ix2 i d) = z (ix2 i d) * r (ix2 i d) * g (ix2 0 d) * (1 + a (ix2 0 d)) + b (ix2 0 d) := by
  pointwise [k0_pay1]

theorem pay2_apply (g : Vec Ideal S1x1024 .f32) (w : Vec Ideal S1024x2560 .bf16) (z r : FVec Ideal S256x1024 .f32)
    (a b : FVec Ideal S1x1024 .f32) (i : Fin 256) (f : Fin 2560) :
    k0_pay2 g w z a b r (ix2 i f) = ∑ d : Fin 1024, k0_pay1 g z a b r (ix2 i d) * w (ix2 d f) := by
  unfold k0_pay2
  generalize k0_pay1 g z a b r = h
  pointwise

/-! What the point leaves. -/

section point
variable (t : Fin 9) (x0 x1 : Vec Ideal S256x1024 .f32) (x2 : Vec Ideal S1x1024 .f32) (x3 x4 : Vec Ideal S2x1024 .f32)
  (x5 : Vec Ideal S1024x2560 .bf16) (i : Fin 256)

theorem out6_apply (d : Fin 1024) : out0_6 (grid0.coords (at0 t)) x0 x1 x2 x3 x4 x5 (ix2 i d) = Mlp.row x0 i d + Mlp.row x1 i d := by
  unfold out0_6 k0_pay7
  rw [View.canon_unit_zero whole_z, View.ld_unit_zero whole_z, View.ld_unit_zero whole_z]
  exact pay3_apply x0 x1 i d

/-- The modulated row of a block. -/
def hrow : Mlp.Row :=
  Mlp.h (fun d => Mlp.row x0 i d + Mlp.row x1 i d) (Mlp.row x2 0) (Mlp.row x3 (Pre.sq t)) (Mlp.row x4 (Pre.sq t))

theorem hrow_eq (d : Fin 1024) :
    k0_pay1 x2 (k0_pay3 x0 x1) (k0_pay4 (grid0.coords (at0 t)) x3) (k0_pay5 (grid0.coords (at0 t)) x4) (k0_pay6 x0 x1) (ix2 i d)
      = hrow t x0 x1 x2 x3 x4 i d := by
  rw [pay1_apply, pay5_eq, pay4_apply, pay4_apply, pay6_apply]
  have e : Mlp.row (k0_pay3 x0 x1) i = fun d => Mlp.row x0 i d + Mlp.row x1 i d := funext fun d => pay3_apply x0 x1 i d
  rw [e, pay3_apply]
  rfl

theorem out7_apply (d : Fin 1024) : out0_7 (grid0.coords (at0 t)) x0 x1 x2 x3 x4 x5 (ix2 i d) = hrow t x0 x1 x2 x3 x4 i d := by
  unfold out0_7 k0_pay10 k0_pay9 k0_pay8 k0_pay7
  rw [View.canon_unit_zero whole_z]
  iterate 5 rw [View.ld_unit_zero whole_z]
  exact hrow_eq t x0 x1 x2 x3 x4 i d

theorem out8_apply (f : Fin 2560) :
    out0_8 (grid0.coords (at0 t)) x0 x1 x2 x3 x4 x5 (ix2 i f) = Pre.pj (hrow t x0 x1 x2 x3 x4 i) (fun d f => x5 (ix2 d f)) f := by
  unfold out0_8 k0_pay10 k0_pay9 k0_pay8 k0_pay7
  rw [View.canon_unit_zero whole_z]
  iterate 6 rw [View.ld_unit_zero whole_z]
  rw [pay2_apply]
  exact Finset.sum_congr (M := EReal) rfl fun d _ => congrArg (· * x5 (ix2 d f)) (hrow_eq t x0 x1 x2 x3 x4 i d)
end point

/-! Where the blocks lie. -/

variable (V : (c : Dev nD) → (b : Ref sig .tc) → Buf (Elt Ideal) ((c : Thread nD τ).loc b)) (c : Dev nD)

/-- The arrays the region finds. -/
abbrev aX : FVec Ideal S2304x1024 .f32 := V c main_arg0
abbrev aY : FVec Ideal S2304x1024 .f32 := V c main_arg1
abbrev aN : FVec Ideal S1x1024 .f32 := V c main_arg2
abbrev aC : FVec Ideal S2x1024 .f32 := V c main_arg3
abbrev aS : FVec Ideal S2x1024 .f32 := V c main_arg4
abbrev aW : FVec Ideal S1024x2560 .bf16 := V c main_arg5

theorem ix0 : ∀ t : Fin grid0.N, win0_0.index t (0 : Fin 2) = t.val ∧ win0_0.index t (1 : Fin 2) = 0 := by decide +kernel
theorem ix1 : ∀ t : Fin grid0.N, win0_1.index t (0 : Fin 2) = t.val ∧ win0_1.index t (1 : Fin 2) = 0 := by decide +kernel
theorem ixp : ∀ t : Fin grid0.N, ∀ a : Fin 2, win0_2.index t a = 0 ∧ win0_3.index t a = 0 ∧ win0_4.index t a = 0 ∧ win0_5.index t a = 0 := by decide +kernel

theorem rowX (t : Fin 9) (i : Fin 256) : Mlp.row (iblk0 V c 0 (at0 t) : Vec Ideal S256x1024 .f32) i = Mlp.row (aX V c) (Pre.pof t i) :=
  funext fun _ => at2 (aX V c) _ _ _ (blk_row (ix0 (at0 t)).1) (blk_col (ix0 (at0 t)).2)
theorem rowY (t : Fin 9) (i : Fin 256) : Mlp.row (iblk0 V c 1 (at0 t) : Vec Ideal S256x1024 .f32) i = Mlp.row (aY V c) (Pre.pof t i) :=
  funext fun _ => at2 (aY V c) _ _ _ (blk_row (ix1 (at0 t)).1) (blk_col (ix1 (at0 t)).2)
theorem rowN (t : Fin 9) : Mlp.row (iblk0 V c 2 (at0 t) : Vec Ideal S1x1024 .f32) = Mlp.row (aN V c) :=
  funext fun _ => funext fun _ => at2 (aN V c) _ _ _ (blk_col (ixp (at0 t) 0).1) (blk_col (ixp (at0 t) 1).1)
theorem rowC (t : Fin 9) : Mlp.row (iblk0 V c 3 (at0 t) : Vec Ideal S2x1024 .f32) = Mlp.row (aC V c) :=
  funext fun _ => funext fun _ => at2 (aC V c) _ _ _ (blk_col (ixp (at0 t) 0).2.1) (blk_col (ixp (at0 t) 1).2.1)
theorem rowS (t : Fin 9) : Mlp.row (iblk0 V c 4 (at0 t) : Vec Ideal S2x1024 .f32) = Mlp.row (aS V c) :=
  funext fun _ => funext fun _ => at2 (aS V c) _ _ _ (blk_col (ixp (at0 t) 0).2.2.1) (blk_col (ixp (at0 t) 1).2.2.1)
theorem rowW (t : Fin 9) (d : Fin 1024) (f : Fin 2560) : (iblk0 V c 5 (at0 t) : Vec Ideal S1024x2560 .bf16) (ix2 d f) = aW V c (ix2 d f) :=
  at2 (aW V c) _ _ _ (blk_col (ixp (at0 t) 0).2.2.2) (blk_col (ixp (at0 t) 1).2.2.2)

theorem ix6 : ∀ t : Fin grid0.N, win0_6.index t (0 : Fin 2) = t.val ∧ win0_6.index t (1 : Fin 2) = 0 ∧ win0_6.flush t = true := by decide +kernel
theorem ix7 : ∀ t : Fin grid0.N, win0_7.index t (0 : Fin 2) = t.val ∧ win0_7.index t (1 : Fin 2) = 0 ∧ win0_7.flush t = true := by decide +kernel
theorem ix8 : ∀ t : Fin grid0.N, win0_8.index t (0 : Fin 2) = t.val ∧ win0_8.index t (1 : Fin 2) = 0 ∧ win0_8.flush t = true := by decide +kernel

/-- The row entering the norm. -/
def xrow (i : Fin 2304) : Mlp.Row := fun d => Mlp.row (aX V c) i d + Mlp.row (aY V c) i d
/-- The modulated row. -/
def mrow (i : Fin 2304) : Mlp.Row :=
  Mlp.h (xrow V c i) (Mlp.row (aN V c) 0) (Mlp.row (aC V c) (Pre.sq (Pre.pt i))) (Mlp.row (aS V c) (Pre.sq (Pre.pt i)))

theorem hrow_blk (t : Fin 9) (i : Fin 256) :
    hrow t (iblk0 V c 0 (at0 t)) (iblk0 V c 1 (at0 t)) (iblk0 V c 2 (at0 t)) (iblk0 V c 3 (at0 t)) (iblk0 V c 4 (at0 t)) i
      = mrow V c (Pre.pof t i) := by
  unfold hrow mrow xrow
  rw [rowX, rowY, rowN, rowC, rowS, Pre.pt_pof]

theorem arr6 (i : Fin 2304) (d : Fin 1024) :
    ((dat0 V c).arrAt 6 cfg0.N : FVec Ideal S2304x1024 .f32) (ix2 i d) = xrow V c i d := by
  obtain ⟨t, k, rfl⟩ : ∃ t k, i = Pre.pof t k := ⟨_, _, (Pre.pof_pt_pl i).symm⟩
  have e := arr_at (dat0 V c) 6 rfl (fun t => (ix6 t).2.2)
    (row_inj ix6) (at0 t) (ix2 k d : S256x1024.Idx)
  refine Eq.trans (at2 ((dat0 V c).arrAt 6 cfg0.N : FVec Ideal S2304x1024 .f32) _ _ _ (blk_row (ix6 (at0 t)).1) (blk_col (ix6 (at0 t)).2.1)).symm
    (e.trans ?_)
  refine (congrFun (after0_6 V c (at0 t)) _).trans ((out6_apply t _ _ _ _ _ _ k d).trans ?_)
  rw [rowX, rowY]; rfl

theorem arr7 (i : Fin 2304) (d : Fin 1024) :
    ((dat0 V c).arrAt 7 cfg0.N : FVec Ideal S2304x1024 .bf16) (ix2 i d) = mrow V c i d := by
  obtain ⟨t, k, rfl⟩ : ∃ t k, i = Pre.pof t k := ⟨_, _, (Pre.pof_pt_pl i).symm⟩
  have e := arr_at (dat0 V c) 7 rfl (fun t => (ix7 t).2.2)
    (row_inj ix7) (at0 t) (ix2 k d : S256x1024.Idx)
  refine Eq.trans (at2 ((dat0 V c).arrAt 7 cfg0.N : FVec Ideal S2304x1024 .bf16) _ _ _ (blk_row (ix7 (at0 t)).1) (blk_col (ix7 (at0 t)).2.1)).symm
    (e.trans ?_)
  exact (congrFun (after0_7 V c (at0 t)) _).trans ((out7_apply t _ _ _ _ _ _ k d).trans (congrFun (hrow_blk V c t k) d))

theorem arr8 (i : Fin 2304) (f : Fin 2560) :
    ((dat0 V c).arrAt 8 cfg0.N : FVec Ideal S2304x2560 .f32) (ix2 i f) = Pre.pj (mrow V c i) (fun d f => aW V c (ix2 d f)) f := by
  obtain ⟨t, k, rfl⟩ : ∃ t k, i = Pre.pof t k := ⟨_, _, (Pre.pof_pt_pl i).symm⟩
  have e := arr_at (dat0 V c) 8 rfl (fun t => (ix8 t).2.2)
    (row_inj ix8) (at0 t) (ix2 k f : S256x2560.Idx)
  refine Eq.trans (at2 ((dat0 V c).arrAt 8 cfg0.N : FVec Ideal S2304x2560 .f32) _ _ _ (blk_row (ix8 (at0 t)).1) (blk_col (ix8 (at0 t)).2.1)).symm
    (e.trans ?_)
  refine (congrFun (after0_8 V c (at0 t)) _).trans ((out8_apply t _ _ _ _ _ _ k f).trans ?_)
  rw [hrow_blk]
  exact Finset.sum_congr (M := EReal) rfl fun d _ => congrArg (mrow V c (Pre.pof t k) d * ·) (rowW V c t d f)

end Cert.PreFwd

end
-- ==== Proof.PreDw.lean ====
/- The projection's weight gradient, of the arrays its kernel finds, and the results of the program of the arrays it is given. -/
module

public import proofs.«01_k».proof.Proof.PreFwd
public import proofs.«01_k».proof.Proof.MlpDw

@[expose] public section

set_option maxRecDepth 16384

noncomputable section

namespace Cert.PreDw

open Cert.Kernel6Ideal Cert.Kernel6Ideal.Gen Idealize.ShloMosaic Idealize.ShloMosaic.TcCoe
open Idealize.ShloMosaic.Pipeline (Dat)
open Cert.MlpFwd (at2 blk_col)
open Cert.MlpBwd (whole_z)
open Cert.MlpDw (blk_hid)

theorem pay_apply (v w : Vec Ideal S2304x512 .bf16) (a b : Fin 512) : k1_pay1 v w (ix2 a b) = ∑ i : Fin 2304, v (ix2 i a) * w (ix2 i b) := by
  pointwise [k1_pay1]

theorem out_apply (v w : Vec Ideal S2304x512 .bf16) (a b : Fin 512) : out1_2 v w (ix2 a b) = ∑ i : Fin 2304, v (ix2 i a) * w (ix2 i b) := by
  unfold out1_2
  rw [View.canon_unit_zero whole_z]
  iterate 2 rw [View.ld_unit_zero whole_z]
  exact pay_apply v w a b

theorem N1 : cfg1.N = 10 := by decide
/-- The grid point of a tile of the gradient. -/
def tile (p : Fin 2) (q : Fin 5) : Fin cfg1.N := ⟨5 * p.val + q.val, by rw [N1]; omega⟩
/-- A row of the gradient, of its tile and its place there. -/
def dof (p : Fin 2) (k : Fin 512) : Fin 1024 := ⟨512 * p.val + k.val, by omega⟩
/-- A column of the gradient, of its tile and its place there. -/
def fof (q : Fin 5) (k : Fin 512) : Fin 2560 := ⟨512 * q.val + k.val, by omega⟩
theorem dof_all (d : Fin 1024) : ∃ p k, d = dof p k :=
  ⟨⟨d.val / 512, by omega⟩, ⟨d.val % 512, by omega⟩, Fin.ext (by change d.val = 512 * (d.val / 512) + d.val % 512; omega)⟩
theorem fof_all (f : Fin 2560) : ∃ q k, f = fof q k :=
  ⟨⟨f.val / 512, by omega⟩, ⟨f.val % 512, by omega⟩, Fin.ext (by change f.val = 512 * (f.val / 512) + f.val % 512; omega)⟩

theorem ix0 : ∀ (p : Fin 2) (q : Fin 5), win1_0.index (tile p q) (0 : Fin 2) = 0 ∧ win1_0.index (tile p q) (1 : Fin 2) = p.val := by decide +kernel
theorem ix1 : ∀ (p : Fin 2) (q : Fin 5), win1_1.index (tile p q) (0 : Fin 2) = 0 ∧ win1_1.index (tile p q) (1 : Fin 2) = q.val := by decide +kernel
theorem ix2' : ∀ (p : Fin 2) (q : Fin 5), win1_2.index (tile p q) (0 : Fin 2) = p.val ∧ win1_2.index (tile p q) (1 : Fin 2) = q.val := by decide +kernel
theorem flush : ∀ t : Fin grid1.N, win1_2.flush t = true := by decide +kernel
theorem apart : ∀ t t' : Fin cfg1.N, win1_2.index t (0 : Fin 2) = win1_2.index t' (0 : Fin 2) → win1_2.index t (1 : Fin 2) = win1_2.index t' (1 : Fin 2) → t = t' :=
  (by decide +kernel : ∀ t t' : Fin grid1.N, win1_2.index t (0 : Fin 2) = win1_2.index t' (0 : Fin 2) → win1_2.index t (1 : Fin 2) = win1_2.index t' (1 : Fin 2) → t = t')

section region
variable (V : (c : Dev nD) → (b : Ref sig .tc) → Buf (Elt Ideal) ((c : Thread nD τ).loc b)) (c : Dev nD)

/-- The arrays the region finds. -/
abbrev aH : FVec Ideal S2304x1024 .bf16 := V c main_v0_1
abbrev aG : FVec Ideal S2304x2560 .bf16 := V c main_arg6

theorem rowH (p : Fin 2) (q : Fin 5) (i : Fin 2304) (k : Fin 512) :
    (iblk1 V c 0 (tile p q) : Vec Ideal S2304x512 .bf16) (ix2 i k) = aH V c (ix2 i (dof p k)) :=
  at2 (aH V c) _ _ _ (blk_col (ix0 p q).1) (blk_hid (ix0 p q).2)
theorem rowG (p : Fin 2) (q : Fin 5) (i : Fin 2304) (k : Fin 512) :
    (iblk1 V c 1 (tile p q) : Vec Ideal S2304x512 .bf16) (ix2 i k) = aG V c (ix2 i (fof q k)) :=
  at2 (aG V c) _ _ _ (blk_col (ix1 p q).1) (blk_hid (ix1 p q).2)

theorem arr2 (d : Fin 1024) (f : Fin 2560) :
    ((dat1 V c).arrAt 2 cfg1.N : FVec Ideal S1024x2560 .bf16) (ix2 d f) = ∑ i : Fin 2304, aH V c (ix2 i d) * aG V c (ix2 i f) := by
  obtain ⟨p, k, rfl⟩ := dof_all d
  obtain ⟨q, l, rfl⟩ := fof_all f
  have e := congrFun ((dat1 V c).read_blk_arrAt_eq_flushed 2
    (fun t t' _ _ hne => (cfg1.win 2).disjoint_blk (hk := rfl) fun h => hne
      (apart t t' (congrFun h (0 : Fin 2)) (congrFun h (1 : Fin 2)))) cfg1.N (tile p q) (tile p q).isLt (flush (tile p q)))
    (ix2 k l : S512x512.Idx)
  refine Eq.trans (at2 ((dat1 V c).arrAt 2 cfg1.N : FVec Ideal S1024x2560 .bf16) _ _ _ (blk_hid (ix2' p q).1) (blk_hid (ix2' p q).2)).symm
    (e.trans ?_)
  refine (congrFun (after1_2 V c (tile p q)) _).trans ((out_apply _ _ k l).trans ?_)
  exact Finset.sum_congr (M := EReal) rfl fun i _ => congrArg₂ (· * ·) (rowH V c p q i k) (rowG V c p q i l)
end region

/-! What the program leaves, of what it is given. -/

variable (m : (ℓ : Loc nD τ sig) → Buf (Elt Ideal) ℓ) (ρ : Dev nD → PrngReg) (c : Dev nD)

/-- The arrays the program is given. -/
abbrev gX : FVec Ideal S2304x1024 .f32 := m ((c : Thread nD τ).loc main_arg0)
abbrev gY : FVec Ideal S2304x1024 .f32 := m ((c : Thread nD τ).loc main_arg1)
abbrev gN : FVec Ideal S1x1024 .f32 := m ((c : Thread nD τ).loc main_arg2)
abbrev gC : FVec Ideal S2x1024 .f32 := m ((c : Thread nD τ).loc main_arg3)
abbrev gS : FVec Ideal S2x1024 .f32 := m ((c : Thread nD τ).loc main_arg4)
abbrev gW : FVec Ideal S1024x2560 .bf16 := m ((c : Thread nD τ).loc main_arg5)
abbrev gG : FVec Ideal S2304x2560 .bf16 := m ((c : Thread nD τ).loc main_arg6)

/-- The row entering the norm. -/
def x0 (i : Fin 2304) : Mlp.Row := fun d => gX m c (ix2 i d) + gY m c (ix2 i d)
/-- The row entering the projection. -/
def hr (i : Fin 2304) : Mlp.Row :=
  Mlp.h (x0 m c i) (Mlp.row (gN m c) 0) (Mlp.row (gC m c) (Pre.sq (Pre.pt i))) (Mlp.row (gS m c) (Pre.sq (Pre.pt i)))

theorem out_x0 (i : Fin 2304) (d : Fin 1024) :
    (W2 m ρ c (Proc.devRef .tc main_v0_0) : FVec Ideal S2304x1024 .f32) (ix2 i d) = x0 m c i d :=
  (congrFun (W2_of m ρ c main_v0_0 (by decide +kernel)) _).trans ((congrFun (W1_arr m ρ c 6) _).trans (PreFwd.arr6 (V0 m ρ) c i d))
theorem out_gr (i : Fin 2304) (f : Fin 2560) :
    (W2 m ρ c (Proc.devRef .tc main_v0_2) : FVec Ideal S2304x2560 .f32) (ix2 i f) = Pre.pj (hr m c i) (fun d f => gW m c (ix2 d f)) f :=
  (congrFun (W2_of m ρ c main_v0_2 (by decide +kernel)) _).trans ((congrFun (W1_arr m ρ c 8) _).trans (PreFwd.arr8 (V0 m ρ) c i f))
theorem in_h (i : Fin 2304) (d : Fin 1024) : aH (V1 m ρ) c (ix2 i d) = hr m c i d :=
  (congrFun (W1_arr m ρ c 7) _).trans (PreFwd.arr7 (V0 m ρ) c i d)
theorem in_g : aG (V1 m ρ) c = gG m c := W1_args m ρ c main_arg6 (by decide)
theorem out_dw (d : Fin 1024) (f : Fin 2560) :
    (W2 m ρ c (Proc.devRef .tc main_v1) : FVec Ideal S1024x2560 .bf16) (ix2 d f) = ∑ i : Fin 2304, hr m c i d * gG m c (ix2 i f) :=
  (congrFun (W2_arr m ρ c 2) _).trans ((arr2 (V1 m ρ) c d f).trans
    (Finset.sum_congr (M := EReal) rfl fun i _ => congrArg₂ (· * ·) (in_h m ρ c i d) (congrFun (in_g m ρ c) _)))

end Cert.PreDw

end
-- ==== Proof.PreRun.lean ====
/- The run of the program of layer 0's norm and projection. -/
module

public import proofs.«01_k».proof.Proof.RunKit
public import proofs.«01_k».proof.Proof.Gen.Kernel6Ideal.Frame

@[expose] public section

set_option maxRecDepth 16384

noncomputable section

namespace Cert.PreRun

open Cert.Kernel6Ideal Cert.Kernel6Ideal.Gen Idealize.ShloMosaic Idealize.ShloMosaic.TcCoe Idealize.SL.ProofMode Idealize.SL.Sem

variable {F : FTy → Type} [FloatOps F] (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r =>
    (∀ c : Dev nD, ∀ b ∈ Pipeline.ucRefs τ sig, r.2.mem ((c : Thread nD τ).1, b) = W2 m ρ c b) ∧ r.2.sem = fun _ => 0) :=
  RunKit.run pcfgs adm (pdats m ρ) cellOf_inj defs₀ m ρ main (segs m ρ) (main_run m ρ)
    (by simp only [segs, Pipeline.Seg.pipes_host, Pipeline.Seg.pipes_region, Pipeline.Seg.pipes_nil]; decide)
    (W2 m ρ) ⟨fun _ => .rfl, fun _ => .rfl, fun _ => .rfl⟩ no_unscoped

end Cert.PreRun
-- ==== Proof.PreRef.lean ====
/- Layer 0's norm and projection: the reference's lines, each read at a place, and its results of them. -/
module

public import proofs.«01_k».proof.Proof.PreRow
public import proofs.«01_k».proof.Proof.Gen.Reference6Ideal.Run
public import Idealize.ShloMosaic.Lib.IdealHost

@[expose] public section

set_option maxRecDepth 16384

noncomputable section

namespace Cert.PreRef

open Cert.Reference6Ideal Cert.Reference6Ideal.Gen Idealize.ShloMosaic Idealize.ShloMosaic.TcCoe Idealize.ShloMosaic.Tactic

abbrev Feat := FVec Ideal S2304x1024 .f32
abbrev Two := FVec Ideal S2x1024 .f32

/-- The two rows of a parameter, each under the rows of its sequence. -/
def two (p : Two) : Feat :=
  concatenate S2304x1024 0 [⟨S256x1024, broadcastInDim S256x1024 ![0, 1] bcast_S1x1024_S256x1024_0_1
      (extractStridedSlice S1x1024 ![0, 0] p slices_S2x1024_S1x1024_0_0)⟩,
    ⟨S2048x1024, broadcastInDim S2048x1024 ![0, 1] bcast_S1x1024_S2048x1024_0_1
      (extractStridedSlice S1x1024 ![1, 0] p slices_S2x1024_S1x1024_1_0)⟩] concatenates_S256x1024_S2048x1024_S2304x1024_d0
def under (p : FVec Ideal S1x1024 .f32) : Feat := broadcastInDim S2304x1024 ![0, 1] bcast_S1x1024_S2304x1024_0_1 p
def across (p : FVec Ideal S2304x1 .f32) : Feat := broadcastInDim S2304x1024 ![0, 1] bcast_S2304x1_S2304x1024_0_1 p
def col (b : BitVec 32) : FVec Ideal S2304x1 .f32 := broadcastInDim S2304x1 ![] bcast_S_S2304x1 (constant S_ .f32 b)
def along (z : Feat) : FVec Ideal S2304 .f32 := Host.reduceAdd z (constant S_ .f32 0x00000000#32) reducesTo_S2304x1024_S2304_d1 h_S_
def lMs (x : Feat) : FVec Ideal S2304x1 .f32 :=
  addf (Host.divf (broadcastInDim S2304x1 ![0] bcast_S2304_S2304x1_0 (along (mulf x x))) (col 0x44800000#32)) (col 0x358637BD#32)
def lRs (x : Feat) : FVec Ideal S2304x1 .f32 := Host.rsqrt (lMs x)
def lN (x : Feat) (g : FVec Ideal S1x1024 .f32) : Feat := mulf (mulf x (across (lRs x))) (under g)
def lS (p : Two) : Feat := addf (broadcastInDim S2304x1024 ![] bcast_S_S2304x1024 (constant S_ .f32 0x3F800000#32)) (two p)
def lH (x : Feat) (g : FVec Ideal S1x1024 .f32) (sc sh : Two) : Feat := addf (mulf (lN x g) (lS sc)) (two sh)
def lP (h : Feat) (w : FVec Ideal S1024x2560 .bf16) : FVec Ideal S2304x2560 .f32 :=
  Host.dotGeneral dot_S2304x1024_S1024x2560_S2304x2560_1_0_0_1_n_n none h (extf .f32 w bitsLt_bf16_f32)
def lW (h : Feat) (g : FVec Ideal S2304x2560 .bf16) : FVec Ideal S1024x2560 .bf16 :=
  truncf .bf16 (transpose S1024x2560 [1, 0] (Host.dotGeneral dot_S2304x2560_S2304x1024_S2560x1024_0_0_1_1_n_n none
    (extf .f32 g bitsLt_bf16_f32) h) transposes_S2560x1024_S1024x2560_1_0) bitsLt_bf16_f32

theorem two_at (p : Two) (i : Fin 2304) (d : Fin 1024) : two p (ix2 i d) = Mlp.row p (Pre.sq (Pre.pt i)) d := by
  rcases Pre.which i with ⟨k, rfl⟩ | ⟨k, rfl⟩
  · rw [Pre.sq_ctx]
    pointwise [two]
    rw [dif_pos (show (Pre.ctx k).val < 256 from k.isLt)]
    rfl
  · rw [Pre.sq_lat]
    pointwise [two]
    rw [dif_neg (show ¬ (Pre.lat k).val < 256 from Nat.not_lt.mpr (Nat.le_add_right _ _))]
    rfl
theorem under_at (p : FVec Ideal S1x1024 .f32) (i : Fin 2304) (d : Fin 1024) : under p (ix2 i d) = Mlp.row p 0 d := by
  pointwise [under]
  rfl
theorem across_at (p : FVec Ideal S2304x1 .f32) (i : Fin 2304) (d : Fin 1024) : across p (ix2 i d) = p (ix2 i 0) := by
  pointwise [across]
theorem lMs_at (x : Feat) (i : Fin 2304) : lMs x (ix2 i 0) = Mlp.ms (Mlp.row x i) := by
  rw [lMs]
  pointwise [col, along]
  rfl
theorem lRs_at (x : Feat) (i : Fin 2304) : lRs x (ix2 i 0) = Mlp.rs (Mlp.row x i) := by
  rw [lRs]
  pointwise
  rw [lMs_at]; rfl
theorem lN_at (x : Feat) (g : FVec Ideal S1x1024 .f32) (i : Fin 2304) (d : Fin 1024) :
    lN x g (ix2 i d) = Mlp.nr (Mlp.row x i) (Mlp.row g 0) d := by
  rw [lN]
  pointwise
  rw [under_at, across_at, lRs_at]; rfl
theorem lS_at (p : Two) (i : Fin 2304) (d : Fin 1024) : lS p (ix2 i d) = 1 + Mlp.row p (Pre.sq (Pre.pt i)) d := by
  rw [lS, ← two_at]
  generalize two p = z
  pointwise
theorem lH_at (x : Feat) (g : FVec Ideal S1x1024 .f32) (sc sh : Two) (i : Fin 2304) (d : Fin 1024) :
    lH x g sc sh (ix2 i d)
      = Mlp.h (Mlp.row x i) (Mlp.row g 0) (Mlp.row sc (Pre.sq (Pre.pt i))) (Mlp.row sh (Pre.sq (Pre.pt i))) d := by
  rw [lH]
  pointwise
  rw [two_at, lN_at, lS_at]; rfl
theorem lP_at (h : Feat) (w : FVec Ideal S1024x2560 .bf16) (i : Fin 2304) (f : Fin 2560) :
    lP h w (ix2 i f) = Pre.pj (Mlp.row h i) (fun d f => w (ix2 d f)) f := by
  rw [lP]
  pointwise
  rfl
theorem lW_at (h : Feat) (g : FVec Ideal S2304x2560 .bf16) (d : Fin 1024) (f : Fin 2560) :
    lW h g (ix2 d f) = ∑ i : Fin 2304, h (ix2 i d) * g (ix2 i f) := by
  rw [lW]
  pointwise
  exact Finset.sum_congr (M := EReal) rfl fun i _ => mul_comm _ _

end Cert.PreRef

end
-- ==== Proof.PreClaim.lean ====
/- Layer 0's norm and projection: the kernels and the reference leave the same arrays, and the frame of the reference. -/
module

public import proofs.«01_k».proof.Defs
public import proofs.«01_k».proof.Proof.PreDw
public import proofs.«01_k».proof.Proof.PreRun
public import proofs.«01_k».proof.Proof.PreRef
public import proofs.«01_k».proof.Proof.MlpClaim

@[expose] public section

set_option maxRecDepth 16384

noncomputable section

namespace Cert.PreClaim

open Idealize.ShloMosaic Idealize.ShloMosaic.TcCoe Idealize.SL.Sem
open Cert.Kernel6Ideal.Gen (W2)
open Cert.MlpClaim (by_row)

theorem frame_ref : Cert.quiescent_Reference6Ideal := fun m g _ =>
  (θ_run _ _ _).mono (fun r h => ⟨fun c => (h c).2.2.2, sem_eq_zero_of_no_sems (by decide) r.2⟩) (Cert.Reference6Ideal.Value.run m g)

variable (m : (ℓ : Loc Cert.Kernel6Ideal.nD Cert.Kernel6Ideal.τ Cert.Kernel6Ideal.sig) → Buf (Elt Ideal) ℓ) (ρ : Dev Cert.Kernel6Ideal.nD → PrngReg)
  (c : Dev Cert.Kernel6Ideal.nD)

/-- The reference's sum, of the arrays the program is given. -/
abbrev rx : PreRef.Feat := addf (PreDw.gX m c) (PreDw.gY m c)
abbrev rh : PreRef.Feat := PreRef.lH (rx m c) (PreDw.gN m c) (PreDw.gC m c) (PreDw.gS m c)

theorem rx_row (i : Fin 2304) : Mlp.row (rx m c) i = PreDw.x0 m c i := rfl
theorem rh_row (i : Fin 2304) : Mlp.row (rh m c) i = PreDw.hr m c i :=
  funext fun d => (PreRef.lH_at _ _ _ _ i d).trans (by rw [rx_row]; rfl)

theorem same_x0 : rx m c = (W2 m ρ c (Proc.devRef .tc Cert.Kernel6Ideal.main_v0_0) : FVec Ideal Cert.Kernel6Ideal.S2304x1024 .f32) :=
  by_row fun i d => (PreDw.out_x0 m ρ c i d).symm
theorem same_gr : PreRef.lP (rh m c) (PreDw.gW m c)
    = (W2 m ρ c (Proc.devRef .tc Cert.Kernel6Ideal.main_v0_2) : FVec Ideal Cert.Kernel6Ideal.S2304x2560 .f32) :=
  by_row fun i f => (PreRef.lP_at _ _ i f).trans (Eq.trans (by rw [rh_row]) (PreDw.out_gr m ρ c i f).symm)
theorem same_dw : PreRef.lW (rh m c) (PreDw.gG m c)
    = (W2 m ρ c (Proc.devRef .tc Cert.Kernel6Ideal.main_v1) : FVec Ideal Cert.Kernel6Ideal.S1024x2560 .bf16) :=
  by_row fun d f => (PreRef.lW_at _ _ d f).trans (Eq.trans
    (Finset.sum_congr (M := EReal) rfl fun i _ => congrArg (· * PreDw.gG m c (ix2 i f)) (congrFun (rh_row m c i) d)) (PreDw.out_dw m ρ c d f).symm)

theorem value : Cert.algebraic_Kernel6Ideal_Reference6Ideal := by
  intro m g m' g' _ hm
  refine ⟨fun c => W2 m g c (Proc.devRef .tc Cert.Kernel6Ideal.main_v0_0),
    fun c => W2 m g c (Proc.devRef .tc Cert.Kernel6Ideal.main_v0_2),
    fun c => W2 m g c (Proc.devRef .tc Cert.Kernel6Ideal.main_v1), ?_, ?_⟩
  · refine (θ_run _ _ _).mono (fun r h c => ?_) (Cert.PreRun.run m g)
    have at_ := fun (b : Ref Cert.Kernel6Ideal.sig .tc) (hb : ¬ (Proc.devRef .tc b : DevRef Cert.Kernel6Ideal.τ Cert.Kernel6Ideal.sig).isScoped) =>
      h.1 c _ (Cert.Kernel6Ideal.Gen.mem_uc b hb)
    exact ⟨at_ Cert.Kernel6Ideal.main_v0_0 (by decide),
      at_ Cert.Kernel6Ideal.main_v0_2 (by decide),
      at_ Cert.Kernel6Ideal.main_v1 (by decide),
      (at_ Cert.Kernel6Ideal.main_arg0 (by decide)).trans (Cert.Kernel6Ideal.Gen.W2_main_arg0 m g c),
      (at_ Cert.Kernel6Ideal.main_arg1 (by decide)).trans (Cert.Kernel6Ideal.Gen.W2_main_arg1 m g c),
      (at_ Cert.Kernel6Ideal.main_arg2 (by decide)).trans (Cert.Kernel6Ideal.Gen.W2_main_arg2 m g c),
      (at_ Cert.Kernel6Ideal.main_arg3 (by decide)).trans (Cert.Kernel6Ideal.Gen.W2_main_arg3 m g c),
      (at_ Cert.Kernel6Ideal.main_arg4 (by decide)).trans (Cert.Kernel6Ideal.Gen.W2_main_arg4 m g c),
      (at_ Cert.Kernel6Ideal.main_arg5 (by decide)).trans (Cert.Kernel6Ideal.Gen.W2_main_arg5 m g c),
      (at_ Cert.Kernel6Ideal.main_arg6 (by decide)).trans (Cert.Kernel6Ideal.Gen.W2_main_arg6 m g c)⟩
  · refine (θ_run _ _ _).mono (fun r h c => ?_) (Cert.Reference6Ideal.Value.run m' g')
    obtain ⟨r0, r1, r2, rest⟩ := h c
    obtain ⟨h0, h1, h2, h3, h4, h5, h6⟩ := hm c
    rw [h0, h1] at r0
    rw [h0, h1, h2, h3, h4, h5] at r1
    rw [h0, h1, h2, h3, h4, h6] at r2
    exact ⟨r0.trans (same_x0 m g c), r1.trans (same_gr m g c), r2.trans (same_dw m g c), rest⟩

end Cert.PreClaim

end
-- ==== Proof.GluRow.lean ====
/-
  THE GATED PROJECTION ON ONE ROW. A row of 2048 entries is a half that is gated and a half that is the gate; the kernels spell the
  gate as a hyperbolic tangent, the reference as the logistic function, and over the extended reals the two spellings agree
  everywhere, as do their derivatives.
-/
module

public import proofs.«01_k».proof.Proof.PreRow

@[expose] public section

noncomputable section

namespace Cert.Glu

open Idealize.ShloMosaic
open Cert.Mlp (Row)

/-- A projected row. -/
abbrev Wide := Fin 2048 → EReal
/-- An entry of the gated half. -/
def lo (d : Fin 1024) : Fin 2048 := ⟨d.val, by omega⟩
/-- An entry of the gate. -/
def hi (d : Fin 1024) : Fin 2048 := ⟨1024 + d.val, by omega⟩
theorem which (f : Fin 2048) : (∃ d, f = lo d) ∨ ∃ d, f = hi d := by
  by_cases h : f.val < 1024
  · exact .inl ⟨⟨f.val, h⟩, rfl⟩
  · exact .inr ⟨⟨f.val - 1024, by omega⟩, Fin.ext (by simp only [hi]; omega)⟩

/-- One half, as the programs spell it. -/
def cF : EReal := Ideal.ofBits .f32 0x3F000000#32
theorem cF_eq : cF = ((1 / 2 : ℝ) : EReal) := by
  simp [cF, Ideal.ofBits, Ideal.ieee, -EReal.coe_mul]; norm_num

/-- The gate in the kernels' spelling. -/
def tn (y : EReal) : EReal := Ideal.tanh (cF * y)

theorem real_gate (r : ℝ) : 1 / 2 * (Real.tanh (1 / 2 * r) + 1) = (1 + Real.exp (-r))⁻¹ := by
  rw [Real.tanh_eq_sinh_div_cosh, Real.sinh_eq, Real.cosh_eq]
  have e : Real.exp (-r) = Real.exp (-(1 / 2 * r)) * Real.exp (-(1 / 2 * r)) := by rw [← Real.exp_add]; congr 1; ring
  rw [e, Real.exp_neg]
  have p := Real.exp_pos (1 / 2 * r)
  generalize Real.exp (1 / 2 * r) = a at p
  field_simp
  ring

theorem half_bot : cF * ⊥ = ⊥ := by
  rw [cF_eq, EReal.coe_mul_bot_of_pos (by norm_num)]
theorem half_top : cF * ⊤ = ⊤ := by
  rw [cF_eq, EReal.coe_mul_top_of_pos (by norm_num)]
theorem tn_coe (r : ℝ) : tn (r : EReal) = ((Real.tanh (1 / 2 * r) : ℝ) : EReal) := by
  rw [tn, cF_eq, ← EReal.coe_mul, Ideal.tanh_coe]

/-- The two spellings of the gate. -/
theorem gate (y : EReal) : cF * (tn y + 1) = Ideal.logistic y := by
  induction y with
  | bot =>
    rw [tn, half_bot, Ideal.tanh_bot, Ideal.logistic_bot]
    rw [show (-1 : EReal) + 1 = 0 from by rw [← EReal.coe_one, ← EReal.coe_neg, ← EReal.coe_add]; norm_num, mul_zero]
  | top =>
    rw [tn, half_top, Ideal.tanh_top, Ideal.logistic_top, cF_eq, ← EReal.coe_one, ← EReal.coe_add, ← EReal.coe_mul]
    norm_num
  | coe r => rw [tn_coe, cF_eq, Ideal.logistic_coe, ← real_gate, ← EReal.coe_one, ← EReal.coe_add, ← EReal.coe_mul]

theorem slope_core (y : EReal) :
    cF * (cF * ((1 + tn y) * (1 - tn y))) = Ideal.logistic y * (1 - Ideal.logistic y) := by
  induction y with
  | bot =>
    rw [tn, half_bot, Ideal.tanh_bot, Ideal.logistic_bot, zero_mul]
    rw [show (1 : EReal) + -1 = 0 from by rw [← EReal.coe_one, ← EReal.coe_neg, ← EReal.coe_add]; norm_num, zero_mul, mul_zero, mul_zero]
  | top =>
    rw [tn, half_top, Ideal.tanh_top, Ideal.logistic_top]
    rw [show (1 : EReal) - 1 = 0 from EReal.sub_self (by decide) (by decide), mul_zero, mul_zero, mul_zero, mul_zero]
  | coe r =>
    rw [tn_coe, cF_eq, Ideal.logistic_coe, ← real_gate, ← EReal.coe_one]
    simp only [← EReal.coe_add, ← EReal.coe_sub, ← EReal.coe_mul]
    congr 1
    ring

/-- The two spellings of the gate's derivative, under any cotangent. -/
theorem slope (y g : EReal) :
    cF * (cF * g * ((1 + tn y) * (1 - tn y))) = g * (Ideal.logistic y * (1 - Ideal.logistic y)) := by
  rw [← slope_core, mul_comm cF g, mul_assoc g, mul_left_comm cF g]

/-- The projected row. -/
def pj (h : Row) (w : Fin 1024 → Fin 2048 → EReal) : Wide := fun f => ∑ d, h d * w d f
/-- The gated row. -/
def z (p b : Wide) : Row := fun d => (p (lo d) + b (lo d)) * Ideal.logistic (p (hi d) + b (hi d))
/-- The cotangent of the gated half. -/
def da (p b : Wide) (ct : Row) : Row := fun d => ct d * Ideal.logistic (p (hi d) + b (hi d))
/-- The cotangent of the gate. -/
def db (p b : Wide) (ct : Row) : Row := fun d =>
  (p (lo d) + b (lo d)) * ct d * (Ideal.logistic (p (hi d) + b (hi d)) * (1 - Ideal.logistic (p (hi d) + b (hi d))))
/-- The cotangent of the projected row. -/
def dp (p b : Wide) (ct : Row) : Wide := fun f =>
  if h : f.val < 1024 then da p b ct ⟨f.val, h⟩ else db p b ct ⟨f.val - 1024, by omega⟩
theorem dp_lo (p b : Wide) (ct : Row) (d : Fin 1024) : dp p b ct (lo d) = da p b ct d := dif_pos d.isLt
theorem dp_hi (p b : Wide) (ct : Row) (d : Fin 1024) : dp p b ct (hi d) = db p b ct d :=
  (dif_neg (by simp [hi])).trans (congrArg (db p b ct) (Fin.ext (by simp [hi])))
/-- The modulated row's cotangent, of the projected row's. -/
def dh (g : Wide) (w : Fin 1024 → Fin 2048 → EReal) : Row := fun d => ∑ f, g f * w d f
/-- The residual row's cotangent, of the modulated row's and of what comes past the layer. -/
def dx (x ng sc dh past : Row) : Row := fun d => Pre.nb x (Mlp.dq sc ng dh) d + past d

end Cert.Glu

end
-- ==== Proof.GluBwdOut.lean ====
/- The blocks the gated projection's backward kernel leaves at one grid point, as terms of the blocks it reads. -/
module

public import proofs.«01_k».proof.Proof.MlpBwdArr
public import proofs.«01_k».proof.Proof.Gen.Kernel7Ideal.Frame

@[expose] public section

set_option maxRecDepth 16384

noncomputable section

namespace Cert.GluBwd

open Cert.Kernel7Ideal Cert.Kernel7Ideal.Gen Idealize.ShloMosaic Idealize.ShloMosaic.TcCoe
open Cert.MlpBwd (whole_z rd)

variable {F : FTy → Type} [FloatOps F]

/-! The loads of whole blocks. -/

def lp (x : Vec F S256x2048 .bf16) : Vec F S256x2048 .bf16 := View.ld x (Rect.unit (s := S256x2048) ![0, 0] S256x2048.size inb_S256x2048_S256x2048_0_0)
def lx (x : Vec F S256x1024 .f32) : Vec F S256x1024 .f32 := View.ld x (Rect.unit (s := S256x1024) ![0, 0] S256x1024.size inb_S256x1024_S256x1024_0_0)
def lb (x : Vec F S1x2048 .f32) : Vec F S1x2048 .f32 := View.ld x (Rect.unit (s := S1x2048) ![0, 0] S1x2048.size inb_S1x2048_S1x2048_0_0)
def lr (x : Vec F S1x1024 .f32) : Vec F S1x1024 .f32 := View.ld x (Rect.unit (s := S1x1024) ![0, 0] S1x1024.size inb_S1x1024_S1x1024_0_0)
def lw (x : Vec F S1024x2048 .bf16) : Vec F S1024x2048 .bf16 := View.ld x (Rect.unit (s := S1024x2048) ![0, 0] S1024x2048.size inb_S1024x2048_S1024x2048_0_0)
theorem lp_eq (x : Vec F S256x2048 .bf16) : lp x = x := by rw [lp, View.ld_unit_zero whole_z]
theorem lx_eq (x : Vec F S256x1024 .f32) : lx x = x := by rw [lx, View.ld_unit_zero whole_z]
theorem lb_eq (x : Vec F S1x2048 .f32) : lb x = x := by rw [lb, View.ld_unit_zero whole_z]
theorem lr_eq (x : Vec F S1x1024 .f32) : lr x = x := by rw [lr, View.ld_unit_zero whole_z]
theorem lw_eq (x : Vec F S1024x2048 .bf16) : lw x = x := by rw [lw, View.ld_unit_zero whole_z]

variable (x0 : Vec F S256x2048 .bf16) (x1 x2 x3 : Vec F S256x1024 .f32) (x4 : Vec F S1x2048 .f32) (x5 x6 x7 : Vec F S1x1024 .f32)
  (x8 : Vec F S1024x2048 .bf16)

/-! The terms: the projected rows' cotangents, the residual rows', and the point's parts of the four sums. -/

def vP : Vec F S256x2048 .bf16 := k1_pay8 (k1_pay3 x0 x1 x4) (k1_pay4 x0 x1 x4) k1_pay5
def vX : Vec F S256x1024 .f32 :=
  k1_pay21 x2 x3 (k1_pay12 x2) (k1_pay18 x5 x6 x8 (k1_pay3 x0 x1 x4) (k1_pay4 x0 x1 x4) k1_pay5)
    (k1_pay19 x2 x5 x6 x8 (k1_pay3 x0 x1 x4) (k1_pay4 x0 x1 x4) k1_pay5) (k1_pay20 x2)
def vB : FVec F S1x2048 .f32 := k1_pay7 (k1_pay3 x0 x1 x4) (k1_pay4 x0 x1 x4) k1_pay5
def vN : FVec F S1x1024 .f32 := k1_pay17 x2 x6 x8 (k1_pay3 x0 x1 x4) (k1_pay4 x0 x1 x4) k1_pay5
def vC : FVec F S1x1024 .f32 := k1_pay15 x2 x5 x8 (k1_pay3 x0 x1 x4) (k1_pay4 x0 x1 x4) k1_pay5
def vS : FVec F S1x1024 .f32 := k1_pay14 x8 (k1_pay3 x0 x1 x4) (k1_pay4 x0 x1 x4) k1_pay5

/-! What each of the two cases of the body leaves. -/

variable (c : Dev nD) (i : grid1.Coords)
  (arg1 : Memref sig .tc .vmem S256x2048 .bf16) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S256x1024 .f32) (harg4 : arg4.IsWhole)
  (arg5 : Memref sig .tc .vmem S1x2048 .f32) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S1024x2048 .bf16) (harg9 : arg9.IsWhole)
  (arg10 : Memref sig .tc .vmem S256x2048 .bf16) (harg10 : arg10.IsWhole)
  (arg11 : Memref sig .tc .vmem S256x1024 .f32) (harg11 : arg11.IsWhole)
  (arg12 : Memref sig .tc .vmem S1x2048 .f32) (harg12 : arg12.IsWhole)
  (arg13 : Memref sig .tc .vmem S1x1024 .f32) (harg13 : arg13.IsWhole)
  (arg14 : Memref sig .tc .vmem S1x1024 .f32) (harg14 : arg14.IsWhole)
  (arg15 : Memref sig .tc .vmem S1x1024 .f32) (harg15 : arg15.IsWhole)

theorem outA_9 (hc : cond1_0 i) :
    out1_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 = vP x0 x1 x4 := by
  unfold out1_A_9
  rw [View.read_writes_eq_canon _ _ _ (fun _ => cover1_A_9 ..)]
  refine (View.canon_unit_zero whole_z _ _).trans ?_
  refine Eq.trans (b := vP (lp (rd harg1 x0)) (lx (rd harg2 x1)) (lb (rd harg5 x4))) rfl ?_
  simp only [Memref.IsWhole.read_unread, lp_eq, lx_eq, lb_eq, lr_eq, lw_eq]

theorem outA_10 (hc : cond1_0 i) :
    out1_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 = vX x0 x1 x2 x3 x4 x5 x6 x8 := by
  unfold out1_A_10
  rw [View.read_writes_eq_canon _ _ _ (fun _ => cover1_A_10 ..)]
  refine (View.canon_unit_zero whole_z _ _).trans ?_
  refine Eq.trans (b := vX (lp (rd harg1 x0)) (lx (rd harg2 x1)) (lx (rd harg3 x2)) (lx (rd harg4 x3)) (lb (rd harg5 x4)) (lr (rd harg6 x5)) (lr (rd harg7 x6)) (lw (rd harg9 x8))) rfl ?_
  simp only [Memref.IsWhole.read_unread, lp_eq, lx_eq, lb_eq, lr_eq, lw_eq]

theorem outA_11 (hc : cond1_0 i) :
    out1_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 = k1_pay26 (vB x0 x1 x4) k1_pay22 := by
  unfold out1_A_11
  rw [View.read_writes_eq_canon _ _ _ (fun _ => cover1_A_11 ..)]
  refine (View.canon_cons_unit_zero whole_z _ _ _).trans ?_
  refine Eq.trans (b := k1_pay26 (vB (lp (rd harg1 x0)) (lx (rd harg2 x1)) (lb (rd harg5 x4)))
    (arg12.view.readCov [(⟨Rect.unit (s := S1x2048) ![0, 0] S1x2048.size inb_S1x2048_S1x2048_0_0, k1_pay22⟩ : View.Piece (Elt F) S1x2048 .f32)]
      (Rect.unit (s := S1x2048) ![0, 0] S1x2048.size inb_S1x2048_S1x2048_0_0).toLoadRect)) rfl ?_
  simp only [Memref.IsWhole.read_unread, lp_eq, lx_eq, lb_eq, lr_eq, lw_eq]
  rw [View.readCov_unit_zero _ whole_z]

theorem outA_12 (hc : cond1_0 i) :
    out1_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 = k1_pay27 (vN x0 x1 x2 x4 x6 x8) k1_pay23 := by
  unfold out1_A_12
  rw [View.read_writes_eq_canon _ _ _ (fun _ => cover1_A_12 ..)]
  refine (View.canon_cons_unit_zero whole_z _ _ _).trans ?_
  refine Eq.trans (b := k1_pay27 (vN (lp (rd harg1 x0)) (lx (rd harg2 x1)) (lx (rd harg3 x2)) (lb (rd harg5 x4)) (lr (rd harg7 x6)) (lw (rd harg9 x8)))
    (arg13.view.readCov [(⟨Rect.unit (s := S1x1024) ![0, 0] S1x1024.size inb_S1x1024_S1x1024_0_0, k1_pay23⟩ : View.Piece (Elt F) S1x1024 .f32)]
      (Rect.unit (s := S1x1024) ![0, 0] S1x1024.size inb_S1x1024_S1x1024_0_0).toLoadRect)) rfl ?_
  simp only [Memref.IsWhole.read_unread, lp_eq, lx_eq, lb_eq, lr_eq, lw_eq]
  rw [View.readCov_unit_zero _ whole_z]

theorem outA_13 (hc : cond1_0 i) :
    out1_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 = k1_pay28 (vC x0 x1 x2 x4 x5 x8) k1_pay24 := by
  unfold out1_A_13
  rw [View.read_writes_eq_canon _ _ _ (fun _ => cover1_A_13 ..)]
  refine (View.canon_cons_unit_zero whole_z _ _ _).trans ?_
  refine Eq.trans (b := k1_pay28 (vC (lp (rd harg1 x0)) (lx (rd harg2 x1)) (lx (rd harg3 x2)) (lb (rd harg5 x4)) (lr (rd harg6 x5)) (lw (rd harg9 x8)))
    (arg14.view.readCov [(⟨Rect.unit (s := S1x1024) ![0, 0] S1x1024.size inb_S1x1024_S1x1024_0_0, k1_pay24⟩ : View.Piece (Elt F) S1x1024 .f32)]
      (Rect.unit (s := S1x1024) ![0, 0] S1x1024.size inb_S1x1024_S1x1024_0_0).toLoadRect)) rfl ?_
  simp only [Memref.IsWhole.read_unread, lp_eq, lx_eq, lb_eq, lr_eq, lw_eq]
  rw [View.readCov_unit_zero _ whole_z]

theorem outA_14 (hc : cond1_0 i) :
    out1_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 = k1_pay29 (vS x0 x1 x4 x8) k1_pay25 := by
  unfold out1_A_14
  rw [View.read_writes_eq_canon _ _ _ (fun _ => cover1_A_14 ..)]
  refine (View.canon_cons_unit_zero whole_z _ _ _).trans ?_
  refine Eq.trans (b := k1_pay29 (vS (lp (rd harg1 x0)) (lx (rd harg2 x1)) (lb (rd harg5 x4)) (lw (rd harg9 x8)))
    (arg15.view.readCov [(⟨Rect.unit (s := S1x1024) ![0, 0] S1x1024.size inb_S1x1024_S1x1024_0_0, k1_pay25⟩ : View.Piece (Elt F) S1x1024 .f32)]
      (Rect.unit (s := S1x1024) ![0, 0] S1x1024.size inb_S1x1024_S1x1024_0_0).toLoadRect)) rfl ?_
  simp only [Memref.IsWhole.read_unread, lp_eq, lx_eq, lb_eq, lr_eq, lw_eq]
  rw [View.readCov_unit_zero _ whole_z]

theorem outB_9 (hc : ¬cond1_0 i) (y11 : Vec F S1x2048 .f32) (y12 y13 y14 : Vec F S1x1024 .f32) :
    out1_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 y11 y12 y13 y14 = vP x0 x1 x4 := by
  unfold out1_B_9
  rw [View.read_writes_eq_canon _ _ _ (fun _ => cover1_B_9 ..)]
  refine (View.canon_unit_zero whole_z _ _).trans ?_
  refine Eq.trans (b := vP (lp (rd harg1 x0)) (lx (rd harg2 x1)) (lb (rd harg5 x4))) rfl ?_
  simp only [Memref.IsWhole.read_unread, lp_eq, lx_eq, lb_eq, lr_eq, lw_eq]

theorem outB_10 (hc : ¬cond1_0 i) (y11 : Vec F S1x2048 .f32) (y12 y13 y14 : Vec F S1x1024 .f32) :
    out1_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 y11 y12 y13 y14 = vX x0 x1 x2 x3 x4 x5 x6 x8 := by
  unfold out1_B_10
  rw [View.read_writes_eq_canon _ _ _ (fun _ => cover1_B_10 ..)]
  refine (View.canon_unit_zero whole_z _ _).trans ?_
  refine Eq.trans (b := vX (lp (rd harg1 x0)) (lx (rd harg2 x1)) (lx (rd harg3 x2)) (lx (rd harg4 x3)) (lb (rd harg5 x4)) (lr (rd harg6 x5)) (lr (rd harg7 x6)) (lw (rd harg9 x8))) rfl ?_
  simp only [Memref.IsWhole.read_unread, lp_eq, lx_eq, lb_eq, lr_eq, lw_eq]

theorem outB_11 (hc : ¬cond1_0 i) (y11 : Vec F S1x2048 .f32) (y12 y13 y14 : Vec F S1x1024 .f32) :
    out1_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 y11 y12 y13 y14 = k1_pay26 (vB x0 x1 x4) y11 := by
  unfold out1_B_11
  rw [View.read_writes_eq_canon _ _ _ (fun _ => cover1_B_11 ..)]
  refine (View.canon_unit_zero whole_z _ _).trans ?_
  refine Eq.trans (b := k1_pay26 (vB (lp (rd harg1 x0)) (lx (rd harg2 x1)) (lb (rd harg5 x4)))
    (lb (rd harg12 y11))) rfl ?_
  simp only [Memref.IsWhole.read_unread, lp_eq, lx_eq, lb_eq, lr_eq, lw_eq]

theorem outB_12 (hc : ¬cond1_0 i) (y11 : Vec F S1x2048 .f32) (y12 y13 y14 : Vec F S1x1024 .f32) :
    out1_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 y11 y12 y13 y14 = k1_pay27 (vN x0 x1 x2 x4 x6 x8) y12 := by
  unfold out1_B_12
  rw [View.read_writes_eq_canon _ _ _ (fun _ => cover1_B_12 ..)]
  refine (View.canon_unit_zero whole_z _ _).trans ?_
  refine Eq.trans (b := k1_pay27 (vN (lp (rd harg1 x0)) (lx (rd harg2 x1)) (lx (rd harg3 x2)) (lb (rd harg5 x4)) (lr (rd harg7 x6)) (lw (rd harg9 x8)))
    (lr (rd harg13 y12))) rfl ?_
  simp only [Memref.IsWhole.read_unread, lp_eq, lx_eq, lb_eq, lr_eq, lw_eq]

theorem outB_13 (hc : ¬cond1_0 i) (y11 : Vec F S1x2048 .f32) (y12 y13 y14 : Vec F S1x1024 .f32) :
    out1_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 y11 y12 y13 y14 = k1_pay28 (vC x0 x1 x2 x4 x5 x8) y13 := by
  unfold out1_B_13
  rw [View.read_writes_eq_canon _ _ _ (fun _ => cover1_B_13 ..)]
  refine (View.canon_unit_zero whole_z _ _).trans ?_
  refine Eq.trans (b := k1_pay28 (vC (lp (rd harg1 x0)) (lx (rd harg2 x1)) (lx (rd harg3 x2)) (lb (rd harg5 x4)) (lr (rd harg6 x5)) (lw (rd harg9 x8)))
    (lr (rd harg14 y13))) rfl ?_
  simp only [Memref.IsWhole.read_unread, lp_eq, lx_eq, lb_eq, lr_eq, lw_eq]

theorem outB_14 (hc : ¬cond1_0 i) (y11 : Vec F S1x2048 .f32) (y12 y13 y14 : Vec F S1x1024 .f32) :
    out1_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 x8 y11 y12 y13 y14 = k1_pay29 (vS x0 x1 x4 x8) y14 := by
  unfold out1_B_14
  rw [View.read_writes_eq_canon _ _ _ (fun _ => cover1_B_14 ..)]
  refine (View.canon_unit_zero whole_z _ _).trans ?_
  refine Eq.trans (b := k1_pay29 (vS (lp (rd harg1 x0)) (lx (rd harg2 x1)) (lb (rd harg5 x4)) (lw (rd harg9 x8)))
    (lr (rd harg15 y14))) rfl ?_
  simp only [Memref.IsWhole.read_unread, lp_eq, lx_eq, lb_eq, lr_eq, lw_eq]

end Cert.GluBwd

end
-- ==== Proof.GluBwdPay.lean ====
/- The gated projection's backward kernel: what its terms hold at a place, of the rows of the blocks it reads. -/
module

public import proofs.«01_k».proof.Proof.GluRow
public import proofs.«01_k».proof.Proof.GluBwdOut

@[expose] public section

set_option maxRecDepth 16384

noncomputable section

namespace Cert.GluBwd

open Cert.Kernel7Ideal Cert.Kernel7Ideal.Gen Idealize.ShloMosaic Idealize.ShloMosaic.TcCoe

variable (x0 : Vec Ideal S256x2048 .bf16) (x1 x2 x3 : Vec Ideal S256x1024 .f32) (x4 : Vec Ideal S1x2048 .f32) (x5 x6 : Vec Ideal S1x1024 .f32)
  (x8 : Vec Ideal S1024x2048 .bf16)

theorem pay1_apply (y : S256x2048.Idx) : k1_pay1 x0 y = x0 y := by
  unfold k1_pay1
  rw [shapeCast_id]
  rfl

theorem pay2_apply (i : Fin 256) (d : Fin 1024) :
    k1_pay2 x0 x4 (ix2 i d) = Glu.tn (Mlp.row x0 i (Glu.hi d) + Mlp.row x4 0 (Glu.hi d)) := by
  unfold k1_pay2
  rw [show k1_pay1 x0 = x0 from funext (pay1_apply x0)]
  pointwise
  rfl

theorem pay3_apply (i : Fin 256) (d : Fin 1024) :
    k1_pay3 x0 x1 x4 (ix2 i d) = Glu.da (Mlp.row x0 i) (Mlp.row x4 0) (Mlp.row x1 i) d := by
  unfold k1_pay3 Glu.da
  rw [← Glu.gate, ← pay2_apply]
  generalize k1_pay2 x0 x4 = t
  pointwise
  rfl

theorem pay6_apply (i : Fin 256) (d : Fin 1024) :
    k1_pay6 (k1_pay4 x0 x1 x4) k1_pay5 (ix2 i d) = Glu.db (Mlp.row x0 i) (Mlp.row x4 0) (Mlp.row x1 i) d := by
  unfold Glu.db
  rw [← Glu.slope, ← pay2_apply]
  unfold k1_pay6 k1_pay5 k1_pay4
  rw [show k1_pay1 x0 = x0 from funext (pay1_apply x0)]
  generalize k1_pay2 x0 x4 = t
  pointwise
  rfl

/-- A row's cotangent of the projected row, of the blocks. -/
def bp (i : Fin 256) : Glu.Wide := Glu.dp (Mlp.row x0 i) (Mlp.row x4 0) (Mlp.row x1 i)
/-- Its cotangent of the modulated row. -/
def bh (i : Fin 256) : Mlp.Row := Glu.dh (bp x0 x1 x4 i) (fun d f => x8 (ix2 d f))

theorem pay8_apply (i : Fin 256) (f : Fin 2048) : k1_pay8 (k1_pay3 x0 x1 x4) (k1_pay4 x0 x1 x4) k1_pay5 (ix2 i f) = bp x0 x1 x4 i f := by
  have e : k1_pay8 (k1_pay3 x0 x1 x4) (k1_pay4 x0 x1 x4) k1_pay5 (ix2 i f)
      = if h : f.val < 1024 then k1_pay3 x0 x1 x4 (ix2 i ⟨f.val, h⟩)
        else k1_pay6 (k1_pay4 x0 x1 x4) k1_pay5 (ix2 i ⟨f.val - 1024, by omega⟩) := by
    unfold k1_pay8
    generalize k1_pay6 (k1_pay4 x0 x1 x4) k1_pay5 = z
    generalize k1_pay3 x0 x1 x4 = a
    pointwise
  rw [e]
  unfold bp Glu.dp
  split
  · exact pay3_apply x0 x1 x4 i _
  · exact pay6_apply x0 x1 x4 i _

/-- The sums of the projected rows' cotangents over the block. -/
theorem pay7_apply (f : Fin 2048) :
    k1_pay7 (k1_pay3 x0 x1 x4) (k1_pay4 x0 x1 x4) k1_pay5 (ix2 (0 : Fin 1) f) = ∑ i, bp x0 x1 x4 i f := by
  have e : k1_pay7 (k1_pay3 x0 x1 x4) (k1_pay4 x0 x1 x4) k1_pay5 (ix2 (0 : Fin 1) f)
      = (if h : f.val < 1024 then (0 : EReal) else ∑ i, k1_pay6 (k1_pay4 x0 x1 x4) k1_pay5 (ix2 i ⟨f.val - 1024, by omega⟩))
        + (if h : f.val < 1024 then ∑ i, k1_pay3 x0 x1 x4 (ix2 i ⟨f.val, h⟩) else (0 : EReal)) := by
    unfold k1_pay7
    generalize k1_pay6 (k1_pay4 x0 x1 x4) k1_pay5 = z
    generalize k1_pay3 x0 x1 x4 = a
    pointwise
  rw [e]
  by_cases h : f.val < 1024
  · rw [dif_pos h, dif_pos h, zero_add]
    exact Finset.sum_congr (M := EReal) rfl fun i _ => (pay3_apply x0 x1 x4 i _).trans (by rw [bp, Glu.dp, dif_pos h])
  · rw [dif_neg h, dif_neg h, add_zero]
    exact Finset.sum_congr (M := EReal) rfl fun i _ => (pay6_apply x0 x1 x4 i _).trans (by rw [bp, Glu.dp, dif_neg h])

theorem row_pay9 (i : Fin 256) :
    Mlp.row (k1_pay9 x8 (k1_pay3 x0 x1 x4) (k1_pay4 x0 x1 x4) k1_pay5) i = bh x0 x1 x4 x8 i := by
  funext d
  have e : k1_pay9 x8 (k1_pay3 x0 x1 x4) (k1_pay4 x0 x1 x4) k1_pay5 (ix2 i d)
      = ∑ f : Fin 2048, k1_pay8 (k1_pay3 x0 x1 x4) (k1_pay4 x0 x1 x4) k1_pay5 (ix2 i f) * x8 (ix2 d f) := by
    unfold k1_pay9
    generalize k1_pay8 (k1_pay3 x0 x1 x4) (k1_pay4 x0 x1 x4) k1_pay5 = p
    pointwise
  exact e.trans (Finset.sum_congr (M := EReal) rfl fun f _ => congrArg (· * x8 (ix2 d f)) (pay8_apply x0 x1 x4 i f))

/-! The norm's terms, of any rows. -/

theorem pay10_apply (i : Fin 256) : k1_pay10 x2 (ix2 i (0 : Fin 1)) = Mlp.ms (Mlp.row x2 i) := by
  pointwise [k1_pay10]
  rfl
theorem pay11_apply (i : Fin 256) : k1_pay11 x2 (ix2 i (0 : Fin 1)) = Mlp.rs (Mlp.row x2 i) := by
  unfold k1_pay11 Mlp.rs
  rw [← pay10_apply]
  generalize k1_pay10 x2 = m
  pointwise
theorem pay12_apply (i : Fin 256) :
    k1_pay12 x2 (ix2 i (0 : Fin 1)) = Mlp.cH * Ideal.div (Mlp.rs (Mlp.row x2 i)) (Mlp.ms (Mlp.row x2 i)) := by
  unfold k1_pay12
  rw [← pay10_apply, ← pay11_apply]
  generalize k1_pay10 x2 = m
  generalize k1_pay11 x2 = r
  pointwise
  rfl
theorem pay13_apply (i : Fin 256) (d : Fin 1024) : k1_pay13 x2 (ix2 i d) = Mlp.q (Mlp.row x2 i) d := by
  unfold k1_pay13 Mlp.q
  rw [← pay11_apply]
  generalize k1_pay11 x2 = r
  pointwise
  rfl
theorem pay20_apply (i : Fin 256) (d : Fin 1024) : k1_pay20 x2 (ix2 i d) = Mlp.rs (Mlp.row x2 i) := by
  unfold k1_pay20
  rw [← pay11_apply]
  generalize k1_pay11 x2 = r
  pointwise

section rows
variable (a b v : FVec Ideal S256x1024 .f32)

theorem pay14_apply (d : Fin 1024) : k1_pay14 x8 a b v (ix2 (0 : Fin 1) d) = ∑ i, Mlp.row (k1_pay9 x8 a b v) i d := by
  unfold k1_pay14
  generalize k1_pay9 x8 a b v = g
  pointwise
  rfl
theorem pay15_apply (d : Fin 1024) :
    k1_pay15 x2 x5 x8 a b v (ix2 (0 : Fin 1) d)
      = ∑ i, Mlp.nr (Mlp.row x2 i) (Mlp.row x5 0) d * Mlp.row (k1_pay9 x8 a b v) i d := by
  unfold k1_pay15 Mlp.nr
  simp only [← pay13_apply]
  generalize k1_pay9 x8 a b v = g
  generalize k1_pay13 x2 = q
  pointwise
  rfl
theorem pay16_apply (i : Fin 256) (d : Fin 1024) :
    k1_pay16 x6 x8 a b v (ix2 i d) = Mlp.dn (Mlp.row x6 0) (Mlp.row (k1_pay9 x8 a b v) i) d := by
  unfold k1_pay16 Mlp.dn
  generalize k1_pay9 x8 a b v = g
  pointwise
  rfl
theorem pay17_apply (d : Fin 1024) :
    k1_pay17 x2 x6 x8 a b v (ix2 (0 : Fin 1) d)
      = ∑ i, Mlp.q (Mlp.row x2 i) d * Mlp.dn (Mlp.row x6 0) (Mlp.row (k1_pay9 x8 a b v) i) d := by
  unfold k1_pay17
  simp only [← pay13_apply, ← pay16_apply]
  generalize k1_pay16 x6 x8 a b v = g
  generalize k1_pay13 x2 = q
  pointwise
theorem pay18_apply (i : Fin 256) (d : Fin 1024) :
    k1_pay18 x5 x6 x8 a b v (ix2 i d) = Mlp.dq (Mlp.row x6 0) (Mlp.row x5 0) (Mlp.row (k1_pay9 x8 a b v) i) d := by
  unfold k1_pay18 Mlp.dq
  rw [← pay16_apply]
  generalize k1_pay16 x6 x8 a b v = g
  pointwise
  rfl
theorem pay19_apply (i : Fin 256) :
    k1_pay19 x2 x5 x6 x8 a b v (ix2 i (0 : Fin 1))
      = ∑ d, Mlp.row x2 i d * Mlp.dq (Mlp.row x6 0) (Mlp.row x5 0) (Mlp.row (k1_pay9 x8 a b v) i) d := by
  unfold k1_pay19
  simp only [← pay18_apply]
  generalize k1_pay18 x5 x6 x8 a b v = g
  pointwise
  rfl
end rows

theorem pay21_apply (e r : FVec Ideal S256x1024 .f32) (k l : FVec Ideal S256x1 .f32) (i : Fin 256) (d : Fin 1024) :
    k1_pay21 x2 x3 k e l r (ix2 i d)
      = e (ix2 i d) * r (ix2 i d) + x2 (ix2 i d) * Ideal.div (l (ix2 i 0) * k (ix2 i 0)) Mlp.cK
        + Ideal.div (l (ix2 i 0) * k (ix2 i 0)) Mlp.cK * x2 (ix2 i d) + x3 (ix2 i d) := by
  pointwise [k1_pay21]
  rw [Fin.sum_univ_one]
  rfl

/-! The point's terms. -/

theorem vP_apply (i : Fin 256) (f : Fin 2048) : vP x0 x1 x4 (ix2 i f) = bp x0 x1 x4 i f := pay8_apply x0 x1 x4 i f
theorem vX_apply (i : Fin 256) (d : Fin 1024) :
    vX x0 x1 x2 x3 x4 x5 x6 x8 (ix2 i d) = Glu.dx (Mlp.row x2 i) (Mlp.row x5 0) (Mlp.row x6 0) (bh x0 x1 x4 x8 i) (Mlp.row x3 i) d := by
  unfold vX
  rw [pay21_apply, pay18_apply, pay19_apply, pay12_apply, pay20_apply, row_pay9]
  rfl
theorem vB_apply (f : Fin 2048) : vB x0 x1 x4 (ix2 (0 : Fin 1) f) = ∑ i, bp x0 x1 x4 i f := pay7_apply x0 x1 x4 f
theorem vN_apply (d : Fin 1024) : vN x0 x1 x2 x4 x6 x8 (ix2 (0 : Fin 1) d)
    = ∑ i, Mlp.q (Mlp.row x2 i) d * Mlp.dn (Mlp.row x6 0) (bh x0 x1 x4 x8 i) d := by
  unfold vN
  rw [pay17_apply]
  simp only [row_pay9]
theorem vC_apply (d : Fin 1024) : vC x0 x1 x2 x4 x5 x8 (ix2 (0 : Fin 1) d)
    = ∑ i, Mlp.nr (Mlp.row x2 i) (Mlp.row x5 0) d * bh x0 x1 x4 x8 i d := by
  unfold vC
  rw [pay15_apply]
  simp only [row_pay9]
theorem vS_apply (d : Fin 1024) : vS x0 x1 x4 x8 (ix2 (0 : Fin 1) d) = ∑ i, bh x0 x1 x4 x8 i d := by
  unfold vS
  rw [pay14_apply]
  simp only [row_pay9]

/-! The accumulators' steps. -/

theorem pay26_apply (s y : FVec Ideal S1x2048 .f32) (k : S1x2048.Idx) : k1_pay26 s y k = y k + s k := by
  unfold k1_pay26
  rw [shapeCast_id]
  rfl
theorem pay27_apply (s y : FVec Ideal S1x1024 .f32) (k : S1x1024.Idx) : k1_pay27 s y k = y k + s k := by
  unfold k1_pay27
  rw [shapeCast_id]
  rfl
theorem pay28_apply (s y : FVec Ideal S1x1024 .f32) (k : S1x1024.Idx) : k1_pay28 s y k = y k + s k := pay27_apply s y k
theorem pay29_apply (s y : FVec Ideal S1x1024 .f32) (k : S1x1024.Idx) : k1_pay29 s y k = y k + s k := pay27_apply s y k
theorem pay22_apply (k : S1x2048.Idx) : k1_pay22 (F := Ideal) k = (0 : EReal) := by
  show Ideal.ofBits .f32 0x00000000#32 = 0
  pointwise
theorem pay23_apply (k : S1x1024.Idx) : k1_pay23 (F := Ideal) k = (0 : EReal) := by
  show Ideal.ofBits .f32 0x00000000#32 = 0
  pointwise
theorem pay24_apply (k : S1x1024.Idx) : k1_pay24 (F := Ideal) k = (0 : EReal) := pay23_apply k
theorem pay25_apply (k : S1x1024.Idx) : k1_pay25 (F := Ideal) k = (0 : EReal) := pay23_apply k

end Cert.GluBwd

end
-- ==== Proof.GluFwd.lean ====
/- The gated projection: the arrays the forward kernel leaves, row by row, of the arrays it finds. -/
module

public import proofs.«01_k».proof.Proof.GluRow
public import proofs.«01_k».proof.Proof.PreFwd
public import proofs.«01_k».proof.Proof.Gen.Kernel7Ideal.Frame

@[expose] public section

set_option maxRecDepth 16384

noncomputable section

namespace Cert.GluFwd

open Cert.Kernel7Ideal Cert.Kernel7Ideal.Gen Idealize.ShloMosaic Idealize.ShloMosaic.TcCoe
open Idealize.ShloMosaic.Pipeline (Dat)
open Cert.MlpFwd (at2 arr_at row_inj blk_row blk_col)
open Cert.MlpBwd (whole_z)

theorem N0 : cfg0.N = 8 := by decide
/-- The grid point of a block of rows. -/
def at0 (t : Fin 8) : Fin cfg0.N := ⟨t.val, by rw [N0]; exact t.isLt⟩

/-! The payloads. -/

theorem pay1_apply (v : Vec Ideal S256x1024 .bf16) (w : Vec Ideal S1024x2048 .bf16) (i : Fin 256) (f : Fin 2048) :
    k0_pay1 v w (ix2 i f) = Glu.pj (Mlp.row v i) (fun d f => w (ix2 d f)) f := by
  pointwise [k0_pay1]
  rfl

theorem pay2_apply (v : Vec Ideal S256x1024 .bf16) (b : Vec Ideal S1x2048 .f32) (w : Vec Ideal S1024x2048 .bf16) (i : Fin 256) (d : Fin 1024) :
    k0_pay2 v b w (ix2 i d) = Glu.z (Glu.pj (Mlp.row v i) (fun d f => w (ix2 d f))) (Mlp.row b 0) d := by
  unfold k0_pay2 Glu.z
  rw [← pay1_apply, ← pay1_apply, ← Glu.gate]
  generalize k0_pay1 v w = p
  pointwise
  rfl

theorem out3_apply (v : Vec Ideal S256x1024 .bf16) (b : Vec Ideal S1x2048 .f32) (w : Vec Ideal S1024x2048 .bf16) (i : Fin 256) (d : Fin 1024) :
    out0_3 v b w (ix2 i d) = Glu.z (Glu.pj (Mlp.row v i) (fun d f => w (ix2 d f))) (Mlp.row b 0) d := by
  unfold out0_3
  rw [View.canon_unit_zero whole_z]
  iterate 3 rw [View.ld_unit_zero whole_z]
  exact pay2_apply v b w i d
theorem out4_apply (v : Vec Ideal S256x1024 .bf16) (b : Vec Ideal S1x2048 .f32) (w : Vec Ideal S1024x2048 .bf16) (i : Fin 256) (f : Fin 2048) :
    out0_4 v b w (ix2 i f) = Glu.pj (Mlp.row v i) (fun d f => w (ix2 d f)) f := by
  unfold out0_4
  rw [View.canon_unit_zero whole_z]
  iterate 2 rw [View.ld_unit_zero whole_z]
  exact pay1_apply v w i f

/-! Where the blocks lie. -/

variable (V : (c : Dev nD) → (b : Ref sig .tc) → Buf (Elt Ideal) ((c : Thread nD τ).loc b)) (c : Dev nD)

/-- The arrays the region finds. -/
abbrev aH : FVec Ideal S2048x1024 .bf16 := V c main_arg0
abbrev aB : FVec Ideal S1x2048 .f32 := V c main_arg1
abbrev aW : FVec Ideal S1024x2048 .bf16 := V c main_arg2

theorem ix0 : ∀ t : Fin grid0.N, win0_0.index t (0 : Fin 2) = t.val ∧ win0_0.index t (1 : Fin 2) = 0 := by decide +kernel
theorem ixp : ∀ t : Fin grid0.N, ∀ a : Fin 2, win0_1.index t a = 0 ∧ win0_2.index t a = 0 := by decide +kernel
theorem ix3 : ∀ t : Fin grid0.N, win0_3.index t (0 : Fin 2) = t.val ∧ win0_3.index t (1 : Fin 2) = 0 ∧ win0_3.flush t = true := by decide +kernel
theorem ix4 : ∀ t : Fin grid0.N, win0_4.index t (0 : Fin 2) = t.val ∧ win0_4.index t (1 : Fin 2) = 0 ∧ win0_4.flush t = true := by decide +kernel

theorem rowH (t : Fin 8) (i : Fin 256) : Mlp.row (iblk0 V c 0 (at0 t) : Vec Ideal S256x1024 .bf16) i = Mlp.row (aH V c) (Mlp.rof t i) :=
  funext fun _ => at2 (aH V c) _ _ _ (blk_row (ix0 (at0 t)).1) (blk_col (ix0 (at0 t)).2)
theorem rowB (t : Fin 8) : Mlp.row (iblk0 V c 1 (at0 t) : Vec Ideal S1x2048 .f32) = Mlp.row (aB V c) :=
  funext fun _ => funext fun _ => at2 (aB V c) _ _ _ (blk_col (ixp (at0 t) 0).1) (blk_col (ixp (at0 t) 1).1)
theorem rowW (t : Fin 8) : (fun d f => (iblk0 V c 2 (at0 t) : Vec Ideal S1024x2048 .bf16) (ix2 d f)) = fun d f => aW V c (ix2 d f) :=
  funext fun _ => funext fun _ => at2 (aW V c) _ _ _ (blk_col (ixp (at0 t) 0).2) (blk_col (ixp (at0 t) 1).2)

/-- The projected row. -/
def prow (i : Fin 2048) : Glu.Wide := Glu.pj (Mlp.row (aH V c) i) (fun d f => aW V c (ix2 d f))

theorem arr3 (i : Fin 2048) (d : Fin 1024) :
    ((dat0 V c).arrAt 3 cfg0.N : FVec Ideal S2048x1024 .f32) (ix2 i d) = Glu.z (prow V c i) (Mlp.row (aB V c) 0) d := by
  obtain ⟨t, k, rfl⟩ : ∃ t k, i = Mlp.rof t k := ⟨_, _, (Mlp.rof_rt_ri i).symm⟩
  have e := arr_at (dat0 V c) 3 rfl (fun t => (ix3 t).2.2)
    (row_inj ix3) (at0 t) (ix2 k d : S256x1024.Idx)
  refine Eq.trans (at2 ((dat0 V c).arrAt 3 cfg0.N : FVec Ideal S2048x1024 .f32) _ _ _ (blk_row (ix3 (at0 t)).1) (blk_col (ix3 (at0 t)).2.1)).symm
    (e.trans ?_)
  refine (congrFun (after0_3 V c (at0 t)) _).trans ((out3_apply _ _ _ k d).trans ?_)
  rw [rowH, rowB, rowW]; rfl

theorem arr4 (i : Fin 2048) (f : Fin 2048) :
    ((dat0 V c).arrAt 4 cfg0.N : FVec Ideal S2048x2048 .bf16) (ix2 i f) = prow V c i f := by
  obtain ⟨t, k, rfl⟩ : ∃ t k, i = Mlp.rof t k := ⟨_, _, (Mlp.rof_rt_ri i).symm⟩
  have e := arr_at (dat0 V c) 4 rfl (fun t => (ix4 t).2.2)
    (row_inj ix4) (at0 t) (ix2 k f : S256x2048.Idx)
  refine Eq.trans (at2 ((dat0 V c).arrAt 4 cfg0.N : FVec Ideal S2048x2048 .bf16) _ _ _ (blk_row (ix4 (at0 t)).1) (blk_col (ix4 (at0 t)).2.1)).symm
    (e.trans ?_)
  refine (congrFun (after0_4 V c (at0 t)) _).trans ((out4_apply _ (iblk0 V c 1 (at0 t)) _ k f).trans ?_)
  rw [rowH, rowW]; rfl

end Cert.GluFwd

end
-- ==== Proof.GluBwd.lean ====
/- The gated projection: the arrays the backward kernel leaves, row by row, of the arrays it finds. -/
module

public import proofs.«01_k».proof.Proof.GluBwdPay
public import proofs.«01_k».proof.Proof.GluFwd
public import Idealize.ShloMosaic.Lib.Pipeline.Value

@[expose] public section

set_option maxRecDepth 16384

noncomputable section

namespace Cert.GluBwd

open Cert.Kernel7Ideal Cert.Kernel7Ideal.Gen Idealize.ShloMosaic Idealize.ShloMosaic.TcCoe
open Idealize.ShloMosaic.Pipeline (Dat)
open Cert.MlpFwd (at2 arr_at row_inj blk_row blk_col)

theorem N1 : cfg1.N = 8 := by decide

/-- The grid point of a block of rows. -/
def pt (t : Fin 8) : Fin cfg1.N := ⟨t.val, by rw [N1]; exact t.isLt⟩

variable (V : (c : Dev nD) → (b : Ref sig .tc) → Buf (Elt Ideal) ((c : Thread nD τ).loc b)) (c : Dev nD)

/-- The arrays the region finds. -/
abbrev aP : FVec Ideal S2048x2048 .bf16 := V c main_v0_1
abbrev aZ : FVec Ideal S2048x1024 .f32 := V c main_arg3
abbrev aX : FVec Ideal S2048x1024 .f32 := V c main_arg4
abbrev aD : FVec Ideal S2048x1024 .f32 := V c main_arg5
abbrev aB : FVec Ideal S1x2048 .f32 := V c main_arg1
abbrev aN : FVec Ideal S1x1024 .f32 := V c main_arg6
abbrev aC : FVec Ideal S1x1024 .f32 := V c main_arg7
abbrev aW : FVec Ideal S1024x2048 .bf16 := V c main_arg2

/-! Where each point's blocks lie. -/

theorem at_0 : ∀ t : Fin grid1.N, win1_0.index t (0 : Fin 2) = t.val ∧ win1_0.index t (1 : Fin 2) = 0 := by decide +kernel
theorem at_1 : ∀ t : Fin grid1.N, win1_1.index t (0 : Fin 2) = t.val ∧ win1_1.index t (1 : Fin 2) = 0 := by decide +kernel
theorem at_2 : ∀ t : Fin grid1.N, win1_2.index t (0 : Fin 2) = t.val ∧ win1_2.index t (1 : Fin 2) = 0 := by decide +kernel
theorem at_3 : ∀ t : Fin grid1.N, win1_3.index t (0 : Fin 2) = t.val ∧ win1_3.index t (1 : Fin 2) = 0 := by decide +kernel
theorem at_p : ∀ t : Fin grid1.N, ∀ a : Fin 2, win1_4.index t a = 0 ∧ win1_5.index t a = 0 ∧ win1_6.index t a = 0 ∧ win1_8.index t a = 0 := by decide +kernel

theorem rowP (t : Fin 8) (i : Fin 256) : Mlp.row (iblk1 V c 0 (pt t) : Vec Ideal S256x2048 .bf16) i = Mlp.row (aP V c) (Mlp.rof t i) :=
  funext fun _ => at2 (aP V c) _ _ _ (blk_row (at_0 (pt t)).1) (blk_col (at_0 (pt t)).2)
theorem rowZ (t : Fin 8) (i : Fin 256) : Mlp.row (iblk1 V c 1 (pt t) : Vec Ideal S256x1024 .f32) i = Mlp.row (aZ V c) (Mlp.rof t i) :=
  funext fun _ => at2 (aZ V c) _ _ _ (blk_row (at_1 (pt t)).1) (blk_col (at_1 (pt t)).2)
theorem rowX (t : Fin 8) (i : Fin 256) : Mlp.row (iblk1 V c 2 (pt t) : Vec Ideal S256x1024 .f32) i = Mlp.row (aX V c) (Mlp.rof t i) :=
  funext fun _ => at2 (aX V c) _ _ _ (blk_row (at_2 (pt t)).1) (blk_col (at_2 (pt t)).2)
theorem rowD (t : Fin 8) (i : Fin 256) : Mlp.row (iblk1 V c 3 (pt t) : Vec Ideal S256x1024 .f32) i = Mlp.row (aD V c) (Mlp.rof t i) :=
  funext fun _ => at2 (aD V c) _ _ _ (blk_row (at_3 (pt t)).1) (blk_col (at_3 (pt t)).2)
theorem rowB (t : Fin 8) : Mlp.row (iblk1 V c 4 (pt t) : Vec Ideal S1x2048 .f32) = Mlp.row (aB V c) :=
  funext fun _ => funext fun _ => at2 (aB V c) _ _ _ (blk_col (at_p (pt t) 0).1) (blk_col (at_p (pt t) 1).1)
theorem rowN (t : Fin 8) : Mlp.row (iblk1 V c 5 (pt t) : Vec Ideal S1x1024 .f32) = Mlp.row (aN V c) :=
  funext fun _ => funext fun _ => at2 (aN V c) _ _ _ (blk_col (at_p (pt t) 0).2.1) (blk_col (at_p (pt t) 1).2.1)
theorem rowC (t : Fin 8) : Mlp.row (iblk1 V c 6 (pt t) : Vec Ideal S1x1024 .f32) = Mlp.row (aC V c) :=
  funext fun _ => funext fun _ => at2 (aC V c) _ _ _ (blk_col (at_p (pt t) 0).2.2.1) (blk_col (at_p (pt t) 1).2.2.1)
theorem rowW (t : Fin 8) : (fun d f => (iblk1 V c 8 (pt t) : Vec Ideal S1024x2048 .bf16) (ix2 d f)) = fun d f => aW V c (ix2 d f) :=
  funext fun _ => funext fun _ => at2 (aW V c) _ _ _ (blk_col (at_p (pt t) 0).2.2.2) (blk_col (at_p (pt t) 1).2.2.2)

/-- The projected row's cotangent. -/
def prow (i : Fin 2048) : Glu.Wide := Glu.dp (Mlp.row (aP V c) i) (Mlp.row (aB V c) 0) (Mlp.row (aZ V c) i)
/-- The modulated row's cotangent. -/
def hrow (i : Fin 2048) : Mlp.Row := Glu.dh (prow V c i) (fun d f => aW V c (ix2 d f))
theorem bp_blk (t : Fin 8) (i : Fin 256) :
    bp (iblk1 V c 0 (pt t)) (iblk1 V c 1 (pt t)) (iblk1 V c 4 (pt t)) i = prow V c (Mlp.rof t i) := by
  unfold bp prow
  rw [rowP, rowZ, rowB]
theorem bh_blk (t : Fin 8) (i : Fin 256) :
    bh (iblk1 V c 0 (pt t)) (iblk1 V c 1 (pt t)) (iblk1 V c 4 (pt t)) (iblk1 V c 8 (pt t)) i = hrow V c (Mlp.rof t i) := by
  unfold bh hrow
  rw [bp_blk, rowW]

/-! What the point leaves in the arrays of rows, the same in both cases of the body. -/

theorem left9 (t : Fin cfg1.N) : (outsAt1 V c t.val t.isLt).1 = vP (iblk1 V c 0 t) (iblk1 V c 1 t) (iblk1 V c 4 t) := by
  by_cases h : t.val % 8 = 0
  · rw [outsAt1_A V c t h]; dsimp only; rw [outA_9]
  · rw [outsAt1_B V c t h]; dsimp only; rw [outB_9]
theorem left10 (t : Fin cfg1.N) : (outsAt1 V c t.val t.isLt).2.1
    = vX (iblk1 V c 0 t) (iblk1 V c 1 t) (iblk1 V c 2 t) (iblk1 V c 3 t) (iblk1 V c 4 t) (iblk1 V c 5 t) (iblk1 V c 6 t) (iblk1 V c 8 t) := by
  by_cases h : t.val % 8 = 0
  · rw [outsAt1_A V c t h]; dsimp only; rw [outA_10]
  · rw [outsAt1_B V c t h]; dsimp only; rw [outB_10]

theorem at_9 : ∀ t : Fin grid1.N, win1_9.index t (0 : Fin 2) = t.val ∧ win1_9.index t (1 : Fin 2) = 0 ∧ win1_9.flush t = true := by decide +kernel
theorem arr9 (i : Fin 2048) (f : Fin 2048) :
    ((dat1 V c).arrAt 9 cfg1.N : FVec Ideal S2048x2048 .bf16) (ix2 i f)
      = prow V c i f := by
  obtain ⟨t, k, rfl⟩ : ∃ t k, i = Mlp.rof t k := ⟨_, _, (Mlp.rof_rt_ri i).symm⟩
  have e := arr_at (dat1 V c) 9 rfl (fun t => (at_9 t).2.2)
    (row_inj at_9) (pt t) (ix2 k f : S256x2048.Idx)
  refine Eq.trans (at2 ((dat1 V c).arrAt 9 cfg1.N : FVec Ideal S2048x2048 .bf16) _ _ _ (blk_row (at_9 (pt t)).1) (blk_col (at_9 (pt t)).2.1)).symm
    (e.trans ?_)
  refine (congrFun ((after1_9 V c (pt t)).trans (left9 V c (pt t))) _).trans ((vP_apply _ _ _ k f).trans ?_)
  rw [bp_blk]

theorem at_10 : ∀ t : Fin grid1.N, win1_10.index t (0 : Fin 2) = t.val ∧ win1_10.index t (1 : Fin 2) = 0 ∧ win1_10.flush t = true := by decide +kernel
theorem arr10 (i : Fin 2048) (d : Fin 1024) :
    ((dat1 V c).arrAt 10 cfg1.N : FVec Ideal S2048x1024 .f32) (ix2 i d)
      = Glu.dx (Mlp.row (aX V c) i) (Mlp.row (aN V c) 0) (Mlp.row (aC V c) 0) (hrow V c i) (Mlp.row (aD V c) i) d := by
  obtain ⟨t, k, rfl⟩ : ∃ t k, i = Mlp.rof t k := ⟨_, _, (Mlp.rof_rt_ri i).symm⟩
  have e := arr_at (dat1 V c) 10 rfl (fun t => (at_10 t).2.2)
    (row_inj at_10) (pt t) (ix2 k d : S256x1024.Idx)
  refine Eq.trans (at2 ((dat1 V c).arrAt 10 cfg1.N : FVec Ideal S2048x1024 .f32) _ _ _ (blk_row (at_10 (pt t)).1) (blk_col (at_10 (pt t)).2.1)).symm
    (e.trans ?_)
  refine (congrFun ((after1_10 V c (pt t)).trans (left10 V c (pt t))) _).trans ((vX_apply _ _ _ _ _ _ _ _ k d).trans ?_)
  rw [bh_blk, rowX, rowN, rowC, rowD]

/-! The sums over all rows. -/

/-- What a block of sums holds after the last point, where the first sets it and each other adds to it. -/
theorem last {ι : Type} (f : (n : ℕ) → n < cfg1.N → ι → EReal) (s : Fin cfg1.N → ι → EReal)
    (h0 : ∀ t : Fin cfg1.N, t.val % 8 = 0 → ∀ y, f t.val t.isLt y = 0 + s t y)
    (h1 : ∀ t : Fin cfg1.N, ¬t.val % 8 = 0 → ∀ y,
      f t.val t.isLt y = f (t.val - 1) (Nat.lt_of_le_of_lt (Nat.sub_le _ _) t.isLt) y + s t y) (y : ι) :
    f (pt 7).val (pt 7).isLt y = ∑ t : Fin 8, s (pt t) y := by
  have e := Pipeline.eq_sum_of_reset_step_apply_single_of_mod (N := cfg1.N) (M := EReal) (ι := ι)
    f 8 (fun _ => 0) (fun n y => if h : n < cfg1.N then s ⟨n, h⟩ y else 0)
    (fun t h y => by rw [h0 t h y, dif_pos t.isLt]) (fun t h y => by rw [h1 t h y, dif_pos t.isLt])
    (by rw [N1]) (pt 7) (r := 7) rfl y
  refine e.trans ?_
  rw [zero_add, Finset.sum_range]
  exact Finset.sum_congr rfl fun t _ => dif_pos (pt t).isLt

theorem left11_first (t : Fin cfg1.N) (h : t.val % 8 = 0) (y : S1x2048.Idx) :
    (outsAt1 V c t.val t.isLt).2.2.1 y = 0 + vB (iblk1 V c 0 t) (iblk1 V c 1 t) (iblk1 V c 4 t) y := by
  rw [outsAt1_A V c t h]; dsimp only; rw [outA_11, pay26_apply, pay22_apply]
theorem left11_next (t : Fin cfg1.N) (h : ¬t.val % 8 = 0) (y : S1x2048.Idx) :
    (outsAt1 V c t.val t.isLt).2.2.1 y
      = (outsAt1 V c (t.val - 1) (Nat.lt_of_le_of_lt (Nat.sub_le _ _) t.isLt)).2.2.1 y + vB (iblk1 V c 0 t) (iblk1 V c 1 t) (iblk1 V c 4 t) y := by
  rw [outsAt1_B V c t h]; dsimp only; rw [outB_11, pay26_apply]
theorem whole11 : (cfg1.win 11).WholeAt (pt 7) := by decide +kernel
theorem arr11 (f : Fin 2048) :
    ((dat1 V c).arrAt 11 cfg1.N : FVec Ideal S1x2048 .f32) (ix2 (0 : Fin 1) f) = ∑ i, prow V c i f := by
  refine Eq.trans ((dat1 V c).arrAt_emb_eq_after_last 11 (pt 7) whole11 (ix2 (0 : Fin 1) f)) ?_
  refine (congrFun (after1_11 V c (pt 7)) _).trans ?_
  refine (last (fun n h => (outsAt1 V c n h).2.2.1) (fun t => vB (iblk1 V c 0 t) (iblk1 V c 1 t) (iblk1 V c 4 t))
    (left11_first V c) (left11_next V c) _).trans ?_
  rw [Mlp.sum_rof]
  refine Finset.sum_congr (M := EReal) rfl fun t _ => (vB_apply _ _ _ f).trans ?_
  simp only [bp_blk]

theorem left12_first (t : Fin cfg1.N) (h : t.val % 8 = 0) (y : S1x1024.Idx) :
    (outsAt1 V c t.val t.isLt).2.2.2.1 y = 0 + vN (iblk1 V c 0 t) (iblk1 V c 1 t) (iblk1 V c 2 t) (iblk1 V c 4 t) (iblk1 V c 6 t) (iblk1 V c 8 t) y := by
  rw [outsAt1_A V c t h]; dsimp only; rw [outA_12, pay27_apply, pay23_apply]
theorem left12_next (t : Fin cfg1.N) (h : ¬t.val % 8 = 0) (y : S1x1024.Idx) :
    (outsAt1 V c t.val t.isLt).2.2.2.1 y
      = (outsAt1 V c (t.val - 1) (Nat.lt_of_le_of_lt (Nat.sub_le _ _) t.isLt)).2.2.2.1 y + vN (iblk1 V c 0 t) (iblk1 V c 1 t) (iblk1 V c 2 t) (iblk1 V c 4 t) (iblk1 V c 6 t) (iblk1 V c 8 t) y := by
  rw [outsAt1_B V c t h]; dsimp only; rw [outB_12, pay27_apply]
theorem whole12 : (cfg1.win 12).WholeAt (pt 7) := by decide +kernel
theorem arr12 (d : Fin 1024) :
    ((dat1 V c).arrAt 12 cfg1.N : FVec Ideal S1x1024 .f32) (ix2 (0 : Fin 1) d) = ∑ i, Mlp.q (Mlp.row (aX V c) i) d * Mlp.dn (Mlp.row (aC V c) 0) (hrow V c i) d := by
  refine Eq.trans ((dat1 V c).arrAt_emb_eq_after_last 12 (pt 7) whole12 (ix2 (0 : Fin 1) d)) ?_
  refine (congrFun (after1_12 V c (pt 7)) _).trans ?_
  refine (last (fun n h => (outsAt1 V c n h).2.2.2.1) (fun t => vN (iblk1 V c 0 t) (iblk1 V c 1 t) (iblk1 V c 2 t) (iblk1 V c 4 t) (iblk1 V c 6 t) (iblk1 V c 8 t))
    (left12_first V c) (left12_next V c) _).trans ?_
  rw [Mlp.sum_rof]
  refine Finset.sum_congr (M := EReal) rfl fun t _ => (vN_apply _ _ _ _ _ _ d).trans ?_
  exact Finset.sum_congr rfl fun i _ => by rw [bh_blk, rowX, rowC]

theorem left13_first (t : Fin cfg1.N) (h : t.val % 8 = 0) (y : S1x1024.Idx) :
    (outsAt1 V c t.val t.isLt).2.2.2.2.1 y = 0 + vC (iblk1 V c 0 t) (iblk1 V c 1 t) (iblk1 V c 2 t) (iblk1 V c 4 t) (iblk1 V c 5 t) (iblk1 V c 8 t) y := by
  rw [outsAt1_A V c t h]; dsimp only; rw [outA_13, pay28_apply, pay24_apply]
theorem left13_next (t : Fin cfg1.N) (h : ¬t.val % 8 = 0) (y : S1x1024.Idx) :
    (outsAt1 V c t.val t.isLt).2.2.2.2.1 y
      = (outsAt1 V c (t.val - 1) (Nat.lt_of_le_of_lt (Nat.sub_le _ _) t.isLt)).2.2.2.2.1 y + vC (iblk1 V c 0 t) (iblk1 V c 1 t) (iblk1 V c 2 t) (iblk1 V c 4 t) (iblk1 V c 5 t) (iblk1 V c 8 t) y := by
  rw [outsAt1_B V c t h]; dsimp only; rw [outB_13, pay28_apply]
theorem whole13 : (cfg1.win 13).WholeAt (pt 7) := by decide +kernel
theorem arr13 (d : Fin 1024) :
    ((dat1 V c).arrAt 13 cfg1.N : FVec Ideal S1x1024 .f32) (ix2 (0 : Fin 1) d) = ∑ i, Mlp.nr (Mlp.row (aX V c) i) (Mlp.row (aN V c) 0) d * hrow V c i d := by
  refine Eq.trans ((dat1 V c).arrAt_emb_eq_after_last 13 (pt 7) whole13 (ix2 (0 : Fin 1) d)) ?_
  refine (congrFun (after1_13 V c (pt 7)) _).trans ?_
  refine (last (fun n h => (outsAt1 V c n h).2.2.2.2.1) (fun t => vC (iblk1 V c 0 t) (iblk1 V c 1 t) (iblk1 V c 2 t) (iblk1 V c 4 t) (iblk1 V c 5 t) (iblk1 V c 8 t))
    (left13_first V c) (left13_next V c) _).trans ?_
  rw [Mlp.sum_rof]
  refine Finset.sum_congr (M := EReal) rfl fun t _ => (vC_apply _ _ _ _ _ _ d).trans ?_
  exact Finset.sum_congr rfl fun i _ => by rw [bh_blk, rowX, rowN]

theorem left14_first (t : Fin cfg1.N) (h : t.val % 8 = 0) (y : S1x1024.Idx) :
    (outsAt1 V c t.val t.isLt).2.2.2.2.2 y = 0 + vS (iblk1 V c 0 t) (iblk1 V c 1 t) (iblk1 V c 4 t) (iblk1 V c 8 t) y := by
  rw [outsAt1_A V c t h]; dsimp only; rw [outA_14, pay29_apply, pay25_apply]
theorem left14_next (t : Fin cfg1.N) (h : ¬t.val % 8 = 0) (y : S1x1024.Idx) :
    (outsAt1 V c t.val t.isLt).2.2.2.2.2 y
      = (outsAt1 V c (t.val - 1) (Nat.lt_of_le_of_lt (Nat.sub_le _ _) t.isLt)).2.2.2.2.2 y + vS (iblk1 V c 0 t) (iblk1 V c 1 t) (iblk1 V c 4 t) (iblk1 V c 8 t) y := by
  rw [outsAt1_B V c t h]; dsimp only; rw [outB_14, pay29_apply]
theorem whole14 : (cfg1.win 14).WholeAt (pt 7) := by decide +kernel
theorem arr14 (d : Fin 1024) :
    ((dat1 V c).arrAt 14 cfg1.N : FVec Ideal S1x1024 .f32) (ix2 (0 : Fin 1) d) = ∑ i, hrow V c i d := by
  refine Eq.trans ((dat1 V c).arrAt_emb_eq_after_last 14 (pt 7) whole14 (ix2 (0 : Fin 1) d)) ?_
  refine (congrFun (after1_14 V c (pt 7)) _).trans ?_
  refine (last (fun n h => (outsAt1 V c n h).2.2.2.2.2) (fun t => vS (iblk1 V c 0 t) (iblk1 V c 1 t) (iblk1 V c 4 t) (iblk1 V c 8 t))
    (left14_first V c) (left14_next V c) _).trans ?_
  rw [Mlp.sum_rof]
  refine Finset.sum_congr (M := EReal) rfl fun t _ => (vS_apply _ _ _ _ d).trans ?_
  simp only [bh_blk]

end Cert.GluBwd

end
-- ==== Proof.GluDw.lean ====
/- The gated projection's weight gradient, of the arrays its kernel finds, and the results of the program of the arrays it is given. -/
module

public import proofs.«01_k».proof.Proof.GluBwd
public import proofs.«01_k».proof.Proof.MlpDw

@[expose] public section

set_option maxRecDepth 16384

noncomputable section

namespace Cert.GluDw

open Cert.Kernel7Ideal Cert.Kernel7Ideal.Gen Idealize.ShloMosaic Idealize.ShloMosaic.TcCoe
open Idealize.ShloMosaic.Pipeline (Dat)
open Cert.MlpFwd (at2 blk_col)
open Cert.MlpBwd (whole_z)
open Cert.MlpDw (blk_hid)

theorem pay_apply (v w : Vec Ideal S2048x512 .bf16) (a b : Fin 512) : k2_pay1 v w (ix2 a b) = ∑ i : Fin 2048, v (ix2 i a) * w (ix2 i b) := by
  pointwise [k2_pay1]

theorem out_apply (v w : Vec Ideal S2048x512 .bf16) (a b : Fin 512) : out2_2 v w (ix2 a b) = ∑ i : Fin 2048, v (ix2 i a) * w (ix2 i b) := by
  unfold out2_2
  rw [View.canon_unit_zero whole_z]
  iterate 2 rw [View.ld_unit_zero whole_z]
  exact pay_apply v w a b

theorem N2 : cfg2.N = 8 := by decide
/-- The grid point of a tile of the gradient. -/
def tile (p : Fin 2) (q : Fin 4) : Fin cfg2.N := ⟨4 * p.val + q.val, by rw [N2]; omega⟩
/-- A row of the gradient, of its tile and its place there. -/
def dof (p : Fin 2) (k : Fin 512) : Fin 1024 := ⟨512 * p.val + k.val, by omega⟩
/-- A column of the gradient, of its tile and its place there. -/
def fof (q : Fin 4) (k : Fin 512) : Fin 2048 := ⟨512 * q.val + k.val, by omega⟩
theorem dof_all (d : Fin 1024) : ∃ p k, d = dof p k :=
  ⟨⟨d.val / 512, by omega⟩, ⟨d.val % 512, by omega⟩, Fin.ext (by change d.val = 512 * (d.val / 512) + d.val % 512; omega)⟩
theorem fof_all (f : Fin 2048) : ∃ q k, f = fof q k :=
  ⟨⟨f.val / 512, by omega⟩, ⟨f.val % 512, by omega⟩, Fin.ext (by change f.val = 512 * (f.val / 512) + f.val % 512; omega)⟩

theorem ix0 : ∀ (p : Fin 2) (q : Fin 4), win2_0.index (tile p q) (0 : Fin 2) = 0 ∧ win2_0.index (tile p q) (1 : Fin 2) = p.val := by decide +kernel
theorem ix1 : ∀ (p : Fin 2) (q : Fin 4), win2_1.index (tile p q) (0 : Fin 2) = 0 ∧ win2_1.index (tile p q) (1 : Fin 2) = q.val := by decide +kernel
theorem ix2' : ∀ (p : Fin 2) (q : Fin 4), win2_2.index (tile p q) (0 : Fin 2) = p.val ∧ win2_2.index (tile p q) (1 : Fin 2) = q.val := by decide +kernel
theorem flush : ∀ t : Fin grid2.N, win2_2.flush t = true := by decide +kernel
theorem apart : ∀ t t' : Fin cfg2.N, win2_2.index t (0 : Fin 2) = win2_2.index t' (0 : Fin 2) → win2_2.index t (1 : Fin 2) = win2_2.index t' (1 : Fin 2) → t = t' :=
  (by decide +kernel : ∀ t t' : Fin grid2.N, win2_2.index t (0 : Fin 2) = win2_2.index t' (0 : Fin 2) → win2_2.index t (1 : Fin 2) = win2_2.index t' (1 : Fin 2) → t = t')

section region
variable (V : (c : Dev nD) → (b : Ref sig .tc) → Buf (Elt Ideal) ((c : Thread nD τ).loc b)) (c : Dev nD)

/-- The arrays the region finds. -/
abbrev aH : FVec Ideal S2048x1024 .bf16 := V c main_arg0
abbrev aG : FVec Ideal S2048x2048 .bf16 := V c main_v1_0

theorem rowH (p : Fin 2) (q : Fin 4) (i : Fin 2048) (k : Fin 512) :
    (iblk2 V c 0 (tile p q) : Vec Ideal S2048x512 .bf16) (ix2 i k) = aH V c (ix2 i (dof p k)) :=
  at2 (aH V c) _ _ _ (blk_col (ix0 p q).1) (blk_hid (ix0 p q).2)
theorem rowG (p : Fin 2) (q : Fin 4) (i : Fin 2048) (k : Fin 512) :
    (iblk2 V c 1 (tile p q) : Vec Ideal S2048x512 .bf16) (ix2 i k) = aG V c (ix2 i (fof q k)) :=
  at2 (aG V c) _ _ _ (blk_col (ix1 p q).1) (blk_hid (ix1 p q).2)

theorem arr2 (d : Fin 1024) (f : Fin 2048) :
    ((dat2 V c).arrAt 2 cfg2.N : FVec Ideal S1024x2048 .bf16) (ix2 d f) = ∑ i : Fin 2048, aH V c (ix2 i d) * aG V c (ix2 i f) := by
  obtain ⟨p, k, rfl⟩ := dof_all d
  obtain ⟨q, l, rfl⟩ := fof_all f
  have e := congrFun ((dat2 V c).read_blk_arrAt_eq_flushed 2
    (fun t t' _ _ hne => (cfg2.win 2).disjoint_blk (hk := rfl) fun h => hne
      (apart t t' (congrFun h (0 : Fin 2)) (congrFun h (1 : Fin 2)))) cfg2.N (tile p q) (tile p q).isLt (flush (tile p q)))
    (ix2 k l : S512x512.Idx)
  refine Eq.trans (at2 ((dat2 V c).arrAt 2 cfg2.N : FVec Ideal S1024x2048 .bf16) _ _ _ (blk_hid (ix2' p q).1) (blk_hid (ix2' p q).2)).symm
    (e.trans ?_)
  refine (congrFun (after2_2 V c (tile p q)) _).trans ((out_apply _ _ k l).trans ?_)
  exact Finset.sum_congr (M := EReal) rfl fun i _ => congrArg₂ (· * ·) (rowH V c p q i k) (rowG V c p q i l)
end region

/-! What the program leaves, of what it is given. -/

variable (m : (ℓ : Loc nD τ sig) → Buf (Elt Ideal) ℓ) (ρ : Dev nD → PrngReg) (c : Dev nD)

/-- The arrays the program is given. -/
abbrev gH : FVec Ideal S2048x1024 .bf16 := m ((c : Thread nD τ).loc main_arg0)
abbrev gB : FVec Ideal S1x2048 .f32 := m ((c : Thread nD τ).loc main_arg1)
abbrev gW : FVec Ideal S1024x2048 .bf16 := m ((c : Thread nD τ).loc main_arg2)
abbrev gZ : FVec Ideal S2048x1024 .f32 := m ((c : Thread nD τ).loc main_arg3)
abbrev gX : FVec Ideal S2048x1024 .f32 := m ((c : Thread nD τ).loc main_arg4)
abbrev gD : FVec Ideal S2048x1024 .f32 := m ((c : Thread nD τ).loc main_arg5)
abbrev gN : FVec Ideal S1x1024 .f32 := m ((c : Thread nD τ).loc main_arg6)
abbrev gC : FVec Ideal S1x1024 .f32 := m ((c : Thread nD τ).loc main_arg7)
abbrev gS : FVec Ideal S1x1024 .f32 := m ((c : Thread nD τ).loc main_arg8)

/-- The projected row, its cotangent, and that of the row entering the projection. -/
def pr (i : Fin 2048) : Glu.Wide := Glu.pj (Mlp.row (gH m c) i) (fun d f => gW m c (ix2 d f))
def cP (i : Fin 2048) : Glu.Wide := Glu.dp (pr m c i) (Mlp.row (gB m c) 0) (Mlp.row (gZ m c) i)
def cH (i : Fin 2048) : Mlp.Row := Glu.dh (cP m c i) (fun d f => gW m c (ix2 d f))

/-! What the backward kernel finds. -/

theorem in_P (i : Fin 2048) : Mlp.row (GluBwd.aP (V1 m ρ) c) i = pr m c i := funext fun f =>
  (congrFun (W1_arr m ρ c 4) _).trans (GluFwd.arr4 (V0 m ρ) c i f)
theorem in_B : GluBwd.aB (V1 m ρ) c = gB m c := W1_args m ρ c main_arg1 (by decide)
theorem in_W : GluBwd.aW (V1 m ρ) c = gW m c := W1_args m ρ c main_arg2 (by decide)
theorem in_Z : GluBwd.aZ (V1 m ρ) c = gZ m c := W1_args m ρ c main_arg3 (by decide)
theorem in_X : GluBwd.aX (V1 m ρ) c = gX m c := W1_args m ρ c main_arg4 (by decide)
theorem in_D : GluBwd.aD (V1 m ρ) c = gD m c := W1_args m ρ c main_arg5 (by decide)
theorem in_N : GluBwd.aN (V1 m ρ) c = gN m c := W1_args m ρ c main_arg6 (by decide)
theorem in_C : GluBwd.aC (V1 m ρ) c = gC m c := W1_args m ρ c main_arg7 (by decide)
theorem prow_eq (i : Fin 2048) : GluBwd.prow (V1 m ρ) c i = cP m c i := by
  rw [GluBwd.prow, in_P, in_B, in_Z, cP]
theorem hrow_eq (i : Fin 2048) : GluBwd.hrow (V1 m ρ) c i = cH m c i := by
  rw [GluBwd.hrow, prow_eq, in_W, cH]

theorem out_zg (i : Fin 2048) (d : Fin 1024) :
    (W3 m ρ c (Proc.devRef .tc main_v0_0) : FVec Ideal S2048x1024 .f32) (ix2 i d) = Glu.z (pr m c i) (Mlp.row (gB m c) 0) d :=
  (congrFun (W3_of m ρ c main_v0_0 (by decide +kernel)) _).trans ((congrFun (W2_of m ρ c main_v0_0 (by decide +kernel)) _).trans
    ((congrFun (W1_arr m ρ c 3) _).trans (GluFwd.arr3 (V0 m ρ) c i d)))
theorem out_dx (i : Fin 2048) (d : Fin 1024) :
    (W3 m ρ c (Proc.devRef .tc main_v1_1) : FVec Ideal S2048x1024 .f32) (ix2 i d)
      = Glu.dx (Mlp.row (gX m c) i) (Mlp.row (gN m c) 0) (Mlp.row (gC m c) 0) (cH m c i) (Mlp.row (gD m c) i) d := by
  refine (congrFun (W3_of m ρ c main_v1_1 (by decide +kernel)) _).trans ((congrFun (W2_arr m ρ c 10) _).trans
    ((GluBwd.arr10 (V1 m ρ) c i d).trans ?_))
  rw [hrow_eq, in_X, in_N, in_C, in_D]
theorem out_db1 (f : Fin 2048) :
    (W3 m ρ c (Proc.devRef .tc main_v1_2) : FVec Ideal S1x2048 .f32) (ix2 (0 : Fin 1) f) = ∑ i, cP m c i f :=
  (congrFun (W3_of m ρ c main_v1_2 (by decide +kernel)) _).trans ((congrFun (W2_arr m ρ c 11) _).trans
    ((GluBwd.arr11 (V1 m ρ) c f).trans (Finset.sum_congr (M := EReal) rfl fun i _ => by rw [prow_eq])))
theorem out_dng (d : Fin 1024) :
    (W3 m ρ c (Proc.devRef .tc main_v1_3) : FVec Ideal S1x1024 .f32) (ix2 (0 : Fin 1) d) = ∑ i, Mlp.q (Mlp.row (gX m c) i) d * Mlp.dn (Mlp.row (gC m c) 0) (cH m c i) d :=
  (congrFun (W3_of m ρ c main_v1_3 (by decide +kernel)) _).trans ((congrFun (W2_arr m ρ c 12) _).trans
    ((GluBwd.arr12 (V1 m ρ) c d).trans (Finset.sum_congr (M := EReal) rfl fun i _ => by rw [hrow_eq, in_X, in_C])))
theorem out_dsc (d : Fin 1024) :
    (W3 m ρ c (Proc.devRef .tc main_v1_4) : FVec Ideal S1x1024 .f32) (ix2 (0 : Fin 1) d) = ∑ i, Mlp.nr (Mlp.row (gX m c) i) (Mlp.row (gN m c) 0) d * cH m c i d :=
  (congrFun (W3_of m ρ c main_v1_4 (by decide +kernel)) _).trans ((congrFun (W2_arr m ρ c 13) _).trans
    ((GluBwd.arr13 (V1 m ρ) c d).trans (Finset.sum_congr (M := EReal) rfl fun i _ => by rw [hrow_eq, in_X, in_N])))
theorem out_dsh (d : Fin 1024) :
    (W3 m ρ c (Proc.devRef .tc main_v1_5) : FVec Ideal S1x1024 .f32) (ix2 (0 : Fin 1) d) = ∑ i, cH m c i d :=
  (congrFun (W3_of m ρ c main_v1_5 (by decide +kernel)) _).trans ((congrFun (W2_arr m ρ c 14) _).trans
    ((GluBwd.arr14 (V1 m ρ) c d).trans (Finset.sum_congr (M := EReal) rfl fun i _ => by rw [hrow_eq])))

/-! What the weight gradient's kernel finds, and leaves. -/

theorem in_h : aH (V2 m ρ) c = gH m c := W2_args m ρ c main_arg0 (by decide)
theorem in_g (i f : Fin 2048) : aG (V2 m ρ) c (ix2 i f) = cP m c i f := by
  refine (congrFun (W2_arr m ρ c 9) _).trans ((GluBwd.arr9 (V1 m ρ) c i f).trans ?_)
  rw [prow_eq]
theorem out_dw (d : Fin 1024) (f : Fin 2048) :
    (W3 m ρ c (Proc.devRef .tc main_v2) : FVec Ideal S1024x2048 .bf16) (ix2 d f) = ∑ i : Fin 2048, gH m c (ix2 i d) * cP m c i f :=
  (congrFun (W3_arr m ρ c 2) _).trans ((arr2 (V2 m ρ) c d f).trans
    (Finset.sum_congr (M := EReal) rfl fun i _ => congrArg₂ (· * ·) (congrFun (in_h m ρ c) _) (in_g m ρ c i f)))

end Cert.GluDw

end
-- ==== Proof.GluRun.lean ====
/- The run of the program of the gated projection. -/
module

public import proofs.«01_k».proof.Proof.RunKit
public import proofs.«01_k».proof.Proof.Gen.Kernel7Ideal.Frame

@[expose] public section

set_option maxRecDepth 16384

noncomputable section

namespace Cert.GluRun

open Cert.Kernel7Ideal Cert.Kernel7Ideal.Gen Idealize.ShloMosaic Idealize.ShloMosaic.TcCoe Idealize.SL.ProofMode Idealize.SL.Sem

variable {F : FTy → Type} [FloatOps F] (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r =>
    (∀ c : Dev nD, ∀ b ∈ Pipeline.ucRefs τ sig, r.2.mem ((c : Thread nD τ).1, b) = W3 m ρ c b) ∧ r.2.sem = fun _ => 0) :=
  RunKit.run pcfgs adm (pdats m ρ) cellOf_inj defs₀ m ρ main (segs m ρ) (main_run m ρ)
    (by simp only [segs, Pipeline.Seg.pipes_host, Pipeline.Seg.pipes_region, Pipeline.Seg.pipes_nil]; decide)
    (W3 m ρ) ⟨fun _ => .rfl, fun _ => .rfl, fun _ => .rfl, fun _ => .rfl⟩ no_unscoped

end Cert.GluRun
-- ==== Proof.GluRef.lean ====
/- The gated projection: the reference's lines, each read at a place. Its norm's lines are those of `MlpRef`. -/
module

public import proofs.«01_k».proof.Proof.GluRow
public import proofs.«01_k».proof.Proof.MlpRef
public import proofs.«01_k».proof.Proof.Gen.Reference7Ideal.Run
public import Idealize.ShloMosaic.Lib.IdealHost

@[expose] public section

set_option maxRecDepth 16384

noncomputable section

namespace Cert.GluRef

open Cert.Reference7Ideal Cert.Reference7Ideal.Gen Idealize.ShloMosaic Idealize.ShloMosaic.TcCoe Idealize.ShloMosaic.Tactic
open Cert.MlpRef (Feat Par)

abbrev Wide := FVec Ideal S2048x2048 .f32
abbrev Bias := FVec Ideal S1x2048 .f32
abbrev Wt := FVec Ideal S1024x2048 .bf16
abbrev In := FVec Ideal S2048x1024 .bf16

def lP (h : In) (w : Wt) (b : Bias) : Wide :=
  addf (Host.dotGeneral dot_S2048x1024_S1024x2048_S2048x2048_1_0_0_1_n_n none (extf .f32 h bitsLt_bf16_f32) (extf .f32 w bitsLt_bf16_f32))
    (broadcastInDim S2048x2048 ![0, 1] bcast_S1x2048_S2048x2048_0_1 b)
def lLo (p : Wide) : Feat := extractStridedSlice S2048x1024 ![0, 0] p slices_S2048x2048_S2048x1024_0_0
def lHi (p : Wide) : Feat := extractStridedSlice S2048x1024 ![0, 1024] p slices_S2048x2048_S2048x1024_0_1024
def one : Feat := broadcastInDim S2048x1024 ![] bcast_S_S2048x1024 (constant S_ .f32 0x3F800000#32)
def lSg (y : Feat) : Feat := Host.divf one (addf one (Host.exp (Host.negf y)))
def lZ (p : Wide) : Feat := mulf (lLo p) (lSg (lHi p))
def lDb (a g ct : Feat) : Feat := mulf (mulf a ct) (mulf g (subf one g))
def side (a b : Feat) : Wide :=
  concatenate S2048x2048 1 [⟨S2048x1024, a⟩, ⟨S2048x1024, b⟩] concatenates_S2048x1024_S2048x1024_S2048x2048_d1
def lDp (p : Wide) (ct : Feat) : Wide := side (mulf ct (lSg (lHi p))) (lDb (lLo p) (lSg (lHi p)) ct)
def lB1 (dp : Wide) : Bias :=
  shapeCast _ (Host.reduceAdd dp (constant S_ .f32 0x00000000#32) reducesTo_S2048x2048_S2048_d0 h_S_) shapeCasts_S2048_S1x2048
def lDh (dp : Wide) (w : Wt) : Feat :=
  Host.dotGeneral dot_S2048x2048_S1024x2048_S2048x1024_1_1_0_0_n_n none dp (extf .f32 w bitsLt_bf16_f32)
def lW (dp : Wide) (h : In) : Wt :=
  truncf .bf16 (transpose S1024x2048 [1, 0] (Host.dotGeneral dot_S2048x2048_S2048x1024_S2048x1024_0_0_1_1_n_n none dp
    (extf .f32 h bitsLt_bf16_f32)) transposes_S2048x1024_S1024x2048_1_0) bitsLt_bf16_f32
def lNx (x dq past : Feat) : Feat :=
  addf (addf (addf (mulf dq (MlpRef.across (MlpRef.lRs x))) (mulf x (MlpRef.lK x dq))) (mulf (MlpRef.lK x dq) x)) past

theorem lP_at (h : In) (w : Wt) (b : Bias) (i : Fin 2048) (f : Fin 2048) :
    lP h w b (ix2 i f) = Glu.pj (Mlp.row h i) (fun d f => w (ix2 d f)) f + Mlp.row b 0 f := by
  rw [lP]
  pointwise
  rfl
theorem lLo_at (p : Wide) (i : Fin 2048) (d : Fin 1024) : lLo p (ix2 i d) = Mlp.row p i (Glu.lo d) := by
  rw [lLo]
  pointwise
  rfl
theorem lHi_at (p : Wide) (i : Fin 2048) (d : Fin 1024) : lHi p (ix2 i d) = Mlp.row p i (Glu.hi d) := by
  rw [lHi]
  pointwise
  rfl
theorem lSg_at (y : Feat) (i : Fin 2048) (d : Fin 1024) : lSg y (ix2 i d) = Ideal.logistic (y (ix2 i d)) := by
  rw [lSg]
  pointwise [one]
  rfl
theorem lZ_at (p : Wide) (i : Fin 2048) (d : Fin 1024) :
    lZ p (ix2 i d) = Mlp.row p i (Glu.lo d) * Ideal.logistic (Mlp.row p i (Glu.hi d)) := by
  rw [lZ]
  pointwise
  rw [lLo_at, lSg_at, lHi_at]
theorem lDb_at (a g ct : Feat) (i : Fin 2048) (d : Fin 1024) :
    lDb a g ct (ix2 i d) = a (ix2 i d) * ct (ix2 i d) * (g (ix2 i d) * (1 - g (ix2 i d))) := by
  rw [lDb]
  pointwise [one]
theorem lDp_lo (p : Wide) (ct : Feat) (i : Fin 2048) (d : Fin 1024) :
    lDp p ct (ix2 i (Glu.lo d)) = ct (ix2 i d) * Ideal.logistic (Mlp.row p i (Glu.hi d)) := by
  rw [lDp]
  generalize hg : lSg (lHi p) = g
  generalize lDb (lLo p) g ct = z
  pointwise [side]
  rw [dif_pos (show (Glu.lo d).val < 1024 from d.isLt)]
  subst hg
  pointwise
  exact congrArg₂ (· * ·) rfl ((lSg_at _ i d).trans (by rw [lHi_at]))
theorem lDp_hi (p : Wide) (ct : Feat) (i : Fin 2048) (d : Fin 1024) :
    lDp p ct (ix2 i (Glu.hi d)) = Mlp.row p i (Glu.lo d) * ct (ix2 i d)
      * (Ideal.logistic (Mlp.row p i (Glu.hi d)) * (1 - Ideal.logistic (Mlp.row p i (Glu.hi d)))) := by
  rw [← lHi_at, ← lSg_at, ← lLo_at, ← lDb_at, lDp]
  generalize lDb (lLo p) (lSg (lHi p)) ct = z
  generalize mulf ct (lSg (lHi p)) = y
  pointwise [side]
  rw [dif_neg (show ¬ (Glu.hi d).val < 1024 from Nat.not_lt.mpr (Nat.le_add_right _ _))]
  exact congrArg z (congrArg (ix2 i) (Fin.ext (Nat.add_sub_cancel_left _ _)))
theorem lB1_at (dp : Wide) (f : Fin 2048) : lB1 dp (ix2 0 f) = ∑ i : Fin 2048, dp (ix2 i f) := by
  pointwise [lB1]
theorem lDh_at (dp : Wide) (w : Wt) (i : Fin 2048) (d : Fin 1024) :
    lDh dp w (ix2 i d) = Glu.dh (Mlp.row dp i) (fun d f => w (ix2 d f)) d := by
  rw [lDh]
  pointwise
  rfl
theorem lW_at (dp : Wide) (h : In) (d : Fin 1024) (f : Fin 2048) :
    lW dp h (ix2 d f) = ∑ i : Fin 2048, h (ix2 i d) * dp (ix2 i f) := by
  rw [lW]
  pointwise
  exact Finset.sum_congr (M := EReal) rfl fun i _ => mul_comm _ _
theorem lNx_at (x dq past : Feat) (i : Fin 2048) (d : Fin 1024) :
    lNx x dq past (ix2 i d) = Pre.nb (Mlp.row x i) (Mlp.row dq i) d + past (ix2 i d) := by
  rw [lNx]
  generalize hk : MlpRef.lK x dq = k
  generalize hr : MlpRef.lRs x = r
  pointwise [MlpRef.across]
  subst hk hr
  rw [MlpRef.lK_at, MlpRef.lRs_at]
  rfl

/-! The lines on the projected row with its bias. -/

variable (h : In) (w : Wt) (b : Bias)

/-- The projected row before its bias. -/
abbrev rp (i : Fin 2048) : Glu.Wide := Glu.pj (Mlp.row h i) (fun d f => w (ix2 d f))

theorem z_at (i : Fin 2048) (d : Fin 1024) : lZ (lP h w b) (ix2 i d) = Glu.z (rp h w i) (Mlp.row b 0) d := by
  rw [lZ_at]
  exact congrArg₂ (fun y z : EReal => y * Ideal.logistic z) (lP_at h w b i _) (lP_at h w b i _)
theorem dp_row (ct : Feat) (i : Fin 2048) : Mlp.row (lDp (lP h w b) ct) i = Glu.dp (rp h w i) (Mlp.row b 0) (Mlp.row ct i) := by
  funext f
  rcases Glu.which f with ⟨d, rfl⟩ | ⟨d, rfl⟩
  · rw [Glu.dp_lo]
    exact (lDp_lo _ _ i d).trans (congrArg (fun z : EReal => ct (ix2 i d) * Ideal.logistic z) (lP_at h w b i _))
  · rw [Glu.dp_hi]
    exact (lDp_hi _ _ i d).trans (congrArg₂ (fun y z : EReal => y * ct (ix2 i d) * (Ideal.logistic z * (1 - Ideal.logistic z)))
      (lP_at h w b i _) (lP_at h w b i _))

/-! The residual rows' cotangent is these lines. -/

variable (m : (ℓ : Loc nD τ sig) → Buf (Elt Ideal) ℓ) (c : Dev nD)

theorem res_dx : Value.res_main_v59 m c
    = lNx (m ((c.tc : Thread nD τ).loc main_arg4))
      (MlpRef.lDq (MlpRef.lDn (lDh (lDp (lP (m ((c.tc : Thread nD τ).loc main_arg0)) (m ((c.tc : Thread nD τ).loc main_arg2))
        (m ((c.tc : Thread nD τ).loc main_arg1))) (m ((c.tc : Thread nD τ).loc main_arg3))) (m ((c.tc : Thread nD τ).loc main_arg2)))
        (m ((c.tc : Thread nD τ).loc main_arg7))) (m ((c.tc : Thread nD τ).loc main_arg6)))
      (m ((c.tc : Thread nD τ).loc main_arg5)) := rfl

end Cert.GluRef

end
-- ==== Proof.GluClaim.lean ====
/- The gated projection: the kernels and the reference leave the same arrays, and the frame of the reference. -/
module

public import proofs.«01_k».proof.Defs
public import proofs.«01_k».proof.Proof.GluDw
public import proofs.«01_k».proof.Proof.GluRun
public import proofs.«01_k».proof.Proof.GluRef
public import proofs.«01_k».proof.Proof.MlpClaim

@[expose] public section

set_option maxRecDepth 16384

noncomputable section

namespace Cert.GluClaim

open Idealize.ShloMosaic Idealize.ShloMosaic.TcCoe Idealize.SL.Sem
open Cert.Kernel7Ideal.Gen (W3)
open Cert.MlpClaim (by_row by_col)
open Cert.GluDw

theorem frame_ref : Cert.quiescent_Reference7Ideal := fun m g _ =>
  (θ_run _ _ _).mono (fun r h => ⟨fun c => (h c).2.2.2.2.2.2.2, sem_eq_zero_of_no_sems (by decide) r.2⟩) (Cert.Reference7Ideal.Value.run m g)

variable (m : (ℓ : Loc Cert.Kernel7Ideal.nD Cert.Kernel7Ideal.τ Cert.Kernel7Ideal.sig) → Buf (Elt Ideal) ℓ) (ρ : Dev Cert.Kernel7Ideal.nD → PrngReg)
  (c : Dev Cert.Kernel7Ideal.nD)

/-- The reference's lines, of the arrays the program is given. -/
abbrev rP : GluRef.Wide := GluRef.lP (gH m c) (gW m c) (gB m c)
abbrev rDp : GluRef.Wide := GluRef.lDp (rP m c) (gZ m c)
abbrev rDh : MlpRef.Feat := GluRef.lDh (rDp m c) (gW m c)
abbrev rDn : MlpRef.Feat := MlpRef.lDn (rDh m c) (gC m c)
abbrev rDq : MlpRef.Feat := MlpRef.lDq (rDn m c) (gN m c)

theorem row_Dp (i : Fin 2048) : Mlp.row (rDp m c) i = cP m c i := GluRef.dp_row _ _ _ _ i
theorem row_Dh (i : Fin 2048) : Mlp.row (rDh m c) i = cH m c i := funext fun d => by
  refine (GluRef.lDh_at _ _ i d).trans ?_
  rw [row_Dp]; rfl
theorem row_Dn (i : Fin 2048) : Mlp.row (rDn m c) i = Mlp.dn (Mlp.row (gC m c) 0) (cH m c i) := funext fun d => by
  refine (MlpRef.lDn_at _ _ i d).trans ?_
  rw [row_Dh]
theorem row_Dq (i : Fin 2048) : Mlp.row (rDq m c) i = Mlp.dq (Mlp.row (gC m c) 0) (Mlp.row (gN m c) 0) (cH m c i) := funext fun d =>
  (MlpRef.lDq_at _ _ i d).trans (congrArg (fun z : EReal => z * Mlp.row (gN m c) 0 d) (congrFun (row_Dn m c i) d))

theorem same_zg : GluRef.lZ (rP m c) = (W3 m ρ c (Proc.devRef .tc Cert.Kernel7Ideal.main_v0_0) : MlpRef.Feat) :=
  by_row fun i d => (GluRef.z_at _ _ _ i d).trans (out_zg m ρ c i d).symm
theorem same_dx : GluRef.lNx (gX m c) (rDq m c) (gD m c) = (W3 m ρ c (Proc.devRef .tc Cert.Kernel7Ideal.main_v1_1) : MlpRef.Feat) :=
  by_row fun i d => (GluRef.lNx_at _ _ _ i d).trans (Eq.trans (by rw [row_Dq]; rfl) (out_dx m ρ c i d).symm)
theorem same_db1 : GluRef.lB1 (rDp m c) = (W3 m ρ c (Proc.devRef .tc Cert.Kernel7Ideal.main_v1_2) : GluRef.Bias) :=
  by_col fun f => (GluRef.lB1_at _ f).trans (Eq.trans
    (Finset.sum_congr (M := EReal) rfl fun i _ => congrFun (row_Dp m c i) f) (out_db1 m ρ c f).symm)
theorem same_dng : MlpRef.down (mulf (MlpRef.lQ (gX m c)) (rDn m c)) = (W3 m ρ c (Proc.devRef .tc Cert.Kernel7Ideal.main_v1_3) : MlpRef.Par) :=
  by_col fun d => (MlpRef.down_at _ d).trans (Eq.trans (Finset.sum_congr (M := EReal) rfl fun i _ =>
    congrArg₂ (· * ·) (MlpRef.lQ_at _ i d) (congrFun (row_Dn m c i) d)) (out_dng m ρ c d).symm)
theorem same_dsc : MlpRef.down (mulf (MlpRef.lN (gX m c) (gN m c)) (rDh m c))
    = (W3 m ρ c (Proc.devRef .tc Cert.Kernel7Ideal.main_v1_4) : MlpRef.Par) :=
  by_col fun d => (MlpRef.down_at _ d).trans (Eq.trans (Finset.sum_congr (M := EReal) rfl fun i _ =>
    congrArg₂ (· * ·) (MlpRef.lN_at _ _ i d) (congrFun (row_Dh m c i) d)) (out_dsc m ρ c d).symm)
theorem same_dsh : MlpRef.down (rDh m c) = (W3 m ρ c (Proc.devRef .tc Cert.Kernel7Ideal.main_v1_5) : MlpRef.Par) :=
  by_col fun d => (MlpRef.down_at _ d).trans (Eq.trans
    (Finset.sum_congr (M := EReal) rfl fun i _ => congrFun (row_Dh m c i) d) (out_dsh m ρ c d).symm)
theorem same_dw : GluRef.lW (rDp m c) (gH m c) = (W3 m ρ c (Proc.devRef .tc Cert.Kernel7Ideal.main_v2) : GluRef.Wt) :=
  by_row fun d f => (GluRef.lW_at _ _ d f).trans (Eq.trans (Finset.sum_congr (M := EReal) rfl fun i _ =>
    congrArg (fun z : EReal => gH m c (ix2 i d) * z) (congrFun (row_Dp m c i) f)) (out_dw m ρ c d f).symm)

theorem value : Cert.algebraic_Kernel7Ideal_Reference7Ideal := by
  intro m g m' g' _ hm
  refine ⟨fun c => W3 m g c (Proc.devRef .tc Cert.Kernel7Ideal.main_v0_0),
    fun c => W3 m g c (Proc.devRef .tc Cert.Kernel7Ideal.main_v1_1),
    fun c => W3 m g c (Proc.devRef .tc Cert.Kernel7Ideal.main_v1_2),
    fun c => W3 m g c (Proc.devRef .tc Cert.Kernel7Ideal.main_v1_3),
    fun c => W3 m g c (Proc.devRef .tc Cert.Kernel7Ideal.main_v1_4),
    fun c => W3 m g c (Proc.devRef .tc Cert.Kernel7Ideal.main_v1_5),
    fun c => W3 m g c (Proc.devRef .tc Cert.Kernel7Ideal.main_v2), ?_, ?_⟩
  · refine (θ_run _ _ _).mono (fun r h c => ?_) (Cert.GluRun.run m g)
    have at_ := fun (b : Ref Cert.Kernel7Ideal.sig .tc) (hb : ¬ (Proc.devRef .tc b : DevRef Cert.Kernel7Ideal.τ Cert.Kernel7Ideal.sig).isScoped) =>
      h.1 c _ (Cert.Kernel7Ideal.Gen.mem_uc b hb)
    exact ⟨at_ Cert.Kernel7Ideal.main_v0_0 (by decide),
      at_ Cert.Kernel7Ideal.main_v1_1 (by decide),
      at_ Cert.Kernel7Ideal.main_v1_2 (by decide),
      at_ Cert.Kernel7Ideal.main_v1_3 (by decide),
      at_ Cert.Kernel7Ideal.main_v1_4 (by decide),
      at_ Cert.Kernel7Ideal.main_v1_5 (by decide),
      at_ Cert.Kernel7Ideal.main_v2 (by decide),
      (at_ Cert.Kernel7Ideal.main_arg0 (by decide)).trans (Cert.Kernel7Ideal.Gen.W3_main_arg0 m g c),
      (at_ Cert.Kernel7Ideal.main_arg1 (by decide)).trans (Cert.Kernel7Ideal.Gen.W3_main_arg1 m g c),
      (at_ Cert.Kernel7Ideal.main_arg2 (by decide)).trans (Cert.Kernel7Ideal.Gen.W3_main_arg2 m g c),
      (at_ Cert.Kernel7Ideal.main_arg3 (by decide)).trans (Cert.Kernel7Ideal.Gen.W3_main_arg3 m g c),
      (at_ Cert.Kernel7Ideal.main_arg4 (by decide)).trans (Cert.Kernel7Ideal.Gen.W3_main_arg4 m g c),
      (at_ Cert.Kernel7Ideal.main_arg5 (by decide)).trans (Cert.Kernel7Ideal.Gen.W3_main_arg5 m g c),
      (at_ Cert.Kernel7Ideal.main_arg6 (by decide)).trans (Cert.Kernel7Ideal.Gen.W3_main_arg6 m g c),
      (at_ Cert.Kernel7Ideal.main_arg7 (by decide)).trans (Cert.Kernel7Ideal.Gen.W3_main_arg7 m g c),
      (at_ Cert.Kernel7Ideal.main_arg8 (by decide)).trans (Cert.Kernel7Ideal.Gen.W3_main_arg8 m g c)⟩
  · refine (θ_run _ _ _).mono (fun r h c => ?_) (Cert.Reference7Ideal.Value.run m' g')
    obtain ⟨r0, r1, r2, r3, r4, r5, r6, rest⟩ := h c
    rw [GluRef.res_dx] at r1
    obtain ⟨h0, h1, h2, h3, h4, h5, h6, h7, h8⟩ := hm c
    rw [h0, h1, h2] at r0
    rw [h0, h1, h2, h3, h4, h5, h6, h7] at r1
    rw [h0, h1, h2, h3] at r2
    rw [h0, h1, h2, h3, h4, h7] at r3
    rw [h0, h1, h2, h3, h4, h6] at r4
    rw [h0, h1, h2, h3] at r5
    rw [h0, h1, h2, h3] at r6
    exact ⟨r0.trans (same_zg m g c), r1.trans (same_dx m g c), r2.trans (same_db1 m g c), r3.trans (same_dng m g c),
      r4.trans (same_dsc m g c), r5.trans (same_dsh m g c), r6.trans (same_dw m g c), rest⟩

end Cert.GluClaim

end
-- ==== Proof.GateRun.lean ====
/- The run of the program of the output projection. -/
module

public import proofs.«01_k».proof.Proof.RunKit
public import proofs.«01_k».proof.Proof.Gen.Kernel8Ideal.Frame

@[expose] public section

set_option maxRecDepth 16384

noncomputable section

namespace Cert.GateRun

open Cert.Kernel8Ideal Cert.Kernel8Ideal.Gen Idealize.ShloMosaic Idealize.ShloMosaic.TcCoe Idealize.SL.ProofMode Idealize.SL.Sem

variable {F : FTy → Type} [FloatOps F] (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r =>
    (∀ c : Dev nD, ∀ b ∈ Pipeline.ucRefs τ sig, r.2.mem ((c : Thread nD τ).1, b) = W2 m ρ c b) ∧ r.2.sem = fun _ => 0) :=
  RunKit.run pcfgs adm (pdats m ρ) cellOf_inj defs₀ m ρ main (segs m ρ) (main_run m ρ)
    (by simp only [segs, Pipeline.Seg.pipes_host, Pipeline.Seg.pipes_region, Pipeline.Seg.pipes_nil]; decide)
    (W2 m ρ) ⟨fun _ => .rfl, fun _ => .rfl, fun _ => .rfl⟩ no_unscoped

end Cert.GateRun
-- ==== Proof.GateOut.lean ====
/- The output projection: the arrays its two kernels leave, of the arrays they find, and the results of the program of the arrays it is given. -/
module

public import proofs.«01_k».proof.Proof.MlpDw
public import proofs.«01_k».proof.Proof.PreRow
public import proofs.«01_k».proof.Proof.Gen.Kernel8Ideal.Frame
public import Idealize.ShloMosaic.Lib.Pipeline.Value

@[expose] public section

set_option maxRecDepth 16384

noncomputable section

namespace Cert.GateOut

open Cert.Kernel8Ideal Cert.Kernel8Ideal.Gen Idealize.ShloMosaic Idealize.ShloMosaic.TcCoe
open Idealize.ShloMosaic.Pipeline (Dat)
open Cert.MlpFwd (at2 arr_at row_inj blk_row blk_col)
open Cert.MlpBwd (whole_z)
open Cert.MlpDw (blk_hid)

/-! One row. -/

/-- A row of the recurrence. -/
abbrev Rec := Fin 1280 → EReal
/-- The two numbers of the activation beside the half, as the programs write them. -/
def cR : EReal := Ideal.ofBits .f32 0x3F4C422A#32
def cQ : EReal := Ideal.ofBits .f32 0x3D372713#32
/-- A half. -/
def cF : EReal := Ideal.ofBits .f32 0x3F000000#32
/-- The activation. -/
def gelu (x : EReal) : EReal := cF * x * (1 + Ideal.tanh (cR * (x + cQ * (x * x * x))))
/-- The gated row. -/
def zr (g y0 y1 : Rec) : Rec := fun a => gelu (g a) * (y0 a + y1 a)
/-- The projected row. -/
def pj (z : Rec) (w : Fin 1280 → Fin 1024 → EReal) : Mlp.Row := fun d => ∑ a, z a * w a d
/-- A column of the gate's half of the input projection. -/
def gcol (a : Fin 1280) : Fin 2560 := ⟨a.val, by omega⟩

/-! The payloads. -/

theorem pay1_apply (g y0 y1 : Vec Ideal S256x1280 .f32) (i : Fin 256) (a : Fin 1280) :
    k0_pay1 g y0 y1 (ix2 i a) = zr (Mlp.row g i) (Mlp.row y0 i) (Mlp.row y1 i) a := by
  pointwise [k0_pay1]
  rfl
theorem pay2_apply (g y0 y1 : Vec Ideal S256x1280 .f32) (w : Vec Ideal S1280x1024 .bf16) (i : Fin 256) (d : Fin 1024) :
    k0_pay2 g y0 y1 w (ix2 i d) = pj (zr (Mlp.row g i) (Mlp.row y0 i) (Mlp.row y1 i)) (fun a d => w (ix2 a d)) d := by
  unfold k0_pay2 pj
  simp only [← pay1_apply]
  generalize k0_pay1 g y0 y1 = z
  pointwise
theorem out4_apply (g y0 y1 : Vec Ideal S256x1280 .f32) (w : Vec Ideal S1280x1024 .bf16) (i : Fin 256) (a : Fin 1280) :
    out0_4 g y0 y1 w (ix2 i a) = zr (Mlp.row g i) (Mlp.row y0 i) (Mlp.row y1 i) a := by
  unfold out0_4
  rw [View.canon_unit_zero whole_z]
  iterate 3 rw [View.ld_unit_zero whole_z]
  exact pay1_apply g y0 y1 i a
theorem out5_apply (g y0 y1 : Vec Ideal S256x1280 .f32) (w : Vec Ideal S1280x1024 .bf16) (i : Fin 256) (d : Fin 1024) :
    out0_5 g y0 y1 w (ix2 i d) = pj (zr (Mlp.row g i) (Mlp.row y0 i) (Mlp.row y1 i)) (fun a d => w (ix2 a d)) d := by
  unfold out0_5
  rw [View.canon_unit_zero whole_z]
  iterate 4 rw [View.ld_unit_zero whole_z]
  exact pay2_apply g y0 y1 w i d
theorem dw_pay_apply (v : Vec Ideal S2048x640 .bf16) (w : Vec Ideal S2048x512 .bf16) (a : Fin 640) (b : Fin 512) :
    k1_pay1 v w (ix2 a b) = ∑ i : Fin 2048, v (ix2 i a) * w (ix2 i b) := by
  unfold k1_pay1
  rw [shapeCast_id]
  pointwise
theorem dw_apply (v : Vec Ideal S2048x640 .bf16) (w : Vec Ideal S2048x512 .bf16) (a : Fin 640) (b : Fin 512) :
    out1_2 v w (ix2 a b) = ∑ i : Fin 2048, v (ix2 i a) * w (ix2 i b) := by
  unfold out1_2
  rw [View.canon_unit_zero whole_z]
  iterate 2 rw [View.ld_unit_zero whole_z]
  exact dw_pay_apply v w a b

/-! Where the blocks lie. -/

theorem N0 : cfg0.N = 8 := by decide
/-- The grid point of a block of rows. -/
def pt (t : Fin 8) : Fin cfg0.N := ⟨t.val, by rw [N0]; exact t.isLt⟩
theorem N1 : cfg1.N = 4 := by decide
/-- The grid point of a tile of the gradient. -/
def tile (p q : Fin 2) : Fin cfg1.N := ⟨2 * p.val + q.val, by rw [N1]; omega⟩
/-- A row of the gradient, of its tile and its place there. -/
def aof (p : Fin 2) (k : Fin 640) : Fin 1280 := ⟨640 * p.val + k.val, by omega⟩
/-- A column of the gradient, of its tile and its place there. -/
def dof (p : Fin 2) (k : Fin 512) : Fin 1024 := ⟨512 * p.val + k.val, by omega⟩
theorem aof_all (a : Fin 1280) : ∃ p k, a = aof p k :=
  ⟨⟨a.val / 640, by omega⟩, ⟨a.val % 640, by omega⟩, Fin.ext (by change a.val = 640 * (a.val / 640) + a.val % 640; omega)⟩
theorem dof_all (d : Fin 1024) : ∃ p k, d = dof p k :=
  ⟨⟨d.val / 512, by omega⟩, ⟨d.val % 512, by omega⟩, Fin.ext (by change d.val = 512 * (d.val / 512) + d.val % 512; omega)⟩
theorem blk_lat {n t i : ℕ} (h : n = t + 1) : n * 256 + 1 * i = 256 + (256 * t + i) := by omega
theorem blk_rec {n p k : ℕ} (h : n = p) : n * 640 + 1 * k = 640 * p + k := by omega

theorem at_0 : ∀ t : Fin grid0.N, win0_0.index t (0 : Fin 2) = t.val + 1 ∧ win0_0.index t (1 : Fin 2) = 0 := by decide +kernel
theorem at_1 : ∀ t : Fin grid0.N, win0_1.index t (0 : Fin 2) = t.val + 1 ∧ win0_1.index t (1 : Fin 2) = 0 := by decide +kernel
theorem at_2 : ∀ t : Fin grid0.N, win0_2.index t (0 : Fin 2) = t.val + 1 ∧ win0_2.index t (1 : Fin 2) = 0 := by decide +kernel
theorem at_3 : ∀ t : Fin grid0.N, ∀ a : Fin 2, win0_3.index t a = 0 := by decide +kernel
theorem at_4 : ∀ t : Fin grid0.N, win0_4.index t (0 : Fin 2) = t.val ∧ win0_4.index t (1 : Fin 2) = 0 ∧ win0_4.flush t = true := by decide +kernel
theorem at_5 : ∀ t : Fin grid0.N, win0_5.index t (0 : Fin 2) = t.val ∧ win0_5.index t (1 : Fin 2) = 0 ∧ win0_5.flush t = true := by decide +kernel
theorem dw_0 : ∀ p q : Fin 2, win1_0.index (tile p q) (0 : Fin 2) = 0 ∧ win1_0.index (tile p q) (1 : Fin 2) = p.val := by decide +kernel
theorem dw_1 : ∀ p q : Fin 2, win1_1.index (tile p q) (0 : Fin 2) = 0 ∧ win1_1.index (tile p q) (1 : Fin 2) = q.val := by decide +kernel
theorem dw_2 : ∀ p q : Fin 2, win1_2.index (tile p q) (0 : Fin 2) = p.val ∧ win1_2.index (tile p q) (1 : Fin 2) = q.val := by decide +kernel
theorem flush : ∀ t : Fin grid1.N, win1_2.flush t = true := by decide +kernel
theorem apart : ∀ t t' : Fin cfg1.N, win1_2.index t (0 : Fin 2) = win1_2.index t' (0 : Fin 2) → win1_2.index t (1 : Fin 2) = win1_2.index t' (1 : Fin 2) → t = t' :=
  (by decide +kernel : ∀ t t' : Fin grid1.N, win1_2.index t (0 : Fin 2) = win1_2.index t' (0 : Fin 2) → win1_2.index t (1 : Fin 2) = win1_2.index t' (1 : Fin 2) → t = t')

section regions
variable (V : (c : Dev nD) → (b : Ref sig .tc) → Buf (Elt Ideal) ((c : Thread nD τ).loc b)) (c : Dev nD)

/-- The arrays the regions find. -/
abbrev aG : FVec Ideal S2304x2560 .f32 := V c main_arg0
abbrev aY : FVec Ideal S2304x1280 .f32 := V c main_arg1
abbrev aY' : FVec Ideal S2304x1280 .f32 := V c main_arg2
abbrev aW : FVec Ideal S1280x1024 .bf16 := V c main_arg3
abbrev aZ : FVec Ideal S2048x1280 .bf16 := V c main_v0_0
abbrev aD : FVec Ideal S2048x1024 .bf16 := V c main_arg4

theorem rowG (t : Fin 8) (i : Fin 256) : Mlp.row (iblk0 V c 0 (pt t) : Vec Ideal S256x1280 .f32) i
    = fun a => aG V c (ix2 (Pre.lat (Mlp.rof t i)) (gcol a)) :=
  funext fun _ => at2 (aG V c) _ _ _ (blk_lat (at_0 (pt t)).1) (blk_col (at_0 (pt t)).2)
theorem rowY (t : Fin 8) (i : Fin 256) : Mlp.row (iblk0 V c 1 (pt t) : Vec Ideal S256x1280 .f32) i = Mlp.row (aY V c) (Pre.lat (Mlp.rof t i)) :=
  funext fun _ => at2 (aY V c) _ _ _ (blk_lat (at_1 (pt t)).1) (blk_col (at_1 (pt t)).2)
theorem rowY' (t : Fin 8) (i : Fin 256) : Mlp.row (iblk0 V c 2 (pt t) : Vec Ideal S256x1280 .f32) i = Mlp.row (aY' V c) (Pre.lat (Mlp.rof t i)) :=
  funext fun _ => at2 (aY' V c) _ _ _ (blk_lat (at_2 (pt t)).1) (blk_col (at_2 (pt t)).2)
theorem rowW (t : Fin 8) : (fun a d => (iblk0 V c 3 (pt t) : Vec Ideal S1280x1024 .bf16) (ix2 a d)) = fun a d => aW V c (ix2 a d) :=
  funext fun _ => funext fun _ => at2 (aW V c) _ _ _ (blk_col (at_3 (pt t) 0)) (blk_col (at_3 (pt t) 1))

/-- The gated row of a latent. -/
def zrow (i : Fin 2048) : Rec :=
  zr (fun a => aG V c (ix2 (Pre.lat i) (gcol a))) (Mlp.row (aY V c) (Pre.lat i)) (Mlp.row (aY' V c) (Pre.lat i))

theorem arr4 (i : Fin 2048) (a : Fin 1280) :
    ((dat0 V c).arrAt 4 cfg0.N : FVec Ideal S2048x1280 .bf16) (ix2 i a) = zrow V c i a := by
  obtain ⟨t, k, rfl⟩ : ∃ t k, i = Mlp.rof t k := ⟨_, _, (Mlp.rof_rt_ri i).symm⟩
  have e := arr_at (dat0 V c) 4 rfl (fun t => (at_4 t).2.2)
    (row_inj at_4) (pt t) (ix2 k a : S256x1280.Idx)
  refine Eq.trans (at2 ((dat0 V c).arrAt 4 cfg0.N : FVec Ideal S2048x1280 .bf16) _ _ _ (blk_row (at_4 (pt t)).1) (blk_col (at_4 (pt t)).2.1)).symm
    (e.trans ?_)
  refine (congrFun (after0_4 V c (pt t)) _).trans ((out4_apply _ _ _ (iblk0 V c 3 (pt t)) k a).trans ?_)
  rw [rowG, rowY, rowY']; rfl
theorem arr5 (i : Fin 2048) (d : Fin 1024) :
    ((dat0 V c).arrAt 5 cfg0.N : FVec Ideal S2048x1024 .f32) (ix2 i d) = pj (zrow V c i) (fun a d => aW V c (ix2 a d)) d := by
  obtain ⟨t, k, rfl⟩ : ∃ t k, i = Mlp.rof t k := ⟨_, _, (Mlp.rof_rt_ri i).symm⟩
  have e := arr_at (dat0 V c) 5 rfl (fun t => (at_5 t).2.2)
    (row_inj at_5) (pt t) (ix2 k d : S256x1024.Idx)
  refine Eq.trans (at2 ((dat0 V c).arrAt 5 cfg0.N : FVec Ideal S2048x1024 .f32) _ _ _ (blk_row (at_5 (pt t)).1) (blk_col (at_5 (pt t)).2.1)).symm
    (e.trans ?_)
  refine (congrFun (after0_5 V c (pt t)) _).trans ((out5_apply _ _ _ _ k d).trans ?_)
  rw [rowG, rowY, rowY', rowW]; rfl

theorem dw_z (p q : Fin 2) (i : Fin 2048) (k : Fin 640) :
    (iblk1 V c 0 (tile p q) : Vec Ideal S2048x640 .bf16) (ix2 i k) = aZ V c (ix2 i (aof p k)) :=
  at2 (aZ V c) _ _ _ (blk_col (dw_0 p q).1) (blk_rec (dw_0 p q).2)
theorem dw_d (p q : Fin 2) (i : Fin 2048) (k : Fin 512) :
    (iblk1 V c 1 (tile p q) : Vec Ideal S2048x512 .bf16) (ix2 i k) = aD V c (ix2 i (dof q k)) :=
  at2 (aD V c) _ _ _ (blk_col (dw_1 p q).1) (blk_hid (dw_1 p q).2)
theorem arr2 (a : Fin 1280) (d : Fin 1024) :
    ((dat1 V c).arrAt 2 cfg1.N : FVec Ideal S1280x1024 .bf16) (ix2 a d) = ∑ i : Fin 2048, aZ V c (ix2 i a) * aD V c (ix2 i d) := by
  obtain ⟨p, k, rfl⟩ := aof_all a
  obtain ⟨q, l, rfl⟩ := dof_all d
  have e := congrFun ((dat1 V c).read_blk_arrAt_eq_flushed 2
    (fun t t' _ _ hne => (cfg1.win 2).disjoint_blk (hk := rfl) fun h => hne
      (apart t t' (congrFun h (0 : Fin 2)) (congrFun h (1 : Fin 2)))) cfg1.N (tile p q) (tile p q).isLt (flush (tile p q)))
    (ix2 k l : S640x512.Idx)
  refine Eq.trans (at2 ((dat1 V c).arrAt 2 cfg1.N : FVec Ideal S1280x1024 .bf16) _ _ _ (blk_rec (dw_2 p q).1) (blk_hid (dw_2 p q).2)).symm
    (e.trans ?_)
  refine (congrFun (after1_2 V c (tile p q)) _).trans ((dw_apply _ _ k l).trans ?_)
  exact Finset.sum_congr (M := EReal) rfl fun i _ => congrArg₂ (· * ·) (dw_z V c p q i k) (dw_d V c p q i l)
end regions

/-! What the program leaves, of what it is given. -/

variable (m : (ℓ : Loc nD τ sig) → Buf (Elt Ideal) ℓ) (ρ : Dev nD → PrngReg) (c : Dev nD)

/-- The arrays the program is given. -/
abbrev gG : FVec Ideal S2304x2560 .f32 := m ((c : Thread nD τ).loc main_arg0)
abbrev gY : FVec Ideal S2304x1280 .f32 := m ((c : Thread nD τ).loc main_arg1)
abbrev gY' : FVec Ideal S2304x1280 .f32 := m ((c : Thread nD τ).loc main_arg2)
abbrev gW : FVec Ideal S1280x1024 .bf16 := m ((c : Thread nD τ).loc main_arg3)
abbrev gD : FVec Ideal S2048x1024 .bf16 := m ((c : Thread nD τ).loc main_arg4)

theorem out_o (i : Fin 2048) (d : Fin 1024) :
    (W2 m ρ c (Proc.devRef .tc main_v0_1) : FVec Ideal S2048x1024 .f32) (ix2 i d)
      = pj (zrow (V0 m ρ) c i) (fun a d => gW m c (ix2 a d)) d :=
  (congrFun (W2_of m ρ c main_v0_1 (by decide +kernel)) _).trans ((congrFun (W1_arr m ρ c 5) _).trans (arr5 (V0 m ρ) c i d))
theorem in_z (i : Fin 2048) (a : Fin 1280) : aZ (V1 m ρ) c (ix2 i a) = zrow (V0 m ρ) c i a :=
  (congrFun (W1_arr m ρ c 4) _).trans (arr4 (V0 m ρ) c i a)
theorem in_d : aD (V1 m ρ) c = gD m c := W1_args m ρ c main_arg4 (by decide)
theorem out_dw (a : Fin 1280) (d : Fin 1024) :
    (W2 m ρ c (Proc.devRef .tc main_v1) : FVec Ideal S1280x1024 .bf16) (ix2 a d)
      = ∑ i : Fin 2048, zrow (V0 m ρ) c i a * gD m c (ix2 i d) :=
  (congrFun (W2_arr m ρ c 2) _).trans ((arr2 (V1 m ρ) c a d).trans
    (Finset.sum_congr (M := EReal) rfl fun i _ => congrArg₂ (· * ·) (in_z m ρ c i a) (congrFun (in_d m ρ c) _)))

end Cert.GateOut

end
-- ==== Proof.GateRef.lean ====
/- The output projection: the reference's lines, each read at a place. -/
module

public import proofs.«01_k».proof.Proof.GateOut
public import proofs.«01_k».proof.Proof.Gen.Reference8Ideal.Run
public import Idealize.ShloMosaic.Lib.IdealHost

@[expose] public section

set_option maxRecDepth 16384

noncomputable section

namespace Cert.GateRef

open Cert.Reference8Ideal Cert.Reference8Ideal.Gen Idealize.ShloMosaic Idealize.ShloMosaic.TcCoe Idealize.ShloMosaic.Tactic

abbrev Rows := FVec Ideal S2048x1280 .f32

/-- A number everywhere. -/
def flat (b : BitVec 32) : Rows := broadcastInDim S2048x1280 ![] bcast_S_S2048x1280 (constant S_ .f32 b)
def lG (g : FVec Ideal S2304x2560 .f32) : Rows := extractStridedSlice S2048x1280 ![256, 0] g slices_S2304x2560_S2048x1280_256_0
def lY (y : FVec Ideal S2304x1280 .f32) : Rows := extractStridedSlice S2048x1280 ![256, 0] y slices_S2304x1280_S2048x1280_256_0
def lA (x : Rows) : Rows :=
  mulf x (mulf (flat 0x3F000000#32) (addf (flat 0x3F800000#32) (Host.tanh (mulf (flat 0x3F4C422A#32)
    (addf x (mulf (flat 0x3D372713#32) (mulf (mulf x x) x)))))))
def lZ (g : FVec Ideal S2304x2560 .f32) (y y' : FVec Ideal S2304x1280 .f32) : Rows := mulf (lA (lG g)) (addf (lY y) (lY y'))
def lO (z : Rows) (w : FVec Ideal S1280x1024 .bf16) : FVec Ideal S2048x1024 .f32 :=
  Host.dotGeneral dot_S2048x1280_S1280x1024_S2048x1024_1_0_0_1_n_n none z (extf .f32 w bitsLt_bf16_f32)
def lW (z : Rows) (ct : FVec Ideal S2048x1024 .bf16) : FVec Ideal S1280x1024 .bf16 :=
  truncf .bf16 (transpose S1280x1024 [1, 0] (Host.dotGeneral dot_S2048x1024_S2048x1280_S1024x1280_0_0_1_1_n_n none
    (extf .f32 ct bitsLt_bf16_f32) z) transposes_S1024x1280_S1280x1024_1_0) bitsLt_bf16_f32

theorem lG_at (g : FVec Ideal S2304x2560 .f32) (i : Fin 2048) (a : Fin 1280) : lG g (ix2 i a) = g (ix2 (Pre.lat i) (GateOut.gcol a)) := by
  rw [lG]
  pointwise
  exact MlpFwd.at2 g _ _ _ rfl rfl
theorem lY_at (y : FVec Ideal S2304x1280 .f32) (i : Fin 2048) (a : Fin 1280) : lY y (ix2 i a) = Mlp.row y (Pre.lat i) a := by
  rw [lY]
  pointwise
  exact MlpFwd.at2 y _ _ _ rfl rfl
theorem lA_at (x : Rows) (i : Fin 2048) (a : Fin 1280) : lA x (ix2 i a) = GateOut.gelu (x (ix2 i a)) := by
  rw [lA]
  pointwise [flat]
  exact (mul_assoc _ _ _).symm.trans (congrArg (fun z : EReal => z * _) (mul_comm _ _))
theorem lZ_at (g : FVec Ideal S2304x2560 .f32) (y y' : FVec Ideal S2304x1280 .f32) (i : Fin 2048) (a : Fin 1280) :
    lZ g y y' (ix2 i a) = GateOut.zr (fun a => g (ix2 (Pre.lat i) (GateOut.gcol a))) (Mlp.row y (Pre.lat i)) (Mlp.row y' (Pre.lat i)) a := by
  rw [lZ]
  pointwise
  rw [lA_at, lG_at, lY_at, lY_at]
  rfl
theorem lO_at (z : Rows) (w : FVec Ideal S1280x1024 .bf16) (i : Fin 2048) (d : Fin 1024) :
    lO z w (ix2 i d) = GateOut.pj (Mlp.row z i) (fun a d => w (ix2 a d)) d := by
  rw [lO]
  pointwise
  rfl
theorem lW_at (z : Rows) (ct : FVec Ideal S2048x1024 .bf16) (a : Fin 1280) (d : Fin 1024) :
    lW z ct (ix2 a d) = ∑ i : Fin 2048, z (ix2 i a) * ct (ix2 i d) := by
  rw [lW]
  pointwise
  exact Finset.sum_congr (M := EReal) rfl fun i _ => mul_comm _ _

end Cert.GateRef

end
-- ==== Proof.GateClaim.lean ====
/- The output projection: the kernels and the reference leave the same arrays, and the frame of the reference. -/
module

public import proofs.«01_k».proof.Defs
public import proofs.«01_k».proof.Proof.GateRun
public import proofs.«01_k».proof.Proof.GateRef
public import proofs.«01_k».proof.Proof.MlpClaim

@[expose] public section

set_option maxRecDepth 16384

noncomputable section

namespace Cert.GateClaim

open Idealize.ShloMosaic Idealize.ShloMosaic.TcCoe Idealize.SL.Sem
open Cert.Kernel8Ideal.Gen (W2 V0)
open Cert.MlpClaim (by_row)
open Cert.GateOut

theorem frame_ref : Cert.quiescent_Reference8Ideal := fun m g _ =>
  (θ_run _ _ _).mono (fun r h => ⟨fun c => (h c).2.2, sem_eq_zero_of_no_sems (by decide) r.2⟩) (Cert.Reference8Ideal.Value.run m g)

variable (m : (ℓ : Loc Cert.Kernel8Ideal.nD Cert.Kernel8Ideal.τ Cert.Kernel8Ideal.sig) → Buf (Elt Ideal) ℓ) (ρ : Dev Cert.Kernel8Ideal.nD → PrngReg)
  (c : Dev Cert.Kernel8Ideal.nD)

/-- The reference's gated rows, of the arrays the program is given. -/
abbrev rz : GateRef.Rows := GateRef.lZ (gG m c) (gY m c) (gY' m c)

theorem rz_row (i : Fin 2048) : Mlp.row (rz m c) i = zrow (V0 m ρ) c i := funext fun a => GateRef.lZ_at _ _ _ i a
theorem same_o : GateRef.lO (rz m c) (gW m c)
    = (W2 m ρ c (Proc.devRef .tc Cert.Kernel8Ideal.main_v0_1) : FVec Ideal Cert.Kernel8Ideal.S2048x1024 .f32) :=
  by_row fun i d => (GateRef.lO_at _ _ i d).trans (Eq.trans (by rw [rz_row m ρ]) (out_o m ρ c i d).symm)
theorem same_dw : GateRef.lW (rz m c) (gD m c)
    = (W2 m ρ c (Proc.devRef .tc Cert.Kernel8Ideal.main_v1) : FVec Ideal Cert.Kernel8Ideal.S1280x1024 .bf16) :=
  by_row fun a d => (GateRef.lW_at _ _ a d).trans (Eq.trans
    (Finset.sum_congr (M := EReal) rfl fun i _ => congrArg (· * gD m c (ix2 i d)) (congrFun (rz_row m ρ c i) a)) (out_dw m ρ c a d).symm)

theorem value : Cert.algebraic_Kernel8Ideal_Reference8Ideal := by
  intro m g m' g' _ hm
  refine ⟨fun c => W2 m g c (Proc.devRef .tc Cert.Kernel8Ideal.main_v0_1),
    fun c => W2 m g c (Proc.devRef .tc Cert.Kernel8Ideal.main_v1), ?_, ?_⟩
  · refine (θ_run _ _ _).mono (fun r h c => ?_) (Cert.GateRun.run m g)
    have at_ := fun (b : Ref Cert.Kernel8Ideal.sig .tc) (hb : ¬ (Proc.devRef .tc b : DevRef Cert.Kernel8Ideal.τ Cert.Kernel8Ideal.sig).isScoped) =>
      h.1 c _ (Cert.Kernel8Ideal.Gen.mem_uc b hb)
    exact ⟨at_ Cert.Kernel8Ideal.main_v0_1 (by decide),
      at_ Cert.Kernel8Ideal.main_v1 (by decide),
      (at_ Cert.Kernel8Ideal.main_arg0 (by decide)).trans (Cert.Kernel8Ideal.Gen.W2_main_arg0 m g c),
      (at_ Cert.Kernel8Ideal.main_arg1 (by decide)).trans (Cert.Kernel8Ideal.Gen.W2_main_arg1 m g c),
      (at_ Cert.Kernel8Ideal.main_arg2 (by decide)).trans (Cert.Kernel8Ideal.Gen.W2_main_arg2 m g c),
      (at_ Cert.Kernel8Ideal.main_arg3 (by decide)).trans (Cert.Kernel8Ideal.Gen.W2_main_arg3 m g c),
      (at_ Cert.Kernel8Ideal.main_arg4 (by decide)).trans (Cert.Kernel8Ideal.Gen.W2_main_arg4 m g c)⟩
  · refine (θ_run _ _ _).mono (fun r h c => ?_) (Cert.Reference8Ideal.Value.run m' g')
    obtain ⟨r0, r1, rest⟩ := h c
    obtain ⟨h0, h1, h2, h3, h4⟩ := hm c
    rw [h0, h1, h2, h3] at r0
    rw [h0, h1, h2, h4] at r1
    exact ⟨r0.trans (same_o m g c), r1.trans (same_dw m g c), rest⟩

end Cert.GateClaim

end
-- ==== Proof.SiluRun.lean ====
/- The run of the program of the Conformer's second projection. -/
module

public import proofs.«01_k».proof.Proof.RunKit
public import proofs.«01_k».proof.Proof.Gen.Kernel9Ideal.Frame

@[expose] public section

set_option maxRecDepth 16384

noncomputable section

namespace Cert.SiluRun

open Cert.Kernel9Ideal Cert.Kernel9Ideal.Gen Idealize.ShloMosaic Idealize.ShloMosaic.TcCoe Idealize.SL.ProofMode Idealize.SL.Sem

variable {F : FTy → Type} [FloatOps F] (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r =>
    (∀ c : Dev nD, ∀ b ∈ Pipeline.ucRefs τ sig, r.2.mem ((c : Thread nD τ).1, b) = W2 m ρ c b) ∧ r.2.sem = fun _ => 0) :=
  RunKit.run pcfgs adm (pdats m ρ) cellOf_inj defs₀ m ρ main (segs m ρ) (main_run m ρ)
    (by simp only [segs, Pipeline.Seg.pipes_host, Pipeline.Seg.pipes_region, Pipeline.Seg.pipes_nil]; decide)
    (W2 m ρ) ⟨fun _ => .rfl, fun _ => .rfl, fun _ => .rfl⟩ no_unscoped

end Cert.SiluRun
-- ==== Proof.SiluOut.lean ====
/- The Conformer's second projection: the arrays its two kernels leave, of the arrays they find, and the results of the program of the arrays it is given. -/
module

public import proofs.«01_k».proof.Proof.MlpDw
public import proofs.«01_k».proof.Proof.GluRow
public import proofs.«01_k».proof.Proof.Gen.Kernel9Ideal.Frame
public import Idealize.ShloMosaic.Lib.Pipeline.Value

@[expose] public section

set_option maxRecDepth 16384

noncomputable section

namespace Cert.SiluOut

open Cert.Kernel9Ideal Cert.Kernel9Ideal.Gen Idealize.ShloMosaic Idealize.ShloMosaic.TcCoe
open Idealize.ShloMosaic.Pipeline (Dat)
open Cert.MlpFwd (at2 arr_at row_inj blk_row blk_col)
open Cert.MlpBwd (whole_z)
open Cert.MlpDw (blk_hid)
open Cert.Mlp (Row)

/-! One row. -/

/-- The row less its mean. -/
def cen (x : Row) : Row := fun d => x d - Ideal.div (∑ d, x d) Mlp.cK
/-- The normed row. -/
def ln (x g b : Row) : Row := fun d => Mlp.nr (cen x) g d + b d
/-- The activated row. -/
def sr (x g b : Row) : Row := fun d => ln x g b d * Ideal.logistic (ln x g b d)
/-- The projected row. -/
def pj (s : Row) (w : Fin 1024 → Fin 1024 → EReal) : Row := fun f => ∑ d, s d * w d f

/-! The payloads. -/

theorem pay1_apply (x : Vec Ideal S256x1024 .f32) (g b : Vec Ideal S1x1024 .f32) (i : Fin 256) (d : Fin 1024) :
    k0_pay1 x g b (ix2 i d) = sr (Mlp.row x i) (Mlp.row g 0) (Mlp.row b 0) d := by
  unfold sr
  rw [← Glu.gate]
  pointwise [k0_pay1]
  rfl
theorem pay2_apply (x : Vec Ideal S256x1024 .f32) (g b : Vec Ideal S1x1024 .f32) (w : Vec Ideal S1024x1024 .bf16) (i : Fin 256) (f : Fin 1024) :
    k0_pay2 x g b w (ix2 i f) = pj (sr (Mlp.row x i) (Mlp.row g 0) (Mlp.row b 0)) (fun d f => w (ix2 d f)) f := by
  unfold k0_pay2 pj
  simp only [← pay1_apply]
  generalize k0_pay1 x g b = z
  pointwise
theorem out4_apply (x : Vec Ideal S256x1024 .f32) (g b : Vec Ideal S1x1024 .f32) (w : Vec Ideal S1024x1024 .bf16) (i : Fin 256) (d : Fin 1024) :
    out0_4 x g b w (ix2 i d) = sr (Mlp.row x i) (Mlp.row g 0) (Mlp.row b 0) d := by
  unfold out0_4
  rw [View.canon_unit_zero whole_z]
  iterate 3 rw [View.ld_unit_zero whole_z]
  exact pay1_apply x g b i d
theorem out5_apply (x : Vec Ideal S256x1024 .f32) (g b : Vec Ideal S1x1024 .f32) (w : Vec Ideal S1024x1024 .bf16) (i : Fin 256) (f : Fin 1024) :
    out0_5 x g b w (ix2 i f) = pj (sr (Mlp.row x i) (Mlp.row g 0) (Mlp.row b 0)) (fun d f => w (ix2 d f)) f := by
  unfold out0_5
  rw [View.canon_unit_zero whole_z]
  iterate 4 rw [View.ld_unit_zero whole_z]
  exact pay2_apply x g b w i f
theorem dw_apply (v w : Vec Ideal S2048x512 .bf16) (a b : Fin 512) : out1_2 v w (ix2 a b) = ∑ i : Fin 2048, v (ix2 i a) * w (ix2 i b) := by
  unfold out1_2
  rw [View.canon_unit_zero whole_z]
  iterate 2 rw [View.ld_unit_zero whole_z]
  unfold k1_pay1
  rw [shapeCast_id]
  pointwise

/-! Where the blocks lie. -/

theorem N0 : cfg0.N = 8 := by decide
/-- The grid point of a block of rows. -/
def pt (t : Fin 8) : Fin cfg0.N := ⟨t.val, by rw [N0]; exact t.isLt⟩
theorem N1 : cfg1.N = 4 := by decide
/-- The grid point of a tile of the gradient. -/
def tile (p q : Fin 2) : Fin cfg1.N := ⟨2 * p.val + q.val, by rw [N1]; omega⟩
/-- A row or a column of the gradient, of its tile and its place there. -/
def dof (p : Fin 2) (k : Fin 512) : Fin 1024 := ⟨512 * p.val + k.val, by omega⟩
theorem dof_all (d : Fin 1024) : ∃ p k, d = dof p k :=
  ⟨⟨d.val / 512, by omega⟩, ⟨d.val % 512, by omega⟩, Fin.ext (by change d.val = 512 * (d.val / 512) + d.val % 512; omega)⟩

theorem at_0 : ∀ t : Fin grid0.N, win0_0.index t (0 : Fin 2) = t.val ∧ win0_0.index t (1 : Fin 2) = 0 := by decide +kernel
theorem at_p : ∀ t : Fin grid0.N, ∀ a : Fin 2, win0_1.index t a = 0 ∧ win0_2.index t a = 0 ∧ win0_3.index t a = 0 := by decide +kernel
theorem at_4 : ∀ t : Fin grid0.N, win0_4.index t (0 : Fin 2) = t.val ∧ win0_4.index t (1 : Fin 2) = 0 ∧ win0_4.flush t = true := by decide +kernel
theorem at_5 : ∀ t : Fin grid0.N, win0_5.index t (0 : Fin 2) = t.val ∧ win0_5.index t (1 : Fin 2) = 0 ∧ win0_5.flush t = true := by decide +kernel
theorem dw_0 : ∀ p q : Fin 2, win1_0.index (tile p q) (0 : Fin 2) = 0 ∧ win1_0.index (tile p q) (1 : Fin 2) = p.val := by decide +kernel
theorem dw_1 : ∀ p q : Fin 2, win1_1.index (tile p q) (0 : Fin 2) = 0 ∧ win1_1.index (tile p q) (1 : Fin 2) = q.val := by decide +kernel
theorem dw_2 : ∀ p q : Fin 2, win1_2.index (tile p q) (0 : Fin 2) = p.val ∧ win1_2.index (tile p q) (1 : Fin 2) = q.val := by decide +kernel
theorem flush : ∀ t : Fin grid1.N, win1_2.flush t = true := by decide +kernel
theorem apart : ∀ t t' : Fin cfg1.N, win1_2.index t (0 : Fin 2) = win1_2.index t' (0 : Fin 2) → win1_2.index t (1 : Fin 2) = win1_2.index t' (1 : Fin 2) → t = t' :=
  (by decide +kernel : ∀ t t' : Fin grid1.N, win1_2.index t (0 : Fin 2) = win1_2.index t' (0 : Fin 2) → win1_2.index t (1 : Fin 2) = win1_2.index t' (1 : Fin 2) → t = t')

section regions
variable (V : (c : Dev nD) → (b : Ref sig .tc) → Buf (Elt Ideal) ((c : Thread nD τ).loc b)) (c : Dev nD)

/-- The arrays the regions find. -/
abbrev aX : FVec Ideal S2048x1024 .f32 := V c main_arg0
abbrev aG : FVec Ideal S1x1024 .f32 := V c main_arg1
abbrev aB : FVec Ideal S1x1024 .f32 := V c main_arg2
abbrev aW : FVec Ideal S1024x1024 .bf16 := V c main_arg3
abbrev aS : FVec Ideal S2048x1024 .bf16 := V c main_v0_0
abbrev aD : FVec Ideal S2048x1024 .bf16 := V c main_arg4

theorem rowX (t : Fin 8) (i : Fin 256) : Mlp.row (iblk0 V c 0 (pt t) : Vec Ideal S256x1024 .f32) i = Mlp.row (aX V c) (Mlp.rof t i) :=
  funext fun _ => at2 (aX V c) _ _ _ (blk_row (at_0 (pt t)).1) (blk_col (at_0 (pt t)).2)
theorem rowG (t : Fin 8) : Mlp.row (iblk0 V c 1 (pt t) : Vec Ideal S1x1024 .f32) = Mlp.row (aG V c) :=
  funext fun _ => funext fun _ => at2 (aG V c) _ _ _ (blk_col (at_p (pt t) 0).1) (blk_col (at_p (pt t) 1).1)
theorem rowB (t : Fin 8) : Mlp.row (iblk0 V c 2 (pt t) : Vec Ideal S1x1024 .f32) = Mlp.row (aB V c) :=
  funext fun _ => funext fun _ => at2 (aB V c) _ _ _ (blk_col (at_p (pt t) 0).2.1) (blk_col (at_p (pt t) 1).2.1)
theorem rowW (t : Fin 8) : (fun d f => (iblk0 V c 3 (pt t) : Vec Ideal S1024x1024 .bf16) (ix2 d f)) = fun d f => aW V c (ix2 d f) :=
  funext fun _ => funext fun _ => at2 (aW V c) _ _ _ (blk_col (at_p (pt t) 0).2.2) (blk_col (at_p (pt t) 1).2.2)

/-- The activated row. -/
def srow (i : Fin 2048) : Row := sr (Mlp.row (aX V c) i) (Mlp.row (aG V c) 0) (Mlp.row (aB V c) 0)

theorem arr4 (i : Fin 2048) (d : Fin 1024) :
    ((dat0 V c).arrAt 4 cfg0.N : FVec Ideal S2048x1024 .bf16) (ix2 i d) = srow V c i d := by
  obtain ⟨t, k, rfl⟩ : ∃ t k, i = Mlp.rof t k := ⟨_, _, (Mlp.rof_rt_ri i).symm⟩
  have e := arr_at (dat0 V c) 4 rfl (fun t => (at_4 t).2.2)
    (row_inj at_4) (pt t) (ix2 k d : S256x1024.Idx)
  refine Eq.trans (at2 ((dat0 V c).arrAt 4 cfg0.N : FVec Ideal S2048x1024 .bf16) _ _ _ (blk_row (at_4 (pt t)).1) (blk_col (at_4 (pt t)).2.1)).symm
    (e.trans ?_)
  refine (congrFun (after0_4 V c (pt t)) _).trans ((out4_apply _ _ _ (iblk0 V c 3 (pt t)) k d).trans ?_)
  rw [rowX, rowG, rowB]; rfl
theorem arr5 (i : Fin 2048) (f : Fin 1024) :
    ((dat0 V c).arrAt 5 cfg0.N : FVec Ideal S2048x1024 .f32) (ix2 i f) = pj (srow V c i) (fun d f => aW V c (ix2 d f)) f := by
  obtain ⟨t, k, rfl⟩ : ∃ t k, i = Mlp.rof t k := ⟨_, _, (Mlp.rof_rt_ri i).symm⟩
  have e := arr_at (dat0 V c) 5 rfl (fun t => (at_5 t).2.2)
    (row_inj at_5) (pt t) (ix2 k f : S256x1024.Idx)
  refine Eq.trans (at2 ((dat0 V c).arrAt 5 cfg0.N : FVec Ideal S2048x1024 .f32) _ _ _ (blk_row (at_5 (pt t)).1) (blk_col (at_5 (pt t)).2.1)).symm
    (e.trans ?_)
  refine (congrFun (after0_5 V c (pt t)) _).trans ((out5_apply _ _ _ _ k f).trans ?_)
  rw [rowX, rowG, rowB, rowW]; rfl

theorem dw_s (p q : Fin 2) (i : Fin 2048) (k : Fin 512) :
    (iblk1 V c 0 (tile p q) : Vec Ideal S2048x512 .bf16) (ix2 i k) = aS V c (ix2 i (dof p k)) :=
  at2 (aS V c) _ _ _ (blk_col (dw_0 p q).1) (blk_hid (dw_0 p q).2)
theorem dw_d (p q : Fin 2) (i : Fin 2048) (k : Fin 512) :
    (iblk1 V c 1 (tile p q) : Vec Ideal S2048x512 .bf16) (ix2 i k) = aD V c (ix2 i (dof q k)) :=
  at2 (aD V c) _ _ _ (blk_col (dw_1 p q).1) (blk_hid (dw_1 p q).2)
theorem arr2 (d f : Fin 1024) :
    ((dat1 V c).arrAt 2 cfg1.N : FVec Ideal S1024x1024 .bf16) (ix2 d f) = ∑ i : Fin 2048, aS V c (ix2 i d) * aD V c (ix2 i f) := by
  obtain ⟨p, k, rfl⟩ := dof_all d
  obtain ⟨q, l, rfl⟩ := dof_all f
  have e := congrFun ((dat1 V c).read_blk_arrAt_eq_flushed 2
    (fun t t' _ _ hne => (cfg1.win 2).disjoint_blk (hk := rfl) fun h => hne
      (apart t t' (congrFun h (0 : Fin 2)) (congrFun h (1 : Fin 2)))) cfg1.N (tile p q) (tile p q).isLt (flush (tile p q)))
    (ix2 k l : S512x512.Idx)
  refine Eq.trans (at2 ((dat1 V c).arrAt 2 cfg1.N : FVec Ideal S1024x1024 .bf16) _ _ _ (blk_hid (dw_2 p q).1) (blk_hid (dw_2 p q).2)).symm
    (e.trans ?_)
  refine (congrFun (after1_2 V c (tile p q)) _).trans ((dw_apply _ _ k l).trans ?_)
  exact Finset.sum_congr (M := EReal) rfl fun i _ => congrArg₂ (· * ·) (dw_s V c p q i k) (dw_d V c p q i l)
end regions

/-! What the program leaves, of what it is given. -/

variable (m : (ℓ : Loc nD τ sig) → Buf (Elt Ideal) ℓ) (ρ : Dev nD → PrngReg) (c : Dev nD)

/-- The arrays the program is given. -/
abbrev gX : FVec Ideal S2048x1024 .f32 := m ((c : Thread nD τ).loc main_arg0)
abbrev gG : FVec Ideal S1x1024 .f32 := m ((c : Thread nD τ).loc main_arg1)
abbrev gB : FVec Ideal S1x1024 .f32 := m ((c : Thread nD τ).loc main_arg2)
abbrev gW : FVec Ideal S1024x1024 .bf16 := m ((c : Thread nD τ).loc main_arg3)
abbrev gD : FVec Ideal S2048x1024 .bf16 := m ((c : Thread nD τ).loc main_arg4)

theorem out_o (i : Fin 2048) (f : Fin 1024) :
    (W2 m ρ c (Proc.devRef .tc main_v0_1) : FVec Ideal S2048x1024 .f32) (ix2 i f)
      = pj (srow (V0 m ρ) c i) (fun d f => gW m c (ix2 d f)) f :=
  (congrFun (W2_of m ρ c main_v0_1 (by decide +kernel)) _).trans ((congrFun (W1_arr m ρ c 5) _).trans (arr5 (V0 m ρ) c i f))
theorem in_s (i : Fin 2048) (d : Fin 1024) : aS (V1 m ρ) c (ix2 i d) = srow (V0 m ρ) c i d :=
  (congrFun (W1_arr m ρ c 4) _).trans (arr4 (V0 m ρ) c i d)
theorem in_d : aD (V1 m ρ) c = gD m c := W1_args m ρ c main_arg4 (by decide)
theorem out_dw (d f : Fin 1024) :
    (W2 m ρ c (Proc.devRef .tc main_v1) : FVec Ideal S1024x1024 .bf16) (ix2 d f)
      = ∑ i : Fin 2048, srow (V0 m ρ) c i d * gD m c (ix2 i f) :=
  (congrFun (W2_arr m ρ c 2) _).trans ((arr2 (V1 m ρ) c d f).trans
    (Finset.sum_congr (M := EReal) rfl fun i _ => congrArg₂ (· * ·) (in_s m ρ c i d) (congrFun (in_d m ρ c) _)))

end Cert.SiluOut

end
-- ==== Proof.SiluRef.lean ====
/- The Conformer's second projection: the reference's lines, each read at a place. -/
module

public import proofs.«01_k».proof.Proof.SiluOut
public import proofs.«01_k».proof.Proof.GluRef
public import proofs.«01_k».proof.Proof.Gen.Reference9Ideal.Run

@[expose] public section

set_option maxRecDepth 16384

noncomputable section

namespace Cert.SiluRef

open Cert.Reference9Ideal Cert.Reference9Ideal.Gen Idealize.ShloMosaic Idealize.ShloMosaic.TcCoe Idealize.ShloMosaic.Tactic
open Cert.MlpRef (Feat Par along across under col)

def lC (x : Feat) : Feat :=
  subf x (across (Host.divf (broadcastInDim S2048x1 ![0] bcast_S2048_S2048x1_0 (along x)) (col 0x44800000#32)))
def lL (x : Feat) (g b : Par) : Feat := addf (MlpRef.lN (lC x) g) (under b)
def lS (x : Feat) (g b : Par) : Feat := mulf (lL x g b) (GluRef.lSg (lL x g b))
def lO (s : Feat) (w : FVec Ideal S1024x1024 .bf16) : Feat :=
  Host.dotGeneral dot_S2048x1024_S1024x1024_S2048x1024_1_0_0_1_n_n none s (extf .f32 w bitsLt_bf16_f32)
def lW (s : Feat) (ct : FVec Ideal S2048x1024 .bf16) : FVec Ideal S1024x1024 .bf16 :=
  truncf .bf16 (transpose S1024x1024 [1, 0] (Host.dotGeneral dot_S2048x1024_S2048x1024_S1024x1024_0_0_1_1_n_n none
    (extf .f32 ct bitsLt_bf16_f32) s) transposes_S1024x1024_S1024x1024_1_0) bitsLt_bf16_f32

theorem lC_at (x : Feat) (i : Fin 2048) (d : Fin 1024) : lC x (ix2 i d) = SiluOut.cen (Mlp.row x i) d := by
  rw [lC]
  pointwise [across, along, col]
  rfl
theorem lL_at (x : Feat) (g b : Par) (i : Fin 2048) (d : Fin 1024) :
    lL x g b (ix2 i d) = SiluOut.ln (Mlp.row x i) (Mlp.row g 0) (Mlp.row b 0) d := by
  have e : Mlp.row (lC x) i = SiluOut.cen (Mlp.row x i) := funext fun d => lC_at x i d
  rw [lL]
  pointwise
  rw [MlpRef.lN_at, MlpRef.under_at, e]
  rfl
theorem lS_at (x : Feat) (g b : Par) (i : Fin 2048) (d : Fin 1024) :
    lS x g b (ix2 i d) = SiluOut.sr (Mlp.row x i) (Mlp.row g 0) (Mlp.row b 0) d := by
  rw [lS]
  pointwise
  rw [GluRef.lSg_at, lL_at]
  rfl
theorem lO_at (s : Feat) (w : FVec Ideal S1024x1024 .bf16) (i : Fin 2048) (f : Fin 1024) :
    lO s w (ix2 i f) = SiluOut.pj (Mlp.row s i) (fun d f => w (ix2 d f)) f := by
  rw [lO]
  pointwise
  rfl
theorem lW_at (s : Feat) (ct : FVec Ideal S2048x1024 .bf16) (d f : Fin 1024) :
    lW s ct (ix2 d f) = ∑ i : Fin 2048, s (ix2 i d) * ct (ix2 i f) := by
  rw [lW]
  pointwise
  exact Finset.sum_congr (M := EReal) rfl fun i _ => mul_comm _ _

end Cert.SiluRef

end
-- ==== Proof.SiluClaim.lean ====
/- The Conformer's second projection: the kernels and the reference leave the same arrays, and the frame of the reference. -/
module

public import proofs.«01_k».proof.Defs
public import proofs.«01_k».proof.Proof.SiluRun
public import proofs.«01_k».proof.Proof.SiluRef
public import proofs.«01_k».proof.Proof.MlpClaim

@[expose] public section

set_option maxRecDepth 16384

noncomputable section

namespace Cert.SiluClaim

open Idealize.ShloMosaic Idealize.ShloMosaic.TcCoe Idealize.SL.Sem
open Cert.Kernel9Ideal.Gen (W2 V0)
open Cert.MlpClaim (by_row)
open Cert.SiluOut

theorem frame_ref : Cert.quiescent_Reference9Ideal := fun m g _ =>
  (θ_run _ _ _).mono (fun r h => ⟨fun c => (h c).2.2, sem_eq_zero_of_no_sems (by decide) r.2⟩) (Cert.Reference9Ideal.Value.run m g)

variable (m : (ℓ : Loc Cert.Kernel9Ideal.nD Cert.Kernel9Ideal.τ Cert.Kernel9Ideal.sig) → Buf (Elt Ideal) ℓ) (ρ : Dev Cert.Kernel9Ideal.nD → PrngReg)
  (c : Dev Cert.Kernel9Ideal.nD)

/-- The reference's activated rows, of the arrays the program is given. -/
abbrev rz : MlpRef.Feat := SiluRef.lS (gX m c) (gG m c) (gB m c)

theorem rz_row (i : Fin 2048) : Mlp.row (rz m c) i = srow (V0 m ρ) c i := funext fun a => SiluRef.lS_at _ _ _ i a
theorem same_o : SiluRef.lO (rz m c) (gW m c)
    = (W2 m ρ c (Proc.devRef .tc Cert.Kernel9Ideal.main_v0_1) : FVec Ideal Cert.Kernel9Ideal.S2048x1024 .f32) :=
  by_row fun i d => (SiluRef.lO_at _ _ i d).trans (Eq.trans (by rw [rz_row m ρ]) (out_o m ρ c i d).symm)
theorem same_dw : SiluRef.lW (rz m c) (gD m c)
    = (W2 m ρ c (Proc.devRef .tc Cert.Kernel9Ideal.main_v1) : FVec Ideal Cert.Kernel9Ideal.S1024x1024 .bf16) :=
  by_row fun a d => (SiluRef.lW_at _ _ a d).trans (Eq.trans
    (Finset.sum_congr (M := EReal) rfl fun i _ => congrArg (· * gD m c (ix2 i d)) (congrFun (rz_row m ρ c i) a)) (out_dw m ρ c a d).symm)

theorem value : Cert.algebraic_Kernel9Ideal_Reference9Ideal := by
  intro m g m' g' _ hm
  refine ⟨fun c => W2 m g c (Proc.devRef .tc Cert.Kernel9Ideal.main_v0_1),
    fun c => W2 m g c (Proc.devRef .tc Cert.Kernel9Ideal.main_v1), ?_, ?_⟩
  · refine (θ_run _ _ _).mono (fun r h c => ?_) (Cert.SiluRun.run m g)
    have at_ := fun (b : Ref Cert.Kernel9Ideal.sig .tc) (hb : ¬ (Proc.devRef .tc b : DevRef Cert.Kernel9Ideal.τ Cert.Kernel9Ideal.sig).isScoped) =>
      h.1 c _ (Cert.Kernel9Ideal.Gen.mem_uc b hb)
    exact ⟨at_ Cert.Kernel9Ideal.main_v0_1 (by decide),
      at_ Cert.Kernel9Ideal.main_v1 (by decide),
      (at_ Cert.Kernel9Ideal.main_arg0 (by decide)).trans (Cert.Kernel9Ideal.Gen.W2_main_arg0 m g c),
      (at_ Cert.Kernel9Ideal.main_arg1 (by decide)).trans (Cert.Kernel9Ideal.Gen.W2_main_arg1 m g c),
      (at_ Cert.Kernel9Ideal.main_arg2 (by decide)).trans (Cert.Kernel9Ideal.Gen.W2_main_arg2 m g c),
      (at_ Cert.Kernel9Ideal.main_arg3 (by decide)).trans (Cert.Kernel9Ideal.Gen.W2_main_arg3 m g c),
      (at_ Cert.Kernel9Ideal.main_arg4 (by decide)).trans (Cert.Kernel9Ideal.Gen.W2_main_arg4 m g c)⟩
  · refine (θ_run _ _ _).mono (fun r h c => ?_) (Cert.Reference9Ideal.Value.run m' g')
    obtain ⟨r0, r1, rest⟩ := h c
    obtain ⟨h0, h1, h2, h3, h4⟩ := hm c
    rw [h0, h1, h2, h3] at r0
    rw [h0, h1, h2, h4] at r1
    exact ⟨r0.trans (same_o m g c), r1.trans (same_dw m g c), rest⟩

end Cert.SiluClaim

end
-- ==== Proof.SiluBwdOut.lean ====
/- The Conformer's second projection, backward: the blocks its kernel leaves at one grid point, and what they hold, row by row. -/
module

public import proofs.«01_k».proof.Proof.SiluOut
public import proofs.«01_k».proof.Proof.Gen.Kernel11Ideal.Frame

@[expose] public section

set_option maxRecDepth 16384

noncomputable section

namespace Cert.SiluBwd

open Cert.Kernel11Ideal Cert.Kernel11Ideal.Gen Idealize.ShloMosaic Idealize.ShloMosaic.TcCoe
open Cert.MlpBwd (whole_z rd)
open Cert.Mlp (Row)

/-! One row. -/

/-- The activated row's cotangent, of the projected row's. -/
def ds (ct : Row) (w : Fin 1024 → Fin 1024 → EReal) : Row := fun d => ∑ f, ct f * w d f
/-- The normed row's, of the normed row and the activated row's. -/
def dy (y s : Row) : Row := fun d => s d * Ideal.logistic (y d) + y d * s d * (Ideal.logistic (y d) * (1 - Ideal.logistic (y d)))
/-- What the norm passes back to its centred row, of the inverse root and of its derivative's factor. -/
def back (x e : Row) (r k : EReal) : Row := fun d =>
  e d * r + x d * Ideal.div ((∑ d, x d * e d) * k) Mlp.cK + Ideal.div ((∑ d, x d * e d) * k) Mlp.cK * x d
/-- What the centring passes back. -/
def dz (g : Row) : Row := fun d => g d + Ideal.div (∑ d, (0 - g d)) Mlp.cK
/-- The normed row's cotangent, of the arrays' rows. -/
def cy (x g b ct : Row) (w : Fin 1024 → Fin 1024 → EReal) : Row := dy (SiluOut.ln x g b) (ds ct w)
/-- The cotangent of the row entering the norm. -/
def dx (x g : Row) (y : Row) : Row := dz (Pre.nb (SiluOut.cen x) fun d => y d * g d)

section terms
variable {F : FTy → Type} [FloatOps F]

/-! The loads of whole blocks. -/

def lx (x : Vec F S256x1024 .f32) : Vec F S256x1024 .f32 := View.ld x (Rect.unit (s := S256x1024) ![0, 0] S256x1024.size inb_S256x1024_S256x1024_0_0)
def lc (x : Vec F S256x1024 .bf16) : Vec F S256x1024 .bf16 := View.ld x (Rect.unit (s := S256x1024) ![0, 0] S256x1024.size inb_S256x1024_S256x1024_0_0)
def lr (x : Vec F S1x1024 .f32) : Vec F S1x1024 .f32 := View.ld x (Rect.unit (s := S1x1024) ![0, 0] S1x1024.size inb_S1x1024_S1x1024_0_0)
def lw (x : Vec F S1024x1024 .bf16) : Vec F S1024x1024 .bf16 := View.ld x (Rect.unit (s := S1024x1024) ![0, 0] S1024x1024.size inb_S1024x1024_S1024x1024_0_0)
theorem lx_eq (x : Vec F S256x1024 .f32) : lx x = x := by rw [lx, View.ld_unit_zero whole_z]
theorem lc_eq (x : Vec F S256x1024 .bf16) : lc x = x := by rw [lc, View.ld_unit_zero whole_z]
theorem lr_eq (x : Vec F S1x1024 .f32) : lr x = x := by rw [lr, View.ld_unit_zero whole_z]
theorem lw_eq (x : Vec F S1024x1024 .bf16) : lw x = x := by rw [lw, View.ld_unit_zero whole_z]

variable (x0 : Vec F S256x1024 .f32) (x1 : Vec F S256x1024 .bf16) (x2 x3 : Vec F S1x1024 .f32) (x4 : Vec F S1024x1024 .bf16)

/-! The terms: the rows' cotangents, and the point's parts of the two sums. -/

def vD : Vec F S256x1024 .f32 :=
  k0_pay18 x2 (k0_pay5 x1 x4) (k0_pay6 x0) (k0_pay8 x0) (k0_pay9 x0) (k0_pay11 x0 x2 x3) (k0_pay12 x0 x2 x3) (k0_pay13 x0 x2 x3) k0_pay14
def vG : FVec F S1x1024 .f32 :=
  k0_pay17 (k0_pay5 x1 x4) (k0_pay10 x0) (k0_pay11 x0 x2 x3) (k0_pay12 x0 x2 x3) (k0_pay13 x0 x2 x3) k0_pay14
def vB : FVec F S1x1024 .f32 := k0_pay16 (k0_pay5 x1 x4) (k0_pay11 x0 x2 x3) (k0_pay12 x0 x2 x3) (k0_pay13 x0 x2 x3) k0_pay14

/-! What each of the two cases of the body leaves. -/

variable (c : Dev nD) (i : grid0.Coords)
  (arg1 : Memref sig .tc .vmem S256x1024 .f32) (harg1 : arg1.IsWhole)
  (arg2 : Memref sig .tc .vmem S256x1024 .bf16) (harg2 : arg2.IsWhole)
  (arg3 : Memref sig .tc .vmem S1x1024 .f32) (harg3 : arg3.IsWhole)
  (arg4 : Memref sig .tc .vmem S1x1024 .f32) (harg4 : arg4.IsWhole)
  (arg5 : Memref sig .tc .vmem S1024x1024 .bf16) (harg5 : arg5.IsWhole)
  (arg6 : Memref sig .tc .vmem S256x1024 .f32) (harg6 : arg6.IsWhole)
  (arg7 : Memref sig .tc .vmem S1x1024 .f32) (harg7 : arg7.IsWhole)
  (arg8 : Memref sig .tc .vmem S1x1024 .f32) (harg8 : arg8.IsWhole)

theorem outA_5 (hc : cond0_0 i) :
    out0_A_5 c i arg1 harg1 arg2 harg2 arg3 harg3 arg4 harg4 arg5 harg5 arg6 harg6 arg7 harg7 arg8 harg8 hc x0 x1 x2 x3 x4 = vD x0 x1 x2 x3 x4 := by
  unfold out0_A_5
  rw [View.read_writes_eq_canon _ _ _ (fun _ => cover0_A_5 ..)]
  refine (View.canon_unit_zero whole_z _ _).trans ?_
  refine Eq.trans (b := vD (lx (rd harg1 x0)) (lc (rd harg2 x1)) (lr (rd harg3 x2)) (lr (rd harg4 x3)) (lw (rd harg5 x4))) rfl ?_
  simp only [Memref.IsWhole.read_unread, lx_eq, lc_eq, lr_eq, lw_eq]

theorem outA_6 (hc : cond0_0 i) :
    out0_A_6 c i arg1 harg1 arg2 harg2 arg3 harg3 arg4 harg4 arg5 harg5 arg6 harg6 arg7 harg7 arg8 harg8 hc x0 x1 x2 x3 x4
      = k0_pay3 (vG x0 x1 x2 x3 x4) k0_pay1 := by
  unfold out0_A_6
  rw [View.read_writes_eq_canon _ _ _ (fun _ => cover0_A_6 ..)]
  refine (View.canon_cons_unit_zero whole_z _ _ _).trans ?_
  refine Eq.trans (b := k0_pay3 (vG (lx (rd harg1 x0)) (lc (rd harg2 x1)) (lr (rd harg3 x2)) (lr (rd harg4 x3)) (lw (rd harg5 x4)))
    (arg7.view.readCov [(⟨Rect.unit (s := S1x1024) ![0, 0] S1x1024.size inb_S1x1024_S1x1024_0_0, k0_pay1⟩ : View.Piece (Elt F) S1x1024 .f32)]
      (Rect.unit (s := S1x1024) ![0, 0] S1x1024.size inb_S1x1024_S1x1024_0_0).toLoadRect)) rfl ?_
  simp only [Memref.IsWhole.read_unread, lx_eq, lc_eq, lr_eq, lw_eq]
  rw [View.readCov_unit_zero _ whole_z]

theorem outA_7 (hc : cond0_0 i) :
    out0_A_7 c i arg1 harg1 arg2 harg2 arg3 harg3 arg4 harg4 arg5 harg5 arg6 harg6 arg7 harg7 arg8 harg8 hc x0 x1 x2 x3 x4
      = k0_pay4 (vB x0 x1 x2 x3 x4) k0_pay2 := by
  unfold out0_A_7
  rw [View.read_writes_eq_canon _ _ _ (fun _ => cover0_A_7 ..)]
  refine (View.canon_cons_unit_zero whole_z _ _ _).trans ?_
  refine Eq.trans (b := k0_pay4 (vB (lx (rd harg1 x0)) (lc (rd harg2 x1)) (lr (rd harg3 x2)) (lr (rd harg4 x3)) (lw (rd harg5 x4)))
    (arg8.view.readCov [(⟨Rect.unit (s := S1x1024) ![0, 0] S1x1024.size inb_S1x1024_S1x1024_0_0, k0_pay2⟩ : View.Piece (Elt F) S1x1024 .f32)]
      (Rect.unit (s := S1x1024) ![0, 0] S1x1024.size inb_S1x1024_S1x1024_0_0).toLoadRect)) rfl ?_
  simp only [Memref.IsWhole.read_unread, lx_eq, lc_eq, lr_eq, lw_eq]
  rw [View.readCov_unit_zero _ whole_z]

variable (hc : ¬cond0_0 i) (y6 y7 : Vec F S1x1024 .f32)

theorem outB_5 :
    out0_B_5 c i arg1 harg1 arg2 harg2 arg3 harg3 arg4 harg4 arg5 harg5 arg6 harg6 arg7 harg7 arg8 harg8 hc x0 x1 x2 x3 x4 y6 y7 = vD x0 x1 x2 x3 x4 := by
  unfold out0_B_5
  rw [View.read_writes_eq_canon _ _ _ (fun _ => cover0_B_5 ..)]
  refine (View.canon_unit_zero whole_z _ _).trans ?_
  refine Eq.trans (b := vD (lx (rd harg1 x0)) (lc (rd harg2 x1)) (lr (rd harg3 x2)) (lr (rd harg4 x3)) (lw (rd harg5 x4))) rfl ?_
  simp only [Memref.IsWhole.read_unread, lx_eq, lc_eq, lr_eq, lw_eq]

theorem outB_6 :
    out0_B_6 c i arg1 harg1 arg2 harg2 arg3 harg3 arg4 harg4 arg5 harg5 arg6 harg6 arg7 harg7 arg8 harg8 hc x0 x1 x2 x3 x4 y6 y7
      = k0_pay3 (vG x0 x1 x2 x3 x4) y6 := by
  unfold out0_B_6
  rw [View.read_writes_eq_canon _ _ _ (fun _ => cover0_B_6 ..)]
  refine (View.canon_unit_zero whole_z _ _).trans ?_
  refine Eq.trans (b := k0_pay3 (vG (lx (rd harg1 x0)) (lc (rd harg2 x1)) (lr (rd harg3 x2)) (lr (rd harg4 x3)) (lw (rd harg5 x4))) (lr (rd harg7 y6))) rfl ?_
  simp only [Memref.IsWhole.read_unread, lx_eq, lc_eq, lr_eq, lw_eq]

theorem outB_7 :
    out0_B_7 c i arg1 harg1 arg2 harg2 arg3 harg3 arg4 harg4 arg5 harg5 arg6 harg6 arg7 harg7 arg8 harg8 hc x0 x1 x2 x3 x4 y6 y7
      = k0_pay4 (vB x0 x1 x2 x3 x4) y7 := by
  unfold out0_B_7
  rw [View.read_writes_eq_canon _ _ _ (fun _ => cover0_B_7 ..)]
  refine (View.canon_unit_zero whole_z _ _).trans ?_
  refine Eq.trans (b := k0_pay4 (vB (lx (rd harg1 x0)) (lc (rd harg2 x1)) (lr (rd harg3 x2)) (lr (rd harg4 x3)) (lw (rd harg5 x4))) (lr (rd harg8 y7))) rfl ?_
  simp only [Memref.IsWhole.read_unread, lx_eq, lc_eq, lr_eq, lw_eq]
end terms

/-! What the terms hold at a place. -/

variable (x0 : Vec Ideal S256x1024 .f32) (x1 : Vec Ideal S256x1024 .bf16) (x2 x3 : Vec Ideal S1x1024 .f32) (x4 : Vec Ideal S1024x1024 .bf16)

theorem row_pay5 (i : Fin 256) : Mlp.row (k0_pay5 x1 x4) i = ds (Mlp.row x1 i) (fun d f => x4 (ix2 d f)) := by
  funext d
  show k0_pay5 x1 x4 (ix2 i d) = _
  pointwise [k0_pay5]
  rfl
theorem row_pay6 (i : Fin 256) : Mlp.row (k0_pay6 x0) i = SiluOut.cen (Mlp.row x0 i) := by
  funext d
  show k0_pay6 x0 (ix2 i d) = _
  pointwise [k0_pay6]
  rfl
theorem pay7_apply (i : Fin 256) : k0_pay7 x0 (ix2 i (0 : Fin 1)) = Mlp.ms (SiluOut.cen (Mlp.row x0 i)) := by
  rw [← row_pay6]
  unfold k0_pay7
  generalize k0_pay6 x0 = z
  pointwise
  rfl
theorem pay8_apply (i : Fin 256) : k0_pay8 x0 (ix2 i (0 : Fin 1)) = Mlp.rs (SiluOut.cen (Mlp.row x0 i)) := by
  unfold k0_pay8 Mlp.rs
  rw [← pay7_apply]
  generalize k0_pay7 x0 = z
  pointwise
theorem pay9_apply (i : Fin 256) : k0_pay9 x0 (ix2 i (0 : Fin 1))
    = Mlp.cH * Ideal.div (Mlp.rs (SiluOut.cen (Mlp.row x0 i))) (Mlp.ms (SiluOut.cen (Mlp.row x0 i))) := by
  unfold k0_pay9
  rw [← pay7_apply, ← pay8_apply]
  generalize k0_pay7 x0 = z
  generalize k0_pay8 x0 = r
  pointwise
  rfl
theorem pay10_apply (i : Fin 256) (d : Fin 1024) : k0_pay10 x0 (ix2 i d) = Mlp.q (SiluOut.cen (Mlp.row x0 i)) d := by
  unfold Mlp.q k0_pay10
  rw [← pay8_apply, ← row_pay6]
  generalize k0_pay6 x0 = z
  generalize k0_pay8 x0 = r
  pointwise
  rfl
theorem row_pay11 (i : Fin 256) : Mlp.row (k0_pay11 x0 x2 x3) i = SiluOut.ln (Mlp.row x0 i) (Mlp.row x2 0) (Mlp.row x3 0) := by
  funext d
  unfold SiluOut.ln Mlp.nr
  rw [← pay10_apply]
  show k0_pay11 x0 x2 x3 (ix2 i d) = _
  unfold k0_pay11
  generalize k0_pay10 x0 = q
  pointwise
  rfl

/-- The normed rows' cotangents, of the blocks. -/
abbrev pY : FVec Ideal S256x1024 .f32 :=
  k0_pay15 (k0_pay5 x1 x4) (k0_pay11 x0 x2 x3) (k0_pay12 x0 x2 x3) (k0_pay13 x0 x2 x3) k0_pay14
abbrev bY (i : Fin 256) : Row := cy (Mlp.row x0 i) (Mlp.row x2 0) (Mlp.row x3 0) (Mlp.row x1 i) (fun d f => x4 (ix2 d f))

theorem row_pay15 (i : Fin 256) : Mlp.row (pY x0 x1 x2 x3 x4) i = bY x0 x1 x2 x3 x4 i := by
  funext d
  unfold bY cy
  rw [← row_pay5, ← row_pay11]
  unfold dy
  rw [← Glu.slope, ← Glu.gate]
  show k0_pay15 (k0_pay5 x1 x4) (k0_pay11 x0 x2 x3) (k0_pay12 x0 x2 x3) (k0_pay13 x0 x2 x3) k0_pay14 (ix2 i d) = _
  unfold k0_pay15 k0_pay13 k0_pay12 k0_pay14
  generalize k0_pay11 x0 x2 x3 = y
  generalize k0_pay5 x1 x4 = s
  pointwise
  rfl

theorem vB_apply (d : Fin 1024) : vB x0 x1 x2 x3 x4 (ix2 (0 : Fin 1) d) = ∑ i, bY x0 x1 x2 x3 x4 i d := by
  simp only [← row_pay15]
  unfold vB k0_pay16 pY
  generalize k0_pay15 (F := Ideal) _ _ _ _ _ = y
  pointwise
  rfl
theorem vG_apply (d : Fin 1024) :
    vG x0 x1 x2 x3 x4 (ix2 (0 : Fin 1) d) = ∑ i, Mlp.q (SiluOut.cen (Mlp.row x0 i)) d * bY x0 x1 x2 x3 x4 i d := by
  simp only [← row_pay15, ← pay10_apply]
  unfold vG k0_pay17 pY
  generalize k0_pay15 (F := Ideal) _ _ _ _ _ = y
  generalize k0_pay10 x0 = q
  pointwise
  rfl
theorem pay18_apply (v5 v11 v28 v31 v36 v37 : FVec Ideal S256x1024 .f32) (v19 v22 : FVec Ideal S256x1 .f32) (i : Fin 256) (d : Fin 1024) :
    k0_pay18 x2 v5 v11 v19 v22 v28 v31 v36 v37 (ix2 i d)
      = dz (back (Mlp.row v11 i) (fun d => Mlp.row (k0_pay15 v5 v28 v31 v36 v37) i d * Mlp.row x2 0 d) (v19 (ix2 i 0)) (v22 (ix2 i 0))) d := by
  unfold k0_pay18
  generalize k0_pay15 v5 v28 v31 v36 v37 = y
  pointwise
  simp only [Fin.sum_univ_one]
  rfl
theorem vD_apply (i : Fin 256) (d : Fin 1024) :
    vD x0 x1 x2 x3 x4 (ix2 i d) = dx (Mlp.row x0 i) (Mlp.row x2 0) (bY x0 x1 x2 x3 x4 i) d := by
  unfold vD
  rw [pay18_apply, pay8_apply, pay9_apply, row_pay6, row_pay15]
  rfl

/-! The accumulators' steps. -/

theorem pay3_apply (s y : FVec Ideal S1x1024 .f32) (k : S1x1024.Idx) : k0_pay3 s y k = y k + s k := by
  unfold k0_pay3
  rw [shapeCast_id]
  rfl
theorem pay4_apply (s y : FVec Ideal S1x1024 .f32) (k : S1x1024.Idx) : k0_pay4 s y k = y k + s k := pay3_apply s y k
theorem pay1_apply (k : S1x1024.Idx) : k0_pay1 (F := Ideal) k = (0 : EReal) := by
  show Ideal.ofBits .f32 0x00000000#32 = 0
  pointwise
theorem pay2_apply (k : S1x1024.Idx) : k0_pay2 (F := Ideal) k = (0 : EReal) := pay1_apply k

end Cert.SiluBwd

end
-- ==== Proof.SiluBwd.lean ====
/- The Conformer's second projection, backward: the arrays its kernel leaves, row by row, of the arrays it is given. -/
module

public import proofs.«01_k».proof.Proof.SiluBwdOut
public import proofs.«01_k».proof.Proof.Gen.Kernel11Ideal.Value
public import Idealize.ShloMosaic.Lib.Pipeline.Value

@[expose] public section

set_option maxRecDepth 16384

noncomputable section

namespace Cert.SiluBwd

open Cert.Kernel11Ideal Cert.Kernel11Ideal.Gen Idealize.ShloMosaic Idealize.ShloMosaic.TcCoe
open Cert.MlpFwd (at2 arr_at blk_row blk_col)

theorem N0 : cfg0.N = 8 := by decide
/-- The grid point of a block of rows. -/
def pt (t : Fin 8) : Fin cfg0.N := ⟨t.val, by rw [N0]; exact t.isLt⟩

variable (m : (ℓ : Loc nD τ sig) → Buf (Elt Ideal) ℓ) (c : Dev nD)

/-- The arrays the program is given. -/
abbrev gX : FVec Ideal S2048x1024 .f32 := m ((c : Thread nD τ).loc main_arg0)
abbrev gG : FVec Ideal S1x1024 .f32 := m ((c : Thread nD τ).loc main_arg1)
abbrev gB : FVec Ideal S1x1024 .f32 := m ((c : Thread nD τ).loc main_arg2)
abbrev gW : FVec Ideal S1024x1024 .bf16 := m ((c : Thread nD τ).loc main_arg3)
abbrev gC : FVec Ideal S2048x1024 .bf16 := m ((c : Thread nD τ).loc main_arg4)

/-! Where each point's blocks lie. -/

theorem at_r : ∀ t : Fin grid0.N, (win0_0.index t (0 : Fin 2) = t.val ∧ win0_0.index t (1 : Fin 2) = 0)
    ∧ (win0_1.index t (0 : Fin 2) = t.val ∧ win0_1.index t (1 : Fin 2) = 0)
    ∧ win0_5.index t (0 : Fin 2) = t.val ∧ win0_5.index t (1 : Fin 2) = 0 ∧ win0_5.flush t = true := by decide +kernel
theorem at_p : ∀ t : Fin grid0.N, ∀ a : Fin 2, win0_2.index t a = 0 ∧ win0_3.index t a = 0 ∧ win0_4.index t a = 0 := by decide +kernel

theorem rowX (t : Fin 8) (i : Fin 256) : Mlp.row (iblk m c 0 (pt t) : Vec Ideal S256x1024 .f32) i = Mlp.row (gX m c) (Mlp.rof t i) :=
  funext fun _ => at2 (gX m c) _ _ _ (blk_row (at_r (pt t)).1.1) (blk_col (at_r (pt t)).1.2)
theorem rowC (t : Fin 8) (i : Fin 256) : Mlp.row (iblk m c 1 (pt t) : Vec Ideal S256x1024 .bf16) i = Mlp.row (gC m c) (Mlp.rof t i) :=
  funext fun _ => at2 (gC m c) _ _ _ (blk_row (at_r (pt t)).2.1.1) (blk_col (at_r (pt t)).2.1.2)
theorem rowG (t : Fin 8) : Mlp.row (iblk m c 2 (pt t) : Vec Ideal S1x1024 .f32) = Mlp.row (gG m c) :=
  funext fun _ => funext fun _ => at2 (gG m c) _ _ _ (blk_col (at_p (pt t) 0).1) (blk_col (at_p (pt t) 1).1)
theorem rowB (t : Fin 8) : Mlp.row (iblk m c 3 (pt t) : Vec Ideal S1x1024 .f32) = Mlp.row (gB m c) :=
  funext fun _ => funext fun _ => at2 (gB m c) _ _ _ (blk_col (at_p (pt t) 0).2.1) (blk_col (at_p (pt t) 1).2.1)
theorem rowW (t : Fin 8) : (fun d f => (iblk m c 4 (pt t) : Vec Ideal S1024x1024 .bf16) (ix2 d f)) = fun d f => gW m c (ix2 d f) :=
  funext fun _ => funext fun _ => at2 (gW m c) _ _ _ (blk_col (at_p (pt t) 0).2.2) (blk_col (at_p (pt t) 1).2.2)

/-- The normed row's cotangent. -/
def yrow (i : Fin 2048) : Mlp.Row :=
  cy (Mlp.row (gX m c) i) (Mlp.row (gG m c) 0) (Mlp.row (gB m c) 0) (Mlp.row (gC m c) i) (fun d f => gW m c (ix2 d f))
theorem bY_blk (t : Fin 8) (i : Fin 256) :
    bY (iblk m c 0 (pt t)) (iblk m c 1 (pt t)) (iblk m c 2 (pt t)) (iblk m c 3 (pt t)) (iblk m c 4 (pt t)) i = yrow m c (Mlp.rof t i) := by
  unfold bY yrow
  rw [rowX, rowC, rowG, rowB, rowW]

/-! The rows' cotangents, the same in both cases of the body. -/

theorem left5 (t : Fin cfg0.N) : (outsAt0 m c t.val t.isLt).1
    = vD (iblk m c 0 t) (iblk m c 1 t) (iblk m c 2 t) (iblk m c 3 t) (iblk m c 4 t) := by
  by_cases h : t.val % 8 = 0
  · rw [outsAt0_A m c t h]; dsimp only; rw [outA_5]
  · rw [outsAt0_B m c t h]; dsimp only; rw [outB_5]
theorem arr5 (i : Fin 2048) (d : Fin 1024) :
    ((dats m 0 c).arrAt 5 cfg0.N : FVec Ideal S2048x1024 .f32) (ix2 i d) = dx (Mlp.row (gX m c) i) (Mlp.row (gG m c) 0) (yrow m c i) d := by
  obtain ⟨t, k, rfl⟩ : ∃ t k, i = Mlp.rof t k := ⟨_, _, (Mlp.rof_rt_ri i).symm⟩
  have e := arr_at (dats m 0 c) 5 rfl (fun t => (at_r t).2.2.2.2)
    (fun t t' h => Fin.ext ((at_r t).2.2.1.symm.trans ((congrFun h (0 : Fin 2)).trans (at_r t').2.2.1))) (pt t) (ix2 k d : S256x1024.Idx)
  refine Eq.trans (at2 ((dats m 0 c).arrAt 5 cfg0.N : FVec Ideal S2048x1024 .f32) _ _ _ (blk_row (at_r (pt t)).2.2.1)
    (blk_col (at_r (pt t)).2.2.2.1)).symm (e.trans ?_)
  refine (congrFun ((after0_5 m c (pt t)).trans (left5 m c (pt t))) _).trans ((vD_apply _ _ _ _ _ k d).trans ?_)
  rw [bY_blk, rowX, rowG]

/-! The sums over all rows. -/

/-- What a block of sums holds after the last point, where the first sets it and each other adds to it. -/
theorem last (f : (n : ℕ) → n < cfg0.N → S1x1024.Idx → EReal) (s : Fin cfg0.N → S1x1024.Idx → EReal)
    (h0 : ∀ t : Fin cfg0.N, t.val % 8 = 0 → ∀ y, f t.val t.isLt y = 0 + s t y)
    (h1 : ∀ t : Fin cfg0.N, ¬t.val % 8 = 0 → ∀ y,
      f t.val t.isLt y = f (t.val - 1) (Nat.lt_of_le_of_lt (Nat.sub_le _ _) t.isLt) y + s t y) (y : S1x1024.Idx) :
    f (pt 7).val (pt 7).isLt y = ∑ t : Fin 8, s (pt t) y := by
  have e := Pipeline.eq_sum_of_reset_step_apply_single_of_mod (N := cfg0.N) (M := EReal) (ι := S1x1024.Idx)
    f 8 (fun _ => 0) (fun n y => if h : n < cfg0.N then s ⟨n, h⟩ y else 0)
    (fun t h y => by rw [h0 t h y, dif_pos t.isLt]) (fun t h y => by rw [h1 t h y, dif_pos t.isLt])
    (by rw [N0]) (pt 7) (r := 7) rfl y
  refine e.trans ?_
  rw [zero_add, Finset.sum_range]
  exact Finset.sum_congr rfl fun t _ => dif_pos (pt t).isLt

theorem whole6 : (cfg0.win 6).WholeAt (pt 7) := by decide +kernel
theorem arr6 (d : Fin 1024) : ((dats m 0 c).arrAt 6 cfg0.N : FVec Ideal S1x1024 .f32) (ix2 (0 : Fin 1) d)
    = ∑ i, Mlp.q (SiluOut.cen (Mlp.row (gX m c) i)) d * yrow m c i d := by
  refine Eq.trans ((dats m 0 c).arrAt_emb_eq_after_last 6 (pt 7) whole6 (ix2 (0 : Fin 1) d)) ?_
  refine (congrFun (after0_6 m c (pt 7)) _).trans ?_
  refine (last (fun n h => (outsAt0 m c n h).2.1) (fun t => vG (iblk m c 0 t) (iblk m c 1 t) (iblk m c 2 t) (iblk m c 3 t) (iblk m c 4 t))
    (fun t h y => by rw [outsAt0_A m c t h]; dsimp only; rw [outA_6, pay3_apply, pay1_apply])
    (fun t h y => by rw [outsAt0_B m c t h]; dsimp only; rw [outB_6, pay3_apply]) _).trans ?_
  rw [Mlp.sum_rof]
  refine Finset.sum_congr (M := EReal) rfl fun t _ => (vG_apply _ _ _ _ _ d).trans ?_
  exact Finset.sum_congr rfl fun i _ => by rw [bY_blk, rowX]
theorem whole7 : (cfg0.win 7).WholeAt (pt 7) := by decide +kernel
theorem arr7 (d : Fin 1024) : ((dats m 0 c).arrAt 7 cfg0.N : FVec Ideal S1x1024 .f32) (ix2 (0 : Fin 1) d) = ∑ i, yrow m c i d := by
  refine Eq.trans ((dats m 0 c).arrAt_emb_eq_after_last 7 (pt 7) whole7 (ix2 (0 : Fin 1) d)) ?_
  refine (congrFun (after0_7 m c (pt 7)) _).trans ?_
  refine (last (fun n h => (outsAt0 m c n h).2.2) (fun t => vB (iblk m c 0 t) (iblk m c 1 t) (iblk m c 2 t) (iblk m c 3 t) (iblk m c 4 t))
    (fun t h y => by rw [outsAt0_A m c t h]; dsimp only; rw [outA_7, pay4_apply, pay2_apply])
    (fun t h y => by rw [outsAt0_B m c t h]; dsimp only; rw [outB_7, pay4_apply]) _).trans ?_
  rw [Mlp.sum_rof]
  refine Finset.sum_congr (M := EReal) rfl fun t _ => (vB_apply _ _ _ _ _ d).trans ?_
  exact Finset.sum_congr rfl fun i _ => by rw [bY_blk]

end Cert.SiluBwd

end
-- ==== Proof.SiluBwdRef.lean ====
/- The Conformer's second projection, backward: the reference's lines, each read at a place, and its results of them. -/
module

public import proofs.«01_k».proof.Proof.SiluRef
public import proofs.«01_k».proof.Proof.SiluBwdOut
public import proofs.«01_k».proof.Proof.Gen.Reference11Ideal.Run

@[expose] public section

set_option maxRecDepth 16384

noncomputable section

namespace Cert.SiluBwdRef

open Cert.Reference11Ideal Cert.Reference11Ideal.Gen Idealize.ShloMosaic Idealize.ShloMosaic.TcCoe Idealize.ShloMosaic.Tactic
open Cert.MlpRef (Feat Par across along under col down)
open Cert.SiluRef (lC lL)

def lDs (ct : FVec Ideal S2048x1024 .bf16) (w : FVec Ideal S1024x1024 .bf16) : Feat :=
  Host.dotGeneral dot_S2048x1024_S1024x1024_S2048x1024_1_1_0_0_n_n none (extf .f32 ct bitsLt_bf16_f32) (extf .f32 w bitsLt_bf16_f32)
def lDy (y s : Feat) : Feat := addf (mulf s (GluRef.lSg y)) (GluRef.lDb y (GluRef.lSg y) s)
def two : Feat := broadcastInDim S2048x1024 ![] bcast_S_S2048x1024 (constant S_ .f32 0x40000000#32)
def lG (x e : Feat) : Feat := addf (mulf e (across (MlpRef.lRs x))) (mulf (MlpRef.lK x e) (mulf two x))
def lZ (g : Feat) : Feat :=
  addf g (broadcastInDim S2048x1024 ![0] bcast_S2048_S2048x1024_0 (Host.reduceAdd
    (Host.divf (shapeCast _ (along (Host.negf g)) shapeCasts_S2048_S2048x1) (col 0x44800000#32))
    (constant S_ .f32 0x00000000#32) reducesTo_S2048x1_S2048_d1 h_S_))

theorem lDs_at (ct : FVec Ideal S2048x1024 .bf16) (w : FVec Ideal S1024x1024 .bf16) (i : Fin 2048) (d : Fin 1024) :
    lDs ct w (ix2 i d) = SiluBwd.ds (Mlp.row ct i) (fun d f => w (ix2 d f)) d := by
  rw [lDs]
  pointwise
  rfl
theorem lDy_at (y s : Feat) (i : Fin 2048) (d : Fin 1024) : lDy y s (ix2 i d) = SiluBwd.dy (Mlp.row y i) (Mlp.row s i) d := by
  rw [lDy]
  pointwise
  rw [GluRef.lDb_at, GluRef.lSg_at]
  rfl
/-- Twice the row in one product is the row in two. -/
theorem twice (k y : EReal) : k * (Mlp.c2 * y) = y * k + k * y := by
  rw [mul_left_comm, mul_comm y k, show Mlp.c2 = ((2 : ℝ) : EReal) from by simp [Mlp.c2, Ideal.ofBits, Ideal.ieee, -EReal.coe_mul]; norm_num]
  generalize k * y = z
  induction z with
  | bot => rw [EReal.coe_mul_bot_of_pos (by norm_num)]; rfl
  | top => rw [EReal.coe_mul_top_of_pos (by norm_num)]; rfl
  | coe r => rw [← EReal.coe_mul, ← EReal.coe_add, two_mul]
theorem lG_at (x e : Feat) (i : Fin 2048) (d : Fin 1024) : lG x e (ix2 i d) = Pre.nb (Mlp.row x i) (Mlp.row e i) d := by
  rw [lG]
  generalize hk : MlpRef.lK x e = k
  generalize hr : MlpRef.lRs x = r
  pointwise [across, two]
  subst hk hr
  rw [MlpRef.lK_at, MlpRef.lRs_at]
  unfold Pre.nb
  rw [add_assoc]
  exact congrArg (e (ix2 i d) * Mlp.rs (Mlp.row x i) + ·) (twice _ _)
theorem lZ_at (g : Feat) (i : Fin 2048) (d : Fin 1024) : lZ g (ix2 i d) = SiluBwd.dz (Mlp.row g i) d := by
  rw [lZ]
  pointwise [along, col]
  simp only [Fin.sum_univ_one]
  unfold SiluBwd.dz
  simp only [zero_sub]
  rfl

variable (m : (ℓ : Loc nD τ sig) → Buf (Elt Ideal) ℓ) (c : Dev nD)

/-- The arrays the program is given. -/
abbrev gX : Feat := m ((c : Thread nD τ).loc main_arg0)
abbrev gG : Par := m ((c : Thread nD τ).loc main_arg1)
abbrev gB : Par := m ((c : Thread nD τ).loc main_arg2)
abbrev gW : FVec Ideal S1024x1024 .bf16 := m ((c : Thread nD τ).loc main_arg3)
abbrev gC : FVec Ideal S2048x1024 .bf16 := m ((c : Thread nD τ).loc main_arg4)
/-- The normed rows' cotangents. -/
def rY : Feat := lDy (lL (gX m c) (gG m c) (gB m c)) (lDs (gC m c) (gW m c))

theorem res0 : Value.res_main_v57 m c = lZ (lG (lC (gX m c)) (mulf (rY m c) (under (gG m c)))) := rfl
theorem res1 : Value.res_main_v35 m c = down (mulf (MlpRef.lQ (lC (gX m c))) (rY m c)) := rfl
theorem res2 : Value.res_main_v32 m c = down (rY m c) := rfl

/-- One row of the normed rows' cotangents. -/
abbrev yrow (i : Fin 2048) : Mlp.Row :=
  SiluBwd.cy (Mlp.row (gX m c) i) (Mlp.row (gG m c) 0) (Mlp.row (gB m c) 0) (Mlp.row (gC m c) i) (fun d f => gW m c (ix2 d f))

theorem row_C (x : Feat) (i : Fin 2048) : Mlp.row (lC x) i = SiluOut.cen (Mlp.row x i) := funext fun d => SiluRef.lC_at x i d
theorem row_Y (i : Fin 2048) : Mlp.row (rY m c) i = yrow m c i := by
  funext d
  refine (lDy_at _ _ i d).trans ?_
  rw [show Mlp.row (lL (gX m c) (gG m c) (gB m c)) i = _ from funext fun d => SiluRef.lL_at _ _ _ i d,
    show Mlp.row (lDs (gC m c) (gW m c)) i = _ from funext fun d => lDs_at _ _ i d]
  rfl
theorem out0_at (i : Fin 2048) (d : Fin 1024) :
    (Value.res_main_v57 m c : Feat) (ix2 i d) = SiluBwd.dx (Mlp.row (gX m c) i) (Mlp.row (gG m c) 0) (yrow m c i) d := by
  rw [res0, lZ_at]
  refine congrArg (fun g => SiluBwd.dz g d) (funext fun d => (lG_at _ _ i d).trans ?_)
  rw [row_C]
  refine congrArg (fun e => Pre.nb (SiluOut.cen (Mlp.row (gX m c) i)) e d) (funext fun d => ?_)
  rw [← row_Y, ← MlpRef.under_at _ i]
  rfl
theorem out1_at (d : Fin 1024) :
    (Value.res_main_v35 m c : Par) (ix2 0 d) = ∑ i, Mlp.q (SiluOut.cen (Mlp.row (gX m c) i)) d * yrow m c i d := by
  rw [res1, MlpRef.down_at]
  refine Finset.sum_congr (M := EReal) rfl fun i _ => ?_
  rw [← row_Y, ← row_C, ← MlpRef.lQ_at]
  rfl
theorem out2_at (d : Fin 1024) : (Value.res_main_v32 m c : Par) (ix2 0 d) = ∑ i, yrow m c i d := by
  rw [res2, MlpRef.down_at]
  exact Finset.sum_congr (M := EReal) rfl fun i _ => congrFun (row_Y m c i) d

end Cert.SiluBwdRef

end
-- ==== Proof.SiluBwdClaim.lean ====
/- The Conformer's second projection, backward: the kernel and the reference leave the same arrays, and the frame of the reference. -/
module

public import proofs.«01_k».proof.Defs
public import proofs.«01_k».proof.Proof.SiluBwd
public import proofs.«01_k».proof.Proof.SiluBwdRef
public import proofs.«01_k».proof.Proof.MlpClaim

@[expose] public section

set_option maxRecDepth 16384

noncomputable section

namespace Cert.SiluBwdClaim

open Idealize.ShloMosaic Idealize.ShloMosaic.TcCoe Idealize.SL.Sem
open Cert.Kernel11Ideal (cfg0)
open Cert.Kernel11Ideal.Gen (dats)
open Cert.MlpClaim (by_row by_col)

theorem frame_ref : Cert.quiescent_Reference11Ideal := fun m g _ =>
  (θ_run _ _ _).mono (fun r h => ⟨fun c => (h c).2.2.2, sem_eq_zero_of_no_sems (by decide) r.2⟩) (Cert.Reference11Ideal.Value.run m g)

theorem value : Cert.algebraic_Kernel11Ideal_Reference11Ideal := by
  intro m g m' g' _ hm
  refine ⟨fun c => (dats m 0 c).arrAt 5 cfg0.N, fun c => (dats m 0 c).arrAt 6 cfg0.N, fun c => (dats m 0 c).arrAt 7 cfg0.N,
    Cert.Kernel11Ideal.Value.run_blocks m g, ?_⟩
  refine (θ_run _ _ _).mono (fun r h c => ?_) (Cert.Reference11Ideal.Value.run m' g')
  obtain ⟨r0, r1, r2, rest⟩ := h c
  obtain ⟨h0, h1, h2, h3, h4⟩ := hm c
  have ex : SiluBwdRef.gX m' c = SiluBwd.gX m c := h0
  have eg : SiluBwdRef.gG m' c = SiluBwd.gG m c := h1
  have ey : SiluBwdRef.yrow m' c = SiluBwd.yrow m c := by
    funext i
    unfold SiluBwdRef.yrow SiluBwd.yrow
    rw [ex, eg, show SiluBwdRef.gB m' c = SiluBwd.gB m c from h2, show SiluBwdRef.gW m' c = SiluBwd.gW m c from h3,
      show SiluBwdRef.gC m' c = SiluBwd.gC m c from h4]
  refine ⟨r0.trans (by_row fun i d => ?_), r1.trans (by_col fun d => ?_), r2.trans (by_col fun d => ?_), rest⟩
  · exact (SiluBwdRef.out0_at m' c i d).trans (Eq.trans (by rw [ex, eg, ey]) (SiluBwd.arr5 m c i d).symm)
  · exact (SiluBwdRef.out1_at m' c d).trans (Eq.trans (by rw [ex, ey]) (SiluBwd.arr6 m c d).symm)
  · exact (SiluBwdRef.out2_at m' c d).trans (Eq.trans (by rw [ey]) (SiluBwd.arr7 m c d).symm)

end Cert.SiluBwdClaim

end
-- ==== Proof.GatesOut.lean ====
/- The gates' products, backward: the arrays the two kernels leave, of the arrays they find, and the results of the program of the arrays it is given. -/
module

public import proofs.«01_k».proof.Proof.MlpBwdOut
public import proofs.«01_k».proof.Proof.MlpFwdArr
public import proofs.«01_k».proof.Proof.Gen.Kernel10Ideal.Frame
public import Idealize.ShloMosaic.Lib.Pipeline.Value

@[expose] public section

set_option maxRecDepth 16384

noncomputable section

namespace Cert.GatesOut

open Cert.Kernel10Ideal Cert.Kernel10Ideal.Gen Idealize.ShloMosaic Idealize.ShloMosaic.TcCoe
open Idealize.ShloMosaic.Pipeline (Dat)
open Cert.MlpFwd (at2)
open Cert.MlpBwd (whole_z)

/-! The payloads. -/

theorem dx_apply (v : Vec Ideal S768x2560 .bf16) (w : Vec Ideal S640x2560 .bf16) (i : Fin 768) (l : Fin 640) :
    out0_2 v w (ix2 i l) = ∑ f : Fin 2560, v (ix2 i f) * w (ix2 l f) := by
  unfold out0_2
  rw [View.canon_unit_zero whole_z]
  iterate 2 rw [View.ld_unit_zero whole_z]
  pointwise [k0_pay1]
theorem dw_apply (v w : Vec Ideal S2304x640 .bf16) (a l : Fin 640) : out1_2 v w (ix2 a l) = ∑ i : Fin 2304, v (ix2 i a) * w (ix2 i l) := by
  unfold out1_2
  rw [View.canon_unit_zero whole_z]
  iterate 2 rw [View.ld_unit_zero whole_z]
  pointwise [k1_pay1]

/-! Where the blocks lie. -/

/-- An index below `N = n * b`, of its block of `b` and its place there. -/
def bk {n b N : ℕ} (h : n * b = N) (j : Fin n) (k : Fin b) : Fin N :=
  ⟨j.val * b + k.val, by
    have := Nat.mul_le_mul_right b (Nat.succ_le_of_lt j.isLt)
    rw [Nat.succ_mul, h] at this
    omega⟩
theorem bk_all {n b N : ℕ} (h : n * b = N) (d : Fin N) : ∃ (j : Fin n) (k : Fin b), d = bk h j k := by
  have hd : d.val < b * n := by rw [Nat.mul_comm, h]; exact d.isLt
  have hb : 0 < b := Nat.pos_of_ne_zero fun e => by subst e; omega
  exact ⟨⟨d.val / b, Nat.div_lt_of_lt_mul hd⟩, ⟨d.val % b, Nat.mod_lt _ hb⟩, Fin.ext (Nat.div_add_mod' _ _).symm⟩
theorem blk {n j k b : ℕ} (h : n = j) : n * b + 1 * k = j * b + k := by rw [h, Nat.one_mul]
theorem blk0 {n k b : ℕ} (h : n = 0) : n * b + 1 * k = k := by rw [h, Nat.zero_mul, Nat.zero_add, Nat.one_mul]

/-- The columns of the cotangent that meet a column of the input. -/
def dc (d : Fin 1280) (f : Fin 2560) : Fin 5120 := ⟨d.val / 640 * 2560 + f.val, by omega⟩
/-- A column of the input within its half. -/
def lc (d : Fin 1280) : Fin 640 := ⟨d.val % 640, by omega⟩
/-- The column of the input that meets a column of the cotangent, of a row of the matrix. -/
def uc (e : Fin 5120) (a : Fin 640) : Fin 1280 := ⟨e.val / 2560 * 640 + a.val, by omega⟩

theorem N0 : cfg0.N = 6 := by decide
def tx (p : Fin 3) (q : Fin 2) : Fin cfg0.N := ⟨2 * p.val + q.val, by rw [N0]; omega⟩
theorem N1 : cfg1.N = 8 := by decide
def tw (j : Fin 8) : Fin cfg1.N := ⟨j.val, by rw [N1]; exact j.isLt⟩

theorem at_x : ∀ (p : Fin 3) (q : Fin 2), (win0_0.index (tx p q) (0 : Fin 2) = p.val ∧ win0_0.index (tx p q) (1 : Fin 2) = q.val)
    ∧ (win0_1.index (tx p q) (0 : Fin 2) = 0 ∧ win0_1.index (tx p q) (1 : Fin 2) = q.val)
    ∧ win0_2.index (tx p q) (0 : Fin 2) = p.val ∧ win0_2.index (tx p q) (1 : Fin 2) = q.val := by decide +kernel
theorem flush_x : ∀ t : Fin grid0.N, win0_2.flush t = true := by decide +kernel
theorem apart_x : ∀ t t' : Fin cfg0.N, win0_2.index t (0 : Fin 2) = win0_2.index t' (0 : Fin 2) → win0_2.index t (1 : Fin 2) = win0_2.index t' (1 : Fin 2) → t = t' :=
  (by decide +kernel : ∀ t t' : Fin grid0.N, win0_2.index t (0 : Fin 2) = win0_2.index t' (0 : Fin 2) → win0_2.index t (1 : Fin 2) = win0_2.index t' (1 : Fin 2) → t = t')
theorem at_w : ∀ j : Fin 8, (win1_0.index (tw j) (0 : Fin 2) = 0 ∧ win1_0.index (tw j) (1 : Fin 2) = j.val / 4)
    ∧ (win1_1.index (tw j) (0 : Fin 2) = 0 ∧ win1_1.index (tw j) (1 : Fin 2) = j.val)
    ∧ win1_2.index (tw j) (0 : Fin 2) = 0 ∧ win1_2.index (tw j) (1 : Fin 2) = j.val := by decide +kernel
theorem flush_w : ∀ t : Fin grid1.N, win1_2.flush t = true := by decide +kernel
theorem apart_w : ∀ t t' : Fin cfg1.N, win1_2.index t (1 : Fin 2) = win1_2.index t' (1 : Fin 2) → t = t' :=
  (by decide +kernel : ∀ t t' : Fin grid1.N, win1_2.index t (1 : Fin 2) = win1_2.index t' (1 : Fin 2) → t = t')

section regions
variable (V : (c : Dev nD) → (b : Ref sig .tc) → Buf (Elt Ideal) ((c : Thread nD τ).loc b)) (c : Dev nD)

/-- The arrays the regions find. -/
abbrev aU : FVec Ideal S2304x1280 .bf16 := V c main_arg0
abbrev aD : FVec Ideal S2304x5120 .bf16 := V c main_arg1
abbrev aW : FVec Ideal S640x5120 .bf16 := V c main_arg2

theorem arr_x (i : Fin 2304) (d : Fin 1280) :
    ((dat0 V c).arrAt 2 cfg0.N : FVec Ideal S2304x1280 .f32) (ix2 i d) = ∑ f, aD V c (ix2 i (dc d f)) * aW V c (ix2 (lc d) (dc d f)) := by
  obtain ⟨p, k, rfl⟩ := bk_all (n := 3) (b := 768) rfl i
  obtain ⟨q, l, rfl⟩ := bk_all (n := 2) (b := 640) rfl d
  have e := congrFun ((dat0 V c).read_blk_arrAt_eq_flushed 2
    (fun t t' _ _ hne => (cfg0.win 2).disjoint_blk (hk := rfl) fun h => hne
      (apart_x t t' (congrFun h (0 : Fin 2)) (congrFun h (1 : Fin 2)))) cfg0.N (tx p q) (tx p q).isLt (flush_x (tx p q)))
    (ix2 k l : S768x640.Idx)
  refine Eq.trans (at2 ((dat0 V c).arrAt 2 cfg0.N : FVec Ideal S2304x1280 .f32) _ _ _ (blk (at_x p q).2.2.1) (blk (at_x p q).2.2.2)).symm
    (e.trans ?_)
  refine (congrFun (after0_2 V c (tx p q)) _).trans ((dx_apply _ _ k l).trans ?_)
  have hq : (q.val * 640 + l.val) / 640 = q.val := by omega
  have hl : (q.val * 640 + l.val) % 640 = l.val := by omega
  refine Finset.sum_congr (M := EReal) rfl fun f _ => congrArg₂ (· * ·)
    (at2 (aD V c) _ _ _ (blk (at_x p q).1.1) ((blk (at_x p q).1.2).trans (congrArg (· * 2560 + f.val) hq.symm)))
    (at2 (aW V c) _ _ _ ((blk0 (at_x p q).2.1.1).trans hl.symm) ((blk (at_x p q).2.1.2).trans (congrArg (· * 2560 + f.val) hq.symm)))

theorem arr_w (a : Fin 640) (e : Fin 5120) :
    ((dat1 V c).arrAt 2 cfg1.N : FVec Ideal S640x5120 .f32) (ix2 a e) = ∑ i : Fin 2304, aU V c (ix2 i (uc e a)) * aD V c (ix2 i e) := by
  obtain ⟨j, l, rfl⟩ := bk_all (n := 8) (b := 640) rfl e
  have e := congrFun ((dat1 V c).read_blk_arrAt_eq_flushed 2
    (fun t t' _ _ hne => (cfg1.win 2).disjoint_blk (hk := rfl) fun h => hne (apart_w t t' (congrFun h (1 : Fin 2))))
    cfg1.N (tw j) (tw j).isLt (flush_w (tw j))) (ix2 a l : S640x640.Idx)
  refine Eq.trans (at2 ((dat1 V c).arrAt 2 cfg1.N : FVec Ideal S640x5120 .f32) _ _ _ (blk0 (at_w j).2.2.1) (blk (at_w j).2.2.2)).symm
    (e.trans ?_)
  refine (congrFun (after1_2 V c (tw j)) _).trans ((dw_apply _ _ a l).trans ?_)
  have hj : j.val / 4 = (j.val * 640 + l.val) / 2560 := by omega
  exact Finset.sum_congr (M := EReal) rfl fun i _ => congrArg₂ (· * ·)
    (at2 (aU V c) _ _ _ (blk0 (at_w j).1.1) ((blk (at_w j).1.2).trans (congrArg (· * 640 + a.val) hj)))
    (at2 (aD V c) _ _ _ (blk0 (at_w j).2.1.1) (blk (at_w j).2.1.2))
end regions

/-! What the program leaves, of what it is given. -/

variable (m : (ℓ : Loc nD τ sig) → Buf (Elt Ideal) ℓ) (ρ : Dev nD → PrngReg) (c : Dev nD)

/-- The arrays the program is given. -/
abbrev gU : FVec Ideal S2304x1280 .bf16 := m ((c : Thread nD τ).loc main_arg0)
abbrev gD : FVec Ideal S2304x5120 .bf16 := m ((c : Thread nD τ).loc main_arg1)
abbrev gW : FVec Ideal S640x5120 .bf16 := m ((c : Thread nD τ).loc main_arg2)

theorem out_x (i : Fin 2304) (d : Fin 1280) :
    (W2 m ρ c (Proc.devRef .tc main_v0) : FVec Ideal S2304x1280 .f32) (ix2 i d) = ∑ f, gD m c (ix2 i (dc d f)) * gW m c (ix2 (lc d) (dc d f)) :=
  (congrFun (W2_of m ρ c main_v0 (by decide +kernel)) _).trans ((congrFun (W1_arr m ρ c 2) _).trans (arr_x (V0 m ρ) c i d))
theorem in_u : aU (V1 m ρ) c = gU m c := W1_args m ρ c main_arg0 (by decide)
theorem in_d : aD (V1 m ρ) c = gD m c := W1_args m ρ c main_arg1 (by decide)
theorem out_w (a : Fin 640) (e : Fin 5120) :
    (W2 m ρ c (Proc.devRef .tc main_v1) : FVec Ideal S640x5120 .f32) (ix2 a e) = ∑ i : Fin 2304, gU m c (ix2 i (uc e a)) * gD m c (ix2 i e) := by
  refine (congrFun (W2_arr m ρ c 2) _).trans ((arr_w (V1 m ρ) c a e).trans ?_)
  rw [in_u, in_d]

end Cert.GatesOut

end
-- ==== Proof.GatesRun.lean ====
/- The run of the program of the gates' products, backward. -/
module

public import proofs.«01_k».proof.Proof.RunKit
public import proofs.«01_k».proof.Proof.Gen.Kernel10Ideal.Frame

@[expose] public section

set_option maxRecDepth 16384

noncomputable section

namespace Cert.GatesRun

open Cert.Kernel10Ideal Cert.Kernel10Ideal.Gen Idealize.ShloMosaic Idealize.ShloMosaic.TcCoe Idealize.SL.ProofMode Idealize.SL.Sem

variable {F : FTy → Type} [FloatOps F] (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r =>
    (∀ c : Dev nD, ∀ b ∈ Pipeline.ucRefs τ sig, r.2.mem ((c : Thread nD τ).1, b) = W2 m ρ c b) ∧ r.2.sem = fun _ => 0) :=
  RunKit.run pcfgs adm (pdats m ρ) cellOf_inj defs₀ m ρ main (segs m ρ) (main_run m ρ)
    (by simp only [segs, Pipeline.Seg.pipes_host, Pipeline.Seg.pipes_region, Pipeline.Seg.pipes_nil]; decide)
    (W2 m ρ) ⟨fun _ => .rfl, fun _ => .rfl, fun _ => .rfl⟩ no_unscoped

end Cert.GatesRun
-- ==== Proof.GatesClaim.lean ====
/- The gates' products, backward: the reference's lines at a place, the equation of the two programs, and the frame of the reference. -/
module

public import proofs.«01_k».proof.Defs
public import proofs.«01_k».proof.Proof.GatesOut
public import proofs.«01_k».proof.Proof.GatesRun
public import proofs.«01_k».proof.Proof.MlpClaim
public import proofs.«01_k».proof.Proof.Gen.Reference10Ideal.Run

@[expose] public section

set_option maxRecDepth 16384

noncomputable section

namespace Cert.GatesClaim

open Idealize.ShloMosaic Idealize.ShloMosaic.TcCoe Idealize.SL.Sem
open Cert.Kernel10Ideal.Gen (W2)
open Cert.MlpClaim (by_row)
open Cert.GatesOut

section lines
open Cert.Reference10Ideal Cert.Reference10Ideal.Gen
variable (u : FVec Ideal S2304x1280 .bf16) (y : FVec Ideal S2304x5120 .bf16) (w : FVec Ideal S640x5120 .bf16)

/-- The cotangent, half by half. -/
def lY : FVec Ideal S2x2560x2304 .f32 := transpose S2x2560x2304 [1, 2, 0]
  (shapeCast _ (extf .f32 y bitsLt_bf16_f32) shapeCasts_S2304x5120_S2304x2x2560) transposes_S2304x2x2560_S2x2560x2304_1_2_0
/-- The matrix, half by half. -/
def lM : FVec Ideal S2x640x2560 .f32 := transpose S2x640x2560 [1, 0, 2]
  (shapeCast _ (extf .f32 w bitsLt_bf16_f32) shapeCasts_S640x5120_S640x2x2560) transposes_S640x2x2560_S2x640x2560_1_0_2
def lX : FVec Ideal S2304x1280 .f32 := shapeCast _ (transpose S2304x2x640 [1, 0, 2]
  (Host.dotGeneral dot_S2x2560x2304_S2x640x2560_S2x2304x640_1_2_2_1_0_0 none (lY y) (lM w)) transposes_S2x2304x640_S2304x2x640_1_0_2)
  shapeCasts_S2304x2x640_S2304x1280
def lW : FVec Ideal S640x5120 .f32 := shapeCast _ (transpose S640x2x2560 [1, 0, 2] (transpose S2x640x2560 [0, 2, 1]
  (Host.dotGeneral dot_S2x2560x2304_S2304x2x640_S2x2560x640_2_0_1_2_0_1 none (lY y)
    (shapeCast _ (extf .f32 u bitsLt_bf16_f32) shapeCasts_S2304x1280_S2304x2x640)) transposes_S2x2560x640_S2x640x2560_0_2_1)
  transposes_S2x640x2560_S640x2x2560_1_0_2) shapeCasts_S640x2x2560_S640x5120

theorem lX_at (i : Fin 2304) (d : Fin 1280) : lX y w (ix2 i d) = ∑ f, y (ix2 i (dc d f)) * w (ix2 (lc d) (dc d f)) := by
  pointwise [lX, lY, lM]
  rfl
theorem lW_at (a : Fin 640) (e : Fin 5120) : lW u y (ix2 a e) = ∑ i : Fin 2304, u (ix2 i (uc e a)) * y (ix2 i e) := by
  pointwise [lW, lY]
  exact Finset.sum_congr (M := EReal) rfl fun i _ => mul_comm _ _
end lines

theorem frame_ref : Cert.quiescent_Reference10Ideal := fun m g _ =>
  (θ_run _ _ _).mono (fun r h => ⟨fun c => (h c).2.2, sem_eq_zero_of_no_sems (by decide) r.2⟩) (Cert.Reference10Ideal.Value.run m g)

variable (m : (ℓ : Loc Cert.Kernel10Ideal.nD Cert.Kernel10Ideal.τ Cert.Kernel10Ideal.sig) → Buf (Elt Ideal) ℓ)
  (ρ : Dev Cert.Kernel10Ideal.nD → PrngReg) (c : Dev Cert.Kernel10Ideal.nD)

theorem same_x : lX (gD m c) (gW m c)
    = (W2 m ρ c (Proc.devRef .tc Cert.Kernel10Ideal.main_v0) : FVec Ideal Cert.Kernel10Ideal.S2304x1280 .f32) :=
  by_row fun i d => (lX_at _ _ i d).trans (out_x m ρ c i d).symm
theorem same_w : lW (gU m c) (gD m c)
    = (W2 m ρ c (Proc.devRef .tc Cert.Kernel10Ideal.main_v1) : FVec Ideal Cert.Kernel10Ideal.S640x5120 .f32) :=
  by_row fun a e => (lW_at _ _ a e).trans (out_w m ρ c a e).symm

theorem value : Cert.algebraic_Kernel10Ideal_Reference10Ideal := by
  intro m g m' g' _ hm
  refine ⟨fun c => W2 m g c (Proc.devRef .tc Cert.Kernel10Ideal.main_v0),
    fun c => W2 m g c (Proc.devRef .tc Cert.Kernel10Ideal.main_v1), ?_, ?_⟩
  · refine (θ_run _ _ _).mono (fun r h c => ?_) (Cert.GatesRun.run m g)
    have at_ := fun (b : Ref Cert.Kernel10Ideal.sig .tc) (hb : ¬ (Proc.devRef .tc b : DevRef Cert.Kernel10Ideal.τ Cert.Kernel10Ideal.sig).isScoped) =>
      h.1 c _ (Cert.Kernel10Ideal.Gen.mem_uc b hb)
    exact ⟨at_ Cert.Kernel10Ideal.main_v0 (by decide),
      at_ Cert.Kernel10Ideal.main_v1 (by decide),
      (at_ Cert.Kernel10Ideal.main_arg0 (by decide)).trans (Cert.Kernel10Ideal.Gen.W2_main_arg0 m g c),
      (at_ Cert.Kernel10Ideal.main_arg1 (by decide)).trans (Cert.Kernel10Ideal.Gen.W2_main_arg1 m g c),
      (at_ Cert.Kernel10Ideal.main_arg2 (by decide)).trans (Cert.Kernel10Ideal.Gen.W2_main_arg2 m g c)⟩
  · refine (θ_run _ _ _).mono (fun r h c => ?_) (Cert.Reference10Ideal.Value.run m' g')
    obtain ⟨r0, r1, rest⟩ := h c
    obtain ⟨h0, h1, h2⟩ := hm c
    rw [h1, h2] at r0
    rw [h0, h1] at r1
    exact ⟨r0.trans (same_x m g c), r1.trans (same_w m g c), rest⟩

end Cert.GatesClaim

end
-- ==== Proof.lean ====
/- The claim: each scan's gradient kernel runs, computes on extended reals the gradient of its reference, and so does
   its reference; the same of each layer's MLP, forward and backward, of the gradient of layer 0's convolution, of
   layer 0's norm and projection and of its output projection, each with the gradient of the projection's weights, and of
   layer 1's gated projection, forward and backward, and its second projection with the gradient of the projection's
   weights. -/
module

public import proofs.«01_k».proof.Defs
public import proofs.«01_k».proof.Proof.Gen.Kernel
public import proofs.«01_k».proof.Proof.Gen.Kernel2
public import proofs.«01_k».proof.Proof.Gen.Kernel3.Frame
public import proofs.«01_k».proof.Proof.Gen.Kernel3Ideal.Frame
public import proofs.«01_k».proof.Proof.Gen.Reference3Ideal.Run
public import proofs.«01_k».proof.Proof.FwdClaim
public import proofs.«01_k».proof.Proof.RevClaim
public import proofs.«01_k».proof.Proof.MlpClaim
public import proofs.«01_k».proof.Proof.Mlp1Claim
public import proofs.«01_k».proof.Proof.ConvClaim
public import proofs.«01_k».proof.Proof.PreClaim
public import proofs.«01_k».proof.Proof.GluClaim
public import proofs.«01_k».proof.Proof.GateClaim
public import proofs.«01_k».proof.Proof.SiluClaim
public import proofs.«01_k».proof.Proof.SiluBwdClaim
public import proofs.«01_k».proof.Proof.GatesClaim
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel10Ideal.Frame
public import proofs.«01_k».proof.Proof.Gen.Reference10Ideal.Run

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.ScanPre.facts,
    Cert.FwdClaim.frame_kernel,
    fun m g _ => Cert.FwdRun.frame_post m g,
    fun m g _ => Cert.FwdRun.frame_post m g,
    fun m g _ => Cert.FwdClaim.ref_frame m g,
    fun m g _ => Cert.FwdClaim.ref_frame m g,
    Cert.RevClaim.frame_kernel,
    fun m g _ => Cert.RevRun.frame_post m g,
    fun m g _ => Cert.RevRun.frame_post m g,
    fun m g _ => Cert.RevClaim.ref_frame m g,
    fun m g _ => Cert.RevClaim.ref_frame m g,
    fun m g _ => Cert.Kernel3.Gen.frame m g,
    fun m g _ => Cert.Kernel3Ideal.Gen.frame m g,
    Cert.MlpClaim.frame_ref,
    fun m g _ => Cert.Kernel4.Gen.frame m g,
    fun m g _ => Cert.Kernel4Ideal.Gen.frame m g,
    Cert.Mlp1Claim.frame_ref,
    fun m g _ => Cert.Kernel5.Gen.frame m g,
    fun m g _ => Cert.Kernel5Ideal.Gen.frame m g,
    Cert.ConvClaim.frame_ref,
    fun m g _ => Cert.Kernel6.Gen.frame m g,
    fun m g _ => Cert.Kernel6Ideal.Gen.frame m g,
    Cert.PreClaim.frame_ref,
    fun m g _ => Cert.Kernel7.Gen.frame m g,
    fun m g _ => Cert.Kernel7Ideal.Gen.frame m g,
    Cert.GluClaim.frame_ref,
    fun m g _ => Cert.Kernel8.Gen.frame m g,
    fun m g _ => Cert.Kernel8Ideal.Gen.frame m g,
    Cert.GateClaim.frame_ref,
    fun m g _ => Cert.Kernel9.Gen.frame m g,
    fun m g _ => Cert.Kernel9Ideal.Gen.frame m g,
    Cert.SiluClaim.frame_ref,
    fun m g _ => Cert.Kernel10.Gen.frame m g,
    fun m g _ => Cert.Kernel10Ideal.Gen.frame m g,
    Cert.GatesClaim.frame_ref,
    fun m g _ => Cert.Kernel11.Gen.frame m g,
    fun m g _ => Cert.Kernel11Ideal.Gen.frame m g,
    Cert.SiluBwdClaim.frame_ref,
    trivial, Cert.FwdClaim.value, trivial, Cert.RevClaim.value, trivial, Cert.MlpClaim.value, trivial, Cert.Mlp1Claim.value,
    trivial, Cert.ConvClaim.value, trivial, Cert.PreClaim.value, trivial, Cert.GluClaim.value, trivial, Cert.GateClaim.value,
    trivial, Cert.SiluClaim.value, trivial, Cert.GatesClaim.value,
    trivial, Cert.SiluBwdClaim.value⟩

end Cert.Proof

end
